-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  IdealRules.named_const.Statement Cert.KernelIdeal.κ "att_scale_log2e" .f32 0x3E16C740#32 (((3424635 / 33554432) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_2)) (v1 : (c : Dev Cert.Kernel3Ideal.nD) → Buf (Elt Ideal) ((c.tc : Thread Cert.Kernel3Ideal.nD Cert.Kernel3Ideal.τ).loc Cert.Kernel3Ideal.main_v8_0)) (v2 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_2) = v0 c
          ∧ r.2.mem ((c.tc : Thread Cert.Kernel3Ideal.nD Cert.Kernel3Ideal.τ).loc Cert.Kernel3Ideal.main_v8_0) = v1 c
          ∧ r.2.mem ((c.tc : Thread Cert.Kernel3Ideal.nD Cert.Kernel3Ideal.τ).loc Cert.Kernel3Ideal.main_v8_1) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v13) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_v72) = v3 c
          ∧ r.2.mem ((c.tc : Thread Cert.Reference4Ideal.nD Cert.Reference4Ideal.τ).loc Cert.Reference4Ideal.main_v73) = v4 c
          ∧ r.2.mem ((c.tc : Thread Cert.Reference4Ideal.nD Cert.Reference4Ideal.τ).loc Cert.Reference4Ideal.main_v74) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_v61) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)) (v4 : (c : Dev Cert.Kernel6Ideal.nD) → Buf (Elt Ideal) ((c.tc : Thread Cert.Kernel6Ideal.nD Cert.Kernel6Ideal.τ).loc Cert.Kernel6Ideal.main_v27_4)) (v5 : (c : Dev Cert.Kernel6Ideal.nD) → Buf (Elt Ideal) ((c.tc : Thread Cert.Kernel6Ideal.nD Cert.Kernel6Ideal.τ).loc Cert.Kernel6Ideal.main_v27_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_v27_4) = v4 c
          ∧ r.2.mem ((c.tc : Thread Cert.Kernel6Ideal.nD Cert.Kernel6Ideal.τ).loc Cert.Kernel6Ideal.main_v27_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_v71) = v1 c
          ∧ r.2.mem ((c.tc : Thread Cert.Reference6Ideal.nD Cert.Reference6Ideal.τ).loc Cert.Reference6Ideal.main_v72) = v2 c
          ∧ r.2.mem ((c.tc : Thread Cert.Reference6Ideal.nD Cert.Reference6Ideal.τ).loc Cert.Reference6Ideal.main_v73) = v3 c
          ∧ r.2.mem ((c.tc : Thread Cert.Reference6Ideal.nD Cert.Reference6Ideal.τ).loc Cert.Reference6Ideal.main_v74) = v4 c
          ∧ r.2.mem ((c.tc : Thread Cert.Reference6Ideal.nD Cert.Reference6Ideal.τ).loc Cert.Reference6Ideal.main_v75) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v7) = v1 c
          ∧ r.2.mem ((c.tc : Thread Cert.Reference7Ideal.nD Cert.Reference7Ideal.τ).loc Cert.Reference7Ideal.main_v29) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)) (v4 : (c : Dev Cert.Kernel8Ideal.nD) → Buf (Elt Ideal) ((c.tc : Thread Cert.Kernel8Ideal.nD Cert.Kernel8Ideal.τ).loc Cert.Kernel8Ideal.main_v10)) (v5 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_v10) = v4 c
          ∧ r.2.mem ((c.tc : Thread Cert.Kernel8Ideal.nD Cert.Kernel8Ideal.τ).loc Cert.Kernel8Ideal.main_v11) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v7) = v3 c
          ∧ r.2.mem ((c.tc : Thread Cert.Reference8Ideal.nD Cert.Reference8Ideal.τ).loc Cert.Reference8Ideal.main_v5) = v4 c
          ∧ r.2.mem ((c.tc : Thread Cert.Reference8Ideal.nD Cert.Reference8Ideal.τ).loc Cert.Reference8Ideal.main_v8) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v7_0)) (v1 : (c : Dev Cert.Kernel11Ideal.nD) → Buf (Elt Ideal) ((c.tc : Thread Cert.Kernel11Ideal.nD Cert.Kernel11Ideal.τ).loc Cert.Kernel11Ideal.main_v7_1)) (v2 : (c : Dev Cert.Kernel11Ideal.nD) → Buf (Elt Ideal) ((c.tc : Thread Cert.Kernel11Ideal.nD Cert.Kernel11Ideal.τ).loc Cert.Kernel11Ideal.main_v7_2)) (v3 : (c : Dev Cert.Kernel11Ideal.nD) → Buf (Elt Ideal) ((c.tc : Thread Cert.Kernel11Ideal.nD Cert.Kernel11Ideal.τ).loc Cert.Kernel11Ideal.main_v7_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_0) = v0 c
          ∧ r.2.mem ((c.tc : Thread Cert.Kernel11Ideal.nD Cert.Kernel11Ideal.τ).loc Cert.Kernel11Ideal.main_v7_1) = v1 c
          ∧ r.2.mem ((c.tc : Thread Cert.Kernel11Ideal.nD Cert.Kernel11Ideal.τ).loc Cert.Kernel11Ideal.main_v7_2) = v2 c
          ∧ r.2.mem ((c.tc : Thread Cert.Kernel11Ideal.nD Cert.Kernel11Ideal.τ).loc Cert.Kernel11Ideal.main_v7_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_v20) = v2 c
          ∧ r.2.mem ((c.tc : Thread Cert.Reference11Ideal.nD Cert.Reference11Ideal.τ).loc Cert.Reference11Ideal.main_v42) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v44) = v1 c
          ∧ r.2.mem ((c.tc : Thread Cert.Reference12Ideal.nD Cert.Reference12Ideal.τ).loc Cert.Reference12Ideal.main_v45) = v2 c
          ∧ r.2.mem ((c.tc : Thread Cert.Reference12Ideal.nD Cert.Reference12Ideal.τ).loc Cert.Reference12Ideal.main_v46) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)) (v3 : (c : Dev Cert.Kernel13Ideal.nD) → Buf (Elt Ideal) ((c.tc : Thread Cert.Kernel13Ideal.nD Cert.Kernel13Ideal.τ).loc Cert.Kernel13Ideal.main_v4_3)) (v4 : (c : Dev Cert.Kernel13Ideal.nD) → Buf (Elt Ideal) ((c.tc : Thread Cert.Kernel13Ideal.nD Cert.Kernel13Ideal.τ).loc Cert.Kernel13Ideal.main_v4_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_v4_3) = v3 c
          ∧ r.2.mem ((c.tc : Thread Cert.Kernel13Ideal.nD Cert.Kernel13Ideal.τ).loc Cert.Kernel13Ideal.main_v4_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v66) = v0 c
          ∧ r.2.mem ((c.tc : Thread Cert.Reference13Ideal.nD Cert.Reference13Ideal.τ).loc Cert.Reference13Ideal.main_v57) = v1 c
          ∧ r.2.mem ((c.tc : Thread Cert.Reference13Ideal.nD Cert.Reference13Ideal.τ).loc Cert.Reference13Ideal.main_v67) = v2 c
          ∧ r.2.mem ((c.tc : Thread Cert.Reference13Ideal.nD Cert.Reference13Ideal.τ).loc Cert.Reference13Ideal.main_v68) = v3 c
          ∧ r.2.mem ((c.tc : Thread Cert.Reference13Ideal.nD Cert.Reference13Ideal.τ).loc Cert.Reference13Ideal.main_v69) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x4096x8x128 : Shape := ⟨4, ![2, 4096, 8, 128]⟩
abbrev S_ : Shape := ⟨0, ![]⟩

class Facts : Prop where
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_
  h_S_ : 0 < S_.numel
  bcast_S_S2x4096x8x32 : S_.BroadcastsInDim S2x4096x8x32 (![] : Fin 0 → Fin S2x4096x8x32.rank)
  reducesTo_S2x4096x8x32_S_d0_1_2_3 : S2x4096x8x32.ReducesTo [0, 1, 2, 3] S_
  bcast_S_S2x4096x32 : S_.BroadcastsInDim S2x4096x32 (![] : Fin 0 → Fin S2x4096x32.rank)
  reducesTo_S2x4096x32_S_d0_1_2 : S2x4096x32.ReducesTo [0, 1, 2] S_
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_

variable [Facts]

def fn_part1 {F : FTy → Type} [FloatOps F] (main_arg4 : FVec F S2x4096x8x128 .f32) (main_arg5 : FVec F S2x4096x8x128 .f32) (main_v13 : IVec S_ 1) (main_v16 : IVec S2x4096x32 1) : IVec S_ 1 :=
  let main_c_5 : IVec S_ 1 := constantI S_ 1 1#1
  let main_v17 : IVec S_ 1 := (fun x v => Host.reduce IntOp.andi x v reducesTo_S2x4096x32_S_d0_1_2 h_S_) main_v16 main_c_5
  let main_v18 : IVec S_ 1 := andi main_v13 main_v17
  let main_v19 : FVec F S2x4096x8x128 .f32 := Host.absf main_arg4
  let main_cst_6 : FVec F S_ .f32 := constant S_ .f32 0x7F800000#32
  let main_v20 : FVec F S2x4096x8x128 .f32 := broadcastInDim S2x4096x8x128 ![] bcast_S_S2x4096x8x128 main_cst_6
  let main_v21 : IVec S2x4096x8x128 1 := cmpf .olt main_v19 main_v20
  let main_c_7 : IVec S_ 1 := constantI S_ 1 1#1
  let main_v22 : IVec S_ 1 := (fun x v => Host.reduce IntOp.andi x v reducesTo_S2x4096x8x128_S_d0_1_2_3 h_S_) main_v21 main_c_7
  let main_v23 : IVec S_ 1 := andi main_v18 main_v22
  let main_v24 : FVec F S2x4096x8x128 .f32 := Host.absf main_arg5
  let main_cst_8 : FVec F S_ .f32 := constant S_ .f32 0x7F800000#32
  let main_v25 : FVec F S2x4096x8x128 .f32 := broadcastInDim S2x4096x8x128 ![] bcast_S_S2x4096x8x128 main_cst_8
  let main_v26 : IVec S2x4096x8x128 1 := cmpf .olt main_v24 main_v25
  let main_c_9 : IVec S_ 1 := constantI S_ 1 1#1
  let main_v27 : IVec S_ 1 := (fun x v => Host.reduce IntOp.andi x v reducesTo_S2x4096x8x128_S_d0_1_2_3 h_S_) main_v26 main_c_9
  let main_v28 : IVec S_ 1 := andi main_v23 main_v27
  main_v28

def fn {F : FTy → Type} [FloatOps F] (main_arg0 : FVec F S2x4096x8x64 .f32) (main_arg1 : FVec F S2x4096x8x32 .f32) (main_arg2 : FVec F S2x4096x8x64 .f32) (main_arg3 : FVec F S2x4096x32 .f32) (main_arg4 : FVec F S2x4096x8x128 .f32) (main_arg5 : FVec F S2x4096x8x128 .f32) : IVec S_ 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_c : IVec S_ 1 := constantI S_ 1 1#1
  let main_v3 : IVec S_ 1 := (fun x v => Host.reduce IntOp.andi x v reducesTo_S2x4096x8x64_S_d0_1_2_3 h_S_) main_v2 main_c
  let main_v4 : FVec F S2x4096x8x32 .f32 := Host.absf main_arg1
  let main_cst_0 : FVec F S_ .f32 := constant S_ .f32 0x7F800000#32
  let main_v5 : FVec F S2x4096x8x32 .f32 := broadcastInDim S2x4096x8x32 ![] bcast_S_S2x4096x8x32 main_cst_0
  let main_v6 : IVec S2x4096x8x32 1 := cmpf .olt main_v4 main_v5
  let main_c_1 : IVec S_ 1 := constantI S_ 1 1#1
  let main_v7 : IVec S_ 1 := (fun x v => Host.reduce IntOp.andi x v reducesTo_S2x4096x8x32_S_d0_1_2_3 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  let main_v14 : FVec F S2x4096x32 .f32 := Host.absf main_arg3
  let main_cst_4 : FVec F S_ .f32 := constant S_ .f32 0x7F800000#32
  let main_v15 : FVec F S2x4096x32 .f32 := broadcastInDim S2x4096x32 ![] bcast_S_S2x4096x32 main_cst_4
  let main_v16 : IVec S2x4096x32 1 := cmpf .olt main_v14 main_v15
  fn_part1 (F := F) main_arg4 main_arg5 main_v13 main_v16
-- ==== Pre_finite12.lean ====
abbrev S2x4096x1024 : Shape := ⟨3, ![2, 4096, 1024]⟩
abbrev S1024 : Shape := ⟨1, ![1024]⟩
abbrev S2048x1024 : Shape := ⟨2, ![2048, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2x4096x1024 1) : IVec S_ 1 :=
  let main_c_5 : IVec S_ 1 := constantI S_ 1 1#1
  let main_v17 : IVec S_ 1 := (fun x v => Host.reduce IntOp.andi x v reducesTo_S2x4096x1024_S_d0_1_2 h_S_) main_v16 main_c_5
  let main_v18 : IVec S_ 1 := andi main_v13 main_v17
  main_v18

def fn {F : FTy → Type} [FloatOps F] (main_arg0 : FVec F S2x4096x1024 .f32) (main_arg1 : FVec F S2x4096x1024 .f32) (main_arg2 : FVec F S1024 .f32) (main_arg3 : FVec F S2048x1024 .f32) (main_arg4 : FVec F S2x4096x1024 .f32) : IVec S_ 1 :=
  let main_v0 : FVec F S2x4096x1024 .f32 := Host.absf main_arg1
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2x4096x1024 .f32 := Host.absf main_arg4
  let main_cst_4 : FVec F S_ .f32 := constant S_ .f32 0x7F800000#32
  let main_v15 : FVec F S2x4096x1024 .f32 := broadcastInDim S2x4096x1024 ![] bcast_S_S2x4096x1024 main_cst_4
  let main_v16 : IVec S2x4096x1024 1 := cmpf .olt main_v14 main_v15
  fn_part1 (F := F) main_v13 main_v16
-- ==== Pre_finite13.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S1024 : Shape := ⟨1, ![1024]⟩
abbrev S_ : Shape := ⟨0, ![]⟩

class Facts : Prop where
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S2x4096x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2x4096x1024 .f32 := Host.absf main_arg5
  let main_cst_8 : FVec F S_ .f32 := constant S_ .f32 0x7F800000#32
  let main_v25 : FVec F S2x4096x1024 .f32 := broadcastInDim S2x4096x1024 ![] bcast_S_S2x4096x1024 main_cst_8
  let main_v26 : IVec S2x4096x1024 1 := cmpf .olt main_v24 main_v25
  let main_c_9 : IVec S_ 1 := constantI S_ 1 1#1
  let main_v27 : IVec S_ 1 := (fun x v => Host.reduce IntOp.andi x v reducesTo_S2x4096x1024_S_d0_1_2 h_S_) main_v26 main_c_9
  let main_v28 : IVec S_ 1 := andi main_v23 main_v27
  main_v28

def fn {F : FTy → Type} [FloatOps F] (main_arg0 : FVec F S2x4096x2816 .f32) (main_arg1 : FVec F S2816x1024 .f32) (main_arg2 : FVec F S2x4096x1024 .f32) (main_arg3 : FVec F S2x1024 .f32) (main_arg4 : FVec F S1024 .f32) (main_arg5 : FVec F S2x4096x1024 .f32) : IVec S_ 1 :=
  let main_v0 : FVec F S2x4096x2816 .f32 := Host.absf main_arg0
  let main_cst : FVec F S_ .f32 := constant S_ .f32 0x7F800000#32
  let main_v1 : FVec F S2x4096x2816 .f32 := broadcastInDim S2x4096x2816 ![] bcast_S_S2x4096x2816 main_cst
  let main_v2 : IVec S2x4096x2816 1 := cmpf .olt main_v0 main_v1
  let main_c : IVec S_ 1 := constantI S_ 1 1#1
  let main_v3 : IVec S_ 1 := (fun x v => Host.reduce IntOp.andi x v reducesTo_S2x4096x2816_S_d0_1_2 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_v13 main_v16
-- ==== Pre_finite3.lean ====
abbrev S2x4096x1024 : Shape := ⟨3, ![2, 4096, 1024]⟩
abbrev S1024x2816 : Shape := ⟨2, ![1024, 2816]⟩
abbrev S2816x1024 : Shape := ⟨2, ![2816, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2x4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2x4096x1024 .f32 := Host.absf main_arg4
  let main_cst_6 : FVec F S_ .f32 := constant S_ .f32 0x7F800000#32
  let main_v20 : FVec F S2x4096x1024 .f32 := broadcastInDim S2x4096x1024 ![] bcast_S_S2x4096x1024 main_cst_6
  let main_v21 : IVec S2x4096x1024 1 := cmpf .olt main_v19 main_v20
  let main_c_7 : IVec S_ 1 := constantI S_ 1 1#1
  let main_v22 : IVec S_ 1 := (fun x v => Host.reduce IntOp.andi x v reducesTo_S2x4096x1024_S_d0_1_2 h_S_) main_v21 main_c_7
  let main_v23 : IVec S_ 1 := andi main_v18 main_v22
  main_v23

def fn {F : FTy → Type} [FloatOps F] (main_arg0 : FVec F S2x4096x1024 .f32) (main_arg1 : FVec F S1024x2816 .f32) (main_arg2 : FVec F S1024x2816 .f32) (main_arg3 : FVec F S2816x1024 .f32) (main_arg4 : FVec F S2x4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite4.lean ====
abbrev S2x4096x1024 : Shape := ⟨3, ![2, 4096, 1024]⟩
abbrev S2x1024 : Shape := ⟨2, ![2, 1024]⟩
abbrev S1024 : Shape := ⟨1, ![1024]⟩
abbrev S1024x2816 : Shape := ⟨2, ![1024, 2816]⟩
abbrev S2x4096x2816 : Shape := ⟨3, ![2, 4096, 2816]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn_part3 {F : FTy → Type} [FloatOps F] (main_v48 : IVec S_ 1) (main_v49 : FVec F S2x4096x2816 .f32) (main_v50 : FVec F S2x4096x2816 .f32) : IVec S_ 1 :=
  let main_v51 : IVec S2x4096x2816 1 := cmpf .olt main_v49 main_v50
  let main_c_19 : IVec S_ 1 := constantI S_ 1 1#1
  let main_v52 : IVec S_ 1 := (fun x v => Host.reduce IntOp.andi x v reducesTo_S2x4096x2816_S_d0_1_2 h_S_) main_v51 main_c_19
  let main_v53 : IVec S_ 1 := andi main_v48 main_v52
  main_v53

def fn_part2 {F : FTy → Type} [FloatOps F] (main_arg7 : FVec F S1024x2816 .f32) (main_arg8 : FVec F S2x4096x1024 .f32) (main_arg9 : FVec F S2x4096x2816 .f32) (main_arg10 : FVec F S2x4096x2816 .f32) (main_v33 : IVec S_ 1) : IVec S_ 1 :=
  let main_v34 : FVec F S1024x2816 .f32 := Host.absf main_arg7
  let main_cst_12 : FVec F S_ .f32 := constant S_ .f32 0x7F800000#32
  let main_v35 : FVec F S1024x2816 .f32 := broadcastInDim S1024x2816 ![] bcast_S_S1024x2816 main_cst_12
  let main_v36 : IVec S1024x2816 1 := cmpf .olt main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S2x4096x1024 .f32 := Host.absf main_arg8
  let main_cst_14 : FVec F S_ .f32 := constant S_ .f32 0x7F800000#32
  let main_v40 : FVec F S2x4096x1024 .f32 := broadcastInDim S2x4096x1024 ![] bcast_S_S2x4096x1024 main_cst_14
  let main_v41 : IVec S2x4096x1024 1 := cmpf .olt main_v39 main_v40
  let main_c_15 : IVec S_ 1 := constantI S_ 1 1#1
  let main_v42 : IVec S_ 1 := (fun x v => Host.reduce IntOp.andi x v reducesTo_S2x4096x1024_S_d0_1_2 h_S_) main_v41 main_c_15
  let main_v43 : IVec S_ 1 := andi main_v38 main_v42
  let main_v44 : FVec F S2x4096x2816 .f32 := Host.absf main_arg9
  let main_cst_16 : FVec F S_ .f32 := constant S_ .f32 0x7F800000#32
  let main_v45 : FVec F S2x4096x2816 .f32 := broadcastInDim S2x4096x2816 ![] bcast_S_S2x4096x2816 main_cst_16
  let main_v46 : IVec S2x4096x2816 1 := cmpf .olt main_v44 main_v45
  let main_c_17 : IVec S_ 1 := constantI S_ 1 1#1
  let main_v47 : IVec S_ 1 := (fun x v => Host.reduce IntOp.andi x v reducesTo_S2x4096x2816_S_d0_1_2 h_S_) main_v46 main_c_17
  let main_v48 : IVec S_ 1 := andi main_v43 main_v47
  let main_v49 : FVec F S2x4096x2816 .f32 := Host.absf main_arg10
  let main_cst_18 : FVec F S_ .f32 := constant S_ .f32 0x7F800000#32
  let main_v50 : FVec F S2x4096x2816 .f32 := broadcastInDim S2x4096x2816 ![] bcast_S_S2x4096x2816 main_cst_18
  fn_part3 (F := F) main_v48 main_v49 main_v50

def fn_part1 {F : FTy → Type} [FloatOps F] (main_arg4 : FVec F S2x1024 .f32) (main_arg5 : FVec F S2x1024 .f32) (main_arg6 : FVec F S1024x2816 .f32) (main_arg7 : FVec F S1024x2816 .f32) (main_arg8 : FVec F S2x4096x1024 .f32) (main_arg9 : FVec F S2x4096x2816 .f32) (main_arg10 : FVec F S2x4096x2816 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2x1024 .f32 := Host.absf main_arg4
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S1024x2816 .f32 := Host.absf main_arg6
  let main_cst_10 : FVec F S_ .f32 := constant S_ .f32 0x7F800000#32
  let main_v30 : FVec F S1024x2816 .f32 := broadcastInDim S1024x2816 ![] bcast_S_S1024x2816 main_cst_10
  let main_v31 : IVec S1024x2816 1 := cmpf .olt main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2x4096x1024 .f32) (main_arg1 : FVec F S2x4096x1024 .f32) (main_arg2 : FVec F S2x1024 .f32) (main_arg3 : FVec F S1024 .f32) (main_arg4 : FVec F S2x1024 .f32) (main_arg5 : FVec F S2x1024 .f32) (main_arg6 : FVec F S1024x2816 .f32) (main_arg7 : FVec F S1024x2816 .f32) (main_arg8 : FVec F S2x4096x1024 .f32) (main_arg9 : FVec F S2x4096x2816 .f32) (main_arg10 : FVec F S2x4096x2816 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Pre_finite5.lean ====
abbrev S2x4096x1024 : Shape := ⟨3, ![2, 4096, 1024]⟩
abbrev S1024 : Shape := ⟨1, ![1024]⟩
abbrev S2x1024 : Shape := ⟨2, ![2, 1024]⟩
abbrev S1024x2816 : Shape := ⟨2, ![1024, 2816]⟩
abbrev S2x4096x2816 : Shape := ⟨3, ![2, 4096, 2816]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2x4096x2816 : S_.BroadcastsInDim S2x4096x2816 (![] : Fin 0 → Fin S2x4096x2816.rank)
  reducesTo_S2x4096x2816_S_d0_1_2 : S2x4096x2816.ReducesTo [0, 1, 2] S_

variable [Facts]

def fn_part2 {F : FTy → Type} [FloatOps F] (main_arg7 : FVec F S2x4096x2816 .f32) (main_arg8 : FVec F S2x4096x2816 .f32) (main_v33 : IVec S_ 1) : IVec S_ 1 :=
  let main_v34 : FVec F S2x4096x2816 .f32 := Host.absf main_arg7
  let main_cst_12 : FVec F S_ .f32 := constant S_ .f32 0x7F800000#32
  let main_v35 : FVec F S2x4096x2816 .f32 := broadcastInDim S2x4096x2816 ![] bcast_S_S2x4096x2816 main_cst_12
  let main_v36 : IVec S2x4096x2816 1 := cmpf .olt main_v34 main_v35
  let main_c_13 : IVec S_ 1 := constantI S_ 1 1#1
  let main_v37 : IVec S_ 1 := (fun x v => Host.reduce IntOp.andi x v reducesTo_S2x4096x2816_S_d0_1_2 h_S_) main_v36 main_c_13
  let main_v38 : IVec S_ 1 := andi main_v33 main_v37
  let main_v39 : FVec F S2x4096x2816 .f32 := Host.absf main_arg8
  let main_cst_14 : FVec F S_ .f32 := constant S_ .f32 0x7F800000#32
  let main_v40 : FVec F S2x4096x2816 .f32 := broadcastInDim S2x4096x2816 ![] bcast_S_S2x4096x2816 main_cst_14
  let main_v41 : IVec S2x4096x2816 1 := cmpf .olt main_v39 main_v40
  let main_c_15 : IVec S_ 1 := constantI S_ 1 1#1
  let main_v42 : IVec S_ 1 := (fun x v => Host.reduce IntOp.andi x v reducesTo_S2x4096x2816_S_d0_1_2 h_S_) main_v41 main_c_15
  let main_v43 : IVec S_ 1 := andi main_v38 main_v42
  main_v43

def fn_part1 {F : FTy → Type} [FloatOps F] (main_arg4 : FVec F S1024x2816 .f32) (main_arg5 : FVec F S1024x2816 .f32) (main_arg6 : FVec F S2x4096x1024 .f32) (main_arg7 : FVec F S2x4096x2816 .f32) (main_arg8 : FVec F S2x4096x2816 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2x4096x1024 .f32 := Host.absf main_arg6
  let main_cst_10 : FVec F S_ .f32 := constant S_ .f32 0x7F800000#32
  let main_v30 : FVec F S2x4096x1024 .f32 := broadcastInDim S2x4096x1024 ![] bcast_S_S2x4096x1024 main_cst_10
  let main_v31 : IVec S2x4096x1024 1 := cmpf .olt main_v29 main_v30
  let main_c_11 : IVec S_ 1 := constantI S_ 1 1#1
  let main_v32 : IVec S_ 1 := (fun x v => Host.reduce IntOp.andi x v reducesTo_S2x4096x1024_S_d0_1_2 h_S_) main_v31 main_c_11
  let main_v33 : IVec S_ 1 := andi main_v28 main_v32
  fn_part2 (F := F) main_arg7 main_arg8 main_v33

def fn {F : FTy → Type} [FloatOps F] (main_arg0 : FVec F S2x4096x1024 .f32) (main_arg1 : FVec F S1024 .f32) (main_arg2 : FVec F S2x1024 .f32) (main_arg3 : FVec F S2x1024 .f32) (main_arg4 : FVec F S1024x2816 .f32) (main_arg5 : FVec F S1024x2816 .f32) (main_arg6 : FVec F S2x4096x1024 .f32) (main_arg7 : FVec F S2x4096x2816 .f32) (main_arg8 : FVec F S2x4096x2816 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_arg6 main_arg7 main_arg8 main_v13 main_v16
-- ==== Pre_finite6.lean ====
abbrev S2x4096x1024 : Shape := ⟨3, ![2, 4096, 1024]⟩
abbrev S2x1024 : Shape := ⟨2, ![2, 1024]⟩
abbrev S1024 : Shape := ⟨1, ![1024]⟩
abbrev S1024x3248 : Shape := ⟨2, ![1024, 3248]⟩
abbrev S2x4096x3248 : Shape := ⟨3, ![2, 4096, 3248]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S1024x3248 : S_.BroadcastsInDim S1024x3248 (![] : Fin 0 → Fin S1024x3248.rank)
  reducesTo_S1024x3248_S_d0_1 : S1024x3248.ReducesTo [0, 1] S_
  bcast_S_S2x4096x3248 : S_.BroadcastsInDim S2x4096x3248 (![] : Fin 0 → Fin S2x4096x3248.rank)
  reducesTo_S2x4096x3248_S_d0_1_2 : S2x4096x3248.ReducesTo [0, 1, 2] S_

variable [Facts]

def fn_part2 {F : FTy → Type} [FloatOps F] (main_arg7 : FVec F S2x4096x1024 .f32) (main_arg8 : FVec F S2x4096x3248 .f32) (main_v33 : IVec S_ 1) : IVec S_ 1 :=
  let main_v34 : FVec F S2x4096x1024 .f32 := Host.absf main_arg7
  let main_cst_12 : FVec F S_ .f32 := constant S_ .f32 0x7F800000#32
  let main_v35 : FVec F S2x4096x1024 .f32 := broadcastInDim S2x4096x1024 ![] bcast_S_S2x4096x1024 main_cst_12
  let main_v36 : IVec S2x4096x1024 1 := cmpf .olt main_v34 main_v35
  let main_c_13 : IVec S_ 1 := constantI S_ 1 1#1
  let main_v37 : IVec S_ 1 := (fun x v => Host.reduce IntOp.andi x v reducesTo_S2x4096x1024_S_d0_1_2 h_S_) main_v36 main_c_13
  let main_v38 : IVec S_ 1 := andi main_v33 main_v37
  let main_v39 : FVec F S2x4096x3248 .f32 := Host.absf main_arg8
  let main_cst_14 : FVec F S_ .f32 := constant S_ .f32 0x7F800000#32
  let main_v40 : FVec F S2x4096x3248 .f32 := broadcastInDim S2x4096x3248 ![] bcast_S_S2x4096x3248 main_cst_14
  let main_v41 : IVec S2x4096x3248 1 := cmpf .olt main_v39 main_v40
  let main_c_15 : IVec S_ 1 := constantI S_ 1 1#1
  let main_v42 : IVec S_ 1 := (fun x v => Host.reduce IntOp.andi x v reducesTo_S2x4096x3248_S_d0_1_2 h_S_) main_v41 main_c_15
  let main_v43 : IVec S_ 1 := andi main_v38 main_v42
  main_v43

def fn_part1 {F : FTy → Type} [FloatOps F] (main_arg4 : FVec F S2x1024 .f32) (main_arg5 : FVec F S2x1024 .f32) (main_arg6 : FVec F S1024x3248 .f32) (main_arg7 : FVec F S2x4096x1024 .f32) (main_arg8 : FVec F S2x4096x3248 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2x1024 .f32 := Host.absf main_arg4
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S1024x3248 .f32 := Host.absf main_arg6
  let main_cst_10 : FVec F S_ .f32 := constant S_ .f32 0x7F800000#32
  let main_v30 : FVec F S1024x3248 .f32 := broadcastInDim S1024x3248 ![] bcast_S_S1024x3248 main_cst_10
  let main_v31 : IVec S1024x3248 1 := cmpf .olt main_v29 main_v30
  let main_c_11 : IVec S_ 1 := constantI S_ 1 1#1
  let main_v32 : IVec S_ 1 := (fun x v => Host.reduce IntOp.andi x v reducesTo_S1024x3248_S_d0_1 h_S_) main_v31 main_c_11
  let main_v33 : IVec S_ 1 := andi main_v28 main_v32
  fn_part2 (F := F) main_arg7 main_arg8 main_v33

def fn {F : FTy → Type} [FloatOps F] (main_arg0 : FVec F S2x4096x1024 .f32) (main_arg1 : FVec F S2x4096x1024 .f32) (main_arg2 : FVec F S2x1024 .f32) (main_arg3 : FVec F S1024 .f32) (main_arg4 : FVec F S2x1024 .f32) (main_arg5 : FVec F S2x1024 .f32) (main_arg6 : FVec F S1024x3248 .f32) (main_arg7 : FVec F S2x4096x1024 .f32) (main_arg8 : FVec F S2x4096x3248 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x4096x8x128 : Shape := ⟨4, ![2, 4096, 8, 128]⟩
abbrev S2x8x4096x4096 : Shape := ⟨4, ![2, 8, 4096, 4096]⟩
abbrev S2x4096x4096x8 : Shape := ⟨4, ![2, 4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x8x1x512 : Shape := ⟨5, ![2, 8, 8, 1, 512]⟩
abbrev S2x8x128x4096 : Shape := ⟨4, ![2, 8, 128, 4096]⟩
abbrev S2x4096x8 : Shape := ⟨3, ![2, 4096, 8]⟩
abbrev S2x4096x1x32 : Shape := ⟨4, ![2, 4096, 1, 32]⟩
abbrev S2x4096x1024 : Shape := ⟨3, ![2, 4096, 1024]⟩
abbrev S1x4096x256 : Shape := ⟨3, ![1, 4096, 256]⟩
abbrev S1x2x8x1x512 : Shape := ⟨5, ![1, 2, 8, 1, 512]⟩
abbrev S4096x256 : Shape := ⟨2, ![4096, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256x256 : Shape := ⟨2, ![256, 256]⟩
abbrev S1x1x1x1x512 : Shape := ⟨5, ![1, 1, 1, 1, 512]⟩
abbrev S1x512 : Shape := ⟨2, ![1, 512]⟩
abbrev S1x256 : Shape := ⟨2, ![1, 256]⟩

abbrev nBuf : Space → Nat
  | .hbm => 63
  | .vmem => 21
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x32, .f32⟩
  | .hbm, ⟨4, _⟩ => ⟨S2x4096x8x128, .f32⟩
  | .hbm, ⟨5, _⟩ => ⟨S2x4096x8x128, .f32⟩
  | .hbm, ⟨6, _⟩ => ⟨S2x8x4096x4096, .f32⟩
  | .hbm, ⟨7, _⟩ => ⟨S2x4096x4096x8, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S_, .f32⟩
  | .hbm, ⟨26, _⟩ => ⟨S2x8x4096, .f32⟩
  | .hbm, ⟨27, _⟩ => ⟨S2x8x4096x1, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S2x8x4096, .f32⟩
  | .hbm, ⟨33, _⟩ => ⟨S2x8x4096x1, .f32⟩
  | .hbm, ⟨34, _⟩ => ⟨S2x8x4096x1, .f32⟩
  | .hbm, ⟨35, _⟩ => ⟨S2x8x4096x1, .f32⟩
  | .hbm, ⟨36, _⟩ => ⟨S2x8x8x1x512, .f32⟩
  | .hbm, ⟨37, _⟩ => ⟨S2x8x4096x4096, .f32⟩
  | .hbm, ⟨38, _⟩ => ⟨S2x8x4096x4096, .f32⟩
  | .hbm, ⟨39, _⟩ => ⟨S2x8x128x4096, .f32⟩
  | .hbm, ⟨40, _⟩ => ⟨S2x4096x8x128, .f32⟩
  | .hbm, ⟨41, _⟩ => ⟨S2x4096x8x128, .f32⟩
  | .hbm, ⟨42, _⟩ => ⟨S_, .f32⟩
  | .hbm, ⟨43, _⟩ => ⟨S2x4096x8, .f32⟩
  | .hbm, ⟨44, _⟩ => ⟨S2x8x4096, .f32⟩
  | .hbm, ⟨45, _⟩ => ⟨S_, .f32⟩
  | .hbm, ⟨46, _⟩ => ⟨S2x4096x8x32, .f32⟩
  | .hbm, ⟨47, _⟩ => ⟨S2x4096x1x32, .f32⟩
  | .hbm, ⟨48, _⟩ => ⟨S2x4096x8x32, .f32⟩
  | .hbm, ⟨49, _⟩ => ⟨S2x4096x8x128, .f32⟩
  | .hbm, ⟨50, _⟩ => ⟨S2x4096x1024, .f32⟩
  | .hbm, ⟨51, _⟩ => ⟨S2x4096x1024, .bf16⟩
  | .hbm, ⟨52, _⟩ => ⟨S2x4096x8x128, .f32⟩
  | .hbm, ⟨53, _⟩ => ⟨S2x4096x1024, .f32⟩
  | .hbm, ⟨54, _⟩ => ⟨S2x4096x1024, .bf16⟩
  | .hbm, ⟨55, _⟩ => ⟨S2x4096x1024, .f32⟩
  | .hbm, ⟨56, _⟩ => ⟨S2x4096x1024, .bf16⟩
  | .hbm, ⟨57, _⟩ => ⟨S2x4096x1024, .f32⟩
  | .hbm, ⟨58, _⟩ => ⟨S2x4096x1024, .bf16⟩
  | .hbm, ⟨59, _⟩ => ⟨S2x8x8x1x512, .f32⟩
  | .hbm, ⟨60, _⟩ => ⟨S2x4096x1024, .bf16⟩
  | .hbm, ⟨61, _⟩ => ⟨S2x4096x1024, .bf16⟩
  | .hbm, ⟨62, _⟩ => ⟨S2x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x2x8x1x512, .f32⟩
  | .local _ .vmem, ⟨9, _⟩ => ⟨S1x2x8x1x512, .f32⟩
  | .local _ .vmem, ⟨10, _⟩ => ⟨S1x2x8x1x512, .f32⟩
  | .local _ .vmem, ⟨11, _⟩ => ⟨S1x2x8x1x512, .f32⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S1x4096x256, .bf16⟩
  | .local _ .vmem, ⟨16, _⟩ => ⟨S1x4096x256, .bf16⟩
  | .local _ .vmem, ⟨17, _⟩ => ⟨S1x4096x256, .bf16⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v45_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32 : BitVec 32 := 512#32
  let v32 : BitVec 32 := Scalar.muli arg14 c512_i32
  let c0_i32_25 : BitVec 32 := 0#32
  let v33 : BitVec 32 := Scalar.addi v32 c0_i32_25
  v33
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_26 : BitVec 32 := 512#32
  let v35 : BitVec 32 := Scalar.muli arg14 c512_i32_26
  let c0_i32_27 : BitVec 32 := 0#32
  let v36 : BitVec 32 := Scalar.addi v35 c0_i32_27
  v36
def k0_off1 (k0_t1 : Fin k0_t1_loop.trips) (c0_i32_25 : BitVec 32) : Fin 3 → Nat :=
  let c0_28 : Index := 0#32
  let c0_i32 : BitVec 32 := 0#32
  let c1_i32 : BitVec 32 := 1#32
  let arg14 : BitVec 32 := Scf.iv c0_i32 c1_i32 k0_t1
  let c512_i32 : BitVec 32 := 512#32
  let v32 : BitVec 32 := Scalar.muli arg14 c512_i32
  let v33 : BitVec 32 := Scalar.addi v32 c0_i32_25
  let v34 : BitVec 32 := v33
  let v38 : Index := Scalar.indexCast v34
  let c0_29 : Index := 0#32
  ![0, v38.toNat, 0]
def k0_off2 (k0_t1 : Fin k0_t1_loop.trips) : Fin 3 → Nat :=
  let c0_30 : Index := 0#32
  let c0_i32 : BitVec 32 := 0#32
  let c1_i32 : BitVec 32 := 1#32
  let arg14 : BitVec 32 := Scf.iv c0_i32 c1_i32 k0_t1
  let c512_i32_26 : BitVec 32 := 512#32
  let v35 : BitVec 32 := Scalar.muli arg14 c512_i32_26
  let c0_i32_27 : BitVec 32 := 0#32
  let v36 : BitVec 32 := Scalar.addi v35 c0_i32_27
  let v37 : BitVec 32 := v36
  let v41 : Index := Scalar.indexCast v37
  let c0_31 : Index := 0#32
  ![0, v41.toNat, 0]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_41 : BitVec 32 := 512#32
  let v61 : BitVec 32 := Scalar.muli arg14 c512_i32_41
  let c256_i32 : BitVec 32 := 256#32
  let v62 : BitVec 32 := Scalar.addi v61 c256_i32
  v62
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_42 : BitVec 32 := 512#32
  let v64 : BitVec 32 := Scalar.muli arg14 c512_i32_42
  let c256_i32_43 : BitVec 32 := 256#32
  let v65 : BitVec 32 := Scalar.addi v64 c256_i32_43
  v65
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_57 : BitVec 32 := 512#32
  let v90 : BitVec 32 := Scalar.muli arg14 c512_i32_57
  let c0_i32_58 : BitVec 32 := 0#32
  let v91 : BitVec 32 := Scalar.addi v90 c0_i32_58
  v91
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_59 : BitVec 32 := 512#32
  let v93 : BitVec 32 := Scalar.muli arg14 c512_i32_59
  let c0_i32_60 : BitVec 32 := 0#32
  let v94 : BitVec 32 := Scalar.addi v93 c0_i32_60
  v94
def k0_off3 (k0_t1 : Fin k0_t1_loop.trips) (c0_i32_58 : BitVec 32) : Fin 3 → Nat :=
  let c0_61 : Index := 0#32
  let c0_i32 : BitVec 32 := 0#32
  let c1_i32 : BitVec 32 := 1#32
  let arg14 : BitVec 32 := Scf.iv c0_i32 c1_i32 k0_t1
  let c512_i32_57 : BitVec 32 := 512#32
  let v90 : BitVec 32 := Scalar.muli arg14 c512_i32_57
  let v91 : BitVec 32 := Scalar.addi v90 c0_i32_58
  let v92 : BitVec 32 := v91
  let v96 : Index := Scalar.indexCast v92
  let c128 : Index := 128#32
  ![0, v96.toNat, 128]
def k0_off4 (k0_t1 : Fin k0_t1_loop.trips) : Fin 3 → Nat :=
  let c0_62 : Index := 0#32
  let c0_i32 : BitVec 32 := 0#32
  let c1_i32 : BitVec 32 := 1#32
  let arg14 : BitVec 32 := Scf.iv c0_i32 c1_i32 k0_t1
  let c512_i32_59 : BitVec 32 := 512#32
  let v93 : BitVec 32 := Scalar.muli arg14 c512_i32_59
  let c0_i32_60 : BitVec 32 := 0#32
  let v94 : BitVec 32 := Scalar.addi v93 c0_i32_60
  let v95 : BitVec 32 := v94
  let v99 : Index := Scalar.indexCast v95
  let c128_63 : Index := 128#32
  ![0, v99.toNat, 128]
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_73 : BitVec 32 := 512#32
  let v119 : BitVec 32 := Scalar.muli arg14 c512_i32_73
  let c256_i32_74 : BitVec 32 := 256#32
  let v120 : BitVec 32 := Scalar.addi v119 c256_i32_74
  v120
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_75 : BitVec 32 := 512#32
  let v122 : BitVec 32 := Scalar.muli arg14 c512_i32_75
  let c256_i32_76 : BitVec 32 := 256#32
  let v123 : BitVec 32 := Scalar.addi v122 c256_i32_76
  v123
def k0_off5 (k0_t1 : Fin k0_t1_loop.trips) : Fin 5 → Nat :=
  let c0_91 : Index := 0#32
  let c0_92 : Index := 0#32
  let c0_i32 : BitVec 32 := 0#32
  let c1_i32 : BitVec 32 := 1#32
  let arg14 : BitVec 32 := Scf.iv c0_i32 c1_i32 k0_t1
  let v150 : Index := Scalar.indexCast arg14
  let c0_93 : Index := 0#32
  let c0_94 : Index := 0#32
  ![0, 0, v150.toNat, 0, 0]
def k0_off6 (k0_t1 : Fin k0_t1_loop.trips) : Fin 5 → Nat :=
  let c0_111 : Index := 0#32
  let c1 : Index := 1#32
  let c0_i32 : BitVec 32 := 0#32
  let c1_i32 : BitVec 32 := 1#32
  let arg14 : BitVec 32 := Scf.iv c0_i32 c1_i32 k0_t1
  let v188 : Index := Scalar.indexCast arg14
  let c0_112 : Index := 0#32
  let c0_113 : Index := 0#32
  ![0, 1, v188.toNat, 0, 0]
def k0_mult9 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_129 : BitVec 32 := 512#32
  let v224 : BitVec 32 := Scalar.muli arg14 c512_i32_129
  let c0_i32_130 : BitVec 32 := 0#32
  let v225 : BitVec 32 := Scalar.addi v224 c0_i32_130
  v225
def k0_mult10 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_131 : BitVec 32 := 512#32
  let v227 : BitVec 32 := Scalar.muli arg14 c512_i32_131
  let c0_i32_132 : BitVec 32 := 0#32
  let v228 : BitVec 32 := Scalar.addi v227 c0_i32_132
  v228
def k0_off7 (k0_t1 : Fin k0_t1_loop.trips) (c0_i32_130 : BitVec 32) : Fin 2 → Nat :=
  let c0_i32 : BitVec 32 := 0#32
  let c1_i32 : BitVec 32 := 1#32
  let arg14 : BitVec 32 := Scf.iv c0_i32 c1_i32 k0_t1
  let c512_i32_129 : BitVec 32 := 512#32
  let v224 : BitVec 32 := Scalar.muli arg14 c512_i32_129
  let v225 : BitVec 32 := Scalar.addi v224 c0_i32_130
  let v226 : BitVec 32 := v225
  let v230 : Index := Scalar.indexCast v226
  let c0_133 : Index := 0#32
  ![v230.toNat, 0]
def k0_off8 (k0_t1 : Fin k0_t1_loop.trips) : Fin 2 → Nat :=
  let c0_i32 : BitVec 32 := 0#32
  let c1_i32 : BitVec 32 := 1#32
  let arg14 : BitVec 32 := Scf.iv c0_i32 c1_i32 k0_t1
  let c512_i32_131 : BitVec 32 := 512#32
  let v227 : BitVec 32 := Scalar.muli arg14 c512_i32_131
  let c0_i32_132 : BitVec 32 := 0#32
  let v228 : BitVec 32 := Scalar.addi v227 c0_i32_132
  let v229 : BitVec 32 := v228
  let v252 : Index := Scalar.indexCast v229
  let c0_143 : Index := 0#32
  ![v252.toNat, 0]
def k0_mult11 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_148 : BitVec 32 := 512#32
  let v263 : BitVec 32 := Scalar.muli arg14 c512_i32_148
  let c256_i32_149 : BitVec 32 := 256#32
  let v264 : BitVec 32 := Scalar.addi v263 c256_i32_149
  v264
def k0_mult12 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_150 : BitVec 32 := 512#32
  let v266 : BitVec 32 := Scalar.muli arg14 c512_i32_150
  let c256_i32_151 : BitVec 32 := 256#32
  let v267 : BitVec 32 := Scalar.addi v266 c256_i32_151
  v267
def k0_mult13 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_167 : BitVec 32 := 512#32
  let v302 : BitVec 32 := Scalar.muli arg14 c512_i32_167
  let c0_i32_168 : BitVec 32 := 0#32
  let v303 : BitVec 32 := Scalar.addi v302 c0_i32_168
  v303
def k0_mult14 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_169 : BitVec 32 := 512#32
  let v305 : BitVec 32 := Scalar.muli arg14 c512_i32_169
  let c0_i32_170 : BitVec 32 := 0#32
  let v306 : BitVec 32 := Scalar.addi v305 c0_i32_170
  v306
def k0_off9 (k0_t1 : Fin k0_t1_loop.trips) (c0_i32_168 : BitVec 32) : Fin 2 → Nat :=
  let c0_i32 : BitVec 32 := 0#32
  let c1_i32 : BitVec 32 := 1#32
  let arg14 : BitVec 32 := Scf.iv c0_i32 c1_i32 k0_t1
  let c512_i32_167 : BitVec 32 := 512#32
  let v302 : BitVec 32 := Scalar.muli arg14 c512_i32_167
  let v303 : BitVec 32 := Scalar.addi v302 c0_i32_168
  let v304 : BitVec 32 := v303
  let v308 : Index := Scalar.indexCast v304
  let c128_171 : Index := 128#32
  ![v308.toNat, 128]
def k0_off10 (k0_t1 : Fin k0_t1_loop.trips) : Fin 2 → Nat :=
  let c0_i32 : BitVec 32 := 0#32
  let c1_i32 : BitVec 32 := 1#32
  let arg14 : BitVec 32 := Scf.iv c0_i32 c1_i32 k0_t1
  let c512_i32_169 : BitVec 32 := 512#32
  let v305 : BitVec 32 := Scalar.muli arg14 c512_i32_169
  let c0_i32_170 : BitVec 32 := 0#32
  let v306 : BitVec 32 := Scalar.addi v305 c0_i32_170
  let v307 : BitVec 32 := v306
  let v330 : Index := Scalar.indexCast v307
  let c128_181 : Index := 128#32
  ![v330.toNat, 128]
def k0_mult15 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_186 : BitVec 32 := 512#32
  let v341 : BitVec 32 := Scalar.muli arg14 c512_i32_186
  let c256_i32_187 : BitVec 32 := 256#32
  let v342 : BitVec 32 := Scalar.addi v341 c256_i32_187
  v342
def k0_mult16 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_188 : BitVec 32 := 512#32
  let v344 : BitVec 32 := Scalar.muli arg14 c512_i32_188
  let c256_i32_189 : BitVec 32 := 256#32
  let v345 : BitVec 32 := Scalar.addi v344 c256_i32_189
  v345
@[reducible] def k0_t2_loop (k0_t1 : Fin k0_t1_loop.trips) : Scf.Loop 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_209 : BitVec 32 := 1#32
  ⟨v380, v385, c1_i32_209⟩
def k0_mult17 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_211 : BitVec 32 := 512#32
  let v386 : BitVec 32 := Scalar.muli arg14 c512_i32_211
  let c0_i32_212 : BitVec 32 := 0#32
  let v387 : BitVec 32 := Scalar.addi v386 c0_i32_212
  v387
def k0_mult18 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_213 : BitVec 32 := 512#32
  let v389 : BitVec 32 := Scalar.muli arg15 c512_i32_213
  let c0_i32_214 : BitVec 32 := 0#32
  let v390 : BitVec 32 := Scalar.addi v389 c0_i32_214
  v390
def k0_off11 (k0_t1 : Fin k0_t1_loop.trips) (c0_i32_212 : BitVec 32) : Fin 3 → Nat :=
  let c0_215 : Index := 0#32
  let c0_i32 : BitVec 32 := 0#32
  let c1_i32 : BitVec 32 := 1#32
  let arg14 : BitVec 32 := Scf.iv c0_i32 c1_i32 k0_t1
  let c512_i32_211 : BitVec 32 := 512#32
  let v386 : BitVec 32 := Scalar.muli arg14 c512_i32_211
  let v387 : BitVec 32 := Scalar.addi v386 c0_i32_212
  let v388 : BitVec 32 := v387
  let v392 : Index := Scalar.indexCast v388
  let c0_216 : Index := 0#32
  ![0, v392.toNat, 0]
def k0_off12 (k0_t1 : Fin k0_t1_loop.trips) (k0_t2 : Fin (k0_t2_loop k0_t1).trips) : Fin 3 → Nat :=
  let c0_217 : Index := 0#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_213 : BitVec 32 := 512#32
  let v389 : BitVec 32 := Scalar.muli arg15 c512_i32_213
  let c0_i32_214 : BitVec 32 := 0#32
  let v390 : BitVec 32 := Scalar.addi v389 c0_i32_214
  let v391 : BitVec 32 := v390
  let v395 : Index := Scalar.indexCast v391
  let c0_218 : Index := 0#32
  ![0, v395.toNat, 0]
def k0_mult19 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_225 : BitVec 32 := 512#32
  let v406 : BitVec 32 := Scalar.muli arg14 c512_i32_225
  let c256_i32_226 : BitVec 32 := 256#32
  let v407 : BitVec 32 := Scalar.addi v406 c256_i32_226
  v407
def k0_mult20 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_227 : BitVec 32 := 512#32
  let v409 : BitVec 32 := Scalar.muli arg15 c512_i32_227
  let c0_i32_228 : BitVec 32 := 0#32
  let v410 : BitVec 32 := Scalar.addi v409 c0_i32_228
  v410
def k0_mult21 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_239 : BitVec 32 := 512#32
  let v426 : BitVec 32 := Scalar.muli arg14 c512_i32_239
  let c0_i32_240 : BitVec 32 := 0#32
  let v427 : BitVec 32 := Scalar.addi v426 c0_i32_240
  v427
def k0_mult22 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_241 : BitVec 32 := 512#32
  let v429 : BitVec 32 := Scalar.muli arg15 c512_i32_241
  let c0_i32_242 : BitVec 32 := 0#32
  let v430 : BitVec 32 := Scalar.addi v429 c0_i32_242
  v430
def k0_off13 (k0_t1 : Fin k0_t1_loop.trips) (c0_i32_240 : BitVec 32) : Fin 3 → Nat :=
  let c0_243 : Index := 0#32
  let c0_i32 : BitVec 32 := 0#32
  let c1_i32 : BitVec 32 := 1#32
  let arg14 : BitVec 32 := Scf.iv c0_i32 c1_i32 k0_t1
  let c512_i32_239 : BitVec 32 := 512#32
  let v426 : BitVec 32 := Scalar.muli arg14 c512_i32_239
  let v427 : BitVec 32 := Scalar.addi v426 c0_i32_240
  let v428 : BitVec 32 := v427
  let v432 : Index := Scalar.indexCast v428
  let c128_244 : Index := 128#32
  ![0, v432.toNat, 128]
def k0_off14 (k0_t1 : Fin k0_t1_loop.trips) (k0_t2 : Fin (k0_t2_loop k0_t1).trips) : Fin 3 → Nat :=
  let c0_245 : Index := 0#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_241 : BitVec 32 := 512#32
  let v429 : BitVec 32 := Scalar.muli arg15 c512_i32_241
  let c0_i32_242 : BitVec 32 := 0#32
  let v430 : BitVec 32 := Scalar.addi v429 c0_i32_242
  let v431 : BitVec 32 := v430
  let v435 : Index := Scalar.indexCast v431
  let c128_246 : Index := 128#32
  ![0, v435.toNat, 128]
def k0_mult23 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_253 : BitVec 32 := 512#32
  let v446 : BitVec 32 := Scalar.muli arg14 c512_i32_253
  let c256_i32_254 : BitVec 32 := 256#32
  let v447 : BitVec 32 := Scalar.addi v446 c256_i32_254
  v447
def k0_mult24 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_255 : BitVec 32 := 512#32
  let v449 : BitVec 32 := Scalar.muli arg15 c512_i32_255
  let c0_i32_256 : BitVec 32 := 0#32
  let v450 : BitVec 32 := Scalar.addi v449 c0_i32_256
  v450
def k0_off15 (k0_t1 : Fin k0_t1_loop.trips) (k0_t2 : Fin (k0_t2_loop k0_t1).trips) : Fin 5 → Nat :=
  let c0_268 : Index := 0#32
  let c0_269 : Index := 0#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let v468 : Index := Scalar.indexCast arg15
  let c0_270 : Index := 0#32
  let c0_271 : Index := 0#32
  ![0, 0, v468.toNat, 0, 0]
def k0_off16 (k0_t1 : Fin k0_t1_loop.trips) (k0_t2 : Fin (k0_t2_loop k0_t1).trips) : Fin 5 → Nat :=
  let c0_288 : Index := 0#32
  let c1_289 : Index := 1#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let v504 : Index := Scalar.indexCast arg15
  let c0_290 : Index := 0#32
  let c0_291 : Index := 0#32
  ![0, 1, v504.toNat, 0, 0]
def k0_mult25 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_307 : BitVec 32 := 512#32
  let v538 : BitVec 32 := Scalar.muli arg14 c512_i32_307
  let c0_i32_308 : BitVec 32 := 0#32
  let v539 : BitVec 32 := Scalar.addi v538 c0_i32_308
  v539
def k0_mult26 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_309 : BitVec 32 := 512#32
  let v541 : BitVec 32 := Scalar.muli arg15 c512_i32_309
  let c0_i32_310 : BitVec 32 := 0#32
  let v542 : BitVec 32 := Scalar.addi v541 c0_i32_310
  v542
def k0_off17 (k0_t1 : Fin k0_t1_loop.trips) (c0_i32_308 : BitVec 32) : Fin 2 → Nat :=
  let c0_i32 : BitVec 32 := 0#32
  let c1_i32 : BitVec 32 := 1#32
  let arg14 : BitVec 32 := Scf.iv c0_i32 c1_i32 k0_t1
  let c512_i32_307 : BitVec 32 := 512#32
  let v538 : BitVec 32 := Scalar.muli arg14 c512_i32_307
  let v539 : BitVec 32 := Scalar.addi v538 c0_i32_308
  let v540 : BitVec 32 := v539
  let v544 : Index := Scalar.indexCast v540
  let c0_311 : Index := 0#32
  ![v544.toNat, 0]
def k0_off18 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_309 : BitVec 32 := 512#32
  let v541 : BitVec 32 := Scalar.muli arg15 c512_i32_309
  let c0_i32_310 : BitVec 32 := 0#32
  let v542 : BitVec 32 := Scalar.addi v541 c0_i32_310
  let v543 : BitVec 32 := v542
  let v566 : Index := Scalar.indexCast v543
  let c0_321 : Index := 0#32
  ![v566.toNat, 0]
def k0_mult27 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_326 : BitVec 32 := 512#32
  let v577 : BitVec 32 := Scalar.muli arg14 c512_i32_326
  let c256_i32_327 : BitVec 32 := 256#32
  let v578 : BitVec 32 := Scalar.addi v577 c256_i32_327
  v578
def k0_mult28 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_328 : BitVec 32 := 512#32
  let v580 : BitVec 32 := Scalar.muli arg15 c512_i32_328
  let c0_i32_329 : BitVec 32 := 0#32
  let v581 : BitVec 32 := Scalar.addi v580 c0_i32_329
  v581
def k0_mult29 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_345 : BitVec 32 := 512#32
  let v616 : BitVec 32 := Scalar.muli arg14 c512_i32_345
  let c0_i32_346 : BitVec 32 := 0#32
  let v617 : BitVec 32 := Scalar.addi v616 c0_i32_346
  v617
def k0_mult30 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_347 : BitVec 32 := 512#32
  let v619 : BitVec 32 := Scalar.muli arg15 c512_i32_347
  let c0_i32_348 : BitVec 32 := 0#32
  let v620 : BitVec 32 := Scalar.addi v619 c0_i32_348
  v620
def k0_off19 (k0_t1 : Fin k0_t1_loop.trips) (c0_i32_346 : BitVec 32) : Fin 2 → Nat :=
  let c0_i32 : BitVec 32 := 0#32
  let c1_i32 : BitVec 32 := 1#32
  let arg14 : BitVec 32 := Scf.iv c0_i32 c1_i32 k0_t1
  let c512_i32_345 : BitVec 32 := 512#32
  let v616 : BitVec 32 := Scalar.muli arg14 c512_i32_345
  let v617 : BitVec 32 := Scalar.addi v616 c0_i32_346
  let v618 : BitVec 32 := v617
  let v622 : Index := Scalar.indexCast v618
  let c128_349 : Index := 128#32
  ![v622.toNat, 128]
def k0_off20 (k0_t1 : Fin k0_t1_loop.trips) (k0_t2 : Fin (k0_t2_loop k0_t1).trips) : Fin 2 → Nat :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_347 : BitVec 32 := 512#32
  let v619 : BitVec 32 := Scalar.muli arg15 c512_i32_347
  let c0_i32_348 : BitVec 32 := 0#32
  let v620 : BitVec 32 := Scalar.addi v619 c0_i32_348
  let v621 : BitVec 32 := v620
  let v644 : Index := Scalar.indexCast v621
  let c128_359 : Index := 128#32
  ![v644.toNat, 128]
def k0_mult31 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_364 : BitVec 32 := 512#32
  let v655 : BitVec 32 := Scalar.muli arg14 c512_i32_364
  let c256_i32_365 : BitVec 32 := 256#32
  let v656 : BitVec 32 := Scalar.addi v655 c256_i32_365
  v656
def k0_mult32 (k0_t1 : Fin k0_t1_loop.trips) (k0_t2 : Fin (k0_t2_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c1_i32_209 : BitVec 32 := 1#32
  let arg15 : BitVec 32 := Scf.iv v380 c1_i32_209 k0_t2
  let c512_i32_366 : BitVec 32 := 512#32
  let v658 : BitVec 32 := Scalar.muli arg15 c512_i32_366
  let c0_i32_367 : BitVec 32 := 0#32
  let v659 : BitVec 32 := Scalar.addi v658 c0_i32_367
  v659
@[reducible] def k0_t3_loop (k0_t1 : Fin k0_t1_loop.trips) : Scf.Loop 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let v382 : BitVec 32 := Scalar.addi v380 v381
  let c1_i32_210 : BitVec 32 := 1#32
  ⟨v385, v382, c1_i32_210⟩
def k0_mult33 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_211 : BitVec 32 := 512#32
  let v386 : BitVec 32 := Scalar.muli arg14 c512_i32_211
  let c0_i32_212 : BitVec 32 := 0#32
  let v387 : BitVec 32 := Scalar.addi v386 c0_i32_212
  v387
def k0_mult34 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_213 : BitVec 32 := 512#32
  let v389 : BitVec 32 := Scalar.muli arg15 c512_i32_213
  let c0_i32_214 : BitVec 32 := 0#32
  let v390 : BitVec 32 := Scalar.addi v389 c0_i32_214
  v390
def k0_off21 (k0_t1 : Fin k0_t1_loop.trips) (c0_i32_212 : BitVec 32) : Fin 3 → Nat :=
  let c0_215 : Index := 0#32
  let c0_i32 : BitVec 32 := 0#32
  let c1_i32 : BitVec 32 := 1#32
  let arg14 : BitVec 32 := Scf.iv c0_i32 c1_i32 k0_t1
  let c512_i32_211 : BitVec 32 := 512#32
  let v386 : BitVec 32 := Scalar.muli arg14 c512_i32_211
  let v387 : BitVec 32 := Scalar.addi v386 c0_i32_212
  let v388 : BitVec 32 := v387
  let v392 : Index := Scalar.indexCast v388
  let c0_216 : Index := 0#32
  ![0, v392.toNat, 0]
def k0_off22 (k0_t1 : Fin k0_t1_loop.trips) (k0_t3 : Fin (k0_t3_loop k0_t1).trips) : Fin 3 → Nat :=
  let c0_217 : Index := 0#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_213 : BitVec 32 := 512#32
  let v389 : BitVec 32 := Scalar.muli arg15 c512_i32_213
  let c0_i32_214 : BitVec 32 := 0#32
  let v390 : BitVec 32 := Scalar.addi v389 c0_i32_214
  let v391 : BitVec 32 := v390
  let v395 : Index := Scalar.indexCast v391
  let c0_218 : Index := 0#32
  ![0, v395.toNat, 0]
def k0_mult35 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_225 : BitVec 32 := 512#32
  let v406 : BitVec 32 := Scalar.muli arg14 c512_i32_225
  let c256_i32_226 : BitVec 32 := 256#32
  let v407 : BitVec 32 := Scalar.addi v406 c256_i32_226
  v407
def k0_mult36 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_227 : BitVec 32 := 512#32
  let v409 : BitVec 32 := Scalar.muli arg15 c512_i32_227
  let c0_i32_228 : BitVec 32 := 0#32
  let v410 : BitVec 32 := Scalar.addi v409 c0_i32_228
  v410
def k0_mult37 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_239 : BitVec 32 := 512#32
  let v426 : BitVec 32 := Scalar.muli arg14 c512_i32_239
  let c0_i32_240 : BitVec 32 := 0#32
  let v427 : BitVec 32 := Scalar.addi v426 c0_i32_240
  v427
def k0_mult38 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_241 : BitVec 32 := 512#32
  let v429 : BitVec 32 := Scalar.muli arg15 c512_i32_241
  let c0_i32_242 : BitVec 32 := 0#32
  let v430 : BitVec 32 := Scalar.addi v429 c0_i32_242
  v430
def k0_off23 (k0_t1 : Fin k0_t1_loop.trips) (c0_i32_240 : BitVec 32) : Fin 3 → Nat :=
  let c0_243 : Index := 0#32
  let c0_i32 : BitVec 32 := 0#32
  let c1_i32 : BitVec 32 := 1#32
  let arg14 : BitVec 32 := Scf.iv c0_i32 c1_i32 k0_t1
  let c512_i32_239 : BitVec 32 := 512#32
  let v426 : BitVec 32 := Scalar.muli arg14 c512_i32_239
  let v427 : BitVec 32 := Scalar.addi v426 c0_i32_240
  let v428 : BitVec 32 := v427
  let v432 : Index := Scalar.indexCast v428
  let c128_244 : Index := 128#32
  ![0, v432.toNat, 128]
def k0_off24 (k0_t1 : Fin k0_t1_loop.trips) (k0_t3 : Fin (k0_t3_loop k0_t1).trips) : Fin 3 → Nat :=
  let c0_245 : Index := 0#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_241 : BitVec 32 := 512#32
  let v429 : BitVec 32 := Scalar.muli arg15 c512_i32_241
  let c0_i32_242 : BitVec 32 := 0#32
  let v430 : BitVec 32 := Scalar.addi v429 c0_i32_242
  let v431 : BitVec 32 := v430
  let v435 : Index := Scalar.indexCast v431
  let c128_246 : Index := 128#32
  ![0, v435.toNat, 128]
def k0_mult39 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_253 : BitVec 32 := 512#32
  let v446 : BitVec 32 := Scalar.muli arg14 c512_i32_253
  let c256_i32_254 : BitVec 32 := 256#32
  let v447 : BitVec 32 := Scalar.addi v446 c256_i32_254
  v447
def k0_mult40 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_255 : BitVec 32 := 512#32
  let v449 : BitVec 32 := Scalar.muli arg15 c512_i32_255
  let c0_i32_256 : BitVec 32 := 0#32
  let v450 : BitVec 32 := Scalar.addi v449 c0_i32_256
  v450
def k0_off25 (k0_t1 : Fin k0_t1_loop.trips) (k0_t3 : Fin (k0_t3_loop k0_t1).trips) : Fin 5 → Nat :=
  let c0_268 : Index := 0#32
  let c0_269 : Index := 0#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let v468 : Index := Scalar.indexCast arg15
  let c0_270 : Index := 0#32
  let c0_271 : Index := 0#32
  ![0, 0, v468.toNat, 0, 0]
def k0_off26 (k0_t1 : Fin k0_t1_loop.trips) (k0_t3 : Fin (k0_t3_loop k0_t1).trips) : Fin 5 → Nat :=
  let c0_288 : Index := 0#32
  let c1_289 : Index := 1#32
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let v504 : Index := Scalar.indexCast arg15
  let c0_290 : Index := 0#32
  let c0_291 : Index := 0#32
  ![0, 1, v504.toNat, 0, 0]
def k0_mult41 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_307 : BitVec 32 := 512#32
  let v538 : BitVec 32 := Scalar.muli arg14 c512_i32_307
  let c0_i32_308 : BitVec 32 := 0#32
  let v539 : BitVec 32 := Scalar.addi v538 c0_i32_308
  v539
def k0_mult42 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_309 : BitVec 32 := 512#32
  let v541 : BitVec 32 := Scalar.muli arg15 c512_i32_309
  let c0_i32_310 : BitVec 32 := 0#32
  let v542 : BitVec 32 := Scalar.addi v541 c0_i32_310
  v542
def k0_off27 (k0_t1 : Fin k0_t1_loop.trips) (c0_i32_308 : BitVec 32) : Fin 2 → Nat :=
  let c0_i32 : BitVec 32 := 0#32
  let c1_i32 : BitVec 32 := 1#32
  let arg14 : BitVec 32 := Scf.iv c0_i32 c1_i32 k0_t1
  let c512_i32_307 : BitVec 32 := 512#32
  let v538 : BitVec 32 := Scalar.muli arg14 c512_i32_307
  let v539 : BitVec 32 := Scalar.addi v538 c0_i32_308
  let v540 : BitVec 32 := v539
  let v544 : Index := Scalar.indexCast v540
  let c0_311 : Index := 0#32
  ![v544.toNat, 0]
def k0_off28 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_309 : BitVec 32 := 512#32
  let v541 : BitVec 32 := Scalar.muli arg15 c512_i32_309
  let c0_i32_310 : BitVec 32 := 0#32
  let v542 : BitVec 32 := Scalar.addi v541 c0_i32_310
  let v543 : BitVec 32 := v542
  let v566 : Index := Scalar.indexCast v543
  let c0_321 : Index := 0#32
  ![v566.toNat, 0]
def k0_mult43 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_326 : BitVec 32 := 512#32
  let v577 : BitVec 32 := Scalar.muli arg14 c512_i32_326
  let c256_i32_327 : BitVec 32 := 256#32
  let v578 : BitVec 32 := Scalar.addi v577 c256_i32_327
  v578
def k0_mult44 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_328 : BitVec 32 := 512#32
  let v580 : BitVec 32 := Scalar.muli arg15 c512_i32_328
  let c0_i32_329 : BitVec 32 := 0#32
  let v581 : BitVec 32 := Scalar.addi v580 c0_i32_329
  v581
def k0_mult45 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_345 : BitVec 32 := 512#32
  let v616 : BitVec 32 := Scalar.muli arg14 c512_i32_345
  let c0_i32_346 : BitVec 32 := 0#32
  let v617 : BitVec 32 := Scalar.addi v616 c0_i32_346
  v617
def k0_mult46 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_347 : BitVec 32 := 512#32
  let v619 : BitVec 32 := Scalar.muli arg15 c512_i32_347
  let c0_i32_348 : BitVec 32 := 0#32
  let v620 : BitVec 32 := Scalar.addi v619 c0_i32_348
  v620
def k0_off29 (k0_t1 : Fin k0_t1_loop.trips) (c0_i32_346 : BitVec 32) : Fin 2 → Nat :=
  let c0_i32 : BitVec 32 := 0#32
  let c1_i32 : BitVec 32 := 1#32
  let arg14 : BitVec 32 := Scf.iv c0_i32 c1_i32 k0_t1
  let c512_i32_345 : BitVec 32 := 512#32
  let v616 : BitVec 32 := Scalar.muli arg14 c512_i32_345
  let v617 : BitVec 32 := Scalar.addi v616 c0_i32_346
  let v618 : BitVec 32 := v617
  let v622 : Index := Scalar.indexCast v618
  let c128_349 : Index := 128#32
  ![v622.toNat, 128]
def k0_off30 (k0_t1 : Fin k0_t1_loop.trips) (k0_t3 : Fin (k0_t3_loop k0_t1).trips) : Fin 2 → Nat :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_347 : BitVec 32 := 512#32
  let v619 : BitVec 32 := Scalar.muli arg15 c512_i32_347
  let c0_i32_348 : BitVec 32 := 0#32
  let v620 : BitVec 32 := Scalar.addi v619 c0_i32_348
  let v621 : BitVec 32 := v620
  let v644 : Index := Scalar.indexCast v621
  let c128_359 : Index := 128#32
  ![v644.toNat, 128]
def k0_mult47 (k0_t1 : Fin k0_t1_loop.trips) : BitVec 32 :=
  let c0_i32 : BitVec 32 := 0#32
  let c1_i32 : BitVec 32 := 1#32
  let arg14 : BitVec 32 := Scf.iv c0_i32 c1_i32 k0_t1
  let c512_i32_364 : BitVec 32 := 512#32
  let v655 : BitVec 32 := Scalar.muli arg14 c512_i32_364
  let c256_i32_365 : BitVec 32 := 256#32
  let v656 : BitVec 32 := Scalar.addi v655 c256_i32_365
  v656
def k0_mult48 (k0_t1 : Fin k0_t1_loop.trips) (k0_t3 : Fin (k0_t3_loop k0_t1).trips) : BitVec 32 :=
  let c0_i32 : BitVec 32 := 0#32
  let c1_i32 : BitVec 32 := 1#32
  let arg14 : BitVec 32 := Scf.iv c0_i32 c1_i32 k0_t1
  let c1_i32_205 : BitVec 32 := 1#32
  let v380 : BitVec 32 := Scalar.addi arg14 c1_i32_205
  let c8_i32_207 : BitVec 32 := 8#32
  let v381 : BitVec 32 := Scalar.subi c8_i32_207 v380
  let c1_i32_208 : BitVec 32 := 1#32
  let v383 : BitVec 32 := Scalar.divsi v381 c1_i32_208
  let v384 : BitVec 32 := Scalar.muli v383 c1_i32_208
  let v385 : BitVec 32 := Scalar.addi v380 v384
  let c1_i32_210 : BitVec 32 := 1#32
  let arg15 : BitVec 32 := Scf.iv v385 c1_i32_210 k0_t3
  let c512_i32_366 : BitVec 32 := 512#32
  let v658 : BitVec 32 := Scalar.muli arg15 c512_i32_366
  let c0_i32_367 : BitVec 32 := 0#32
  let v659 : BitVec 32 := Scalar.addi v658 c0_i32_367
  v659
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "att_scale_log2e" => some (((3424635 / 33554432) * (Real.log 2)⁻¹ : ℝ) : EReal)
  | "log2e" => some (((Real.log 2)⁻¹ : ℝ) : EReal)
  | _ => none
-- ==== ReferenceIdeal.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x4096x8x128 : Shape := ⟨4, ![2, 4096, 8, 128]⟩
abbrev S2x4096x1x32 : Shape := ⟨4, ![2, 4096, 1, 32]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x8x4096x32 : Shape := ⟨4, ![2, 8, 4096, 32]⟩
abbrev S2x8x4096x64 : Shape := ⟨4, ![2, 8, 4096, 64]⟩
abbrev S2x4096x1024 : Shape := ⟨3, ![2, 4096, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x32, .f32⟩
  | .hbm, ⟨4, _⟩ => ⟨S2x4096x8x128, .f32⟩
  | .hbm, ⟨5, _⟩ => ⟨S2x4096x8x128, .f32⟩
  | .hbm, ⟨6, _⟩ => ⟨S2x4096x1x32, .f32⟩
  | .hbm, ⟨7, _⟩ => ⟨S2x4096x8x32, .f32⟩
  | .hbm, ⟨8, _⟩ => ⟨S2x8x4096x4096, .f32⟩
  | .hbm, ⟨9, _⟩ => ⟨S2x8x4096x4096, .f32⟩
  | .hbm, ⟨10, _⟩ => ⟨S2x8x4096x4096, .f32⟩
  | .hbm, ⟨11, _⟩ => ⟨S_, .f32⟩
  | .hbm, ⟨12, _⟩ => ⟨S2x8x4096x4096, .f32⟩
  | .hbm, ⟨13, _⟩ => ⟨S2x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x1x4096x4096, .i1⟩
  | .hbm, ⟨21, _⟩ => ⟨S_, .f32⟩
  | .hbm, ⟨22, _⟩ => ⟨S_, .f32⟩
  | .hbm, ⟨23, _⟩ => ⟨S2x8x4096x4096, .i1⟩
  | .hbm, ⟨24, _⟩ => ⟨S2x8x4096x4096, .f32⟩
  | .hbm, ⟨25, _⟩ => ⟨S2x8x4096x4096, .f32⟩
  | .hbm, ⟨26, _⟩ => ⟨S_, .f32⟩
  | .hbm, ⟨27, _⟩ => ⟨S2x8x4096x4096, .f32⟩
  | .hbm, ⟨28, _⟩ => ⟨S_, .f32⟩
  | .hbm, ⟨29, _⟩ => ⟨S2x8x4096, .f32⟩
  | .hbm, ⟨30, _⟩ => ⟨S2x8x4096x1, .f32⟩
  | .hbm, ⟨31, _⟩ => ⟨S2x8x4096x4096, .f32⟩
  | .hbm, ⟨32, _⟩ => ⟨S2x8x4096x4096, .i1⟩
  | .hbm, ⟨33, _⟩ => ⟨S2x8x4096x4096, .f32⟩
  | .hbm, ⟨34, _⟩ => ⟨S_, .f32⟩
  | .hbm, ⟨35, _⟩ => ⟨S2x8x4096, .f32⟩
  | .hbm, ⟨36, _⟩ => ⟨S_, .f32⟩
  | .hbm, ⟨37, _⟩ => ⟨S2x8x4096, .f32⟩
  | .hbm, ⟨38, _⟩ => ⟨S2x8x4096, .f32⟩
  | .hbm, ⟨39, _⟩ => ⟨S_, .f32⟩
  | .hbm, ⟨40, _⟩ => ⟨S2x8x4096, .f32⟩
  | .hbm, ⟨41, _⟩ => ⟨S2x8x4096, .i1⟩
  | .hbm, ⟨42, _⟩ => ⟨S_, .f32⟩
  | .hbm, ⟨43, _⟩ => ⟨S2x8x4096, .f32⟩
  | .hbm, ⟨44, _⟩ => ⟨S2x8x4096, .i1⟩
  | .hbm, ⟨45, _⟩ => ⟨S_, .f32⟩
  | .hbm, ⟨46, _⟩ => ⟨S2x8x4096, .f32⟩
  | .hbm, ⟨47, _⟩ => ⟨S_, .f32⟩
  | .hbm, ⟨48, _⟩ => ⟨S2x8x4096, .f32⟩
  | .hbm, ⟨49, _⟩ => ⟨S_, .f32⟩
  | .hbm, ⟨50, _⟩ => ⟨S2x8x4096, .f32⟩
  | .hbm, ⟨51, _⟩ => ⟨S2x8x4096, .f32⟩
  | .hbm, ⟨52, _⟩ => ⟨S2x8x4096, .f32⟩
  | .hbm, ⟨53, _⟩ => ⟨S2x8x4096x1, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S_, .f32⟩
  | .hbm, ⟨58, _⟩ => ⟨S2x8x4096, .f32⟩
  | .hbm, ⟨59, _⟩ => ⟨S2x8x4096x1, .f32⟩
  | .hbm, ⟨60, _⟩ => ⟨S2x8x4096x4096, .f32⟩
  | .hbm, ⟨61, _⟩ => ⟨S2x8x4096x4096, .f32⟩
  | .hbm, ⟨62, _⟩ => ⟨S2x8x4096x1, .f32⟩
  | .hbm, ⟨63, _⟩ => ⟨S_, .f32⟩
  | .hbm, ⟨64, _⟩ => ⟨S2x8x4096x1, .f32⟩
  | .hbm, ⟨65, _⟩ => ⟨S2x8x4096x1, .f32⟩
  | .hbm, ⟨66, _⟩ => ⟨S2x8x128x4096, .f32⟩
  | .hbm, ⟨67, _⟩ => ⟨S2x4096x8x128, .f32⟩
  | .hbm, ⟨68, _⟩ => ⟨S2x8x128x4096, .f32⟩
  | .hbm, ⟨69, _⟩ => ⟨S2x8x4096x4096, .f32⟩
  | .hbm, ⟨70, _⟩ => ⟨S2x8x128x4096, .f32⟩
  | .hbm, ⟨71, _⟩ => ⟨S2x4096x8x128, .f32⟩
  | .hbm, ⟨72, _⟩ => ⟨S2x8x4096x4096, .f32⟩
  | .hbm, ⟨73, _⟩ => ⟨S2x8x4096x4096, .f32⟩
  | .hbm, ⟨74, _⟩ => ⟨S2x8x4096x4096, .f32⟩
  | .hbm, ⟨75, _⟩ => ⟨S_, .f32⟩
  | .hbm, ⟨76, _⟩ => ⟨S2x8x4096, .f32⟩
  | .hbm, ⟨77, _⟩ => ⟨S2x8x4096x1, .f32⟩
  | .hbm, ⟨78, _⟩ => ⟨S2x8x4096x1, .f32⟩
  | .hbm, ⟨79, _⟩ => ⟨S2x8x4096x4096, .f32⟩
  | .hbm, ⟨80, _⟩ => ⟨S2x8x4096x4096, .f32⟩
  | .hbm, ⟨81, _⟩ => ⟨S_, .f32⟩
  | .hbm, ⟨82, _⟩ => ⟨S2x8x4096, .f32⟩
  | .hbm, ⟨83, _⟩ => ⟨S2x8x4096x4096, .f32⟩
  | .hbm, ⟨84, _⟩ => ⟨S2x8x4096x4096, .f32⟩
  | .hbm, ⟨85, _⟩ => ⟨S2x8x4096x4096, .f32⟩
  | .hbm, ⟨86, _⟩ => ⟨S_, .f32⟩
  | .hbm, ⟨87, _⟩ => ⟨S2x8x4096x4096, .f32⟩
  | .hbm, ⟨88, _⟩ => ⟨S2x8x4096x4096, .f32⟩
  | .hbm, ⟨89, _⟩ => ⟨S_, .f32⟩
  | .hbm, ⟨90, _⟩ => ⟨S2x8x4096x4096, .f32⟩
  | .hbm, ⟨91, _⟩ => ⟨S2x8x4096x4096, .f32⟩
  | .hbm, ⟨92, _⟩ => ⟨S2x8x4096x32, .f32⟩
  | .hbm, ⟨93, _⟩ => ⟨S2x4096x8x32, .f32⟩
  | .hbm, ⟨94, _⟩ => ⟨S2x8x4096x32, .f32⟩
  | .hbm, ⟨95, _⟩ => ⟨S2x4096x8x32, .f32⟩
  | .hbm, ⟨96, _⟩ => ⟨S2x8x4096x64, .f32⟩
  | .hbm, ⟨97, _⟩ => ⟨S2x4096x8x64, .f32⟩
  | .hbm, ⟨98, _⟩ => ⟨S2x8x4096x64, .f32⟩
  | .hbm, ⟨99, _⟩ => ⟨S2x4096x8x64, .f32⟩
  | .hbm, ⟨100, _⟩ => ⟨S_, .f32⟩
  | .hbm, ⟨101, _⟩ => ⟨S2x4096x8x32, .f32⟩
  | .hbm, ⟨102, _⟩ => ⟨S2x4096x8x128, .f32⟩
  | .hbm, ⟨103, _⟩ => ⟨S2x4096x1024, .f32⟩
  | .hbm, ⟨104, _⟩ => ⟨S2x4096x8x128, .f32⟩
  | .hbm, ⟨105, _⟩ => ⟨S2x4096x1024, .f32⟩
  | .hbm, ⟨106, _⟩ => ⟨S2x4096x1024, .f32⟩
  | .hbm, ⟨107, _⟩ => ⟨S2x4096x1024, .bf16⟩
  | .hbm, ⟨108, _⟩ => ⟨S2x4096x1024, .bf16⟩
  | .hbm, ⟨109, _⟩ => ⟨S2x4096x1024, .bf16⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Kernel2.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S1x2048x1408 : Shape := ⟨3, ![1, 2048, 1408]⟩
abbrev S1x2048x1024 : Shape := ⟨3, ![1, 2048, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x4096x2816, .bf16⟩
  | .hbm, ⟨4, _⟩ => ⟨S2x4096x1024, .bf16⟩
  | .hbm, ⟨5, _⟩ => ⟨S2816x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 2], ![false, false, false, false]⟩

def k0_cond3 (i : grid0.Coords) : BitVec 1 :=
  let arg2 : BitVec 32 := BitVec.ofNat 32 (i 2).val
  let c1_i32 : BitVec 32 := 1#32
  let v3 : BitVec 1 := Scalar.cmpi .eq arg2 c1_i32
  let arg3 : BitVec 32 := BitVec.ofNat 32 (i 3).val
  let c1_i32_1 : BitVec 32 := 1#32
  let v4 : BitVec 1 := Scalar.cmpi .eq arg3 c1_i32_1
  let v5 : BitVec 1 := Scalar.andi v3 v4
  let v16 : BitVec 32 := Scalar.extui v5
  let c0_i32_9 : BitVec 32 := 0#32
  let v17 : BitVec 1 := Scalar.cmpi .ne v16 c0_i32_9
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference2Ideal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2x4096x1024 : Shape := ⟨3, ![2, 4096, 1024]⟩
abbrev S1024x2816 : Shape := ⟨2, ![1024, 2816]⟩
abbrev S2816x1024 : Shape := ⟨2, ![2816, 1024]⟩
abbrev S2x4096x2816 : Shape := ⟨3, ![2, 4096, 2816]⟩
abbrev S1x1024x1024 : Shape := ⟨3, ![1, 1024, 1024]⟩
abbrev S1408x1024 : Shape := ⟨2, ![1408, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 17
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2x4096x1024, .f32⟩
  | .hbm, ⟨5, _⟩ => ⟨S2x4096x1024, .bf16⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2x4096x2816, .bf16⟩
  | .hbm, ⟨11, _⟩ => ⟨S2x4096x2816, .bf16⟩
  | .hbm, ⟨12, _⟩ => ⟨S2x4096x2816, .bf16⟩
  | .hbm, ⟨13, _⟩ => ⟨S2x4096x1024, .bf16⟩
  | .hbm, ⟨14, _⟩ => ⟨S2816x1024, .bf16⟩
  | .hbm, ⟨15, _⟩ => ⟨S2x4096x2816, .bf16⟩
  | .hbm, ⟨16, _⟩ => ⟨S2x4096x2816, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1x1024x1408, .bf16⟩
  | .local _ .vmem, ⟨17, _⟩ => ⟨S1x1024x1408, .bf16⟩
  | .local _ .vmem, ⟨18, _⟩ => ⟨S1x1024x1408, .bf16⟩
  | .local _ .vmem, ⟨19, _⟩ => ⟨S1x1024x1408, .bf16⟩
  | .local _ .vmem, ⟨20, _⟩ => ⟨S1x1024x1408, .bf16⟩
  | .local _ .vmem, ⟨21, _⟩ => ⟨S1x1024x1408, .bf16⟩
  | .local _ .vmem, ⟨22, _⟩ => ⟨S1x1024x1408, .bf16⟩
  | .local _ .vmem, ⟨23, _⟩ => ⟨S1x1024x1408, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨3, ![2, 2, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== Reference3Ideal.lean ====
abbrev S2x4096x1024 : Shape := ⟨3, ![2, 4096, 1024]⟩
abbrev S1024x2816 : Shape := ⟨2, ![1024, 2816]⟩
abbrev S2816x1024 : Shape := ⟨2, ![2816, 1024]⟩
abbrev S2x4096x2816 : Shape := ⟨3, ![2, 4096, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2x4096x1024, .f32⟩
  | .hbm, ⟨5, _⟩ => ⟨S2x4096x2816, .f32⟩
  | .hbm, ⟨6, _⟩ => ⟨S2x4096x2816, .f32⟩
  | .hbm, ⟨7, _⟩ => ⟨S2x4096x2816, .f32⟩
  | .hbm, ⟨8, _⟩ => ⟨S2x4096x2816, .f32⟩
  | .hbm, ⟨9, _⟩ => ⟨S_, .f32⟩
  | .hbm, ⟨10, _⟩ => ⟨S2x4096x2816, .f32⟩
  | .hbm, ⟨11, _⟩ => ⟨S2x4096x2816, .f32⟩
  | .hbm, ⟨12, _⟩ => ⟨S_, .f32⟩
  | .hbm, ⟨13, _⟩ => ⟨S2x4096x2816, .f32⟩
  | .hbm, ⟨14, _⟩ => ⟨S2x4096x2816, .f32⟩
  | .hbm, ⟨15, _⟩ => ⟨S_, .f32⟩
  | .hbm, ⟨16, _⟩ => ⟨S2x4096x2816, .f32⟩
  | .hbm, ⟨17, _⟩ => ⟨S2x4096x2816, .f32⟩
  | .hbm, ⟨18, _⟩ => ⟨S2x4096x2816, .f32⟩
  | .hbm, ⟨19, _⟩ => ⟨S2x4096x2816, .f32⟩
  | .hbm, ⟨20, _⟩ => ⟨S2x4096x2816, .f32⟩
  | .hbm, ⟨21, _⟩ => ⟨S2x4096x1024, .f32⟩
  | .hbm, ⟨22, _⟩ => ⟨S2x4096x2816, .f32⟩
  | .hbm, ⟨23, _⟩ => ⟨S2x4096x2816, .f32⟩
  | .hbm, ⟨24, _⟩ => ⟨S2x4096x2816, .f32⟩
  | .hbm, ⟨25, _⟩ => ⟨S2x4096x2816, .f32⟩
  | .hbm, ⟨26, _⟩ => ⟨S2x4096x2816, .f32⟩
  | .hbm, ⟨27, _⟩ => ⟨S2x4096x2816, .f32⟩
  | .hbm, ⟨28, _⟩ => ⟨S2x4096x2816, .f32⟩
  | .hbm, ⟨29, _⟩ => ⟨S2x4096x2816, .f32⟩
  | .hbm, ⟨30, _⟩ => ⟨S2x4096x2816, .f32⟩
  | .hbm, ⟨31, _⟩ => ⟨S_, .f32⟩
  | .hbm, ⟨32, _⟩ => ⟨S2x4096x2816, .f32⟩
  | .hbm, ⟨33, _⟩ => ⟨S2x4096x2816, .f32⟩
  | .hbm, ⟨34, _⟩ => ⟨S_, .f32⟩
  | .hbm, ⟨35, _⟩ => ⟨S2x4096x2816, .f32⟩
  | .hbm, ⟨36, _⟩ => ⟨S2x4096x2816, .f32⟩
  | .hbm, ⟨37, _⟩ => ⟨S2x4096x2816, .f32⟩
  | .hbm, ⟨38, _⟩ => ⟨S2x4096x2816, .f32⟩
  | .hbm, ⟨39, _⟩ => ⟨S2x4096x2816, .bf16⟩
  | .hbm, ⟨40, _⟩ => ⟨S2x4096x2816, .bf16⟩
  | .hbm, ⟨41, _⟩ => ⟨S2x4096x2816, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x1024 : Shape := ⟨2, ![2, 1024]⟩
abbrev S1024 : Shape := ⟨1, ![1024]⟩
abbrev S1024x2816 : Shape := ⟨2, ![1024, 2816]⟩
abbrev S2x4096x2816 : Shape := ⟨3, ![2, 4096, 2816]⟩
abbrev S2x1x1024 : Shape := ⟨3, ![2, 1, 1024]⟩
abbrev S2816x1024 : Shape := ⟨2, ![2816, 1024]⟩
abbrev S1x1024 : Shape := ⟨2, ![1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 31
  | .vmem => 28
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1024, .f32⟩
  | .hbm, ⟨3, _⟩ => ⟨S1024, .f32⟩
  | .hbm, ⟨4, _⟩ => ⟨S2x1024, .f32⟩
  | .hbm, ⟨5, _⟩ => ⟨S2x1024, .f32⟩
  | .hbm, ⟨6, _⟩ => ⟨S1024x2816, .f32⟩
  | .hbm, ⟨7, _⟩ => ⟨S1024x2816, .f32⟩
  | .hbm, ⟨8, _⟩ => ⟨S2x4096x1024, .f32⟩
  | .hbm, ⟨9, _⟩ => ⟨S2x4096x2816, .f32⟩
  | .hbm, ⟨10, _⟩ => ⟨S2x4096x2816, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .bf16⟩
  | .hbm, ⟨16, _⟩ => ⟨S2x1x1024, .f32⟩
  | .hbm, ⟨17, _⟩ => ⟨S2x4096x2816, .bf16⟩
  | .hbm, ⟨18, _⟩ => ⟨S2x4096x2816, .bf16⟩
  | .hbm, ⟨19, _⟩ => ⟨S2816x1024, .f32⟩
  | .hbm, ⟨20, _⟩ => ⟨S2816x1024, .bf16⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S2x1x1024, .f32⟩
  | .hbm, ⟨25, _⟩ => ⟨S2x4096x1024, .f32⟩
  | .hbm, ⟨26, _⟩ => ⟨S2x1x1024, .f32⟩
  | .hbm, ⟨27, _⟩ => ⟨S2x1x1024, .f32⟩
  | .hbm, ⟨28, _⟩ => ⟨S1x1024, .f32⟩
  | .hbm, ⟨29, _⟩ => ⟨S2x4096x1024, .bf16⟩
  | .hbm, ⟨30, _⟩ => ⟨S2x1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S1x512x1024, .bf16⟩
  | .local _ .vmem, ⟨25, _⟩ => ⟨S1x512x1024, .bf16⟩
  | .local _ .vmem, ⟨26, _⟩ => ⟨S1x1x1024, .f32⟩
  | .local _ .vmem, ⟨27, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference4Ideal.lean ====
abbrev S2x4096x1024 : Shape := ⟨3, ![2, 4096, 1024]⟩
abbrev S2x1024 : Shape := ⟨2, ![2, 1024]⟩
abbrev S1024 : Shape := ⟨1, ![1024]⟩
abbrev S1024x2816 : Shape := ⟨2, ![1024, 2816]⟩
abbrev S2x4096x2816 : Shape := ⟨3, ![2, 4096, 2816]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1024, .f32⟩
  | .hbm, ⟨3, _⟩ => ⟨S1024, .f32⟩
  | .hbm, ⟨4, _⟩ => ⟨S2x1024, .f32⟩
  | .hbm, ⟨5, _⟩ => ⟨S2x1024, .f32⟩
  | .hbm, ⟨6, _⟩ => ⟨S1024x2816, .f32⟩
  | .hbm, ⟨7, _⟩ => ⟨S1024x2816, .f32⟩
  | .hbm, ⟨8, _⟩ => ⟨S2x4096x1024, .f32⟩
  | .hbm, ⟨9, _⟩ => ⟨S2x4096x2816, .f32⟩
  | .hbm, ⟨10, _⟩ => ⟨S2x4096x2816, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1024, .f32⟩
  | .hbm, ⟨31, _⟩ => ⟨S2x4096x1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x4096x1024, .f32⟩
  | .hbm, ⟨40, _⟩ => ⟨S2x4096x1024, .f32⟩
  | .hbm, ⟨41, _⟩ => ⟨S2x1x1024, .f32⟩
  | .hbm, ⟨42, _⟩ => ⟨S2x4096x1024, .f32⟩
  | .hbm, ⟨43, _⟩ => ⟨S2x4096x1024, .f32⟩
  | .hbm, ⟨44, _⟩ => ⟨S2x4096x2816, .f32⟩
  | .hbm, ⟨45, _⟩ => ⟨S2x4096x2816, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S_, .f32⟩
  | .hbm, ⟨53, _⟩ => ⟨S2x1024, .f32⟩
  | .hbm, ⟨54, _⟩ => ⟨S2x4096x1024, .f32⟩
  | .hbm, ⟨55, _⟩ => ⟨S_, .f32⟩
  | .hbm, ⟨56, _⟩ => ⟨S2x1024, .f32⟩
  | .hbm, ⟨57, _⟩ => ⟨S2x1x1024, .f32⟩
  | .hbm, ⟨58, _⟩ => ⟨S2x4096x1024, .f32⟩
  | .hbm, ⟨59, _⟩ => ⟨S2x4096x1024, .f32⟩
  | .hbm, ⟨60, _⟩ => ⟨S_, .f32⟩
  | .hbm, ⟨61, _⟩ => ⟨S2x1024, .f32⟩
  | .hbm, ⟨62, _⟩ => ⟨S2x4096x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S2x4096x1024, .f32⟩
  | .hbm, ⟨67, _⟩ => ⟨S2x4096x1024, .f32⟩
  | .hbm, ⟨68, _⟩ => ⟨S_, .f32⟩
  | .hbm, ⟨69, _⟩ => ⟨S1024, .f32⟩
  | .hbm, ⟨70, _⟩ => ⟨S2x4096x1024, .f32⟩
  | .hbm, ⟨71, _⟩ => ⟨S_, .f32⟩
  | .hbm, ⟨72, _⟩ => ⟨S2x4096, .f32⟩
  | .hbm, ⟨73, _⟩ => ⟨S2x4096x1, .f32⟩
  | .hbm, ⟨74, _⟩ => ⟨S2x4096x1024, .f32⟩
  | .hbm, ⟨75, _⟩ => ⟨S2x4096x1024, .f32⟩
  | .hbm, ⟨76, _⟩ => ⟨S2x4096x1024, .f32⟩
  | .hbm, ⟨77, _⟩ => ⟨S2x4096x1, .f32⟩
  | .hbm, ⟨78, _⟩ => ⟨S_, .f32⟩
  | .hbm, ⟨79, _⟩ => ⟨S2x4096x1, .f32⟩
  | .hbm, ⟨80, _⟩ => ⟨S2x4096x1, .f32⟩
  | .hbm, ⟨81, _⟩ => ⟨S_, .f32⟩
  | .hbm, ⟨82, _⟩ => ⟨S2x4096, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S2x4096x1024, .f32⟩
  | .hbm, ⟨89, _⟩ => ⟨S2x4096x1024, .f32⟩
  | .hbm, ⟨90, _⟩ => ⟨S2x4096x1024, .f32⟩
  | .hbm, ⟨91, _⟩ => ⟨S2x4096x1024, .f32⟩
  | .hbm, ⟨92, _⟩ => ⟨S_, .f32⟩
  | .hbm, ⟨93, _⟩ => ⟨S2x1024, .f32⟩
  | .hbm, ⟨94, _⟩ => ⟨S2x1x1024, .f32⟩
  | .hbm, ⟨95, _⟩ => ⟨S_, .f32⟩
  | .hbm, ⟨96, _⟩ => ⟨S2x1024, .f32⟩
  | .hbm, ⟨97, _⟩ => ⟨S2x1x1024, .f32⟩
  | .hbm, ⟨98, _⟩ => ⟨S2x1x1024, .f32⟩
  | .hbm, ⟨99, _⟩ => ⟨S1x1024, .f32⟩
  | .hbm, ⟨100, _⟩ => ⟨S2x4096x1024, .bf16⟩
  | .hbm, ⟨101, _⟩ => ⟨S2x1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel5.lean ====
abbrev S2x4096x1024 : Shape := ⟨3, ![2, 4096, 1024]⟩
abbrev S1024 : Shape := ⟨1, ![1024]⟩
abbrev S2x1024 : Shape := ⟨2, ![2, 1024]⟩
abbrev S1024x2816 : Shape := ⟨2, ![1024, 2816]⟩
abbrev S2x4096x2816 : Shape := ⟨3, ![2, 4096, 2816]⟩
abbrev S2816x1024 : Shape := ⟨2, ![2816, 1024]⟩
abbrev S1x1024 : Shape := ⟨2, ![1, 1024]⟩
abbrev S2x1x1024 : Shape := ⟨3, ![2, 1, 1024]⟩
abbrev S1x512x2816 : Shape := ⟨3, ![1, 512, 2816]⟩
abbrev S1x512x1024 : Shape := ⟨3, ![1, 512, 1024]⟩
abbrev S1x1x1024 : Shape := ⟨3, ![1, 1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2x4096x1024, .f32⟩
  | .hbm, ⟨7, _⟩ => ⟨S2x4096x2816, .f32⟩
  | .hbm, ⟨8, _⟩ => ⟨S2x4096x2816, .f32⟩
  | .hbm, ⟨9, _⟩ => ⟨S2x4096x2816, .bf16⟩
  | .hbm, ⟨10, _⟩ => ⟨S2x4096x2816, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S2x1x1024, .f32⟩
  | .hbm, ⟨17, _⟩ => ⟨S2x4096x1024, .f32⟩
  | .hbm, ⟨18, _⟩ => ⟨S2x1x1024, .f32⟩
  | .hbm, ⟨19, _⟩ => ⟨S2x1x1024, .f32⟩
  | .hbm, ⟨20, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference5Ideal.lean ====
abbrev S2x4096x1024 : Shape := ⟨3, ![2, 4096, 1024]⟩
abbrev S1024 : Shape := ⟨1, ![1024]⟩
abbrev S2x1024 : Shape := ⟨2, ![2, 1024]⟩
abbrev S1024x2816 : Shape := ⟨2, ![1024, 2816]⟩
abbrev S2x4096x2816 : Shape := ⟨3, ![2, 4096, 2816]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2x4096x1024, .f32⟩
  | .hbm, ⟨7, _⟩ => ⟨S2x4096x2816, .f32⟩
  | .hbm, ⟨8, _⟩ => ⟨S2x4096x2816, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1024, .f32⟩
  | .hbm, ⟨25, _⟩ => ⟨S2x4096x1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S2x4096x2816, .f32⟩
  | .hbm, ⟨39, _⟩ => ⟨S2x4096x2816, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x1024, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x4096x1024, .f32⟩
  | .hbm, ⟨53, _⟩ => ⟨S2x4096x1024, .f32⟩
  | .hbm, ⟨54, _⟩ => ⟨S_, .f32⟩
  | .hbm, ⟨55, _⟩ => ⟨S2x1024, .f32⟩
  | .hbm, ⟨56, _⟩ => ⟨S2x4096x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x4096x1024, .f32⟩
  | .hbm, ⟨61, _⟩ => ⟨S2x4096x1024, .f32⟩
  | .hbm, ⟨62, _⟩ => ⟨S_, .f32⟩
  | .hbm, ⟨63, _⟩ => ⟨S1024, .f32⟩
  | .hbm, ⟨64, _⟩ => ⟨S2x4096x1024, .f32⟩
  | .hbm, ⟨65, _⟩ => ⟨S_, .f32⟩
  | .hbm, ⟨66, _⟩ => ⟨S2x4096, .f32⟩
  | .hbm, ⟨67, _⟩ => ⟨S2x4096x1, .f32⟩
  | .hbm, ⟨68, _⟩ => ⟨S2x4096x1024, .f32⟩
  | .hbm, ⟨69, _⟩ => ⟨S2x4096x1024, .f32⟩
  | .hbm, ⟨70, _⟩ => ⟨S2x4096x1024, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S_, .f32⟩
  | .hbm, ⟨76, _⟩ => ⟨S2x4096, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x1x1024, .f32⟩
  | .hbm, ⟨83, _⟩ => ⟨S2x1x1024, .f32⟩
  | .hbm, ⟨84, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x1024 : Shape := ⟨2, ![2, 1024]⟩
abbrev S1024 : Shape := ⟨1, ![1024]⟩
abbrev S1024x3248 : Shape := ⟨2, ![1024, 3248]⟩
abbrev S2x4096x3248 : Shape := ⟨3, ![2, 4096, 3248]⟩
abbrev S2x1x1024 : Shape := ⟨3, ![2, 1, 1024]⟩
abbrev S_ : Shape := ⟨0, ![]⟩
abbrev S2x4096x1536 : Shape := ⟨3, ![2, 4096, 1536]⟩
abbrev S2x4096x16 : Shape := ⟨3, ![2, 4096, 16]⟩
abbrev S2x4096x384 : Shape := ⟨3, ![2, 4096, 384]⟩
abbrev S2x4096x256 : Shape := ⟨3, ![2, 4096, 256]⟩
abbrev S2x4096x32 : Shape := ⟨3, ![2, 4096, 32]⟩
abbrev S2x4096x80 : Shape := ⟨3, ![2, 4096, 80]⟩
abbrev S2x4096x128 : Shape := ⟨3, ![2, 4096, 128]⟩
abbrev S3248x1024 : Shape := ⟨2, ![3248, 1024]⟩
abbrev S2560x1024 : Shape := ⟨2, ![2560, 1024]⟩
abbrev S640x1024 : Shape := ⟨2, ![640, 1024]⟩
abbrev S16x1024 : Shape := ⟨2, ![16, 1024]⟩
abbrev S32x1024 : Shape := ⟨2, ![32, 1024]⟩
abbrev S80x1024 : Shape := ⟨2, ![80, 1024]⟩
abbrev S3328x1024 : Shape := ⟨2, ![3328, 1024]⟩
abbrev S1x1024 : Shape := ⟨2, ![1, 1024]⟩
abbrev S1x512x1024 : Shape := ⟨3, ![1, 512, 1024]⟩
abbrev S1x512x1536 : Shape := ⟨3, ![1, 512, 1536]⟩
abbrev S1x512x384 : Shape := ⟨3, ![1, 512, 384]⟩
abbrev S1x512x256 : Shape := ⟨3, ![1, 512, 256]⟩
abbrev S1x512x128 : Shape := ⟨3, ![1, 512, 128]⟩
abbrev S1x1x1024 : Shape := ⟨3, ![1, 1, 1024]⟩
abbrev S512x1024 : Shape := ⟨2, ![512, 1024]⟩
abbrev S1024x1024 : Shape := ⟨2, ![1024, 1024]⟩
abbrev S512x1536 : Shape := ⟨2, ![512, 1536]⟩
abbrev S1536x1024 : Shape := ⟨2, ![1536, 1024]⟩
abbrev S512x384 : Shape := ⟨2, ![512, 384]⟩
abbrev S384x1024 : Shape := ⟨2, ![384, 1024]⟩
abbrev S512x256 : Shape := ⟨2, ![512, 256]⟩
abbrev S256x1024 : Shape := ⟨2, ![256, 1024]⟩
abbrev S512x128 : Shape := ⟨2, ![512, 128]⟩
abbrev S128x1024 : Shape := ⟨2, ![128, 1024]⟩
abbrev S512 : Shape := ⟨1, ![512]⟩
abbrev S512x1 : Shape := ⟨2, ![512, 1]⟩

abbrev nBuf : Space → Nat
  | .hbm => 45
  | .vmem => 33
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1024, .f32⟩
  | .hbm, ⟨3, _⟩ => ⟨S1024, .f32⟩
  | .hbm, ⟨4, _⟩ => ⟨S2x1024, .f32⟩
  | .hbm, ⟨5, _⟩ => ⟨S2x1024, .f32⟩
  | .hbm, ⟨6, _⟩ => ⟨S1024x3248, .f32⟩
  | .hbm, ⟨7, _⟩ => ⟨S2x4096x1024, .f32⟩
  | .hbm, ⟨8, _⟩ => ⟨S2x4096x3248, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x3248, .bf16⟩
  | .hbm, ⟨17, _⟩ => ⟨S2x4096x1024, .bf16⟩
  | .hbm, ⟨18, _⟩ => ⟨S2x4096x1536, .bf16⟩
  | .hbm, ⟨19, _⟩ => ⟨S2x4096x16, .bf16⟩
  | .hbm, ⟨20, _⟩ => ⟨S2x4096x384, .bf16⟩
  | .hbm, ⟨21, _⟩ => ⟨S2x4096x256, .bf16⟩
  | .hbm, ⟨22, _⟩ => ⟨S2x4096x32, .bf16⟩
  | .hbm, ⟨23, _⟩ => ⟨S_, .bf16⟩
  | .hbm, ⟨24, _⟩ => ⟨S2x4096x80, .bf16⟩
  | .hbm, ⟨25, _⟩ => ⟨S2x4096x128, .bf16⟩
  | .hbm, ⟨26, _⟩ => ⟨S2x4096x1024, .bf16⟩
  | .hbm, ⟨27, _⟩ => ⟨S2x1x1024, .f32⟩
  | .hbm, ⟨28, _⟩ => ⟨S3248x1024, .f32⟩
  | .hbm, ⟨29, _⟩ => ⟨S3248x1024, .bf16⟩
  | .hbm, ⟨30, _⟩ => ⟨S2560x1024, .bf16⟩
  | .hbm, ⟨31, _⟩ => ⟨S640x1024, .bf16⟩
  | .hbm, ⟨32, _⟩ => ⟨S16x1024, .bf16⟩
  | .hbm, ⟨33, _⟩ => ⟨S32x1024, .bf16⟩
  | .hbm, ⟨34, _⟩ => ⟨S_, .bf16⟩
  | .hbm, ⟨35, _⟩ => ⟨S80x1024, .bf16⟩
  | .hbm, ⟨36, _⟩ => ⟨S3328x1024, .bf16⟩
  | .hbm, ⟨37, _⟩ => ⟨S1x1024, .f32⟩
  | .hbm, ⟨38, _⟩ => ⟨S2x1x1024, .f32⟩
  | .hbm, ⟨39, _⟩ => ⟨S2x4096x1024, .f32⟩
  | .hbm, ⟨40, _⟩ => ⟨S2x1x1024, .f32⟩
  | .hbm, ⟨41, _⟩ => ⟨S2x1x1024, .f32⟩
  | .hbm, ⟨42, _⟩ => ⟨S1x1024, .f32⟩
  | .hbm, ⟨43, _⟩ => ⟨S2x4096x1024, .bf16⟩
  | .hbm, ⟨44, _⟩ => ⟨S2x1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1536, .bf16⟩
  | .local _ .vmem, ⟨3, _⟩ => ⟨S1x512x1536, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x128, .bf16⟩
  | .local _ .vmem, ⟨9, _⟩ => ⟨S1x512x128, .bf16⟩
  | .local _ .vmem, ⟨10, _⟩ => ⟨S3328x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1024, .f32⟩
  | .local _ .vmem, ⟨29, _⟩ => ⟨S1x512x1024, .bf16⟩
  | .local _ .vmem, ⟨30, _⟩ => ⟨S1x512x1024, .bf16⟩
  | .local _ .vmem, ⟨31, _⟩ => ⟨S1x1x1024, .f32⟩
  | .local _ .vmem, ⟨32, _⟩ => ⟨S1x1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev main_v27_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3328x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference6Ideal.lean ====
abbrev S2x4096x1024 : Shape := ⟨3, ![2, 4096, 1024]⟩
abbrev S2x1024 : Shape := ⟨2, ![2, 1024]⟩
abbrev S1024 : Shape := ⟨1, ![1024]⟩
abbrev S1024x3248 : Shape := ⟨2, ![1024, 3248]⟩
abbrev S2x4096x3248 : Shape := ⟨3, ![2, 4096, 3248]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x1024, .f32⟩
  | .hbm, ⟨3, _⟩ => ⟨S1024, .f32⟩
  | .hbm, ⟨4, _⟩ => ⟨S2x1024, .f32⟩
  | .hbm, ⟨5, _⟩ => ⟨S2x1024, .f32⟩
  | .hbm, ⟨6, _⟩ => ⟨S1024x3248, .f32⟩
  | .hbm, ⟨7, _⟩ => ⟨S2x4096x1024, .f32⟩
  | .hbm, ⟨8, _⟩ => ⟨S2x4096x3248, .f32⟩
  | .hbm, ⟨9, _⟩ => ⟨S2x1x1024, .f32⟩
  | .hbm, ⟨10, _⟩ => ⟨S_, .f32⟩
  | .hbm, ⟨11, _⟩ => ⟨S2x1x1024, .f32⟩
  | .hbm, ⟨12, _⟩ => ⟨S2x1x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1024, .f32⟩
  | .hbm, ⟨32, _⟩ => ⟨S2x4096x1024, .f32⟩
  | .hbm, ⟨33, _⟩ => ⟨S1x1x1024, .f32⟩
  | .hbm, ⟨34, _⟩ => ⟨S2x4096x1024, .f32⟩
  | .hbm, ⟨35, _⟩ => ⟨S2x4096x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x4096x1024, .f32⟩
  | .hbm, ⟨41, _⟩ => ⟨S2x4096x1024, .f32⟩
  | .hbm, ⟨42, _⟩ => ⟨S2x1x1024, .f32⟩
  | .hbm, ⟨43, _⟩ => ⟨S2x4096x1024, .f32⟩
  | .hbm, ⟨44, _⟩ => ⟨S2x4096x1024, .f32⟩
  | .hbm, ⟨45, _⟩ => ⟨S2x4096x3248, .f32⟩
  | .hbm, ⟨46, _⟩ => ⟨S2x4096x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S_, .f32⟩
  | .hbm, ⟨51, _⟩ => ⟨S2x1024, .f32⟩
  | .hbm, ⟨52, _⟩ => ⟨S2x4096x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S2x1024, .f32⟩
  | .hbm, ⟨60, _⟩ => ⟨S2x4096x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S2x4096x1024, .f32⟩
  | .hbm, ⟨65, _⟩ => ⟨S2x4096x1024, .f32⟩
  | .hbm, ⟨66, _⟩ => ⟨S_, .f32⟩
  | .hbm, ⟨67, _⟩ => ⟨S1024, .f32⟩
  | .hbm, ⟨68, _⟩ => ⟨S2x4096x1024, .f32⟩
  | .hbm, ⟨69, _⟩ => ⟨S_, .f32⟩
  | .hbm, ⟨70, _⟩ => ⟨S2x4096, .f32⟩
  | .hbm, ⟨71, _⟩ => ⟨S2x4096x1, .f32⟩
  | .hbm, ⟨72, _⟩ => ⟨S2x4096x1024, .f32⟩
  | .hbm, ⟨73, _⟩ => ⟨S2x4096x1024, .f32⟩
  | .hbm, ⟨74, _⟩ => ⟨S2x4096x1024, .f32⟩
  | .hbm, ⟨75, _⟩ => ⟨S2x4096x1, .f32⟩
  | .hbm, ⟨76, _⟩ => ⟨S_, .f32⟩
  | .hbm, ⟨77, _⟩ => ⟨S2x4096x1, .f32⟩
  | .hbm, ⟨78, _⟩ => ⟨S2x4096x1, .f32⟩
  | .hbm, ⟨79, _⟩ => ⟨S_, .f32⟩
  | .hbm, ⟨80, _⟩ => ⟨S2x4096, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S2x4096x1024, .f32⟩
  | .hbm, ⟨89, _⟩ => ⟨S2x4096x1024, .f32⟩
  | .hbm, ⟨90, _⟩ => ⟨S_, .f32⟩
  | .hbm, ⟨91, _⟩ => ⟨S2x1024, .f32⟩
  | .hbm, ⟨92, _⟩ => ⟨S2x1x1024, .f32⟩
  | .hbm, ⟨93, _⟩ => ⟨S_, .f32⟩
  | .hbm, ⟨94, _⟩ => ⟨S2x1x1024, .f32⟩
  | .hbm, ⟨95, _⟩ => ⟨S2x1x1024, .f32⟩
  | .hbm, ⟨96, _⟩ => ⟨S_, .f32⟩
  | .hbm, ⟨97, _⟩ => ⟨S2x1024, .f32⟩
  | .hbm, ⟨98, _⟩ => ⟨S2x1x1024, .f32⟩
  | .hbm, ⟨99, _⟩ => ⟨S2x1x1024, .f32⟩
  | .hbm, ⟨100, _⟩ => ⟨S1x1024, .f32⟩
  | .hbm, ⟨101, _⟩ => ⟨S2x4096x1024, .bf16⟩
  | .hbm, ⟨102, _⟩ => ⟨S2x1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Kernel7.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S1024 : Shape := ⟨1, ![1024]⟩
abbrev S1x1024 : Shape := ⟨2, ![1, 1024]⟩
abbrev S2x1x1024 : Shape := ⟨3, ![2, 1, 1024]⟩
abbrev S1x1024x2816 : Shape := ⟨3, ![1, 1024, 2816]⟩
abbrev S1x1024x1024 : Shape := ⟨3, ![1, 1024, 1024]⟩
abbrev S1x1x1024 : Shape := ⟨3, ![1, 1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 16
  | .vmem => 18
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S2x4096x2816, .bf16⟩
  | .hbm, ⟨11, _⟩ => ⟨S2816x1024, .bf16⟩
  | .hbm, ⟨12, _⟩ => ⟨S2x1x1024, .f32⟩
  | .hbm, ⟨13, _⟩ => ⟨S2x4096x1024, .f32⟩
  | .hbm, ⟨14, _⟩ => ⟨S2x4096x1024, .bf16⟩
  | .hbm, ⟨15, _⟩ => ⟨S2x4096x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S1024 : Shape := ⟨1, ![1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S2x4096x1024, .f32⟩
  | .hbm, ⟨8, _⟩ => ⟨S2x1x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .bf16⟩
  | .hbm, ⟨16, _⟩ => ⟨S2x4096x1024, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x1024, .f32⟩
  | .hbm, ⟨28, _⟩ => ⟨S2x4096x1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S2x1x1024, .f32⟩
  | .hbm, ⟨39, _⟩ => ⟨S2x4096x1024, .f32⟩
  | .hbm, ⟨40, _⟩ => ⟨S2x4096x1024, .f32⟩
  | .hbm, ⟨41, _⟩ => ⟨S2x4096x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel8.lean ====
abbrev S2x4096x1024 : Shape := ⟨3, ![2, 4096, 1024]⟩
abbrev S1024x3248 : Shape := ⟨2, ![1024, 3248]⟩
abbrev S3248x1024 : Shape := ⟨2, ![3248, 1024]⟩
abbrev S2560x1024 : Shape := ⟨2, ![2560, 1024]⟩
abbrev S640x1024 : Shape := ⟨2, ![640, 1024]⟩
abbrev S16x1024 : Shape := ⟨2, ![16, 1024]⟩
abbrev S32x1024 : Shape := ⟨2, ![32, 1024]⟩
abbrev S_ : Shape := ⟨0, ![]⟩
abbrev S80x1024 : Shape := ⟨2, ![80, 1024]⟩
abbrev S3328x1024 : Shape := ⟨2, ![3328, 1024]⟩
abbrev S2x4096x1536 : Shape := ⟨3, ![2, 4096, 1536]⟩
abbrev S2x4096x384 : Shape := ⟨3, ![2, 4096, 384]⟩
abbrev S2x4096x256 : Shape := ⟨3, ![2, 4096, 256]⟩
abbrev S2x4096x128 : Shape := ⟨3, ![2, 4096, 128]⟩
abbrev S1x512x1024 : Shape := ⟨3, ![1, 512, 1024]⟩
abbrev S1x512x1536 : Shape := ⟨3, ![1, 512, 1536]⟩
abbrev S1x512x384 : Shape := ⟨3, ![1, 512, 384]⟩
abbrev S1x512x256 : Shape := ⟨3, ![1, 512, 256]⟩
abbrev S1x512x128 : Shape := ⟨3, ![1, 512, 128]⟩
abbrev S512x1024 : Shape := ⟨2, ![512, 1024]⟩
abbrev S512x3328 : Shape := ⟨2, ![512, 3328]⟩
abbrev S512x1536 : Shape := ⟨2, ![512, 1536]⟩
abbrev S512x384 : Shape := ⟨2, ![512, 384]⟩
abbrev S512x256 : Shape := ⟨2, ![512, 256]⟩
abbrev S512x128 : Shape := ⟨2, ![512, 128]⟩
abbrev S2x4096x16 : Shape := ⟨3, ![2, 4096, 16]⟩
abbrev S2x4096x32 : Shape := ⟨3, ![2, 4096, 32]⟩

abbrev nBuf : Space → Nat
  | .hbm => 19
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S1024x3248, .f32⟩
  | .hbm, ⟨2, _⟩ => ⟨S2x4096x1024, .bf16⟩
  | .hbm, ⟨3, _⟩ => ⟨S3248x1024, .f32⟩
  | .hbm, ⟨4, _⟩ => ⟨S3248x1024, .bf16⟩
  | .hbm, ⟨5, _⟩ => ⟨S2560x1024, .bf16⟩
  | .hbm, ⟨6, _⟩ => ⟨S640x1024, .bf16⟩
  | .hbm, ⟨7, _⟩ => ⟨S16x1024, .bf16⟩
  | .hbm, ⟨8, _⟩ => ⟨S32x1024, .bf16⟩
  | .hbm, ⟨9, _⟩ => ⟨S_, .bf16⟩
  | .hbm, ⟨10, _⟩ => ⟨S80x1024, .bf16⟩
  | .hbm, ⟨11, _⟩ => ⟨S3328x1024, .bf16⟩
  | .hbm, ⟨12, _⟩ => ⟨S2x4096x1024, .f32⟩
  | .hbm, ⟨13, _⟩ => ⟨S2x4096x1536, .f32⟩
  | .hbm, ⟨14, _⟩ => ⟨S2x4096x384, .f32⟩
  | .hbm, ⟨15, _⟩ => ⟨S2x4096x256, .f32⟩
  | .hbm, ⟨16, _⟩ => ⟨S2x4096x128, .f32⟩
  | .hbm, ⟨17, _⟩ => ⟨S2x4096x16, .f32⟩
  | .hbm, ⟨18, _⟩ => ⟨S2x4096x32, .f32⟩
  | .local _ .vmem, ⟨0, _⟩ => ⟨S1x512x1024, .bf16⟩
  | .local _ .vmem, ⟨1, _⟩ => ⟨S1x512x1024, .bf16⟩
  | .local _ .vmem, ⟨2, _⟩ => ⟨S3328x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1536, .f32⟩
  | .local _ .vmem, ⟨6, _⟩ => ⟨S1x512x1536, .f32⟩
  | .local _ .vmem, ⟨7, _⟩ => ⟨S1x512x384, .f32⟩
  | .local _ .vmem, ⟨8, _⟩ => ⟨S1x512x384, .f32⟩
  | .local _ .vmem, ⟨9, _⟩ => ⟨S1x512x256, .f32⟩
  | .local _ .vmem, ⟨10, _⟩ => ⟨S1x512x256, .f32⟩
  | .local _ .vmem, ⟨11, _⟩ => ⟨S1x512x128, .f32⟩
  | .local _ .vmem, ⟨12, _⟩ => ⟨S1x512x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3328x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S2x4096x1024 : Shape := ⟨3, ![2, 4096, 1024]⟩
abbrev S1024x3248 : Shape := ⟨2, ![1024, 3248]⟩
abbrev S2x4096x3248 : Shape := ⟨3, ![2, 4096, 3248]⟩
abbrev S2x4096x256 : Shape := ⟨3, ![2, 4096, 256]⟩
abbrev S2x4096x16 : Shape := ⟨3, ![2, 4096, 16]⟩
abbrev S2x4096x384 : Shape := ⟨3, ![2, 4096, 384]⟩
abbrev S2x4096x32 : Shape := ⟨3, ![2, 4096, 32]⟩
abbrev S2x4096x1536 : Shape := ⟨3, ![2, 4096, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x3248, .f32⟩
  | .hbm, ⟨2, _⟩ => ⟨S2x4096x3248, .f32⟩
  | .hbm, ⟨3, _⟩ => ⟨S2x4096x1024, .f32⟩
  | .hbm, ⟨4, _⟩ => ⟨S2x4096x1024, .f32⟩
  | .hbm, ⟨5, _⟩ => ⟨S2x4096x256, .f32⟩
  | .hbm, ⟨6, _⟩ => ⟨S2x4096x256, .f32⟩
  | .hbm, ⟨7, _⟩ => ⟨S2x4096x16, .f32⟩
  | .hbm, ⟨8, _⟩ => ⟨S2x4096x384, .f32⟩
  | .hbm, ⟨9, _⟩ => ⟨S2x4096x256, .f32⟩
  | .hbm, ⟨10, _⟩ => ⟨S2x4096x32, .f32⟩
  | .hbm, ⟨11, _⟩ => ⟨S2x4096x1536, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel9.lean ====
abbrev S2x4096x1024 : Shape := ⟨3, ![2, 4096, 1024]⟩
abbrev S1024x3248 : Shape := ⟨2, ![1024, 3248]⟩
abbrev S2x4096x3248 : Shape := ⟨3, ![2, 4096, 3248]⟩
abbrev S2x4096x1536 : Shape := ⟨3, ![2, 4096, 1536]⟩
abbrev S2x4096x16 : Shape := ⟨3, ![2, 4096, 16]⟩
abbrev S2x4096x384 : Shape := ⟨3, ![2, 4096, 384]⟩
abbrev S2x4096x256 : Shape := ⟨3, ![2, 4096, 256]⟩
abbrev S2x4096x32 : Shape := ⟨3, ![2, 4096, 32]⟩
abbrev S_ : Shape := ⟨0, ![]⟩
abbrev S2x4096x80 : Shape := ⟨3, ![2, 4096, 80]⟩
abbrev S2x4096x128 : Shape := ⟨3, ![2, 4096, 128]⟩
abbrev S8x406x1024 : Shape := ⟨3, ![8, 406, 1024]⟩
abbrev S1x1024x1024 : Shape := ⟨3, ![1, 1024, 1024]⟩
abbrev S1x1024x1536 : Shape := ⟨3, ![1, 1024, 1536]⟩
abbrev S1x1024x384 : Shape := ⟨3, ![1, 1024, 384]⟩
abbrev S1x1024x256 : Shape := ⟨3, ![1, 1024, 256]⟩
abbrev S1x1024x128 : Shape := ⟨3, ![1, 1024, 128]⟩
abbrev S3328x1024 : Shape := ⟨2, ![3328, 1024]⟩
abbrev S1024x1024 : Shape := ⟨2, ![1024, 1024]⟩
abbrev S1536x1024 : Shape := ⟨2, ![1536, 1024]⟩
abbrev S1024x1536 : Shape := ⟨2, ![1024, 1536]⟩
abbrev S384x1024 : Shape := ⟨2, ![384, 1024]⟩
abbrev S1024x384 : Shape := ⟨2, ![1024, 384]⟩
abbrev S256x1024 : Shape := ⟨2, ![256, 1024]⟩
abbrev S1024x256 : Shape := ⟨2, ![1024, 256]⟩
abbrev S128x1024 : Shape := ⟨2, ![128, 1024]⟩
abbrev S1024x128 : Shape := ⟨2, ![1024, 128]⟩
abbrev S406x1024 : Shape := ⟨2, ![406, 1024]⟩
abbrev S1x406x1024 : Shape := ⟨3, ![1, 406, 1024]⟩
abbrev S124x1024 : Shape := ⟨2, ![124, 1024]⟩
abbrev S1x124x1024 : Shape := ⟨3, ![1, 124, 1024]⟩
abbrev S16x1024 : Shape := ⟨2, ![16, 1024]⟩
abbrev S1x16x1024 : Shape := ⟨3, ![1, 16, 1024]⟩
abbrev S266x1024 : Shape := ⟨2, ![266, 1024]⟩
abbrev S1x266x1024 : Shape := ⟨3, ![1, 266, 1024]⟩
abbrev S118x1024 : Shape := ⟨2, ![118, 1024]⟩
abbrev S1x118x1024 : Shape := ⟨3, ![1, 118, 1024]⟩
abbrev S1x256x1024 : Shape := ⟨3, ![1, 256, 1024]⟩
abbrev S32x1024 : Shape := ⟨2, ![32, 1024]⟩
abbrev S1x32x1024 : Shape := ⟨3, ![1, 32, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S1024x3248, .f32⟩
  | .hbm, ⟨2, _⟩ => ⟨S2x4096x3248, .f32⟩
  | .hbm, ⟨3, _⟩ => ⟨S2x4096x3248, .bf16⟩
  | .hbm, ⟨4, _⟩ => ⟨S2x4096x1024, .bf16⟩
  | .hbm, ⟨5, _⟩ => ⟨S2x4096x1536, .bf16⟩
  | .hbm, ⟨6, _⟩ => ⟨S2x4096x16, .bf16⟩
  | .hbm, ⟨7, _⟩ => ⟨S2x4096x384, .bf16⟩
  | .hbm, ⟨8, _⟩ => ⟨S2x4096x256, .bf16⟩
  | .hbm, ⟨9, _⟩ => ⟨S2x4096x32, .bf16⟩
  | .hbm, ⟨10, _⟩ => ⟨S_, .bf16⟩
  | .hbm, ⟨11, _⟩ => ⟨S2x4096x80, .bf16⟩
  | .hbm, ⟨12, _⟩ => ⟨S2x4096x128, .bf16⟩
  | .hbm, ⟨13, _⟩ => ⟨S2x4096x1024, .bf16⟩
  | .hbm, ⟨14, _⟩ => ⟨S8x406x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x1024x384, .bf16⟩
  | .local _ .vmem, ⟨5, _⟩ => ⟨S1x1024x384, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S8x406x1024, .bf16⟩
  | .local _ .vmem, ⟨13, _⟩ => ⟨S3328x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v50 : BitVec 32 := Scalar.extui v5
  let c0_i32_39 : BitVec 32 := 0#32
  let v51 : BitVec 1 := Scalar.cmpi .ne v50 c0_i32_39
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x406x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S2x4096x1024 : Shape := ⟨3, ![2, 4096, 1024]⟩
abbrev S1024x3248 : Shape := ⟨2, ![1024, 3248]⟩
abbrev S2x4096x3248 : Shape := ⟨3, ![2, 4096, 3248]⟩
abbrev S3248x1024 : Shape := ⟨2, ![3248, 1024]⟩
abbrev S8x406x1024 : Shape := ⟨3, ![8, 406, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x3248, .f32⟩
  | .hbm, ⟨2, _⟩ => ⟨S2x4096x3248, .f32⟩
  | .hbm, ⟨3, _⟩ => ⟨S2x4096x3248, .f32⟩
  | .hbm, ⟨4, _⟩ => ⟨S3248x1024, .f32⟩
  | .hbm, ⟨5, _⟩ => ⟨S1024x3248, .f32⟩
  | .hbm, ⟨6, _⟩ => ⟨S3248x1024, .f32⟩
  | .hbm, ⟨7, _⟩ => ⟨S8x406x1024, .f32⟩
  | .hbm, ⟨8, _⟩ => ⟨S8x406x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2x4096x1024 : Shape := ⟨3, ![2, 4096, 1024]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x1024, .f32⟩
  | .hbm, ⟨3, _⟩ => ⟨S2x4096x1024, .f32⟩
  | .hbm, ⟨4, _⟩ => ⟨S2x4096x1024, .bf16⟩
  | .hbm, ⟨5, _⟩ => ⟨S2x4096x1024, .bf16⟩
  | .hbm, ⟨6, _⟩ => ⟨S2x4096x1024, .bf16⟩
  | .hbm, ⟨7, _⟩ => ⟨S2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .bf16⟩
  | .local _ .vmem, ⟨7, _⟩ => ⟨S2048x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c1_i32_1 : BitVec 32 := 1#32
  let v4 : BitVec 1 := Scalar.cmpi .eq arg1 c1_i32_1
  let v5 : BitVec 1 := Scalar.andi v3 v4
  let v26 : BitVec 32 := Scalar.extui v5
  let c0_i32_19 : BitVec 32 := 0#32
  let v27 : BitVec 1 := Scalar.cmpi .ne v26 c0_i32_19
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference10Ideal.lean ====
abbrev S2x4096x1024 : Shape := ⟨3, ![2, 4096, 1024]⟩
abbrev S2048x1024 : Shape := ⟨2, ![2048, 1024]⟩
abbrev S2x4096x2048 : Shape := ⟨3, ![2, 4096, 2048]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x1024, .f32⟩
  | .hbm, ⟨3, _⟩ => ⟨S2x4096x1024, .f32⟩
  | .hbm, ⟨4, _⟩ => ⟨S2x4096x2048, .f32⟩
  | .hbm, ⟨5, _⟩ => ⟨S2x4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S2x4096x1024 : Shape := ⟨3, ![2, 4096, 1024]⟩
abbrev S1024 : Shape := ⟨1, ![1024]⟩
abbrev S2048x1024 : Shape := ⟨2, ![2048, 1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 20
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2048x1024, .f32⟩
  | .hbm, ⟨4, _⟩ => ⟨S2x4096x1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S1x1024, .f32⟩
  | .hbm, ⟨10, _⟩ => ⟨S2x1x1024, .f32⟩
  | .hbm, ⟨11, _⟩ => ⟨S2x1x1024, .f32⟩
  | .hbm, ⟨12, _⟩ => ⟨S2x4096x1024, .bf16⟩
  | .hbm, ⟨13, _⟩ => ⟨S1x1024, .f32⟩
  | .hbm, ⟨14, _⟩ => ⟨S2048x1024, .bf16⟩
  | .hbm, ⟨15, _⟩ => ⟨S2x1x1024, .f32⟩
  | .hbm, ⟨16, _⟩ => ⟨S2x4096x1024, .f32⟩
  | .hbm, ⟨17, _⟩ => ⟨S2x4096x1024, .bf16⟩
  | .hbm, ⟨18, _⟩ => ⟨S2x4096x1024, .bf16⟩
  | .hbm, ⟨19, _⟩ => ⟨S2x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference11Ideal.lean ====
abbrev S2x4096x1024 : Shape := ⟨3, ![2, 4096, 1024]⟩
abbrev S1024 : Shape := ⟨1, ![1024]⟩
abbrev S2048x1024 : Shape := ⟨2, ![2048, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S2x1x1024 : Shape := ⟨3, ![2, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2048x1024, .f32⟩
  | .hbm, ⟨4, _⟩ => ⟨S2x4096x1024, .f32⟩
  | .hbm, ⟨5, _⟩ => ⟨S2x1024, .f32⟩
  | .hbm, ⟨6, _⟩ => ⟨S1024, .f32⟩
  | .hbm, ⟨7, _⟩ => ⟨S2x1024, .f32⟩
  | .hbm, ⟨8, _⟩ => ⟨S2x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x2048, .f32⟩
  | .hbm, ⟨26, _⟩ => ⟨S2x4096x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .bf16⟩
  | .hbm, ⟨32, _⟩ => ⟨S2x4096x1024, .bf16⟩
  | .hbm, ⟨33, _⟩ => ⟨S2x4096x1024, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x1024, .f32⟩
  | .hbm, ⟨45, _⟩ => ⟨S2x4096x1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S2x1x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S2x4096x1024, .f32⟩
  | .hbm, ⟨54, _⟩ => ⟨S2x4096x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel12.lean ====
abbrev S2x4096x1024 : Shape := ⟨3, ![2, 4096, 1024]⟩
abbrev S1024 : Shape := ⟨1, ![1024]⟩
abbrev S2048x1024 : Shape := ⟨2, ![2048, 1024]⟩
abbrev S1x1024 : Shape := ⟨2, ![1, 1024]⟩
abbrev S2x8x4096 : Shape := ⟨3, ![2, 8, 4096]⟩
abbrev S1x512x1024 : Shape := ⟨3, ![1, 512, 1024]⟩
abbrev S1x8x512 : Shape := ⟨3, ![1, 8, 512]⟩
abbrev S512x128 : Shape := ⟨2, ![512, 128]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S128x512 : Shape := ⟨2, ![128, 512]⟩
abbrev S8x512 : Shape := ⟨2, ![8, 512]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2048x1024, .f32⟩
  | .hbm, ⟨4, _⟩ => ⟨S2x4096x1024, .f32⟩
  | .hbm, ⟨5, _⟩ => ⟨S2x4096x1024, .bf16⟩
  | .hbm, ⟨6, _⟩ => ⟨S1x1024, .f32⟩
  | .hbm, ⟨7, _⟩ => ⟨S2048x1024, .bf16⟩
  | .hbm, ⟨8, _⟩ => ⟨S2x4096x1024, .f32⟩
  | .hbm, ⟨9, _⟩ => ⟨S2x4096x1024, .bf16⟩
  | .hbm, ⟨10, _⟩ => ⟨S2x8x4096, .f32⟩
  | .hbm, ⟨11, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x8x512, .f32⟩
  | .local _ .vmem, ⟨11, _⟩ => ⟨S1x8x512, .f32⟩
  | .local _ .vmem, ⟨12, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference12Ideal.lean ====
abbrev S2x4096x1024 : Shape := ⟨3, ![2, 4096, 1024]⟩
abbrev S1024 : Shape := ⟨1, ![1024]⟩
abbrev S2048x1024 : Shape := ⟨2, ![2048, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S2x4096x8x128 : Shape := ⟨4, ![2, 4096, 8, 128]⟩
abbrev S2x4096x8 : Shape := ⟨3, ![2, 4096, 8]⟩
abbrev S2x8x4096 : Shape := ⟨3, ![2, 8, 4096]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S2048x1024, .f32⟩
  | .hbm, ⟨4, _⟩ => ⟨S2x4096x1024, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x2048, .f32⟩
  | .hbm, ⟨26, _⟩ => ⟨S2x4096x1024, .f32⟩
  | .hbm, ⟨27, _⟩ => ⟨S2x4096x2048, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S_, .f32⟩
  | .hbm, ⟨32, _⟩ => ⟨S1024, .f32⟩
  | .hbm, ⟨33, _⟩ => ⟨S1x1x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S1024, .f32⟩
  | .hbm, ⟨38, _⟩ => ⟨S2x4096x1024, .f32⟩
  | .hbm, ⟨39, _⟩ => ⟨S_, .f32⟩
  | .hbm, ⟨40, _⟩ => ⟨S2x4096, .f32⟩
  | .hbm, ⟨41, _⟩ => ⟨S2x4096x1, .f32⟩
  | .hbm, ⟨42, _⟩ => ⟨S2x4096x1024, .f32⟩
  | .hbm, ⟨43, _⟩ => ⟨S2x4096x1024, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S2x4096x8x128, .f32⟩
  | .hbm, ⟨57, _⟩ => ⟨S_, .f32⟩
  | .hbm, ⟨58, _⟩ => ⟨S2x4096x8, .f32⟩
  | .hbm, ⟨59, _⟩ => ⟨S2x4096x1024, .bf16⟩
  | .hbm, ⟨60, _⟩ => ⟨S2x8x4096, .f32⟩
  | .hbm, ⟨61, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel13.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S1024 : Shape := ⟨1, ![1024]⟩
abbrev S2x1x1024 : Shape := ⟨3, ![2, 1, 1024]⟩
abbrev S1x1024 : Shape := ⟨2, ![1, 1024]⟩
abbrev S1x128 : Shape := ⟨2, ![1, 128]⟩
abbrev S1x1024x2816 : Shape := ⟨3, ![1, 1024, 2816]⟩
abbrev S1x1024x1024 : Shape := ⟨3, ![1, 1024, 1024]⟩
abbrev S1x1x1024 : Shape := ⟨3, ![1, 1, 1024]⟩
abbrev S1024x2816 : Shape := ⟨2, ![1024, 2816]⟩
abbrev S1024x1024 : Shape := ⟨2, ![1024, 1024]⟩
abbrev S1024x1 : Shape := ⟨2, ![1024, 1]⟩
abbrev S1 : Shape := ⟨1, ![1]⟩
abbrev S1x1x1 : Shape := ⟨3, ![1, 1, 1]⟩

abbrev nBuf : Space → Nat
  | .hbm => 15
  | .vmem => 18
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x1024, .f32⟩
  | .hbm, ⟨4, _⟩ => ⟨S1024, .f32⟩
  | .hbm, ⟨5, _⟩ => ⟨S2x4096x1024, .f32⟩
  | .hbm, ⟨6, _⟩ => ⟨S2x4096x2816, .bf16⟩
  | .hbm, ⟨7, _⟩ => ⟨S2816x1024, .bf16⟩
  | .hbm, ⟨8, _⟩ => ⟨S2x1x1024, .f32⟩
  | .hbm, ⟨9, _⟩ => ⟨S1x1024, .f32⟩
  | .hbm, ⟨10, _⟩ => ⟨S1x128, .f32⟩
  | .hbm, ⟨11, _⟩ => ⟨S2x4096x1024, .f32⟩
  | .hbm, ⟨12, _⟩ => ⟨S1x1024, .f32⟩
  | .hbm, ⟨13, _⟩ => ⟨S2x4096x1024, .bf16⟩
  | .hbm, ⟨14, _⟩ => ⟨S2x1x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x128, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1x1024, .f32⟩
  | .local _ .vmem, ⟨17, _⟩ => ⟨S1x1x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference13Ideal.lean ====
abbrev S2x4096x2816 : Shape := ⟨3, ![2, 4096, 2816]⟩
abbrev S2816x1024 : Shape := ⟨2, ![2816, 1024]⟩
abbrev S2x4096x1024 : Shape := ⟨3, ![2, 4096, 1024]⟩
abbrev S2x1024 : Shape := ⟨2, ![2, 1024]⟩
abbrev S1024 : Shape := ⟨1, ![1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x128 : Shape := ⟨2, ![1, 128]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S2816x1024, .f32⟩
  | .hbm, ⟨2, _⟩ => ⟨S2x4096x1024, .f32⟩
  | .hbm, ⟨3, _⟩ => ⟨S2x1024, .f32⟩
  | .hbm, ⟨4, _⟩ => ⟨S1024, .f32⟩
  | .hbm, ⟨5, _⟩ => ⟨S2x4096x1024, .f32⟩
  | .hbm, ⟨6, _⟩ => ⟨S2x4096x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S1x1x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096, .f32⟩
  | .hbm, ⟨41, _⟩ => ⟨S_, .f32⟩
  | .hbm, ⟨42, _⟩ => ⟨S2x4096, .f32⟩
  | .hbm, ⟨43, _⟩ => ⟨S2x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2x4096, .f32⟩
  | .hbm, ⟨52, _⟩ => ⟨S_, .f32⟩
  | .hbm, ⟨53, _⟩ => ⟨S2x4096, .f32⟩
  | .hbm, ⟨54, _⟩ => ⟨S2x4096, .f32⟩
  | .hbm, ⟨55, _⟩ => ⟨S2x4096x1024, .f32⟩
  | .hbm, ⟨56, _⟩ => ⟨S2x4096x1024, .f32⟩
  | .hbm, ⟨57, _⟩ => ⟨S2x4096x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x4096x1024, .f32⟩
  | .hbm, ⟨62, _⟩ => ⟨S2x4096x1024, .f32⟩
  | .hbm, ⟨63, _⟩ => ⟨S_, .f32⟩
  | .hbm, ⟨64, _⟩ => ⟨S1024, .f32⟩
  | .hbm, ⟨65, _⟩ => ⟨S2x4096x1024, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S2x4096x1024, .f32⟩
  | .hbm, ⟨70, _⟩ => ⟨S2x4096x1024, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S_, .f32⟩
  | .hbm, ⟨76, _⟩ => ⟨S2x4096, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S_, .f32⟩
  | .hbm, ⟨86, _⟩ => ⟨S2x1024, .f32⟩
  | .hbm, ⟨87, _⟩ => ⟨S2x1x1024, .f32⟩
  | .hbm, ⟨88, _⟩ => ⟨S_, .f32⟩
  | .hbm, ⟨89, _⟩ => ⟨S2x1x1024, .f32⟩
  | .hbm, ⟨90, _⟩ => ⟨S2x1x1024, .f32⟩
  | .hbm, ⟨91, _⟩ => ⟨S_, .f32⟩
  | .hbm, ⟨92, _⟩ => ⟨S2x1024, .f32⟩
  | .hbm, ⟨93, _⟩ => ⟨S1x128, .f32⟩
  | .hbm, ⟨94, _⟩ => ⟨S1x1024, .f32⟩
  | .hbm, ⟨95, _⟩ => ⟨S2x4096x1024, .bf16⟩
  | .hbm, ⟨96, _⟩ => ⟨S2x1x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_cst_9 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Proof.Spots.lean ====
/-
  An index of an array by its coordinates.
-/
module

public import Idealize.ShloMosaic.Lib.Pointwise

@[expose] public section

namespace Cert.Proof.Spots

open Idealize ShloMosaic ShloMosaic.Pointwise

theorem cube (n k l : ℕ) (y : (⟨3, ![n, k, l]⟩ : Shape).Idx) : ∃ a b c, y = ix3 a b c :=
  ⟨y 0, y 1, y 2, by funext a; fin_cases a <;> rfl⟩
theorem plane (n k : ℕ) (y : (⟨2, ![n, k]⟩ : Shape).Idx) : ∃ a b, y = ix2 a b :=
  ⟨y 0, y 1, by funext a; fin_cases a <;> rfl⟩
theorem front (n k : ℕ) (y : (⟨3, ![1, n, k]⟩ : Shape).Idx) : ∃ a b, y = ix3 0 a b :=
  ⟨y 1, y 2, by funext a; fin_cases a <;> first | rfl | exact Subsingleton.elim (α := Fin 1) _ _⟩
theorem line (n : ℕ) (y : (⟨2, ![1, n]⟩ : Shape).Idx) : ∃ a, y = ix2 0 a :=
  ⟨y 1, by funext a; fin_cases a <;> first | rfl | exact Subsingleton.elim (α := Fin 1) _ _⟩
theorem inner (n : ℕ) (y : (⟨3, ![1, 1, n]⟩ : Shape).Idx) : ∃ a, y = ix3 0 0 a :=
  ⟨y 2, by funext a; fin_cases a <;> first | rfl | exact Subsingleton.elim (α := Fin 1) _ _⟩
-- ==== Proof.WeightTile.lean ====
/-
  The gradient of a feed-forward weight: what one point of the grid adds to its block.
-/
module

public import proofs.«01_k».proof.Proof.Gen.Kernel2Ideal.Frame
public import Idealize.ShloMosaic.Lib.Pipeline.ValueKit

@[expose] public noncomputable section

set_option maxRecDepth 16384

namespace Cert.Proof.Weight

open Cert.Kernel2Ideal Cert.Kernel2Ideal.Gen
open Idealize ShloMosaic ShloMosaic.TcCoe ShloMosaic.Pointwise

/-- The product of a point's two blocks over its positions. -/
def part (xa : FVec Ideal S1x2048x1408 .bf16) (xb : FVec Ideal S1x2048x1024 .bf16) (f : Fin 1408) (d : Fin 1024) : EReal :=
  ∑ r : Fin 2048, xa (ix3 0 r f) * xb (ix3 0 r d)

theorem product_at (xa : FVec Ideal S1x2048x1408 .bf16) (xb : FVec Ideal S1x2048x1024 .bf16) (f : Fin 1408) (d : Fin 1024) :
    k0_pay1 (F := Ideal) xa xb (ix2 f d) = part xa xb f d := by
  unfold part
  pointwise [k0_pay1]

theorem first_at (xa : FVec Ideal S1x2048x1408 .bf16) (xb : FVec Ideal S1x2048x1024 .bf16) (f : Fin 1408) (d : Fin 1024) :
    k0_pay2 (F := Ideal) xa xb (ix2 f d) = part xa xb f d := by
  rw [← product_at]
  unfold k0_pay2
  generalize k0_pay1 (F := Ideal) xa xb = p
  pointwise []

theorem next_at (xa : FVec Ideal S1x2048x1408 .bf16) (xb : FVec Ideal S1x2048x1024 .bf16) (A : FVec Ideal S1408x1024 .f32) (f : Fin 1408) (d : Fin 1024) :
    k0_pay3 (F := Ideal) xa xb A (ix2 f d) = A (ix2 f d) + part xa xb f d := by
  rw [← product_at]
  unfold k0_pay3
  generalize k0_pay1 (F := Ideal) xa xb = p
  pointwise []

variable (m : (ℓ : Loc nD τ sig) → Buf (Elt Ideal) ℓ) (c : Dev nD)

theorem sum_first (t : Fin cfg0.N) (h : t.val % 4 = 0) (f : Fin 1408) (d : Fin 1024) :
    (outsAt0 m c t.val t.isLt).2 (ix2 f d) = part (iblk m c 0 t) (iblk m c 1 t) f d := by
  have hN : t.val < 8 := lt_of_lt_of_eq t.isLt (show cfg0.N = 8 from N_0)
  rw [outsAt0_A m c t h (by omega) (by omega)]
  frame_out
  exact first_at _ _ f d

theorem sum_next (t : Fin cfg0.N) (h : ¬t.val % 4 = 0) (f : Fin 1408) (d : Fin 1024) :
    (outsAt0 m c t.val t.isLt).2 (ix2 f d)
      = (outsAt0 m c (t.val - 1) (Nat.lt_of_le_of_lt (Nat.sub_le _ _) t.isLt)).2 (ix2 f d) + part (iblk m c 0 t) (iblk m c 1 t) f d := by
  have hN : t.val < 8 := lt_of_lt_of_eq t.isLt (show cfg0.N = 8 from N_0)
  by_cases h3 : t.val % 4 = 3
  · rw [outsAt0_C m c t h (by omega) h3]
    frame_out
    rw [next_at, (Memref.isWhole_whole _).read_unread]
  · rw [outsAt0_B m c t h (by omega) h3]
    frame_out
    rw [next_at, (Memref.isWhole_whole _).read_unread]

/-- At the last point of a run the block written is the accumulator. -/
theorem written (t : Fin cfg0.N) (h : t.val % 4 = 3) (f : Fin 1408) (d : Fin 1024) :
    (outsAt0 m c t.val t.isLt).1 (ix2 f d) = (outsAt0 m c t.val t.isLt).2 (ix2 f d) := by
  rw [outsAt0_C m c t (by omega) (by omega) h]
  frame_out
  unfold k0_pay4
  generalize k0_pay3 (F := Ideal) _ _ _ = p
  pointwise []

/-- The block written is the sum of its run's products. -/
theorem accumulated (t : Fin cfg0.N) (h : t.val % 4 = 3) (f : Fin 1408) (d : Fin 1024) :
    (outsAt0 m c t.val t.isLt).1 (ix2 f d)
      = ∑ s : Fin 4, part (iblk m c 0 ⟨4 * (t.val / 4) + s.val, Pipeline.run_point_lt_of_flush t h s⟩) (iblk m c 1 ⟨4 * (t.val / 4) + s.val, Pipeline.run_point_lt_of_flush t h s⟩) f d := by
  rw [written m c t h, Pipeline.eq_sum_fin_of_reset_step_of_flush (fun n hn => (outsAt0 m c n hn).2 (ix2 f d)) 4 0
    (fun t => part (iblk m c 0 t) (iblk m c 1 t) f d) (fun t h => by rw [zero_add]; exact sum_first m c t h f d)
    (fun t h => sum_next m c t h f d) t h, zero_add]
-- ==== Proof.Weight.lean ====
/-
  The gradient of a feed-forward weight is the reference's: the sum over every position of the activation's lane times the
  gradient's lane.
-/
module

public import proofs.«01_k».proof.Proof.Spots
public import proofs.«01_k».proof.Defs
public import proofs.«01_k».proof.Proof.WeightTile
public import proofs.«01_k».proof.Proof.Gen.Reference2Ideal.Read
public import Idealize.ShloMosaic.Lib.TwoAxisContraction
public import Idealize.ShloMosaic.Lib.StableHlo.RunRead

@[expose] public noncomputable section

set_option maxRecDepth 16384

namespace Cert.Proof.Weight

open Idealize ShloMosaic ShloMosaic.TcCoe SL.Sem ShloMosaic.Pointwise

/-- The gradient of the weight: the activations' products with the gradients, summed over batch members and positions. -/
def gradient (x : FVec Ideal ⟨3, ![2, 4096, 2816]⟩ .f32) (o : FVec Ideal ⟨3, ![2, 4096, 1024]⟩ .f32) : FVec Ideal ⟨2, ![2816, 1024]⟩ .bf16 := fun i =>
  ∑ b : Fin 2, ∑ s : Fin 4096, x (ix3 b s ⟨(i 0).val, (i 0).isLt⟩) * o (ix3 b s ⟨(i 1).val, (i 1).isLt⟩)

section kernel

open Cert.Kernel2Ideal Cert.Kernel2Ideal.Gen
local notation "Tc" => Thread nD τ

variable (m : (ℓ : Loc nD τ sig) → Buf (Elt Ideal) ℓ) (ρ : Dev nD → PrngReg) (c : Dev nD)

theorem at0 : ∀ t : Fin cfg0.N, win0_0.index t = ![t.val / 2 % 2, t.val % 2, t.val / 4] := by decide +kernel
theorem at1 : ∀ t : Fin cfg0.N, win0_1.index t = ![t.val / 2 % 2, t.val % 2, 0] := by decide +kernel
theorem at2 : ∀ t : Fin cfg0.N, win0_2.index t = ![t.val / 4, 0] := by decide +kernel

theorem below (t : Fin cfg0.N) : t.val < 8 := lt_of_lt_of_eq t.isLt (show cfg0.N = 8 from N_0)

theorem V_v0 : V m c main_v0 = (truncf .bf16 (m ((c : Tc).loc main_arg0) : FVec Ideal S2x4096x2816 .f32) bitsLt_bf16_f32 : FVec Ideal S2x4096x2816 .bf16) := by
  after_reads_simp
theorem V_v1 : V m c main_v1 = (truncf .bf16 (m ((c : Tc).loc main_arg2) : FVec Ideal S2x4096x1024 .f32) bitsLt_bf16_f32 : FVec Ideal S2x4096x1024 .bf16) := by
  after_reads_simp

theorem read0 (X : Buf (Elt Ideal) ((c : Tc).loc main_v0)) (t : Fin cfg0.N) (r : Fin 2048) (f : Fin 1408) (b : Fin 2) (s : Fin 4096) (g : Fin 2816)
    (hb : b.val = t.val / 2 % 2) (hs : s.val = t.val % 2 * 2048 + r.val) (hg : g.val = t.val / 4 * 1408 + f.val) :
    ((cfg0.win 0).blk t).view.read (Elt Ideal) X (ix3 0 r f) = (X : FVec Ideal S2x4096x2816 .bf16) (ix3 b s g) := by
  blk_simp
  refine congrArg X ?_
  blk_ext [at0]

theorem read1 (X : Buf (Elt Ideal) ((c : Tc).loc main_v1)) (t : Fin cfg0.N) (r : Fin 2048) (d : Fin 1024) (b : Fin 2) (s : Fin 4096)
    (hb : b.val = t.val / 2 % 2) (hs : s.val = t.val % 2 * 2048 + r.val) :
    ((cfg0.win 1).blk t).view.read (Elt Ideal) X (ix3 0 r d) = (X : FVec Ideal S2x4096x1024 .bf16) (ix3 b s d) := by
  blk_simp
  refine congrArg X ?_
  blk_ext [at1]

theorem block0 (t : Fin cfg0.N) (r : Fin 2048) (f : Fin 1408) (b : Fin 2) (s : Fin 4096) (g : Fin 2816)
    (hb : b.val = t.val / 2 % 2) (hs : s.val = t.val % 2 * 2048 + r.val) (hg : g.val = t.val / 4 * 1408 + f.val) :
    iblk m c 0 t (ix3 0 r f) = (m ((c : Tc).loc main_arg0) : FVec Ideal S2x4096x2816 .f32) (ix3 b s g) := by
  unfold iblk
  refine (read0 c (V m c main_v0) t r f b s g hb hs hg).trans ?_
  rw [V_v0]
  generalize m ((c : Tc).loc main_arg0) = X
  pointwise []

theorem block1 (t : Fin cfg0.N) (r : Fin 2048) (d : Fin 1024) (b : Fin 2) (s : Fin 4096)
    (hb : b.val = t.val / 2 % 2) (hs : s.val = t.val % 2 * 2048 + r.val) :
    iblk m c 1 t (ix3 0 r d) = (m ((c : Tc).loc main_arg2) : FVec Ideal S2x4096x1024 .f32) (ix3 b s d) := by
  unfold iblk
  refine (read1 c (V m c main_v1) t r d b s hb hs).trans ?_
  rw [V_v1]
  generalize m ((c : Tc).loc main_arg2) = X
  pointwise []

theorem place (t : Fin cfg0.N) (f : Fin 1408) (d : Fin 1024) (g : Fin 2816) (hg : g.val = t.val / 4 * 1408 + f.val) :
    ((cfg0.win 2).blk t).view.emb (ix2 f d) = ix2 g d := by
  blk_ext [at2]

/-- The block written at the end of a run. -/
theorem run_sum (t : Fin cfg0.N) (h : t.val % 4 = 3) (f : Fin 1408) (d : Fin 1024) (g : Fin 2816) (hg : g.val = t.val / 4 * 1408 + f.val) :
    (outsAt0 m c t.val t.isLt).1 (ix2 f d) = gradient (m ((c : Tc).loc main_arg0)) (m ((c : Tc).loc main_arg2)) (ix2 g d) := by
  have ht := below t
  rw [accumulated m c t h]
  unfold part gradient
  refine Fin.sum_points_lanes_congr 2 fun s r hb hl => ?_
  have hs := s.isLt
  rw [block0 m c _ r f ⟨s.val / 2, hb⟩ ⟨s.val % 2 * 2048 + r.val, hl⟩ g (by dsimp only; omega) (by dsimp only; omega) (by dsimp only; omega),
    block1 m c _ r d ⟨s.val / 2, hb⟩ ⟨s.val % 2 * 2048 + r.val, hl⟩ (by dsimp only; omega) (by dsimp only; omega)]
  rfl

theorem array : (dats m 0 c).arrAt 2 cfg0.N = gradient (m ((c : Tc).loc main_arg0)) (m ((c : Tc).loc main_arg2)) := by
  refine (dats m 0 c).arrAt_eq_of_covers 2 _ (by decide +kernel) fun t hf y => ?_
  obtain ⟨f, d, rfl⟩ := Spots.plane 1408 1024 y
  have ht := below t
  have hf' := f.isLt
  have hr := (flush0_2 t).mp hf
  have e : (dats m 0 c).after 2 t ((cfg0.win 2).xinj (cfg0.grid.coords t) (ix2 f d))
      = gradient (m ((c : Tc).loc main_arg0)) (m ((c : Tc).loc main_arg2)) (ix2 ⟨t.val / 4 * 1408 + f.val, by omega⟩ d) := by
    rw [after0_2]
    exact run_sum m c t hr f d _ rfl
  rw [e, place t f d ⟨t.val / 4 * 1408 + f.val, by omega⟩ rfl]
  exact cast_eq _ _

end kernel

section reference

open Cert.Reference2Ideal Cert.Reference2Ideal.Gen Cert.Reference2Ideal.Read
local notation "Tc" => Thread nD τ

theorem result (x : FVec Ideal S2x4096x2816 .f32) (o : FVec Ideal S2x4096x1024 .f32) : val_main_v3 (F := Ideal) x o = gradient x o := by
  funext i
  obtain ⟨f, d, rfl⟩ := Spots.plane 2816 1024 i
  unfold gradient
  pointwise [val_main_v3, val_main_v2, val_main_v1]
  exact Finset.sum_congr rfl fun b _ => Finset.sum_congr rfl fun s _ => mul_comm _ _

variable (m : (ℓ : Loc nD τ sig) → Buf (Elt Ideal) ℓ) (ρ : Dev nD → PrngReg)

theorem reference_run : θ_run defs (onTc (τ := τ) (main (F := Ideal))) ⟨m, fun _ => 0, ρ⟩ (fun r => ∀ c : Dev nD,
      r.2.mem ((c : Tc).loc main_v3) = gradient (m ((c : Tc).loc main_arg0)) (m ((c : Tc).loc main_arg2))
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)) :=
  (θ_run defs _ _).mono (fun r h c => ⟨(h c).1.trans ((val_main_v3_eq _ _).trans (result _ _)), (h c).2⟩)
    (Cert.Reference2Ideal.Value.run (F := Ideal) m ρ)

end reference

theorem algebraic : Cert.algebraic_Kernel2Ideal_Reference2Ideal (hKernel2Ideal := Cert.Kernel2Ideal.Gen.facts)
    (hReference2Ideal := Cert.Reference2Ideal.Gen.facts) := by
  intro m g m' g' _ he
  refine ⟨_, ((θ_run _ _ _).mono (fun r h c => ⟨(h.1.out_eq c 2).trans (array m c), h.2 c⟩)
    (θ_run_and (Cert.Kernel2Ideal.Gen.run_main m g) (Cert.Kernel2Ideal.Gen.unchanged m g))), ?_⟩
  refine (θ_run _ _ _).mono (fun r h c => ?_) (reference_run m' g')
  obtain ⟨e0, _, e2⟩ := he c
  refine ⟨(h c).1.trans ?_, (h c).2⟩
  rw [e0, e2]
-- ==== Proof.Attention.lean ====
/-
  The causal attention over the real numbers: the scores, the probabilities, and the three gradients.
-/
module

public import Idealize.ShloMosaic.PureOps.Ideal

@[expose] public noncomputable section

namespace Cert.Proof.Attention

open Idealize.ShloMosaic

/-! ## Extended reals that are real -/

theorem coe_sum {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

theorem coe_div {x y : ℝ} (h : y ≠ 0) : Ideal.div (x : EReal) (y : EReal) = ((x / y : ℝ) : EReal) := by
  rw [Ideal.div_coe h, ← EReal.coe_mul, mul_one_div]

theorem coe_log {x : ℝ} (h : 0 < x) : Ideal.log (x : EReal) = (Real.log x : EReal) := by
  rw [Ideal.log_coe, if_neg (not_le.2 h)]

/-- A power of two whose exponent is a real number over the logarithm of two. -/
theorem exp2_div (x : ℝ) : Ideal.exp2 ((x * (Real.log 2)⁻¹ : ℝ) : EReal) = (Real.exp x : EReal) := by
  rw [Ideal.exp2_coe, EReal.coe_eq_coe_iff]
  show (2 : ℝ) ^ (x * (Real.log 2)⁻¹) = _
  have h2 : Real.log 2 ≠ 0 := (Real.log_pos (by norm_num)).ne'
  rw [Real.rpow_def_of_pos (by norm_num)]
  congr 1
  field_simp

/-- The largest of finitely many extended reals below positive infinity, one of them real, is real. -/
theorem fold_max_real {ι : Type} [Fintype ι] (f : ι → EReal) (hf : ∀ i, f i ≠ ⊤) (i0 : ι) (r : ℝ) (h0 : f i0 = r) :
    ∃ M : ℝ, Finset.univ.fold max ⊥ f = (M : EReal) := by
  have hlt : Finset.univ.fold max ⊥ f < ⊤ := (Finset.fold_max_lt _).2 ⟨bot_lt_top, fun i _ => lt_top_iff_ne_top.2 (hf i)⟩
  have hge : (r : EReal) ≤ Finset.univ.fold max ⊥ f := (Finset.le_fold_max _).2 (Or.inr ⟨i0, Finset.mem_univ _, h0 ▸ le_rfl⟩)
  have hb : Finset.univ.fold max ⊥ f ≠ ⊥ := fun h => by rw [h] at hge; exact absurd hge (not_le.2 (EReal.bot_lt_coe r))
  exact ⟨_, (EReal.coe_toReal hlt.ne hb).symm⟩

/-! ## The attention -/

/-- The attention's arguments: two batch members, 4096 positions and eight heads, and the output's gradient. -/
structure Args where
  qn : Fin 2 → Fin 4096 → Fin 8 → Fin 64 → ℝ
  qr : Fin 2 → Fin 4096 → Fin 8 → Fin 32 → ℝ
  kn : Fin 2 → Fin 4096 → Fin 8 → Fin 64 → ℝ
  kr : Fin 2 → Fin 4096 → Fin 32 → ℝ
  v : Fin 2 → Fin 4096 → Fin 8 → Fin 128 → ℝ
  o : Fin 2 → Fin 4096 → Fin 8 → Fin 128 → ℝ

/-- The scores' scale. -/
def scale : ℝ := 3424635 / 33554432

namespace Args

variable (A : Args) (b : Fin 2) (h : Fin 8)

/-- The score of a query and a key. -/
def score (q k : Fin 4096) : ℝ := ((∑ d, A.qn b q h d * A.kn b k h d) + ∑ d, A.qr b q h d * A.kr b k d) * scale

/-- The weight of a key that is not after the query. -/
def weight (q k : Fin 4096) : ℝ := if k.val ≤ q.val then Real.exp (A.score b h q k) else 0

/-- A query's sum of weights. -/
def total (q : Fin 4096) : ℝ := ∑ k, A.weight b h q k

/-- The probability that a query gives a key. -/
def prob (q k : Fin 4096) : ℝ := A.weight b h q k / A.total b h q

/-- The probability's gradient. -/
def dprob (q k : Fin 4096) : ℝ := ∑ d, A.o b q h d * A.v b k h d

/-- A query's mean of the probabilities' gradients. -/
def mean (q : Fin 4096) : ℝ := ∑ k, A.prob b h q k * A.dprob b h q k

/-- The score's gradient. -/
def dscore (q k : Fin 4096) : ℝ := A.prob b h q k * (A.dprob b h q k - A.mean b h q)

/-- A lane of a query: the plain part, the rotated part, zeros. -/
def query (q : Fin 4096) (d : Fin 128) : ℝ :=
  if h1 : d.val < 64 then A.qn b q h ⟨d.val, h1⟩ else if h2 : d.val < 96 then A.qr b q h ⟨d.val - 64, by omega⟩ else 0

/-- A lane of a key: the plain part, the rotated part, zeros. -/
def key (k : Fin 4096) (d : Fin 128) : ℝ :=
  if h1 : d.val < 64 then A.kn b k h ⟨d.val, h1⟩ else if h2 : d.val < 96 then A.kr b k ⟨d.val - 64, by omega⟩ else 0

/-- The gradient of the queries. -/
def dq (q : Fin 4096) (d : Fin 128) : ℝ := ∑ k, A.dscore b h q k * scale * A.key b h k d

/-- The gradient of the keys. -/
def dk (k : Fin 4096) (d : Fin 128) : ℝ := ∑ q, A.dscore b h q k * scale * A.query b h q d

/-- The gradient of the values. -/
def dv (k : Fin 4096) (d : Fin 128) : ℝ := ∑ q, A.prob b h q k * A.o b q h d

variable {A b h}

/-- A sum over the 128 lanes, part by part. -/
theorem sum_lanes (f : Fin 64 → ℝ) (g : Fin 32 → ℝ) :
    (∑ d : Fin 128, if h1 : d.val < 64 then f ⟨d.val, h1⟩ else if h2 : d.val < 96 then g ⟨d.val - 64, by omega⟩ else 0)
      = (∑ d, f d) + ∑ d, g d := by
  have e := Fin.sum_univ_add (a := 64) (b := 64) fun d : Fin 128 => if h1 : d.val < 64 then f ⟨d.val, h1⟩ else if h2 : d.val < 96 then g ⟨d.val - 64, by omega⟩ else (0 : ℝ)
  refine e.trans (congrArg₂ (· + ·) (Finset.sum_congr rfl fun d _ => dif_pos d.isLt) ?_)
  have e2 := Fin.sum_univ_add (a := 32) (b := 32) fun d : Fin 64 => if h2 : d.val < 32 then g ⟨d.val, h2⟩ else (0 : ℝ)
  refine Eq.trans (Finset.sum_congr rfl fun d _ => ?_) (e2.trans ?_)
  · rw [dif_neg (by simp)]
    by_cases hd : d.val < 32
    · rw [dif_pos (by simp; omega), dif_pos hd]; congr 1; ext; simp
    · rw [dif_neg (by simp; omega), dif_neg hd]
  · rw [show (∑ d : Fin 32, (fun d : Fin 64 => if h2 : d.val < 32 then g ⟨d.val, h2⟩ else (0 : ℝ)) (Fin.natAdd 32 d)) = 0 from
      Finset.sum_eq_zero fun d _ => dif_neg (by simp), add_zero]
    exact Finset.sum_congr rfl fun d _ => dif_pos d.isLt

/-- The score is the scaled product of the lanes. -/
theorem score_lanes (q k : Fin 4096) : (∑ d, A.key b h k d * A.query b h q d) * scale = A.score b h q k := by
  unfold score
  rw [← sum_lanes]
  congr 1
  refine Finset.sum_congr rfl fun d _ => ?_
  unfold key query
  split_ifs <;> ring

/-- The exponential of a score less a number. -/
def shifted (A : Args) (b : Fin 2) (h : Fin 8) (M : ℝ) (q k : Fin 4096) : ℝ := if k.val ≤ q.val then Real.exp (A.score b h q k - M) else 0

theorem shifted_eq (M : ℝ) (q k : Fin 4096) : A.shifted b h M q k = A.weight b h q k * Real.exp (-M) := by
  unfold shifted weight
  split_ifs
  · rw [sub_eq_add_neg, Real.exp_add]
  · rw [zero_mul]

theorem sum_shifted (M : ℝ) (q : Fin 4096) : ∑ k, A.shifted b h M q k = A.total b h q * Real.exp (-M) := by
  unfold total; rw [Finset.sum_mul]; exact Finset.sum_congr rfl fun k _ => shifted_eq M q k

theorem total_pos (q : Fin 4096) : 0 < A.total b h q := by
  refine Finset.sum_pos' (fun k _ => ?_) ⟨q, Finset.mem_univ _, ?_⟩
  · unfold weight; split_ifs; exacts [(Real.exp_pos _).le, le_rfl]
  · unfold weight; rw [if_pos le_rfl]; exact Real.exp_pos _

theorem sum_shifted_pos (M : ℝ) (q : Fin 4096) : 0 < ∑ k, A.shifted b h M q k := by
  rw [sum_shifted]; exact mul_pos (total_pos q) (Real.exp_pos _)

/-- The probability does not depend on the number taken off the scores. -/
theorem shifted_div (M : ℝ) (q k : Fin 4096) : A.shifted b h M q k / (∑ k, A.shifted b h M q k) = A.prob b h q k := by
  rw [sum_shifted, shifted_eq]; exact mul_div_mul_right _ _ (Real.exp_pos _).ne'

/-- The probability from the log-sum. -/
theorem exp_log (M : ℝ) (q k : Fin 4096) (hk : k.val ≤ q.val) :
    Real.exp (A.score b h q k - (M + Real.log (∑ k, A.shifted b h M q k))) = A.prob b h q k := by
  rw [← shifted_div M, ← sub_sub, Real.exp_sub, Real.exp_log (sum_shifted_pos M q)]
  unfold shifted; rw [if_pos hk]

theorem prob_masked (q k : Fin 4096) (hk : ¬ k.val ≤ q.val) : A.prob b h q k = 0 := by
  unfold prob weight; rw [if_neg hk, zero_div]

/-- The mean of the probabilities' gradients is the output times its gradient. -/
theorem mean_eq (q : Fin 4096) : ∑ d, A.o b q h d * (∑ k, A.v b k h d * A.prob b h q k) = A.mean b h q := by
  unfold mean dprob
  simp only [Finset.mul_sum]
  rw [Finset.sum_comm]
  exact Finset.sum_congr rfl fun k _ => Finset.sum_congr rfl fun d _ => by ring

/-- The score's gradient as the derivative of a quotient. -/
theorem dscore_eq (M : ℝ) (q k : Fin 4096) :
    (A.dprob b h q k / (∑ k, A.shifted b h M q k)
        + -(∑ k', A.dprob b h q k' * (1 / ((∑ k, A.shifted b h M q k) * ∑ k, A.shifted b h M q k)) * A.shifted b h M q k')) * A.shifted b h M q k
      = A.dscore b h q k := by
  have hL := (sum_shifted_pos (A := A) (b := b) (h := h) M q).ne'
  unfold dscore mean
  simp only [← shifted_div M q]
  generalize (∑ k, A.shifted b h M q k) = L at hL ⊢
  rw [show (∑ k', A.dprob b h q k' * (1 / (L * L)) * A.shifted b h M q k') = (∑ k', A.shifted b h M q k' / L * A.dprob b h q k') / L from by
    rw [Finset.sum_div]; exact Finset.sum_congr rfl fun k _ => by field_simp]
  field_simp
  ring

theorem dscore_masked (q k : Fin 4096) (hk : ¬ k.val ≤ q.val) : A.dscore b h q k = 0 := by
  unfold dscore; rw [prob_masked q k hk, zero_mul]

end Args
-- ==== Proof.NormMath.lean ====
/-
  The gradient through a row's normalisation: what the kernel computes of a row, what the reference computes of it, and that
  the two agree when the row's entries are real.
-/
module

public import proofs.«01_k».proof.Proof.Attention
public import Idealize.ShloMosaic.Lib.Pointwise

@[expose] public noncomputable section

namespace Cert.Proof.Norm

open Idealize.ShloMosaic

/-- The number of entries of a row. -/
def count : EReal := Ideal.ofBits .f32 0x44800000#32

/-- What keeps the mean square away from zero. -/
def small : EReal := Ideal.ofBits .f32 0x358637BD#32

/-- The mean square of a row, kept away from zero. -/
def square (x : Fin 1024 → EReal) : EReal := Ideal.div (∑ k, x k * x k) count + small

/-- The factor that a row is normalised by. -/
def root (x : Fin 1024 → EReal) : EReal := Ideal.rsqrt (square x)

/-- The gradient of the normalised row, from the gradient of the modulated row. -/
def scaled (h sc w : Fin 1024 → EReal) (d : Fin 1024) : EReal := h d * (1 + sc d) * w d

theorem scaled_plain (h w : Fin 1024 → EReal) (d : Fin 1024) : scaled h (fun _ => 0) w d = h d * w d := by
  simp [scaled]

/-- The gradient of the row, as the kernel computes it. -/
def pull (x h sc w : Fin 1024 → EReal) (d : Fin 1024) : EReal :=
  root x * (scaled h sc w d - x d * root x * Ideal.div (∑ k, scaled h sc w k * (x k * root x)) count)

/-- The word of minus one half. -/
def minusHalf : EReal := Ideal.ofBits .f32 0xBF000000#32

/-- What the mean square contributes to the gradient of the row, once for each of its two factors. -/
def share (x h sc w : Fin 1024 → EReal) : EReal :=
  Ideal.div ((∑ k, x k * scaled h sc w k) * (minusHalf * Ideal.div (root x) (square x))) count

theorem count_real : count = ((1024 : ℝ) : EReal) := by
  unfold count
  simp [Ideal.ofBits, Ideal.ieee]
  rw [← EReal.coe_mul]
  exact congrArg Real.toEReal (by norm_num)

theorem minusHalf_real : minusHalf = ((-(1 / 2) : ℝ) : EReal) := by
  unfold minusHalf
  simp [Ideal.ofBits, Ideal.ieee]
  rw [← EReal.coe_mul]
  exact congrArg Real.toEReal (by norm_num)

theorem small_real : ∃ e : ℝ, 0 < e ∧ small = (e : EReal) := by
  refine ⟨_, ?_, by unfold small; simp [Ideal.ofBits, Ideal.ieee]; rfl⟩
  norm_num

/-- For real entries the reference's gradient of a row is the kernel's. -/
theorem agree (o : EReal) (x h sc w : Fin 1024 → EReal) (ho : ∃ r : ℝ, o = r) (hx : ∀ k, ∃ r : ℝ, x k = r) (hh : ∀ k, ∃ r : ℝ, h k = r)
    (hs : ∀ k, ∃ r : ℝ, sc k = r) (hw : ∀ k, ∃ r : ℝ, w k = r) (d : Fin 1024) :
    o + scaled h sc w d * root x + x d * share x h sc w + share x h sc w * x d = o + pull x h sc w d := by
  choose X hx using hx
  choose H hh using hh
  choose S hs using hs
  choose W hw using hw
  obtain ⟨O, rfl⟩ := ho
  obtain ⟨e, he, hsm⟩ := small_real
  obtain rfl : x = fun k => (X k : EReal) := funext hx
  obtain rfl : h = fun k => (H k : EReal) := funext hh
  obtain rfl : sc = fun k => (S k : EReal) := funext hs
  obtain rfl : w = fun k => (W k : EReal) := funext hw
  have hD : ∀ k, scaled (fun k => (H k : EReal)) (fun k => (S k : EReal)) (fun k => (W k : EReal)) k = ((H k * (1 + S k) * W k : ℝ) : EReal) := fun k => by
    unfold scaled
    push_cast
    rfl
  generalize hN : (fun k => H k * (1 + S k) * W k) = D at hD
  have hD : ∀ k, scaled (fun k => (H k : EReal)) (fun k => (S k : EReal)) (fun k => (W k : EReal)) k = (D k : EReal) := fun k => by
    rw [hD, ← hN]
  have hpos : 0 < (∑ k, X k * X k) / 1024 + e := add_pos_of_nonneg_of_pos (div_nonneg (Finset.sum_nonneg fun k _ => mul_self_nonneg _) (by norm_num)) he
  have hq : square (fun k => (X k : EReal)) = (((∑ k, X k * X k) / 1024 + e : ℝ) : EReal) := by
    unfold square
    rw [count_real, hsm, EReal.coe_add, ← Attention.coe_div (by norm_num), ← Attention.coe_sum]
    simp only [EReal.coe_mul]
  generalize (∑ k, X k * X k) / 1024 + e = Q at hpos hq
  have hr : root (fun k => (X k : EReal)) = ((Real.sqrt Q)⁻¹ : ℝ) := by
    unfold root
    rw [hq, Ideal.rsqrt_coe, if_neg (not_lt.mpr hpos.le), if_neg hpos.ne']
  have hp : Real.sqrt Q * Real.sqrt Q = Q := Real.mul_self_sqrt hpos.le
  have hne : Real.sqrt Q ≠ 0 := (Real.sqrt_pos.mpr hpos).ne'
  have e0 : (∑ k, (X k : EReal) * (D k : EReal)) = ((∑ k, X k * D k : ℝ) : EReal) := by
    rw [← Attention.coe_sum]
    exact Finset.sum_congr rfl fun k _ => (EReal.coe_mul _ _).symm
  have e1 : share (fun k => (X k : EReal)) (fun k => (H k : EReal)) (fun k => (S k : EReal)) (fun k => (W k : EReal))
      = (((∑ k, X k * D k) * (-(1 / 2) * ((Real.sqrt Q)⁻¹ / Q)) / 1024 : ℝ) : EReal) := by
    unfold share
    simp only [hD, hr, hq]
    rw [e0, count_real, minusHalf_real, Attention.coe_div hpos.ne', ← EReal.coe_mul, ← EReal.coe_mul, Attention.coe_div (by norm_num)]
  have e2 : (∑ k, X k * D k * (Real.sqrt Q)⁻¹) = (∑ k, X k * D k) * (Real.sqrt Q)⁻¹ := (Finset.sum_mul _ _ _).symm
  have e3 : (∑ k, (D k : EReal) * ((X k : EReal) * ((Real.sqrt Q)⁻¹ : ℝ))) = (((∑ k, X k * D k) * (Real.sqrt Q)⁻¹ : ℝ) : EReal) := by
    rw [← e2, ← Attention.coe_sum]
    exact Finset.sum_congr rfl fun k _ => by rw [← EReal.coe_mul, ← EReal.coe_mul]; exact congrArg Real.toEReal (by ring)
  unfold pull
  simp only [hD, hr, e1]
  rw [e3, count_real, Attention.coe_div (by norm_num)]
  simp only [← EReal.coe_mul, ← EReal.coe_add, ← EReal.coe_sub]
  refine congrArg Real.toEReal ?_
  generalize ∑ k, X k * D k = T
  generalize Real.sqrt Q = q at hp hne
  subst hp
  field_simp
  ring
-- ==== Proof.FirstTile.lean ====
/-
  The gradient through the first feed-forward layer's normalisation: what one point of the grid leaves in its blocks.
-/
module

public import proofs.«01_k».proof.Proof.NormMath
public import proofs.«01_k».proof.Proof.Gen.Kernel5Ideal.Frame
public import Idealize.ShloMosaic.Lib.Pipeline.ValueKit

@[expose] public noncomputable section

set_option maxRecDepth 16384

namespace Cert.Proof.First

open Cert.Proof.Norm (small square root scaled pull minusHalf share agree)

open Cert.Kernel5Ideal Cert.Kernel5Ideal.Gen
open Idealize ShloMosaic ShloMosaic.TcCoe ShloMosaic.Pointwise

/-! ## Rows of the blocks -/

/-- A row of a block. -/
abbrev row (x : FVec Ideal S1x512x1024 .f32) (r : Fin 512) (k : Fin 1024) : EReal := x (ix3 0 r k)
/-- The entries of a batch member's vector. -/
abbrev member (s : FVec Ideal S1x1x1024 .f32) (k : Fin 1024) : EReal := s (ix3 0 0 k)
/-- The entries of a vector. -/
abbrev vector (w : FVec Ideal S1x1024 .f32) (k : Fin 1024) : EReal := w (ix2 0 k)
/-- The gradient of a modulated row: the two gradients times the two weights. -/
def back (g u : FVec Ideal S1x512x2816 .bf16) (a b : FVec Ideal S2816x1024 .bf16) (r : Fin 512) (k : Fin 1024) : EReal :=
  ∑ f : Fin 2816, g (ix3 0 r f) * a (ix2 f k) + ∑ f : Fin 2816, u (ix3 0 r f) * b (ix2 f k)

/-! ## The stages -/

variable (g u : FVec Ideal S1x512x2816 .bf16) (a b : FVec Ideal S2816x1024 .bf16) (x xn : FVec Ideal S1x512x1024 .f32)
  (w A2 : FVec Ideal S1x1024 .f32) (sc A3 : FVec Ideal S1x1x1024 .f32) (r : Fin 512) (d : Fin 1024)

theorem back_at : k0_pay5 (F := Ideal) g a u b (ix2 r d) = back g u a b r d := by
  unfold back
  pointwise [k0_pay5]

theorem input_at : k0_pay6 (F := Ideal) x (ix2 r d) = row x r d := by
  pointwise [k0_pay6]

theorem root_at : k0_pay7 (F := Ideal) x (ix2 r 0) = root (row x r) := by
  unfold k0_pay7 root square Norm.count small
  have e := input_at x
  generalize k0_pay6 (F := Ideal) x = y at e
  pointwise []
  simp only [e]

theorem normal_at : k0_pay8 (F := Ideal) x (ix2 r d) = row x r d * root (row x r) := by
  rw [← root_at, ← input_at]
  unfold k0_pay8
  generalize k0_pay7 (F := Ideal) x = p
  generalize k0_pay6 (F := Ideal) x = q
  pointwise []

theorem weight_at : k0_pay9 (F := Ideal) w (ix2 0 d) = vector w d := by
  pointwise [k0_pay9]

theorem modulated_at : k0_pay12 (F := Ideal) (k0_pay5 (F := Ideal) g a u b) sc (ix2 r d) = back g u a b r d * (1 + member sc d) := by
  rw [← back_at]
  unfold k0_pay12
  generalize k0_pay5 (F := Ideal) g a u b = p
  pointwise []

theorem dx_block_at : k0_pay1 (F := Ideal) (k0_pay7 x) (k0_pay8 x) (k0_pay9 w) (k0_pay12 (k0_pay5 g a u b) sc) xn (ix3 0 r d)
    = xn (ix3 0 r d) + pull (row x r) (back g u a b r) (member sc) (vector w) d := by
  have e : ∀ k, scaled (back g u a b r) (member sc) (vector w) k = k0_pay12 (F := Ideal) (k0_pay5 g a u b) sc (ix2 r k) * k0_pay9 (F := Ideal) w (ix2 0 k) := fun k => by
    rw [modulated_at, weight_at]
    rfl
  have en : ∀ k, row x r k * root (row x r) = k0_pay8 (F := Ideal) x (ix2 r k) := fun k => (normal_at x r k).symm
  unfold pull
  simp only [e, en]
  rw [← root_at]
  unfold k0_pay1 Norm.count
  generalize k0_pay12 (F := Ideal) (k0_pay5 g a u b) sc = p
  generalize k0_pay9 (F := Ideal) w = q
  generalize k0_pay8 (F := Ideal) x = n
  generalize k0_pay7 (F := Ideal) x = s
  pointwise []

/-- What a point adds to the gradient of the scale. -/
def partScale : EReal := ∑ r : Fin 512, back g u a b r d * (row x r d * root (row x r) * vector w d)
/-- What a point adds to the gradient of the shift. -/
def partShift : EReal := ∑ r : Fin 512, back g u a b r d
/-- What a point adds to the gradient of the normalisation's weight. -/
def partWeight : EReal := ∑ r : Fin 512, back g u a b r d * (1 + member sc d) * (row x r d * root (row x r))

theorem scale_at : k0_pay10 (F := Ideal) (k0_pay5 g a u b) (k0_pay8 x) w A3 (ix3 0 0 d) = member A3 d + partScale g u a b x w d := by
  unfold partScale
  simp only [← normal_at, ← back_at]
  have e := weight_at w
  unfold k0_pay10
  generalize k0_pay5 (F := Ideal) g a u b = p
  generalize k0_pay9 (F := Ideal) w = q at e ⊢
  generalize k0_pay8 (F := Ideal) x = n
  pointwise []
  simp only [e]

theorem shift_at : k0_pay11 (F := Ideal) (k0_pay5 g a u b) A3 (ix3 0 0 d) = member A3 d + partShift g u a b d := by
  unfold partShift
  simp only [← back_at]
  unfold k0_pay11
  generalize k0_pay5 (F := Ideal) g a u b = p
  pointwise []

theorem norm_weight_at : k0_pay13 (F := Ideal) (k0_pay5 g a u b) (k0_pay8 x) sc A2 (ix2 0 d) = vector A2 d + partWeight g u a b x sc d := by
  unfold partWeight
  simp only [← modulated_at, ← normal_at]
  unfold k0_pay13
  generalize k0_pay12 (F := Ideal) (k0_pay5 g a u b) sc = p
  generalize k0_pay8 (F := Ideal) x = n
  pointwise []

theorem zero2 : k0_pay2 (F := Ideal) (ix3 0 0 d) = 0 := by pointwise [k0_pay2]
theorem zero3 : k0_pay3 (F := Ideal) (ix3 0 0 d) = 0 := by pointwise [k0_pay3]
theorem zero5 : k0_pay4 (F := Ideal) (ix2 0 d) = 0 := by pointwise [k0_pay4]
-- ==== Proof.FirstPoint.lean ====
/-
  The gradient through the first feed-forward layer's normalisation: the accumulated sums over a batch member's points.
-/
module

public import proofs.«01_k».proof.Proof.FirstTile

@[expose] public noncomputable section

set_option maxRecDepth 16384

namespace Cert.Proof.First

open Cert.Proof.Norm (small square root scaled pull minusHalf share agree)

open Cert.Kernel5Ideal Cert.Kernel5Ideal.Gen
open Idealize ShloMosaic ShloMosaic.TcCoe ShloMosaic.Pointwise

variable (m : (ℓ : Loc nD τ sig) → Buf (Elt Ideal) ℓ) (c : Dev nD) (t : Fin cfg0.N) (r : Fin 512) (d : Fin 1024)

theorem inside : t.val < 16 := lt_of_lt_of_eq t.isLt (show cfg0.N = 16 from N_0)

/-- The gradient of a point's modulated rows. -/
abbrev backOf : Fin 512 → Fin 1024 → EReal := back (iblk m c 0 t) (iblk m c 1 t) (iblk m c 2 t) (iblk m c 3 t)

theorem dx_point : (outsAt0 m c t.val t.isLt).1 (ix3 0 r d)
    = row (iblk m c 5 t) r d + pull (row (iblk m c 4 t) r) (backOf m c t r) (member (iblk m c 7 t)) (vector (iblk m c 6 t)) d := by
  have ht := inside t
  by_cases h0 : t.val % 8 = 0
  · by_cases h1 : t.val % 16 = 0
    · rw [outsAt0_A m c t h0 h1]
      frame_out
      exact dx_block_at ..
    · rw [outsAt0_C m c t h0 h1]
      frame_out
      exact dx_block_at ..
  · rw [outsAt0_B m c t h0 (by omega)]
    frame_out
    exact dx_block_at ..

/-- What a point adds to the gradient of the scale. -/
abbrev addScale : EReal := partScale (iblk m c 0 t) (iblk m c 1 t) (iblk m c 2 t) (iblk m c 3 t) (iblk m c 4 t) (iblk m c 6 t) d
/-- What a point adds to the gradient of the shift. -/
abbrev addShift : EReal := partShift (iblk m c 0 t) (iblk m c 1 t) (iblk m c 2 t) (iblk m c 3 t) d
/-- What a point adds to the gradient of the normalisation's weight. -/
abbrev addWeight : EReal := partWeight (iblk m c 0 t) (iblk m c 1 t) (iblk m c 2 t) (iblk m c 3 t) (iblk m c 4 t) (iblk m c 7 t) d

theorem scale_first (h : t.val % 8 = 0) : (outsAt0 m c t.val t.isLt).2.1 (ix3 0 0 d) = 0 + addScale m c t d := by
  by_cases h1 : t.val % 16 = 0
  · rw [outsAt0_A m c t h h1]
    frame_out
    exact (scale_at ..).trans (congrArg (· + _) (zero2 d))
  · rw [outsAt0_C m c t h h1]
    frame_out
    exact (scale_at ..).trans (congrArg (· + _) (zero2 d))

theorem scale_next (h : ¬t.val % 8 = 0) : (outsAt0 m c t.val t.isLt).2.1 (ix3 0 0 d)
    = (outsAt0 m c (t.val - 1) (Nat.lt_of_le_of_lt (Nat.sub_le _ _) t.isLt)).2.1 (ix3 0 0 d) + addScale m c t d := by
  rw [outsAt0_B m c t h (by omega)]
  frame_out
  exact scale_at ..

theorem scale_total (h : t.val % 8 = 7) : (outsAt0 m c t.val t.isLt).2.1 (ix3 0 0 d)
    = ∑ s : Fin 8, addScale m c ⟨8 * (t.val / 8) + s.val, Pipeline.run_point_lt_of_flush t h s⟩ d := by
  rw [Pipeline.eq_sum_fin_of_reset_step_of_flush (fun n hn => (outsAt0 m c n hn).2.1 (ix3 0 0 d)) 8 0 (fun t => addScale m c t d)
    (fun t h => scale_first m c t d h) (fun t h => scale_next m c t d h) t h, zero_add]

theorem shift_first (h : t.val % 8 = 0) : (outsAt0 m c t.val t.isLt).2.2.1 (ix3 0 0 d) = 0 + addShift m c t d := by
  by_cases h1 : t.val % 16 = 0
  · rw [outsAt0_A m c t h h1]
    frame_out
    exact (shift_at ..).trans (congrArg (· + _) (zero3 d))
  · rw [outsAt0_C m c t h h1]
    frame_out
    exact (shift_at ..).trans (congrArg (· + _) (zero3 d))

theorem shift_next (h : ¬t.val % 8 = 0) : (outsAt0 m c t.val t.isLt).2.2.1 (ix3 0 0 d)
    = (outsAt0 m c (t.val - 1) (Nat.lt_of_le_of_lt (Nat.sub_le _ _) t.isLt)).2.2.1 (ix3 0 0 d) + addShift m c t d := by
  rw [outsAt0_B m c t h (by omega)]
  frame_out
  exact shift_at ..

theorem shift_total (h : t.val % 8 = 7) : (outsAt0 m c t.val t.isLt).2.2.1 (ix3 0 0 d)
    = ∑ s : Fin 8, addShift m c ⟨8 * (t.val / 8) + s.val, Pipeline.run_point_lt_of_flush t h s⟩ d := by
  rw [Pipeline.eq_sum_fin_of_reset_step_of_flush (fun n hn => (outsAt0 m c n hn).2.2.1 (ix3 0 0 d)) 8 0 (fun t => addShift m c t d)
    (fun t h => shift_first m c t d h) (fun t h => shift_next m c t d h) t h, zero_add]

theorem weight_first (h : t.val % 16 = 0) : (outsAt0 m c t.val t.isLt).2.2.2 (ix2 0 d) = 0 + addWeight m c t d := by
  rw [outsAt0_A m c t (by omega) h]
  frame_out
  exact (norm_weight_at ..).trans (congrArg (· + _) (zero5 d))

theorem weight_next (h : ¬t.val % 16 = 0) : (outsAt0 m c t.val t.isLt).2.2.2 (ix2 0 d)
    = (outsAt0 m c (t.val - 1) (Nat.lt_of_le_of_lt (Nat.sub_le _ _) t.isLt)).2.2.2 (ix2 0 d) + addWeight m c t d := by
  by_cases h0 : t.val % 8 = 0
  · rw [outsAt0_C m c t h0 h]
    frame_out
    exact norm_weight_at ..
  · rw [outsAt0_B m c t h0 h]
    frame_out
    exact norm_weight_at ..

theorem weight_total (h : t.val % 16 = 15) : (outsAt0 m c t.val t.isLt).2.2.2 (ix2 0 d)
    = ∑ s : Fin 16, addWeight m c ⟨16 * (t.val / 16) + s.val, Pipeline.run_point_lt_of_flush t h s⟩ d := by
  rw [Pipeline.eq_sum_fin_of_reset_step_of_flush (fun n hn => (outsAt0 m c n hn).2.2.2 (ix2 0 d)) 16 0 (fun t => addWeight m c t d)
    (fun t h => weight_first m c t d h) (fun t h => weight_next m c t d h) t h, zero_add]
-- ==== Proof.FirstBlocks.lean ====
/-
  The gradient through the first feed-forward layer's normalisation: the arrays that the kernel leaves, in terms of its arguments.
-/
module

public import proofs.«01_k».proof.Proof.FirstPoint
public import Idealize.ShloMosaic.Lib.TwoAxisContraction
public import Idealize.ShloMosaic.Lib.StableHlo.RunRead

@[expose] public noncomputable section

set_option maxRecDepth 16384

namespace Cert.Proof.First

open Cert.Proof.Norm (small square root scaled pull minusHalf share agree)

open Cert.Kernel5Ideal Cert.Kernel5Ideal.Gen
open Idealize ShloMosaic ShloMosaic.TcCoe SL.Sem ShloMosaic.Pointwise
local notation "Tc" => Thread nD τ

variable (m : (ℓ : Loc nD τ sig) → Buf (Elt Ideal) ℓ) (ρ : Dev nD → PrngReg) (c : Dev nD)

theorem at0 : ∀ t : Fin cfg0.N, win0_0.index t = ![t.val / 8, t.val % 8, 0] := by decide +kernel
theorem at1 : ∀ t : Fin cfg0.N, win0_1.index t = ![t.val / 8, t.val % 8, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val / 8, t.val % 8, 0] := by decide +kernel
theorem at5 : ∀ t : Fin cfg0.N, win0_5.index t = ![t.val / 8, t.val % 8, 0] := by decide +kernel
theorem at6 : ∀ t : Fin cfg0.N, win0_6.index t = ![0, 0] := by decide +kernel
theorem at7 : ∀ t : Fin cfg0.N, win0_7.index t = ![t.val / 8, 0, 0] := by decide +kernel
theorem at8 : ∀ t : Fin cfg0.N, win0_8.index t = ![t.val / 8, t.val % 8, 0] := by decide +kernel
theorem at9 : ∀ t : Fin cfg0.N, win0_9.index t = ![t.val / 8, 0, 0] := by decide +kernel
theorem at10 : ∀ t : Fin cfg0.N, win0_10.index t = ![t.val / 8, 0, 0] := by decide +kernel
theorem at11 : ∀ t : Fin cfg0.N, win0_11.index t = ![0, 0] := by decide +kernel

/-! ## The arguments, and what the host passes on -/

abbrev arg_x : FVec Ideal S2x4096x1024 .f32 := m ((c : Tc).loc main_arg0)
abbrev arg_weight : FVec Ideal S1024 .f32 := m ((c : Tc).loc main_arg1)
abbrev arg_scale : FVec Ideal S2x1024 .f32 := m ((c : Tc).loc main_arg3)
abbrev arg_left : FVec Ideal S1024x2816 .f32 := m ((c : Tc).loc main_arg4)
abbrev arg_right : FVec Ideal S1024x2816 .f32 := m ((c : Tc).loc main_arg5)
abbrev arg_cotangent : FVec Ideal S2x4096x1024 .f32 := m ((c : Tc).loc main_arg6)
abbrev arg_gradLeft : FVec Ideal S2x4096x2816 .f32 := m ((c : Tc).loc main_arg7)
abbrev arg_gradRight : FVec Ideal S2x4096x2816 .f32 := m ((c : Tc).loc main_arg8)

/-- A row of the layer's input. -/
def inputRow (b : Fin 2) (s : Fin 4096) (d : Fin 1024) : EReal := arg_x m c (ix3 b s d)
/-- The gradient of a modulated row. -/
def backRow (b : Fin 2) (s : Fin 4096) (d : Fin 1024) : EReal :=
  ∑ f : Fin 2816, arg_gradLeft m c (ix3 b s f) * arg_left m c (ix2 d f) + ∑ f : Fin 2816, arg_gradRight m c (ix3 b s f) * arg_right m c (ix2 d f)
/-- A batch member's scale. -/
def scaleRow (b : Fin 2) (d : Fin 1024) : EReal := arg_scale m c (ix2 b d)
/-- The normalisation's weight. -/
def weightRow (d : Fin 1024) : EReal := arg_weight m c (ix1 d)
/-- The gradient of the layer's input. -/
def inputGradient (b : Fin 2) (s : Fin 4096) (d : Fin 1024) : EReal :=
  arg_cotangent m c (ix3 b s d) + pull (inputRow m c b s) (backRow m c b s) (scaleRow m c b) (weightRow m c) d

theorem V_gradLeft (b : Fin 2) (s : Fin 4096) (f : Fin 2816) : (V m c main_v0 : FVec Ideal S2x4096x2816 .bf16) (ix3 b s f) = arg_gradLeft m c (ix3 b s f) := by
  unfold arg_gradLeft
  after_reads_simp
  generalize m ((c : Tc).loc main_arg7) = X
  pointwise []

theorem V_gradRight (b : Fin 2) (s : Fin 4096) (f : Fin 2816) : (V m c main_v1 : FVec Ideal S2x4096x2816 .bf16) (ix3 b s f) = arg_gradRight m c (ix3 b s f) := by
  unfold arg_gradRight
  after_reads_simp
  generalize m ((c : Tc).loc main_arg8) = X
  pointwise []

theorem V_left (f : Fin 2816) (d : Fin 1024) : (V m c main_v3 : FVec Ideal S2816x1024 .bf16) (ix2 f d) = arg_left m c (ix2 d f) := by
  unfold arg_left
  after_reads_simp
  generalize m ((c : Tc).loc main_arg4) = X
  pointwise []

theorem V_right (f : Fin 2816) (d : Fin 1024) : (V m c main_v5 : FVec Ideal S2816x1024 .bf16) (ix2 f d) = arg_right m c (ix2 d f) := by
  unfold arg_right
  after_reads_simp
  generalize m ((c : Tc).loc main_arg5) = X
  pointwise []

theorem V_weight (d : Fin 1024) : (V m c main_v6 : FVec Ideal S1x1024 .f32) (ix2 0 d) = weightRow m c d := by
  unfold weightRow arg_weight
  after_reads_simp
  generalize m ((c : Tc).loc main_arg1) = X
  pointwise []

theorem V_scale (b : Fin 2) (d : Fin 1024) : (V m c main_v7 : FVec Ideal S2x1x1024 .f32) (ix3 b 0 d) = scaleRow m c b d := by
  unfold scaleRow arg_scale
  after_reads_simp
  generalize m ((c : Tc).loc main_arg3) = X
  pointwise []

/-! ## The blocks -/

theorem read0 (X : Buf (Elt Ideal) ((c : Tc).loc main_v0)) (t : Fin cfg0.N) (r : Fin 512) (k : Fin 2816) (b : Fin 2) (s : Fin 4096) (hb : b.val = t.val / 8) (hs : s.val = t.val % 8 * 512 + r.val) :
    ((cfg0.win 0).blk t).view.read (Elt Ideal) X (ix3 0 r k) = (X : FVec Ideal S2x4096x2816 .bf16) (ix3 b s k) := by
  blk_simp
  refine congrArg X ?_
  blk_ext [at0]

theorem read1 (X : Buf (Elt Ideal) ((c : Tc).loc main_v1)) (t : Fin cfg0.N) (r : Fin 512) (k : Fin 2816) (b : Fin 2) (s : Fin 4096) (hb : b.val = t.val / 8) (hs : s.val = t.val % 8 * 512 + r.val) :
    ((cfg0.win 1).blk t).view.read (Elt Ideal) X (ix3 0 r k) = (X : FVec Ideal S2x4096x2816 .bf16) (ix3 b s k) := by
  blk_simp
  refine congrArg X ?_
  blk_ext [at1]

theorem read2 (X : Buf (Elt Ideal) ((c : Tc).loc main_v3)) (t : Fin cfg0.N) (f : Fin 2816) (k : Fin 1024) :
    ((cfg0.win 2).blk t).view.read (Elt Ideal) X (ix2 f k) = (X : FVec Ideal S2816x1024 .bf16) (ix2 f k) := by
  blk_simp
  refine congrArg X ?_
  blk_ext [at2]

theorem read3 (X : Buf (Elt Ideal) ((c : Tc).loc main_v5)) (t : Fin cfg0.N) (f : Fin 2816) (k : Fin 1024) :
    ((cfg0.win 3).blk t).view.read (Elt Ideal) X (ix2 f k) = (X : FVec Ideal S2816x1024 .bf16) (ix2 f k) := by
  blk_simp
  refine congrArg X ?_
  blk_ext [at3]

theorem read4 (X : Buf (Elt Ideal) ((c : Tc).loc main_arg0)) (t : Fin cfg0.N) (r : Fin 512) (k : Fin 1024) (b : Fin 2) (s : Fin 4096) (hb : b.val = t.val / 8) (hs : s.val = t.val % 8 * 512 + r.val) :
    ((cfg0.win 4).blk t).view.read (Elt Ideal) X (ix3 0 r k) = (X : FVec Ideal S2x4096x1024 .f32) (ix3 b s k) := by
  blk_simp
  refine congrArg X ?_
  blk_ext [at4]

theorem read5 (X : Buf (Elt Ideal) ((c : Tc).loc main_arg6)) (t : Fin cfg0.N) (r : Fin 512) (k : Fin 1024) (b : Fin 2) (s : Fin 4096) (hb : b.val = t.val / 8) (hs : s.val = t.val % 8 * 512 + r.val) :
    ((cfg0.win 5).blk t).view.read (Elt Ideal) X (ix3 0 r k) = (X : FVec Ideal S2x4096x1024 .f32) (ix3 b s k) := by
  blk_simp
  refine congrArg X ?_
  blk_ext [at5]

theorem read6 (X : Buf (Elt Ideal) ((c : Tc).loc main_v6)) (t : Fin cfg0.N) (k : Fin 1024) :
    ((cfg0.win 6).blk t).view.read (Elt Ideal) X (ix2 0 k) = (X : FVec Ideal S1x1024 .f32) (ix2 0 k) := by
  blk_simp
  refine congrArg X ?_
  blk_ext [at6]

theorem read7 (X : Buf (Elt Ideal) ((c : Tc).loc main_v7)) (t : Fin cfg0.N) (k : Fin 1024) (b : Fin 2) (hb : b.val = t.val / 8) :
    ((cfg0.win 7).blk t).view.read (Elt Ideal) X (ix3 0 0 k) = (X : FVec Ideal S2x1x1024 .f32) (ix3 b 0 k) := by
  blk_simp
  refine congrArg X ?_
  blk_ext [at7]

section blocks

variable (t : Fin cfg0.N) (r : Fin 512) (b : Fin 2) (s : Fin 4096) (hb : b.val = t.val / 8) (hs : s.val = t.val % 8 * 512 + r.val)
include hb

theorem block7 : member (iblk m c 7 t) = scaleRow m c b := by
  funext d
  exact (read7 c (V m c main_v7) t d b hb).trans (V_scale m c b d)

include hs

theorem block4 : row (iblk m c 4 t) r = inputRow m c b s := by
  funext d
  refine (read4 c (V m c main_arg0) t r d b s hb hs).trans ?_
  rw [V_main_arg0]
  rfl

theorem block5 : row (iblk m c 5 t) r = fun d => arg_cotangent m c (ix3 b s d) := by
  funext d
  refine (read5 c (V m c main_arg6) t r d b s hb hs).trans ?_
  rw [V_main_arg6]

theorem block_back : backOf m c t r = backRow m c b s := by
  funext d
  unfold backOf back backRow
  have e0 : ∀ f, (iblk m c 0 t : FVec Ideal S1x512x2816 .bf16) (ix3 0 r f) = arg_gradLeft m c (ix3 b s f) := fun f =>
    (read0 c (V m c main_v0) t r f b s hb hs).trans (V_gradLeft m c b s f)
  have e1 : ∀ f, (iblk m c 1 t : FVec Ideal S1x512x2816 .bf16) (ix3 0 r f) = arg_gradRight m c (ix3 b s f) := fun f =>
    (read1 c (V m c main_v1) t r f b s hb hs).trans (V_gradRight m c b s f)
  have e2 : ∀ f, (iblk m c 2 t : FVec Ideal S2816x1024 .bf16) (ix2 f d) = arg_left m c (ix2 d f) := fun f =>
    (read2 c (V m c main_v3) t f d).trans (V_left m c f d)
  have e3 : ∀ f, (iblk m c 3 t : FVec Ideal S2816x1024 .bf16) (ix2 f d) = arg_right m c (ix2 d f) := fun f =>
    (read3 c (V m c main_v5) t f d).trans (V_right m c f d)
  exact congr (congrArg _ (Finset.sum_congr rfl fun f _ => congr (congrArg _ (e0 f)) (e2 f))) (Finset.sum_congr rfl fun f _ => congr (congrArg _ (e1 f)) (e3 f))

end blocks

theorem block6 (t : Fin cfg0.N) : vector (iblk m c 6 t) = weightRow m c := by
  funext d
  exact (read6 c (V m c main_v6) t d).trans (V_weight m c d)
-- ==== Proof.FirstArrays.lean ====
/-
  The gradient through the first feed-forward layer's normalisation: the results of the kernel, in terms of its arguments.
-/
module

public import proofs.«01_k».proof.Proof.Spots
public import proofs.«01_k».proof.Proof.FirstBlocks

@[expose] public noncomputable section

set_option maxRecDepth 16384

namespace Cert.Proof.First

open Cert.Proof.Norm (small square root scaled pull minusHalf share agree)

open Cert.Kernel5Ideal Cert.Kernel5Ideal.Gen
open Idealize ShloMosaic ShloMosaic.TcCoe SL.Sem ShloMosaic.Pointwise
local notation "Tc" => Thread nD τ

variable (m : (ℓ : Loc nD τ sig) → Buf (Elt Ideal) ℓ) (ρ : Dev nD → PrngReg) (c : Dev nD)

/-! ## The gradients -/

/-- The gradient of the layer's input. -/
def dx : FVec Ideal S2x4096x1024 .f32 := fun i => inputGradient m c ⟨(i 0).val, (i 0).isLt⟩ ⟨(i 1).val, (i 1).isLt⟩ ⟨(i 2).val, (i 2).isLt⟩
/-- A lane of the scale's gradient. -/
def scaleSum (b : Fin 2) (d : Fin 1024) : EReal :=
  ∑ s : Fin 4096, backRow m c b s d * (inputRow m c b s d * root (inputRow m c b s) * weightRow m c d)
/-- A lane of the shift's gradient. -/
def shiftSum (b : Fin 2) (d : Fin 1024) : EReal := ∑ s : Fin 4096, backRow m c b s d
/-- A lane of the gradient of the normalisation's weight. -/
def weightSum (d : Fin 1024) : EReal :=
  ∑ b : Fin 2, ∑ s : Fin 4096, backRow m c b s d * (1 + scaleRow m c b d) * (inputRow m c b s d * root (inputRow m c b s))
/-- The gradient of the scale. -/
def dscale : FVec Ideal S2x1x1024 .f32 := fun i => scaleSum m c ⟨(i 0).val, (i 0).isLt⟩ ⟨(i 2).val, (i 2).isLt⟩
/-- The gradient of the shift. -/
def dshift : FVec Ideal S2x1x1024 .f32 := fun i => shiftSum m c ⟨(i 0).val, (i 0).isLt⟩ ⟨(i 2).val, (i 2).isLt⟩
/-- The gradient of the normalisation's weight. -/
def dweight : FVec Ideal S1x1024 .f32 := fun i => weightSum m c ⟨(i 1).val, (i 1).isLt⟩

/-! ## The places -/

theorem place8 (t : Fin cfg0.N) (r : Fin 512) (d : Fin 1024) (b : Fin 2) (s : Fin 4096) (hb : b.val = t.val / 8) (hs : s.val = t.val % 8 * 512 + r.val) :
    ((cfg0.win 8).blk t).view.emb (ix3 0 r d) = ix3 b s d := by
  blk_ext [at8]
theorem place9 (t : Fin cfg0.N) (d : Fin 1024) (b : Fin 2) (hb : b.val = t.val / 8) :
    ((cfg0.win 9).blk t).view.emb (ix3 0 0 d) = ix3 b 0 d := by
  blk_ext [at9]
theorem place10 (t : Fin cfg0.N) (d : Fin 1024) (b : Fin 2) (hb : b.val = t.val / 8) :
    ((cfg0.win 10).blk t).view.emb (ix3 0 0 d) = ix3 b 0 d := by
  blk_ext [at10]
theorem place11 (t : Fin cfg0.N) (d : Fin 1024) :
    ((cfg0.win 11).blk t).view.emb (ix2 0 d) = ix2 0 d := by
  blk_ext [at11]

/-! ## The arrays -/

theorem array8 : (dats m 0 c).arrAt 8 cfg0.N = dx m c := by
  refine (dats m 0 c).arrAt_eq_of_covers 8 _ (by decide +kernel) fun t hf y => ?_
  obtain ⟨r, d, rfl⟩ := Spots.front 512 1024 y
  have ht := inside t
  have hr := r.isLt
  have e : (dats m 0 c).after 8 t ((cfg0.win 8).xinj (cfg0.grid.coords t) (ix3 0 r d)) = dx m c (ix3 ⟨t.val / 8, by omega⟩ ⟨t.val % 8 * 512 + r.val, by omega⟩ d) := by
    rw [after0_8]
    refine (dx_point m c t r d).trans ?_
    rw [block5 m c t r ⟨t.val / 8, by omega⟩ ⟨t.val % 8 * 512 + r.val, by omega⟩ rfl rfl, block4 m c t r ⟨t.val / 8, by omega⟩ ⟨t.val % 8 * 512 + r.val, by omega⟩ rfl rfl, block_back m c t r ⟨t.val / 8, by omega⟩ ⟨t.val % 8 * 512 + r.val, by omega⟩ rfl rfl, block7 m c t ⟨t.val / 8, by omega⟩ rfl, block6 m c t]
    rfl
  rw [e, place8 t r d ⟨t.val / 8, by omega⟩ ⟨t.val % 8 * 512 + r.val, by omega⟩ rfl rfl]
  exact cast_eq _ _

theorem scale_run (t : Fin cfg0.N) (h : t.val % 8 = 7) (d : Fin 1024) (b : Fin 2) (hb : b.val = t.val / 8) :
    (outsAt0 m c t.val t.isLt).2.1 (ix3 0 0 d) = scaleSum m c b d := by
  have ht := inside t
  rw [scale_total m c t d h]
  unfold addScale partScale scaleSum
  refine Fin.sum_mul_add_congr fun s r hl => ?_
  have hs := s.isLt
  have e0 := congrFun (block_back m c ⟨8 * (t.val / 8) + s.val, Pipeline.run_point_lt_of_flush t h s⟩ r b ⟨s.val * 512 + r.val, hl⟩ (by dsimp only; omega) (by dsimp only; omega)) d
  rw [block4 m c ⟨8 * (t.val / 8) + s.val, Pipeline.run_point_lt_of_flush t h s⟩ r b ⟨s.val * 512 + r.val, hl⟩ (by dsimp only; omega) (by dsimp only; omega), block6 m c ⟨8 * (t.val / 8) + s.val, Pipeline.run_point_lt_of_flush t h s⟩]
  exact congrArg (· * _) e0

theorem shift_run (t : Fin cfg0.N) (h : t.val % 8 = 7) (d : Fin 1024) (b : Fin 2) (hb : b.val = t.val / 8) :
    (outsAt0 m c t.val t.isLt).2.2.1 (ix3 0 0 d) = shiftSum m c b d := by
  have ht := inside t
  rw [shift_total m c t d h]
  unfold addShift partShift shiftSum
  refine Fin.sum_mul_add_congr fun s r hl => ?_
  have hs := s.isLt
  exact congrFun (block_back m c ⟨8 * (t.val / 8) + s.val, Pipeline.run_point_lt_of_flush t h s⟩ r b ⟨s.val * 512 + r.val, hl⟩ (by dsimp only; omega) (by dsimp only; omega)) d

theorem weight_run (t : Fin cfg0.N) (h : t.val % 16 = 15) (d : Fin 1024) : (outsAt0 m c t.val t.isLt).2.2.2 (ix2 0 d) = weightSum m c d := by
  have ht := inside t
  rw [weight_total m c t d h]
  unfold addWeight partWeight weightSum
  refine Fin.sum_points_lanes_congr 8 fun s r hb hl => ?_
  have hs := s.isLt
  have e0 := congrFun (block_back m c ⟨16 * (t.val / 16) + s.val, Pipeline.run_point_lt_of_flush t h s⟩ r ⟨s.val / 8, hb⟩ ⟨s.val % 8 * 512 + r.val, hl⟩ (by dsimp only; omega) (by dsimp only; omega)) d
  rw [block4 m c ⟨16 * (t.val / 16) + s.val, Pipeline.run_point_lt_of_flush t h s⟩ r ⟨s.val / 8, hb⟩ ⟨s.val % 8 * 512 + r.val, hl⟩ (by dsimp only; omega) (by dsimp only; omega), block7 m c ⟨16 * (t.val / 16) + s.val, Pipeline.run_point_lt_of_flush t h s⟩ ⟨s.val / 8, hb⟩ (by dsimp only; omega)]
  exact congrArg (· * _ * _) e0

theorem array9 : (dats m 0 c).arrAt 9 cfg0.N = dscale m c := by
  refine (dats m 0 c).arrAt_eq_of_covers 9 _ (by decide +kernel) fun t hf y => ?_
  obtain ⟨d, rfl⟩ := Spots.inner 1024 y
  have ht := inside t
  have e : (dats m 0 c).after 9 t ((cfg0.win 9).xinj (cfg0.grid.coords t) (ix3 0 0 d)) = dscale m c (ix3 ⟨t.val / 8, by omega⟩ 0 d) := by
    rw [after0_9]
    exact scale_run m c t ((flush0_9 t).mp hf) d ⟨t.val / 8, by omega⟩ rfl
  rw [e, place9 t d ⟨t.val / 8, by omega⟩ rfl]
  exact cast_eq _ _

theorem array10 : (dats m 0 c).arrAt 10 cfg0.N = dshift m c := by
  refine (dats m 0 c).arrAt_eq_of_covers 10 _ (by decide +kernel) fun t hf y => ?_
  obtain ⟨d, rfl⟩ := Spots.inner 1024 y
  have ht := inside t
  have e : (dats m 0 c).after 10 t ((cfg0.win 10).xinj (cfg0.grid.coords t) (ix3 0 0 d)) = dshift m c (ix3 ⟨t.val / 8, by omega⟩ 0 d) := by
    rw [after0_10]
    exact shift_run m c t ((flush0_10 t).mp hf) d ⟨t.val / 8, by omega⟩ rfl
  rw [e, place10 t d ⟨t.val / 8, by omega⟩ rfl]
  exact cast_eq _ _

theorem array11 : (dats m 0 c).arrAt 11 cfg0.N = dweight m c := by
  refine (dats m 0 c).arrAt_eq_of_covers 11 _ (by decide +kernel) fun t hf y => ?_
  obtain ⟨d, rfl⟩ := Spots.line 1024 y
  have e : (dats m 0 c).after 11 t ((cfg0.win 11).xinj (cfg0.grid.coords t) (ix2 0 d)) = dweight m c (ix2 0 d) := by
    rw [after0_11]
    exact weight_run m c t ((flush0_11 t).mp hf) d
  rw [e, place11 t d]
  exact cast_eq _ _

/-! ## The run -/

theorem kernel_run : θ_run defs (onTc (τ := τ) (main (F := Ideal))) ⟨m, fun _ => 0, ρ⟩ (fun r => ∀ c : Dev nD,
      r.2.mem ((c : Tc).loc main_v8_0) = dx m c
    ∧ r.2.mem ((c : Tc).loc main_v8_1) = dscale m c
    ∧ r.2.mem ((c : Tc).loc main_v8_2) = dshift m c
    ∧ r.2.mem ((c : Tc).loc main_v8_3) = dweight m c
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)
    ∧ r.2.mem ((c : Tc).loc main_arg3) = m ((c : Tc).loc main_arg3)
    ∧ r.2.mem ((c : Tc).loc main_arg4) = m ((c : Tc).loc main_arg4)
    ∧ r.2.mem ((c : Tc).loc main_arg5) = m ((c : Tc).loc main_arg5)
    ∧ r.2.mem ((c : Tc).loc main_arg6) = m ((c : Tc).loc main_arg6)
    ∧ r.2.mem ((c : Tc).loc main_arg7) = m ((c : Tc).loc main_arg7)
    ∧ r.2.mem ((c : Tc).loc main_arg8) = m ((c : Tc).loc main_arg8)) :=
  (θ_run defs _ _).mono (fun r h c => ⟨(h.1.out_eq c 8).trans (array8 m c), (h.1.out_eq c 9).trans (array9 m c), (h.1.out_eq c 10).trans (array10 m c),
    (h.1.out_eq c 11).trans (array11 m c), h.2 c⟩)
    (θ_run_and (run_main m ρ) (unchanged m ρ))
-- ==== Proof.NormReference.lean ====
/-
  The gradient through the second feed-forward layer's normalisation: the reference, entry by entry.
-/
module

public import proofs.«01_k».proof.Proof.NormMath
public import proofs.«01_k».proof.Proof.Gen.Reference4Ideal.Read
public import Idealize.ShloMosaic.Lib.TwoAxisContraction

@[expose] public noncomputable section

set_option maxRecDepth 16384

namespace Cert.Proof.Norm.Reference

open Cert.Reference4Ideal Cert.Reference4Ideal.Gen Cert.Reference4Ideal.Read
open Idealize ShloMosaic ShloMosaic.TcCoe SL.Sem ShloMosaic.Pointwise

variable (x0 x1 : FVec Ideal S2x4096x1024 .f32) (x2 : FVec Ideal S2x1024 .f32) (x3 : FVec Ideal S1024 .f32) (x5 : FVec Ideal S2x1024 .f32)
  (x6 x7 : FVec Ideal S1024x2816 .f32) (x8 : FVec Ideal S2x4096x1024 .f32) (x9 x10 : FVec Ideal S2x4096x2816 .f32)
variable (b : Fin 2) (s : Fin 4096) (d : Fin 1024)

/-- A row of the layer's input. -/
def inputRow (b : Fin 2) (s : Fin 4096) (d : Fin 1024) : EReal := x0 (ix3 b s d) + x2 (ix2 b d) * x1 (ix3 b s d)
/-- The gradient of a modulated row. -/
def backRow (b : Fin 2) (s : Fin 4096) (d : Fin 1024) : EReal :=
  ∑ f : Fin 2816, x9 (ix3 b s f) * x6 (ix2 d f) + ∑ f : Fin 2816, x10 (ix3 b s f) * x7 (ix2 d f)
/-- A batch member's scale. -/
def scaleRow (b : Fin 2) (d : Fin 1024) : EReal := x5 (ix2 b d)
/-- The normalisation's weight. -/
def weightRow (d : Fin 1024) : EReal := x3 (ix1 d)

theorem input_at : val_main_v3 (F := Ideal) x0 x1 x2 (ix3 b s d) = inputRow x0 x1 x2 b s d := by
  unfold inputRow
  pointwise [val_main_v3, val_main_v2, val_main_v1, val_main_v0]

theorem square_at : val_main_v10 (F := Ideal) x0 x1 x2 (ix3 b s 0) = square (inputRow x0 x1 x2 b s) := by
  unfold square count small
  simp only [← input_at]
  unfold val_main_v10 val_main_v9 val_main_v8 val_main_v7 val_main_v6 val_main_v5 val_main_v4 val_main_cst val_main_cst_0 val_main_cst_1
  generalize val_main_v3 (F := Ideal) x0 x1 x2 = p
  pointwise []

theorem root_at : val_main_v11 (F := Ideal) x0 x1 x2 (ix3 b s 0) = root (inputRow x0 x1 x2 b s) := by
  unfold root
  rw [← square_at]
  unfold val_main_v11
  generalize val_main_v10 (F := Ideal) x0 x1 x2 = p
  pointwise []

theorem normal_at : val_main_v16 (F := Ideal) x0 x1 x2 (ix3 b s d) = inputRow x0 x1 x2 b s d * root (inputRow x0 x1 x2 b s) := by
  rw [← root_at, ← input_at]
  unfold val_main_v16 val_main_v15
  generalize val_main_v11 (F := Ideal) x0 x1 x2 = p
  generalize val_main_v3 (F := Ideal) x0 x1 x2 = q
  pointwise []

theorem weighted_at : val_main_v19 (F := Ideal) x0 x1 x2 x3 (ix3 b s d) = inputRow x0 x1 x2 b s d * root (inputRow x0 x1 x2 b s) * weightRow x3 d := by
  rw [← normal_at]
  unfold val_main_v19 val_main_v18 val_main_v17 weightRow
  generalize val_main_v16 (F := Ideal) x0 x1 x2 = p
  pointwise []

theorem back_at : val_main_v32 (F := Ideal) x6 x7 x9 x10 (ix3 b s d) = backRow x6 x7 x9 x10 b s d := by
  unfold backRow
  rw [add_comm]
  pointwise [val_main_v32, val_main_v31, val_main_v30]

theorem modulated_at : val_main_v40 (F := Ideal) x5 x6 x7 x9 x10 (ix3 b s d) = backRow x6 x7 x9 x10 b s d * (1 + scaleRow x5 b d) := by
  rw [← back_at]
  unfold val_main_v40 val_main_v39 val_main_v22 val_main_v21 val_main_v20 val_main_cst_3 scaleRow
  generalize val_main_v32 (F := Ideal) x6 x7 x9 x10 = p
  pointwise []

theorem scaled_at : val_main_v46 (F := Ideal) x3 x5 x6 x7 x9 x10 (ix3 b s d)
    = scaled (backRow x6 x7 x9 x10 b s) (scaleRow x5 b) (weightRow x3) d := by
  unfold scaled
  rw [← modulated_at]
  unfold val_main_v46 val_main_v45 val_main_v17 weightRow
  generalize val_main_v40 (F := Ideal) x5 x6 x7 x9 x10 = p
  pointwise []

theorem share_at : val_main_v57 (F := Ideal) x0 x1 x2 x3 x5 x6 x7 x9 x10 (ix2 b s)
    = share (inputRow x0 x1 x2 b s) (backRow x6 x7 x9 x10 b s) (scaleRow x5 b) (weightRow x3) := by
  unfold share count minusHalf
  rw [← root_at, ← square_at]
  simp only [← scaled_at, ← input_at]
  unfold val_main_v57 val_main_v56 val_main_v55 val_main_v54 val_main_v50 val_main_v49 val_main_v48 val_main_v14 val_main_v13 val_main_v12 val_main_cst_12 val_main_cst_11 val_main_cst_10 val_main_cst_2
  generalize val_main_v46 (F := Ideal) x3 x5 x6 x7 x9 x10 = p
  generalize val_main_v11 (F := Ideal) x0 x1 x2 = q
  generalize val_main_v10 (F := Ideal) x0 x1 x2 = r
  generalize val_main_v3 (F := Ideal) x0 x1 x2 = t
  pointwise []
  exact Fin.sum_univ_one _

theorem dx_at : val_main_v62 (F := Ideal) x0 x1 x2 x3 x5 x6 x7 x8 x9 x10 (ix3 b s d)
    = x8 (ix3 b s d) + scaled (backRow x6 x7 x9 x10 b s) (scaleRow x5 b) (weightRow x3) d * root (inputRow x0 x1 x2 b s)
      + inputRow x0 x1 x2 b s d * share (inputRow x0 x1 x2 b s) (backRow x6 x7 x9 x10 b s) (scaleRow x5 b) (weightRow x3)
      + share (inputRow x0 x1 x2 b s) (backRow x6 x7 x9 x10 b s) (scaleRow x5 b) (weightRow x3) * inputRow x0 x1 x2 b s d := by
  rw [← share_at, ← scaled_at, ← root_at, ← input_at]
  unfold val_main_v62 val_main_v61 val_main_v60 val_main_v59 val_main_v58 val_main_v53 val_main_v52 val_main_v51
  generalize val_main_v57 (F := Ideal) x0 x1 x2 x3 x5 x6 x7 x9 x10 = u
  generalize val_main_v46 (F := Ideal) x3 x5 x6 x7 x9 x10 = p
  generalize val_main_v11 (F := Ideal) x0 x1 x2 = q
  generalize val_main_v3 (F := Ideal) x0 x1 x2 = t
  pointwise []

theorem scale_at : val_main_v70 (F := Ideal) x0 x1 x2 x3 x6 x7 x9 x10 (ix3 b 0 d)
    = ∑ s : Fin 4096, backRow x6 x7 x9 x10 b s d * (inputRow x0 x1 x2 b s d * root (inputRow x0 x1 x2 b s) * weightRow x3 d) := by
  simp only [← weighted_at, ← back_at]
  unfold val_main_v70 val_main_v41 val_main_v38 val_main_v37 val_main_v36 val_main_cst_6 val_main_cst_7
  generalize val_main_v19 (F := Ideal) x0 x1 x2 x3 = p
  generalize val_main_v32 (F := Ideal) x6 x7 x9 x10 = q
  pointwise []
  refine (Fin.sum_univ_one _).trans ?_
  exact Finset.sum_congr rfl fun s _ => mul_comm _ _

theorem shift_at : val_main_v71 (F := Ideal) x6 x7 x9 x10 (ix3 b 0 d) = ∑ s : Fin 4096, backRow x6 x7 x9 x10 b s d := by
  simp only [← back_at]
  unfold val_main_v71 val_main_v35 val_main_v34 val_main_v33 val_main_cst_4 val_main_cst_5
  generalize val_main_v32 (F := Ideal) x6 x7 x9 x10 = q
  pointwise []
  exact Fin.sum_univ_one _

/-- Summing a three-dimensional array over its first two axes, at one place of the third. -/
theorem sum_front {a b c : Nat} (h : (⟨3, ![a, b, c]⟩ : Shape).ReducesTo [0, 1] ⟨1, ![c]⟩)
    (v : (⟨3, ![a, b, c]⟩ : Shape).Idx → EReal) (init : EReal) (d : Fin c) :
    Ideal.hostReduceAdd h v init (ix1 d) = init + ∑ i : Fin a, ∑ j : Fin b, v (ix3 i j d) := by
  refine congrArg (init + ·) ?_
  rw [← Fintype.sum_prod_type' (f := fun (i : Fin a) (j : Fin b) => v (ix3 i j d))]
  refine Finset.sum_filter_eq_sum_of_fiber _ (fun k : Fin a × Fin b => ix3 k.1 k.2 d)
    (fun _ _ e => Prod.ext (congrFun e 0) (congrFun e 1)) (fun i => ⟨fun e => ⟨(i 0, i 1), ?_⟩, ?_⟩) v
  · funext k; apply Fin.ext
    match k with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

theorem weight_at : val_main_v72 (F := Ideal) x0 x1 x2 x5 x6 x7 x9 x10 (ix2 0 d)
    = ∑ b : Fin 2, ∑ s : Fin 4096, backRow x6 x7 x9 x10 b s d * (1 + scaleRow x5 b d) * (inputRow x0 x1 x2 b s d * root (inputRow x0 x1 x2 b s)) := by
  have e0 := fun b s => normal_at x0 x1 x2 b s d
  have e1 := fun b s => modulated_at x5 x6 x7 x9 x10 b s d
  unfold val_main_v72 val_main_v47 val_main_v44 val_main_v43 val_main_v42 val_main_cst_8 val_main_cst_9
  generalize val_main_v16 (F := Ideal) x0 x1 x2 = p at e0 ⊢
  generalize val_main_v40 (F := Ideal) x5 x6 x7 x9 x10 = q at e1 ⊢
  pointwise [sum_front]
  simp only [Fin.sum_univ_one, ← e0, ← e1]
  exact Finset.sum_congr rfl fun b _ => Finset.sum_congr rfl fun s _ => mul_comm (p (ix3 b s d)) (q (ix3 b s d))

theorem below_at : val_main_v73 (F := Ideal) x0 x1 x2 x3 x5 x6 x7 x8 x9 x10 (ix3 b s d)
    = x2 (ix2 b d) * val_main_v62 (F := Ideal) x0 x1 x2 x3 x5 x6 x7 x8 x9 x10 (ix3 b s d) := by
  unfold val_main_v73 val_main_v65 val_main_v64 val_main_v63 val_main_v0
  generalize val_main_v62 (F := Ideal) x0 x1 x2 x3 x5 x6 x7 x8 x9 x10 = p
  pointwise []

theorem gate_at : val_main_v74 (F := Ideal) x0 x1 x2 x3 x5 x6 x7 x8 x9 x10 (ix3 b 0 d)
    = ∑ s : Fin 4096, val_main_v62 (F := Ideal) x0 x1 x2 x3 x5 x6 x7 x8 x9 x10 (ix3 b s d) * x1 (ix3 b s d) := by
  unfold val_main_v74 val_main_v69 val_main_v68 val_main_v67 val_main_v66 val_main_v63 val_main_cst_13 val_main_cst_14
  generalize val_main_v62 (F := Ideal) x0 x1 x2 x3 x5 x6 x7 x8 x9 x10 = p
  pointwise []
  exact Fin.sum_univ_one _
-- ==== Proof.FirstReference.lean ====
/-
  The gradient through the first feed-forward layer's normalisation: the reference, entry by entry.
-/
module

public import proofs.«01_k».proof.Proof.NormReference
public import proofs.«01_k».proof.Proof.Gen.Reference5Ideal.Read

@[expose] public noncomputable section

set_option maxRecDepth 16384

namespace Cert.Proof.First.Reference

open Cert.Proof.Norm (small square root scaled pull minusHalf share agree)

open Cert.Reference5Ideal Cert.Reference5Ideal.Gen Cert.Reference5Ideal.Read
open Idealize ShloMosaic ShloMosaic.TcCoe SL.Sem ShloMosaic.Pointwise

variable (x0 : FVec Ideal S2x4096x1024 .f32) (x1 : FVec Ideal S1024 .f32) (x3 : FVec Ideal S2x1024 .f32)
  (x4 x5 : FVec Ideal S1024x2816 .f32) (x6 : FVec Ideal S2x4096x1024 .f32) (x7 x8 : FVec Ideal S2x4096x2816 .f32)
variable (b : Fin 2) (s : Fin 4096) (d : Fin 1024)

/-- A row of the layer's input. -/
def inputRow (b : Fin 2) (s : Fin 4096) (d : Fin 1024) : EReal := x0 (ix3 b s d)
/-- The gradient of a modulated row. -/
def backRow (b : Fin 2) (s : Fin 4096) (d : Fin 1024) : EReal :=
  ∑ f : Fin 2816, x7 (ix3 b s f) * x4 (ix2 d f) + ∑ f : Fin 2816, x8 (ix3 b s f) * x5 (ix2 d f)
/-- A batch member's scale. -/
def scaleRow (b : Fin 2) (d : Fin 1024) : EReal := x3 (ix2 b d)
/-- The normalisation's weight. -/
def weightRow (d : Fin 1024) : EReal := x1 (ix1 d)

theorem square_at : val_main_v6 (F := Ideal) x0 (ix3 b s 0) = square (inputRow x0 b s) := by
  unfold square Norm.count small
  unfold val_main_v6 val_main_v5 val_main_v4 val_main_v3 val_main_v2 val_main_v1 val_main_v0 val_main_cst val_main_cst_0 val_main_cst_1
  pointwise []
  rfl

theorem root_at : val_main_v7 (F := Ideal) x0 (ix3 b s 0) = root (inputRow x0 b s) := by
  unfold root
  rw [← square_at]
  unfold val_main_v7
  generalize val_main_v6 (F := Ideal) x0 = p
  pointwise []

theorem normal_at : val_main_v12 (F := Ideal) x0 (ix3 b s d) = inputRow x0 b s d * root (inputRow x0 b s) := by
  rw [← root_at]
  unfold val_main_v12 val_main_v11
  generalize val_main_v7 (F := Ideal) x0 = p
  pointwise []
  rfl

theorem weighted_at : val_main_v15 (F := Ideal) x0 x1 (ix3 b s d) = inputRow x0 b s d * root (inputRow x0 b s) * weightRow x1 d := by
  rw [← normal_at]
  unfold val_main_v15 val_main_v14 val_main_v13 weightRow
  generalize val_main_v12 (F := Ideal) x0 = p
  pointwise []

theorem back_at : val_main_v28 (F := Ideal) x4 x5 x7 x8 (ix3 b s d) = backRow x4 x5 x7 x8 b s d := by
  unfold backRow
  rw [add_comm]
  pointwise [val_main_v28, val_main_v27, val_main_v26]

theorem modulated_at : val_main_v36 (F := Ideal) x3 x4 x5 x7 x8 (ix3 b s d) = backRow x4 x5 x7 x8 b s d * (1 + scaleRow x3 b d) := by
  rw [← back_at]
  unfold val_main_v36 val_main_v35 val_main_v18 val_main_v17 val_main_v16 val_main_cst_3 scaleRow
  generalize val_main_v28 (F := Ideal) x4 x5 x7 x8 = p
  pointwise []

theorem scaled_at : val_main_v42 (F := Ideal) x1 x3 x4 x5 x7 x8 (ix3 b s d)
    = scaled (backRow x4 x5 x7 x8 b s) (scaleRow x3 b) (weightRow x1) d := by
  unfold scaled
  rw [← modulated_at]
  unfold val_main_v42 val_main_v41 val_main_v13 weightRow
  generalize val_main_v36 (F := Ideal) x3 x4 x5 x7 x8 = p
  pointwise []

theorem share_at : val_main_v53 (F := Ideal) x0 x1 x3 x4 x5 x7 x8 (ix2 b s)
    = share (inputRow x0 b s) (backRow x4 x5 x7 x8 b s) (scaleRow x3 b) (weightRow x1) := by
  unfold share Norm.count minusHalf
  rw [← root_at, ← square_at]
  simp only [← scaled_at]
  unfold val_main_v53 val_main_v52 val_main_v51 val_main_v50 val_main_v46 val_main_v45 val_main_v44 val_main_v10 val_main_v9 val_main_v8 val_main_cst_12 val_main_cst_11 val_main_cst_10 val_main_cst_2
  generalize val_main_v42 (F := Ideal) x1 x3 x4 x5 x7 x8 = p
  generalize val_main_v7 (F := Ideal) x0 = q
  generalize val_main_v6 (F := Ideal) x0 = r
  pointwise []
  exact Fin.sum_univ_one _

theorem dx_at : val_main_v58 (F := Ideal) x0 x1 x3 x4 x5 x6 x7 x8 (ix3 b s d)
    = x6 (ix3 b s d) + scaled (backRow x4 x5 x7 x8 b s) (scaleRow x3 b) (weightRow x1) d * root (inputRow x0 b s)
      + inputRow x0 b s d * share (inputRow x0 b s) (backRow x4 x5 x7 x8 b s) (scaleRow x3 b) (weightRow x1)
      + share (inputRow x0 b s) (backRow x4 x5 x7 x8 b s) (scaleRow x3 b) (weightRow x1) * inputRow x0 b s d := by
  rw [← share_at, ← scaled_at, ← root_at]
  unfold val_main_v58 val_main_v57 val_main_v56 val_main_v55 val_main_v54 val_main_v49 val_main_v48 val_main_v47
  generalize val_main_v53 (F := Ideal) x0 x1 x3 x4 x5 x7 x8 = u
  generalize val_main_v42 (F := Ideal) x1 x3 x4 x5 x7 x8 = p
  generalize val_main_v7 (F := Ideal) x0 = q
  pointwise []
  rfl

theorem scale_at : val_main_v59 (F := Ideal) x0 x1 x4 x5 x7 x8 (ix3 b 0 d)
    = ∑ s : Fin 4096, backRow x4 x5 x7 x8 b s d * (inputRow x0 b s d * root (inputRow x0 b s) * weightRow x1 d) := by
  simp only [← weighted_at, ← back_at]
  unfold val_main_v59 val_main_v37 val_main_v34 val_main_v33 val_main_v32 val_main_cst_6 val_main_cst_7
  generalize val_main_v15 (F := Ideal) x0 x1 = p
  generalize val_main_v28 (F := Ideal) x4 x5 x7 x8 = q
  pointwise []
  refine (Fin.sum_univ_one _).trans ?_
  exact Finset.sum_congr rfl fun s _ => mul_comm _ _

theorem shift_at : val_main_v60 (F := Ideal) x4 x5 x7 x8 (ix3 b 0 d) = ∑ s : Fin 4096, backRow x4 x5 x7 x8 b s d := by
  simp only [← back_at]
  unfold val_main_v60 val_main_v31 val_main_v30 val_main_v29 val_main_cst_4 val_main_cst_5
  generalize val_main_v28 (F := Ideal) x4 x5 x7 x8 = q
  pointwise []
  exact Fin.sum_univ_one _

theorem weight_at : val_main_v61 (F := Ideal) x0 x3 x4 x5 x7 x8 (ix2 0 d)
    = ∑ b : Fin 2, ∑ s : Fin 4096, backRow x4 x5 x7 x8 b s d * (1 + scaleRow x3 b d) * (inputRow x0 b s d * root (inputRow x0 b s)) := by
  have e0 := fun b s => normal_at x0 b s d
  have e1 := fun b s => modulated_at x3 x4 x5 x7 x8 b s d
  unfold val_main_v61 val_main_v43 val_main_v40 val_main_v39 val_main_v38 val_main_cst_8 val_main_cst_9
  generalize val_main_v12 (F := Ideal) x0 = p at e0 ⊢
  generalize val_main_v36 (F := Ideal) x3 x4 x5 x7 x8 = q at e1 ⊢
  pointwise [Norm.Reference.sum_front]
  simp only [Fin.sum_univ_one, ← e0, ← e1]
  exact Finset.sum_congr rfl fun b _ => Finset.sum_congr rfl fun s _ => mul_comm (p (ix3 b s d)) (q (ix3 b s d))
-- ==== Proof.NormTile.lean ====
/-
  The gradient through the second feed-forward layer's normalisation: what one point of the grid leaves in its blocks.
-/
module

public import proofs.«01_k».proof.Proof.NormMath
public import proofs.«01_k».proof.Proof.Gen.Kernel4Ideal.Frame
public import Idealize.ShloMosaic.Lib.Pipeline.ValueKit

@[expose] public noncomputable section

set_option maxRecDepth 16384

namespace Cert.Proof.Norm

open Cert.Kernel4Ideal Cert.Kernel4Ideal.Gen
open Idealize ShloMosaic ShloMosaic.TcCoe ShloMosaic.Pointwise

/-! ## Rows of the blocks -/

/-- A row of a block. -/
abbrev row (x : FVec Ideal S1x512x1024 .f32) (r : Fin 512) (k : Fin 1024) : EReal := x (ix3 0 r k)
/-- The entries of a batch member's vector. -/
abbrev member (s : FVec Ideal S1x1x1024 .f32) (k : Fin 1024) : EReal := s (ix3 0 0 k)
/-- The entries of a vector. -/
abbrev vector (w : FVec Ideal S1x1024 .f32) (k : Fin 1024) : EReal := w (ix2 0 k)
/-- The gradient of a modulated row: the two gradients times the two weights. -/
def back (g u : FVec Ideal S1x512x2816 .bf16) (a b : FVec Ideal S2816x1024 .bf16) (r : Fin 512) (k : Fin 1024) : EReal :=
  ∑ f : Fin 2816, g (ix3 0 r f) * a (ix2 f k) + ∑ f : Fin 2816, u (ix3 0 r f) * b (ix2 f k)

/-! ## The stages -/

variable (g u : FVec Ideal S1x512x2816 .bf16) (a b : FVec Ideal S2816x1024 .bf16) (x xn : FVec Ideal S1x512x1024 .f32) (o : FVec Ideal S1x512x1024 .bf16)
  (w A2 : FVec Ideal S1x1024 .f32) (sc ga A3 : FVec Ideal S1x1x1024 .f32) (r : Fin 512) (d : Fin 1024)

theorem back_at : k0_pay6 (F := Ideal) g a u b (ix2 r d) = back g u a b r d := by
  unfold back
  pointwise [k0_pay6]

theorem input_at : k0_pay7 (F := Ideal) x (ix2 r d) = row x r d := by
  pointwise [k0_pay7]

theorem root_at : k0_pay8 (F := Ideal) x (ix2 r 0) = root (row x r) := by
  unfold k0_pay8 root square count small
  have e := input_at x
  generalize k0_pay7 (F := Ideal) x = y at e
  pointwise []
  simp only [e]

theorem normal_at : k0_pay9 (F := Ideal) x (ix2 r d) = row x r d * root (row x r) := by
  rw [← root_at, ← input_at]
  unfold k0_pay9
  generalize k0_pay8 (F := Ideal) x = p
  generalize k0_pay7 (F := Ideal) x = q
  pointwise []

theorem weight_at : k0_pay10 (F := Ideal) w (ix2 0 d) = vector w d := by
  pointwise [k0_pay10]

theorem modulated_at : k0_pay13 (F := Ideal) (k0_pay6 (F := Ideal) g a u b) sc (ix2 r d) = back g u a b r d * (1 + member sc d) := by
  rw [← back_at]
  unfold k0_pay13
  generalize k0_pay6 (F := Ideal) g a u b = p
  pointwise []

theorem dx_at : k0_pay15 (F := Ideal) (k0_pay8 x) (k0_pay9 x) (k0_pay10 w) (k0_pay13 (k0_pay6 g a u b) sc) xn (ix2 r d)
    = xn (ix3 0 r d) + pull (row x r) (back g u a b r) (member sc) (vector w) d := by
  have e : ∀ k, scaled (back g u a b r) (member sc) (vector w) k = k0_pay13 (F := Ideal) (k0_pay6 g a u b) sc (ix2 r k) * k0_pay10 (F := Ideal) w (ix2 0 k) := fun k => by
    rw [modulated_at, weight_at]
    rfl
  have en : ∀ k, row x r k * root (row x r) = k0_pay9 (F := Ideal) x (ix2 r k) := fun k => (normal_at x r k).symm
  unfold pull
  simp only [e, en]
  rw [← root_at]
  unfold k0_pay15 count
  generalize k0_pay13 (F := Ideal) (k0_pay6 g a u b) sc = p
  generalize k0_pay10 (F := Ideal) w = q
  generalize k0_pay9 (F := Ideal) x = n
  generalize k0_pay8 (F := Ideal) x = s
  pointwise []

theorem dx_block_at : k0_pay16 (F := Ideal) (k0_pay8 x) (k0_pay9 x) (k0_pay10 w) (k0_pay13 (k0_pay6 g a u b) sc) xn (ix3 0 r d)
    = xn (ix3 0 r d) + pull (row x r) (back g u a b r) (member sc) (vector w) d := by
  rw [← dx_at]
  unfold k0_pay16
  generalize k0_pay15 (F := Ideal) (k0_pay8 x) (k0_pay9 x) (k0_pay10 w) (k0_pay13 (k0_pay6 g a u b) sc) xn = p
  pointwise []

theorem do_block_at : k0_pay17 (F := Ideal) (k0_pay8 x) (k0_pay9 x) (k0_pay10 w) (k0_pay13 (k0_pay6 g a u b) sc) xn ga (ix3 0 r d)
    = member ga d * (xn (ix3 0 r d) + pull (row x r) (back g u a b r) (member sc) (vector w) d) := by
  rw [← dx_at]
  unfold k0_pay17
  generalize k0_pay15 (F := Ideal) (k0_pay8 x) (k0_pay9 x) (k0_pay10 w) (k0_pay13 (k0_pay6 g a u b) sc) xn = p
  pointwise []

/-- What a point adds to the gradient of the scale. -/
def partScale : EReal := ∑ r : Fin 512, back g u a b r d * (row x r d * root (row x r) * vector w d)
/-- What a point adds to the gradient of the shift. -/
def partShift : EReal := ∑ r : Fin 512, back g u a b r d
/-- What a point adds to the gradient of the normalisation's weight. -/
def partWeight : EReal := ∑ r : Fin 512, back g u a b r d * (1 + member sc d) * (row x r d * root (row x r))
/-- What a point adds to the gradient of the gate below. -/
def partGate : EReal := ∑ r : Fin 512, (xn (ix3 0 r d) + pull (row x r) (back g u a b r) (member sc) (vector w) d) * o (ix3 0 r d)

theorem scale_at : k0_pay11 (F := Ideal) (k0_pay6 g a u b) (k0_pay9 x) w A3 (ix3 0 0 d) = member A3 d + partScale g u a b x w d := by
  unfold partScale
  simp only [← normal_at, ← back_at]
  have e := weight_at w
  unfold k0_pay11
  generalize k0_pay6 (F := Ideal) g a u b = p
  generalize k0_pay10 (F := Ideal) w = q at e ⊢
  generalize k0_pay9 (F := Ideal) x = n
  pointwise []
  simp only [e]

theorem shift_at : k0_pay12 (F := Ideal) (k0_pay6 g a u b) A3 (ix3 0 0 d) = member A3 d + partShift g u a b d := by
  unfold partShift
  simp only [← back_at]
  unfold k0_pay12
  generalize k0_pay6 (F := Ideal) g a u b = p
  pointwise []

theorem norm_weight_at : k0_pay14 (F := Ideal) (k0_pay6 g a u b) (k0_pay9 x) sc A2 (ix2 0 d) = vector A2 d + partWeight g u a b x sc d := by
  unfold partWeight
  simp only [← modulated_at, ← normal_at]
  unfold k0_pay14
  generalize k0_pay13 (F := Ideal) (k0_pay6 g a u b) sc = p
  generalize k0_pay9 (F := Ideal) x = n
  pointwise []

theorem gate_at : k0_pay1 (F := Ideal) (k0_pay18 A3) (k0_pay19 (k0_pay8 x) (k0_pay9 x) (k0_pay10 w) (k0_pay13 (k0_pay6 g a u b) sc) xn o) (ix3 0 0 d)
    = member A3 d + partGate g u a b x xn o w sc d := by
  unfold partGate
  simp only [← dx_at]
  unfold k0_pay1 k0_pay18 k0_pay19
  generalize k0_pay15 (F := Ideal) (k0_pay8 x) (k0_pay9 x) (k0_pay10 w) (k0_pay13 (k0_pay6 g a u b) sc) xn = p
  pointwise []

theorem zero2 : k0_pay2 (F := Ideal) (ix3 0 0 d) = 0 := by pointwise [k0_pay2]
theorem zero3 : k0_pay3 (F := Ideal) (ix3 0 0 d) = 0 := by pointwise [k0_pay3]
theorem zero4 : k0_pay4 (F := Ideal) (ix3 0 0 d) = 0 := by pointwise [k0_pay4]
theorem zero5 : k0_pay5 (F := Ideal) (ix2 0 d) = 0 := by pointwise [k0_pay5]
-- ==== Proof.NormPoint.lean ====
/-
  The gradient through the second feed-forward layer's normalisation: the accumulated sums over a batch member's points.
-/
module

public import proofs.«01_k».proof.Proof.NormTile

@[expose] public noncomputable section

set_option maxRecDepth 16384

namespace Cert.Proof.Norm

open Cert.Kernel4Ideal Cert.Kernel4Ideal.Gen
open Idealize ShloMosaic ShloMosaic.TcCoe ShloMosaic.Pointwise

variable (m : (ℓ : Loc nD τ sig) → Buf (Elt Ideal) ℓ) (c : Dev nD) (t : Fin cfg0.N) (r : Fin 512) (d : Fin 1024)

theorem inside : t.val < 16 := lt_of_lt_of_eq t.isLt (show cfg0.N = 16 from N_0)

/-- The gradient of a point's modulated rows. -/
abbrev backOf : Fin 512 → Fin 1024 → EReal := back (iblk m c 0 t) (iblk m c 1 t) (iblk m c 2 t) (iblk m c 3 t)

theorem dx_point : (outsAt0 m c t.val t.isLt).1 (ix3 0 r d)
    = row (iblk m c 5 t) r d + pull (row (iblk m c 4 t) r) (backOf m c t r) (member (iblk m c 7 t)) (vector (iblk m c 6 t)) d := by
  have ht := inside t
  by_cases h0 : t.val % 8 = 0
  · by_cases h1 : t.val % 16 = 0
    · rw [outsAt0_A m c t h0 h1]
      frame_out
      exact dx_block_at ..
    · rw [outsAt0_C m c t h0 h1]
      frame_out
      exact dx_block_at ..
  · rw [outsAt0_B m c t h0 (by omega)]
    frame_out
    exact dx_block_at ..

theorem do_point : (outsAt0 m c t.val t.isLt).2.2.2.2.1 (ix3 0 r d)
    = member (iblk m c 9 t) d
      * (row (iblk m c 5 t) r d + pull (row (iblk m c 4 t) r) (backOf m c t r) (member (iblk m c 7 t)) (vector (iblk m c 6 t)) d) := by
  have ht := inside t
  by_cases h0 : t.val % 8 = 0
  · by_cases h1 : t.val % 16 = 0
    · rw [outsAt0_A m c t h0 h1]
      frame_out
      exact do_block_at ..
    · rw [outsAt0_C m c t h0 h1]
      frame_out
      exact do_block_at ..
  · rw [outsAt0_B m c t h0 (by omega)]
    frame_out
    exact do_block_at ..

/-- What a point adds to the gradient of the scale. -/
abbrev addScale : EReal := partScale (iblk m c 0 t) (iblk m c 1 t) (iblk m c 2 t) (iblk m c 3 t) (iblk m c 4 t) (iblk m c 6 t) d
/-- What a point adds to the gradient of the shift. -/
abbrev addShift : EReal := partShift (iblk m c 0 t) (iblk m c 1 t) (iblk m c 2 t) (iblk m c 3 t) d
/-- What a point adds to the gradient of the normalisation's weight. -/
abbrev addWeight : EReal := partWeight (iblk m c 0 t) (iblk m c 1 t) (iblk m c 2 t) (iblk m c 3 t) (iblk m c 4 t) (iblk m c 7 t) d
/-- What a point adds to the gradient of the gate below. -/
abbrev addGate : EReal :=
  partGate (iblk m c 0 t) (iblk m c 1 t) (iblk m c 2 t) (iblk m c 3 t) (iblk m c 4 t) (iblk m c 5 t) (iblk m c 8 t) (iblk m c 6 t) (iblk m c 7 t) d

theorem scale_first (h : t.val % 8 = 0) : (outsAt0 m c t.val t.isLt).2.1 (ix3 0 0 d) = 0 + addScale m c t d := by
  by_cases h1 : t.val % 16 = 0
  · rw [outsAt0_A m c t h h1]
    frame_out
    exact (scale_at ..).trans (congrArg (· + _) (zero2 d))
  · rw [outsAt0_C m c t h h1]
    frame_out
    exact (scale_at ..).trans (congrArg (· + _) (zero2 d))

theorem scale_next (h : ¬t.val % 8 = 0) : (outsAt0 m c t.val t.isLt).2.1 (ix3 0 0 d)
    = (outsAt0 m c (t.val - 1) (Nat.lt_of_le_of_lt (Nat.sub_le _ _) t.isLt)).2.1 (ix3 0 0 d) + addScale m c t d := by
  rw [outsAt0_B m c t h (by omega)]
  frame_out
  exact scale_at ..

theorem scale_total (h : t.val % 8 = 7) : (outsAt0 m c t.val t.isLt).2.1 (ix3 0 0 d)
    = ∑ s : Fin 8, addScale m c ⟨8 * (t.val / 8) + s.val, Pipeline.run_point_lt_of_flush t h s⟩ d := by
  rw [Pipeline.eq_sum_fin_of_reset_step_of_flush (fun n hn => (outsAt0 m c n hn).2.1 (ix3 0 0 d)) 8 0 (fun t => addScale m c t d)
    (fun t h => scale_first m c t d h) (fun t h => scale_next m c t d h) t h, zero_add]

theorem shift_first (h : t.val % 8 = 0) : (outsAt0 m c t.val t.isLt).2.2.1 (ix3 0 0 d) = 0 + addShift m c t d := by
  by_cases h1 : t.val % 16 = 0
  · rw [outsAt0_A m c t h h1]
    frame_out
    exact (shift_at ..).trans (congrArg (· + _) (zero3 d))
  · rw [outsAt0_C m c t h h1]
    frame_out
    exact (shift_at ..).trans (congrArg (· + _) (zero3 d))

theorem shift_next (h : ¬t.val % 8 = 0) : (outsAt0 m c t.val t.isLt).2.2.1 (ix3 0 0 d)
    = (outsAt0 m c (t.val - 1) (Nat.lt_of_le_of_lt (Nat.sub_le _ _) t.isLt)).2.2.1 (ix3 0 0 d) + addShift m c t d := by
  rw [outsAt0_B m c t h (by omega)]
  frame_out
  exact shift_at ..

theorem shift_total (h : t.val % 8 = 7) : (outsAt0 m c t.val t.isLt).2.2.1 (ix3 0 0 d)
    = ∑ s : Fin 8, addShift m c ⟨8 * (t.val / 8) + s.val, Pipeline.run_point_lt_of_flush t h s⟩ d := by
  rw [Pipeline.eq_sum_fin_of_reset_step_of_flush (fun n hn => (outsAt0 m c n hn).2.2.1 (ix3 0 0 d)) 8 0 (fun t => addShift m c t d)
    (fun t h => shift_first m c t d h) (fun t h => shift_next m c t d h) t h, zero_add]

theorem gate_first (h : t.val % 8 = 0) : (outsAt0 m c t.val t.isLt).2.2.2.2.2 (ix3 0 0 d) = 0 + addGate m c t d := by
  by_cases h1 : t.val % 16 = 0
  · rw [outsAt0_A m c t h h1]
    frame_out
    exact (gate_at ..).trans (congrArg (· + _) (zero4 d))
  · rw [outsAt0_C m c t h h1]
    frame_out
    exact (gate_at ..).trans (congrArg (· + _) (zero4 d))

theorem gate_next (h : ¬t.val % 8 = 0) : (outsAt0 m c t.val t.isLt).2.2.2.2.2 (ix3 0 0 d)
    = (outsAt0 m c (t.val - 1) (Nat.lt_of_le_of_lt (Nat.sub_le _ _) t.isLt)).2.2.2.2.2 (ix3 0 0 d) + addGate m c t d := by
  rw [outsAt0_B m c t h (by omega)]
  frame_out
  exact gate_at ..

theorem gate_total (h : t.val % 8 = 7) : (outsAt0 m c t.val t.isLt).2.2.2.2.2 (ix3 0 0 d)
    = ∑ s : Fin 8, addGate m c ⟨8 * (t.val / 8) + s.val, Pipeline.run_point_lt_of_flush t h s⟩ d := by
  rw [Pipeline.eq_sum_fin_of_reset_step_of_flush (fun n hn => (outsAt0 m c n hn).2.2.2.2.2 (ix3 0 0 d)) 8 0 (fun t => addGate m c t d)
    (fun t h => gate_first m c t d h) (fun t h => gate_next m c t d h) t h, zero_add]

theorem weight_first (h : t.val % 16 = 0) : (outsAt0 m c t.val t.isLt).2.2.2.1 (ix2 0 d) = 0 + addWeight m c t d := by
  rw [outsAt0_A m c t (by omega) h]
  frame_out
  exact (norm_weight_at ..).trans (congrArg (· + _) (zero5 d))

theorem weight_next (h : ¬t.val % 16 = 0) : (outsAt0 m c t.val t.isLt).2.2.2.1 (ix2 0 d)
    = (outsAt0 m c (t.val - 1) (Nat.lt_of_le_of_lt (Nat.sub_le _ _) t.isLt)).2.2.2.1 (ix2 0 d) + addWeight m c t d := by
  by_cases h0 : t.val % 8 = 0
  · rw [outsAt0_C m c t h0 h]
    frame_out
    exact norm_weight_at ..
  · rw [outsAt0_B m c t h0 h]
    frame_out
    exact norm_weight_at ..

theorem weight_total (h : t.val % 16 = 15) : (outsAt0 m c t.val t.isLt).2.2.2.1 (ix2 0 d)
    = ∑ s : Fin 16, addWeight m c ⟨16 * (t.val / 16) + s.val, Pipeline.run_point_lt_of_flush t h s⟩ d := by
  rw [Pipeline.eq_sum_fin_of_reset_step_of_flush (fun n hn => (outsAt0 m c n hn).2.2.2.1 (ix2 0 d)) 16 0 (fun t => addWeight m c t d)
    (fun t h => weight_first m c t d h) (fun t h => weight_next m c t d h) t h, zero_add]
-- ==== Proof.NormBlocks.lean ====
/-
  The gradient through the second feed-forward layer's normalisation: the arrays that the kernel leaves, in terms of its arguments.
-/
module

public import proofs.«01_k».proof.Proof.NormPoint
public import Idealize.ShloMosaic.Lib.TwoAxisContraction
public import Idealize.ShloMosaic.Lib.StableHlo.RunRead

@[expose] public noncomputable section

set_option maxRecDepth 16384

namespace Cert.Proof.Norm

open Cert.Kernel4Ideal Cert.Kernel4Ideal.Gen
open Idealize ShloMosaic ShloMosaic.TcCoe SL.Sem ShloMosaic.Pointwise
local notation "Tc" => Thread nD τ

variable (m : (ℓ : Loc nD τ sig) → Buf (Elt Ideal) ℓ) (ρ : Dev nD → PrngReg) (c : Dev nD)

theorem at0 : ∀ t : Fin cfg0.N, win0_0.index t = ![t.val / 8, t.val % 8, 0] := by decide +kernel
theorem at1 : ∀ t : Fin cfg0.N, win0_1.index t = ![t.val / 8, t.val % 8, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val / 8, t.val % 8, 0] := by decide +kernel
theorem at5 : ∀ t : Fin cfg0.N, win0_5.index t = ![t.val / 8, t.val % 8, 0] := by decide +kernel
theorem at6 : ∀ t : Fin cfg0.N, win0_6.index t = ![0, 0] := by decide +kernel
theorem at7 : ∀ t : Fin cfg0.N, win0_7.index t = ![t.val / 8, 0, 0] := by decide +kernel
theorem at8 : ∀ t : Fin cfg0.N, win0_8.index t = ![t.val / 8, t.val % 8, 0] := by decide +kernel
theorem at9 : ∀ t : Fin cfg0.N, win0_9.index t = ![t.val / 8, 0, 0] := by decide +kernel
theorem at10 : ∀ t : Fin cfg0.N, win0_10.index t = ![t.val / 8, t.val % 8, 0] := by decide +kernel
theorem at11 : ∀ t : Fin cfg0.N, win0_11.index t = ![t.val / 8, 0, 0] := by decide +kernel
theorem at12 : ∀ t : Fin cfg0.N, win0_12.index t = ![t.val / 8, 0, 0] := by decide +kernel
theorem at13 : ∀ t : Fin cfg0.N, win0_13.index t = ![0, 0] := by decide +kernel
theorem at14 : ∀ t : Fin cfg0.N, win0_14.index t = ![t.val / 8, t.val % 8, 0] := by decide +kernel
theorem at15 : ∀ t : Fin cfg0.N, win0_15.index t = ![t.val / 8, 0, 0] := by decide +kernel

/-! ## The arguments, and what the host passes on -/

abbrev arg_x : FVec Ideal S2x4096x1024 .f32 := m ((c : Tc).loc main_arg0)
abbrev arg_below : FVec Ideal S2x4096x1024 .f32 := m ((c : Tc).loc main_arg1)
abbrev arg_gate : FVec Ideal S2x1024 .f32 := m ((c : Tc).loc main_arg2)
abbrev arg_weight : FVec Ideal S1024 .f32 := m ((c : Tc).loc main_arg3)
abbrev arg_scale : FVec Ideal S2x1024 .f32 := m ((c : Tc).loc main_arg5)
abbrev arg_left : FVec Ideal S1024x2816 .f32 := m ((c : Tc).loc main_arg6)
abbrev arg_right : FVec Ideal S1024x2816 .f32 := m ((c : Tc).loc main_arg7)
abbrev arg_cotangent : FVec Ideal S2x4096x1024 .f32 := m ((c : Tc).loc main_arg8)
abbrev arg_gradLeft : FVec Ideal S2x4096x2816 .f32 := m ((c : Tc).loc main_arg9)
abbrev arg_gradRight : FVec Ideal S2x4096x2816 .f32 := m ((c : Tc).loc main_arg10)

/-- A row of the layer's input: what came before it, and the gated output of the layer below. -/
def inputRow (b : Fin 2) (s : Fin 4096) (d : Fin 1024) : EReal := arg_x m c (ix3 b s d) + arg_gate m c (ix2 b d) * arg_below m c (ix3 b s d)
/-- The gradient of a modulated row. -/
def backRow (b : Fin 2) (s : Fin 4096) (d : Fin 1024) : EReal :=
  ∑ f : Fin 2816, arg_gradLeft m c (ix3 b s f) * arg_left m c (ix2 d f) + ∑ f : Fin 2816, arg_gradRight m c (ix3 b s f) * arg_right m c (ix2 d f)
/-- A batch member's scale. -/
def scaleRow (b : Fin 2) (d : Fin 1024) : EReal := arg_scale m c (ix2 b d)
/-- The normalisation's weight. -/
def weightRow (d : Fin 1024) : EReal := arg_weight m c (ix1 d)
/-- The gradient of the layer's input. -/
def inputGradient (b : Fin 2) (s : Fin 4096) (d : Fin 1024) : EReal :=
  arg_cotangent m c (ix3 b s d) + pull (inputRow m c b s) (backRow m c b s) (scaleRow m c b) (weightRow m c) d

theorem V_x (b : Fin 2) (s : Fin 4096) (d : Fin 1024) : (V m c main_v3 : FVec Ideal S2x4096x1024 .f32) (ix3 b s d) = inputRow m c b s d := by
  unfold inputRow arg_x arg_gate arg_below
  after_reads_simp
  generalize m ((c : Tc).loc main_arg0) = X
  generalize m ((c : Tc).loc main_arg1) = O
  generalize m ((c : Tc).loc main_arg2) = G
  pointwise []

theorem V_below (b : Fin 2) (s : Fin 4096) (d : Fin 1024) : (V m c main_v4 : FVec Ideal S2x4096x1024 .bf16) (ix3 b s d) = arg_below m c (ix3 b s d) := by
  unfold arg_below
  after_reads_simp
  generalize m ((c : Tc).loc main_arg1) = X
  pointwise []

theorem V_gate (b : Fin 2) (d : Fin 1024) : (V m c main_v5 : FVec Ideal S2x1x1024 .f32) (ix3 b 0 d) = arg_gate m c (ix2 b d) := by
  unfold arg_gate
  after_reads_simp
  generalize m ((c : Tc).loc main_arg2) = X
  pointwise []

theorem V_gradLeft (b : Fin 2) (s : Fin 4096) (f : Fin 2816) : (V m c main_v6 : FVec Ideal S2x4096x2816 .bf16) (ix3 b s f) = arg_gradLeft m c (ix3 b s f) := by
  unfold arg_gradLeft
  after_reads_simp
  generalize m ((c : Tc).loc main_arg9) = X
  pointwise []

theorem V_gradRight (b : Fin 2) (s : Fin 4096) (f : Fin 2816) : (V m c main_v7 : FVec Ideal S2x4096x2816 .bf16) (ix3 b s f) = arg_gradRight m c (ix3 b s f) := by
  unfold arg_gradRight
  after_reads_simp
  generalize m ((c : Tc).loc main_arg10) = X
  pointwise []

theorem V_left (f : Fin 2816) (d : Fin 1024) : (V m c main_v9 : FVec Ideal S2816x1024 .bf16) (ix2 f d) = arg_left m c (ix2 d f) := by
  unfold arg_left
  after_reads_simp
  generalize m ((c : Tc).loc main_arg6) = X
  pointwise []

theorem V_right (f : Fin 2816) (d : Fin 1024) : (V m c main_v11 : FVec Ideal S2816x1024 .bf16) (ix2 f d) = arg_right m c (ix2 d f) := by
  unfold arg_right
  after_reads_simp
  generalize m ((c : Tc).loc main_arg7) = X
  pointwise []

theorem V_weight (d : Fin 1024) : (V m c main_v12 : FVec Ideal S1x1024 .f32) (ix2 0 d) = weightRow m c d := by
  unfold weightRow arg_weight
  after_reads_simp
  generalize m ((c : Tc).loc main_arg3) = X
  pointwise []

theorem V_scale (b : Fin 2) (d : Fin 1024) : (V m c main_v13 : FVec Ideal S2x1x1024 .f32) (ix3 b 0 d) = scaleRow m c b d := by
  unfold scaleRow arg_scale
  after_reads_simp
  generalize m ((c : Tc).loc main_arg5) = X
  pointwise []

/-! ## The blocks -/

theorem read0 (X : Buf (Elt Ideal) ((c : Tc).loc main_v6)) (t : Fin cfg0.N) (r : Fin 512) (k : Fin 2816) (b : Fin 2) (s : Fin 4096) (hb : b.val = t.val / 8) (hs : s.val = t.val % 8 * 512 + r.val) :
    ((cfg0.win 0).blk t).view.read (Elt Ideal) X (ix3 0 r k) = (X : FVec Ideal S2x4096x2816 .bf16) (ix3 b s k) := by
  blk_simp
  refine congrArg X ?_
  blk_ext [at0]

theorem read1 (X : Buf (Elt Ideal) ((c : Tc).loc main_v7)) (t : Fin cfg0.N) (r : Fin 512) (k : Fin 2816) (b : Fin 2) (s : Fin 4096) (hb : b.val = t.val / 8) (hs : s.val = t.val % 8 * 512 + r.val) :
    ((cfg0.win 1).blk t).view.read (Elt Ideal) X (ix3 0 r k) = (X : FVec Ideal S2x4096x2816 .bf16) (ix3 b s k) := by
  blk_simp
  refine congrArg X ?_
  blk_ext [at1]

theorem read2 (X : Buf (Elt Ideal) ((c : Tc).loc main_v9)) (t : Fin cfg0.N) (f : Fin 2816) (k : Fin 1024) :
    ((cfg0.win 2).blk t).view.read (Elt Ideal) X (ix2 f k) = (X : FVec Ideal S2816x1024 .bf16) (ix2 f k) := by
  blk_simp
  refine congrArg X ?_
  blk_ext [at2]

theorem read3 (X : Buf (Elt Ideal) ((c : Tc).loc main_v11)) (t : Fin cfg0.N) (f : Fin 2816) (k : Fin 1024) :
    ((cfg0.win 3).blk t).view.read (Elt Ideal) X (ix2 f k) = (X : FVec Ideal S2816x1024 .bf16) (ix2 f k) := by
  blk_simp
  refine congrArg X ?_
  blk_ext [at3]

theorem read4 (X : Buf (Elt Ideal) ((c : Tc).loc main_v3)) (t : Fin cfg0.N) (r : Fin 512) (k : Fin 1024) (b : Fin 2) (s : Fin 4096) (hb : b.val = t.val / 8) (hs : s.val = t.val % 8 * 512 + r.val) :
    ((cfg0.win 4).blk t).view.read (Elt Ideal) X (ix3 0 r k) = (X : FVec Ideal S2x4096x1024 .f32) (ix3 b s k) := by
  blk_simp
  refine congrArg X ?_
  blk_ext [at4]

theorem read5 (X : Buf (Elt Ideal) ((c : Tc).loc main_arg8)) (t : Fin cfg0.N) (r : Fin 512) (k : Fin 1024) (b : Fin 2) (s : Fin 4096) (hb : b.val = t.val / 8) (hs : s.val = t.val % 8 * 512 + r.val) :
    ((cfg0.win 5).blk t).view.read (Elt Ideal) X (ix3 0 r k) = (X : FVec Ideal S2x4096x1024 .f32) (ix3 b s k) := by
  blk_simp
  refine congrArg X ?_
  blk_ext [at5]

theorem read6 (X : Buf (Elt Ideal) ((c : Tc).loc main_v12)) (t : Fin cfg0.N) (k : Fin 1024) :
    ((cfg0.win 6).blk t).view.read (Elt Ideal) X (ix2 0 k) = (X : FVec Ideal S1x1024 .f32) (ix2 0 k) := by
  blk_simp
  refine congrArg X ?_
  blk_ext [at6]

theorem read7 (X : Buf (Elt Ideal) ((c : Tc).loc main_v13)) (t : Fin cfg0.N) (k : Fin 1024) (b : Fin 2) (hb : b.val = t.val / 8) :
    ((cfg0.win 7).blk t).view.read (Elt Ideal) X (ix3 0 0 k) = (X : FVec Ideal S2x1x1024 .f32) (ix3 b 0 k) := by
  blk_simp
  refine congrArg X ?_
  blk_ext [at7]

theorem read8 (X : Buf (Elt Ideal) ((c : Tc).loc main_v4)) (t : Fin cfg0.N) (r : Fin 512) (k : Fin 1024) (b : Fin 2) (s : Fin 4096) (hb : b.val = t.val / 8) (hs : s.val = t.val % 8 * 512 + r.val) :
    ((cfg0.win 8).blk t).view.read (Elt Ideal) X (ix3 0 r k) = (X : FVec Ideal S2x4096x1024 .bf16) (ix3 b s k) := by
  blk_simp
  refine congrArg X ?_
  blk_ext [at8]

theorem read9 (X : Buf (Elt Ideal) ((c : Tc).loc main_v5)) (t : Fin cfg0.N) (k : Fin 1024) (b : Fin 2) (hb : b.val = t.val / 8) :
    ((cfg0.win 9).blk t).view.read (Elt Ideal) X (ix3 0 0 k) = (X : FVec Ideal S2x1x1024 .f32) (ix3 b 0 k) := by
  blk_simp
  refine congrArg X ?_
  blk_ext [at9]

section blocks

variable (t : Fin cfg0.N) (r : Fin 512) (b : Fin 2) (s : Fin 4096) (hb : b.val = t.val / 8) (hs : s.val = t.val % 8 * 512 + r.val)
include hb

theorem block7 : member (iblk m c 7 t) = scaleRow m c b := by
  funext d
  exact (read7 c (V m c main_v13) t d b hb).trans (V_scale m c b d)

theorem block9 : member (iblk m c 9 t) = fun d => arg_gate m c (ix2 b d) := by
  funext d
  exact (read9 c (V m c main_v5) t d b hb).trans (V_gate m c b d)

include hs

theorem block4 : row (iblk m c 4 t) r = inputRow m c b s := by
  funext d
  exact (read4 c (V m c main_v3) t r d b s hb hs).trans (V_x m c b s d)

theorem block5 : row (iblk m c 5 t) r = fun d => arg_cotangent m c (ix3 b s d) := by
  funext d
  refine (read5 c (V m c main_arg8) t r d b s hb hs).trans ?_
  rw [V_main_arg8]

theorem block8 (d : Fin 1024) : (iblk m c 8 t : FVec Ideal S1x512x1024 .bf16) (ix3 0 r d) = arg_below m c (ix3 b s d) :=
  (read8 c (V m c main_v4) t r d b s hb hs).trans (V_below m c b s d)

theorem block_back : backOf m c t r = backRow m c b s := by
  funext d
  unfold backOf back backRow
  have e0 : ∀ f, (iblk m c 0 t : FVec Ideal S1x512x2816 .bf16) (ix3 0 r f) = arg_gradLeft m c (ix3 b s f) := fun f =>
    (read0 c (V m c main_v6) t r f b s hb hs).trans (V_gradLeft m c b s f)
  have e1 : ∀ f, (iblk m c 1 t : FVec Ideal S1x512x2816 .bf16) (ix3 0 r f) = arg_gradRight m c (ix3 b s f) := fun f =>
    (read1 c (V m c main_v7) t r f b s hb hs).trans (V_gradRight m c b s f)
  have e2 : ∀ f, (iblk m c 2 t : FVec Ideal S2816x1024 .bf16) (ix2 f d) = arg_left m c (ix2 d f) := fun f =>
    (read2 c (V m c main_v9) t f d).trans (V_left m c f d)
  have e3 : ∀ f, (iblk m c 3 t : FVec Ideal S2816x1024 .bf16) (ix2 f d) = arg_right m c (ix2 d f) := fun f =>
    (read3 c (V m c main_v11) t f d).trans (V_right m c f d)
  exact congr (congrArg _ (Finset.sum_congr rfl fun f _ => congr (congrArg _ (e0 f)) (e2 f))) (Finset.sum_congr rfl fun f _ => congr (congrArg _ (e1 f)) (e3 f))

end blocks

theorem block6 (t : Fin cfg0.N) : vector (iblk m c 6 t) = weightRow m c := by
  funext d
  exact (read6 c (V m c main_v12) t d).trans (V_weight m c d)
-- ==== Proof.NormArrays.lean ====
/-
  The gradient through the second feed-forward layer's normalisation: the results of the kernel, in terms of its arguments.
-/
module

public import proofs.«01_k».proof.Proof.Spots
public import proofs.«01_k».proof.Proof.NormBlocks

@[expose] public noncomputable section

set_option maxRecDepth 16384

namespace Cert.Proof.Norm

open Cert.Kernel4Ideal Cert.Kernel4Ideal.Gen
open Idealize ShloMosaic ShloMosaic.TcCoe SL.Sem ShloMosaic.Pointwise
local notation "Tc" => Thread nD τ

variable (m : (ℓ : Loc nD τ sig) → Buf (Elt Ideal) ℓ) (ρ : Dev nD → PrngReg) (c : Dev nD)

/-! ## The gradients -/

/-- The gradient of the layer's input. -/
def dx : FVec Ideal S2x4096x1024 .f32 := fun i => inputGradient m c ⟨(i 0).val, (i 0).isLt⟩ ⟨(i 1).val, (i 1).isLt⟩ ⟨(i 2).val, (i 2).isLt⟩
/-- A lane of the scale's gradient. -/
def scaleSum (b : Fin 2) (d : Fin 1024) : EReal :=
  ∑ s : Fin 4096, backRow m c b s d * (inputRow m c b s d * root (inputRow m c b s) * weightRow m c d)
/-- A lane of the shift's gradient. -/
def shiftSum (b : Fin 2) (d : Fin 1024) : EReal := ∑ s : Fin 4096, backRow m c b s d
/-- A lane of the gradient of the normalisation's weight. -/
def weightSum (d : Fin 1024) : EReal :=
  ∑ b : Fin 2, ∑ s : Fin 4096, backRow m c b s d * (1 + scaleRow m c b d) * (inputRow m c b s d * root (inputRow m c b s))
/-- A lane of the gate's gradient. -/
def gateSum (b : Fin 2) (d : Fin 1024) : EReal := ∑ s : Fin 4096, inputGradient m c b s d * arg_below m c (ix3 b s d)
/-- The gradient of the scale. -/
def dscale : FVec Ideal S2x1x1024 .f32 := fun i => scaleSum m c ⟨(i 0).val, (i 0).isLt⟩ ⟨(i 2).val, (i 2).isLt⟩
/-- The gradient of the shift. -/
def dshift : FVec Ideal S2x1x1024 .f32 := fun i => shiftSum m c ⟨(i 0).val, (i 0).isLt⟩ ⟨(i 2).val, (i 2).isLt⟩
/-- The gradient of the normalisation's weight. -/
def dweight : FVec Ideal S1x1024 .f32 := fun i => weightSum m c ⟨(i 1).val, (i 1).isLt⟩
/-- The gradient of the output of the layer below. -/
def dbelow : FVec Ideal S2x4096x1024 .bf16 := fun i =>
  arg_gate m c (ix2 ⟨(i 0).val, (i 0).isLt⟩ ⟨(i 2).val, (i 2).isLt⟩) * inputGradient m c ⟨(i 0).val, (i 0).isLt⟩ ⟨(i 1).val, (i 1).isLt⟩ ⟨(i 2).val, (i 2).isLt⟩
/-- The gradient of the gate of the layer below. -/
def dgate : FVec Ideal S2x1x1024 .f32 := fun i => gateSum m c ⟨(i 0).val, (i 0).isLt⟩ ⟨(i 2).val, (i 2).isLt⟩

/-! ## The places -/

theorem place10 (t : Fin cfg0.N) (r : Fin 512) (d : Fin 1024) (b : Fin 2) (s : Fin 4096) (hb : b.val = t.val / 8) (hs : s.val = t.val % 8 * 512 + r.val) :
    ((cfg0.win 10).blk t).view.emb (ix3 0 r d) = ix3 b s d := by
  blk_ext [at10]
theorem place11 (t : Fin cfg0.N) (d : Fin 1024) (b : Fin 2) (hb : b.val = t.val / 8) :
    ((cfg0.win 11).blk t).view.emb (ix3 0 0 d) = ix3 b 0 d := by
  blk_ext [at11]
theorem place12 (t : Fin cfg0.N) (d : Fin 1024) (b : Fin 2) (hb : b.val = t.val / 8) :
    ((cfg0.win 12).blk t).view.emb (ix3 0 0 d) = ix3 b 0 d := by
  blk_ext [at12]
theorem place13 (t : Fin cfg0.N) (d : Fin 1024) :
    ((cfg0.win 13).blk t).view.emb (ix2 0 d) = ix2 0 d := by
  blk_ext [at13]
theorem place14 (t : Fin cfg0.N) (r : Fin 512) (d : Fin 1024) (b : Fin 2) (s : Fin 4096) (hb : b.val = t.val / 8) (hs : s.val = t.val % 8 * 512 + r.val) :
    ((cfg0.win 14).blk t).view.emb (ix3 0 r d) = ix3 b s d := by
  blk_ext [at14]
theorem place15 (t : Fin cfg0.N) (d : Fin 1024) (b : Fin 2) (hb : b.val = t.val / 8) :
    ((cfg0.win 15).blk t).view.emb (ix3 0 0 d) = ix3 b 0 d := by
  blk_ext [at15]

/-! ## The arrays -/

theorem array10 : (dats m 0 c).arrAt 10 cfg0.N = dx m c := by
  refine (dats m 0 c).arrAt_eq_of_covers 10 _ (by decide +kernel) fun t hf y => ?_
  obtain ⟨r, d, rfl⟩ := Spots.front 512 1024 y
  have ht := inside t
  have hr := r.isLt
  have e : (dats m 0 c).after 10 t ((cfg0.win 10).xinj (cfg0.grid.coords t) (ix3 0 r d)) = dx m c (ix3 ⟨t.val / 8, by omega⟩ ⟨t.val % 8 * 512 + r.val, by omega⟩ d) := by
    rw [after0_10]
    refine (dx_point m c t r d).trans ?_
    rw [block5 m c t r ⟨t.val / 8, by omega⟩ ⟨t.val % 8 * 512 + r.val, by omega⟩ rfl rfl, block4 m c t r ⟨t.val / 8, by omega⟩ ⟨t.val % 8 * 512 + r.val, by omega⟩ rfl rfl, block_back m c t r ⟨t.val / 8, by omega⟩ ⟨t.val % 8 * 512 + r.val, by omega⟩ rfl rfl, block7 m c t ⟨t.val / 8, by omega⟩ rfl, block6 m c t]
    rfl
  rw [e, place10 t r d ⟨t.val / 8, by omega⟩ ⟨t.val % 8 * 512 + r.val, by omega⟩ rfl rfl]
  exact cast_eq _ _

theorem array14 : (dats m 0 c).arrAt 14 cfg0.N = dbelow m c := by
  refine (dats m 0 c).arrAt_eq_of_covers 14 _ (by decide +kernel) fun t hf y => ?_
  obtain ⟨r, d, rfl⟩ := Spots.front 512 1024 y
  have ht := inside t
  have hr := r.isLt
  have e : (dats m 0 c).after 14 t ((cfg0.win 14).xinj (cfg0.grid.coords t) (ix3 0 r d)) = dbelow m c (ix3 ⟨t.val / 8, by omega⟩ ⟨t.val % 8 * 512 + r.val, by omega⟩ d) := by
    rw [after0_14]
    refine (do_point m c t r d).trans ?_
    rw [block9 m c t ⟨t.val / 8, by omega⟩ rfl, block5 m c t r ⟨t.val / 8, by omega⟩ ⟨t.val % 8 * 512 + r.val, by omega⟩ rfl rfl, block4 m c t r ⟨t.val / 8, by omega⟩ ⟨t.val % 8 * 512 + r.val, by omega⟩ rfl rfl, block_back m c t r ⟨t.val / 8, by omega⟩ ⟨t.val % 8 * 512 + r.val, by omega⟩ rfl rfl, block7 m c t ⟨t.val / 8, by omega⟩ rfl, block6 m c t]
    rfl
  rw [e, place14 t r d ⟨t.val / 8, by omega⟩ ⟨t.val % 8 * 512 + r.val, by omega⟩ rfl rfl]
  exact cast_eq _ _

theorem scale_run (t : Fin cfg0.N) (h : t.val % 8 = 7) (d : Fin 1024) (b : Fin 2) (hb : b.val = t.val / 8) :
    (outsAt0 m c t.val t.isLt).2.1 (ix3 0 0 d) = scaleSum m c b d := by
  have ht := inside t
  rw [scale_total m c t d h]
  unfold addScale partScale scaleSum
  refine Fin.sum_mul_add_congr fun s r hl => ?_
  have hs := s.isLt
  have e0 := congrFun (block_back m c ⟨8 * (t.val / 8) + s.val, Pipeline.run_point_lt_of_flush t h s⟩ r b ⟨s.val * 512 + r.val, hl⟩ (by dsimp only; omega) (by dsimp only; omega)) d
  rw [block4 m c ⟨8 * (t.val / 8) + s.val, Pipeline.run_point_lt_of_flush t h s⟩ r b ⟨s.val * 512 + r.val, hl⟩ (by dsimp only; omega) (by dsimp only; omega), block6 m c ⟨8 * (t.val / 8) + s.val, Pipeline.run_point_lt_of_flush t h s⟩]
  exact congrArg (· * _) e0

theorem shift_run (t : Fin cfg0.N) (h : t.val % 8 = 7) (d : Fin 1024) (b : Fin 2) (hb : b.val = t.val / 8) :
    (outsAt0 m c t.val t.isLt).2.2.1 (ix3 0 0 d) = shiftSum m c b d := by
  have ht := inside t
  rw [shift_total m c t d h]
  unfold addShift partShift shiftSum
  refine Fin.sum_mul_add_congr fun s r hl => ?_
  have hs := s.isLt
  exact congrFun (block_back m c ⟨8 * (t.val / 8) + s.val, Pipeline.run_point_lt_of_flush t h s⟩ r b ⟨s.val * 512 + r.val, hl⟩ (by dsimp only; omega) (by dsimp only; omega)) d

theorem gate_run (t : Fin cfg0.N) (h : t.val % 8 = 7) (d : Fin 1024) (b : Fin 2) (hb : b.val = t.val / 8) :
    (outsAt0 m c t.val t.isLt).2.2.2.2.2 (ix3 0 0 d) = gateSum m c b d := by
  have ht := inside t
  rw [gate_total m c t d h]
  unfold addGate partGate gateSum
  refine Fin.sum_mul_add_congr fun s r hl => ?_
  have hs := s.isLt
  have e5 := congrFun (block5 m c ⟨8 * (t.val / 8) + s.val, Pipeline.run_point_lt_of_flush t h s⟩ r b ⟨s.val * 512 + r.val, hl⟩ (by dsimp only; omega) (by dsimp only; omega)) d
  have e8 := block8 m c ⟨8 * (t.val / 8) + s.val, Pipeline.run_point_lt_of_flush t h s⟩ r b ⟨s.val * 512 + r.val, hl⟩ (by dsimp only; omega) (by dsimp only; omega) d
  unfold inputGradient
  rw [block4 m c ⟨8 * (t.val / 8) + s.val, Pipeline.run_point_lt_of_flush t h s⟩ r b ⟨s.val * 512 + r.val, hl⟩ (by dsimp only; omega) (by dsimp only; omega), block6 m c ⟨8 * (t.val / 8) + s.val, Pipeline.run_point_lt_of_flush t h s⟩, block7 m c ⟨8 * (t.val / 8) + s.val, Pipeline.run_point_lt_of_flush t h s⟩ b (by dsimp only; omega)]
  exact congr (congrArg _ (congr (congrArg _ e5) (congrArg (fun p => pull (inputRow m c b ⟨s.val * 512 + r.val, hl⟩) p (scaleRow m c b) (weightRow m c) d) (block_back m c ⟨8 * (t.val / 8) + s.val, Pipeline.run_point_lt_of_flush t h s⟩ r b ⟨s.val * 512 + r.val, hl⟩ (by dsimp only; omega) (by dsimp only; omega))))) e8

theorem weight_run (t : Fin cfg0.N) (h : t.val % 16 = 15) (d : Fin 1024) : (outsAt0 m c t.val t.isLt).2.2.2.1 (ix2 0 d) = weightSum m c d := by
  have ht := inside t
  rw [weight_total m c t d h]
  unfold addWeight partWeight weightSum
  refine Fin.sum_points_lanes_congr 8 fun s r hb hl => ?_
  have hs := s.isLt
  have e0 := congrFun (block_back m c ⟨16 * (t.val / 16) + s.val, Pipeline.run_point_lt_of_flush t h s⟩ r ⟨s.val / 8, hb⟩ ⟨s.val % 8 * 512 + r.val, hl⟩ (by dsimp only; omega) (by dsimp only; omega)) d
  rw [block4 m c ⟨16 * (t.val / 16) + s.val, Pipeline.run_point_lt_of_flush t h s⟩ r ⟨s.val / 8, hb⟩ ⟨s.val % 8 * 512 + r.val, hl⟩ (by dsimp only; omega) (by dsimp only; omega), block7 m c ⟨16 * (t.val / 16) + s.val, Pipeline.run_point_lt_of_flush t h s⟩ ⟨s.val / 8, hb⟩ (by dsimp only; omega)]
  exact congrArg (· * _ * _) e0

theorem array11 : (dats m 0 c).arrAt 11 cfg0.N = dscale m c := by
  refine (dats m 0 c).arrAt_eq_of_covers 11 _ (by decide +kernel) fun t hf y => ?_
  obtain ⟨d, rfl⟩ := Spots.inner 1024 y
  have ht := inside t
  have e : (dats m 0 c).after 11 t ((cfg0.win 11).xinj (cfg0.grid.coords t) (ix3 0 0 d)) = dscale m c (ix3 ⟨t.val / 8, by omega⟩ 0 d) := by
    rw [after0_11]
    exact scale_run m c t ((flush0_11 t).mp hf) d ⟨t.val / 8, by omega⟩ rfl
  rw [e, place11 t d ⟨t.val / 8, by omega⟩ rfl]
  exact cast_eq _ _

theorem array12 : (dats m 0 c).arrAt 12 cfg0.N = dshift m c := by
  refine (dats m 0 c).arrAt_eq_of_covers 12 _ (by decide +kernel) fun t hf y => ?_
  obtain ⟨d, rfl⟩ := Spots.inner 1024 y
  have ht := inside t
  have e : (dats m 0 c).after 12 t ((cfg0.win 12).xinj (cfg0.grid.coords t) (ix3 0 0 d)) = dshift m c (ix3 ⟨t.val / 8, by omega⟩ 0 d) := by
    rw [after0_12]
    exact shift_run m c t ((flush0_12 t).mp hf) d ⟨t.val / 8, by omega⟩ rfl
  rw [e, place12 t d ⟨t.val / 8, by omega⟩ rfl]
  exact cast_eq _ _

theorem array15 : (dats m 0 c).arrAt 15 cfg0.N = dgate m c := by
  refine (dats m 0 c).arrAt_eq_of_covers 15 _ (by decide +kernel) fun t hf y => ?_
  obtain ⟨d, rfl⟩ := Spots.inner 1024 y
  have ht := inside t
  have e : (dats m 0 c).after 15 t ((cfg0.win 15).xinj (cfg0.grid.coords t) (ix3 0 0 d)) = dgate m c (ix3 ⟨t.val / 8, by omega⟩ 0 d) := by
    rw [after0_15]
    exact gate_run m c t ((flush0_15 t).mp hf) d ⟨t.val / 8, by omega⟩ rfl
  rw [e, place15 t d ⟨t.val / 8, by omega⟩ rfl]
  exact cast_eq _ _

theorem array13 : (dats m 0 c).arrAt 13 cfg0.N = dweight m c := by
  refine (dats m 0 c).arrAt_eq_of_covers 13 _ (by decide +kernel) fun t hf y => ?_
  obtain ⟨d, rfl⟩ := Spots.line 1024 y
  have e : (dats m 0 c).after 13 t ((cfg0.win 13).xinj (cfg0.grid.coords t) (ix2 0 d)) = dweight m c (ix2 0 d) := by
    rw [after0_13]
    exact weight_run m c t ((flush0_13 t).mp hf) d
  rw [e, place13 t d]
  exact cast_eq _ _

/-! ## The run -/

theorem kernel_run : θ_run defs (onTc (τ := τ) (main (F := Ideal))) ⟨m, fun _ => 0, ρ⟩ (fun r => ∀ c : Dev nD,
      r.2.mem ((c : Tc).loc main_v14_0) = dx m c
    ∧ r.2.mem ((c : Tc).loc main_v14_1) = dscale m c
    ∧ r.2.mem ((c : Tc).loc main_v14_2) = dshift m c
    ∧ r.2.mem ((c : Tc).loc main_v14_3) = dweight m c
    ∧ r.2.mem ((c : Tc).loc main_v14_4) = dbelow m c
    ∧ r.2.mem ((c : Tc).loc main_v14_5) = dgate m c
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)
    ∧ r.2.mem ((c : Tc).loc main_arg3) = m ((c : Tc).loc main_arg3)
    ∧ r.2.mem ((c : Tc).loc main_arg4) = m ((c : Tc).loc main_arg4)
    ∧ r.2.mem ((c : Tc).loc main_arg5) = m ((c : Tc).loc main_arg5)
    ∧ r.2.mem ((c : Tc).loc main_arg6) = m ((c : Tc).loc main_arg6)
    ∧ r.2.mem ((c : Tc).loc main_arg7) = m ((c : Tc).loc main_arg7)
    ∧ r.2.mem ((c : Tc).loc main_arg8) = m ((c : Tc).loc main_arg8)
    ∧ r.2.mem ((c : Tc).loc main_arg9) = m ((c : Tc).loc main_arg9)
    ∧ r.2.mem ((c : Tc).loc main_arg10) = m ((c : Tc).loc main_arg10)) :=
  (θ_run defs _ _).mono (fun r h c => ⟨(h.1.out_eq c 10).trans (array10 m c), (h.1.out_eq c 11).trans (array11 m c), (h.1.out_eq c 12).trans (array12 m c),
    (h.1.out_eq c 13).trans (array13 m c), (h.1.out_eq c 14).trans (array14 m c), (h.1.out_eq c 15).trans (array15 m c), h.2 c⟩)
    (θ_run_and (run_main m ρ) (unchanged m ρ))
-- ==== Proof.GateTile.lean ====
/-
  What the two calls of the feed-forward layer write into one block, entry by entry: the gated activation with the two
  factors its gradient needs, and the gradient's two products.
-/
module

public import proofs.«01_k».proof.Proof.Gen.Kernel3Ideal.Frame
public import Idealize.ShloMosaic.Lib.Pipeline.ValueKit

@[expose] public noncomputable section

set_option maxRecDepth 16384

namespace Cert.Proof.Gate

open Idealize ShloMosaic ShloMosaic.TcCoe SL.Sem ShloMosaic.Pointwise
open Cert.Kernel3Ideal Cert.Kernel3Ideal.Gen

/-- The logistic function. -/
def logistic (g : EReal) : EReal := Ideal.div 1 (1 + Ideal.exp (0 - g))

/-- One entry of a row's product with a row of weights. -/
def dots (x : FVec Ideal S1x1024x1024 .bf16) (w : FVec Ideal S1408x1024 .bf16) (r : Fin 1024) (f : Fin 1408) : EReal :=
  ∑ d : Fin 1024, x (ix3 0 r d) * w (ix2 f d)

theorem zeros3 : (![0, 0, 0] : Fin 3 → Nat) = fun _ => 0 := funext fun a => by fin_cases a <;> rfl
theorem zeros2 : (![0, 0] : Fin 2 → Nat) = fun _ => 0 := funext fun a => by fin_cases a <;> rfl

theorem gate_at (x : FVec Ideal S1x1024x1024 .bf16) (w : FVec Ideal S1408x1024 .bf16) (r : Fin 1024) (f : Fin 1408) :
    k0_pay3 (F := Ideal) x w (ix2 r f) = dots x w r f := by
  unfold dots
  pointwise [k0_pay3, k0_pay2]

theorem up_at (x : FVec Ideal S1x1024x1024 .bf16) (w : FVec Ideal S1408x1024 .bf16) (r : Fin 1024) (f : Fin 1408) :
    k0_pay4 (F := Ideal) x w (ix2 r f) = dots x w r f := by
  unfold dots
  pointwise [k0_pay4, k0_pay2]

theorem logistic_at (x : FVec Ideal S1x1024x1024 .bf16) (w : FVec Ideal S1408x1024 .bf16) (r : Fin 1024) (f : Fin 1408) :
    k0_pay5 (F := Ideal) x w (ix2 r f) = logistic (dots x w r f) := by
  rw [← gate_at]
  unfold k0_pay5 logistic
  generalize k0_pay3 (F := Ideal) x w = p
  pointwise []

theorem silu_at (x : FVec Ideal S1x1024x1024 .bf16) (w : FVec Ideal S1408x1024 .bf16) (r : Fin 1024) (f : Fin 1408) :
    k0_pay6 (F := Ideal) x w (ix2 r f) = dots x w r f * logistic (dots x w r f) := by
  rw [← logistic_at, ← gate_at]
  rfl

/-- The first saved array: the gate's activation. -/
theorem saved_at (x : FVec Ideal S1x1024x1024 .bf16) (w v : FVec Ideal S1408x1024 .bf16) (r : Fin 1024) (f : Fin 1408) :
    out0_3 (F := Ideal) x w v (ix3 0 r f) = dots x w r f * logistic (dots x w r f) := by
  rw [← silu_at]
  unfold out0_3
  rw [View.canon_unit_zero zeros3, View.ld_unit_zero zeros3, View.ld_unit_zero zeros2]
  unfold k0_pay7
  generalize k0_pay6 (F := Ideal) x w = p
  pointwise []

/-- The second saved array: the other branch times the derivative of the activation. -/
theorem slope_at (x : FVec Ideal S1x1024x1024 .bf16) (w v : FVec Ideal S1408x1024 .bf16) (r : Fin 1024) (f : Fin 1408) :
    out0_4 (F := Ideal) x w v (ix3 0 r f)
      = dots x v r f * (logistic (dots x w r f) + dots x w r f * logistic (dots x w r f) * (1 - logistic (dots x w r f))) := by
  rw [← silu_at, ← logistic_at, ← up_at]
  unfold out0_4
  rw [View.canon_unit_zero zeros3, View.ld_unit_zero zeros3, View.ld_unit_zero zeros2, View.ld_unit_zero zeros2]
  unfold k0_pay8
  generalize k0_pay6 (F := Ideal) x w = p
  generalize k0_pay5 (F := Ideal) x w = q
  generalize k0_pay4 (F := Ideal) x v = u
  pointwise []

/-- The gated activation. -/
theorem gated_at (x : FVec Ideal S1x1024x1024 .bf16) (w v : FVec Ideal S1408x1024 .bf16) (r : Fin 1024) (f : Fin 1408) :
    out0_5 (F := Ideal) x w v (ix3 0 r f) = dots x w r f * logistic (dots x w r f) * dots x v r f := by
  rw [← silu_at, ← up_at]
  unfold out0_5
  rw [View.canon_unit_zero zeros3, View.ld_unit_zero zeros3, View.ld_unit_zero zeros2, View.ld_unit_zero zeros2]
  unfold k0_pay1 k0_pay9
  generalize k0_pay6 (F := Ideal) x w = p
  generalize k0_pay4 (F := Ideal) x v = u
  pointwise []

theorem back_at (x : FVec Ideal S1x1024x1024 .bf16) (w : FVec Ideal S1408x1024 .bf16) (r : Fin 1024) (f : Fin 1408) :
    k1_pay1 (F := Ideal) x w (ix2 r f) = dots x w r f := by
  unfold dots
  pointwise [k1_pay1]

theorem gate_gradient_at (x : FVec Ideal S1x1024x1024 .bf16) (w : FVec Ideal S1408x1024 .bf16) (s t : FVec Ideal S1x1024x1408 .bf16) (r : Fin 1024) (f : Fin 1408) :
    out1_4 (F := Ideal) x w s t (ix3 0 r f) = dots x w r f * t (ix3 0 r f) := by
  rw [← back_at]
  unfold out1_4
  rw [View.canon_unit_zero zeros3, View.ld_unit_zero zeros3, View.ld_unit_zero zeros2, View.ld_unit_zero zeros3]
  unfold k1_pay2
  generalize k1_pay1 (F := Ideal) x w = p
  pointwise []

theorem up_gradient_at (x : FVec Ideal S1x1024x1024 .bf16) (w : FVec Ideal S1408x1024 .bf16) (s t : FVec Ideal S1x1024x1408 .bf16) (r : Fin 1024) (f : Fin 1408) :
    out1_5 (F := Ideal) x w s t (ix3 0 r f) = dots x w r f * s (ix3 0 r f) := by
  rw [← back_at]
  unfold out1_5
  rw [View.canon_unit_zero zeros3, View.ld_unit_zero zeros3, View.ld_unit_zero zeros2, View.ld_unit_zero zeros3]
  unfold k1_pay3
  generalize k1_pay1 (F := Ideal) x w = p
  pointwise []
-- ==== Proof.GateArrays.lean ====
/-
  The arrays that the two calls of the feed-forward layer leave, as functions of the arrays they read.
-/
module

public import proofs.«01_k».proof.Proof.Spots
public import proofs.«01_k».proof.Proof.GateTile

@[expose] public noncomputable section

set_option maxRecDepth 16384

namespace Cert.Proof.Gate

open Idealize ShloMosaic ShloMosaic.TcCoe SL.Sem ShloMosaic.Pointwise
open Cert.Kernel3Ideal Cert.Kernel3Ideal.Gen
local notation "Tc" => Thread nD τ

/-- A position's product with a row of weights. -/
def rows (x : FVec Ideal S2x4096x1024 .bf16) (w : FVec Ideal S2816x1024 .bf16) (b : Fin 2) (s : Fin 4096) (f : Fin 2816) : EReal :=
  ∑ d : Fin 1024, x (ix3 b s d) * w (ix2 f d)

def saved (x : FVec Ideal S2x4096x1024 .bf16) (w : FVec Ideal S2816x1024 .bf16) : FVec Ideal S2x4096x2816 .bf16 := fun i =>
  rows x w (i 0) (i 1) (i 2) * logistic (rows x w (i 0) (i 1) (i 2))

def slope (x : FVec Ideal S2x4096x1024 .bf16) (w v : FVec Ideal S2816x1024 .bf16) : FVec Ideal S2x4096x2816 .bf16 := fun i =>
  rows x v (i 0) (i 1) (i 2) * (logistic (rows x w (i 0) (i 1) (i 2))
    + rows x w (i 0) (i 1) (i 2) * logistic (rows x w (i 0) (i 1) (i 2)) * (1 - logistic (rows x w (i 0) (i 1) (i 2))))

def gated (x : FVec Ideal S2x4096x1024 .bf16) (w v : FVec Ideal S2816x1024 .bf16) : FVec Ideal S2x4096x2816 .bf16 := fun i =>
  rows x w (i 0) (i 1) (i 2) * logistic (rows x w (i 0) (i 1) (i 2)) * rows x v (i 0) (i 1) (i 2)

def scaled (x : FVec Ideal S2x4096x1024 .bf16) (w : FVec Ideal S2816x1024 .bf16) (t : FVec Ideal S2x4096x2816 .bf16) : FVec Ideal S2x4096x2816 .bf16 := fun i =>
  rows x w (i 0) (i 1) (i 2) * t i

theorem at0 : ∀ t : Fin cfg0.N, win0_0.index t = ![t.val / 4 % 2, t.val % 4, 0] := by decide +kernel
theorem at1 : ∀ t : Fin cfg0.N, win0_1.index t = ![t.val / 8, 0] := by decide +kernel
theorem at2 : ∀ t : Fin cfg0.N, win0_2.index t = ![t.val / 8, 0] := by decide +kernel
theorem at3 : ∀ t : Fin cfg0.N, win0_3.index t = ![t.val / 4 % 2, t.val % 4, t.val / 8] := by decide +kernel
theorem at4 : ∀ t : Fin cfg0.N, win0_4.index t = ![t.val / 4 % 2, t.val % 4, t.val / 8] := by decide +kernel
theorem at5 : ∀ t : Fin cfg0.N, win0_5.index t = ![t.val / 4 % 2, t.val % 4, t.val / 8] := by decide +kernel
theorem below0 (t : Fin cfg0.N) : t.val < 16 := lt_of_lt_of_eq t.isLt (show cfg0.N = 16 from N_0)

theorem bt0 : ∀ t : Fin cfg1.N, win1_0.index t = ![t.val / 4 % 2, t.val % 4, 0] := (by decide +kernel : ∀ t : Fin grid1.N, _)
theorem bt1 : ∀ t : Fin cfg1.N, win1_1.index t = ![t.val / 8, 0] := (by decide +kernel : ∀ t : Fin grid1.N, _)
theorem bt2 : ∀ t : Fin cfg1.N, win1_2.index t = ![t.val / 4 % 2, t.val % 4, t.val / 8] := (by decide +kernel : ∀ t : Fin grid1.N, _)
theorem bt3 : ∀ t : Fin cfg1.N, win1_3.index t = ![t.val / 4 % 2, t.val % 4, t.val / 8] := (by decide +kernel : ∀ t : Fin grid1.N, _)
theorem bt4 : ∀ t : Fin cfg1.N, win1_4.index t = ![t.val / 4 % 2, t.val % 4, t.val / 8] := (by decide +kernel : ∀ t : Fin grid1.N, _)
theorem bt5 : ∀ t : Fin cfg1.N, win1_5.index t = ![t.val / 4 % 2, t.val % 4, t.val / 8] := (by decide +kernel : ∀ t : Fin grid1.N, _)
theorem below1 (t : Fin cfg1.N) : t.val < 16 := lt_of_lt_of_eq t.isLt (show cfg1.N = 16 from N_1)

section first

variable (c : Dev nD)

theorem read0 (X : Buf (Elt Ideal) ((c : Tc).loc main_v0)) (t : Fin cfg0.N) (r : Fin 1024) (d : Fin 1024) (b : Fin 2) (s : Fin 4096)
    (hb : b.val = t.val / 4 % 2) (hs : s.val = t.val % 4 * 1024 + r.val) :
    ((cfg0.win 0).blk t).view.read (Elt Ideal) X (ix3 0 r d) = (X : FVec Ideal S2x4096x1024 .bf16) (ix3 b s d) := by
  blk_simp
  refine congrArg X ?_
  blk_ext [at0]

theorem read1 (X : Buf (Elt Ideal) ((c : Tc).loc main_v2)) (t : Fin cfg0.N) (f : Fin 1408) (d : Fin 1024) (g : Fin 2816)
    (hg : g.val = t.val / 8 * 1408 + f.val) :
    ((cfg0.win 1).blk t).view.read (Elt Ideal) X (ix2 f d) = (X : FVec Ideal S2816x1024 .bf16) (ix2 g d) := by
  blk_simp
  refine congrArg X ?_
  blk_ext [at1]

theorem read2 (X : Buf (Elt Ideal) ((c : Tc).loc main_v4)) (t : Fin cfg0.N) (f : Fin 1408) (d : Fin 1024) (g : Fin 2816)
    (hg : g.val = t.val / 8 * 1408 + f.val) :
    ((cfg0.win 2).blk t).view.read (Elt Ideal) X (ix2 f d) = (X : FVec Ideal S2816x1024 .bf16) (ix2 g d) := by
  blk_simp
  refine congrArg X ?_
  blk_ext [at2]

theorem place3 (t : Fin cfg0.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg0.win 3).blk t).view.emb (ix3 0 r f) = ix3 b s g := by
  blk_ext [at3]
theorem place4 (t : Fin cfg0.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg0.win 4).blk t).view.emb (ix3 0 r f) = ix3 b s g := by
  blk_ext [at4]
theorem place5 (t : Fin cfg0.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg0.win 5).blk t).view.emb (ix3 0 r f) = ix3 b s g := by
  blk_ext [at5]

variable (V : (c : Dev nD) → (b : Ref sig .tc) → Buf (Elt Ideal) ((c : Tc).loc b))

theorem dots_gate (t : Fin cfg0.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    dots (iblk0 V c 0 t) (iblk0 V c 1 t) r f = rows (V c main_v0) (V c main_v2) b s g := by
  unfold dots rows
  refine Finset.sum_congr rfl fun d _ => ?_
  exact congrArg₂ (· * ·) (read0 c (V c main_v0) t r d b s hb hs) (read1 c (V c main_v2) t f d g hg)

theorem dots_up (t : Fin cfg0.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    dots (iblk0 V c 0 t) (iblk0 V c 2 t) r f = rows (V c main_v0) (V c main_v4) b s g := by
  unfold dots rows
  refine Finset.sum_congr rfl fun d _ => ?_
  exact congrArg₂ (· * ·) (read0 c (V c main_v0) t r d b s hb hs) (read2 c (V c main_v4) t f d g hg)

theorem array3 : (dat0 V c).arrAt 3 cfg0.N = saved (V c main_v0) (V c main_v2) := by
  refine (dat0 V c).arrAt_eq_of_covers 3 _ (by decide +kernel) fun t hf y => ?_
  obtain ⟨r, f, rfl⟩ := Spots.front 1024 1408 y
  have ht := below0 t
  have hr := r.isLt
  have hf' := f.isLt
  have e : (dat0 V c).after 3 t ((cfg0.win 3).xinj (cfg0.grid.coords t) (ix3 0 r f))
      = saved (V c main_v0) (V c main_v2) (ix3 ⟨t.val / 4 % 2, by omega⟩ ⟨t.val % 4 * 1024 + r.val, by omega⟩ ⟨t.val / 8 * 1408 + f.val, by omega⟩) := by
    rw [after0_3]
    refine (saved_at _ _ _ r f).trans ?_
    rw [dots_gate c V t r f ⟨t.val / 4 % 2, by omega⟩ ⟨t.val % 4 * 1024 + r.val, by omega⟩ ⟨t.val / 8 * 1408 + f.val, by omega⟩ rfl rfl rfl]
    rfl
  rw [e, place3 t r f ⟨t.val / 4 % 2, by omega⟩ ⟨t.val % 4 * 1024 + r.val, by omega⟩ ⟨t.val / 8 * 1408 + f.val, by omega⟩ rfl rfl rfl]
  exact cast_eq _ _

theorem array4 : (dat0 V c).arrAt 4 cfg0.N = slope (V c main_v0) (V c main_v2) (V c main_v4) := by
  refine (dat0 V c).arrAt_eq_of_covers 4 _ (by decide +kernel) fun t hf y => ?_
  obtain ⟨r, f, rfl⟩ := Spots.front 1024 1408 y
  have ht := below0 t
  have hr := r.isLt
  have hf' := f.isLt
  have e : (dat0 V c).after 4 t ((cfg0.win 4).xinj (cfg0.grid.coords t) (ix3 0 r f))
      = slope (V c main_v0) (V c main_v2) (V c main_v4) (ix3 ⟨t.val / 4 % 2, by omega⟩ ⟨t.val % 4 * 1024 + r.val, by omega⟩ ⟨t.val / 8 * 1408 + f.val, by omega⟩) := by
    rw [after0_4]
    refine (slope_at _ _ _ r f).trans ?_
    rw [dots_gate c V t r f ⟨t.val / 4 % 2, by omega⟩ ⟨t.val % 4 * 1024 + r.val, by omega⟩ ⟨t.val / 8 * 1408 + f.val, by omega⟩ rfl rfl rfl, dots_up c V t r f ⟨t.val / 4 % 2, by omega⟩ ⟨t.val % 4 * 1024 + r.val, by omega⟩ ⟨t.val / 8 * 1408 + f.val, by omega⟩ rfl rfl rfl]
    rfl
  rw [e, place4 t r f ⟨t.val / 4 % 2, by omega⟩ ⟨t.val % 4 * 1024 + r.val, by omega⟩ ⟨t.val / 8 * 1408 + f.val, by omega⟩ rfl rfl rfl]
  exact cast_eq _ _

theorem array5 : (dat0 V c).arrAt 5 cfg0.N = gated (V c main_v0) (V c main_v2) (V c main_v4) := by
  refine (dat0 V c).arrAt_eq_of_covers 5 _ (by decide +kernel) fun t hf y => ?_
  obtain ⟨r, f, rfl⟩ := Spots.front 1024 1408 y
  have ht := below0 t
  have hr := r.isLt
  have hf' := f.isLt
  have e : (dat0 V c).after 5 t ((cfg0.win 5).xinj (cfg0.grid.coords t) (ix3 0 r f))
      = gated (V c main_v0) (V c main_v2) (V c main_v4) (ix3 ⟨t.val / 4 % 2, by omega⟩ ⟨t.val % 4 * 1024 + r.val, by omega⟩ ⟨t.val / 8 * 1408 + f.val, by omega⟩) := by
    rw [after0_5]
    refine (gated_at _ _ _ r f).trans ?_
    rw [dots_gate c V t r f ⟨t.val / 4 % 2, by omega⟩ ⟨t.val % 4 * 1024 + r.val, by omega⟩ ⟨t.val / 8 * 1408 + f.val, by omega⟩ rfl rfl rfl, dots_up c V t r f ⟨t.val / 4 % 2, by omega⟩ ⟨t.val % 4 * 1024 + r.val, by omega⟩ ⟨t.val / 8 * 1408 + f.val, by omega⟩ rfl rfl rfl]
    rfl
  rw [e, place5 t r f ⟨t.val / 4 % 2, by omega⟩ ⟨t.val % 4 * 1024 + r.val, by omega⟩ ⟨t.val / 8 * 1408 + f.val, by omega⟩ rfl rfl rfl]
  exact cast_eq _ _

end first

section second

variable (c : Dev nD)

theorem back0 (X : Buf (Elt Ideal) ((c : Tc).loc main_v6)) (t : Fin cfg1.N) (r : Fin 1024) (d : Fin 1024) (b : Fin 2) (s : Fin 4096)
    (hb : b.val = t.val / 4 % 2) (hs : s.val = t.val % 4 * 1024 + r.val) :
    ((cfg1.win 0).blk t).view.read (Elt Ideal) X (ix3 0 r d) = (X : FVec Ideal S2x4096x1024 .bf16) (ix3 b s d) := by
  blk_simp
  refine congrArg X ?_
  blk_ext [bt0]

theorem back1 (X : Buf (Elt Ideal) ((c : Tc).loc main_v7)) (t : Fin cfg1.N) (f : Fin 1408) (d : Fin 1024) (g : Fin 2816)
    (hg : g.val = t.val / 8 * 1408 + f.val) :
    ((cfg1.win 1).blk t).view.read (Elt Ideal) X (ix2 f d) = (X : FVec Ideal S2816x1024 .bf16) (ix2 g d) := by
  blk_simp
  refine congrArg X ?_
  blk_ext [bt1]

theorem back2 (X : Buf (Elt Ideal) ((c : Tc).loc main_v5_0)) (t : Fin cfg1.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg1.win 2).blk t).view.read (Elt Ideal) X (ix3 0 r f) = (X : FVec Ideal S2x4096x2816 .bf16) (ix3 b s g) := by
  blk_simp
  refine congrArg X ?_
  blk_ext [bt2]

theorem back3 (X : Buf (Elt Ideal) ((c : Tc).loc main_v5_1)) (t : Fin cfg1.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg1.win 3).blk t).view.read (Elt Ideal) X (ix3 0 r f) = (X : FVec Ideal S2x4096x2816 .bf16) (ix3 b s g) := by
  blk_simp
  refine congrArg X ?_
  blk_ext [bt3]

theorem put4 (t : Fin cfg1.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg1.win 4).blk t).view.emb (ix3 0 r f) = ix3 b s g := by
  blk_ext [bt4]
theorem put5 (t : Fin cfg1.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    ((cfg1.win 5).blk t).view.emb (ix3 0 r f) = ix3 b s g := by
  blk_ext [bt5]

variable (V : (c : Dev nD) → (b : Ref sig .tc) → Buf (Elt Ideal) ((c : Tc).loc b))

theorem dots_back (t : Fin cfg1.N) (r : Fin 1024) (f : Fin 1408) (b : Fin 2) (s : Fin 4096) (g : Fin 2816)
    (hb : b.val = t.val / 4 % 2) (hs : s.val = t.val % 4 * 1024 + r.val) (hg : g.val = t.val / 8 * 1408 + f.val) :
    dots (iblk1 V c 0 t) (iblk1 V c 1 t) r f = rows (V c main_v6) (V c main_v7) b s g := by
  unfold dots rows
  refine Finset.sum_congr rfl fun d _ => ?_
  exact congrArg₂ (· * ·) (back0 c (V c main_v6) t r d b s hb hs) (back1 c (V c main_v7) t f d g hg)

theorem gradient4 : (dat1 V c).arrAt 4 cfg1.N = scaled (V c main_v6) (V c main_v7) (V c main_v5_1) := by
  refine (dat1 V c).arrAt_eq_of_covers 4 _ (by decide +kernel) fun t hf y => ?_
  obtain ⟨r, f, rfl⟩ := Spots.front 1024 1408 y
  have ht := below1 t
  have hr := r.isLt
  have hf' := f.isLt
  have e : (dat1 V c).after 4 t ((cfg1.win 4).xinj (cfg1.grid.coords t) (ix3 0 r f))
      = scaled (V c main_v6) (V c main_v7) (V c main_v5_1) (ix3 ⟨t.val / 4 % 2, by omega⟩ ⟨t.val % 4 * 1024 + r.val, by omega⟩ ⟨t.val / 8 * 1408 + f.val, by omega⟩) := by
    rw [after1_4]
    refine (gate_gradient_at _ _ _ _ r f).trans ?_
    rw [dots_back c V t r f ⟨t.val / 4 % 2, by omega⟩ ⟨t.val % 4 * 1024 + r.val, by omega⟩ ⟨t.val / 8 * 1408 + f.val, by omega⟩ rfl rfl rfl]
    exact congrArg _ (back3 c (V c main_v5_1) t r f ⟨t.val / 4 % 2, by omega⟩ ⟨t.val % 4 * 1024 + r.val, by omega⟩ ⟨t.val / 8 * 1408 + f.val, by omega⟩ rfl rfl rfl)
  rw [e, put4 t r f ⟨t.val / 4 % 2, by omega⟩ ⟨t.val % 4 * 1024 + r.val, by omega⟩ ⟨t.val / 8 * 1408 + f.val, by omega⟩ rfl rfl rfl]
  exact cast_eq _ _

theorem gradient5 : (dat1 V c).arrAt 5 cfg1.N = scaled (V c main_v6) (V c main_v7) (V c main_v5_0) := by
  refine (dat1 V c).arrAt_eq_of_covers 5 _ (by decide +kernel) fun t hf y => ?_
  obtain ⟨r, f, rfl⟩ := Spots.front 1024 1408 y
  have ht := below1 t
  have hr := r.isLt
  have hf' := f.isLt
  have e : (dat1 V c).after 5 t ((cfg1.win 5).xinj (cfg1.grid.coords t) (ix3 0 r f))
      = scaled (V c main_v6) (V c main_v7) (V c main_v5_0) (ix3 ⟨t.val / 4 % 2, by omega⟩ ⟨t.val % 4 * 1024 + r.val, by omega⟩ ⟨t.val / 8 * 1408 + f.val, by omega⟩) := by
    rw [after1_5]
    refine (up_gradient_at _ _ _ _ r f).trans ?_
    rw [dots_back c V t r f ⟨t.val / 4 % 2, by omega⟩ ⟨t.val % 4 * 1024 + r.val, by omega⟩ ⟨t.val / 8 * 1408 + f.val, by omega⟩ rfl rfl rfl]
    exact congrArg _ (back2 c (V c main_v5_0) t r f ⟨t.val / 4 % 2, by omega⟩ ⟨t.val % 4 * 1024 + r.val, by omega⟩ ⟨t.val / 8 * 1408 + f.val, by omega⟩ rfl rfl rfl)
  rw [e, put5 t r f ⟨t.val / 4 % 2, by omega⟩ ⟨t.val % 4 * 1024 + r.val, by omega⟩ ⟨t.val / 8 * 1408 + f.val, by omega⟩ rfl rfl rfl]
  exact cast_eq _ _

end second
-- ==== Proof.GateLaunch.lean ====
/-
  A run of the two calls of the feed-forward layer: what every array holds at its end.
-/
module

public import proofs.«01_k».proof.Proof.GateArrays
public import Idealize.ShloMosaic.Lib.StableHlo.RunRead

@[expose] public noncomputable section

set_option maxRecDepth 16384

namespace Cert.Proof.Gate

open Idealize ShloMosaic ShloMosaic.TcCoe SL.Sem
open Idealize.ShloMosaic.Tactic Idealize.SL Idealize.SL.RA Idealize.SL.BI
open scoped Idealize.SL.BI
open Idealize.SL.BI.BIBase Idealize.SL.BI.Laws Idealize.SL.ProofMode
open Idealize.ShloMosaic.Rounds
open Cert.Kernel3Ideal Cert.Kernel3Ideal.Gen
local notation "Tc" => Thread nD τ

local notation "𝕄" => MT nD τ sig Unit (Elt Ideal) ℕ (UR sig nD τ) ℕ

variable (m : (ℓ : Loc nD τ sig) → Buf (Elt Ideal) ℓ) (ρ : Dev nD → PrngReg)

/-- Every array of the program ends at the contents that the last boundary between its parts gives it. -/
theorem ends : θ_run defs (onTc (τ := τ) (main (F := Ideal))) ⟨m, fun _ => 0, ρ⟩
    (fun r => ∀ c : Dev nD, ∀ b ∈ Pipeline.ucRefs τ sig, r.2.mem ((c : Tc).1, b) = W4 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) ?_
    (T₀ := fun c => iprop(StableHlo.held (c : Tc) (Pipeline.ucRefs τ sig) (W0 m ρ c) ∗ R c)) (Tₙ := Tₙ m ρ)
    ⟨fun _ => .rfl, fun _ => .rfl, fun _ => .rfl, fun _ => .rfl, fun _ => .rfl⟩ ?_
    (QY := fun c s => ∀ b ∈ Pipeline.ucRefs τ sig, s.mem (((c : Tc)).1, b) = W4 m ρ c b) ?_ (fun s h _ c => h c)
  · simp only [segs, Pipeline.Seg.pipes_host, Pipeline.Seg.pipes_region, Pipeline.Seg.pipes_nil]
    decide
  · iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Tc).loc b)) = StableHlo.held (c : Tc) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _
      iexact Hp
    iexists ∅
    iexact HO
  · intro c s'
    iintro ⟨⟨Hh, -⟩, HSI⟩
    unfold StableHlo.held
    imodintro
    iapply (pointsTo_read_all (Pipeline.ucRefs τ sig) (fun b => (((c : Tc)).1, b)) (W4 m ρ c) s')
    isplitl [Hh] <;> iassumption

section contents

variable (c : Dev nD)

/-- The layer's input, as the first call reads it. -/
def input : FVec Ideal S2x4096x1024 .bf16 := truncf .bf16 (m ((c : Tc).loc main_arg0) : FVec Ideal S2x4096x1024 .f32) bitsLt_bf16_f32
def gate : FVec Ideal S2816x1024 .bf16 :=
  truncf .bf16 (transpose S2816x1024 [1, 0] (m ((c : Tc).loc main_arg1) : FVec Ideal S1024x2816 .f32) transposes_S1024x2816_S2816x1024_1_0 : FVec Ideal S2816x1024 .f32) bitsLt_bf16_f32
def up : FVec Ideal S2816x1024 .bf16 :=
  truncf .bf16 (transpose S2816x1024 [1, 0] (m ((c : Tc).loc main_arg2) : FVec Ideal S1024x2816 .f32) transposes_S1024x2816_S2816x1024_1_0 : FVec Ideal S2816x1024 .f32) bitsLt_bf16_f32
def down : FVec Ideal S2816x1024 .bf16 := truncf .bf16 (m ((c : Tc).loc main_arg3) : FVec Ideal S2816x1024 .f32) bitsLt_bf16_f32
def cotangent : FVec Ideal S2x4096x1024 .bf16 := truncf .bf16 (m ((c : Tc).loc main_arg4) : FVec Ideal S2x4096x1024 .f32) bitsLt_bf16_f32

theorem V1_v0 : V1 m ρ c main_v0 = input m c := by
  show W1 m ρ c _ = _
  unfold W1 hostOps0 input
  after_reads_simp
theorem V1_v2 : V1 m ρ c main_v2 = gate m c := by
  show W1 m ρ c _ = _
  unfold W1 hostOps0 gate
  after_reads_simp
theorem V1_v4 : V1 m ρ c main_v4 = up m c := by
  show W1 m ρ c _ = _
  unfold W1 hostOps0 up
  after_reads_simp

theorem V3_v5_0 : V3 m ρ c main_v5_0 = saved (input m c) (gate m c) := by
  refine (W3_of m ρ c main_v5_0 (by decide)).trans ((W2_arr m ρ c 3).trans ?_)
  rw [array3, V1_v0, V1_v2]
theorem V3_v5_1 : V3 m ρ c main_v5_1 = slope (input m c) (gate m c) (up m c) := by
  refine (W3_of m ρ c main_v5_1 (by decide)).trans ((W2_arr m ρ c 4).trans ?_)
  rw [array4, V1_v0, V1_v2, V1_v4]

theorem V3_v6 : V3 m ρ c main_v6 = cotangent m c := by
  have e : W2 m ρ c (Proc.devRef .tc main_arg4) = m ((c : Tc).loc main_arg4) := W2_args m ρ c main_arg4 (by decide)
  show W3 m ρ c _ = _
  unfold W3 hostOps1 cotangent
  rw [← e]
  generalize W2 m ρ c = W
  after_reads_simp
theorem V3_v7 : V3 m ρ c main_v7 = down m c := by
  have e : W2 m ρ c (Proc.devRef .tc main_arg3) = m ((c : Tc).loc main_arg3) := W2_args m ρ c main_arg3 (by decide)
  show W3 m ρ c _ = _
  unfold W3 hostOps1 down
  rw [← e]
  generalize W2 m ρ c = W
  after_reads_simp

theorem W4_v5_2 : W4 m ρ c (Proc.devRef .tc main_v5_2) = gated (input m c) (gate m c) (up m c) := by
  refine (W4_of m ρ c main_v5_2 (by decide +kernel)).trans ((W3_of m ρ c main_v5_2 (by decide)).trans ((W2_arr m ρ c 5).trans ?_))
  rw [array5, V1_v0, V1_v2, V1_v4]
theorem W4_v8_0 : W4 m ρ c (Proc.devRef .tc main_v8_0) = scaled (cotangent m c) (down m c) (slope (input m c) (gate m c) (up m c)) := by
  refine (W4_arr m ρ c 4).trans ?_
  rw [gradient4, V3_v6, V3_v7, V3_v5_1]
theorem W4_v8_1 : W4 m ρ c (Proc.devRef .tc main_v8_1) = scaled (cotangent m c) (down m c) (saved (input m c) (gate m c)) := by
  refine (W4_arr m ρ c 5).trans ?_
  rw [gradient5, V3_v6, V3_v7, V3_v5_0]

end contents

theorem kernel_run : θ_run defs (onTc (τ := τ) (main (F := Ideal))) ⟨m, fun _ => 0, ρ⟩ (fun r => ∀ c : Dev nD,
      r.2.mem ((c : Tc).loc main_v5_2) = gated (input m c) (gate m c) (up m c)
    ∧ r.2.mem ((c : Tc).loc main_v8_0) = scaled (cotangent m c) (down m c) (slope (input m c) (gate m c) (up m c))
    ∧ r.2.mem ((c : Tc).loc main_v8_1) = scaled (cotangent m c) (down m c) (saved (input m c) (gate m c))
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)
    ∧ r.2.mem ((c : Tc).loc main_arg3) = m ((c : Tc).loc main_arg3)
    ∧ r.2.mem ((c : Tc).loc main_arg4) = m ((c : Tc).loc main_arg4)) :=
  (θ_run defs _ _).mono (fun r h c =>
    ⟨(h.1 c _ (mem_uc main_v5_2 (by decide))).trans (W4_v5_2 m ρ c), (h.1 c _ (mem_uc main_v8_0 (by decide))).trans (W4_v8_0 m ρ c),
      (h.1 c _ (mem_uc main_v8_1 (by decide))).trans (W4_v8_1 m ρ c), h.2 c⟩) (θ_run_and (ends m ρ) (unchanged m ρ))
-- ==== Proof.Loop.lean ====
/-
  The outer loop of the attention's gradient, over the tiles of keys: what one trip of it leaves in the three
  accumulators (the gradients of the queries, of the keys and of the values), as functions of what it finds there, and
  the loop gone through by them.
-/
module

public import proofs.«01_k».proof.Proof.Gen.KernelIdeal.Frame
public import proofs.«01_k».proof.Proof.Gen.KernelIdeal.Loops

@[expose] public noncomputable section

set_option maxRecDepth 16384

namespace Cert.Proof.KernelIdeal

open Cert.KernelIdeal Cert.KernelIdeal.Gen
open Idealize ShloMosaic ShloMosaic.TcCoe ShloMosaic.Tactic
open Idealize.SL Idealize.SL.RA Idealize.SL.BI
open scoped Idealize.SL.BI
open Idealize.SL.BI.BIBase Idealize.SL.BI.Laws Idealize.SL.ProofMode Idealize.SL.Sem
local notation "Tc" => Thread nD τ

variable {F : FTy → Type} [FloatOps F] [Named F]

local notation "𝕄" => MT nD τ sig Unit (Elt F) ℕ (UR sig nD τ) ℕ

local notation "Acc" => Memref sig Kind.tc Space.vmem S4096x256 EltTy.f32
local notation "Blk" => Memref sig Kind.tc Space.vmem S1x4096x256 EltTy.bf16
variable (c : Dev nD) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

set_option maxHeartbeats 4000000 in
/-- One trip of the outer loop: the diagonal tile, then the tiles of later queries by their own invariant. The three
    functions say what the accumulators hold after it; the last component is the trip's triple. -/
@[irreducible] def trip (k : Fin k0_t1_loop.trips) :
    Σ' (n11 : BufTy.Contents (Elt F) arg11.view.ty → BufTy.Contents (Elt F) arg12.view.ty → BufTy.Contents (Elt F) arg13.view.ty → BufTy.Contents (Elt F) arg11.view.ty) (n12 : BufTy.Contents (Elt F) arg11.view.ty → BufTy.Contents (Elt F) arg12.view.ty → BufTy.Contents (Elt F) arg13.view.ty → BufTy.Contents (Elt F) arg12.view.ty),
      { n13 : BufTy.Contents (Elt F) arg11.view.ty → BufTy.Contents (Elt F) arg12.view.ty → BufTy.Contents (Elt F) arg13.view.ty → BufTy.Contents (Elt F) arg13.view.ty //
        ∀ (E : Set ℕ) (f11 : BufTy.Contents (Elt F) arg11.view.ty) (f12 : BufTy.Contents (Elt F) arg12.view.ty) (f13 : BufTy.Contents (Elt F) arg13.view.ty),
          Gen.Trip_k0_t2 (F := F) c arg2 arg3 arg4 arg5 arg6 arg7 arg11 arg12 arg13 X2 X3 X4 X5 X6 X7 f11 f12 f13
          ⊢ wp frame (wpE (defs₀ (F := F)) Variants.none (c : Tc) none) E
              (Gen.k0_t1_body (F := F) i arg2 harg2 arg3 harg3 arg4 harg4 arg5 harg5 arg6 harg6 arg7 harg7 arg8 harg8 arg9 harg9 arg10 harg10 arg11 harg11 arg12 harg12 arg13 harg13 k PUnit.unit)
              (fun _ => Gen.Trip_k0_t2 (F := F) c arg2 arg3 arg4 arg5 arg6 arg7 arg11 arg12 arg13 X2 X3 X4 X5 X6 X7 (n11 f11 f12 f13) (n12 f11 f12 f13) (n13 f11 f12 f13)) } := by
  refine ⟨?_, ?_, ?_, fun E f11 f12 f13 => ?run⟩
  case run =>
    unfold Gen.k0_t1_body
    iintro ⟨HR2, HR3, HR4, HR5, HR6, HR7, HW11, HW12, HW13⟩
    sl_exec
    sl_step
    sl_close

/-- The accumulators after one trip, from what they hold before it. -/
def next (k : Fin k0_t1_loop.trips) (s : BufTy.Contents (Elt F) arg11.view.ty × BufTy.Contents (Elt F) arg12.view.ty × BufTy.Contents (Elt F) arg13.view.ty) : BufTy.Contents (Elt F) arg11.view.ty × BufTy.Contents (Elt F) arg12.view.ty × BufTy.Contents (Elt F) arg13.view.ty :=
  ((trip (F := F) c i arg2 harg2 arg3 harg3 arg4 harg4 arg5 harg5 arg6 harg6 arg7 harg7 arg8 harg8 arg9 harg9 arg10 harg10 arg11 harg11 arg12 harg12 arg13 harg13 X2 X3 X4 X5 X6 X7 k).1 s.1 s.2.1 s.2.2, (trip (F := F) c i arg2 harg2 arg3 harg3 arg4 harg4 arg5 harg5 arg6 harg6 arg7 harg7 arg8 harg8 arg9 harg9 arg10 harg10 arg11 harg11 arg12 harg12 arg13 harg13 X2 X3 X4 X5 X6 X7 k).2.1 s.1 s.2.1 s.2.2, (trip (F := F) c i arg2 harg2 arg3 harg3 arg4 harg4 arg5 harg5 arg6 harg6 arg7 harg7 arg8 harg8 arg9 harg9 arg10 harg10 arg11 harg11 arg12 harg12 arg13 harg13 X2 X3 X4 X5 X6 X7 k).2.2.1 s.1 s.2.1 s.2.2)

/-- The accumulators before trip `k`. -/
abbrev stAt (s : BufTy.Contents (Elt F) arg11.view.ty × BufTy.Contents (Elt F) arg12.view.ty × BufTy.Contents (Elt F) arg13.view.ty) (k : ℕ) : BufTy.Contents (Elt F) arg11.view.ty × BufTy.Contents (Elt F) arg12.view.ty × BufTy.Contents (Elt F) arg13.view.ty :=
  Nat.rec (motive := fun _ => BufTy.Contents (Elt F) arg11.view.ty × BufTy.Contents (Elt F) arg12.view.ty × BufTy.Contents (Elt F) arg13.view.ty) s
    (fun k s => if h : k < k0_t1_loop.trips then next (F := F) c i arg2 harg2 arg3 harg3 arg4 harg4 arg5 harg5 arg6 harg6 arg7 harg7 arg8 harg8 arg9 harg9 arg10 harg10 arg11 harg11 arg12 harg12 arg13 harg13 X2 X3 X4 X5 X6 X7 ⟨k, h⟩ s else s) k

theorem stAt_succ (s : BufTy.Contents (Elt F) arg11.view.ty × BufTy.Contents (Elt F) arg12.view.ty × BufTy.Contents (Elt F) arg13.view.ty) (k : Fin k0_t1_loop.trips) :
    stAt (F := F) c i arg2 harg2 arg3 harg3 arg4 harg4 arg5 harg5 arg6 harg6 arg7 harg7 arg8 harg8 arg9 harg9 arg10 harg10 arg11 harg11 arg12 harg12 arg13 harg13 X2 X3 X4 X5 X6 X7 s (k.val + 1) = next (F := F) c i arg2 harg2 arg3 harg3 arg4 harg4 arg5 harg5 arg6 harg6 arg7 harg7 arg8 harg8 arg9 harg9 arg10 harg10 arg11 harg11 arg12 harg12 arg13 harg13 X2 X3 X4 X5 X6 X7 k (stAt (F := F) c i arg2 harg2 arg3 harg3 arg4 harg4 arg5 harg5 arg6 harg6 arg7 harg7 arg8 harg8 arg9 harg9 arg10 harg10 arg11 harg11 arg12 harg12 arg13 harg13 X2 X3 X4 X5 X6 X7 s k.val) := by
  exact dif_pos k.isLt

set_option warn.classDefReducibility false in
/-- The outer loop by its invariant: before trip `k` the accumulators hold `stAt` of what they held at its entry. -/
def loopInv_k0_t1 (G11 : BufTy.Contents (Elt F) arg11.view.ty) (G12 : BufTy.Contents (Elt F) arg12.view.ty) (G13 : BufTy.Contents (Elt F) arg13.view.ty) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 where
  inv k _ := iprop((arg2.view.loc (c : Tc) ↦[arg2.view.set]{fullShare} X2) ∗ (arg3.view.loc (c : Tc) ↦[arg3.view.set]{fullShare} X3) ∗ (arg4.view.loc (c : Tc) ↦[arg4.view.set]{fullShare} X4) ∗ (arg5.view.loc (c : Tc) ↦[arg5.view.set]{fullShare} X5) ∗ (arg6.view.loc (c : Tc) ↦[arg6.view.set]{fullShare} X6) ∗ (arg7.view.loc (c : Tc) ↦[arg7.view.set]{fullShare} X7) ∗ (∃ f, (arg11.view.loc (c : Tc) ↦[arg11.view.set]{fullShare} f) ∗ ⌜f = (stAt (F := F) c i arg2 harg2 arg3 harg3 arg4 harg4 arg5 harg5 arg6 harg6 arg7 harg7 arg8 harg8 arg9 harg9 arg10 harg10 arg11 harg11 arg12 harg12 arg13 harg13 X2 X3 X4 X5 X6 X7 (G11, G12, G13) k).1⌝) ∗ (∃ f, (arg12.view.loc (c : Tc) ↦[arg12.view.set]{fullShare} f) ∗ ⌜f = (stAt (F := F) c i arg2 harg2 arg3 harg3 arg4 harg4 arg5 harg5 arg6 harg6 arg7 harg7 arg8 harg8 arg9 harg9 arg10 harg10 arg11 harg11 arg12 harg12 arg13 harg13 X2 X3 X4 X5 X6 X7 (G11, G12, G13) k).2.1⌝) ∗ (∃ f, (arg13.view.loc (c : Tc) ↦[arg13.view.set]{fullShare} f) ∗ ⌜f = (stAt (F := F) c i arg2 harg2 arg3 harg3 arg4 harg4 arg5 harg5 arg6 harg6 arg7 harg7 arg8 harg8 arg9 harg9 arg10 harg10 arg11 harg11 arg12 harg12 arg13 harg13 X2 X3 X4 X5 X6 X7 (G11, G12, G13) k).2.2⌝))
  step k acc := by
    iintro ⟨HR2, HR3, HR4, HR5, HR6, HR7, ⟨%f11, HW11, %h11⟩, ⟨%f12, HW12, %h12⟩, ⟨%f13, HW13, %h13⟩⟩
    iapply (wp_wand_r Idealize.ShloMosaic.frame (wpE (defs₀ (F := F)) Variants.none (c : Tc) none) Set.univ)
    isplitl [HR2 HR3 HR4 HR5 HR6 HR7 HW11 HW12 HW13]
    · iapply ((trip (F := F) c i arg2 harg2 arg3 harg3 arg4 harg4 arg5 harg5 arg6 harg6 arg7 harg7 arg8 harg8 arg9 harg9 arg10 harg10 arg11 harg11 arg12 harg12 arg13 harg13 X2 X3 X4 X5 X6 X7 k).2.2.2 Set.univ f11 f12 f13)
      isplitl [HR2]; · iexact HR2
      isplitl [HR3]; · iexact HR3
      isplitl [HR4]; · iexact HR4
      isplitl [HR5]; · iexact HR5
      isplitl [HR6]; · iexact HR6
      isplitl [HR7]; · iexact HR7
      isplitl [HW11]; · iexact HW11
      isplitl [HW12]; · iexact HW12
      iexact HW13
    · iintro %_ ⟨HR2, HR3, HR4, HR5, HR6, HR7, HW11, HW12, HW13⟩
      isplitl [HR2]; · iexact HR2
      isplitl [HR3]; · iexact HR3
      isplitl [HR4]; · iexact HR4
      isplitl [HR5]; · iexact HR5
      isplitl [HR6]; · iexact HR6
      isplitl [HR7]; · iexact HR7
      rw [stAt_succ]
      isplitl [HW11]
      · iexists _; isplitl [HW11]; · iexact HW11
        ipureintro; rw [h11, h12, h13]; rfl
      isplitl [HW12]
      · iexists _; isplitl [HW12]; · iexact HW12
        ipureintro; rw [h11, h12, h13]; rfl
      iexists _; isplitl [HW13]; · iexact HW13
      ipureintro; rw [h11, h12, h13]; rfl
-- ==== Proof.Run.lean ====
/-
  The attention's gradient at one point of its grid: what the body leaves in the three output blocks.
-/
module

public import proofs.«01_k».proof.Proof.Loop
public import Idealize.ShloMosaic.Lib.VecWindow

@[expose] public noncomputable section

set_option maxRecDepth 16384

namespace Cert.Proof.KernelIdeal

open Cert.KernelIdeal Cert.KernelIdeal.Gen
open Idealize ShloMosaic ShloMosaic.TcCoe ShloMosaic.Tactic
open Idealize.SL Idealize.SL.RA Idealize.SL.BI
open scoped Idealize.SL.BI
open Idealize.SL.BI.BIBase Idealize.SL.BI.Laws Idealize.SL.ProofMode Idealize.SL.Sem
local notation "Tc" => Thread nD τ

variable {F : FTy → Type} [FloatOps F] [Named F]

local notation "𝕄" => MT nD τ sig Unit (Elt F) ℕ (UR sig nD τ) ℕ

local notation "Acc" => Memref sig Kind.tc Space.vmem S4096x256 EltTy.f32
local notation "Blk" => Memref sig Kind.tc Space.vmem S1x4096x256 EltTy.bf16
variable (c : Dev nD) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole)
    (x0 : Vec F S1x4096x256 .bf16) (x1 : Vec F S1x4096x256 .bf16) (x2 : Vec F S1x4096x256 .bf16) (x3 : Vec F S1x4096x256 .bf16) (x4 : Vec F S1x2x8x1x512 .f32) (x5 : Vec F S1x2x8x1x512 .f32)

/-- The accumulators at the end of the outer loop, from zeros. -/
def fin : BufTy.Contents (Elt F) arg11.view.ty × BufTy.Contents (Elt F) arg12.view.ty × BufTy.Contents (Elt F) arg13.view.ty :=
  stAt (F := F) c i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) (harg11.unread (k0_pay108 (F := F)), harg12.unread (k0_pay109 (F := F)), harg13.unread (k0_pay110 (F := F))) k0_t1_loop.trips

/-- An accumulator over which one whole block has been stored holds that block. -/
theorem writes_whole_eq {m : Acc} (h : m.IsWhole) (f : BufTy.Contents (Elt F) m.view.ty)
    (inb : ∀ a, (![0, 0] : Fin 2 → ℕ) a + S4096x256.size a ≤ S4096x256.size a) (w : Vec F S4096x256 .f32) :
    m.view.writes (Elt F) f [⟨Rect.unit (s := S4096x256) ![0, 0] S4096x256.size inb, w⟩] = h.unread w :=
  h.eq_unread (View.read_writes_full m.view f inb w [])

set_option maxHeartbeats 4000000 in
/-- The body's triple at any staging memrefs: the inputs stay, each output block holds its accumulator, cast (and scaled). -/
theorem body_run (K : PUnit → sProp 𝕄) :
    iprop(owns (c : Tc) arg2 fullShare x0 ∗ owns (c : Tc) arg3 fullShare x1 ∗ owns (c : Tc) arg4 fullShare x2 ∗ owns (c : Tc) arg5 fullShare x3 ∗ owns (c : Tc) arg6 fullShare x4 ∗ owns (c : Tc) arg7 fullShare x5 ∗ (∃ d, owns (c : Tc) arg8 fullShare d) ∗ (∃ d, owns (c : Tc) arg9 fullShare d) ∗ (∃ d, owns (c : Tc) arg10 fullShare d) ∗ (∃ d, owns (c : Tc) arg11 fullShare d) ∗ (∃ d, owns (c : Tc) arg12 fullShare d) ∗ (∃ d, owns (c : Tc) arg13 fullShare d)
        ∗ (iprop(owns (c : Tc) arg2 fullShare x0 ∗ owns (c : Tc) arg3 fullShare x1 ∗ owns (c : Tc) arg4 fullShare x2 ∗ owns (c : Tc) arg5 fullShare x3 ∗ owns (c : Tc) arg6 fullShare x4 ∗ owns (c : Tc) arg7 fullShare x5
            ∗ owns (c : Tc) arg8 fullShare (k0_pay114 (arg11.view.read (Elt F) (fin c i arg2 harg2 arg3 harg3 arg4 harg4 arg5 harg5 arg6 harg6 arg7 harg7 arg8 harg8 arg9 harg9 arg10 harg10 arg11 harg11 arg12 harg12 arg13 harg13 x0 x1 x2 x3 x4 x5).1))
            ∗ owns (c : Tc) arg9 fullShare (k0_pay115 (arg12.view.read (Elt F) (fin c i arg2 harg2 arg3 harg3 arg4 harg4 arg5 harg5 arg6 harg6 arg7 harg7 arg8 harg8 arg9 harg9 arg10 harg10 arg11 harg11 arg12 harg12 arg13 harg13 x0 x1 x2 x3 x4 x5).2.1))
            ∗ owns (c : Tc) arg10 fullShare (k0_pay1 (arg13.view.read (Elt F) (fin c i arg2 harg2 arg3 harg3 arg4 harg4 arg5 harg5 arg6 harg6 arg7 harg7 arg8 harg8 arg9 harg9 arg10 harg10 arg11 harg11 arg12 harg12 arg13 harg13 x0 x1 x2 x3 x4 x5).2.2))
            ∗ (∃ d, owns (c : Tc) arg11 fullShare d) ∗ (∃ d, owns (c : Tc) arg12 fullShare d) ∗ (∃ d, owns (c : Tc) arg13 fullShare d)) -∗ K ⟨⟩))
      ⊢ wp frame (wpE (defs₀ (F := F)) Variants.none c none) Set.univ (cc0_flash_bwd i arg2 harg2 arg3 harg3 arg4 harg4 arg5 harg5 arg6 harg6 arg7 harg7 arg8 harg8 arg9 harg9 arg10 harg10 arg11 harg11 arg12 harg12 arg13 harg13) K := by
  simp only [cc0_flash_bwd_eq_skeleton]; unfold cc0_flash_bwd_skel
  simp only [k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  generalize hg11 : arg11.view.writes (Elt F) arg11.view.junk _ = g11
  generalize hg12 : arg12.view.writes (Elt F) arg12.view.junk _ = g12
  generalize hg13 : arg13.view.writes (Elt F) arg13.view.junk _ = g13
  replace hg11 : g11 = harg11.unread (k0_pay108 (F := F)) := hg11.symm.trans (writes_whole_eq harg11 _ _ _)
  replace hg12 : g12 = harg12.unread (k0_pay109 (F := F)) := hg12.symm.trans (writes_whole_eq harg12 _ _ _)
  replace hg13 : g13 = harg13.unread (k0_pay110 (F := F)) := hg13.symm.trans (writes_whole_eq harg13 _ _ _)
  let LI := loopInv_k0_t1 (F := F) c i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) (harg6.unread x4) (harg7.unread x5) g11 g12 g13
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    subst hg11 hg12 hg13
    exact (View.read_writes_full _ _ _ _ []).trans (congrArg _ (View.readAt_full _ _ _))
  isplitl [H7]
  · iexists _; isplitr; swap; · iexact H7
    ipureintro
    subst hg11 hg12 hg13
    exact (View.read_writes_full _ _ _ _ []).trans (congrArg _ (View.readAt_full _ _ _))
  isplitl [H8]
  · iexists _; isplitr; swap; · iexact H8
    ipureintro
    subst hg11 hg12 hg13
    exact (View.read_writes_full _ _ _ _ []).trans (congrArg _ (View.readAt_full _ _ _))
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl
-- ==== Proof.Launch.lean ====
/-
  The launch of the attention's gradient: the pipeline's proof data, the body at every point of the grid, the run of the
  whole program, and its frame.
-/
module

public import proofs.«01_k».proof.Proof.Run
public import Idealize.ShloMosaic.Lib.Claim

@[expose] public noncomputable section

set_option maxRecDepth 16384

namespace Cert.Proof.KernelIdeal

open Cert.KernelIdeal Cert.KernelIdeal.Gen
open Idealize ShloMosaic ShloMosaic.TcCoe ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "Tc" => Thread nD τ

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The memrefs the body is given at point `t`: each window's staging buffer, and the three accumulators. -/

local notation "Acc" => Memref sig Kind.tc Space.vmem S4096x256 EltTy.f32
local notation "Blk" => Memref sig Kind.tc Space.vmem S1x4096x256 EltTy.bf16
abbrev ms0 (t : Fin cfg0.N) : Blk := win0_0.stage (cfg0.slots t 0)
abbrev hs0 (t : Fin cfg0.N) : (ms0 t).IsWhole := hstage0_0 ((cfg0.slots t 0).cast nbuf0_0)
abbrev ms1 (t : Fin cfg0.N) : Blk := win0_1.stage (cfg0.slots t 1)
abbrev hs1 (t : Fin cfg0.N) : (ms1 t).IsWhole := hstage0_1 ((cfg0.slots t 1).cast nbuf0_1)
abbrev ms2 (t : Fin cfg0.N) : Blk := win0_2.stage (cfg0.slots t 2)
abbrev hs2 (t : Fin cfg0.N) : (ms2 t).IsWhole := hstage0_2 ((cfg0.slots t 2).cast nbuf0_2)
abbrev ms3 (t : Fin cfg0.N) : Blk := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2x8x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x8x1x512 .f32 := win0_5.stage (cfg0.slots t 5)
abbrev hs5 (t : Fin cfg0.N) : (ms5 t).IsWhole := hstage0_5 ((cfg0.slots t 5).cast nbuf0_5)
abbrev ms6 (t : Fin cfg0.N) : Blk := win0_6.stage (cfg0.slots t 6)
abbrev hs6 (t : Fin cfg0.N) : (ms6 t).IsWhole := hstage0_6 ((cfg0.slots t 6).cast nbuf0_6)
abbrev ms7 (t : Fin cfg0.N) : Blk := win0_7.stage (cfg0.slots t 7)
abbrev hs7 (t : Fin cfg0.N) : (ms7 t).IsWhole := hstage0_7 ((cfg0.slots t 7).cast nbuf0_7)
abbrev ms8 (t : Fin cfg0.N) : Blk := win0_8.stage (cfg0.slots t 8)
abbrev hs8 (t : Fin cfg0.N) : (ms8 t).IsWhole := hstage0_8 ((cfg0.slots t 8).cast nbuf0_8)
abbrev sc0 : Acc := Memref.whole cc0_scratch0
abbrev sc1 : Acc := Memref.whole cc0_scratch1
abbrev sc2 : Acc := Memref.whole cc0_scratch2

/-- The accumulators at the end of point `t`. -/
def finAt (c : Dev nD) (t : Fin cfg0.N) : BufTy.Contents (Elt F) sc0.view.ty × BufTy.Contents (Elt F) sc1.view.ty × BufTy.Contents (Elt F) sc2.view.ty :=
  fin (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t)

/-- The pipeline's data: each input block stays, each output block is its accumulator, scaled and cast. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay114 (sc0.view.read (Elt F) (finAt m c t).1)
    | ⟨7, _⟩ => k0_pay115 (sc1.view.read (Elt F) (finAt m c t).2.1)
    | ⟨8, _⟩ => k0_pay1 (sc2.view.read (Elt F) (finAt m c t).2.2)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay114 (sc0.view.read (Elt F) (finAt m c t).1) := by dsimp only [dats]
theorem after7 (c : Dev nD) (t : Fin cfg0.N) : (dats m 0 c).after 7 t = k0_pay115 (sc1.view.read (Elt F) (finAt m c t).2.1) := by dsimp only [dats]
theorem after8 (c : Dev nD) (t : Fin cfg0.N) : (dats m 0 c).after 8 t = k0_pay1 (sc2.view.read (Elt F) (finAt m c t).2.2) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Between points the launch holds the accumulators at some contents, and the generator's register. -/
theorem held_eq (c : Dev nD) :
    (Pipeline.ΦA spec0 c : sProp 𝕄)
      = iprop(iprop((∃ d, owns (c : Tc) sc0 fullShare d) ∗ (∃ d, owns (c : Tc) sc1 fullShare d) ∗ (∃ d, owns (c : Tc) sc2 fullShare d)) ∗ (∃ r, prngReg c r)) := by
  unfold Pipeline.ΦA; rw [scopedRest0_eq]; simp only [sc0, sc1, sc2, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Tc) (ms0 t) fullShare ((dats m 0 c).before 0 t d))
    ∗ (∃ d, owns (c : Tc) (ms1 t) fullShare ((dats m 0 c).before 1 t d))
    ∗ (∃ d, owns (c : Tc) (ms2 t) fullShare ((dats m 0 c).before 2 t d))
    ∗ (∃ d, owns (c : Tc) (ms3 t) fullShare ((dats m 0 c).before 3 t d))
    ∗ (∃ d, owns (c : Tc) (ms4 t) fullShare ((dats m 0 c).before 4 t d))
    ∗ (∃ d, owns (c : Tc) (ms5 t) fullShare ((dats m 0 c).before 5 t d))
    ∗ (∃ d, owns (c : Tc) (ms6 t) fullShare ((dats m 0 c).before 6 t d))
    ∗ (∃ d, owns (c : Tc) (ms7 t) fullShare ((dats m 0 c).before 7 t d))
    ∗ (∃ d, owns (c : Tc) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Tc) (ms0 t) fullShare ((dats m 0 c).after 0 t)
    ∗ owns (c : Tc) (ms1 t) fullShare ((dats m 0 c).after 1 t)
    ∗ owns (c : Tc) (ms2 t) fullShare ((dats m 0 c).after 2 t)
    ∗ owns (c : Tc) (ms3 t) fullShare ((dats m 0 c).after 3 t)
    ∗ owns (c : Tc) (ms4 t) fullShare ((dats m 0 c).after 4 t)
    ∗ owns (c : Tc) (ms5 t) fullShare ((dats m 0 c).after 5 t)
    ∗ owns (c : Tc) (ms6 t) fullShare ((dats m 0 c).after 6 t)
    ∗ owns (c : Tc) (ms7 t) fullShare ((dats m 0 c).after 7 t)
    ∗ owns (c : Tc) (ms8 t) fullShare ((dats m 0 c).after 8 t))

set_option maxHeartbeats 1200000 in
/-- The body at every point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, held_eq]
  unfold finAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every execution ends, with each array as the proof data say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were, and every semaphore at zero. -/
theorem frame_run : θ_run defs (onTc (τ := τ) (main (F := F))) ⟨m, fun _ => 0, ρ⟩ (fun r => (∀ c : Dev nD,
        r.2.mem ((c : Tc).loc main_arg0) = m ((c : Tc).loc main_arg0)
      ∧ r.2.mem ((c : Tc).loc main_arg1) = m ((c : Tc).loc main_arg1)
      ∧ r.2.mem ((c : Tc).loc main_arg2) = m ((c : Tc).loc main_arg2)
      ∧ r.2.mem ((c : Tc).loc main_arg3) = m ((c : Tc).loc main_arg3)
      ∧ r.2.mem ((c : Tc).loc main_arg4) = m ((c : Tc).loc main_arg4)
      ∧ r.2.mem ((c : Tc).loc main_arg5) = m ((c : Tc).loc main_arg5))
      ∧ r.2.sem = fun _ => 0) :=
  θ_run_and (frame_of m ρ (dats m) (A_eq m) (run_main m ρ)) ((θ_run defs _ _).mono (fun _ h => h.2) (run_quiescent m ρ))
-- ==== Proof.Host.lean ====
/-
  The arrays that the host prepares for the attention's gradient: what the six staged arrays hold when the launch begins.
-/
module

public import proofs.«01_k».proof.Proof.Launch
public import Idealize.ShloMosaic.Lib.StableHlo.RunRead
public import Idealize.ShloMosaic.Lib.Pointwise

@[expose] public noncomputable section

set_option maxRecDepth 16384

namespace Cert.Proof.Flash

open Cert.KernelIdeal Cert.KernelIdeal.Gen
open Idealize ShloMosaic ShloMosaic.TcCoe ShloMosaic.StableHlo ShloMosaic.Pointwise
local notation "Tc" => Thread nD τ

/-- The masked scores. -/
def scores (x0 : FVec Ideal S2x4096x8x64 .f32) (x1 : FVec Ideal S2x4096x8x32 .f32) (x2 : FVec Ideal S2x4096x8x64 .f32) (x3 : FVec Ideal S2x4096x32 .f32) :
    FVec Ideal S2x8x4096x4096 .f32 :=
  select
    (broadcastInDim S2x8x4096x4096 ![0, 1, 2, 3] bcast_S1x1x4096x4096_S2x8x4096x4096_0_1_2_3
      (broadcastInDim S1x1x4096x4096 ![2, 3] bcast_S4096x4096_S1x1x4096x4096_2_3
        (cmpi .sle
          (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    (mulf
      (addf (Host.dotGeneral dot_S2x4096x8x64_S2x4096x8x64_S2x8x4096x4096_3_3_1_1_02_02 none x0 x2)
        (transpose S2x8x4096x4096 [0, 3, 2, 1] (Host.dotGeneral dot_S2x4096x32_S2x4096x8x32_S2x4096x4096x8_2_3_1_12_0_0 none x3 x1) transposes_S2x4096x4096x8_S2x8x4096x4096_0_3_2_1))
      (broadcastInDim S2x8x4096x4096 ![] bcast_S_S2x8x4096x4096 (constant (F := Ideal) S_ .f32 0x3DD105EC#32)))
    (broadcastInDim S2x8x4096x4096 ![] bcast_S_S2x8x4096x4096 (constant (F := Ideal) S_ .f32 0xFF800000#32))

/-- The rows' largest scores. -/
def tops (s : FVec Ideal S2x8x4096x4096 .f32) : FVec Ideal S2x8x4096x1 .f32 :=
  broadcastInDim S2x8x4096x1 ![0, 1, 2] bcast_S2x8x4096_S2x8x4096x1_0_1_2
    (Host.reduce (FloatOps.maximumf (F := Ideal) (φ := .f32)) s (constant (F := Ideal) S_ .f32 0xFF800000#32) reducesTo_S2x8x4096x4096_S2x8x4096_d3 h_S_)

/-- The exponentials of the scores less their row's largest. -/
def exps (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3 (tops s)))

/-- The rows' sums of exponentials. -/
def sums (s : FVec Ideal S2x8x4096x4096 .f32) : FVec Ideal S2x8x4096x1 .f32 :=
  broadcastInDim S2x8x4096x1 ![0, 1, 2] bcast_S2x8x4096_S2x8x4096x1_0_1_2
    (Host.reduceAdd (exps s) (constant (F := Ideal) S_ .f32 0x00000000#32) reducesTo_S2x8x4096x4096_S2x8x4096_d3 h_S_)

/-- The rows' log-sums, one row after another. -/
def rowLogs (s : FVec Ideal S2x8x4096x4096 .f32) : FVec Ideal S2x8x4096x1 .f32 := addf (tops s) (Host.log (sums s))

/-- One number for each row, in tiles of rows. -/
def tiled (x : FVec Ideal S2x8x4096x1 .f32) : FVec Ideal S2x8x8x1x512 .f32 := shapeCast S2x8x8x1x512 x shapeCasts_S2x8x4096x1_S2x8x8x1x512

/-- The rows' log-sums, in tiles of rows. -/
def logs (s : FVec Ideal S2x8x4096x4096 .f32) : FVec Ideal S2x8x8x1x512 .f32 := tiled (rowLogs s)

/-- The attention's output. -/
def outs (s : FVec Ideal S2x8x4096x4096 .f32) (x4 : FVec Ideal S2x4096x8x128 .f32) : FVec Ideal S2x4096x8x128 .f32 :=
  transpose S2x4096x8x128 [0, 3, 1, 2]
    (Host.dotGeneral dot_S2x4096x8x128_S2x8x4096x4096_S2x8x128x4096_1_3_3_2_02_01 none x4
      (Host.divf (exps s) (broadcastInDim S2x8x4096x4096 ![0, 1, 2, 3] bcast_S2x8x4096x1_S2x8x4096x4096_0_1_2_3 (sums s))))
    transposes_S2x8x128x4096_S2x4096x8x128_0_3_1_2

/-- The rows' sums of the output times its gradient. -/
def corrs (s : FVec Ideal S2x8x4096x4096 .f32) (x4 x5 : FVec Ideal S2x4096x8x128 .f32) : FVec Ideal S2x8x8x1x512 .f32 :=
  shapeCast S2x8x8x1x512
    (transpose S2x8x4096 [0, 2, 1]
      (Host.reduceAdd (mulf x5 (outs s x4)) (constant (F := Ideal) S_ .f32 0x00000000#32) reducesTo_S2x4096x8x128_S2x4096x8_d3 h_S_)
      transposes_S2x4096x8_S2x8x4096_0_2_1)
    shapeCasts_S2x8x4096_S2x8x8x1x512

/-- Queries or keys, the plain part, the rotated part and zeros side by side. -/
def parts (x : FVec Ideal S2x4096x8x64 .f32) (y : FVec Ideal S2x4096x8x32 .f32) : FVec Ideal S2x4096x8x128 .f32 :=
  concatenate S2x4096x8x128 3
    [⟨S2x4096x8x64, x⟩, ⟨S2x4096x8x32, y⟩,
      ⟨S2x4096x8x32, broadcastInDim S2x4096x8x32 ![] bcast_S_S2x4096x8x32 (constant (F := Ideal) S_ .f32 0x00000000#32)⟩]
    concatenates_S2x4096x8x64_S2x4096x8x32_S2x4096x8x32_S2x4096x8x128_d3

/-- An array of heads, the heads side by side. -/
def flat (x : FVec Ideal S2x4096x8x128 .f32) : FVec Ideal S2x4096x1024 .bf16 :=
  truncf .bf16 (shapeCast S2x4096x1024 x shapeCasts_S2x4096x8x128_S2x4096x1024) bitsLt_bf16_f32

/-- Queries or keys, the heads side by side. -/
def lanes (x : FVec Ideal S2x4096x8x64 .f32) (y : FVec Ideal S2x4096x8x32 .f32) : FVec Ideal S2x4096x1024 .bf16 := flat (parts x y)

/-- The rotated key, one copy for each head. -/
def copies (x3 : FVec Ideal S2x4096x32 .f32) : FVec Ideal S2x4096x8x32 .f32 :=
  broadcastInDim S2x4096x8x32 ![0, 1, 2, 3] bcast_S2x4096x1x32_S2x4096x8x32_0_1_2_3
    (broadcastInDim S2x4096x1x32 ![0, 1, 3] bcast_S2x4096x32_S2x4096x1x32_0_1_3 x3)

variable (m : (ℓ : Loc nD τ sig) → Buf (Elt Ideal) ℓ) (c : Dev nD)

abbrev a0 : FVec Ideal S2x4096x8x64 .f32 := m ((c : Tc).loc main_arg0)
abbrev a1 : FVec Ideal S2x4096x8x32 .f32 := m ((c : Tc).loc main_arg1)
abbrev a2 : FVec Ideal S2x4096x8x64 .f32 := m ((c : Tc).loc main_arg2)
abbrev a3 : FVec Ideal S2x4096x32 .f32 := m ((c : Tc).loc main_arg3)
abbrev a4 : FVec Ideal S2x4096x8x128 .f32 := m ((c : Tc).loc main_arg4)
abbrev a5 : FVec Ideal S2x4096x8x128 .f32 := m ((c : Tc).loc main_arg5)

theorem V_v36 : V m c main_v36 = lanes (a0 m c) (a1 m c) := by
  after_reads_simp
  rfl
theorem V_v39 : V m c main_v39 = lanes (a2 m c) (copies (a3 m c)) := by
  after_reads_simp
  rfl
theorem V_v41 : V m c main_v41 = flat (a4 m c) := by
  after_reads_simp
  rfl
theorem V_v43 : V m c main_v43 = flat (a5 m c) := by
  after_reads_simp
  rfl
theorem V_v23 : V m c main_v23 = logs (scores (a0 m c) (a1 m c) (a2 m c) (a3 m c)) := by
  after_reads_simp
  simp only [TRef.toBuf, TRef.ofBuf, cast_eq]
  rfl
theorem V_v44 : V m c main_v44 = corrs (scores (a0 m c) (a1 m c) (a2 m c) (a3 m c)) (a4 m c) (a5 m c) := by
  after_reads_simp
  simp only [TRef.toBuf, TRef.ofBuf, cast_eq]
  rfl
-- ==== Proof.HostAt.lean ====
/-
  The arrays that the host prepares, at an index, for arguments that are real numbers.
-/
module

public import proofs.«01_k».proof.Proof.Host
public import proofs.«01_k».proof.Proof.Attention

@[expose] public noncomputable section

set_option maxRecDepth 16384

namespace Cert.Proof.Flash

open Cert.KernelIdeal Cert.KernelIdeal.Gen
open Idealize ShloMosaic ShloMosaic.TcCoe ShloMosaic.StableHlo ShloMosaic.Pointwise
open Cert.Proof.Attention

/-- The argument arrays hold the attention's real arguments. -/
structure Hold (A : Args) (x0 : FVec Ideal S2x4096x8x64 .f32) (x1 : FVec Ideal S2x4096x8x32 .f32) (x2 : FVec Ideal S2x4096x8x64 .f32)
    (x3 : FVec Ideal S2x4096x32 .f32) (x4 x5 : FVec Ideal S2x4096x8x128 .f32) : Prop where
  qn : ∀ b q h d, x0 (ix4 b q h d) = ((A.qn b q h d : ℝ) : EReal)
  qr : ∀ b q h d, x1 (ix4 b q h d) = ((A.qr b q h d : ℝ) : EReal)
  kn : ∀ b q h d, x2 (ix4 b q h d) = ((A.kn b q h d : ℝ) : EReal)
  kr : ∀ b q d, x3 (ix3 b q d) = ((A.kr b q d : ℝ) : EReal)
  v : ∀ b q h d, x4 (ix4 b q h d) = ((A.v b q h d : ℝ) : EReal)
  o : ∀ b q h d, x5 (ix4 b q h d) = ((A.o b q h d : ℝ) : EReal)

theorem word_scale : Ideal.ofBits .f32 0x3DD105EC#32 = (scale : EReal) := by
  simp [Ideal.ofBits, Ideal.ieee, -EReal.coe_mul, scale]; norm_num

theorem word_ninf : Ideal.ofBits .f32 0xFF800000#32 = ⊥ := by
  simp [Ideal.ofBits, Ideal.ieee]

/-- A comparison of two positions. -/
theorem select_le (k q : Fin 4096) (x y : EReal) :
    Scalar.select (IntOp.cmpi CmpIPredicate.sle (BitVec.ofNat 32 k.val) (BitVec.ofNat 32 q.val)) x y = if k.val ≤ q.val then x else y := by
  have hk := k.isLt
  have hq := q.isLt
  have e : BitVec.sle (BitVec.ofNat 32 k.val) (BitVec.ofNat 32 q.val) = decide (k.val ≤ q.val) := by
    rw [BitVec.sle_eq_decide, BitVec.toInt_eq_toNat_of_lt (by simp; omega), BitVec.toInt_eq_toNat_of_lt (by simp; omega)]
    rw [BitVec.toNat_ofNat, BitVec.toNat_ofNat, Nat.mod_eq_of_lt (by omega), Nat.mod_eq_of_lt (by omega)]
    exact decide_eq_decide.2 Int.ofNat_le
  unfold Scalar.select IntOp.cmpi
  simp only [e]
  by_cases h : k.val ≤ q.val <;> simp [h]

section

variable {A : Args} {x0 : FVec Ideal S2x4096x8x64 .f32} {x1 : FVec Ideal S2x4096x8x32 .f32} {x2 : FVec Ideal S2x4096x8x64 .f32}
  {x3 : FVec Ideal S2x4096x32 .f32} {x4 x5 : FVec Ideal S2x4096x8x128 .f32} {s : FVec Ideal S2x8x4096x4096 .f32}

/-- An array of masked scores. -/
def Scored (A : Args) (s : FVec Ideal S2x8x4096x4096 .f32) : Prop :=
  ∀ b h q k, s (ix4 b h q k) = if k.val ≤ q.val then ((A.score b h q k : ℝ) : EReal) else ⊥

theorem scores_scored (H : Hold A x0 x1 x2 x3 x4 x5) : Scored A (scores x0 x1 x2 x3) := by
  intro b h q k
  pointwise [scores]
  rw [select_le, word_scale, word_ninf]
  refine if_congr Iff.rfl ?_ rfl
  simp only [H.qn, H.qr, H.kn, H.kr, ← EReal.coe_mul, coe_sum, ← EReal.coe_add]
  unfold Args.score
  simp only [mul_comm (A.kr _ _ _)]

theorem fold_scored (S : Scored A s) (b : Fin 2) (h : Fin 8) (q : Fin 4096) :
    ∃ M : ℝ, Finset.univ.fold max ⊥ (fun k => s (ix4 b h q k)) = (M : EReal) :=
  fold_max_real _ (fun k => by rw [S]; split_ifs; exacts [EReal.coe_ne_top _, bot_ne_top]) q (A.score b h q q) (by rw [S, if_pos le_rfl])

theorem exp_scored (S : Scored A s) (b : Fin 2) (h : Fin 8) (q k : Fin 4096) (M : ℝ) :
    Ideal.exp (s (ix4 b h q k) - (M : EReal)) = ((A.shifted b h M q k : ℝ) : EReal) := by
  rw [S]
  unfold Args.shifted
  split_ifs
  · rw [← EReal.coe_sub, Ideal.exp_coe]
  · rw [EReal.bot_sub]; rfl

theorem tops_fold (b : Fin 2) (h : Fin 8) (q : Fin 4096) : tops s (ix4 b h q 0) = Finset.univ.fold max ⊥ (fun k => s (ix4 b h q k)) := by
  pointwise [tops]
  rw [word_ninf]

theorem exps_at (S : Scored A s) (b : Fin 2) (h : Fin 8) (q k : Fin 4096) (M : ℝ) (hM : tops s (ix4 b h q 0) = (M : EReal)) :
    exps s (ix4 b h q k) = ((A.shifted b h M q k : ℝ) : EReal) := by
  rw [← exp_scored S, ← hM]
  pointwise [exps]

theorem sums_at (S : Scored A s) (b : Fin 2) (h : Fin 8) (q : Fin 4096) (M : ℝ) (hM : tops s (ix4 b h q 0) = (M : EReal)) :
    sums s (ix4 b h q 0) = ((∑ k, A.shifted b h M q k : ℝ) : EReal) := by
  rw [← coe_sum]
  simp only [← exps_at S b h q _ M hM]
  pointwise [sums]

theorem add_log_at (x y : FVec Ideal S2x8x4096x1 .f32) (b : Fin 2) (h : Fin 8) (q : Fin 4096) :
    addf x (Host.log y) (ix4 b h q 0) = x (ix4 b h q 0) + Ideal.log (y (ix4 b h q 0)) := by
  pointwise

theorem rowLogs_at (S : Scored A s) (b : Fin 2) (h : Fin 8) (q : Fin 4096) :
    ∃ M : ℝ, rowLogs s (ix4 b h q 0) = ((M + Real.log (∑ k, A.shifted b h M q k) : ℝ) : EReal) := by
  obtain ⟨M, hM⟩ := fold_scored S b h q
  have hM' := (tops_fold b h q).trans hM
  refine ⟨M, ?_⟩
  rw [EReal.coe_add, ← coe_log (Args.sum_shifted_pos M q), ← sums_at S b h q M hM', ← hM']
  unfold rowLogs
  exact add_log_at _ _ b h q

theorem tiled_at (x : FVec Ideal S2x8x4096x1 .f32) (b : Fin 2) (h : Fin 8) (i : Fin 8) (j : Fin 512) :
    tiled x (ix5 b h i 0 j) = x (ix4 b h ⟨i.val * 512 + j.val, by omega⟩ 0) := by
  pointwise [tiled]

theorem outs_at (H : Hold A x0 x1 x2 x3 x4 x5) (S : Scored A s) (b : Fin 2) (q : Fin 4096) (h : Fin 8) (d : Fin 128) :
    outs s x4 (ix4 b q h d) = ((∑ k, A.v b k h d * A.prob b h q k : ℝ) : EReal) := by
  obtain ⟨M, hM⟩ := fold_scored S b h q
  have hM' := (tops_fold b h q).trans hM
  pointwise [outs]
  rw [← coe_sum]
  refine Finset.sum_congr rfl fun k _ => ?_
  rw [H.v, exps_at S b h q k M hM', sums_at S b h q M hM', coe_div (Args.sum_shifted_pos M q).ne', Args.shifted_div, EReal.coe_mul]

theorem corrs_at (H : Hold A x0 x1 x2 x3 x4 x5) (S : Scored A s) (b : Fin 2) (h : Fin 8) (i : Fin 8) (j : Fin 512) :
    corrs s x4 x5 (ix5 b h i 0 j) = ((A.mean b h ⟨i.val * 512 + j.val, by omega⟩ : ℝ) : EReal) := by
  pointwise [corrs]
  rw [← Args.mean_eq, ← coe_sum]
  refine Finset.sum_congr rfl fun d _ => ?_
  rw [outs_at H S, H.o, EReal.coe_mul]

theorem flat_at (x : FVec Ideal S2x4096x8x128 .f32) (b : Fin 2) (q : Fin 4096) (l : Fin 1024) :
    flat x (ix3 b q l) = x (ix4 b q ⟨l.val / 128, by omega⟩ ⟨l.val % 128, by omega⟩) := by
  pointwise [flat]

theorem copies_at (b : Fin 2) (q : Fin 4096) (h : Fin 8) (d : Fin 32) : copies x3 (ix4 b q h d) = x3 (ix3 b q d) := by
  pointwise [copies]

theorem parts_at (x : FVec Ideal S2x4096x8x64 .f32) (y : FVec Ideal S2x4096x8x32 .f32) (b : Fin 2) (q : Fin 4096) (h : Fin 8) (d : Fin 128) :
    parts x y (ix4 b q h d) = if h1 : d.val < 64 then x (ix4 b q h ⟨d.val, h1⟩) else if h2 : d.val - 64 < 32 then y (ix4 b q h ⟨d.val - 64, h2⟩) else 0 := by
  pointwise [parts]

theorem queries_at (H : Hold A x0 x1 x2 x3 x4 x5) (b : Fin 2) (q : Fin 4096) (h : Fin 8) (d : Fin 128) :
    parts x0 x1 (ix4 b q h d) = ((A.query b h q d : ℝ) : EReal) := by
  rw [parts_at]
  unfold Args.query
  by_cases h1 : d.val < 64
  · rw [dif_pos h1, dif_pos h1, H.qn]
  · rw [dif_neg h1, dif_neg h1]
    by_cases h2 : d.val < 96
    · rw [dif_pos (by omega), dif_pos h2, H.qr]
    · rw [dif_neg (by omega), dif_neg h2, EReal.coe_zero]

theorem keys_at (H : Hold A x0 x1 x2 x3 x4 x5) (b : Fin 2) (q : Fin 4096) (h : Fin 8) (d : Fin 128) :
    parts x2 (copies x3) (ix4 b q h d) = ((A.key b h q d : ℝ) : EReal) := by
  rw [parts_at]
  unfold Args.key
  by_cases h1 : d.val < 64
  · rw [dif_pos h1, dif_pos h1, H.kn]
  · rw [dif_neg h1, dif_neg h1]
    by_cases h2 : d.val < 96
    · rw [dif_pos (by omega), dif_pos h2, copies_at, H.kr]
    · rw [dif_neg (by omega), dif_neg h2, EReal.coe_zero]

end
-- ==== Proof.Finite.lean ====
/-
  The precondition read back: every element of every argument array is a real number.
-/
module

public import proofs.«01_k».proof.Proof.HostAt
public import proofs.«01_k».proof.Proof.Gen.Pre_finite
public import Idealize.ShloMosaic.Lib.ReduceAll

@[expose] public noncomputable section

set_option maxRecDepth 16384

namespace Cert.Proof.Finite

open Cert.Pre_finite Cert.Pre_finite.Gen
open Idealize ShloMosaic ShloMosaic.Pointwise
open Cert.Proof.Attention Cert.Proof.Flash

theorem word_inf : Ideal.ofBits .f32 0x7F800000#32 = ⊤ := by
  simp [Ideal.ofBits, Ideal.ieee]

/-- An extended real whose absolute value is below infinity is real. -/
theorem real_of (x : EReal) (h : Ideal.cmp .olt (max x (-x)) (Ideal.ofBits .f32 0x7F800000#32) = 1#1) : x = ((x.toReal : ℝ) : EReal) := by
  rw [word_inf] at h
  have hl : max x (-x) < ⊤ := by
    by_contra hn
    simp [Ideal.cmp, hn] at h
  have h1 : x ≠ ⊤ := fun e => absurd hl (by rw [e]; simp)
  have h2 : x ≠ ⊥ := fun e => absurd hl (by rw [e]; simp)
  exact (EReal.coe_toReal h1 h2).symm

theorem all_real {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant S_ .f32 0x7F800000#32))) (constantI S_ 1 1#1) hr h_S_ = fun _ => 1#1) (i : s.Idx) :
    x i = (((x i).toReal : ℝ) : EReal) :=
  real_of _ (Host.reduce_andi_all _ _ hr h_S_ ix0 (congrFun h ix0) i)

theorem and_split (x y : IVec S_ 1) (h : andi x y = fun _ => 1#1) : x = (fun _ => 1#1) ∧ y = fun _ => 1#1 :=
  ⟨funext fun i => (IntOp.andi_eq_one.1 (congrFun h i)).1, funext fun i => (IntOp.andi_eq_one.1 (congrFun h i)).2⟩

theorem held (x0 : FVec Ideal S2x4096x8x64 .f32) (x1 : FVec Ideal S2x4096x8x32 .f32) (x2 : FVec Ideal S2x4096x8x64 .f32)
    (x3 : FVec Ideal S2x4096x32 .f32) (x4 x5 : FVec Ideal S2x4096x8x128 .f32)
    (h : Cert.Pre_finite.fn (F := Ideal) x0 x1 x2 x3 x4 x5 = fun _ => 1#1) : ∃ A : Args, Hold A x0 x1 x2 x3 x4 x5 := by
  unfold Cert.Pre_finite.fn Cert.Pre_finite.fn_part1 at h
  obtain ⟨h, h5⟩ := and_split _ _ h
  obtain ⟨h, h4⟩ := and_split _ _ h
  obtain ⟨h, h3⟩ := and_split _ _ h
  obtain ⟨h, h2⟩ := and_split _ _ h
  obtain ⟨h0, h1⟩ := and_split _ _ h
  exact ⟨⟨fun b q h d => (x0 (ix4 b q h d)).toReal, fun b q h d => (x1 (ix4 b q h d)).toReal, fun b q h d => (x2 (ix4 b q h d)).toReal,
    fun b q d => (x3 (ix3 b q d)).toReal, fun b q h d => (x4 (ix4 b q h d)).toReal, fun b q h d => (x5 (ix4 b q h d)).toReal⟩,
    ⟨fun b q h d => all_real x0 _ _ h0 _, fun b q h d => all_real x1 _ _ h1 _, fun b q h d => all_real x2 _ _ h2 _,
      fun b q d => all_real x3 _ _ h3 _, fun b q h d => all_real x4 _ _ h4 _, fun b q h d => all_real x5 _ _ h5 _⟩⟩
-- ==== Proof.Gate.lean ====
/-
  The feed-forward layer's activation and its gradient are the reference's.
-/
module

public import proofs.«01_k».proof.Defs
public import proofs.«01_k».proof.Proof.GateLaunch
public import proofs.«01_k».proof.Proof.Finite
public import proofs.«01_k».proof.Proof.Gen.Pre_finite3
public import proofs.«01_k».proof.Proof.Gen.Reference3Ideal.Read

@[expose] public noncomputable section

set_option maxRecDepth 16384

namespace Cert.Proof.Gate

open Idealize ShloMosaic ShloMosaic.TcCoe SL.Sem ShloMosaic.Pointwise

/-! ## The reference, entry by entry -/

section reference

open Cert.Reference3Ideal Cert.Reference3Ideal.Gen Cert.Reference3Ideal.Read

/-- A position's product with a column of weights. -/
def columns (x : FVec Ideal S2x4096x1024 .f32) (w : FVec Ideal S1024x2816 .f32) (b : Fin 2) (s : Fin 4096) (f : Fin 2816) : EReal :=
  ∑ d : Fin 1024, x (ix3 b s d) * w (ix2 d f)

/-- A gradient's product with a row of weights. -/
def lanes (x : FVec Ideal S2x4096x1024 .f32) (w : FVec Ideal S2816x1024 .f32) (b : Fin 2) (s : Fin 4096) (f : Fin 2816) : EReal :=
  ∑ d : Fin 1024, x (ix3 b s d) * w (ix2 f d)

variable (h : FVec Ideal S2x4096x1024 .f32) (wg wu : FVec Ideal S1024x2816 .f32) (wd : FVec Ideal S2816x1024 .f32) (o : FVec Ideal S2x4096x1024 .f32)
variable (b : Fin 2) (s : Fin 4096) (f : Fin 2816)

theorem gate_ref : val_main_v0 (F := Ideal) h wg (ix3 b s f) = columns h wg b s f := by
  unfold columns
  pointwise [val_main_v0]
theorem up_ref : val_main_v1 (F := Ideal) h wu (ix3 b s f) = columns h wu b s f := by
  unfold columns
  pointwise [val_main_v1]
theorem back_ref : val_main_v5 (F := Ideal) wd o (ix3 b s f) = lanes o wd b s f := by
  unfold lanes
  pointwise [val_main_v5]

theorem logistic_ref : val_main_v2_2 (F := Ideal) h wg (ix3 b s f) = logistic (columns h wg b s f) := by
  rw [← gate_ref]
  unfold logistic val_main_v2_2 val_main_call0_v4 val_main_call0_cst_0 val_main_call0_v3 val_main_call0_v2 val_main_call0_cst val_main_call0_v1 val_main_call0_v0
  generalize val_main_v0 (F := Ideal) h wg = g
  rw [zero_sub]
  pointwise []

theorem gated_ref : val_main_v11 (F := Ideal) h wg wu (ix3 b s f)
    = columns h wg b s f * logistic (columns h wg b s f) * columns h wu b s f := by
  have e : val_main_v11 (F := Ideal) h wg wu (ix3 b s f) = val_main_v0 (F := Ideal) h wg (ix3 b s f) * val_main_v2_2 (F := Ideal) h wg (ix3 b s f) * val_main_v1 (F := Ideal) h wu (ix3 b s f) := rfl
  rw [e, logistic_ref, gate_ref, up_ref]

theorem gate_gradient_ref : val_main_v12 (F := Ideal) h wg wu wd o (ix3 b s f)
    = lanes o wd b s f * columns h wu b s f * logistic (columns h wg b s f)
      + columns h wg b s f * (lanes o wd b s f * columns h wu b s f) * (logistic (columns h wg b s f) * (1 - logistic (columns h wg b s f))) := by
  have one : val_main_call0_v6 (F := Ideal) (ix3 b s f) = 1 := by pointwise [val_main_call0_v6, val_main_call0_cst_1]
  have e : val_main_v12 (F := Ideal) h wg wu wd o (ix3 b s f) = val_main_v5 (F := Ideal) wd o (ix3 b s f) * val_main_v1 (F := Ideal) h wu (ix3 b s f) * val_main_v2_2 (F := Ideal) h wg (ix3 b s f)
      + val_main_v0 (F := Ideal) h wg (ix3 b s f) * (val_main_v5 (F := Ideal) wd o (ix3 b s f) * val_main_v1 (F := Ideal) h wu (ix3 b s f))
        * (val_main_v2_2 (F := Ideal) h wg (ix3 b s f) * (val_main_call0_v6 (F := Ideal) (ix3 b s f) - val_main_v2_2 (F := Ideal) h wg (ix3 b s f))) := rfl
  rw [e, one, logistic_ref, gate_ref, up_ref, back_ref]

theorem up_gradient_ref : val_main_v13 (F := Ideal) h wg wd o (ix3 b s f)
    = columns h wg b s f * logistic (columns h wg b s f) * lanes o wd b s f := by
  have e : val_main_v13 (F := Ideal) h wg wd o (ix3 b s f) = val_main_v0 (F := Ideal) h wg (ix3 b s f) * val_main_v2_2 (F := Ideal) h wg (ix3 b s f) * val_main_v5 (F := Ideal) wd o (ix3 b s f) := rfl
  rw [e, logistic_ref, gate_ref, back_ref]

end reference

/-! ## Real entries -/

theorem real_sum {ι : Type} [Fintype ι] (p q : ι → EReal) (hp : ∀ k, ∃ r : ℝ, p k = r) (hq : ∀ k, ∃ r : ℝ, q k = r) :
    ∃ r : ℝ, ∑ k, p k * q k = (r : EReal) := by
  choose P hP using hp
  choose Q hQ using hq
  refine ⟨∑ k, P k * Q k, ?_⟩
  rw [← Cert.Proof.Attention.coe_sum]
  exact Finset.sum_congr rfl fun k _ => by rw [hP, hQ, EReal.coe_mul]

theorem real_logistic (g : ℝ) : ∃ r : ℝ, logistic (g : EReal) = r := by
  refine ⟨1 / (1 + Real.exp (0 - g)), ?_⟩
  unfold logistic
  rw [show (0 : EReal) - (g : EReal) = ((0 - g : ℝ) : EReal) from by rw [EReal.coe_sub, EReal.coe_zero], Ideal.exp_coe, ← EReal.coe_one, ← EReal.coe_add]
  exact Cert.Proof.Attention.coe_div (by positivity)

/-- The derivative of the activation, with the gradient multiplied in before or after. -/
theorem slope_real (d u g l : EReal) (hd : ∃ r : ℝ, d = r) (hu : ∃ r : ℝ, u = r) (hg : ∃ r : ℝ, g = r) (hl : ∃ r : ℝ, l = r) :
    d * (u * (l + g * l * (1 - l))) = d * u * l + g * (d * u) * (l * (1 - l)) := by
  obtain ⟨d, rfl⟩ := hd
  obtain ⟨u, rfl⟩ := hu
  obtain ⟨g, rfl⟩ := hg
  obtain ⟨l, rfl⟩ := hl
  rw [← EReal.coe_one]
  simp only [← EReal.coe_mul, ← EReal.coe_add, ← EReal.coe_sub]
  congr 1
  ring

section finite

open Cert.Pre_finite3 Cert.Pre_finite3.Gen

theorem held (h : FVec Ideal S2x4096x1024 .f32) (wg wu : FVec Ideal S1024x2816 .f32) (wd : FVec Ideal S2816x1024 .f32) (o : FVec Ideal S2x4096x1024 .f32)
    (e : Cert.Pre_finite3.fn (F := Ideal) h wg wu wd o = fun _ => 1#1) :
    (∀ i, ∃ r : ℝ, h i = r) ∧ (∀ i, ∃ r : ℝ, wg i = r) ∧ (∀ i, ∃ r : ℝ, wu i = r) ∧ (∀ i, ∃ r : ℝ, wd i = r) ∧ (∀ i, ∃ r : ℝ, o i = r) := by
  unfold Cert.Pre_finite3.fn Cert.Pre_finite3.fn_part1 at e
  obtain ⟨e, e4⟩ := Finite.and_split _ _ e
  obtain ⟨e, e3⟩ := Finite.and_split _ _ e
  obtain ⟨e, e2⟩ := Finite.and_split _ _ e
  obtain ⟨e0, e1⟩ := Finite.and_split _ _ e
  exact ⟨fun i => ⟨_, Finite.all_real h _ _ e0 i⟩, fun i => ⟨_, Finite.all_real wg _ _ e1 i⟩, fun i => ⟨_, Finite.all_real wu _ _ e2 i⟩,
    fun i => ⟨_, Finite.all_real wd _ _ e3 i⟩, fun i => ⟨_, Finite.all_real o _ _ e4 i⟩⟩

end finite

/-! ## The calls' arrays are the reference's -/

section agree

open Cert.Kernel3Ideal Cert.Kernel3Ideal.Gen
local notation "Tc" => Thread nD τ

variable (m : (ℓ : Loc nD τ sig) → Buf (Elt Ideal) ℓ) (c : Dev nD) (b : Fin 2) (s : Fin 4096) (f : Fin 2816)

theorem rows_gate : rows (input m c) (gate m c) b s f = columns (m ((c : Tc).loc main_arg0)) (m ((c : Tc).loc main_arg1)) b s f := by
  unfold rows columns input gate
  generalize m ((c : Tc).loc main_arg0) = x
  generalize m ((c : Tc).loc main_arg1) = w
  pointwise []
theorem rows_up : rows (input m c) (up m c) b s f = columns (m ((c : Tc).loc main_arg0)) (m ((c : Tc).loc main_arg2)) b s f := by
  unfold rows columns input up
  generalize m ((c : Tc).loc main_arg0) = x
  generalize m ((c : Tc).loc main_arg2) = w
  pointwise []
theorem rows_back : rows (cotangent m c) (down m c) b s f = lanes (m ((c : Tc).loc main_arg4)) (m ((c : Tc).loc main_arg3)) b s f := by
  rfl

theorem columns_real (x : FVec Ideal S2x4096x1024 .f32) (w : FVec Ideal S1024x2816 .f32) (hx : ∀ i, ∃ r : ℝ, x i = r) (hw : ∀ i, ∃ r : ℝ, w i = r) :
    ∃ r : ℝ, columns x w b s f = r := real_sum _ _ (fun _ => hx _) (fun _ => hw _)
theorem lanes_real (x : FVec Ideal S2x4096x1024 .f32) (w : FVec Ideal S2816x1024 .f32) (hx : ∀ i, ∃ r : ℝ, x i = r) (hw : ∀ i, ∃ r : ℝ, w i = r) :
    ∃ r : ℝ, lanes x w b s f = r := real_sum _ _ (fun _ => hx _) (fun _ => hw _)

theorem index (i : S2x4096x2816.Idx) : ∃ (b : Fin 2) (s : Fin 4096) (f : Fin 2816), i = ix3 b s f :=
  ⟨i 0, i 1, i 2, by funext a; fin_cases a <;> rfl⟩

theorem gated_agree : Reference3Ideal.Read.val_main_v11 (F := Ideal) (m ((c : Tc).loc main_arg0)) (m ((c : Tc).loc main_arg1)) (m ((c : Tc).loc main_arg2))
    = gated (input m c) (gate m c) (up m c) := by
  funext i
  obtain ⟨b, s, f, rfl⟩ := index i
  refine (gated_ref _ _ _ b s f).trans ?_
  show _ = rows (input m c) (gate m c) b s f * logistic (rows (input m c) (gate m c) b s f) * rows (input m c) (up m c) b s f
  rw [rows_gate, rows_up]

theorem gate_agree (hf : Cert.Pre_Kernel3Ideal_finite3 (hPre_finite3 := Cert.Pre_finite3.Gen.facts) m) :
    Reference3Ideal.Read.val_main_v12 (F := Ideal) (m ((c : Tc).loc main_arg0)) (m ((c : Tc).loc main_arg1)) (m ((c : Tc).loc main_arg2))
      (m ((c : Tc).loc main_arg3)) (m ((c : Tc).loc main_arg4))
    = scaled (cotangent m c) (down m c) (slope (input m c) (gate m c) (up m c)) := by
  obtain ⟨h0, h1, h2, h3, h4⟩ := held _ _ _ _ _ (hf c)
  funext i
  obtain ⟨b, s, f, rfl⟩ := index i
  refine (gate_gradient_ref _ _ _ _ _ b s f).trans ?_
  show _ = rows (cotangent m c) (down m c) b s f * (rows (input m c) (up m c) b s f * (logistic (rows (input m c) (gate m c) b s f)
    + rows (input m c) (gate m c) b s f * logistic (rows (input m c) (gate m c) b s f) * (1 - logistic (rows (input m c) (gate m c) b s f))))
  rw [rows_gate, rows_up, rows_back]
  have hg := columns_real b s f _ _ h0 h1
  refine (slope_real _ _ _ _ (lanes_real b s f _ _ h4 h3) (columns_real b s f _ _ h0 h2) hg ?_).symm
  obtain ⟨g, e⟩ := hg
  rw [e]
  exact real_logistic g

theorem up_agree : Reference3Ideal.Read.val_main_v13 (F := Ideal) (m ((c : Tc).loc main_arg0)) (m ((c : Tc).loc main_arg1))
      (m ((c : Tc).loc main_arg3)) (m ((c : Tc).loc main_arg4))
    = scaled (cotangent m c) (down m c) (saved (input m c) (gate m c)) := by
  funext i
  obtain ⟨b, s, f, rfl⟩ := index i
  refine (up_gradient_ref _ _ _ _ b s f).trans ?_
  show _ = rows (cotangent m c) (down m c) b s f * (rows (input m c) (gate m c) b s f * logistic (rows (input m c) (gate m c) b s f))
  rw [rows_gate, rows_back, mul_comm]

end agree

theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hf he
  refine ⟨_, _, _, kernel_run m g, ?_⟩
  refine (θ_run _ _ _).mono (fun r h c => ?_) (Cert.Reference3Ideal.Value.run (F := Ideal) m' g')
  obtain ⟨e0, e1, e2, e3, e4⟩ := he c
  refine ⟨(h c).1.trans ((Reference3Ideal.Read.val_main_v11_eq _ _ _).trans ?_), (h c).2.1.trans ((Reference3Ideal.Read.val_main_v12_eq _ _ _ _ _).trans ?_),
    (h c).2.2.1.trans ((Reference3Ideal.Read.val_main_v13_eq _ _ _ _).trans ?_), (h c).2.2.2⟩
  · rw [e0, e1, e2]
    exact gated_agree m c
  · rw [e0, e1, e2, e3, e4]
    exact gate_agree m c hf
  · rw [e0, e1, e3, e4]
    exact up_agree m c
-- ==== Proof.Norm.lean ====
/-
  The gradient through the second feed-forward layer's normalisation is the reference's.
-/
module

public import proofs.«01_k».proof.Proof.NormArrays
public import proofs.«01_k».proof.Proof.NormReference
public import proofs.«01_k».proof.Proof.Gate
public import proofs.«01_k».proof.Proof.Gen.Pre_finite4

@[expose] public noncomputable section

set_option maxRecDepth 16384

namespace Cert.Proof.Norm

open Idealize ShloMosaic ShloMosaic.TcCoe SL.Sem ShloMosaic.Pointwise

/-- Every entry of an array is a real number. -/
def Real {s : Shape} {φ : FTy} (x : FVec Ideal s φ) : Prop := ∀ i, ∃ r : ℝ, x i = (r : EReal)

section finite

open Cert.Pre_finite4 Cert.Pre_finite4.Gen

theorem held (a0 a1 : FVec Ideal S2x4096x1024 .f32) (a2 : FVec Ideal S2x1024 .f32) (a3 : FVec Ideal S1024 .f32) (a4 a5 : FVec Ideal S2x1024 .f32)
    (a6 a7 : FVec Ideal S1024x2816 .f32) (a8 : FVec Ideal S2x4096x1024 .f32) (a9 a10 : FVec Ideal S2x4096x2816 .f32)
    (e : Cert.Pre_finite4.fn (F := Ideal) a0 a1 a2 a3 a4 a5 a6 a7 a8 a9 a10 = fun _ => 1#1) :
    Real a0 ∧ Real a1 ∧ Real a2 ∧ Real a3 ∧ Real a5 ∧ Real a6 ∧ Real a7 ∧ Real a8 ∧ Real a9 ∧ Real a10 := by
  unfold Cert.Pre_finite4.fn Cert.Pre_finite4.fn_part1 Cert.Pre_finite4.fn_part2 at e
  obtain ⟨e, e10⟩ := Finite.and_split _ _ e
  obtain ⟨e, e9⟩ := Finite.and_split _ _ e
  obtain ⟨e, e8⟩ := Finite.and_split _ _ e
  obtain ⟨e, e7⟩ := Finite.and_split _ _ e
  obtain ⟨e, e6⟩ := Finite.and_split _ _ e
  obtain ⟨e, e5⟩ := Finite.and_split _ _ e
  obtain ⟨e, e4⟩ := Finite.and_split _ _ e
  obtain ⟨e, e3⟩ := Finite.and_split _ _ e
  obtain ⟨e, e2⟩ := Finite.and_split _ _ e
  obtain ⟨e0, e1⟩ := Finite.and_split _ _ e
  exact ⟨fun i => ⟨_, Finite.all_real a0 _ _ e0 i⟩, fun i => ⟨_, Finite.all_real a1 _ _ e1 i⟩, fun i => ⟨_, Finite.all_real a2 _ _ e2 i⟩,
    fun i => ⟨_, Finite.all_real a3 _ _ e3 i⟩, fun i => ⟨_, Finite.all_real a5 _ _ e5 i⟩, fun i => ⟨_, Finite.all_real a6 _ _ e6 i⟩,
    fun i => ⟨_, Finite.all_real a7 _ _ e7 i⟩, fun i => ⟨_, Finite.all_real a8 _ _ e8 i⟩, fun i => ⟨_, Finite.all_real a9 _ _ e9 i⟩,
    fun i => ⟨_, Finite.all_real a10 _ _ e10 i⟩⟩

end finite

theorem real_add {x y : EReal} (hx : ∃ r : ℝ, x = r) (hy : ∃ r : ℝ, y = r) : ∃ r : ℝ, x + y = r := by
  obtain ⟨p, rfl⟩ := hx
  obtain ⟨q, rfl⟩ := hy
  exact ⟨p + q, (EReal.coe_add p q).symm⟩
theorem real_mul {x y : EReal} (hx : ∃ r : ℝ, x = r) (hy : ∃ r : ℝ, y = r) : ∃ r : ℝ, x * y = r := by
  obtain ⟨p, rfl⟩ := hx
  obtain ⟨q, rfl⟩ := hy
  exact ⟨p * q, (EReal.coe_mul p q).symm⟩

/-! ## The call's arrays are the reference's -/

section agree

open Cert.Kernel4Ideal Cert.Kernel4Ideal.Gen
local notation "Tc" => Thread nD τ

variable (m : (ℓ : Loc nD τ sig) → Buf (Elt Ideal) ℓ) (c : Dev nD)

theorem whole (i : S2x4096x1024.Idx) : ∃ (b : Fin 2) (s : Fin 4096) (d : Fin 1024), i = ix3 b s d :=
  ⟨i 0, i 1, i 2, by funext a; fin_cases a <;> rfl⟩
theorem flat (i : S2x1x1024.Idx) : ∃ (b : Fin 2) (d : Fin 1024), i = ix3 b 0 d :=
  ⟨i 0, i 2, by
    funext a
    match a with
    | ⟨0, _⟩ => rfl
    | ⟨1, _⟩ => exact Subsingleton.elim (α := Fin 1) _ _
    | ⟨2, _⟩ => rfl⟩
theorem line (i : S1x1024.Idx) : ∃ d : Fin 1024, i = ix2 0 d :=
  ⟨i 1, by
    funext a
    match a with
    | ⟨0, _⟩ => exact Subsingleton.elim (α := Fin 1) _ _
    | ⟨1, _⟩ => rfl⟩

theorem gradient_at (hf : Cert.Pre_Kernel4Ideal_finite4 (hPre_finite4 := Cert.Pre_finite4.Gen.facts) m) (b : Fin 2) (s : Fin 4096) (d : Fin 1024) :
    Reference4Ideal.Read.val_main_v62 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) (m ((c : Tc).loc main_arg9)) (m ((c : Tc).loc main_arg10)) (ix3 b s d)
      = inputGradient m c b s d := by
  obtain ⟨h0, h1, h2, h3, h5, h6, h7, h8, h9, h10⟩ := held _ _ _ _ _ _ _ _ _ _ _ (hf c)
  refine (Reference.dx_at _ _ _ _ _ _ _ _ _ _ b s d).trans ?_
  exact agree _ _ _ _ _ (h8 _) (fun _ => real_add (h0 _) (real_mul (h2 _) (h1 _)))
    (fun _ => real_add (Gate.real_sum _ _ (fun _ => h9 _) (fun _ => h6 _)) (Gate.real_sum _ _ (fun _ => h10 _) (fun _ => h7 _)))
    (fun _ => h5 _) (fun _ => h3 _) d

theorem dx_agree (hf : Cert.Pre_Kernel4Ideal_finite4 (hPre_finite4 := Cert.Pre_finite4.Gen.facts) m) :
    Reference4Ideal.Read.val_main_v62 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) (m ((c : Tc).loc main_arg9)) (m ((c : Tc).loc main_arg10)) = dx m c := by
  funext i
  obtain ⟨b, s, d, rfl⟩ := whole i
  exact gradient_at m c hf b s d
theorem dscale_agree : Reference4Ideal.Read.val_main_v70 (F := Ideal) (m ((c : Tc).loc main_arg0)) (m ((c : Tc).loc main_arg1)) (m ((c : Tc).loc main_arg2)) (m ((c : Tc).loc main_arg3)) (m ((c : Tc).loc main_arg6)) (m ((c : Tc).loc main_arg7)) (m ((c : Tc).loc main_arg9)) (m ((c : Tc).loc main_arg10)) = dscale m c := by
  funext i
  obtain ⟨b, d, rfl⟩ := flat i
  exact Reference.scale_at _ _ _ _ _ _ _ _ b d
theorem dshift_agree : Reference4Ideal.Read.val_main_v71 (F := Ideal) (m ((c : Tc).loc main_arg6)) (m ((c : Tc).loc main_arg7)) (m ((c : Tc).loc main_arg9)) (m ((c : Tc).loc main_arg10)) = dshift m c := by
  funext i
  obtain ⟨b, d, rfl⟩ := flat i
  exact Reference.shift_at _ _ _ _ b d
theorem dweight_agree : Reference4Ideal.Read.val_main_v72 (F := Ideal) (m ((c : Tc).loc main_arg0)) (m ((c : Tc).loc main_arg1)) (m ((c : Tc).loc main_arg2)) (m ((c : Tc).loc main_arg5)) (m ((c : Tc).loc main_arg6)) (m ((c : Tc).loc main_arg7)) (m ((c : Tc).loc main_arg9)) (m ((c : Tc).loc main_arg10)) = dweight m c := by
  funext i
  obtain ⟨d, rfl⟩ := line i
  exact Reference.weight_at _ _ _ _ _ _ _ _ d
theorem dbelow_agree (hf : Cert.Pre_Kernel4Ideal_finite4 (hPre_finite4 := Cert.Pre_finite4.Gen.facts) m) :
    Reference4Ideal.Read.val_main_v73 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) (m ((c : Tc).loc main_arg9)) (m ((c : Tc).loc main_arg10)) = dbelow m c := by
  funext i
  obtain ⟨b, s, d, rfl⟩ := whole i
  refine (Reference.below_at _ _ _ _ _ _ _ _ _ _ b s d).trans ?_
  rw [gradient_at m c hf b s d]
  rfl
theorem dgate_agree (hf : Cert.Pre_Kernel4Ideal_finite4 (hPre_finite4 := Cert.Pre_finite4.Gen.facts) m) :
    Reference4Ideal.Read.val_main_v74 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) (m ((c : Tc).loc main_arg9)) (m ((c : Tc).loc main_arg10)) = dgate m c := by
  funext i
  obtain ⟨b, d, rfl⟩ := flat i
  refine (Reference.gate_at _ _ _ _ _ _ _ _ _ _ b d).trans ?_
  show _ = gateSum m c b d
  unfold gateSum
  exact Finset.sum_congr rfl fun s _ => congrArg (· * arg_below m c (ix3 b s d)) (gradient_at m c hf b s d)

end agree

theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hf he
  refine ⟨_, _, _, _, _, _, kernel_run m g, ?_⟩
  refine (θ_run _ _ _).mono (fun r h c => ?_) (Cert.Reference4Ideal.Value.run (F := Ideal) m' g')
  obtain ⟨e0, e1, e2, e3, e4, e5, e6, e7, e8, e9, e10⟩ := he c
  refine ⟨(h c).1.trans ((Reference4Ideal.Read.val_main_v62_eq _ _).trans (by
      rw [e0, e1, e2, e3, e5, e6, e7, e8, e9, e10]
      exact dx_agree m c hf)),
    (h c).2.1.trans ((Reference4Ideal.Read.val_main_v70_eq _ _ _ _ _ _ _ _).trans (by
      rw [e0, e1, e2, e3, e6, e7, e9, e10]
      exact dscale_agree m c)),
    (h c).2.2.1.trans ((Reference4Ideal.Read.val_main_v71_eq _ _ _ _).trans (by
      rw [e6, e7, e9, e10]
      exact dshift_agree m c)),
    (h c).2.2.2.1.trans ((Reference4Ideal.Read.val_main_v72_eq _ _ _ _ _ _ _ _).trans (by
      rw [e0, e1, e2, e5, e6, e7, e9, e10]
      exact dweight_agree m c)),
    (h c).2.2.2.2.1.trans ((Reference4Ideal.Read.val_main_v73_eq _ _).trans (by
      rw [e0, e1, e2, e3, e5, e6, e7, e8, e9, e10]
      exact dbelow_agree m c hf)),
    (h c).2.2.2.2.2.1.trans ((Reference4Ideal.Read.val_main_v74_eq _ _).trans (by
      rw [e0, e1, e2, e3, e5, e6, e7, e8, e9, e10]
      exact dgate_agree m c hf)),
    (h c).2.2.2.2.2.2⟩
-- ==== Proof.First.lean ====
/-
  The gradient through the first feed-forward layer's normalisation is the reference's.
-/
module

public import proofs.«01_k».proof.Proof.FirstArrays
public import proofs.«01_k».proof.Proof.FirstReference
public import proofs.«01_k».proof.Proof.Norm
public import proofs.«01_k».proof.Proof.Gen.Pre_finite5

@[expose] public noncomputable section

set_option maxRecDepth 16384

namespace Cert.Proof.First

open Cert.Proof.Norm (Real real_add real_mul agree)

open Idealize ShloMosaic ShloMosaic.TcCoe SL.Sem ShloMosaic.Pointwise

section finite

open Cert.Pre_finite5 Cert.Pre_finite5.Gen

theorem held (a0 : FVec Ideal S2x4096x1024 .f32) (a1 : FVec Ideal S1024 .f32) (a2 a3 : FVec Ideal S2x1024 .f32)
    (a4 a5 : FVec Ideal S1024x2816 .f32) (a6 : FVec Ideal S2x4096x1024 .f32) (a7 a8 : FVec Ideal S2x4096x2816 .f32)
    (e : Cert.Pre_finite5.fn (F := Ideal) a0 a1 a2 a3 a4 a5 a6 a7 a8 = fun _ => 1#1) :
    Real a0 ∧ Real a1 ∧ Real a3 ∧ Real a4 ∧ Real a5 ∧ Real a6 ∧ Real a7 ∧ Real a8 := by
  unfold Cert.Pre_finite5.fn Cert.Pre_finite5.fn_part1 Cert.Pre_finite5.fn_part2 at e
  obtain ⟨e, e8⟩ := Finite.and_split _ _ e
  obtain ⟨e, e7⟩ := Finite.and_split _ _ e
  obtain ⟨e, e6⟩ := Finite.and_split _ _ e
  obtain ⟨e, e5⟩ := Finite.and_split _ _ e
  obtain ⟨e, e4⟩ := Finite.and_split _ _ e
  obtain ⟨e, e3⟩ := Finite.and_split _ _ e
  obtain ⟨e, e2⟩ := Finite.and_split _ _ e
  obtain ⟨e0, e1⟩ := Finite.and_split _ _ e
  exact ⟨fun i => ⟨_, Finite.all_real a0 _ _ e0 i⟩,
    fun i => ⟨_, Finite.all_real a1 _ _ e1 i⟩,
    fun i => ⟨_, Finite.all_real a3 _ _ e3 i⟩,
    fun i => ⟨_, Finite.all_real a4 _ _ e4 i⟩,
    fun i => ⟨_, Finite.all_real a5 _ _ e5 i⟩,
    fun i => ⟨_, Finite.all_real a6 _ _ e6 i⟩,
    fun i => ⟨_, Finite.all_real a7 _ _ e7 i⟩,
    fun i => ⟨_, Finite.all_real a8 _ _ e8 i⟩⟩

end finite

/-! ## The call's arrays are the reference's -/

section agree

open Cert.Kernel5Ideal Cert.Kernel5Ideal.Gen
local notation "Tc" => Thread nD τ

variable (m : (ℓ : Loc nD τ sig) → Buf (Elt Ideal) ℓ) (c : Dev nD)

theorem whole (i : S2x4096x1024.Idx) : ∃ (b : Fin 2) (s : Fin 4096) (d : Fin 1024), i = ix3 b s d :=
  ⟨i 0, i 1, i 2, by funext a; fin_cases a <;> rfl⟩
theorem flat (i : S2x1x1024.Idx) : ∃ (b : Fin 2) (d : Fin 1024), i = ix3 b 0 d :=
  ⟨i 0, i 2, by
    funext a
    match a with
    | ⟨0, _⟩ => rfl
    | ⟨1, _⟩ => exact Subsingleton.elim (α := Fin 1) _ _
    | ⟨2, _⟩ => rfl⟩
theorem line (i : S1x1024.Idx) : ∃ d : Fin 1024, i = ix2 0 d :=
  ⟨i 1, by
    funext a
    match a with
    | ⟨0, _⟩ => exact Subsingleton.elim (α := Fin 1) _ _
    | ⟨1, _⟩ => rfl⟩

theorem gradient_at (hf : Cert.Pre_Kernel5Ideal_finite5 (hPre_finite5 := Cert.Pre_finite5.Gen.facts) m) (b : Fin 2) (s : Fin 4096) (d : Fin 1024) :
    Reference5Ideal.Read.val_main_v58 (F := Ideal) (m ((c : Tc).loc main_arg0)) (m ((c : Tc).loc main_arg1)) (m ((c : Tc).loc main_arg3)) (m ((c : Tc).loc main_arg4)) (m ((c : Tc).loc main_arg5)) (m ((c : Tc).loc main_arg6)) (m ((c : Tc).loc main_arg7)) (m ((c : Tc).loc main_arg8)) (ix3 b s d)
      = inputGradient m c b s d := by
  obtain ⟨h0, h1, h3, h4, h5, h6, h7, h8⟩ := held _ _ _ _ _ _ _ _ _ (hf c)
  refine (Reference.dx_at _ _ _ _ _ _ _ _ b s d).trans ?_
  exact agree _ _ _ _ _ (h6 _) (fun _ => h0 _)
    (fun _ => real_add (Gate.real_sum _ _ (fun _ => h7 _) (fun _ => h4 _)) (Gate.real_sum _ _ (fun _ => h8 _) (fun _ => h5 _)))
    (fun _ => h3 _) (fun _ => h1 _) d

theorem dx_agree (hf : Cert.Pre_Kernel5Ideal_finite5 (hPre_finite5 := Cert.Pre_finite5.Gen.facts) m) :
    Reference5Ideal.Read.val_main_v58 (F := Ideal) (m ((c : Tc).loc main_arg0)) (m ((c : Tc).loc main_arg1)) (m ((c : Tc).loc main_arg3)) (m ((c : Tc).loc main_arg4)) (m ((c : Tc).loc main_arg5)) (m ((c : Tc).loc main_arg6)) (m ((c : Tc).loc main_arg7)) (m ((c : Tc).loc main_arg8)) = dx m c := by
  funext i
  obtain ⟨b, s, d, rfl⟩ := whole i
  exact gradient_at m c hf b s d
theorem dscale_agree : Reference5Ideal.Read.val_main_v59 (F := Ideal) (m ((c : Tc).loc main_arg0)) (m ((c : Tc).loc main_arg1)) (m ((c : Tc).loc main_arg4)) (m ((c : Tc).loc main_arg5)) (m ((c : Tc).loc main_arg7)) (m ((c : Tc).loc main_arg8)) = dscale m c := by
  funext i
  obtain ⟨b, d, rfl⟩ := flat i
  exact Reference.scale_at _ _ _ _ _ _ b d
theorem dshift_agree : Reference5Ideal.Read.val_main_v60 (F := Ideal) (m ((c : Tc).loc main_arg4)) (m ((c : Tc).loc main_arg5)) (m ((c : Tc).loc main_arg7)) (m ((c : Tc).loc main_arg8)) = dshift m c := by
  funext i
  obtain ⟨b, d, rfl⟩ := flat i
  exact Reference.shift_at _ _ _ _ b d
theorem dweight_agree : Reference5Ideal.Read.val_main_v61 (F := Ideal) (m ((c : Tc).loc main_arg0)) (m ((c : Tc).loc main_arg3)) (m ((c : Tc).loc main_arg4)) (m ((c : Tc).loc main_arg5)) (m ((c : Tc).loc main_arg7)) (m ((c : Tc).loc main_arg8)) = dweight m c := by
  funext i
  obtain ⟨d, rfl⟩ := line i
  exact Reference.weight_at _ _ _ _ _ _ d

end agree

theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hf he
  refine ⟨_, _, _, _, kernel_run m g, ?_⟩
  refine (θ_run _ _ _).mono (fun r h c => ?_) (Cert.Reference5Ideal.Value.run (F := Ideal) m' g')
  obtain ⟨e0, e1, e2, e3, e4, e5, e6, e7, e8⟩ := he c
  refine ⟨(h c).1.trans ((Reference5Ideal.Read.val_main_v58_eq _ _).trans (by
      rw [e0, e1, e3, e4, e5, e6, e7, e8]
      exact dx_agree m c hf)),
    (h c).2.1.trans ((Reference5Ideal.Read.val_main_v59_eq _ _ _ _ _ _).trans (by
      rw [e0, e1, e4, e5, e7, e8]
      exact dscale_agree m c)),
    (h c).2.2.1.trans ((Reference5Ideal.Read.val_main_v60_eq _ _ _ _).trans (by
      rw [e4, e5, e7, e8]
      exact dshift_agree m c)),
    (h c).2.2.2.1.trans ((Reference5Ideal.Read.val_main_v61_eq _ _ _ _ _ _).trans (by
      rw [e0, e3, e4, e5, e7, e8]
      exact dweight_agree m c)),
    (h c).2.2.2.2⟩
-- ==== Proof.MixTile.lean ====
/-
  The gradient through the mixer's normalisation: what one point of the grid leaves in its blocks.
-/
module

public import proofs.«01_k».proof.Proof.NormMath
public import proofs.«01_k».proof.Proof.Gen.Kernel6Ideal.Frame
public import Idealize.ShloMosaic.Lib.Pipeline.ValueKit

@[expose] public noncomputable section

set_option maxRecDepth 16384

namespace Cert.Proof.Mix

open Cert.Kernel6Ideal Cert.Kernel6Ideal.Gen Cert.Proof.Norm
open Idealize ShloMosaic ShloMosaic.TcCoe ShloMosaic.Pointwise

/-- The word of one half. -/
def half : EReal := Ideal.ofBits .f32 0x3F000000#32

/-! ## Rows of the blocks -/

/-- A row of a block. -/
abbrev row (x : FVec Ideal S1x512x1024 .f32) (r : Fin 512) (k : Fin 1024) : EReal := x (ix3 0 r k)
/-- The entries of a batch member's vector. -/
abbrev member (s : FVec Ideal S1x1x1024 .f32) (k : Fin 1024) : EReal := s (ix3 0 0 k)
/-- The entries of a vector. -/
abbrev vector (w : FVec Ideal S1x1024 .f32) (k : Fin 1024) : EReal := w (ix2 0 k)
/-- A row of the modulated rows' gradient. -/
abbrev line (h : FVec Ideal S512x1024 .f32) (r : Fin 512) (k : Fin 1024) : EReal := h (ix2 r k)

section product

variable (g0 : FVec Ideal S1x512x1024 .bf16) (w0 : FVec Ideal S1024x1024 .bf16) (g1 : FVec Ideal S1x512x1536 .bf16) (w1 : FVec Ideal S1536x1024 .bf16)
  (g2 : FVec Ideal S1x512x384 .bf16) (w2 : FVec Ideal S384x1024 .bf16) (g3 : FVec Ideal S1x512x256 .bf16) (w3 : FVec Ideal S256x1024 .bf16)
  (g4 : FVec Ideal S1x512x128 .bf16) (w4 : FVec Ideal S128x1024 .bf16)

/-- The gradient of the modulated rows: each of the five gradients times the rows of the weight that belong to it. -/
abbrev hidden : FVec Ideal S512x1024 .f32 := k0_pay10 (F := Ideal) (k0_pay8 g0 w0 g1 w1 g2 w2) (k0_pay9 g3) w3 g4 w4

theorem hidden_at (r : Fin 512) (k : Fin 1024) : hidden g0 w0 g1 w1 g2 w2 g3 w3 g4 w4 (ix2 r k)
    = ∑ f : Fin 1024, g0 (ix3 0 r f) * w0 (ix2 f k) + ∑ f : Fin 1536, g1 (ix3 0 r f) * w1 (ix2 f k) + ∑ f : Fin 384, g2 (ix3 0 r f) * w2 (ix2 f k)
      + ∑ f : Fin 256, g3 (ix3 0 r f) * w3 (ix2 f k) + ∑ f : Fin 128, g4 (ix3 0 r f) * w4 (ix2 f k) := by
  unfold hidden
  pointwise [k0_pay8, k0_pay9, k0_pay10]

end product

/-! ## The stages -/

variable (h : FVec Ideal S512x1024 .f32) (x xn : FVec Ideal S1x512x1024 .f32) (o : FVec Ideal S1x512x1024 .bf16)
  (w A2 : FVec Ideal S1x1024 .f32) (sc ga A3 : FVec Ideal S1x1x1024 .f32) (r : Fin 512) (d : Fin 1024)

theorem input_at : k0_pay11 (F := Ideal) x (ix2 r d) = row x r d := by
  pointwise [k0_pay11]

theorem root_at : k0_pay12 (F := Ideal) x (ix2 r 0) = root (row x r) := by
  unfold k0_pay12 root square Norm.count small
  have e := input_at x
  generalize k0_pay11 (F := Ideal) x = y at e
  pointwise []
  simp only [e]

theorem normal_at : k0_pay13 (F := Ideal) x (ix2 r d) = row x r d * root (row x r) := by
  rw [← root_at, ← input_at]
  unfold k0_pay13
  generalize k0_pay12 (F := Ideal) x = p
  generalize k0_pay11 (F := Ideal) x = q
  pointwise []

theorem weight_at : k0_pay14 (F := Ideal) w (ix2 0 d) = vector w d := by
  pointwise [k0_pay14]

theorem modulated_at : k0_pay17 (F := Ideal) h sc (ix2 r d) = line h r d * (1 + member sc d) := by
  pointwise [k0_pay17]

/-- The gradient of the rows. -/
abbrev gradient : FVec Ideal S512x1024 .f32 := k0_pay19 (F := Ideal) h (k0_pay12 x) (k0_pay13 x) (k0_pay14 w) sc xn

theorem gradient_at : gradient h x xn w sc (ix2 r d) = xn (ix3 0 r d) + pull (row x r) (line h r) (member sc) (vector w) d := by
  have e : ∀ k, scaled (line h r) (member sc) (vector w) k = k0_pay17 (F := Ideal) h sc (ix2 r k) * k0_pay14 (F := Ideal) w (ix2 0 k) := fun k => by
    rw [modulated_at, weight_at]
    rfl
  have en : ∀ k, row x r k * root (row x r) = k0_pay13 (F := Ideal) x (ix2 r k) := fun k => (normal_at x r k).symm
  unfold pull
  simp only [e, en]
  rw [← root_at]
  unfold gradient k0_pay19 Norm.count
  generalize k0_pay17 (F := Ideal) h sc = p
  generalize k0_pay14 (F := Ideal) w = q
  generalize k0_pay13 (F := Ideal) x = n
  generalize k0_pay12 (F := Ideal) x = s
  pointwise []

theorem dx_block_at : k0_pay1 (F := Ideal) (gradient h x xn w sc) (ix3 0 r d) = xn (ix3 0 r d) + pull (row x r) (line h r) (member sc) (vector w) d := by
  rw [← gradient_at]
  unfold k0_pay1
  generalize gradient h x xn w sc = p
  pointwise []

theorem do_block_at : k0_pay2 (F := Ideal) (gradient h x xn w sc) ga (ix3 0 r d)
    = half * member ga d * (xn (ix3 0 r d) + pull (row x r) (line h r) (member sc) (vector w) d) := by
  rw [← gradient_at]
  unfold k0_pay2 half
  generalize gradient h x xn w sc = p
  pointwise []

/-- What a point adds to the gradient of the scale. -/
def partScale : EReal := ∑ r : Fin 512, line h r d * (row x r d * root (row x r) * vector w d)
/-- What a point adds to the gradient of the shift. -/
def partShift : EReal := ∑ r : Fin 512, line h r d
/-- What a point adds to the gradient of the normalisation's weight. -/
def partWeight : EReal := ∑ r : Fin 512, line h r d * (1 + member sc d) * (row x r d * root (row x r))
/-- What a point adds to the gradient of the gate below. -/
def partGate : EReal := ∑ r : Fin 512, half * (xn (ix3 0 r d) + pull (row x r) (line h r) (member sc) (vector w) d) * o (ix3 0 r d)

theorem scale_at (p : FVec Ideal S512x1024 .f32) (q : FVec Ideal S512x256 .bf16) (w3 : FVec Ideal S256x1024 .bf16) (g4 : FVec Ideal S1x512x128 .bf16)
    (w4 : FVec Ideal S128x1024 .bf16) :
    k0_pay15 (F := Ideal) p q w3 g4 w4 x w A3 (ix3 0 0 d) = member A3 d + partScale (k0_pay10 (F := Ideal) p q w3 g4 w4) x w d := by
  unfold partScale
  simp only [← normal_at]
  have e := weight_at w
  unfold k0_pay15
  generalize k0_pay10 (F := Ideal) p q w3 g4 w4 = h
  generalize k0_pay14 (F := Ideal) w = v at e ⊢
  generalize k0_pay13 (F := Ideal) x = n
  pointwise []
  simp only [e]

theorem shift_at : k0_pay16 (F := Ideal) h A3 (ix3 0 0 d) = member A3 d + partShift h d := by
  unfold partShift
  pointwise [k0_pay16]

theorem norm_weight_at : k0_pay18 (F := Ideal) h (k0_pay13 x) sc A2 (ix2 0 d) = vector A2 d + partWeight h x sc d := by
  unfold partWeight
  simp only [← modulated_at, ← normal_at]
  unfold k0_pay18
  generalize k0_pay17 (F := Ideal) h sc = p
  generalize k0_pay13 (F := Ideal) x = n
  pointwise []

theorem gate_at : k0_pay3 (F := Ideal) (gradient h x xn w sc) A3 o (ix3 0 0 d) = member A3 d + partGate h x xn o w sc d := by
  unfold partGate
  simp only [← gradient_at]
  unfold k0_pay3 half
  generalize gradient h x xn w sc = p
  pointwise []

theorem zero4 : k0_pay4 (F := Ideal) (ix3 0 0 d) = 0 := by pointwise [k0_pay4]
theorem zero5 : k0_pay5 (F := Ideal) (ix3 0 0 d) = 0 := by pointwise [k0_pay5]
theorem zero6 : k0_pay6 (F := Ideal) (ix3 0 0 d) = 0 := by pointwise [k0_pay6]
theorem zero7 : k0_pay7 (F := Ideal) (ix2 0 d) = 0 := by pointwise [k0_pay7]
-- ==== Proof.MixPoint.lean ====
/-
  The gradient through the mixer's normalisation: the accumulated sums over a batch member's points.
-/
module

public import proofs.«01_k».proof.Proof.MixTile

@[expose] public noncomputable section

set_option maxRecDepth 16384

namespace Cert.Proof.Mix

open Cert.Proof.Norm (small square root scaled pull minusHalf share agree)

open Cert.Kernel6Ideal Cert.Kernel6Ideal.Gen
open Idealize ShloMosaic ShloMosaic.TcCoe ShloMosaic.Pointwise

variable (m : (ℓ : Loc nD τ sig) → Buf (Elt Ideal) ℓ) (c : Dev nD) (t : Fin cfg0.N) (r : Fin 512) (d : Fin 1024)

theorem inside : t.val < 16 := lt_of_lt_of_eq t.isLt (show cfg0.N = 16 from N_0)

/-- The gradient of a point's modulated rows. -/
abbrev hiddenOf : FVec Ideal S512x1024 .f32 :=
  hidden (iblk m c 0 t) (View.ld (iblk m c 5 t) (Rect.unit ![0, 0] ![1024, 1024] inb_S3328x1024_S1024x1024_0_0))
    (iblk m c 1 t) (View.ld (iblk m c 5 t) (Rect.unit ![1024, 0] ![1536, 1024] inb_S3328x1024_S1536x1024_1024_0))
    (iblk m c 2 t) (View.ld (iblk m c 5 t) (Rect.unit ![2560, 0] ![384, 1024] inb_S3328x1024_S384x1024_2560_0))
    (iblk m c 3 t) (View.ld (iblk m c 5 t) (Rect.unit ![2944, 0] ![256, 1024] inb_S3328x1024_S256x1024_2944_0))
    (iblk m c 4 t) (View.ld (iblk m c 5 t) (Rect.unit ![3200, 0] ![128, 1024] inb_S3328x1024_S128x1024_3200_0))
/-- The rows of that gradient. -/
abbrev backOf : Fin 512 → Fin 1024 → EReal := line (hiddenOf m c t)

theorem dx_point : (outsAt0 m c t.val t.isLt).1 (ix3 0 r d)
    = row (iblk m c 7 t) r d + pull (row (iblk m c 6 t) r) (backOf m c t r) (member (iblk m c 9 t)) (vector (iblk m c 8 t)) d := by
  have ht := inside t
  by_cases h0 : t.val % 8 = 0
  · by_cases h1 : t.val % 16 = 0
    · rw [outsAt0_A m c t h0 h1]
      frame_out
      exact dx_block_at ..
    · rw [outsAt0_C m c t h0 h1]
      frame_out
      exact dx_block_at ..
  · rw [outsAt0_B m c t h0 (by omega)]
    frame_out
    exact dx_block_at ..

theorem do_point : (outsAt0 m c t.val t.isLt).2.2.2.2.1 (ix3 0 r d)
    = half * member (iblk m c 11 t) d
      * (row (iblk m c 7 t) r d + pull (row (iblk m c 6 t) r) (backOf m c t r) (member (iblk m c 9 t)) (vector (iblk m c 8 t)) d) := by
  have ht := inside t
  by_cases h0 : t.val % 8 = 0
  · by_cases h1 : t.val % 16 = 0
    · rw [outsAt0_A m c t h0 h1]
      frame_out
      exact do_block_at ..
    · rw [outsAt0_C m c t h0 h1]
      frame_out
      exact do_block_at ..
  · rw [outsAt0_B m c t h0 (by omega)]
    frame_out
    exact do_block_at ..

/-- What a point adds to the gradient of the scale. -/
abbrev addScale : EReal := partScale (hiddenOf m c t) (iblk m c 6 t) (iblk m c 8 t) d
/-- What a point adds to the gradient of the shift. -/
abbrev addShift : EReal := partShift (hiddenOf m c t) d
/-- What a point adds to the gradient of the normalisation's weight. -/
abbrev addWeight : EReal := partWeight (hiddenOf m c t) (iblk m c 6 t) (iblk m c 9 t) d
/-- What a point adds to the gradient of the gate below. -/
abbrev addGate : EReal :=
  partGate (hiddenOf m c t) (iblk m c 6 t) (iblk m c 7 t) (iblk m c 10 t) (iblk m c 8 t) (iblk m c 9 t) d

theorem scale_first (h : t.val % 8 = 0) : (outsAt0 m c t.val t.isLt).2.1 (ix3 0 0 d) = 0 + addScale m c t d := by
  by_cases h1 : t.val % 16 = 0
  · rw [outsAt0_A m c t h h1]
    frame_out
    exact (scale_at ..).trans (congrArg (· + _) (zero4 d))
  · rw [outsAt0_C m c t h h1]
    frame_out
    exact (scale_at ..).trans (congrArg (· + _) (zero4 d))

theorem scale_next (h : ¬t.val % 8 = 0) : (outsAt0 m c t.val t.isLt).2.1 (ix3 0 0 d)
    = (outsAt0 m c (t.val - 1) (Nat.lt_of_le_of_lt (Nat.sub_le _ _) t.isLt)).2.1 (ix3 0 0 d) + addScale m c t d := by
  rw [outsAt0_B m c t h (by omega)]
  frame_out
  exact scale_at ..

theorem scale_total (h : t.val % 8 = 7) : (outsAt0 m c t.val t.isLt).2.1 (ix3 0 0 d)
    = ∑ s : Fin 8, addScale m c ⟨8 * (t.val / 8) + s.val, Pipeline.run_point_lt_of_flush t h s⟩ d := by
  rw [Pipeline.eq_sum_fin_of_reset_step_of_flush (fun n hn => (outsAt0 m c n hn).2.1 (ix3 0 0 d)) 8 0 (fun t => addScale m c t d)
    (fun t h => scale_first m c t d h) (fun t h => scale_next m c t d h) t h, zero_add]

theorem shift_first (h : t.val % 8 = 0) : (outsAt0 m c t.val t.isLt).2.2.1 (ix3 0 0 d) = 0 + addShift m c t d := by
  by_cases h1 : t.val % 16 = 0
  · rw [outsAt0_A m c t h h1]
    frame_out
    exact (shift_at ..).trans (congrArg (· + _) (zero5 d))
  · rw [outsAt0_C m c t h h1]
    frame_out
    exact (shift_at ..).trans (congrArg (· + _) (zero5 d))

theorem shift_next (h : ¬t.val % 8 = 0) : (outsAt0 m c t.val t.isLt).2.2.1 (ix3 0 0 d)
    = (outsAt0 m c (t.val - 1) (Nat.lt_of_le_of_lt (Nat.sub_le _ _) t.isLt)).2.2.1 (ix3 0 0 d) + addShift m c t d := by
  rw [outsAt0_B m c t h (by omega)]
  frame_out
  exact shift_at ..

theorem shift_total (h : t.val % 8 = 7) : (outsAt0 m c t.val t.isLt).2.2.1 (ix3 0 0 d)
    = ∑ s : Fin 8, addShift m c ⟨8 * (t.val / 8) + s.val, Pipeline.run_point_lt_of_flush t h s⟩ d := by
  rw [Pipeline.eq_sum_fin_of_reset_step_of_flush (fun n hn => (outsAt0 m c n hn).2.2.1 (ix3 0 0 d)) 8 0 (fun t => addShift m c t d)
    (fun t h => shift_first m c t d h) (fun t h => shift_next m c t d h) t h, zero_add]

theorem gate_first (h : t.val % 8 = 0) : (outsAt0 m c t.val t.isLt).2.2.2.2.2 (ix3 0 0 d) = 0 + addGate m c t d := by
  by_cases h1 : t.val % 16 = 0
  · rw [outsAt0_A m c t h h1]
    frame_out
    exact (gate_at ..).trans (congrArg (· + _) (zero6 d))
  · rw [outsAt0_C m c t h h1]
    frame_out
    exact (gate_at ..).trans (congrArg (· + _) (zero6 d))

theorem gate_next (h : ¬t.val % 8 = 0) : (outsAt0 m c t.val t.isLt).2.2.2.2.2 (ix3 0 0 d)
    = (outsAt0 m c (t.val - 1) (Nat.lt_of_le_of_lt (Nat.sub_le _ _) t.isLt)).2.2.2.2.2 (ix3 0 0 d) + addGate m c t d := by
  rw [outsAt0_B m c t h (by omega)]
  frame_out
  exact gate_at ..

theorem gate_total (h : t.val % 8 = 7) : (outsAt0 m c t.val t.isLt).2.2.2.2.2 (ix3 0 0 d)
    = ∑ s : Fin 8, addGate m c ⟨8 * (t.val / 8) + s.val, Pipeline.run_point_lt_of_flush t h s⟩ d := by
  rw [Pipeline.eq_sum_fin_of_reset_step_of_flush (fun n hn => (outsAt0 m c n hn).2.2.2.2.2 (ix3 0 0 d)) 8 0 (fun t => addGate m c t d)
    (fun t h => gate_first m c t d h) (fun t h => gate_next m c t d h) t h, zero_add]

theorem weight_first (h : t.val % 16 = 0) : (outsAt0 m c t.val t.isLt).2.2.2.1 (ix2 0 d) = 0 + addWeight m c t d := by
  rw [outsAt0_A m c t (by omega) h]
  frame_out
  exact (norm_weight_at ..).trans (congrArg (· + _) (zero7 d))

theorem weight_next (h : ¬t.val % 16 = 0) : (outsAt0 m c t.val t.isLt).2.2.2.1 (ix2 0 d)
    = (outsAt0 m c (t.val - 1) (Nat.lt_of_le_of_lt (Nat.sub_le _ _) t.isLt)).2.2.2.1 (ix2 0 d) + addWeight m c t d := by
  by_cases h0 : t.val % 8 = 0
  · rw [outsAt0_C m c t h0 h]
    frame_out
    exact norm_weight_at ..
  · rw [outsAt0_B m c t h0 h]
    frame_out
    exact norm_weight_at ..

theorem weight_total (h : t.val % 16 = 15) : (outsAt0 m c t.val t.isLt).2.2.2.1 (ix2 0 d)
    = ∑ s : Fin 16, addWeight m c ⟨16 * (t.val / 16) + s.val, Pipeline.run_point_lt_of_flush t h s⟩ d := by
  rw [Pipeline.eq_sum_fin_of_reset_step_of_flush (fun n hn => (outsAt0 m c n hn).2.2.2.1 (ix2 0 d)) 16 0 (fun t => addWeight m c t d)
    (fun t h => weight_first m c t d h) (fun t h => weight_next m c t d h) t h, zero_add]
-- ==== Proof.MixSum.lean ====
/-
  The input projection's columns in the order that the calls take them: a sum over five groups of columns is the sum over all of them.
-/
module

public import Idealize.ShloMosaic.Lib.Pointwise
public import Idealize.ShloMosaic.Lib.TwoAxisContraction

@[expose] public noncomputable section

namespace Cert.Proof.Mix

/-- The columns' sum, split where the calls split it. -/
theorem regroup (P : ℕ → EReal) (n : Fin 128 → EReal) (h0 : ∀ f : Fin 128, f.val < 16 → n f = P (2560 + f.val))
    (h1 : ∀ f : Fin 128, ¬f.val < 16 → f.val < 48 → n f = P (3200 + f.val)) (h2 : ∀ f : Fin 128, 48 ≤ f.val → n f = 0) :
    ∑ f : Fin 1024, P f.val + ∑ f : Fin 1536, P (1024 + f.val) + ∑ f : Fin 384, P (2576 + f.val) + ∑ f : Fin 256, P (2960 + f.val) + ∑ f, n f
      = ∑ f : Fin 3248, P f.val := by
  have e : ∑ f, n f = ∑ f ∈ Finset.range 16, P (2560 + f) + ∑ f ∈ Finset.range 32, P (3216 + f) := by
    have a : ∀ f : Fin 128, n f = (fun k : ℕ => if k < 16 then P (2560 + k) else if k < 48 then P (3200 + k) else 0) f.val := fun f => by
      dsimp only
      split_ifs with a b
      · exact h0 f a
      · exact h1 f a b
      · exact h2 f (by omega)
    rw [Finset.sum_congr rfl fun f _ => a f, Fin.sum_univ_eq_sum_range (fun k : ℕ => if k < 16 then P (2560 + k) else if k < 48 then P (3200 + k) else 0) 128,
      show 128 = 16 + 32 + 80 from rfl, Finset.sum_range_add, Finset.sum_range_add]
    rw [Finset.sum_eq_zero (s := Finset.range 80) fun k _ => by rw [if_neg (by omega), if_neg (by omega)], add_zero]
    refine congr (congrArg _ (Finset.sum_congr rfl fun k hk => if_pos (Finset.mem_range.mp hk))) (Finset.sum_congr rfl fun k hk => ?_)
    have := Finset.mem_range.mp hk
    rw [if_neg (by omega), if_pos (by omega)]
    exact congrArg P (by omega)
  rw [e, Fin.sum_univ_eq_sum_range (fun k => P k) 1024, Fin.sum_univ_eq_sum_range (fun k => P (1024 + k)) 1536, Fin.sum_univ_eq_sum_range (fun k => P (2576 + k)) 384,
    Fin.sum_univ_eq_sum_range (fun k => P (2960 + k)) 256, Fin.sum_univ_eq_sum_range (fun k => P k) 3248,
    show 3248 = 1024 + 1536 + 16 + 384 + 256 + 32 from rfl, Finset.sum_range_add, Finset.sum_range_add, Finset.sum_range_add, Finset.sum_range_add, Finset.sum_range_add]
  abel
-- ==== Proof.MixBlocks.lean ====
/-
  The gradient through the mixer's normalisation: the arrays that the kernel leaves, in terms of its arguments.
-/
module

public import proofs.«01_k».proof.Proof.MixPoint
public import proofs.«01_k».proof.Proof.MixSum
public import Idealize.ShloMosaic.Lib.StableHlo.RunRead

@[expose] public noncomputable section

set_option maxRecDepth 16384

namespace Cert.Proof.Mix

open Cert.Proof.Norm (small square root scaled pull minusHalf share agree)

open Cert.Kernel6Ideal Cert.Kernel6Ideal.Gen
open Idealize ShloMosaic ShloMosaic.TcCoe SL.Sem ShloMosaic.Pointwise
local notation "Tc" => Thread nD τ

variable (m : (ℓ : Loc nD τ sig) → Buf (Elt Ideal) ℓ) (ρ : Dev nD → PrngReg) (c : Dev nD)

theorem at0 : ∀ t : Fin cfg0.N, win0_0.index t = ![t.val / 8, t.val % 8, 0] := by decide +kernel
theorem at1 : ∀ t : Fin cfg0.N, win0_1.index t = ![t.val / 8, t.val % 8, 0] := by decide +kernel
theorem at2 : ∀ t : Fin cfg0.N, win0_2.index t = ![t.val / 8, t.val % 8, 0] := by decide +kernel
theorem at3 : ∀ t : Fin cfg0.N, win0_3.index t = ![t.val / 8, t.val % 8, 0] := by decide +kernel
theorem at4 : ∀ t : Fin cfg0.N, win0_4.index t = ![t.val / 8, t.val % 8, 0] := by decide +kernel
theorem at5 : ∀ t : Fin cfg0.N, win0_5.index t = ![0, 0] := by decide +kernel
theorem at6 : ∀ t : Fin cfg0.N, win0_6.index t = ![t.val / 8, t.val % 8, 0] := by decide +kernel
theorem at7 : ∀ t : Fin cfg0.N, win0_7.index t = ![t.val / 8, t.val % 8, 0] := by decide +kernel
theorem at8 : ∀ t : Fin cfg0.N, win0_8.index t = ![0, 0] := by decide +kernel
theorem at9 : ∀ t : Fin cfg0.N, win0_9.index t = ![t.val / 8, 0, 0] := by decide +kernel
theorem at10 : ∀ t : Fin cfg0.N, win0_10.index t = ![t.val / 8, t.val % 8, 0] := by decide +kernel
theorem at11 : ∀ t : Fin cfg0.N, win0_11.index t = ![t.val / 8, 0, 0] := by decide +kernel
theorem at12 : ∀ t : Fin cfg0.N, win0_12.index t = ![t.val / 8, t.val % 8, 0] := by decide +kernel
theorem at13 : ∀ t : Fin cfg0.N, win0_13.index t = ![t.val / 8, 0, 0] := by decide +kernel
theorem at14 : ∀ t : Fin cfg0.N, win0_14.index t = ![t.val / 8, 0, 0] := by decide +kernel
theorem at15 : ∀ t : Fin cfg0.N, win0_15.index t = ![0, 0] := by decide +kernel
theorem at16 : ∀ t : Fin cfg0.N, win0_16.index t = ![t.val / 8, t.val % 8, 0] := by decide +kernel
theorem at17 : ∀ t : Fin cfg0.N, win0_17.index t = ![t.val / 8, 0, 0] := by decide +kernel

/-! ## The arguments, and what the host passes on -/

abbrev arg_x : FVec Ideal S2x4096x1024 .f32 := m ((c : Tc).loc main_arg0)
abbrev arg_below : FVec Ideal S2x4096x1024 .f32 := m ((c : Tc).loc main_arg1)
abbrev arg_gate : FVec Ideal S2x1024 .f32 := m ((c : Tc).loc main_arg2)
abbrev arg_weight : FVec Ideal S1024 .f32 := m ((c : Tc).loc main_arg3)
abbrev arg_scale : FVec Ideal S2x1024 .f32 := m ((c : Tc).loc main_arg5)
abbrev arg_in : FVec Ideal S1024x3248 .f32 := m ((c : Tc).loc main_arg6)
abbrev arg_cotangent : FVec Ideal S2x4096x1024 .f32 := m ((c : Tc).loc main_arg7)
abbrev arg_grad : FVec Ideal S2x4096x3248 .f32 := m ((c : Tc).loc main_arg8)

/-- A row of the mixer's input: what came before it, and the gated output of the layer below. -/
def inputRow (b : Fin 2) (s : Fin 4096) (d : Fin 1024) : EReal := arg_x m c (ix3 b s d) + half * arg_gate m c (ix2 b d) * arg_below m c (ix3 b s d)
/-- One product of a modulated row's gradient. -/
def term (b : Fin 2) (s : Fin 4096) (d : Fin 1024) (f : ℕ) : EReal := if h : f < 3248 then arg_grad m c (ix3 b s ⟨f, h⟩) * arg_in m c (ix2 d ⟨f, h⟩) else 0
/-- The gradient of a modulated row. -/
def backRow (b : Fin 2) (s : Fin 4096) (d : Fin 1024) : EReal := ∑ f : Fin 3248, arg_grad m c (ix3 b s f) * arg_in m c (ix2 d f)
/-- A batch member's scale. -/
def scaleRow (b : Fin 2) (d : Fin 1024) : EReal := arg_scale m c (ix2 b d)
/-- The normalisation's weight. -/
def weightRow (d : Fin 1024) : EReal := arg_weight m c (ix1 d)
/-- The gradient of the mixer's input. -/
def inputGradient (b : Fin 2) (s : Fin 4096) (d : Fin 1024) : EReal :=
  arg_cotangent m c (ix3 b s d) + pull (inputRow m c b s) (backRow m c b s) (scaleRow m c b) (weightRow m c) d

theorem backRow_eq (b : Fin 2) (s : Fin 4096) (d : Fin 1024) : ∑ f : Fin 3248, term m c b s d f.val = backRow m c b s d :=
  Finset.sum_congr rfl fun f _ => dif_pos f.isLt

theorem V_x (b : Fin 2) (s : Fin 4096) (d : Fin 1024) : (V m c main_v5 : FVec Ideal S2x4096x1024 .f32) (ix3 b s d) = inputRow m c b s d := by
  unfold inputRow arg_x arg_gate arg_below half
  after_reads_simp
  generalize m ((c : Tc).loc main_arg0) = X
  generalize m ((c : Tc).loc main_arg1) = O
  generalize m ((c : Tc).loc main_arg2) = G
  pointwise []

theorem V_below (b : Fin 2) (s : Fin 4096) (d : Fin 1024) : (V m c main_v15 : FVec Ideal S2x4096x1024 .bf16) (ix3 b s d) = arg_below m c (ix3 b s d) := by
  unfold arg_below
  after_reads_simp
  generalize m ((c : Tc).loc main_arg1) = X
  pointwise []

theorem V_gate (b : Fin 2) (d : Fin 1024) : (V m c main_v16 : FVec Ideal S2x1x1024 .f32) (ix3 b 0 d) = arg_gate m c (ix2 b d) := by
  unfold arg_gate
  after_reads_simp
  generalize m ((c : Tc).loc main_arg2) = X
  pointwise []

theorem V_weight (d : Fin 1024) : (V m c main_v25 : FVec Ideal S1x1024 .f32) (ix2 0 d) = weightRow m c d := by
  unfold weightRow arg_weight
  after_reads_simp
  generalize m ((c : Tc).loc main_arg3) = X
  pointwise []

theorem V_scale (b : Fin 2) (d : Fin 1024) : (V m c main_v26 : FVec Ideal S2x1x1024 .f32) (ix3 b 0 d) = scaleRow m c b d := by
  unfold scaleRow arg_scale
  after_reads_simp
  generalize m ((c : Tc).loc main_arg5) = X
  pointwise []

theorem V_z (b : Fin 2) (s : Fin 4096) (f : Fin 1024) (h : 0 + f.val < 3248) :
    (V m c main_v7 : FVec Ideal S2x4096x1024 .bf16) (ix3 b s f) = arg_grad m c (ix3 b s ⟨0 + f.val, h⟩) := by
  unfold arg_grad
  after_reads_simp
  generalize m ((c : Tc).loc main_arg8) = X
  pointwise []

theorem V_u (b : Fin 2) (s : Fin 4096) (f : Fin 1536) (h : 1024 + f.val < 3248) :
    (V m c main_v8 : FVec Ideal S2x4096x1536 .bf16) (ix3 b s f) = arg_grad m c (ix3 b s ⟨1024 + f.val, h⟩) := by
  unfold arg_grad
  after_reads_simp
  generalize m ((c : Tc).loc main_arg8) = X
  pointwise []

theorem V_q (b : Fin 2) (s : Fin 4096) (f : Fin 384) (h : 2576 + f.val < 3248) :
    (V m c main_v10 : FVec Ideal S2x4096x384 .bf16) (ix3 b s f) = arg_grad m c (ix3 b s ⟨2576 + f.val, h⟩) := by
  unfold arg_grad
  after_reads_simp
  generalize m ((c : Tc).loc main_arg8) = X
  pointwise []

theorem V_k (b : Fin 2) (s : Fin 4096) (f : Fin 256) (h : 2960 + f.val < 3248) :
    (V m c main_v11 : FVec Ideal S2x4096x256 .bf16) (ix3 b s f) = arg_grad m c (ix3 b s ⟨2960 + f.val, h⟩) := by
  unfold arg_grad
  after_reads_simp
  generalize m ((c : Tc).loc main_arg8) = X
  pointwise []

/-- The narrow gradients and the places that they are filled up with. -/
def narrow (b : Fin 2) (s : Fin 4096) (f : Fin 128) : EReal :=
  if f.val < 16 then arg_grad m c (ix3 b s ⟨2560 + f.val, by omega⟩) else if f.val < 48 then arg_grad m c (ix3 b s ⟨3200 + f.val % 48, by omega⟩) else 0

theorem V_narrow (b : Fin 2) (s : Fin 4096) (f : Fin 128) : (V m c main_v14 : FVec Ideal S2x4096x128 .bf16) (ix3 b s f) = narrow m c b s f := by
  unfold narrow arg_grad
  after_reads_simp
  pointwise []
  by_cases h0 : f.val < 16
  · rw [dif_pos h0, if_pos h0]
    after_reads_simp
    generalize m (c, Proc.tc.devRef main_arg8) = X
    pointwise []
  by_cases h1 : f.val < 48
  · rw [dif_neg h0, if_neg h0, dif_pos (by omega), if_pos h1]
    after_reads_simp
    generalize m (c, Proc.tc.devRef main_arg8) = X
    pointwise []
    exact congrArg (fun k => X (ix3 b s k)) (Fin.ext (by dsimp only; omega))
  · rw [dif_neg h0, if_neg h0, dif_neg (by omega), if_neg h1]
    after_reads_simp
    pointwise []

/-- The rows of the weight in the order that the call takes them. -/
def wide (f : Fin 3328) (d : Fin 1024) : EReal :=
  if f.val < 2560 then arg_in m c (ix2 d ⟨f.val % 2560, by omega⟩) else if f.val < 3200 then arg_in m c (ix2 d ⟨f.val % 3200 + 16, by omega⟩)
  else if f.val < 3216 then arg_in m c (ix2 d ⟨f.val % 3216 - 640, by omega⟩) else if f.val < 3248 then arg_in m c (ix2 d ⟨f.val % 3248, by omega⟩) else 0

set_option maxHeartbeats 1000000 in
theorem V_wide (f : Fin 3328) (d : Fin 1024) : (V m c main_v24 : FVec Ideal S3328x1024 .bf16) (ix2 f d) = wide m c f d := by
  unfold wide arg_in
  after_reads_simp
  pointwise []
  by_cases h0 : f.val < 2560
  · rw [dif_pos (by omega), if_pos h0]
    after_reads_simp
    generalize m (c, Proc.tc.devRef main_arg6) = X
    pointwise []
    exact congrArg (fun k => X (ix2 d k)) (Fin.ext (by dsimp only; omega))
  by_cases h1 : f.val < 3200
  · rw [dif_neg (by omega), if_neg h0, dif_pos (by omega), if_pos h1]
    after_reads_simp
    generalize m (c, Proc.tc.devRef main_arg6) = X
    pointwise []
    exact congrArg (fun k => X (ix2 d k)) (Fin.ext (by dsimp only; omega))
  by_cases h2 : f.val < 3216
  · rw [dif_neg (by omega), if_neg h0, dif_neg (by omega), if_neg h1, dif_pos (by omega), if_pos h2]
    after_reads_simp
    generalize m (c, Proc.tc.devRef main_arg6) = X
    pointwise []
    exact congrArg (fun k => X (ix2 d k)) (Fin.ext (by dsimp only; omega))
  by_cases h3 : f.val < 3248
  · rw [dif_neg (by omega), if_neg h0, dif_neg (by omega), if_neg h1, dif_neg (by omega), if_neg h2, dif_pos (by omega), if_pos h3]
    after_reads_simp
    generalize m (c, Proc.tc.devRef main_arg6) = X
    pointwise []
    exact congrArg (fun k => X (ix2 d k)) (Fin.ext (by dsimp only; omega))
  · rw [dif_neg (by omega), if_neg h0, dif_neg (by omega), if_neg h1, dif_neg (by omega), if_neg h2, dif_neg (by omega), if_neg h3]
    after_reads_simp
    pointwise []

/-! ## The blocks -/

theorem read0 (X : Buf (Elt Ideal) ((c : Tc).loc main_v7)) (t : Fin cfg0.N) (r : Fin 512) (k : Fin 1024) (b : Fin 2) (s : Fin 4096) (hb : b.val = t.val / 8) (hs : s.val = t.val % 8 * 512 + r.val) :
    ((cfg0.win 0).blk t).view.read (Elt Ideal) X (ix3 0 r k) = (X : FVec Ideal S2x4096x1024 .bf16) (ix3 b s k) := by
  blk_simp
  refine congrArg X ?_
  blk_ext [at0]

theorem read1 (X : Buf (Elt Ideal) ((c : Tc).loc main_v8)) (t : Fin cfg0.N) (r : Fin 512) (k : Fin 1536) (b : Fin 2) (s : Fin 4096) (hb : b.val = t.val / 8) (hs : s.val = t.val % 8 * 512 + r.val) :
    ((cfg0.win 1).blk t).view.read (Elt Ideal) X (ix3 0 r k) = (X : FVec Ideal S2x4096x1536 .bf16) (ix3 b s k) := by
  blk_simp
  refine congrArg X ?_
  blk_ext [at1]

theorem read2 (X : Buf (Elt Ideal) ((c : Tc).loc main_v10)) (t : Fin cfg0.N) (r : Fin 512) (k : Fin 384) (b : Fin 2) (s : Fin 4096) (hb : b.val = t.val / 8) (hs : s.val = t.val % 8 * 512 + r.val) :
    ((cfg0.win 2).blk t).view.read (Elt Ideal) X (ix3 0 r k) = (X : FVec Ideal S2x4096x384 .bf16) (ix3 b s k) := by
  blk_simp
  refine congrArg X ?_
  blk_ext [at2]

theorem read3 (X : Buf (Elt Ideal) ((c : Tc).loc main_v11)) (t : Fin cfg0.N) (r : Fin 512) (k : Fin 256) (b : Fin 2) (s : Fin 4096) (hb : b.val = t.val / 8) (hs : s.val = t.val % 8 * 512 + r.val) :
    ((cfg0.win 3).blk t).view.read (Elt Ideal) X (ix3 0 r k) = (X : FVec Ideal S2x4096x256 .bf16) (ix3 b s k) := by
  blk_simp
  refine congrArg X ?_
  blk_ext [at3]

theorem read4 (X : Buf (Elt Ideal) ((c : Tc).loc main_v14)) (t : Fin cfg0.N) (r : Fin 512) (k : Fin 128) (b : Fin 2) (s : Fin 4096) (hb : b.val = t.val / 8) (hs : s.val = t.val % 8 * 512 + r.val) :
    ((cfg0.win 4).blk t).view.read (Elt Ideal) X (ix3 0 r k) = (X : FVec Ideal S2x4096x128 .bf16) (ix3 b s k) := by
  blk_simp
  refine congrArg X ?_
  blk_ext [at4]

theorem read5 (X : Buf (Elt Ideal) ((c : Tc).loc main_v24)) (t : Fin cfg0.N) (f : Fin 3328) (k : Fin 1024) :
    ((cfg0.win 5).blk t).view.read (Elt Ideal) X (ix2 f k) = (X : FVec Ideal S3328x1024 .bf16) (ix2 f k) := by
  blk_simp
  refine congrArg X ?_
  blk_ext [at5]

theorem read6 (X : Buf (Elt Ideal) ((c : Tc).loc main_v5)) (t : Fin cfg0.N) (r : Fin 512) (k : Fin 1024) (b : Fin 2) (s : Fin 4096) (hb : b.val = t.val / 8) (hs : s.val = t.val % 8 * 512 + r.val) :
    ((cfg0.win 6).blk t).view.read (Elt Ideal) X (ix3 0 r k) = (X : FVec Ideal S2x4096x1024 .f32) (ix3 b s k) := by
  blk_simp
  refine congrArg X ?_
  blk_ext [at6]

theorem read7 (X : Buf (Elt Ideal) ((c : Tc).loc main_arg7)) (t : Fin cfg0.N) (r : Fin 512) (k : Fin 1024) (b : Fin 2) (s : Fin 4096) (hb : b.val = t.val / 8) (hs : s.val = t.val % 8 * 512 + r.val) :
    ((cfg0.win 7).blk t).view.read (Elt Ideal) X (ix3 0 r k) = (X : FVec Ideal S2x4096x1024 .f32) (ix3 b s k) := by
  blk_simp
  refine congrArg X ?_
  blk_ext [at7]

theorem read8 (X : Buf (Elt Ideal) ((c : Tc).loc main_v25)) (t : Fin cfg0.N) (k : Fin 1024) :
    ((cfg0.win 8).blk t).view.read (Elt Ideal) X (ix2 0 k) = (X : FVec Ideal S1x1024 .f32) (ix2 0 k) := by
  blk_simp
  refine congrArg X ?_
  blk_ext [at8]

theorem read9 (X : Buf (Elt Ideal) ((c : Tc).loc main_v26)) (t : Fin cfg0.N) (k : Fin 1024) (b : Fin 2) (hb : b.val = t.val / 8) :
    ((cfg0.win 9).blk t).view.read (Elt Ideal) X (ix3 0 0 k) = (X : FVec Ideal S2x1x1024 .f32) (ix3 b 0 k) := by
  blk_simp
  refine congrArg X ?_
  blk_ext [at9]

theorem read10 (X : Buf (Elt Ideal) ((c : Tc).loc main_v15)) (t : Fin cfg0.N) (r : Fin 512) (k : Fin 1024) (b : Fin 2) (s : Fin 4096) (hb : b.val = t.val / 8) (hs : s.val = t.val % 8 * 512 + r.val) :
    ((cfg0.win 10).blk t).view.read (Elt Ideal) X (ix3 0 r k) = (X : FVec Ideal S2x4096x1024 .bf16) (ix3 b s k) := by
  blk_simp
  refine congrArg X ?_
  blk_ext [at10]

theorem read11 (X : Buf (Elt Ideal) ((c : Tc).loc main_v16)) (t : Fin cfg0.N) (k : Fin 1024) (b : Fin 2) (hb : b.val = t.val / 8) :
    ((cfg0.win 11).blk t).view.read (Elt Ideal) X (ix3 0 0 k) = (X : FVec Ideal S2x1x1024 .f32) (ix3 b 0 k) := by
  blk_simp
  refine congrArg X ?_
  blk_ext [at11]

theorem rows_at (t : Fin cfg0.N) (d : Fin 1024) (o n : ℕ) (inb) (f : Fin n) (h : o + f.val < 3328) :
    View.ld (iblk m c 5 t : FVec Ideal S3328x1024 .bf16) (Rect.unit ![o, 0] ![n, 1024] inb) (ix2 f d) = wide m c ⟨o + f.val, h⟩ d :=
  (View.ld_unit_apply_of _ _ _ inb (ix2 f d) (ix2 ⟨o + f.val, h⟩ d) (fun a => by fin_cases a <;> simp)).trans
    ((read5 c (V m c main_v24) t ⟨o + f.val, h⟩ d).trans (V_wide m c _ d))

section blocks

variable (t : Fin cfg0.N) (r : Fin 512) (b : Fin 2) (s : Fin 4096) (hb : b.val = t.val / 8) (hs : s.val = t.val % 8 * 512 + r.val)
include hb

theorem block9 : member (iblk m c 9 t) = scaleRow m c b := by
  funext d
  exact (read9 c (V m c main_v26) t d b hb).trans (V_scale m c b d)

theorem block11 : member (iblk m c 11 t) = fun d => arg_gate m c (ix2 b d) := by
  funext d
  exact (read11 c (V m c main_v16) t d b hb).trans (V_gate m c b d)

include hs

theorem block6 : row (iblk m c 6 t) r = inputRow m c b s := by
  funext d
  exact (read6 c (V m c main_v5) t r d b s hb hs).trans (V_x m c b s d)

theorem block7 : row (iblk m c 7 t) r = fun d => arg_cotangent m c (ix3 b s d) := by
  funext d
  refine (read7 c (V m c main_arg7) t r d b s hb hs).trans ?_
  rw [V_main_arg7]

theorem block10 (d : Fin 1024) : (iblk m c 10 t : FVec Ideal S1x512x1024 .bf16) (ix3 0 r d) = arg_below m c (ix3 b s d) :=
  (read10 c (V m c main_v15) t r d b s hb hs).trans (V_below m c b s d)

theorem block_back : backOf m c t r = backRow m c b s := by
  funext d
  refine (hidden_at _ _ _ _ _ _ _ _ _ _ r d).trans ?_
  have g0 : ∀ f : Fin 1024, @HMul.hMul EReal EReal EReal instHMul ((iblk m c 0 t : FVec Ideal S1x512x1024 .bf16) (ix3 0 r f)) ((View.ld (iblk m c 5 t : FVec Ideal S3328x1024 .bf16) (Rect.unit ![0, 0] ![1024, 1024] inb_S3328x1024_S1024x1024_0_0)) (ix2 f d)) = term m c b s d (0 + f.val) := fun f => by
    have hf := f.isLt
    rw [term, dif_pos (show 0 + f.val < 3248 by omega)]
    refine congr (congrArg _ ((read0 c (V m c main_v7) t r f b s hb hs).trans (V_z m c b s f (by omega)))) ?_
    refine (rows_at m c t d 0 1024 _ f (by omega)).trans ?_
    unfold wide
    rw [if_pos (by dsimp only; omega)]
    exact congrArg (fun k => arg_in m c (ix2 d k)) (Fin.ext (by dsimp only; omega))
  have g1 : ∀ f : Fin 1536, @HMul.hMul EReal EReal EReal instHMul ((iblk m c 1 t : FVec Ideal S1x512x1536 .bf16) (ix3 0 r f)) ((View.ld (iblk m c 5 t : FVec Ideal S3328x1024 .bf16) (Rect.unit ![1024, 0] ![1536, 1024] inb_S3328x1024_S1536x1024_1024_0)) (ix2 f d)) = term m c b s d (1024 + f.val) := fun f => by
    have hf := f.isLt
    rw [term, dif_pos (show 1024 + f.val < 3248 by omega)]
    refine congr (congrArg _ ((read1 c (V m c main_v8) t r f b s hb hs).trans (V_u m c b s f (by omega)))) ?_
    refine (rows_at m c t d 1024 1536 _ f (by omega)).trans ?_
    unfold wide
    rw [if_pos (by dsimp only; omega)]
    exact congrArg (fun k => arg_in m c (ix2 d k)) (Fin.ext (by dsimp only; omega))
  have g2 : ∀ f : Fin 384, @HMul.hMul EReal EReal EReal instHMul ((iblk m c 2 t : FVec Ideal S1x512x384 .bf16) (ix3 0 r f)) ((View.ld (iblk m c 5 t : FVec Ideal S3328x1024 .bf16) (Rect.unit ![2560, 0] ![384, 1024] inb_S3328x1024_S384x1024_2560_0)) (ix2 f d)) = term m c b s d (2576 + f.val) := fun f => by
    have hf := f.isLt
    rw [term, dif_pos (show 2576 + f.val < 3248 by omega)]
    refine congr (congrArg _ ((read2 c (V m c main_v10) t r f b s hb hs).trans (V_q m c b s f (by omega)))) ?_
    refine (rows_at m c t d 2560 384 _ f (by omega)).trans ?_
    unfold wide
    rw [if_neg (by dsimp only; omega), if_pos (by dsimp only; omega)]
    exact congrArg (fun k => arg_in m c (ix2 d k)) (Fin.ext (by dsimp only; omega))
  have g3 : ∀ f : Fin 256, @HMul.hMul EReal EReal EReal instHMul ((iblk m c 3 t : FVec Ideal S1x512x256 .bf16) (ix3 0 r f)) ((View.ld (iblk m c 5 t : FVec Ideal S3328x1024 .bf16) (Rect.unit ![2944, 0] ![256, 1024] inb_S3328x1024_S256x1024_2944_0)) (ix2 f d)) = term m c b s d (2960 + f.val) := fun f => by
    have hf := f.isLt
    rw [term, dif_pos (show 2960 + f.val < 3248 by omega)]
    refine congr (congrArg _ ((read3 c (V m c main_v11) t r f b s hb hs).trans (V_k m c b s f (by omega)))) ?_
    refine (rows_at m c t d 2944 256 _ f (by omega)).trans ?_
    unfold wide
    rw [if_neg (by dsimp only; omega), if_pos (by dsimp only; omega)]
    exact congrArg (fun k => arg_in m c (ix2 d k)) (Fin.ext (by dsimp only; omega))
  have g4 : ∀ f : Fin 128, @HMul.hMul EReal EReal EReal instHMul ((iblk m c 4 t : FVec Ideal S1x512x128 .bf16) (ix3 0 r f)) ((View.ld (iblk m c 5 t : FVec Ideal S3328x1024 .bf16) (Rect.unit ![3200, 0] ![128, 1024] inb_S3328x1024_S128x1024_3200_0)) (ix2 f d))
      = narrow m c b s f * wide m c ⟨3200 + f.val, by omega⟩ d := fun f =>
    congr (congrArg _ ((read4 c (V m c main_v14) t r f b s hb hs).trans (V_narrow m c b s f))) (rows_at m c t d 3200 128 _ f (by omega))
  refine Eq.trans ?_ ((regroup (term m c b s d) (fun f => narrow m c b s f * wide m c ⟨3200 + f.val, by omega⟩ d) ?_ ?_ ?_).trans (backRow_eq m c b s d))
  · exact congr (congrArg _ (congr (congrArg _ (congr (congrArg _ (congr (congrArg _ (Finset.sum_congr rfl fun f _ => (g0 f).trans (by rw [zero_add]))) (Finset.sum_congr rfl fun f _ => g1 f)))
      (Finset.sum_congr rfl fun f _ => g2 f))) (Finset.sum_congr rfl fun f _ => g3 f))) (Finset.sum_congr rfl fun f _ => g4 f)
  · intro f hf
    rw [term, dif_pos (show 2560 + f.val < 3248 by omega)]
    unfold narrow wide
    rw [if_pos hf, if_neg (by dsimp only; omega), if_neg (by dsimp only; omega), if_pos (by dsimp only; omega)]
    exact congrArg (fun k : Fin 3248 => arg_grad m c (ix3 b s ⟨2560 + f.val, by omega⟩) * arg_in m c (ix2 d k)) (Fin.ext (by dsimp only; omega))
  · intro f h0 h1
    rw [term, dif_pos (show 3200 + f.val < 3248 by omega)]
    unfold narrow wide
    rw [if_neg h0, if_pos h1, if_neg (by dsimp only; omega), if_neg (by dsimp only; omega), if_neg (by dsimp only; omega), if_pos (by dsimp only; omega)]
    exact congr (congrArg _ (congrArg (fun k : Fin 3248 => arg_grad m c (ix3 b s k)) (Fin.ext (by dsimp only; omega)))) (congrArg (fun k : Fin 3248 => arg_in m c (ix2 d k)) (Fin.ext (by dsimp only; omega)))
  · intro f h
    unfold narrow
    rw [if_neg (by omega), if_neg (by omega), zero_mul]

end blocks

theorem block8 (t : Fin cfg0.N) : vector (iblk m c 8 t) = weightRow m c := by
  funext d
  exact (read8 c (V m c main_v25) t d).trans (V_weight m c d)
-- ==== Proof.MixArrays.lean ====
/-
  The gradient through the mixer's normalisation: the results of the kernel, in terms of its arguments.
-/
module

public import proofs.«01_k».proof.Proof.Spots
public import proofs.«01_k».proof.Proof.MixBlocks

@[expose] public noncomputable section

set_option maxRecDepth 16384

namespace Cert.Proof.Mix

open Cert.Proof.Norm (small square root scaled pull minusHalf share agree)

open Cert.Kernel6Ideal Cert.Kernel6Ideal.Gen
open Idealize ShloMosaic ShloMosaic.TcCoe SL.Sem ShloMosaic.Pointwise
local notation "Tc" => Thread nD τ

variable (m : (ℓ : Loc nD τ sig) → Buf (Elt Ideal) ℓ) (ρ : Dev nD → PrngReg) (c : Dev nD)

/-! ## The gradients -/

/-- The gradient of the layer's input. -/
def dx : FVec Ideal S2x4096x1024 .f32 := fun i => inputGradient m c ⟨(i 0).val, (i 0).isLt⟩ ⟨(i 1).val, (i 1).isLt⟩ ⟨(i 2).val, (i 2).isLt⟩
/-- A lane of the scale's gradient. -/
def scaleSum (b : Fin 2) (d : Fin 1024) : EReal :=
  ∑ s : Fin 4096, backRow m c b s d * (inputRow m c b s d * root (inputRow m c b s) * weightRow m c d)
/-- A lane of the shift's gradient. -/
def shiftSum (b : Fin 2) (d : Fin 1024) : EReal := ∑ s : Fin 4096, backRow m c b s d
/-- A lane of the gradient of the normalisation's weight. -/
def weightSum (d : Fin 1024) : EReal :=
  ∑ b : Fin 2, ∑ s : Fin 4096, backRow m c b s d * (1 + scaleRow m c b d) * (inputRow m c b s d * root (inputRow m c b s))
/-- A lane of the gate's gradient. -/
def gateSum (b : Fin 2) (d : Fin 1024) : EReal := ∑ s : Fin 4096, half * inputGradient m c b s d * arg_below m c (ix3 b s d)
/-- The gradient of the scale. -/
def dscale : FVec Ideal S2x1x1024 .f32 := fun i => scaleSum m c ⟨(i 0).val, (i 0).isLt⟩ ⟨(i 2).val, (i 2).isLt⟩
/-- The gradient of the shift. -/
def dshift : FVec Ideal S2x1x1024 .f32 := fun i => shiftSum m c ⟨(i 0).val, (i 0).isLt⟩ ⟨(i 2).val, (i 2).isLt⟩
/-- The gradient of the normalisation's weight. -/
def dweight : FVec Ideal S1x1024 .f32 := fun i => weightSum m c ⟨(i 1).val, (i 1).isLt⟩
/-- The gradient of the output of the layer below. -/
def dbelow : FVec Ideal S2x4096x1024 .bf16 := fun i =>
  half * arg_gate m c (ix2 ⟨(i 0).val, (i 0).isLt⟩ ⟨(i 2).val, (i 2).isLt⟩) * inputGradient m c ⟨(i 0).val, (i 0).isLt⟩ ⟨(i 1).val, (i 1).isLt⟩ ⟨(i 2).val, (i 2).isLt⟩
/-- The gradient of the gate of the layer below. -/
def dgate : FVec Ideal S2x1x1024 .f32 := fun i => gateSum m c ⟨(i 0).val, (i 0).isLt⟩ ⟨(i 2).val, (i 2).isLt⟩

/-! ## The places -/

theorem place12 (t : Fin cfg0.N) (r : Fin 512) (d : Fin 1024) (b : Fin 2) (s : Fin 4096) (hb : b.val = t.val / 8) (hs : s.val = t.val % 8 * 512 + r.val) :
    ((cfg0.win 12).blk t).view.emb (ix3 0 r d) = ix3 b s d := by
  blk_ext [at12]
theorem place13 (t : Fin cfg0.N) (d : Fin 1024) (b : Fin 2) (hb : b.val = t.val / 8) :
    ((cfg0.win 13).blk t).view.emb (ix3 0 0 d) = ix3 b 0 d := by
  blk_ext [at13]
theorem place14 (t : Fin cfg0.N) (d : Fin 1024) (b : Fin 2) (hb : b.val = t.val / 8) :
    ((cfg0.win 14).blk t).view.emb (ix3 0 0 d) = ix3 b 0 d := by
  blk_ext [at14]
theorem place15 (t : Fin cfg0.N) (d : Fin 1024) :
    ((cfg0.win 15).blk t).view.emb (ix2 0 d) = ix2 0 d := by
  blk_ext [at15]
theorem place16 (t : Fin cfg0.N) (r : Fin 512) (d : Fin 1024) (b : Fin 2) (s : Fin 4096) (hb : b.val = t.val / 8) (hs : s.val = t.val % 8 * 512 + r.val) :
    ((cfg0.win 16).blk t).view.emb (ix3 0 r d) = ix3 b s d := by
  blk_ext [at16]
theorem place17 (t : Fin cfg0.N) (d : Fin 1024) (b : Fin 2) (hb : b.val = t.val / 8) :
    ((cfg0.win 17).blk t).view.emb (ix3 0 0 d) = ix3 b 0 d := by
  blk_ext [at17]

/-! ## The arrays -/

theorem array12 : (dats m 0 c).arrAt 12 cfg0.N = dx m c := by
  refine (dats m 0 c).arrAt_eq_of_covers 12 _ (by decide +kernel) fun t hf y => ?_
  obtain ⟨r, d, rfl⟩ := Spots.front 512 1024 y
  have ht := inside t
  have hr := r.isLt
  have e : (dats m 0 c).after 12 t ((cfg0.win 12).xinj (cfg0.grid.coords t) (ix3 0 r d)) = dx m c (ix3 ⟨t.val / 8, by omega⟩ ⟨t.val % 8 * 512 + r.val, by omega⟩ d) := by
    rw [after0_12]
    refine (dx_point m c t r d).trans ?_
    rw [block7 m c t r ⟨t.val / 8, by omega⟩ ⟨t.val % 8 * 512 + r.val, by omega⟩ rfl rfl, block6 m c t r ⟨t.val / 8, by omega⟩ ⟨t.val % 8 * 512 + r.val, by omega⟩ rfl rfl, block_back m c t r ⟨t.val / 8, by omega⟩ ⟨t.val % 8 * 512 + r.val, by omega⟩ rfl rfl, block9 m c t ⟨t.val / 8, by omega⟩ rfl, block8 m c t]
    rfl
  rw [e, place12 t r d ⟨t.val / 8, by omega⟩ ⟨t.val % 8 * 512 + r.val, by omega⟩ rfl rfl]
  exact cast_eq _ _

theorem array16 : (dats m 0 c).arrAt 16 cfg0.N = dbelow m c := by
  refine (dats m 0 c).arrAt_eq_of_covers 16 _ (by decide +kernel) fun t hf y => ?_
  obtain ⟨r, d, rfl⟩ := Spots.front 512 1024 y
  have ht := inside t
  have hr := r.isLt
  have e : (dats m 0 c).after 16 t ((cfg0.win 16).xinj (cfg0.grid.coords t) (ix3 0 r d)) = dbelow m c (ix3 ⟨t.val / 8, by omega⟩ ⟨t.val % 8 * 512 + r.val, by omega⟩ d) := by
    rw [after0_16]
    refine (do_point m c t r d).trans ?_
    rw [block11 m c t ⟨t.val / 8, by omega⟩ rfl, block7 m c t r ⟨t.val / 8, by omega⟩ ⟨t.val % 8 * 512 + r.val, by omega⟩ rfl rfl, block6 m c t r ⟨t.val / 8, by omega⟩ ⟨t.val % 8 * 512 + r.val, by omega⟩ rfl rfl, block_back m c t r ⟨t.val / 8, by omega⟩ ⟨t.val % 8 * 512 + r.val, by omega⟩ rfl rfl, block9 m c t ⟨t.val / 8, by omega⟩ rfl, block8 m c t]
    rfl
  rw [e, place16 t r d ⟨t.val / 8, by omega⟩ ⟨t.val % 8 * 512 + r.val, by omega⟩ rfl rfl]
  exact cast_eq _ _

theorem scale_run (t : Fin cfg0.N) (h : t.val % 8 = 7) (d : Fin 1024) (b : Fin 2) (hb : b.val = t.val / 8) :
    (outsAt0 m c t.val t.isLt).2.1 (ix3 0 0 d) = scaleSum m c b d := by
  have ht := inside t
  rw [scale_total m c t d h]
  unfold addScale partScale scaleSum
  refine Fin.sum_mul_add_congr fun s r hl => ?_
  have hs := s.isLt
  have e0 := congrFun (block_back m c ⟨8 * (t.val / 8) + s.val, Pipeline.run_point_lt_of_flush t h s⟩ r b ⟨s.val * 512 + r.val, hl⟩ (by dsimp only; omega) (by dsimp only; omega)) d
  rw [block6 m c ⟨8 * (t.val / 8) + s.val, Pipeline.run_point_lt_of_flush t h s⟩ r b ⟨s.val * 512 + r.val, hl⟩ (by dsimp only; omega) (by dsimp only; omega), block8 m c ⟨8 * (t.val / 8) + s.val, Pipeline.run_point_lt_of_flush t h s⟩]
  exact congrArg (· * _) e0

theorem shift_run (t : Fin cfg0.N) (h : t.val % 8 = 7) (d : Fin 1024) (b : Fin 2) (hb : b.val = t.val / 8) :
    (outsAt0 m c t.val t.isLt).2.2.1 (ix3 0 0 d) = shiftSum m c b d := by
  have ht := inside t
  rw [shift_total m c t d h]
  unfold addShift partShift shiftSum
  refine Fin.sum_mul_add_congr fun s r hl => ?_
  have hs := s.isLt
  exact congrFun (block_back m c ⟨8 * (t.val / 8) + s.val, Pipeline.run_point_lt_of_flush t h s⟩ r b ⟨s.val * 512 + r.val, hl⟩ (by dsimp only; omega) (by dsimp only; omega)) d

theorem gate_run (t : Fin cfg0.N) (h : t.val % 8 = 7) (d : Fin 1024) (b : Fin 2) (hb : b.val = t.val / 8) :
    (outsAt0 m c t.val t.isLt).2.2.2.2.2 (ix3 0 0 d) = gateSum m c b d := by
  have ht := inside t
  rw [gate_total m c t d h]
  unfold addGate partGate gateSum
  refine Fin.sum_mul_add_congr fun s r hl => ?_
  have hs := s.isLt
  have e5 := congrFun (block7 m c ⟨8 * (t.val / 8) + s.val, Pipeline.run_point_lt_of_flush t h s⟩ r b ⟨s.val * 512 + r.val, hl⟩ (by dsimp only; omega) (by dsimp only; omega)) d
  have e8 := block10 m c ⟨8 * (t.val / 8) + s.val, Pipeline.run_point_lt_of_flush t h s⟩ r b ⟨s.val * 512 + r.val, hl⟩ (by dsimp only; omega) (by dsimp only; omega) d
  unfold inputGradient
  rw [block6 m c ⟨8 * (t.val / 8) + s.val, Pipeline.run_point_lt_of_flush t h s⟩ r b ⟨s.val * 512 + r.val, hl⟩ (by dsimp only; omega) (by dsimp only; omega), block8 m c ⟨8 * (t.val / 8) + s.val, Pipeline.run_point_lt_of_flush t h s⟩, block9 m c ⟨8 * (t.val / 8) + s.val, Pipeline.run_point_lt_of_flush t h s⟩ b (by dsimp only; omega)]
  exact congr (congrArg _ (congrArg (half * ·) (congr (congrArg _ e5) (congrArg (fun p => pull (inputRow m c b ⟨s.val * 512 + r.val, hl⟩) p (scaleRow m c b) (weightRow m c) d) (block_back m c ⟨8 * (t.val / 8) + s.val, Pipeline.run_point_lt_of_flush t h s⟩ r b ⟨s.val * 512 + r.val, hl⟩ (by dsimp only; omega) (by dsimp only; omega)))))) e8

theorem weight_run (t : Fin cfg0.N) (h : t.val % 16 = 15) (d : Fin 1024) : (outsAt0 m c t.val t.isLt).2.2.2.1 (ix2 0 d) = weightSum m c d := by
  have ht := inside t
  rw [weight_total m c t d h]
  unfold addWeight partWeight weightSum
  refine Fin.sum_points_lanes_congr 8 fun s r hb hl => ?_
  have hs := s.isLt
  have e0 := congrFun (block_back m c ⟨16 * (t.val / 16) + s.val, Pipeline.run_point_lt_of_flush t h s⟩ r ⟨s.val / 8, hb⟩ ⟨s.val % 8 * 512 + r.val, hl⟩ (by dsimp only; omega) (by dsimp only; omega)) d
  rw [block6 m c ⟨16 * (t.val / 16) + s.val, Pipeline.run_point_lt_of_flush t h s⟩ r ⟨s.val / 8, hb⟩ ⟨s.val % 8 * 512 + r.val, hl⟩ (by dsimp only; omega) (by dsimp only; omega), block9 m c ⟨16 * (t.val / 16) + s.val, Pipeline.run_point_lt_of_flush t h s⟩ ⟨s.val / 8, hb⟩ (by dsimp only; omega)]
  exact congrArg (· * _ * _) e0

theorem array13 : (dats m 0 c).arrAt 13 cfg0.N = dscale m c := by
  refine (dats m 0 c).arrAt_eq_of_covers 13 _ (by decide +kernel) fun t hf y => ?_
  obtain ⟨d, rfl⟩ := Spots.inner 1024 y
  have ht := inside t
  have e : (dats m 0 c).after 13 t ((cfg0.win 13).xinj (cfg0.grid.coords t) (ix3 0 0 d)) = dscale m c (ix3 ⟨t.val / 8, by omega⟩ 0 d) := by
    rw [after0_13]
    exact scale_run m c t ((flush0_13 t).mp hf) d ⟨t.val / 8, by omega⟩ rfl
  rw [e, place13 t d ⟨t.val / 8, by omega⟩ rfl]
  exact cast_eq _ _

theorem array14 : (dats m 0 c).arrAt 14 cfg0.N = dshift m c := by
  refine (dats m 0 c).arrAt_eq_of_covers 14 _ (by decide +kernel) fun t hf y => ?_
  obtain ⟨d, rfl⟩ := Spots.inner 1024 y
  have ht := inside t
  have e : (dats m 0 c).after 14 t ((cfg0.win 14).xinj (cfg0.grid.coords t) (ix3 0 0 d)) = dshift m c (ix3 ⟨t.val / 8, by omega⟩ 0 d) := by
    rw [after0_14]
    exact shift_run m c t ((flush0_14 t).mp hf) d ⟨t.val / 8, by omega⟩ rfl
  rw [e, place14 t d ⟨t.val / 8, by omega⟩ rfl]
  exact cast_eq _ _

theorem array17 : (dats m 0 c).arrAt 17 cfg0.N = dgate m c := by
  refine (dats m 0 c).arrAt_eq_of_covers 17 _ (by decide +kernel) fun t hf y => ?_
  obtain ⟨d, rfl⟩ := Spots.inner 1024 y
  have ht := inside t
  have e : (dats m 0 c).after 17 t ((cfg0.win 17).xinj (cfg0.grid.coords t) (ix3 0 0 d)) = dgate m c (ix3 ⟨t.val / 8, by omega⟩ 0 d) := by
    rw [after0_17]
    exact gate_run m c t ((flush0_17 t).mp hf) d ⟨t.val / 8, by omega⟩ rfl
  rw [e, place17 t d ⟨t.val / 8, by omega⟩ rfl]
  exact cast_eq _ _

theorem array15 : (dats m 0 c).arrAt 15 cfg0.N = dweight m c := by
  refine (dats m 0 c).arrAt_eq_of_covers 15 _ (by decide +kernel) fun t hf y => ?_
  obtain ⟨d, rfl⟩ := Spots.line 1024 y
  have e : (dats m 0 c).after 15 t ((cfg0.win 15).xinj (cfg0.grid.coords t) (ix2 0 d)) = dweight m c (ix2 0 d) := by
    rw [after0_15]
    exact weight_run m c t ((flush0_15 t).mp hf) d
  rw [e, place15 t d]
  exact cast_eq _ _

/-! ## The run -/

theorem kernel_run : θ_run defs (onTc (τ := τ) (main (F := Ideal))) ⟨m, fun _ => 0, ρ⟩ (fun r => ∀ c : Dev nD,
      r.2.mem ((c : Tc).loc main_v27_0) = dx m c
    ∧ r.2.mem ((c : Tc).loc main_v27_1) = dscale m c
    ∧ r.2.mem ((c : Tc).loc main_v27_2) = dshift m c
    ∧ r.2.mem ((c : Tc).loc main_v27_3) = dweight m c
    ∧ r.2.mem ((c : Tc).loc main_v27_4) = dbelow m c
    ∧ r.2.mem ((c : Tc).loc main_v27_5) = dgate m c
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)
    ∧ r.2.mem ((c : Tc).loc main_arg3) = m ((c : Tc).loc main_arg3)
    ∧ r.2.mem ((c : Tc).loc main_arg4) = m ((c : Tc).loc main_arg4)
    ∧ r.2.mem ((c : Tc).loc main_arg5) = m ((c : Tc).loc main_arg5)
    ∧ r.2.mem ((c : Tc).loc main_arg6) = m ((c : Tc).loc main_arg6)
    ∧ r.2.mem ((c : Tc).loc main_arg7) = m ((c : Tc).loc main_arg7)
    ∧ r.2.mem ((c : Tc).loc main_arg8) = m ((c : Tc).loc main_arg8)) :=
  (θ_run defs _ _).mono (fun r h c => ⟨(h.1.out_eq c 12).trans (array12 m c), (h.1.out_eq c 13).trans (array13 m c), (h.1.out_eq c 14).trans (array14 m c),
    (h.1.out_eq c 15).trans (array15 m c), (h.1.out_eq c 16).trans (array16 m c), (h.1.out_eq c 17).trans (array17 m c), h.2 c⟩)
    (θ_run_and (run_main m ρ) (unchanged m ρ))
-- ==== Proof.MixReference.lean ====
/-
  The gradient through the mixer's normalisation: what the reference computes, in terms of its arguments.
-/
module

public import proofs.«01_k».proof.Proof.MixTile
public import proofs.«01_k».proof.Proof.NormReference
public import proofs.«01_k».proof.Proof.Gen.Reference6Ideal.Read

@[expose] public noncomputable section

set_option maxRecDepth 16384

namespace Cert.Proof.Mix.Reference

open Cert.Proof.Norm Cert.Proof.Mix
open Cert.Reference6Ideal Cert.Reference6Ideal.Gen Cert.Reference6Ideal.Read
open Idealize ShloMosaic ShloMosaic.TcCoe SL.Sem ShloMosaic.Pointwise

variable (x0 x1 : FVec Ideal S2x4096x1024 .f32) (x2 : FVec Ideal S2x1024 .f32) (x3 : FVec Ideal S1024 .f32) (x5 : FVec Ideal S2x1024 .f32)
  (x6 : FVec Ideal S1024x3248 .f32) (x7 : FVec Ideal S2x4096x1024 .f32) (x8 : FVec Ideal S2x4096x3248 .f32)
variable (b : Fin 2) (s : Fin 4096) (d : Fin 1024)

/-- A row of the mixer's input. -/
def inputRow (b : Fin 2) (s : Fin 4096) (d : Fin 1024) : EReal := x0 (ix3 b s d) + half * x2 (ix2 b d) * x1 (ix3 b s d)
/-- The gradient of a modulated row. -/
def backRow (b : Fin 2) (s : Fin 4096) (d : Fin 1024) : EReal :=
  ∑ f : Fin 3248, x8 (ix3 b s f) * x6 (ix2 d f)
/-- A batch member's scale. -/
def scaleRow (b : Fin 2) (d : Fin 1024) : EReal := x5 (ix2 b d)
/-- The normalisation's weight. -/
def weightRow (d : Fin 1024) : EReal := x3 (ix1 d)

theorem input_at : val_main_v5 (F := Ideal) x0 x1 x2 (ix3 b s d) = inputRow x0 x1 x2 b s d := by
  unfold inputRow half
  pointwise [val_main_v5, val_main_v4, val_main_v3, val_main_v2, val_main_v1, val_main_v0, val_main_cst]

theorem square_at : val_main_v12 (F := Ideal) x0 x1 x2 (ix3 b s 0) = square (inputRow x0 x1 x2 b s) := by
  unfold square Norm.count small
  simp only [← input_at]
  unfold val_main_v12 val_main_v11 val_main_v10 val_main_v9 val_main_v8 val_main_v7 val_main_v6 val_main_cst_0 val_main_cst_1 val_main_cst_2
  generalize val_main_v5 (F := Ideal) x0 x1 x2 = p
  pointwise []

theorem root_at : val_main_v13 (F := Ideal) x0 x1 x2 (ix3 b s 0) = root (inputRow x0 x1 x2 b s) := by
  unfold root
  rw [← square_at]
  unfold val_main_v13
  generalize val_main_v12 (F := Ideal) x0 x1 x2 = p
  pointwise []

theorem normal_at : val_main_v18 (F := Ideal) x0 x1 x2 (ix3 b s d) = inputRow x0 x1 x2 b s d * root (inputRow x0 x1 x2 b s) := by
  rw [← root_at, ← input_at]
  unfold val_main_v18 val_main_v17
  generalize val_main_v13 (F := Ideal) x0 x1 x2 = p
  generalize val_main_v5 (F := Ideal) x0 x1 x2 = q
  pointwise []

theorem weighted_at : val_main_v21 (F := Ideal) x0 x1 x2 x3 (ix3 b s d) = inputRow x0 x1 x2 b s d * root (inputRow x0 x1 x2 b s) * weightRow x3 d := by
  rw [← normal_at]
  unfold val_main_v21 val_main_v20 val_main_v19 weightRow
  generalize val_main_v18 (F := Ideal) x0 x1 x2 = p
  pointwise []

theorem back_at : val_main_v31 (F := Ideal) x6 x8 (ix3 b s d) = backRow x6 x8 b s d := by
  unfold backRow
  pointwise [val_main_v31]

theorem modulated_at : val_main_v39 (F := Ideal) x5 x6 x8 (ix3 b s d) = backRow x6 x8 b s d * (1 + scaleRow x5 b d) := by
  rw [← back_at]
  unfold val_main_v39 val_main_v38 val_main_v24 val_main_v23 val_main_v22 val_main_cst_4 scaleRow
  generalize val_main_v31 (F := Ideal) x6 x8 = p
  pointwise []

theorem scaled_at : val_main_v45 (F := Ideal) x3 x5 x6 x8 (ix3 b s d)
    = scaled (backRow x6 x8 b s) (scaleRow x5 b) (weightRow x3) d := by
  unfold scaled
  rw [← modulated_at]
  unfold val_main_v45 val_main_v44 val_main_v19 weightRow
  generalize val_main_v39 (F := Ideal) x5 x6 x8 = p
  pointwise []

theorem share_at : val_main_v56 (F := Ideal) x0 x1 x2 x3 x5 x6 x8 (ix2 b s)
    = share (inputRow x0 x1 x2 b s) (backRow x6 x8 b s) (scaleRow x5 b) (weightRow x3) := by
  unfold share Norm.count minusHalf
  rw [← root_at, ← square_at]
  simp only [← scaled_at, ← input_at]
  unfold val_main_v56 val_main_v55 val_main_v54 val_main_v53 val_main_v49 val_main_v48 val_main_v47 val_main_v16 val_main_v15 val_main_v14 val_main_cst_13 val_main_cst_12 val_main_cst_11 val_main_cst_3
  generalize val_main_v45 (F := Ideal) x3 x5 x6 x8 = p
  generalize val_main_v13 (F := Ideal) x0 x1 x2 = q
  generalize val_main_v12 (F := Ideal) x0 x1 x2 = r
  generalize val_main_v5 (F := Ideal) x0 x1 x2 = t
  pointwise []
  exact Fin.sum_univ_one _

theorem dx_at : val_main_v61 (F := Ideal) x0 x1 x2 x3 x5 x6 x7 x8 (ix3 b s d)
    = x7 (ix3 b s d) + scaled (backRow x6 x8 b s) (scaleRow x5 b) (weightRow x3) d * root (inputRow x0 x1 x2 b s)
      + inputRow x0 x1 x2 b s d * share (inputRow x0 x1 x2 b s) (backRow x6 x8 b s) (scaleRow x5 b) (weightRow x3)
      + share (inputRow x0 x1 x2 b s) (backRow x6 x8 b s) (scaleRow x5 b) (weightRow x3) * inputRow x0 x1 x2 b s d := by
  rw [← share_at, ← scaled_at, ← root_at, ← input_at]
  unfold val_main_v61 val_main_v60 val_main_v59 val_main_v58 val_main_v57 val_main_v52 val_main_v51 val_main_v50
  generalize val_main_v56 (F := Ideal) x0 x1 x2 x3 x5 x6 x8 = u
  generalize val_main_v45 (F := Ideal) x3 x5 x6 x8 = p
  generalize val_main_v13 (F := Ideal) x0 x1 x2 = q
  generalize val_main_v5 (F := Ideal) x0 x1 x2 = t
  pointwise []

theorem scale_at : val_main_v71 (F := Ideal) x0 x1 x2 x3 x6 x8 (ix3 b 0 d)
    = ∑ s : Fin 4096, backRow x6 x8 b s d * (inputRow x0 x1 x2 b s d * root (inputRow x0 x1 x2 b s) * weightRow x3 d) := by
  simp only [← weighted_at, ← back_at]
  unfold val_main_v71 val_main_v40 val_main_v37 val_main_v36 val_main_v35 val_main_cst_7 val_main_cst_8
  generalize val_main_v21 (F := Ideal) x0 x1 x2 x3 = p
  generalize val_main_v31 (F := Ideal) x6 x8 = q
  pointwise []
  refine (Fin.sum_univ_one _).trans ?_
  exact Finset.sum_congr rfl fun s _ => mul_comm _ _

theorem shift_at : val_main_v72 (F := Ideal) x6 x8 (ix3 b 0 d) = ∑ s : Fin 4096, backRow x6 x8 b s d := by
  simp only [← back_at]
  unfold val_main_v72 val_main_v34 val_main_v33 val_main_v32 val_main_cst_5 val_main_cst_6
  generalize val_main_v31 (F := Ideal) x6 x8 = q
  pointwise []
  exact Fin.sum_univ_one _

theorem weight_at : val_main_v73 (F := Ideal) x0 x1 x2 x5 x6 x8 (ix2 0 d)
    = ∑ b : Fin 2, ∑ s : Fin 4096, backRow x6 x8 b s d * (1 + scaleRow x5 b d) * (inputRow x0 x1 x2 b s d * root (inputRow x0 x1 x2 b s)) := by
  have e0 := fun b s => normal_at x0 x1 x2 b s d
  have e1 := fun b s => modulated_at x5 x6 x8 b s d
  unfold val_main_v73 val_main_v46 val_main_v43 val_main_v42 val_main_v41 val_main_cst_9 val_main_cst_10
  generalize val_main_v18 (F := Ideal) x0 x1 x2 = p at e0 ⊢
  generalize val_main_v39 (F := Ideal) x5 x6 x8 = q at e1 ⊢
  pointwise [Norm.Reference.sum_front]
  simp only [Fin.sum_univ_one, ← e0, ← e1]
  exact Finset.sum_congr rfl fun b _ => Finset.sum_congr rfl fun s _ => mul_comm (p (ix3 b s d)) (q (ix3 b s d))

theorem below_at : val_main_v74 (F := Ideal) x0 x1 x2 x3 x5 x6 x7 x8 (ix3 b s d)
    = half * x2 (ix2 b d) * val_main_v61 (F := Ideal) x0 x1 x2 x3 x5 x6 x7 x8 (ix3 b s d) := by
  unfold half val_main_v74 val_main_v64 val_main_v63 val_main_v62 val_main_v2 val_main_v1 val_main_v0 val_main_cst
  generalize val_main_v61 (F := Ideal) x0 x1 x2 x3 x5 x6 x7 x8 = p
  pointwise []

theorem gate_at : val_main_v75 (F := Ideal) x0 x1 x2 x3 x5 x6 x7 x8 (ix3 b 0 d)
    = half * ∑ s : Fin 4096, val_main_v61 (F := Ideal) x0 x1 x2 x3 x5 x6 x7 x8 (ix3 b s d) * x1 (ix3 b s d) := by
  unfold half val_main_v75 val_main_v70 val_main_v69 val_main_v68 val_main_v67 val_main_v66 val_main_v65 val_main_v62 val_main_cst_14 val_main_cst_15 val_main_cst_16
  generalize val_main_v61 (F := Ideal) x0 x1 x2 x3 x5 x6 x7 x8 = p
  pointwise []
  exact (Fin.sum_univ_one _).trans rfl
-- ==== Proof.Mix.lean ====
/-
  The gradient through the mixer's normalisation is the reference's.
-/
module

public import proofs.«01_k».proof.Proof.MixArrays
public import proofs.«01_k».proof.Proof.MixReference
public import proofs.«01_k».proof.Proof.Norm
public import proofs.«01_k».proof.Proof.Gen.Pre_finite6

@[expose] public noncomputable section

set_option maxRecDepth 16384

namespace Cert.Proof.Mix

open Idealize ShloMosaic ShloMosaic.TcCoe SL.Sem ShloMosaic.Pointwise
open Cert.Proof.Norm

section finite

open Cert.Pre_finite6 Cert.Pre_finite6.Gen

theorem held (a0 a1 : FVec Ideal S2x4096x1024 .f32) (a2 : FVec Ideal S2x1024 .f32) (a3 : FVec Ideal S1024 .f32) (a4 a5 : FVec Ideal S2x1024 .f32)
    (a6 : FVec Ideal S1024x3248 .f32) (a7 : FVec Ideal S2x4096x1024 .f32) (a8 : FVec Ideal S2x4096x3248 .f32)
    (e : Cert.Pre_finite6.fn (F := Ideal) a0 a1 a2 a3 a4 a5 a6 a7 a8 = fun _ => 1#1) :
    Real a0 ∧ Real a1 ∧ Real a2 ∧ Real a3 ∧ Real a5 ∧ Real a6 ∧ Real a7 ∧ Real a8 := by
  unfold Cert.Pre_finite6.fn Cert.Pre_finite6.fn_part1 Cert.Pre_finite6.fn_part2 at e
  obtain ⟨e, e8⟩ := Finite.and_split _ _ e
  obtain ⟨e, e7⟩ := Finite.and_split _ _ e
  obtain ⟨e, e6⟩ := Finite.and_split _ _ e
  obtain ⟨e, e5⟩ := Finite.and_split _ _ e
  obtain ⟨e, e4⟩ := Finite.and_split _ _ e
  obtain ⟨e, e3⟩ := Finite.and_split _ _ e
  obtain ⟨e, e2⟩ := Finite.and_split _ _ e
  obtain ⟨e0, e1⟩ := Finite.and_split _ _ e
  exact ⟨fun i => ⟨_, Finite.all_real a0 _ _ e0 i⟩, fun i => ⟨_, Finite.all_real a1 _ _ e1 i⟩, fun i => ⟨_, Finite.all_real a2 _ _ e2 i⟩,
    fun i => ⟨_, Finite.all_real a3 _ _ e3 i⟩, fun i => ⟨_, Finite.all_real a5 _ _ e5 i⟩, fun i => ⟨_, Finite.all_real a6 _ _ e6 i⟩,
    fun i => ⟨_, Finite.all_real a7 _ _ e7 i⟩, fun i => ⟨_, Finite.all_real a8 _ _ e8 i⟩⟩

end finite

theorem half_value : half = ((1 / 2 : ℝ) : EReal) := by
  unfold half
  simp [Ideal.ofBits, Ideal.ieee]
  rw [← EReal.coe_mul]
  exact congrArg Real.toEReal (by norm_num)
theorem half_real : ∃ r : ℝ, half = r := ⟨_, half_value⟩
/-- One half goes into a sum, whatever is summed. -/
theorem half_sum {n : ℕ} (f : Fin n → EReal) : half * ∑ i, f i = ∑ i, half * f i := by
  rw [half_value]
  refine map_sum (⟨⟨fun x : EReal => ((1 / 2 : ℝ) : EReal) * x, mul_zero _⟩, fun x y => ?_⟩ : EReal →+ EReal) f Finset.univ
  exact EReal.left_distrib_of_nonneg_of_ne_top (by exact_mod_cast (by norm_num : (0 : ℝ) ≤ 1 / 2)) (EReal.coe_ne_top _) x y

/-! ## The call's arrays are the reference's -/

section agree

open Cert.Kernel6Ideal Cert.Kernel6Ideal.Gen
local notation "Tc" => Thread nD τ

variable (m : (ℓ : Loc nD τ sig) → Buf (Elt Ideal) ℓ) (c : Dev nD)

theorem input_gradient_at (hf : Cert.Pre_Kernel6Ideal_finite6 (hPre_finite6 := Cert.Pre_finite6.Gen.facts) m) (b : Fin 2) (s : Fin 4096) (d : Fin 1024) :
    Reference6Ideal.Read.val_main_v61 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) (ix3 b s d)
      = inputGradient m c b s d := by
  obtain ⟨h0, h1, h2, h3, h5, h6, h7, h8⟩ := held _ _ _ _ _ _ _ _ _ (hf c)
  refine (Reference.dx_at _ _ _ _ _ _ _ _ b s d).trans ?_
  exact agree _ _ _ _ _ (h7 _) (fun _ => real_add (h0 _) (real_mul (real_mul half_real (h2 _)) (h1 _)))
    (fun _ => Gate.real_sum _ _ (fun _ => h8 _) (fun _ => h6 _))
    (fun _ => h5 _) (fun _ => h3 _) d

theorem dx_agree (hf : Cert.Pre_Kernel6Ideal_finite6 (hPre_finite6 := Cert.Pre_finite6.Gen.facts) m) :
    Reference6Ideal.Read.val_main_v61 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) = dx m c := by
  funext i
  obtain ⟨b, s, d, rfl⟩ := whole i
  exact input_gradient_at m c hf b s d
theorem dscale_agree : Reference6Ideal.Read.val_main_v71 (F := Ideal) (m ((c : Tc).loc main_arg0)) (m ((c : Tc).loc main_arg1)) (m ((c : Tc).loc main_arg2)) (m ((c : Tc).loc main_arg3)) (m ((c : Tc).loc main_arg6)) (m ((c : Tc).loc main_arg8)) = dscale m c := by
  funext i
  obtain ⟨b, d, rfl⟩ := flat i
  exact Reference.scale_at _ _ _ _ _ _ b d
theorem dshift_agree : Reference6Ideal.Read.val_main_v72 (F := Ideal) (m ((c : Tc).loc main_arg6)) (m ((c : Tc).loc main_arg8)) = dshift m c := by
  funext i
  obtain ⟨b, d, rfl⟩ := flat i
  exact Reference.shift_at _ _ b d
theorem dweight_agree : Reference6Ideal.Read.val_main_v73 (F := Ideal) (m ((c : Tc).loc main_arg0)) (m ((c : Tc).loc main_arg1)) (m ((c : Tc).loc main_arg2)) (m ((c : Tc).loc main_arg5)) (m ((c : Tc).loc main_arg6)) (m ((c : Tc).loc main_arg8)) = dweight m c := by
  funext i
  obtain ⟨d, rfl⟩ := Norm.line i
  exact Reference.weight_at _ _ _ _ _ _ d
theorem dbelow_agree (hf : Cert.Pre_Kernel6Ideal_finite6 (hPre_finite6 := Cert.Pre_finite6.Gen.facts) m) :
    Reference6Ideal.Read.val_main_v74 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) = dbelow m c := by
  funext i
  obtain ⟨b, s, d, rfl⟩ := whole i
  refine (Reference.below_at _ _ _ _ _ _ _ _ b s d).trans ?_
  rw [input_gradient_at m c hf b s d]
  rfl
theorem dgate_agree (hf : Cert.Pre_Kernel6Ideal_finite6 (hPre_finite6 := Cert.Pre_finite6.Gen.facts) m) :
    Reference6Ideal.Read.val_main_v75 (F := Ideal) (m ((c : Tc).loc main_arg0)) (m ((c : Tc).loc main_arg1)) (m ((c : Tc).loc main_arg2)) (m ((c : Tc).loc main_arg3)) (m ((c : Tc).loc main_arg5)) (m ((c : Tc).loc main_arg6)) (m ((c : Tc).loc main_arg7)) (m ((c : Tc).loc main_arg8)) = dgate m c := by
  funext i
  obtain ⟨b, d, rfl⟩ := flat i
  refine (Reference.gate_at _ _ _ _ _ _ _ _ b d).trans ?_
  show _ = gateSum m c b d
  unfold gateSum
  refine (half_sum _).trans (Finset.sum_congr rfl fun s _ => ?_)
  rw [← mul_assoc]
  exact congrArg (fun k => half * k * arg_below m c (ix3 b s d)) (input_gradient_at m c hf b s d)

end agree

theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hf he
  refine ⟨_, _, _, _, _, _, kernel_run m g, ?_⟩
  refine (θ_run _ _ _).mono (fun r h c => ?_) (Cert.Reference6Ideal.Value.run (F := Ideal) m' g')
  obtain ⟨e0, e1, e2, e3, e4, e5, e6, e7, e8⟩ := he c
  refine ⟨(h c).1.trans ((Reference6Ideal.Read.val_main_v61_eq _ _).trans (by
      rw [e0, e1, e2, e3, e5, e6, e7, e8]
      exact dx_agree m c hf)),
    (h c).2.1.trans ((Reference6Ideal.Read.val_main_v71_eq _ _ _ _ _ _).trans (by
      rw [e0, e1, e2, e3, e6, e8]
      exact dscale_agree m c)),
    (h c).2.2.1.trans ((Reference6Ideal.Read.val_main_v72_eq _ _).trans (by
      rw [e6, e8]
      exact dshift_agree m c)),
    (h c).2.2.2.1.trans ((Reference6Ideal.Read.val_main_v73_eq _ _ _ _ _ _).trans (by
      rw [e0, e1, e2, e5, e6, e8]
      exact dweight_agree m c)),
    (h c).2.2.2.2.1.trans ((Reference6Ideal.Read.val_main_v74_eq _ _).trans (by
      rw [e0, e1, e2, e3, e5, e6, e7, e8]
      exact dbelow_agree m c hf)),
    (h c).2.2.2.2.2.1.trans ((Reference6Ideal.Read.val_main_v75_eq _ _).trans (by
      rw [e0, e1, e2, e3, e5, e6, e7, e8]
      exact dgate_agree m c hf)),
    (h c).2.2.2.2.2.2⟩
-- ==== Proof.DownArrays.lean ====
/-
  The first feed-forward layer's down projection, with the sum and the normalisation that follow it: what the call writes into a
  block, and the arrays that it leaves.
-/
module

public import proofs.«01_k».proof.Proof.Spots
public import proofs.«01_k».proof.Proof.Gen.Kernel7Ideal.Frame
public import proofs.«01_k».proof.Proof.NormMath
public import Idealize.ShloMosaic.Lib.Pipeline.ValueKit
public import Idealize.ShloMosaic.Lib.TwoAxisContraction
public import Idealize.ShloMosaic.Lib.StableHlo.RunRead

@[expose] public noncomputable section

set_option maxRecDepth 16384

namespace Cert.Proof.Down

open Idealize ShloMosaic ShloMosaic.TcCoe SL.Sem ShloMosaic.Pointwise
open Cert.Proof.Norm (square root small)
open Cert.Kernel7Ideal Cert.Kernel7Ideal.Gen
local notation "Tc" => Thread nD τ

theorem zeros3 : (![0, 0, 0] : Fin 3 → Nat) = fun _ => 0 := funext fun a => by fin_cases a <;> rfl
theorem zeros2 : (![0, 0] : Fin 2 → Nat) = fun _ => 0 := funext fun a => by fin_cases a <;> rfl

/-- The word of one half. -/
def half : EReal := Ideal.ofBits .f32 0x3F000000#32
/-- A row, normalised and modulated, at one place. -/
def modulated (x w sc sh : Fin 1024 → EReal) (d : Fin 1024) : EReal := x d * root x * w d * (1 + sc d) + sh d

section tile

variable (a : FVec Ideal S1x1024x2816 .bf16) (w : FVec Ideal S2816x1024 .bf16) (x : FVec Ideal S1x1024x1024 .f32) (g : FVec Ideal S1x1x1024 .f32)
  (n : FVec Ideal S1x1024 .f32) (sc sh : FVec Ideal S1x1x1024 .f32) (r d : Fin 1024)

/-- One entry of a row's product with a column of the weight. -/
def dots (r d : Fin 1024) : EReal := ∑ f : Fin 2816, a (ix3 0 r f) * w (ix2 f d)
/-- A row of the sum. -/
def total (r d : Fin 1024) : EReal := x (ix3 0 r d) + half * g (ix3 0 0 d) * dots a w r d

theorem product_at : k0_pay2 (F := Ideal) a w (ix2 r d) = dots a w r d := by
  unfold dots
  pointwise [k0_pay2]

theorem total_at : k0_pay3 (F := Ideal) a w x g (ix2 r d) = total a w x g r d := by
  unfold total half
  rw [← product_at]
  unfold k0_pay3
  generalize k0_pay2 (F := Ideal) a w = p
  pointwise []

theorem normal_at : k0_pay6 (F := Ideal) a w x g (ix2 r d) = total a w x g r d * root (total a w x g r) := by
  unfold root square small Norm.count
  simp only [← total_at]
  unfold k0_pay6
  generalize k0_pay3 (F := Ideal) a w x g = p
  pointwise []

theorem sum_block_at : out0_7 (F := Ideal) a w x g n sc sh (ix3 0 r d) = total a w x g r d := by
  rw [← total_at]
  unfold out0_7
  rw [View.canon_unit_zero zeros3, View.ld_unit_zero zeros3, View.ld_unit_zero zeros2, View.ld_unit_zero zeros3, View.ld_unit_zero zeros3]
  unfold k0_pay4
  generalize k0_pay3 (F := Ideal) a w x g = p
  pointwise []

theorem product_block_at : out0_8 (F := Ideal) a w x g n sc sh (ix3 0 r d) = dots a w r d := by
  rw [← product_at]
  unfold out0_8
  rw [View.canon_unit_zero zeros3, View.ld_unit_zero zeros3, View.ld_unit_zero zeros2]
  unfold k0_pay5
  generalize k0_pay2 (F := Ideal) a w = p
  pointwise []

theorem modulated_block_at : out0_9 (F := Ideal) a w x g n sc sh (ix3 0 r d)
    = modulated (total a w x g r) (fun d => n (ix2 0 d)) (fun d => sc (ix3 0 0 d)) (fun d => sh (ix3 0 0 d)) d := by
  unfold modulated
  rw [← normal_at]
  unfold out0_9
  rw [View.canon_unit_zero zeros3, View.ld_unit_zero zeros3, View.ld_unit_zero zeros2, View.ld_unit_zero zeros3, View.ld_unit_zero zeros3, View.ld_unit_zero zeros2, View.ld_unit_zero zeros3, View.ld_unit_zero zeros3]
  unfold k0_pay1
  generalize k0_pay6 (F := Ideal) a w x g = p
  pointwise []

end tile

theorem at0 : ∀ t : Fin cfg0.N, win0_0.index t = ![t.val / 4, t.val % 4, 0] := by decide +kernel
theorem at1 : ∀ t : Fin cfg0.N, win0_1.index t = ![0, 0] := by decide +kernel
theorem at2 : ∀ t : Fin cfg0.N, win0_2.index t = ![t.val / 4, t.val % 4, 0] := by decide +kernel
theorem at3 : ∀ t : Fin cfg0.N, win0_3.index t = ![t.val / 4, 0, 0] := by decide +kernel
theorem at4 : ∀ t : Fin cfg0.N, win0_4.index t = ![0, 0] := by decide +kernel
theorem at5 : ∀ t : Fin cfg0.N, win0_5.index t = ![t.val / 4, 0, 0] := by decide +kernel
theorem at6 : ∀ t : Fin cfg0.N, win0_6.index t = ![t.val / 4, 0, 0] := by decide +kernel
theorem at7 : ∀ t : Fin cfg0.N, win0_7.index t = ![t.val / 4, t.val % 4, 0] := by decide +kernel
theorem at8 : ∀ t : Fin cfg0.N, win0_8.index t = ![t.val / 4, t.val % 4, 0] := by decide +kernel
theorem at9 : ∀ t : Fin cfg0.N, win0_9.index t = ![t.val / 4, t.val % 4, 0] := by decide +kernel
theorem inside (t : Fin cfg0.N) : t.val < 8 := lt_of_lt_of_eq t.isLt (show cfg0.N = 8 from N_0)

variable (m : (ℓ : Loc nD τ sig) → Buf (Elt Ideal) ℓ) (ρ : Dev nD → PrngReg) (c : Dev nD)

/-! ## The arguments, and what the host passes on -/

abbrev arg_down : FVec Ideal S2x4096x2816 .f32 := m ((c : Tc).loc main_arg0)
abbrev arg_weight : FVec Ideal S2816x1024 .f32 := m ((c : Tc).loc main_arg1)
abbrev arg_x : FVec Ideal S2x4096x1024 .f32 := m ((c : Tc).loc main_arg2)
abbrev arg_gate : FVec Ideal S2x1024 .f32 := m ((c : Tc).loc main_arg3)
abbrev arg_norm : FVec Ideal S1024 .f32 := m ((c : Tc).loc main_arg4)
abbrev arg_shift : FVec Ideal S2x1024 .f32 := m ((c : Tc).loc main_arg5)
abbrev arg_scale : FVec Ideal S2x1024 .f32 := m ((c : Tc).loc main_arg6)

/-- A position's product with a column of the weight. -/
def productRow (b : Fin 2) (s : Fin 4096) (d : Fin 1024) : EReal := ∑ f : Fin 2816, arg_down m c (ix3 b s f) * arg_weight m c (ix2 f d)
/-- A row of the sum. -/
def sumRow (b : Fin 2) (s : Fin 4096) (d : Fin 1024) : EReal := arg_x m c (ix3 b s d) + half * arg_gate m c (ix2 b d) * productRow m c b s d
/-- A row of the sum, normalised and modulated. -/
def modulatedRow (b : Fin 2) (s : Fin 4096) (d : Fin 1024) : EReal :=
  modulated (sumRow m c b s) (fun d => arg_norm m c (ix1 d)) (fun d => arg_scale m c (ix2 b d)) (fun d => arg_shift m c (ix2 b d)) d

theorem V_down (b : Fin 2) (s : Fin 4096) (f : Fin 2816) : (V m c main_v3 : FVec Ideal S2x4096x2816 .bf16) (ix3 b s f) = arg_down m c (ix3 b s f) := by
  unfold arg_down
  after_reads_simp
  generalize m ((c : Tc).loc main_arg0) = X
  pointwise []

theorem V_weight (f : Fin 2816) (d : Fin 1024) : (V m c main_v4 : FVec Ideal S2816x1024 .bf16) (ix2 f d) = arg_weight m c (ix2 f d) := by
  unfold arg_weight
  after_reads_simp
  generalize m ((c : Tc).loc main_arg1) = X
  pointwise []

theorem V_gate (b : Fin 2) (d : Fin 1024) : (V m c main_v5 : FVec Ideal S2x1x1024 .f32) (ix3 b 0 d) = arg_gate m c (ix2 b d) := by
  unfold arg_gate
  after_reads_simp
  generalize m ((c : Tc).loc main_arg3) = X
  pointwise []

theorem V_norm (d : Fin 1024) : (V m c main_v0 : FVec Ideal S1x1024 .f32) (ix2 0 d) = arg_norm m c (ix1 d) := by
  unfold arg_norm
  after_reads_simp
  generalize m ((c : Tc).loc main_arg4) = X
  pointwise []

theorem V_scale (b : Fin 2) (d : Fin 1024) : (V m c main_v1 : FVec Ideal S2x1x1024 .f32) (ix3 b 0 d) = arg_scale m c (ix2 b d) := by
  unfold arg_scale
  after_reads_simp
  generalize m ((c : Tc).loc main_arg6) = X
  pointwise []

theorem V_shift (b : Fin 2) (d : Fin 1024) : (V m c main_v2 : FVec Ideal S2x1x1024 .f32) (ix3 b 0 d) = arg_shift m c (ix2 b d) := by
  unfold arg_shift
  after_reads_simp
  generalize m ((c : Tc).loc main_arg5) = X
  pointwise []

/-! ## The blocks -/

theorem read0 (X : Buf (Elt Ideal) ((c : Tc).loc main_v3)) (t : Fin cfg0.N) (r : Fin 1024) (k : Fin 2816) (b : Fin 2) (s : Fin 4096) (hb : b.val = t.val / 4) (hs : s.val = t.val % 4 * 1024 + r.val) :
    ((cfg0.win 0).blk t).view.read (Elt Ideal) X (ix3 0 r k) = (X : FVec Ideal S2x4096x2816 .bf16) (ix3 b s k) := by
  blk_simp
  refine congrArg X ?_
  blk_ext [at0]

theorem read1 (X : Buf (Elt Ideal) ((c : Tc).loc main_v4)) (t : Fin cfg0.N) (f : Fin 2816) (k : Fin 1024) :
    ((cfg0.win 1).blk t).view.read (Elt Ideal) X (ix2 f k) = (X : FVec Ideal S2816x1024 .bf16) (ix2 f k) := by
  blk_simp
  refine congrArg X ?_
  blk_ext [at1]

theorem read2 (X : Buf (Elt Ideal) ((c : Tc).loc main_arg2)) (t : Fin cfg0.N) (r : Fin 1024) (k : Fin 1024) (b : Fin 2) (s : Fin 4096) (hb : b.val = t.val / 4) (hs : s.val = t.val % 4 * 1024 + r.val) :
    ((cfg0.win 2).blk t).view.read (Elt Ideal) X (ix3 0 r k) = (X : FVec Ideal S2x4096x1024 .f32) (ix3 b s k) := by
  blk_simp
  refine congrArg X ?_
  blk_ext [at2]

theorem read3 (X : Buf (Elt Ideal) ((c : Tc).loc main_v5)) (t : Fin cfg0.N) (k : Fin 1024) (b : Fin 2) (hb : b.val = t.val / 4) :
    ((cfg0.win 3).blk t).view.read (Elt Ideal) X (ix3 0 0 k) = (X : FVec Ideal S2x1x1024 .f32) (ix3 b 0 k) := by
  blk_simp
  refine congrArg X ?_
  blk_ext [at3]

theorem read4 (X : Buf (Elt Ideal) ((c : Tc).loc main_v0)) (t : Fin cfg0.N) (k : Fin 1024) :
    ((cfg0.win 4).blk t).view.read (Elt Ideal) X (ix2 0 k) = (X : FVec Ideal S1x1024 .f32) (ix2 0 k) := by
  blk_simp
  refine congrArg X ?_
  blk_ext [at4]

theorem read5 (X : Buf (Elt Ideal) ((c : Tc).loc main_v1)) (t : Fin cfg0.N) (k : Fin 1024) (b : Fin 2) (hb : b.val = t.val / 4) :
    ((cfg0.win 5).blk t).view.read (Elt Ideal) X (ix3 0 0 k) = (X : FVec Ideal S2x1x1024 .f32) (ix3 b 0 k) := by
  blk_simp
  refine congrArg X ?_
  blk_ext [at5]

theorem read6 (X : Buf (Elt Ideal) ((c : Tc).loc main_v2)) (t : Fin cfg0.N) (k : Fin 1024) (b : Fin 2) (hb : b.val = t.val / 4) :
    ((cfg0.win 6).blk t).view.read (Elt Ideal) X (ix3 0 0 k) = (X : FVec Ideal S2x1x1024 .f32) (ix3 b 0 k) := by
  blk_simp
  refine congrArg X ?_
  blk_ext [at6]

section blocks

variable (t : Fin cfg0.N) (r : Fin 1024) (b : Fin 2) (s : Fin 4096) (hb : b.val = t.val / 4) (hs : s.val = t.val % 4 * 1024 + r.val)
include hb hs

theorem dots_block (d : Fin 1024) : dots (iblk m c 0 t) (iblk m c 1 t) r d = productRow m c b s d := by
  unfold dots productRow
  exact Finset.sum_congr rfl fun f _ => congrArg₂ (· * ·) ((read0 c (V m c main_v3) t r f b s hb hs).trans (V_down m c b s f)) ((read1 c (V m c main_v4) t f d).trans (V_weight m c f d))

theorem total_block : total (iblk m c 0 t) (iblk m c 1 t) (iblk m c 2 t) (iblk m c 3 t) r = sumRow m c b s := by
  funext d
  unfold total sumRow
  rw [dots_block m c t r b s hb hs d]
  refine congrArg₂ (· + ·) ((read2 c (V m c main_arg2) t r d b s hb hs).trans ?_) (congrArg (fun k => half * k * productRow m c b s d) ((read3 c (V m c main_v5) t d b hb).trans (V_gate m c b d)))
  rw [V_main_arg2]

theorem modulated_block (d : Fin 1024) : out0_9 (F := Ideal) (iblk m c 0 t) (iblk m c 1 t) (iblk m c 2 t) (iblk m c 3 t) (iblk m c 4 t) (iblk m c 5 t) (iblk m c 6 t) (ix3 0 r d)
    = modulatedRow m c b s d := by
  refine (modulated_block_at _ _ _ _ _ _ _ r d).trans ?_
  unfold modulatedRow modulated
  rw [total_block m c t r b s hb hs]
  exact congrArg₂ (· + ·) (congrArg₂ (· * ·) (congrArg (sumRow m c b s d * root (sumRow m c b s) * ·) ((read4 c (V m c main_v0) t d).trans (V_norm m c d)))
    (congrArg (1 + ·) ((read5 c (V m c main_v1) t d b hb).trans (V_scale m c b d)))) ((read6 c (V m c main_v2) t d b hb).trans (V_shift m c b d))

end blocks

/-! ## The arrays -/

def sums : FVec Ideal S2x4096x1024 .f32 := fun i => sumRow m c ⟨(i 0).val, (i 0).isLt⟩ ⟨(i 1).val, (i 1).isLt⟩ ⟨(i 2).val, (i 2).isLt⟩

theorem place7 (t : Fin cfg0.N) (r : Fin 1024) (f : Fin 1024) (b : Fin 2) (s : Fin 4096) (hb : b.val = t.val / 4) (hs : s.val = t.val % 4 * 1024 + r.val) :
    ((cfg0.win 7).blk t).view.emb (ix3 0 r f) = ix3 b s f := by
  blk_ext [at7]

theorem array7 : (dats m 0 c).arrAt 7 cfg0.N = sums m c := by
  refine (dats m 0 c).arrAt_eq_of_covers 7 _ (by decide +kernel) fun t hf y => ?_
  obtain ⟨r, d, rfl⟩ := Spots.front 1024 1024 y
  have ht := inside t
  have hr := r.isLt
  have e : (dats m 0 c).after 7 t ((cfg0.win 7).xinj (cfg0.grid.coords t) (ix3 0 r d)) = sums m c (ix3 ⟨t.val / 4, by omega⟩ ⟨t.val % 4 * 1024 + r.val, by omega⟩ d) := by
    rw [after0_7]
    exact (sum_block_at _ _ _ _ _ _ _ r d).trans (congrFun (total_block m c t r ⟨t.val / 4, by omega⟩ ⟨t.val % 4 * 1024 + r.val, by omega⟩ rfl rfl) d)
  rw [e, place7 t r d ⟨t.val / 4, by omega⟩ ⟨t.val % 4 * 1024 + r.val, by omega⟩ rfl rfl]
  exact cast_eq _ _

def products : FVec Ideal S2x4096x1024 .bf16 := fun i => productRow m c ⟨(i 0).val, (i 0).isLt⟩ ⟨(i 1).val, (i 1).isLt⟩ ⟨(i 2).val, (i 2).isLt⟩

theorem place8 (t : Fin cfg0.N) (r : Fin 1024) (f : Fin 1024) (b : Fin 2) (s : Fin 4096) (hb : b.val = t.val / 4) (hs : s.val = t.val % 4 * 1024 + r.val) :
    ((cfg0.win 8).blk t).view.emb (ix3 0 r f) = ix3 b s f := by
  blk_ext [at8]

theorem array8 : (dats m 0 c).arrAt 8 cfg0.N = products m c := by
  refine (dats m 0 c).arrAt_eq_of_covers 8 _ (by decide +kernel) fun t hf y => ?_
  obtain ⟨r, d, rfl⟩ := Spots.front 1024 1024 y
  have ht := inside t
  have hr := r.isLt
  have e : (dats m 0 c).after 8 t ((cfg0.win 8).xinj (cfg0.grid.coords t) (ix3 0 r d)) = products m c (ix3 ⟨t.val / 4, by omega⟩ ⟨t.val % 4 * 1024 + r.val, by omega⟩ d) := by
    rw [after0_8]
    exact (product_block_at _ _ _ _ _ _ _ r d).trans (dots_block m c t r ⟨t.val / 4, by omega⟩ ⟨t.val % 4 * 1024 + r.val, by omega⟩ rfl rfl d)
  rw [e, place8 t r d ⟨t.val / 4, by omega⟩ ⟨t.val % 4 * 1024 + r.val, by omega⟩ rfl rfl]
  exact cast_eq _ _

def hidden : FVec Ideal S2x4096x1024 .bf16 := fun i => modulatedRow m c ⟨(i 0).val, (i 0).isLt⟩ ⟨(i 1).val, (i 1).isLt⟩ ⟨(i 2).val, (i 2).isLt⟩

theorem place9 (t : Fin cfg0.N) (r : Fin 1024) (f : Fin 1024) (b : Fin 2) (s : Fin 4096) (hb : b.val = t.val / 4) (hs : s.val = t.val % 4 * 1024 + r.val) :
    ((cfg0.win 9).blk t).view.emb (ix3 0 r f) = ix3 b s f := by
  blk_ext [at9]

theorem array9 : (dats m 0 c).arrAt 9 cfg0.N = hidden m c := by
  refine (dats m 0 c).arrAt_eq_of_covers 9 _ (by decide +kernel) fun t hf y => ?_
  obtain ⟨r, d, rfl⟩ := Spots.front 1024 1024 y
  have ht := inside t
  have hr := r.isLt
  have e : (dats m 0 c).after 9 t ((cfg0.win 9).xinj (cfg0.grid.coords t) (ix3 0 r d)) = hidden m c (ix3 ⟨t.val / 4, by omega⟩ ⟨t.val % 4 * 1024 + r.val, by omega⟩ d) := by
    rw [after0_9]
    exact modulated_block m c t r ⟨t.val / 4, by omega⟩ ⟨t.val % 4 * 1024 + r.val, by omega⟩ rfl rfl d
  rw [e, place9 t r d ⟨t.val / 4, by omega⟩ ⟨t.val % 4 * 1024 + r.val, by omega⟩ rfl rfl]
  exact cast_eq _ _
-- ==== Proof.Down.lean ====
/-
  The first feed-forward layer's down projection is the reference's.
-/
module

public import proofs.«01_k».proof.Defs
public import proofs.«01_k».proof.Proof.DownArrays
public import proofs.«01_k».proof.Proof.Gen.Reference7Ideal.Read

@[expose] public noncomputable section

set_option maxRecDepth 16384

namespace Cert.Proof.Down

open Idealize ShloMosaic ShloMosaic.TcCoe SL.Sem ShloMosaic.Pointwise
open Cert.Proof.Norm (square root small)

/-! ## The reference, entry by entry -/

namespace Reference

open Cert.Reference7Ideal Cert.Reference7Ideal.Gen Cert.Reference7Ideal.Read

variable (x0 : FVec Ideal S2x4096x2816 .f32) (x1 : FVec Ideal S2816x1024 .f32) (x2 : FVec Ideal S2x4096x1024 .f32) (x3 : FVec Ideal S2x1024 .f32)
  (x4 : FVec Ideal S1024 .f32) (x5 x6 : FVec Ideal S2x1024 .f32) (b : Fin 2) (s : Fin 4096) (d : Fin 1024)

/-- A position's product with a column of the weight. -/
def productRow (b : Fin 2) (s : Fin 4096) (d : Fin 1024) : EReal := ∑ f : Fin 2816, x0 (ix3 b s f) * x1 (ix2 f d)
/-- A row of the sum. -/
def sumRow (b : Fin 2) (s : Fin 4096) (d : Fin 1024) : EReal := x2 (ix3 b s d) + half * x3 (ix2 b d) * productRow x0 x1 b s d

theorem product_at : val_main_v0 (F := Ideal) x0 x1 (ix3 b s d) = productRow x0 x1 b s d := by
  unfold productRow
  pointwise [val_main_v0]

theorem product_result_at : val_main_v7 (F := Ideal) x0 x1 (ix3 b s d) = productRow x0 x1 b s d := by
  rw [← product_at]
  unfold val_main_v7
  generalize val_main_v0 (F := Ideal) x0 x1 = p
  pointwise []

theorem sum_at : val_main_v6 (F := Ideal) x0 x1 x2 x3 (ix3 b s d) = sumRow x0 x1 x2 x3 b s d := by
  unfold sumRow half
  rw [← product_at]
  unfold val_main_v6 val_main_v5 val_main_v4 val_main_v3 val_main_v2 val_main_v1 val_main_cst
  generalize val_main_v0 (F := Ideal) x0 x1 = p
  pointwise []

theorem root_at : val_main_v15 (F := Ideal) x0 x1 x2 x3 (ix3 b s 0) = root (sumRow x0 x1 x2 x3 b s) := by
  unfold root square small Norm.count
  simp only [← sum_at]
  unfold val_main_v15 val_main_v14 val_main_v13 val_main_v12 val_main_v11 val_main_v10 val_main_v9 val_main_v8 val_main_cst_0 val_main_cst_1 val_main_cst_2
  generalize val_main_v6 (F := Ideal) x0 x1 x2 x3 = p
  pointwise []

theorem modulated_at : val_main_v29 (F := Ideal) x0 x1 x2 x3 x4 x5 x6 (ix3 b s d)
    = modulated (sumRow x0 x1 x2 x3 b s) (fun d => x4 (ix1 d)) (fun d => x6 (ix2 b d)) (fun d => x5 (ix2 b d)) d := by
  unfold modulated
  rw [← root_at, ← sum_at]
  unfold val_main_v29 val_main_v28 val_main_v27 val_main_v26 val_main_v25 val_main_v24 val_main_v23 val_main_v22 val_main_v21 val_main_v20 val_main_v19 val_main_v18 val_main_v17 val_main_v16 val_main_cst_3
  generalize val_main_v15 (F := Ideal) x0 x1 x2 x3 = q
  generalize val_main_v6 (F := Ideal) x0 x1 x2 x3 = p
  pointwise []

end Reference

theorem algebraic : Cert.algebraic_Kernel7Ideal_Reference7Ideal (hKernel7Ideal := Cert.Kernel7Ideal.Gen.facts)
    (hReference7Ideal := Cert.Reference7Ideal.Gen.facts) := by
  intro m g m' g' hf he
  refine ⟨_, _, _, ((θ_run _ _ _).mono (fun r h c => ⟨(h.1.out_eq c 7).trans (array7 m c), (h.1.out_eq c 8).trans (array8 m c), (h.1.out_eq c 9).trans (array9 m c), h.2 c⟩)
    (θ_run_and (Cert.Kernel7Ideal.Gen.run_main m g) (Cert.Kernel7Ideal.Gen.unchanged m g))), ?_⟩
  refine (θ_run _ _ _).mono (fun r h c => ?_) (Cert.Reference7Ideal.Value.run (F := Ideal) m' g')
  obtain ⟨e0, e1, e2, e3, e4, e5, e6⟩ := he c
  have whole : ∀ i : Cert.Reference7Ideal.S2x4096x1024.Idx, ∃ (b : Fin 2) (s : Fin 4096) (d : Fin 1024), i = ix3 b s d := fun i =>
    ⟨i 0, i 1, i 2, by funext a; fin_cases a <;> rfl⟩
  refine ⟨(h c).1.trans ((Reference7Ideal.Read.val_main_v6_eq _ _ _ _).trans ?_), (h c).2.1.trans ((Reference7Ideal.Read.val_main_v7_eq _ _).trans ?_),
    (h c).2.2.1.trans ((Reference7Ideal.Read.val_main_v29_eq _ _ _ _ _ _ _).trans ?_), (h c).2.2.2⟩
  · rw [e0, e1, e2, e3]
    funext i
    obtain ⟨b, s, d, rfl⟩ := whole i
    exact Reference.sum_at _ _ _ _ b s d
  · rw [e0, e1]
    funext i
    obtain ⟨b, s, d, rfl⟩ := whole i
    exact Reference.product_result_at _ _ b s d
  · rw [e0, e1, e2, e3, e4, e5, e6]
    funext i
    obtain ⟨b, s, d, rfl⟩ := whole i
    exact Reference.modulated_at _ _ _ _ _ _ _ b s d
-- ==== Proof.ProjArrays.lean ====
/-
  The mixer's input projection: what the call writes into a block, and the arrays that it leaves.
-/
module

public import proofs.«01_k».proof.Proof.Spots
public import proofs.«01_k».proof.Proof.Gen.Kernel8Ideal.Frame
public import Idealize.ShloMosaic.Lib.Pipeline.ValueKit
public import Idealize.ShloMosaic.Lib.TwoAxisContraction
public import Idealize.ShloMosaic.Lib.StableHlo.RunRead

@[expose] public noncomputable section

set_option maxRecDepth 16384

namespace Cert.Proof.Proj

open Idealize ShloMosaic ShloMosaic.TcCoe SL.Sem ShloMosaic.Pointwise
open Cert.Kernel8Ideal Cert.Kernel8Ideal.Gen
local notation "Tc" => Thread nD τ

theorem zeros3 : (![0, 0, 0] : Fin 3 → Nat) = fun _ => 0 := funext fun a => by fin_cases a <;> rfl
theorem zeros2 : (![0, 0] : Fin 2 → Nat) = fun _ => 0 := funext fun a => by fin_cases a <;> rfl

/-- One entry of a row's product with a row of weights. -/
def dots (x : FVec Ideal S1x512x1024 .bf16) (w : FVec Ideal S3328x1024 .bf16) (r : Fin 512) (f : Fin 3328) : EReal :=
  ∑ d : Fin 1024, x (ix3 0 r d) * w (ix2 f d)

section tile

variable (x : FVec Ideal S1x512x1024 .bf16) (w : FVec Ideal S3328x1024 .bf16) (r : Fin 512)

theorem product_at (f : Fin 3328) : k0_pay1 (F := Ideal) x w (ix2 r f) = dots x w r f := by
  unfold dots
  pointwise [k0_pay1]

theorem first_at (f : Fin 1024) : out0_2 (F := Ideal) x w (ix3 0 r f) = dots x w r ⟨0 + f.val, by omega⟩ := by
  rw [← product_at]
  unfold out0_2
  rw [View.canon_unit_zero zeros3, View.ld_unit_zero zeros3, View.ld_unit_zero zeros2]
  unfold k0_pay2
  generalize k0_pay1 (F := Ideal) x w = p
  pointwise []

theorem second_at (f : Fin 1536) : out0_3 (F := Ideal) x w (ix3 0 r f) = dots x w r ⟨1024 + f.val, by omega⟩ := by
  rw [← product_at]
  unfold out0_3
  rw [View.canon_unit_zero zeros3, View.ld_unit_zero zeros3, View.ld_unit_zero zeros2]
  unfold k0_pay3
  generalize k0_pay1 (F := Ideal) x w = p
  pointwise []

theorem third_at (f : Fin 384) : out0_4 (F := Ideal) x w (ix3 0 r f) = dots x w r ⟨2560 + f.val, by omega⟩ := by
  rw [← product_at]
  unfold out0_4
  rw [View.canon_unit_zero zeros3, View.ld_unit_zero zeros3, View.ld_unit_zero zeros2]
  unfold k0_pay4
  generalize k0_pay1 (F := Ideal) x w = p
  pointwise []

theorem fourth_at (f : Fin 256) : out0_5 (F := Ideal) x w (ix3 0 r f) = dots x w r ⟨2944 + f.val, by omega⟩ := by
  rw [← product_at]
  unfold out0_5
  rw [View.canon_unit_zero zeros3, View.ld_unit_zero zeros3, View.ld_unit_zero zeros2]
  unfold k0_pay5
  generalize k0_pay1 (F := Ideal) x w = p
  pointwise []

theorem fifth_at (f : Fin 128) : out0_6 (F := Ideal) x w (ix3 0 r f) = dots x w r ⟨3200 + f.val, by omega⟩ := by
  rw [← product_at]
  unfold out0_6
  rw [View.canon_unit_zero zeros3, View.ld_unit_zero zeros3, View.ld_unit_zero zeros2]
  unfold k0_pay6
  generalize k0_pay1 (F := Ideal) x w = p
  pointwise []

end tile

theorem at0 : ∀ t : Fin cfg0.N, win0_0.index t = ![t.val / 8, t.val % 8, 0] := by decide +kernel
theorem at1 : ∀ t : Fin cfg0.N, win0_1.index t = ![0, 0] := by decide +kernel
theorem at2 : ∀ t : Fin cfg0.N, win0_2.index t = ![t.val / 8, t.val % 8, 0] := by decide +kernel
theorem at3 : ∀ t : Fin cfg0.N, win0_3.index t = ![t.val / 8, t.val % 8, 0] := by decide +kernel
theorem at4 : ∀ t : Fin cfg0.N, win0_4.index t = ![t.val / 8, t.val % 8, 0] := by decide +kernel
theorem at5 : ∀ t : Fin cfg0.N, win0_5.index t = ![t.val / 8, t.val % 8, 0] := by decide +kernel
theorem at6 : ∀ t : Fin cfg0.N, win0_6.index t = ![t.val / 8, t.val % 8, 0] := by decide +kernel
theorem inside (t : Fin cfg0.N) : t.val < 16 := lt_of_lt_of_eq t.isLt (show cfg0.N = 16 from N_0)

variable (m : (ℓ : Loc nD τ sig) → Buf (Elt Ideal) ℓ) (ρ : Dev nD → PrngReg) (c : Dev nD)

/-! ## The arguments, and what the host passes on -/

abbrev arg_h : FVec Ideal S2x4096x1024 .f32 := m ((c : Tc).loc main_arg0)
abbrev arg_in : FVec Ideal S1024x3248 .f32 := m ((c : Tc).loc main_arg1)

/-- The rows of the weight in the order that the call takes them. -/
def wide (f : Fin 3328) (d : Fin 1024) : EReal :=
  if f.val < 2560 then arg_in m c (ix2 d ⟨f.val % 2560, by omega⟩) else if f.val < 3200 then arg_in m c (ix2 d ⟨f.val % 3200 + 16, by omega⟩)
  else if f.val < 3216 then arg_in m c (ix2 d ⟨f.val % 3216 - 640, by omega⟩) else if f.val < 3248 then arg_in m c (ix2 d ⟨f.val % 3248, by omega⟩) else 0

theorem V_hidden (b : Fin 2) (s : Fin 4096) (d : Fin 1024) : (V m c main_v0 : FVec Ideal S2x4096x1024 .bf16) (ix3 b s d) = arg_h m c (ix3 b s d) := by
  unfold arg_h
  after_reads_simp
  generalize m ((c : Tc).loc main_arg0) = X
  pointwise []

set_option maxHeartbeats 1000000 in
theorem V_wide (f : Fin 3328) (d : Fin 1024) : (V m c main_v8 : FVec Ideal S3328x1024 .bf16) (ix2 f d) = wide m c f d := by
  unfold wide arg_in
  after_reads_simp
  pointwise []
  by_cases h0 : f.val < 2560
  · rw [dif_pos (by omega), if_pos h0]
    after_reads_simp
    generalize m (c, Proc.tc.devRef main_arg1) = X
    pointwise []
    exact congrArg (fun k => X (ix2 d k)) (Fin.ext (by dsimp only; omega))
  by_cases h1 : f.val < 3200
  · rw [dif_neg (by omega), if_neg h0, dif_pos (by omega), if_pos h1]
    after_reads_simp
    generalize m (c, Proc.tc.devRef main_arg1) = X
    pointwise []
    exact congrArg (fun k => X (ix2 d k)) (Fin.ext (by dsimp only; omega))
  by_cases h2 : f.val < 3216
  · rw [dif_neg (by omega), if_neg h0, dif_neg (by omega), if_neg h1, dif_pos (by omega), if_pos h2]
    after_reads_simp
    generalize m (c, Proc.tc.devRef main_arg1) = X
    pointwise []
    exact congrArg (fun k => X (ix2 d k)) (Fin.ext (by dsimp only; omega))
  by_cases h3 : f.val < 3248
  · rw [dif_neg (by omega), if_neg h0, dif_neg (by omega), if_neg h1, dif_neg (by omega), if_neg h2, dif_pos (by omega), if_pos h3]
    after_reads_simp
    generalize m (c, Proc.tc.devRef main_arg1) = X
    pointwise []
    exact congrArg (fun k => X (ix2 d k)) (Fin.ext (by dsimp only; omega))
  · rw [dif_neg (by omega), if_neg h0, dif_neg (by omega), if_neg h1, dif_neg (by omega), if_neg h2, dif_neg (by omega), if_neg h3]
    after_reads_simp
    pointwise []

/-! ## The blocks -/

theorem read0 (X : Buf (Elt Ideal) ((c : Tc).loc main_v0)) (t : Fin cfg0.N) (r : Fin 512) (k : Fin 1024) (b : Fin 2) (s : Fin 4096) (hb : b.val = t.val / 8) (hs : s.val = t.val % 8 * 512 + r.val) :
    ((cfg0.win 0).blk t).view.read (Elt Ideal) X (ix3 0 r k) = (X : FVec Ideal S2x4096x1024 .bf16) (ix3 b s k) := by
  blk_simp
  refine congrArg X ?_
  blk_ext [at0]

theorem read1 (X : Buf (Elt Ideal) ((c : Tc).loc main_v8)) (t : Fin cfg0.N) (f : Fin 3328) (k : Fin 1024) :
    ((cfg0.win 1).blk t).view.read (Elt Ideal) X (ix2 f k) = (X : FVec Ideal S3328x1024 .bf16) (ix2 f k) := by
  blk_simp
  refine congrArg X ?_
  blk_ext [at1]

/-- A position's product with a row of the weight. -/
def columns (b : Fin 2) (s : Fin 4096) (f : Fin 3328) : EReal := ∑ d : Fin 1024, arg_h m c (ix3 b s d) * wide m c f d

theorem dots_block (t : Fin cfg0.N) (r : Fin 512) (f : Fin 3328) (b : Fin 2) (s : Fin 4096) (hb : b.val = t.val / 8) (hs : s.val = t.val % 8 * 512 + r.val) :
    dots (iblk m c 0 t) (iblk m c 1 t) r f = columns m c b s f := by
  unfold dots columns
  exact Finset.sum_congr rfl fun d _ => congrArg₂ (· * ·) ((read0 c (V m c main_v0) t r d b s hb hs).trans (V_hidden m c b s d)) ((read1 c (V m c main_v8) t f d).trans (V_wide m c f d))

/-! ## The arrays -/

def first : FVec Ideal S2x4096x1024 .f32 := fun i =>
  columns m c ⟨(i 0).val, (i 0).isLt⟩ ⟨(i 1).val, (i 1).isLt⟩ ⟨0 + (i 2).val, by have h : (i 2).val < 1024 := (i 2).isLt; omega⟩

theorem place2 (t : Fin cfg0.N) (r : Fin 512) (f : Fin 1024) (b : Fin 2) (s : Fin 4096) (hb : b.val = t.val / 8) (hs : s.val = t.val % 8 * 512 + r.val) :
    ((cfg0.win 2).blk t).view.emb (ix3 0 r f) = ix3 b s f := by
  blk_ext [at2]

theorem array2 : (dats m 0 c).arrAt 2 cfg0.N = first m c := by
  refine (dats m 0 c).arrAt_eq_of_covers 2 _ (by decide +kernel) fun t hf y => ?_
  obtain ⟨r, f, rfl⟩ := Spots.front 512 1024 y
  have ht := inside t
  have hr := r.isLt
  have e : (dats m 0 c).after 2 t ((cfg0.win 2).xinj (cfg0.grid.coords t) (ix3 0 r f)) = first m c (ix3 ⟨t.val / 8, by omega⟩ ⟨t.val % 8 * 512 + r.val, by omega⟩ f) := by
    rw [after0_2]
    exact (first_at _ _ r f).trans (dots_block m c t r _ ⟨t.val / 8, by omega⟩ ⟨t.val % 8 * 512 + r.val, by omega⟩ rfl rfl)
  rw [e, place2 t r f ⟨t.val / 8, by omega⟩ ⟨t.val % 8 * 512 + r.val, by omega⟩ rfl rfl]
  exact cast_eq _ _

def second : FVec Ideal S2x4096x1536 .f32 := fun i =>
  columns m c ⟨(i 0).val, (i 0).isLt⟩ ⟨(i 1).val, (i 1).isLt⟩ ⟨1024 + (i 2).val, by have h : (i 2).val < 1536 := (i 2).isLt; omega⟩

theorem place3 (t : Fin cfg0.N) (r : Fin 512) (f : Fin 1536) (b : Fin 2) (s : Fin 4096) (hb : b.val = t.val / 8) (hs : s.val = t.val % 8 * 512 + r.val) :
    ((cfg0.win 3).blk t).view.emb (ix3 0 r f) = ix3 b s f := by
  blk_ext [at3]

theorem array3 : (dats m 0 c).arrAt 3 cfg0.N = second m c := by
  refine (dats m 0 c).arrAt_eq_of_covers 3 _ (by decide +kernel) fun t hf y => ?_
  obtain ⟨r, f, rfl⟩ := Spots.front 512 1536 y
  have ht := inside t
  have hr := r.isLt
  have e : (dats m 0 c).after 3 t ((cfg0.win 3).xinj (cfg0.grid.coords t) (ix3 0 r f)) = second m c (ix3 ⟨t.val / 8, by omega⟩ ⟨t.val % 8 * 512 + r.val, by omega⟩ f) := by
    rw [after0_3]
    exact (second_at _ _ r f).trans (dots_block m c t r _ ⟨t.val / 8, by omega⟩ ⟨t.val % 8 * 512 + r.val, by omega⟩ rfl rfl)
  rw [e, place3 t r f ⟨t.val / 8, by omega⟩ ⟨t.val % 8 * 512 + r.val, by omega⟩ rfl rfl]
  exact cast_eq _ _

def third : FVec Ideal S2x4096x384 .f32 := fun i =>
  columns m c ⟨(i 0).val, (i 0).isLt⟩ ⟨(i 1).val, (i 1).isLt⟩ ⟨2560 + (i 2).val, by have h : (i 2).val < 384 := (i 2).isLt; omega⟩

theorem place4 (t : Fin cfg0.N) (r : Fin 512) (f : Fin 384) (b : Fin 2) (s : Fin 4096) (hb : b.val = t.val / 8) (hs : s.val = t.val % 8 * 512 + r.val) :
    ((cfg0.win 4).blk t).view.emb (ix3 0 r f) = ix3 b s f := by
  blk_ext [at4]

theorem array4 : (dats m 0 c).arrAt 4 cfg0.N = third m c := by
  refine (dats m 0 c).arrAt_eq_of_covers 4 _ (by decide +kernel) fun t hf y => ?_
  obtain ⟨r, f, rfl⟩ := Spots.front 512 384 y
  have ht := inside t
  have hr := r.isLt
  have e : (dats m 0 c).after 4 t ((cfg0.win 4).xinj (cfg0.grid.coords t) (ix3 0 r f)) = third m c (ix3 ⟨t.val / 8, by omega⟩ ⟨t.val % 8 * 512 + r.val, by omega⟩ f) := by
    rw [after0_4]
    exact (third_at _ _ r f).trans (dots_block m c t r _ ⟨t.val / 8, by omega⟩ ⟨t.val % 8 * 512 + r.val, by omega⟩ rfl rfl)
  rw [e, place4 t r f ⟨t.val / 8, by omega⟩ ⟨t.val % 8 * 512 + r.val, by omega⟩ rfl rfl]
  exact cast_eq _ _

def fourth : FVec Ideal S2x4096x256 .f32 := fun i =>
  columns m c ⟨(i 0).val, (i 0).isLt⟩ ⟨(i 1).val, (i 1).isLt⟩ ⟨2944 + (i 2).val, by have h : (i 2).val < 256 := (i 2).isLt; omega⟩

theorem place5 (t : Fin cfg0.N) (r : Fin 512) (f : Fin 256) (b : Fin 2) (s : Fin 4096) (hb : b.val = t.val / 8) (hs : s.val = t.val % 8 * 512 + r.val) :
    ((cfg0.win 5).blk t).view.emb (ix3 0 r f) = ix3 b s f := by
  blk_ext [at5]

theorem array5 : (dats m 0 c).arrAt 5 cfg0.N = fourth m c := by
  refine (dats m 0 c).arrAt_eq_of_covers 5 _ (by decide +kernel) fun t hf y => ?_
  obtain ⟨r, f, rfl⟩ := Spots.front 512 256 y
  have ht := inside t
  have hr := r.isLt
  have e : (dats m 0 c).after 5 t ((cfg0.win 5).xinj (cfg0.grid.coords t) (ix3 0 r f)) = fourth m c (ix3 ⟨t.val / 8, by omega⟩ ⟨t.val % 8 * 512 + r.val, by omega⟩ f) := by
    rw [after0_5]
    exact (fourth_at _ _ r f).trans (dots_block m c t r _ ⟨t.val / 8, by omega⟩ ⟨t.val % 8 * 512 + r.val, by omega⟩ rfl rfl)
  rw [e, place5 t r f ⟨t.val / 8, by omega⟩ ⟨t.val % 8 * 512 + r.val, by omega⟩ rfl rfl]
  exact cast_eq _ _

def fifth : FVec Ideal S2x4096x128 .f32 := fun i =>
  columns m c ⟨(i 0).val, (i 0).isLt⟩ ⟨(i 1).val, (i 1).isLt⟩ ⟨3200 + (i 2).val, by have h : (i 2).val < 128 := (i 2).isLt; omega⟩

theorem place6 (t : Fin cfg0.N) (r : Fin 512) (f : Fin 128) (b : Fin 2) (s : Fin 4096) (hb : b.val = t.val / 8) (hs : s.val = t.val % 8 * 512 + r.val) :
    ((cfg0.win 6).blk t).view.emb (ix3 0 r f) = ix3 b s f := by
  blk_ext [at6]

theorem array6 : (dats m 0 c).arrAt 6 cfg0.N = fifth m c := by
  refine (dats m 0 c).arrAt_eq_of_covers 6 _ (by decide +kernel) fun t hf y => ?_
  obtain ⟨r, f, rfl⟩ := Spots.front 512 128 y
  have ht := inside t
  have hr := r.isLt
  have e : (dats m 0 c).after 6 t ((cfg0.win 6).xinj (cfg0.grid.coords t) (ix3 0 r f)) = fifth m c (ix3 ⟨t.val / 8, by omega⟩ ⟨t.val % 8 * 512 + r.val, by omega⟩ f) := by
    rw [after0_6]
    exact (fifth_at _ _ r f).trans (dots_block m c t r _ ⟨t.val / 8, by omega⟩ ⟨t.val % 8 * 512 + r.val, by omega⟩ rfl rfl)
  rw [e, place6 t r f ⟨t.val / 8, by omega⟩ ⟨t.val % 8 * 512 + r.val, by omega⟩ rfl rfl]
  exact cast_eq _ _

theorem arrays_apart : Function.Injective (Pipeline.arrRef spec0) := by decide

/-- The two narrow results, cut from the last array. -/
def steps : FVec Ideal S2x4096x16 .f32 := extractStridedSlice S2x4096x16 ![0, 0, 0] (fifth m c) slices_S2x4096x128_S2x4096x16_0_0_0
def rotary : FVec Ideal S2x4096x32 .f32 := extractStridedSlice S2x4096x32 ![0, 0, 16] (fifth m c) slices_S2x4096x128_S2x4096x32_0_0_16

theorem tail_steps : Pipeline.afterTail₀ cfgs (dats m) 0 (V0 m) [hostOps1] c main_v10 = steps m c := by
  unfold Pipeline.afterTail₀
  have e := (Pipeline.withArrays_arr spec0 arrays_apart c (V0 m c) (fun w => (dats m 0 c).arrAt w cfg0.N) 6).trans (array6 m c)
  generalize Pipeline.withArrays spec0 c (V0 m c) (fun w => (dats m 0 c).arrAt w cfg0.N) = W at e
  have r : StableHlo.after hostOps1 W (Proc.devRef .tc main_v10) = extractStridedSlice S2x4096x16 ![0, 0, 0] (W (Proc.devRef .tc main_v9_4)) slices_S2x4096x128_S2x4096x16_0_0_0 := by
    after_results
  exact r.trans (congrArg (fun x : FVec Ideal S2x4096x128 .f32 => extractStridedSlice S2x4096x16 ![0, 0, 0] x slices_S2x4096x128_S2x4096x16_0_0_0) e)

theorem tail_rotary : Pipeline.afterTail₀ cfgs (dats m) 0 (V0 m) [hostOps1] c main_v11 = rotary m c := by
  unfold Pipeline.afterTail₀
  have e := (Pipeline.withArrays_arr spec0 arrays_apart c (V0 m c) (fun w => (dats m 0 c).arrAt w cfg0.N) 6).trans (array6 m c)
  generalize Pipeline.withArrays spec0 c (V0 m c) (fun w => (dats m 0 c).arrAt w cfg0.N) = W at e
  have r : StableHlo.after hostOps1 W (Proc.devRef .tc main_v11) = extractStridedSlice S2x4096x32 ![0, 0, 16] (W (Proc.devRef .tc main_v9_4)) slices_S2x4096x128_S2x4096x32_0_0_16 := by
    after_results
  exact r.trans (congrArg (fun x : FVec Ideal S2x4096x128 .f32 => extractStridedSlice S2x4096x32 ![0, 0, 16] x slices_S2x4096x128_S2x4096x32_0_0_16) e)

/-- The call's six results, and its arguments as they were. -/
theorem kernel_run : θ_run defs (onTc (τ := τ) (main (F := Ideal))) ⟨m, fun _ => 0, ρ⟩ (fun r => ∀ c : Dev nD,
      r.2.mem ((c : Tc).loc main_v9_0) = first m c
    ∧ r.2.mem ((c : Tc).loc main_v9_1) = second m c
    ∧ r.2.mem ((c : Tc).loc main_v9_2) = third m c
    ∧ r.2.mem ((c : Tc).loc main_v9_3) = fourth m c
    ∧ r.2.mem ((c : Tc).loc main_v10) = steps m c
    ∧ r.2.mem ((c : Tc).loc main_v11) = rotary m c
    ∧ r.2.mem ((c : Tc).loc main_arg0) = m ((c : Tc).loc main_arg0)
    ∧ r.2.mem ((c : Tc).loc main_arg1) = m ((c : Tc).loc main_arg1)) :=
  (θ_run defs _ _).mono (fun r h c => ⟨((h.1 c).1 2).trans (array2 m c), ((h.1 c).1 3).trans (array3 m c), ((h.1 c).1 4).trans (array4 m c), ((h.1 c).1 5).trans (array5 m c),
    ((h.1 c).2 main_v10 (Pipeline.mem_restRefs_of main_v10 (by decide) (by decide))).trans (tail_steps m c),
    ((h.1 c).2 main_v11 (Pipeline.mem_restRefs_of main_v11 (by decide) (by decide))).trans (tail_rotary m c), h.2 c⟩)
    (θ_run_and (run_main m ρ) (unchanged m ρ))
-- ==== Proof.Proj.lean ====
/-
  The mixer's input projection is the reference's.
-/
module

public import proofs.«01_k».proof.Defs
public import proofs.«01_k».proof.Proof.ProjArrays
public import proofs.«01_k».proof.Proof.Gen.Reference8Ideal.Read

@[expose] public noncomputable section

set_option maxRecDepth 16384

namespace Cert.Proof.Proj

open Idealize ShloMosaic ShloMosaic.TcCoe SL.Sem ShloMosaic.Pointwise

/-! ## The reference, entry by entry -/

namespace Reference

open Cert.Reference8Ideal Cert.Reference8Ideal.Gen Cert.Reference8Ideal.Read

/-- A position's product with a column of the weight. -/
def columns (x : FVec Ideal S2x4096x1024 .f32) (w : FVec Ideal S1024x3248 .f32) (b : Fin 2) (s : Fin 4096) (f : Fin 3248) : EReal :=
  ∑ d : Fin 1024, x (ix3 b s d) * w (ix2 d f)

variable (x : FVec Ideal S2x4096x1024 .f32) (w : FVec Ideal S1024x3248 .f32) (b : Fin 2) (s : Fin 4096)

theorem product_at (f : Fin 3248) : val_main_v0 (F := Ideal) x w (ix3 b s f) = columns x w b s f := by
  unfold columns
  pointwise [val_main_v0]

theorem first_at (f : Fin 1024) : val_main_v1 (F := Ideal) x w (ix3 b s f) = columns x w b s ⟨f.val, by omega⟩ := by
  rw [← product_at]
  unfold val_main_v1
  generalize val_main_v0 (F := Ideal) x w = p
  pointwise []

theorem second_at (f : Fin 1536) : val_main_v9 (F := Ideal) x w (ix3 b s f) = columns x w b s ⟨1024 + f.val, by omega⟩ := by
  rw [← product_at]
  unfold val_main_v9 val_main_v2 val_main_v3 val_main_v4
  generalize val_main_v0 (F := Ideal) x w = p
  pointwise []
  split_ifs
  all_goals exact congrArg (fun k => p (ix3 b s k)) (Fin.ext (by dsimp only <;> omega))

theorem third_at (f : Fin 384) : val_main_v6 (F := Ideal) x w (ix3 b s f) = columns x w b s ⟨2576 + f.val, by omega⟩ := by
  rw [← product_at]
  unfold val_main_v6
  generalize val_main_v0 (F := Ideal) x w = p
  pointwise []

theorem fourth_at (f : Fin 256) : val_main_v7 (F := Ideal) x w (ix3 b s f) = columns x w b s ⟨2960 + f.val, by omega⟩ := by
  rw [← product_at]
  unfold val_main_v7
  generalize val_main_v0 (F := Ideal) x w = p
  pointwise []

theorem steps_at (f : Fin 16) : val_main_v5 (F := Ideal) x w (ix3 b s f) = columns x w b s ⟨2560 + f.val, by omega⟩ := by
  rw [← product_at]
  unfold val_main_v5
  generalize val_main_v0 (F := Ideal) x w = p
  pointwise []

theorem rotary_at (f : Fin 32) : val_main_v8 (F := Ideal) x w (ix3 b s f) = columns x w b s ⟨3216 + f.val, by omega⟩ := by
  rw [← product_at]
  unfold val_main_v8
  generalize val_main_v0 (F := Ideal) x w = p
  pointwise []

end Reference

/-! ## The call's arrays are the reference's -/

section agree

open Cert.Kernel8Ideal Cert.Kernel8Ideal.Gen
local notation "Tc" => Thread nD τ

variable (m : (ℓ : Loc nD τ sig) → Buf (Elt Ideal) ℓ) (c : Dev nD)

/-- A column of the weight stands in the order of the call at the place that its number gives. -/
theorem columns_eq (b : Fin 2) (s : Fin 4096) (f : Fin 3328) (g : Fin 3248)
    (h : f.val < 2560 ∧ g.val = f.val ∨ 2560 ≤ f.val ∧ f.val < 3200 ∧ g.val = f.val + 16 ∨ 3200 ≤ f.val ∧ f.val < 3216 ∧ g.val + 640 = f.val ∨ 3216 ≤ f.val ∧ g.val = f.val) :
    Reference.columns (arg_h m c) (arg_in m c) b s g = columns m c b s f := by
  unfold columns Reference.columns
  refine Finset.sum_congr rfl fun d _ => congrArg (arg_h m c (ix3 b s d) * ·) ?_
  have hg := g.isLt
  unfold wide
  rcases h with ⟨h, e⟩ | ⟨h, h', e⟩ | ⟨h, h', e⟩ | ⟨h, e⟩
  · rw [if_pos h]
    exact congrArg (fun k : Fin 3248 => arg_in m c (ix2 d k)) (Fin.ext (by dsimp only; omega))
  · rw [if_neg (by omega), if_pos h']
    exact congrArg (fun k : Fin 3248 => arg_in m c (ix2 d k)) (Fin.ext (by dsimp only; omega))
  · rw [if_neg (by omega), if_neg (by omega), if_pos h']
    exact congrArg (fun k : Fin 3248 => arg_in m c (ix2 d k)) (Fin.ext (by dsimp only; omega))
  · rw [if_neg (by omega), if_neg (by omega), if_neg (by omega), if_pos (by omega)]
    exact congrArg (fun k : Fin 3248 => arg_in m c (ix2 d k)) (Fin.ext (by dsimp only; omega))

theorem steps_at (b : Fin 2) (s : Fin 4096) (f : Fin 16) : steps m c (ix3 b s f) = columns m c b s ⟨3200 + f.val, by omega⟩ := by
  unfold steps
  generalize e : fifth m c = p
  have e' : p (ix3 b s ⟨f.val, by omega⟩) = columns m c b s ⟨3200 + f.val, by omega⟩ := by rw [← e]; rfl
  rw [← e']
  pointwise []
theorem rotary_at (b : Fin 2) (s : Fin 4096) (f : Fin 32) : rotary m c (ix3 b s f) = columns m c b s ⟨3216 + f.val, by omega⟩ := by
  unfold rotary
  generalize e : fifth m c = p
  have e' : p (ix3 b s ⟨16 + f.val, by omega⟩) = columns m c b s ⟨3216 + f.val, by omega⟩ := by
    rw [← e]
    exact congrArg (columns m c b s) (Fin.ext (show 3200 + (16 + f.val) = 3216 + f.val by omega))
  rw [← e']
  pointwise []

theorem first_agree : Reference8Ideal.Read.val_main_v1 (F := Ideal) (m ((c : Tc).loc main_arg0)) (m ((c : Tc).loc main_arg1)) = first m c := by
  funext i
  obtain ⟨b, s, f, rfl⟩ := Spots.cube 2 4096 1024 i
  refine (Reference.first_at _ _ b s f).trans ?_
  refine (columns_eq m c b s ⟨0 + f.val, by omega⟩ _ (by dsimp only; omega))
theorem second_agree : Reference8Ideal.Read.val_main_v9 (F := Ideal) (m ((c : Tc).loc main_arg0)) (m ((c : Tc).loc main_arg1)) = second m c := by
  funext i
  obtain ⟨b, s, f, rfl⟩ := Spots.cube 2 4096 1536 i
  refine (Reference.second_at _ _ b s f).trans ?_
  refine (columns_eq m c b s ⟨1024 + f.val, by omega⟩ _ (by dsimp only; omega))
theorem third_agree : Reference8Ideal.Read.val_main_v6 (F := Ideal) (m ((c : Tc).loc main_arg0)) (m ((c : Tc).loc main_arg1)) = third m c := by
  funext i
  obtain ⟨b, s, f, rfl⟩ := Spots.cube 2 4096 384 i
  refine (Reference.third_at _ _ b s f).trans ?_
  refine (columns_eq m c b s ⟨2560 + f.val, by omega⟩ _ (by dsimp only; omega))
theorem fourth_agree : Reference8Ideal.Read.val_main_v7 (F := Ideal) (m ((c : Tc).loc main_arg0)) (m ((c : Tc).loc main_arg1)) = fourth m c := by
  funext i
  obtain ⟨b, s, f, rfl⟩ := Spots.cube 2 4096 256 i
  refine (Reference.fourth_at _ _ b s f).trans ?_
  refine (columns_eq m c b s ⟨2944 + f.val, by omega⟩ _ (by dsimp only; omega))
theorem steps_agree : Reference8Ideal.Read.val_main_v5 (F := Ideal) (m ((c : Tc).loc main_arg0)) (m ((c : Tc).loc main_arg1)) = steps m c := by
  funext i
  obtain ⟨b, s, f, rfl⟩ := Spots.cube 2 4096 16 i
  refine (Reference.steps_at _ _ b s f).trans ?_
  refine (columns_eq m c b s ⟨3200 + f.val, by omega⟩ _ (by dsimp only; omega)).trans (steps_at m c b s f).symm
theorem rotary_agree : Reference8Ideal.Read.val_main_v8 (F := Ideal) (m ((c : Tc).loc main_arg0)) (m ((c : Tc).loc main_arg1)) = rotary m c := by
  funext i
  obtain ⟨b, s, f, rfl⟩ := Spots.cube 2 4096 32 i
  refine (Reference.rotary_at _ _ b s f).trans ?_
  refine (columns_eq m c b s ⟨3216 + f.val, by omega⟩ _ (by dsimp only; omega)).trans (rotary_at m c b s f).symm

end agree

theorem algebraic : Cert.algebraic_Kernel8Ideal_Reference8Ideal (hKernel8Ideal := Cert.Kernel8Ideal.Gen.facts)
    (hReference8Ideal := Cert.Reference8Ideal.Gen.facts) := by
  intro m g m' g' hf he
  refine ⟨_, _, _, _, _, _, kernel_run m g, ?_⟩
  refine (θ_run _ _ _).mono (fun r h c => ?_) (Cert.Reference8Ideal.Value.run (F := Ideal) m' g')
  obtain ⟨e0, e1⟩ := he c
  refine ⟨(h c).1.trans ((Reference8Ideal.Read.val_main_v1_eq _ _).trans (by rw [e0, e1]; exact first_agree m c)),
    (h c).2.1.trans ((Reference8Ideal.Read.val_main_v9_eq _ _).trans (by rw [e0, e1]; exact second_agree m c)),
    (h c).2.2.1.trans ((Reference8Ideal.Read.val_main_v6_eq _ _).trans (by rw [e0, e1]; exact third_agree m c)),
    (h c).2.2.2.1.trans ((Reference8Ideal.Read.val_main_v7_eq _ _).trans (by rw [e0, e1]; exact fourth_agree m c)),
    (h c).2.2.2.2.1.trans ((Reference8Ideal.Read.val_main_v5_eq _ _).trans (by rw [e0, e1]; exact steps_agree m c)),
    (h c).2.2.2.2.2.1.trans ((Reference8Ideal.Read.val_main_v8_eq _ _).trans (by rw [e0, e1]; exact rotary_agree m c)),
    (h c).2.2.2.2.2.2⟩
-- ==== Proof.InTile.lean ====
/-
  The gradient of the input projection's weight: what one point of the grid adds to the accumulator, and what the last point writes.
-/
module

public import proofs.«01_k».proof.Proof.Spots
public import proofs.«01_k».proof.Proof.Gen.Kernel9Ideal.Frame
public import Idealize.ShloMosaic.Lib.Pipeline.ValueKit
public import Idealize.ShloMosaic.Lib.Pipeline.ReadBack

@[expose] public noncomputable section

set_option maxRecDepth 16384

namespace Cert.Proof.In

open Idealize ShloMosaic ShloMosaic.TcCoe SL.Sem ShloMosaic.Pointwise
open Cert.Kernel9Ideal Cert.Kernel9Ideal.Gen

section tile

variable (x0 : FVec Ideal S1x1024x1024 .bf16) (x1 : FVec Ideal S1x1024x1536 .bf16) (x2 : FVec Ideal S1x1024x384 .bf16) (x3 : FVec Ideal S1x1024x256 .bf16)
  (x4 : FVec Ideal S1x1024x128 .bf16) (x5 : FVec Ideal S1x1024x1024 .bf16)

/-- A row of the five blocks, side by side. -/
def joined (r : Fin 1024) (f : Fin 3328) : EReal :=
  if h : f.val < 1024 then x0 (ix3 0 r ⟨f.val, h⟩) else if h : f.val < 2560 then x1 (ix3 0 r ⟨f.val - 1024, by omega⟩)
  else if h : f.val < 2944 then x2 (ix3 0 r ⟨f.val - 2560, by omega⟩) else if h : f.val < 3200 then x3 (ix3 0 r ⟨f.val - 2944, by omega⟩)
  else x4 (ix3 0 r ⟨f.val - 3200, by omega⟩)

/-- The product of a point's blocks over its positions. -/
def part (f : Fin 3328) (d : Fin 1024) : EReal := ∑ r : Fin 1024, joined x0 x1 x2 x3 x4 r f * x5 (ix3 0 r d)

/-- What a point leaves, over what it found. -/
def next (A : FVec Ideal S3328x1024 .f32) : FVec Ideal S3328x1024 .f32 := fun i =>
  A i + part x0 x1 x2 x3 x4 x5 ⟨(i 0).val, (i 0).isLt⟩ ⟨(i 1).val, (i 1).isLt⟩

theorem joined_z (r : Fin 1024) (f : Fin 1024) : joined x0 x1 x2 x3 x4 r ⟨0 + f.val, by omega⟩ = x0 (ix3 0 r f) := by
  unfold joined
  rw [dif_pos (by dsimp only; omega)]
  exact congrArg (fun k => x0 (ix3 0 r k)) (Fin.ext (by dsimp only <;> omega))

theorem z_at (A : FVec Ideal S1024x1024 .f32) (f : Fin 1024) (d : Fin 1024) :
    k0_pay19 (F := Ideal) x5 A x0 (ix2 f d) = A (ix2 f d) + part x0 x1 x2 x3 x4 x5 ⟨0 + f.val, by omega⟩ d := by
  unfold part
  simp only [joined_z]
  pointwise [k0_pay19, k0_pay18]

theorem z_piece (A : FVec Ideal S3328x1024 .f32) (x : S1024x1024.Idx) :
    k0_pay19 (F := Ideal) x5 (View.ld A (Rect.unit (s := S3328x1024) ![0, 0] ![1024, 1024] inb_S3328x1024_S1024x1024_0_0)) x0 x
      = next x0 x1 x2 x3 x4 x5 A ((Rect.unit (s := S3328x1024) ![0, 0] ![1024, 1024] inb_S3328x1024_S1024x1024_0_0).emb x) := by
  obtain ⟨f, d, rfl⟩ := Spots.plane 1024 1024 x
  refine (z_at x0 x1 x2 x3 x4 x5 _ f d).trans ?_
  unfold next
  refine congrArg₂ (· + ·) rfl (congrArg₂ (part x0 x1 x2 x3 x4 x5) (Fin.ext ?_) (Fin.ext ?_))
  · show 0 + f.val = 0 + 1 * f.val
    omega
  · show d.val = 0 + 1 * d.val
    omega

theorem joined_u (r : Fin 1024) (f : Fin 1536) : joined x0 x1 x2 x3 x4 r ⟨1024 + f.val, by omega⟩ = x1 (ix3 0 r f) := by
  unfold joined
  rw [dif_neg (by dsimp only; omega), dif_pos (by dsimp only; omega)]
  exact congrArg (fun k => x1 (ix3 0 r k)) (Fin.ext (by dsimp only <;> omega))

theorem u_at (A : FVec Ideal S1536x1024 .f32) (f : Fin 1536) (d : Fin 1024) :
    k0_pay20 (F := Ideal) x5 A x1 (ix2 f d) = A (ix2 f d) + part x0 x1 x2 x3 x4 x5 ⟨1024 + f.val, by omega⟩ d := by
  unfold part
  simp only [joined_u]
  pointwise [k0_pay20, k0_pay18]

theorem u_piece (A : FVec Ideal S3328x1024 .f32) (x : S1536x1024.Idx) :
    k0_pay20 (F := Ideal) x5 (View.ld A (Rect.unit (s := S3328x1024) ![1024, 0] ![1536, 1024] inb_S3328x1024_S1536x1024_1024_0)) x1 x
      = next x0 x1 x2 x3 x4 x5 A ((Rect.unit (s := S3328x1024) ![1024, 0] ![1536, 1024] inb_S3328x1024_S1536x1024_1024_0).emb x) := by
  obtain ⟨f, d, rfl⟩ := Spots.plane 1536 1024 x
  refine (u_at x0 x1 x2 x3 x4 x5 _ f d).trans ?_
  unfold next
  refine congrArg₂ (· + ·) rfl (congrArg₂ (part x0 x1 x2 x3 x4 x5) (Fin.ext ?_) (Fin.ext ?_))
  · show 1024 + f.val = 1024 + 1 * f.val
    omega
  · show d.val = 0 + 1 * d.val
    omega

theorem joined_q (r : Fin 1024) (f : Fin 384) : joined x0 x1 x2 x3 x4 r ⟨2560 + f.val, by omega⟩ = x2 (ix3 0 r f) := by
  unfold joined
  rw [dif_neg (by dsimp only; omega), dif_neg (by dsimp only; omega), dif_pos (by dsimp only; omega)]
  exact congrArg (fun k => x2 (ix3 0 r k)) (Fin.ext (by dsimp only <;> omega))

theorem q_at (A : FVec Ideal S384x1024 .f32) (f : Fin 384) (d : Fin 1024) :
    k0_pay1 (F := Ideal) (k0_pay18 x5) A x2 (ix2 f d) = A (ix2 f d) + part x0 x1 x2 x3 x4 x5 ⟨2560 + f.val, by omega⟩ d := by
  unfold part
  simp only [joined_q]
  pointwise [k0_pay1, k0_pay18]

theorem q_piece (A : FVec Ideal S3328x1024 .f32) (x : S384x1024.Idx) :
    k0_pay1 (F := Ideal) (k0_pay18 x5) (View.ld A (Rect.unit (s := S3328x1024) ![2560, 0] ![384, 1024] inb_S3328x1024_S384x1024_2560_0)) x2 x
      = next x0 x1 x2 x3 x4 x5 A ((Rect.unit (s := S3328x1024) ![2560, 0] ![384, 1024] inb_S3328x1024_S384x1024_2560_0).emb x) := by
  obtain ⟨f, d, rfl⟩ := Spots.plane 384 1024 x
  refine (q_at x0 x1 x2 x3 x4 x5 _ f d).trans ?_
  unfold next
  refine congrArg₂ (· + ·) rfl (congrArg₂ (part x0 x1 x2 x3 x4 x5) (Fin.ext ?_) (Fin.ext ?_))
  · show 2560 + f.val = 2560 + 1 * f.val
    omega
  · show d.val = 0 + 1 * d.val
    omega

theorem joined_k (r : Fin 1024) (f : Fin 256) : joined x0 x1 x2 x3 x4 r ⟨2944 + f.val, by omega⟩ = x3 (ix3 0 r f) := by
  unfold joined
  rw [dif_neg (by dsimp only; omega), dif_neg (by dsimp only; omega), dif_neg (by dsimp only; omega), dif_pos (by dsimp only; omega)]
  exact congrArg (fun k => x3 (ix3 0 r k)) (Fin.ext (by dsimp only <;> omega))

theorem k_at (A : FVec Ideal S256x1024 .f32) (f : Fin 256) (d : Fin 1024) :
    k0_pay2 (F := Ideal) (k0_pay18 x5) A x3 (ix2 f d) = A (ix2 f d) + part x0 x1 x2 x3 x4 x5 ⟨2944 + f.val, by omega⟩ d := by
  unfold part
  simp only [joined_k]
  pointwise [k0_pay2, k0_pay18]

theorem k_piece (A : FVec Ideal S3328x1024 .f32) (x : S256x1024.Idx) :
    k0_pay2 (F := Ideal) (k0_pay18 x5) (View.ld A (Rect.unit (s := S3328x1024) ![2944, 0] ![256, 1024] inb_S3328x1024_S256x1024_2944_0)) x3 x
      = next x0 x1 x2 x3 x4 x5 A ((Rect.unit (s := S3328x1024) ![2944, 0] ![256, 1024] inb_S3328x1024_S256x1024_2944_0).emb x) := by
  obtain ⟨f, d, rfl⟩ := Spots.plane 256 1024 x
  refine (k_at x0 x1 x2 x3 x4 x5 _ f d).trans ?_
  unfold next
  refine congrArg₂ (· + ·) rfl (congrArg₂ (part x0 x1 x2 x3 x4 x5) (Fin.ext ?_) (Fin.ext ?_))
  · show 2944 + f.val = 2944 + 1 * f.val
    omega
  · show d.val = 0 + 1 * d.val
    omega

theorem joined_narrow (r : Fin 1024) (f : Fin 128) : joined x0 x1 x2 x3 x4 r ⟨3200 + f.val, by omega⟩ = x4 (ix3 0 r f) := by
  unfold joined
  rw [dif_neg (by dsimp only; omega), dif_neg (by dsimp only; omega), dif_neg (by dsimp only; omega), dif_neg (by dsimp only; omega)]
  exact congrArg (fun k => x4 (ix3 0 r k)) (Fin.ext (by dsimp only <;> omega))

theorem narrow_at (A : FVec Ideal S128x1024 .f32) (f : Fin 128) (d : Fin 1024) :
    k0_pay3 (F := Ideal) (k0_pay18 x5) A x4 (ix2 f d) = A (ix2 f d) + part x0 x1 x2 x3 x4 x5 ⟨3200 + f.val, by omega⟩ d := by
  unfold part
  simp only [joined_narrow]
  pointwise [k0_pay3, k0_pay18]

theorem narrow_piece (A : FVec Ideal S3328x1024 .f32) (x : S128x1024.Idx) :
    k0_pay3 (F := Ideal) (k0_pay18 x5) (View.ld A (Rect.unit (s := S3328x1024) ![3200, 0] ![128, 1024] inb_S3328x1024_S128x1024_3200_0)) x4 x
      = next x0 x1 x2 x3 x4 x5 A ((Rect.unit (s := S3328x1024) ![3200, 0] ![128, 1024] inb_S3328x1024_S128x1024_3200_0).emb x) := by
  obtain ⟨f, d, rfl⟩ := Spots.plane 128 1024 x
  refine (narrow_at x0 x1 x2 x3 x4 x5 _ f d).trans ?_
  unfold next
  refine congrArg₂ (· + ·) rfl (congrArg₂ (part x0 x1 x2 x3 x4 x5) (Fin.ext ?_) (Fin.ext ?_))
  · show 3200 + f.val = 3200 + 1 * f.val
    omega
  · show d.val = 0 + 1 * d.val
    omega

/-- The accumulator's row of a column of the weight: the calls keep the columns in another order than the weight. -/
def row (n : ℕ) : ℕ := if n < 2560 then n else if n < 2576 then n + 640 else if n < 3216 then n - 16 else n

theorem row_lt (n : ℕ) (h : n < 3248) : row n < 3328 := by
  unfold row
  split_ifs <;> omega

/-- The accumulator in the weight's order, cut into the devices' parts. -/
def folded (Y : FVec Ideal S3328x1024 .f32) : FVec Ideal S8x406x1024 .bf16 := fun i =>
  Y (ix2 ⟨row ((i 0).val * 406 + (i 1).val), row_lt _ (by have h0 : (i 0).val < 8 := (i 0).isLt; have h1 : (i 1).val < 406 := (i 1).isLt; omega)⟩ ⟨(i 2).val, (i 2).isLt⟩)

theorem rows {n : ℕ} (x : (⟨3, ![1, n, 1024]⟩ : Shape).Idx) : ∃ (r : Fin n) (d : Fin 1024), x = ix3 0 r d :=
  ⟨x 1, x 2, by funext a; fin_cases a <;> first | rfl | exact Subsingleton.elim (α := Fin 1) _ _⟩

/-- A piece of the accumulator's rows, as the last point loads it. -/
def cut (o n : ℕ) (h : ∀ a, (![o, 0] : Fin 2 → ℕ) a + (![n, 1024] : Fin 2 → ℕ) a ≤ S3328x1024.size a) (Y : FVec Ideal S3328x1024 .f32) : FVec Ideal ⟨2, ![n, 1024]⟩ .f32 :=
  fun j => Y ((Rect.unit (s := S3328x1024) ![o, 0] ![n, 1024] h).idx j)

/-- A row of a loaded piece is a row of the part of the result that it is stored into. -/
theorem cut_at {o n a b : ℕ} (h h') (Y : FVec Ideal S3328x1024 .f32) (r : Fin n) (d : Fin 1024) (e : o + r.val = row (a * 406 + (b + r.val))) :
    cut o n h Y (ix2 r d) = folded Y ((Rect.unit (s := S8x406x1024) ![a, b, 0] ![1, n, 1024] h').emb (ix3 0 r d)) := by
  refine congrArg Y (funext fun x => Fin.ext ?_)
  fin_cases x
  · show o + 1 * r.val = row ((a + 1 * 0) * 406 + (b + 1 * r.val))
    rw [one_mul, e, Nat.mul_zero, Nat.add_zero]
  · rfl

theorem out4 (Y : FVec Ideal S3328x1024 .f32) (x : S1x32x1024.Idx) :
    k0_pay4 (F := Ideal) (cut 3216 32 inb_S3328x1024_S32x1024_3216_0 Y) x = folded Y ((Rect.unit (s := S8x406x1024) ![7, 374, 0] ![1, 32, 1024] inb_S8x406x1024_S1x32x1024_7_374_0).emb x) := by
  obtain ⟨r, d, rfl⟩ := rows x
  have e : 3216 + r.val = row (7 * 406 + (374 + r.val)) := by have h := r.isLt; unfold row; split_ifs <;> omega
  refine Eq.trans ?_ (cut_at inb_S3328x1024_S32x1024_3216_0 _ Y r d e)
  generalize cut _ _ _ Y = Z
  pointwise [k0_pay4]

theorem out16 (Y : FVec Ideal S3328x1024 .f32) (x : S1x256x1024.Idx) :
    k0_pay16 (F := Ideal) (cut 2944 256 inb_S3328x1024_S256x1024_2944_0 Y) x = folded Y ((Rect.unit (s := S8x406x1024) ![7, 118, 0] ![1, 256, 1024] inb_S8x406x1024_S1x256x1024_7_118_0).emb x) := by
  obtain ⟨r, d, rfl⟩ := rows x
  have e : 2944 + r.val = row (7 * 406 + (118 + r.val)) := by have h := r.isLt; unfold row; split_ifs <;> omega
  refine Eq.trans ?_ (cut_at inb_S3328x1024_S256x1024_2944_0 _ Y r d e)
  generalize cut _ _ _ Y = Z
  pointwise [k0_pay16]

theorem out15 (Y : FVec Ideal S3328x1024 .f32) (x : S1x118x1024.Idx) :
    k0_pay15 (F := Ideal) (cut 2826 118 inb_S3328x1024_S118x1024_2826_0 Y) x = folded Y ((Rect.unit (s := S8x406x1024) ![7, 0, 0] ![1, 118, 1024] inb_S8x406x1024_S1x118x1024_7_0_0).emb x) := by
  obtain ⟨r, d, rfl⟩ := rows x
  have e : 2826 + r.val = row (7 * 406 + (0 + r.val)) := by have h := r.isLt; unfold row; split_ifs <;> omega
  refine Eq.trans ?_ (cut_at inb_S3328x1024_S118x1024_2826_0 _ Y r d e)
  generalize cut _ _ _ Y = Z
  pointwise [k0_pay15]

theorem out14 (Y : FVec Ideal S3328x1024 .f32) (x : S1x266x1024.Idx) :
    k0_pay14 (F := Ideal) (cut 2560 266 inb_S3328x1024_S266x1024_2560_0 Y) x = folded Y ((Rect.unit (s := S8x406x1024) ![6, 140, 0] ![1, 266, 1024] inb_S8x406x1024_S1x266x1024_6_140_0).emb x) := by
  obtain ⟨r, d, rfl⟩ := rows x
  have e : 2560 + r.val = row (6 * 406 + (140 + r.val)) := by have h := r.isLt; unfold row; split_ifs <;> omega
  refine Eq.trans ?_ (cut_at inb_S3328x1024_S266x1024_2560_0 _ Y r d e)
  generalize cut _ _ _ Y = Z
  pointwise [k0_pay14]

theorem out13 (Y : FVec Ideal S3328x1024 .f32) (x : S1x16x1024.Idx) :
    k0_pay13 (F := Ideal) (cut 3200 16 inb_S3328x1024_S16x1024_3200_0 Y) x = folded Y ((Rect.unit (s := S8x406x1024) ![6, 124, 0] ![1, 16, 1024] inb_S8x406x1024_S1x16x1024_6_124_0).emb x) := by
  obtain ⟨r, d, rfl⟩ := rows x
  have e : 3200 + r.val = row (6 * 406 + (124 + r.val)) := by have h := r.isLt; unfold row; split_ifs <;> omega
  refine Eq.trans ?_ (cut_at inb_S3328x1024_S16x1024_3200_0 _ Y r d e)
  generalize cut _ _ _ Y = Z
  pointwise [k0_pay13]

theorem out12 (Y : FVec Ideal S3328x1024 .f32) (x : S1x124x1024.Idx) :
    k0_pay12 (F := Ideal) (cut 2436 124 inb_S3328x1024_S124x1024_2436_0 Y) x = folded Y ((Rect.unit (s := S8x406x1024) ![6, 0, 0] ![1, 124, 1024] inb_S8x406x1024_S1x124x1024_6_0_0).emb x) := by
  obtain ⟨r, d, rfl⟩ := rows x
  have e : 2436 + r.val = row (6 * 406 + (0 + r.val)) := by have h := r.isLt; unfold row; split_ifs <;> omega
  refine Eq.trans ?_ (cut_at inb_S3328x1024_S124x1024_2436_0 _ Y r d e)
  generalize cut _ _ _ Y = Z
  pointwise [k0_pay12]

theorem out11 (Y : FVec Ideal S3328x1024 .f32) (x : S1x406x1024.Idx) :
    k0_pay11 (F := Ideal) (k0_pay10 (cut 2030 406 inb_S3328x1024_S406x1024_2030_0 Y)) x = folded Y ((Rect.unit (s := S8x406x1024) ![5, 0, 0] ![1, 406, 1024] inb_S8x406x1024_S1x406x1024_5_0_0).emb x) := by
  obtain ⟨r, d, rfl⟩ := rows x
  have e : 2030 + r.val = row (5 * 406 + (0 + r.val)) := by have h := r.isLt; unfold row; split_ifs <;> omega
  refine Eq.trans ?_ (cut_at inb_S3328x1024_S406x1024_2030_0 _ Y r d e)
  generalize cut _ _ _ Y = Z
  pointwise [k0_pay11, k0_pay10]

theorem out9 (Y : FVec Ideal S3328x1024 .f32) (x : S1x406x1024.Idx) :
    k0_pay9 (F := Ideal) (cut 1624 406 inb_S3328x1024_S406x1024_1624_0 Y) x = folded Y ((Rect.unit (s := S8x406x1024) ![4, 0, 0] ![1, 406, 1024] inb_S8x406x1024_S1x406x1024_4_0_0).emb x) := by
  obtain ⟨r, d, rfl⟩ := rows x
  have e : 1624 + r.val = row (4 * 406 + (0 + r.val)) := by have h := r.isLt; unfold row; split_ifs <;> omega
  refine Eq.trans ?_ (cut_at inb_S3328x1024_S406x1024_1624_0 _ Y r d e)
  generalize cut _ _ _ Y = Z
  pointwise [k0_pay9]

theorem out8 (Y : FVec Ideal S3328x1024 .f32) (x : S1x406x1024.Idx) :
    k0_pay8 (F := Ideal) (cut 1218 406 inb_S3328x1024_S406x1024_1218_0 Y) x = folded Y ((Rect.unit (s := S8x406x1024) ![3, 0, 0] ![1, 406, 1024] inb_S8x406x1024_S1x406x1024_3_0_0).emb x) := by
  obtain ⟨r, d, rfl⟩ := rows x
  have e : 1218 + r.val = row (3 * 406 + (0 + r.val)) := by have h := r.isLt; unfold row; split_ifs <;> omega
  refine Eq.trans ?_ (cut_at inb_S3328x1024_S406x1024_1218_0 _ Y r d e)
  generalize cut _ _ _ Y = Z
  pointwise [k0_pay8]

theorem out7 (Y : FVec Ideal S3328x1024 .f32) (x : S1x406x1024.Idx) :
    k0_pay7 (F := Ideal) (cut 812 406 inb_S3328x1024_S406x1024_812_0 Y) x = folded Y ((Rect.unit (s := S8x406x1024) ![2, 0, 0] ![1, 406, 1024] inb_S8x406x1024_S1x406x1024_2_0_0).emb x) := by
  obtain ⟨r, d, rfl⟩ := rows x
  have e : 812 + r.val = row (2 * 406 + (0 + r.val)) := by have h := r.isLt; unfold row; split_ifs <;> omega
  refine Eq.trans ?_ (cut_at inb_S3328x1024_S406x1024_812_0 _ Y r d e)
  generalize cut _ _ _ Y = Z
  pointwise [k0_pay7]

theorem out6 (Y : FVec Ideal S3328x1024 .f32) (x : S1x406x1024.Idx) :
    k0_pay6 (F := Ideal) (cut 406 406 inb_S3328x1024_S406x1024_406_0 Y) x = folded Y ((Rect.unit (s := S8x406x1024) ![1, 0, 0] ![1, 406, 1024] inb_S8x406x1024_S1x406x1024_1_0_0).emb x) := by
  obtain ⟨r, d, rfl⟩ := rows x
  have e : 406 + r.val = row (1 * 406 + (0 + r.val)) := by have h := r.isLt; unfold row; split_ifs <;> omega
  refine Eq.trans ?_ (cut_at inb_S3328x1024_S406x1024_406_0 _ Y r d e)
  generalize cut _ _ _ Y = Z
  pointwise [k0_pay6]

theorem out5 (Y : FVec Ideal S3328x1024 .f32) (x : S1x406x1024.Idx) :
    k0_pay5 (F := Ideal) (cut 0 406 inb_S3328x1024_S406x1024_0_0 Y) x = folded Y ((Rect.unit (s := S8x406x1024) ![0, 0, 0] ![1, 406, 1024] inb_S8x406x1024_S1x406x1024_0_0_0).emb x) := by
  obtain ⟨r, d, rfl⟩ := rows x
  have e : 0 + r.val = row (0 * 406 + (0 + r.val)) := by have h := r.isLt; unfold row; split_ifs <;> omega
  refine Eq.trans ?_ (cut_at inb_S3328x1024_S406x1024_0_0 _ Y r d e)
  generalize cut _ _ _ Y = Z
  pointwise [k0_pay5]

end tile

variable (m : (ℓ : Loc nD τ sig) → Buf (Elt Ideal) ℓ) (c : Dev nD)

theorem sum_first (t : Fin cfg0.N) (h : t.val % 8 = 0) :
    (outsAt0 m c t.val t.isLt).2 = next (iblk m c 0 t) (iblk m c 1 t) (iblk m c 2 t) (iblk m c 3 t) (iblk m c 4 t) (iblk m c 5 t) (fun _ => 0) := by
  rw [outsAt0_A m c t h (by omega)]
  frame_out
  have e : k0_pay17 (F := Ideal) = fun _ => 0 := by
    funext i
    obtain ⟨f, d, rfl⟩ := Spots.plane 3328 1024 i
    pointwise [k0_pay17]
  simp (disch := decide) only [View.readCov_skip, View.readCov_fill, e]
  funext y
  exact View.canon_append_of_piecesOf _ [_] [_, _, _, _, _] ⟨narrow_piece _ _ _ _ _ _ _, k_piece _ _ _ _ _ _ _, q_piece _ _ _ _ _ _ _, u_piece _ _ _ _ _ _ _, z_piece _ _ _ _ _ _ _, trivial⟩ y
    (View.cover_of_tiledBy _ ![128, 1024] (by sl_kernel_rfl) y)

theorem sum_next (t : Fin cfg0.N) (h : ¬t.val % 8 = 0) :
    (outsAt0 m c t.val t.isLt).2 = next (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  by_cases h7 : t.val % 8 = 7
  · rw [outsAt0_C m c t h h7]
    frame_out
    simp only [read_unread_whole]
    funext y
    exact View.canon_append_of_piecesOf _ [] [_, _, _, _, _] ⟨narrow_piece _ _ _ _ _ _ _, k_piece _ _ _ _ _ _ _, q_piece _ _ _ _ _ _ _, u_piece _ _ _ _ _ _ _, z_piece _ _ _ _ _ _ _, trivial⟩ y
      (View.cover_of_tiledBy _ ![128, 1024] (by sl_kernel_rfl) y)
  · rw [outsAt0_B m c t h h7]
    frame_out
    simp only [read_unread_whole]
    funext y
    exact View.canon_append_of_piecesOf _ [] [_, _, _, _, _] ⟨narrow_piece _ _ _ _ _ _ _, k_piece _ _ _ _ _ _ _, q_piece _ _ _ _ _ _ _, u_piece _ _ _ _ _ _ _, z_piece _ _ _ _ _ _ _, trivial⟩ y
      (View.cover_of_tiledBy _ ![128, 1024] (by sl_kernel_rfl) y)

/-- At the last point the block written is the accumulator, in the weight's order. -/
theorem written (t : Fin cfg0.N) (h : t.val % 8 = 7) : (outsAt0 m c t.val t.isLt).1 = folded (outsAt0 m c t.val t.isLt).2 := by
  rw [outsAt0_C m c t (by omega) h]
  frame_out
  simp only [View.readCov_eq_canon']
  generalize View.canon (Val := Elt Ideal) (s := S3328x1024) (e := .f32) _ = Y
  funext y
  exact View.canon_append_of_piecesOf _ [] [_, _, _, _, _, _, _, _, _, _, _, _] ⟨out4 Y, out16 Y, out15 Y, out14 Y, out13 Y, out12 Y, out11 Y, out9 Y, out8 Y, out7 Y, out6 Y, out5 Y, trivial⟩ y
    (View.cover_of_tiledBy _ ![1, 2, 1024] (by sl_kernel_rfl) y)

/-- The accumulator at the end is the sum of every point's products. -/
theorem accumulated (t : Fin cfg0.N) (h : t.val % 8 = 7) (f : Fin 3328) (d : Fin 1024) :
    (outsAt0 m c t.val t.isLt).2 (ix2 f d)
      = ∑ s : Fin 8, part (iblk m c 0 ⟨8 * (t.val / 8) + s.val, Pipeline.run_point_lt_of_flush t h s⟩) (iblk m c 1 ⟨8 * (t.val / 8) + s.val, Pipeline.run_point_lt_of_flush t h s⟩) (iblk m c 2 ⟨8 * (t.val / 8) + s.val, Pipeline.run_point_lt_of_flush t h s⟩) (iblk m c 3 ⟨8 * (t.val / 8) + s.val, Pipeline.run_point_lt_of_flush t h s⟩) (iblk m c 4 ⟨8 * (t.val / 8) + s.val, Pipeline.run_point_lt_of_flush t h s⟩) (iblk m c 5 ⟨8 * (t.val / 8) + s.val, Pipeline.run_point_lt_of_flush t h s⟩) f d := by
  rw [Pipeline.eq_sum_fin_of_reset_step_of_flush (fun n hn => (outsAt0 m c n hn).2 (ix2 f d)) 8 0
    (fun t => part (iblk m c 0 t) (iblk m c 1 t) (iblk m c 2 t) (iblk m c 3 t) (iblk m c 4 t) (iblk m c 5 t) f d) (fun t h => congrFun (sum_first m c t h) (ix2 f d))
    (fun t h => congrFun (sum_next m c t h) (ix2 f d)) t h, zero_add]
-- ==== Proof.In.lean ====
/-
  The gradient of the input projection's weight is the reference's: the sum over every position of the gradient's lane times the
  input's lane.
-/
module

public import proofs.«01_k».proof.Defs
public import proofs.«01_k».proof.Proof.InTile
public import proofs.«01_k».proof.Proof.Gen.Reference9Ideal.Read
public import Idealize.ShloMosaic.Lib.TwoAxisContraction
public import Idealize.ShloMosaic.Lib.StableHlo.RunRead

@[expose] public noncomputable section

set_option maxRecDepth 16384

namespace Cert.Proof.In

open Idealize ShloMosaic ShloMosaic.TcCoe SL.Sem ShloMosaic.Pointwise

/-- The gradient of the weight, transposed and cut into the devices' parts: the products summed over batch members and positions. -/
def gradient (x : FVec Ideal ⟨3, ![2, 4096, 1024]⟩ .f32) (o : FVec Ideal ⟨3, ![2, 4096, 3248]⟩ .f32) : FVec Ideal ⟨3, ![8, 406, 1024]⟩ .bf16 := fun i =>
  ∑ b : Fin 2, ∑ s : Fin 4096, o (ix3 b s ⟨(i 0).val * 406 + (i 1).val, by have h0 : (i 0).val < 8 := (i 0).isLt; have h1 : (i 1).val < 406 := (i 1).isLt; omega⟩)
    * x (ix3 b s ⟨(i 2).val, (i 2).isLt⟩)

section kernel

open Cert.Kernel9Ideal Cert.Kernel9Ideal.Gen
local notation "Tc" => Thread nD τ

variable (m : (ℓ : Loc nD τ sig) → Buf (Elt Ideal) ℓ) (ρ : Dev nD → PrngReg) (c : Dev nD)

theorem below (t : Fin cfg0.N) : t.val < 8 := lt_of_lt_of_eq t.isLt (show cfg0.N = 8 from N_0)

abbrev arg_h : FVec Ideal S2x4096x1024 .f32 := m ((c : Tc).loc main_arg0)
abbrev arg_grad : FVec Ideal S2x4096x3248 .f32 := m ((c : Tc).loc main_arg2)

theorem at0 : ∀ t : Fin cfg0.N, win0_0.index t = ![t.val / 4, t.val % 4, 0] := by decide +kernel
theorem at1 : ∀ t : Fin cfg0.N, win0_1.index t = ![t.val / 4, t.val % 4, 0] := by decide +kernel
theorem at2 : ∀ t : Fin cfg0.N, win0_2.index t = ![t.val / 4, t.val % 4, 0] := by decide +kernel
theorem at3 : ∀ t : Fin cfg0.N, win0_3.index t = ![t.val / 4, t.val % 4, 0] := by decide +kernel
theorem at4 : ∀ t : Fin cfg0.N, win0_4.index t = ![t.val / 4, t.val % 4, 0] := by decide +kernel
theorem at5 : ∀ t : Fin cfg0.N, win0_5.index t = ![t.val / 4, t.val % 4, 0] := by decide +kernel
theorem at6 : ∀ t : Fin cfg0.N, win0_6.index t = ![0, 0, 0] := by decide +kernel

theorem V_z (b : Fin 2) (s : Fin 4096) (f : Fin 1024) (h : 0 + f.val < 3248) :
    (V m c main_v1 : FVec Ideal S2x4096x1024 .bf16) (ix3 b s f) = arg_grad m c (ix3 b s ⟨0 + f.val, h⟩) := by
  unfold arg_grad
  after_reads_simp
  generalize m ((c : Tc).loc main_arg2) = X
  pointwise []

theorem V_u (b : Fin 2) (s : Fin 4096) (f : Fin 1536) (h : 1024 + f.val < 3248) :
    (V m c main_v2 : FVec Ideal S2x4096x1536 .bf16) (ix3 b s f) = arg_grad m c (ix3 b s ⟨1024 + f.val, h⟩) := by
  unfold arg_grad
  after_reads_simp
  generalize m ((c : Tc).loc main_arg2) = X
  pointwise []

theorem V_q (b : Fin 2) (s : Fin 4096) (f : Fin 384) (h : 2576 + f.val < 3248) :
    (V m c main_v4 : FVec Ideal S2x4096x384 .bf16) (ix3 b s f) = arg_grad m c (ix3 b s ⟨2576 + f.val, h⟩) := by
  unfold arg_grad
  after_reads_simp
  generalize m ((c : Tc).loc main_arg2) = X
  pointwise []

theorem V_k (b : Fin 2) (s : Fin 4096) (f : Fin 256) (h : 2960 + f.val < 3248) :
    (V m c main_v5 : FVec Ideal S2x4096x256 .bf16) (ix3 b s f) = arg_grad m c (ix3 b s ⟨2960 + f.val, h⟩) := by
  unfold arg_grad
  after_reads_simp
  generalize m ((c : Tc).loc main_arg2) = X
  pointwise []

theorem V_narrow (b : Fin 2) (s : Fin 4096) (f : Fin 128) : (V m c main_v8 : FVec Ideal S2x4096x128 .bf16) (ix3 b s f)
    = if f.val < 16 then arg_grad m c (ix3 b s ⟨2560 + f.val, by omega⟩) else if f.val < 48 then arg_grad m c (ix3 b s ⟨3200 + f.val % 48, by omega⟩) else 0 := by
  unfold arg_grad
  after_reads_simp
  pointwise []
  by_cases h0 : f.val < 16
  · rw [dif_pos h0, if_pos h0]
    after_reads_simp
    generalize m (c, Proc.tc.devRef main_arg2) = X
    pointwise []
  by_cases h1 : f.val < 48
  · rw [dif_neg h0, if_neg h0, dif_pos (by omega), if_pos h1]
    after_reads_simp
    generalize m (c, Proc.tc.devRef main_arg2) = X
    pointwise []
    exact congrArg (fun k => X (ix3 b s k)) (Fin.ext (by dsimp only; omega))
  · rw [dif_neg h0, if_neg h0, dif_neg (by omega), if_neg h1]
    after_reads_simp
    pointwise []

theorem V_h (b : Fin 2) (s : Fin 4096) (d : Fin 1024) : (V m c main_v9 : FVec Ideal S2x4096x1024 .bf16) (ix3 b s d) = arg_h m c (ix3 b s d) := by
  unfold arg_h
  after_reads_simp
  generalize m ((c : Tc).loc main_arg0) = X
  pointwise []

theorem read0 (X : Buf (Elt Ideal) ((c : Tc).loc main_v1)) (t : Fin cfg0.N) (r : Fin 1024) (k : Fin 1024) (b : Fin 2) (s : Fin 4096) (hb : b.val = t.val / 4) (hs : s.val = t.val % 4 * 1024 + r.val) :
    ((cfg0.win 0).blk t).view.read (Elt Ideal) X (ix3 0 r k) = (X : FVec Ideal S2x4096x1024 .bf16) (ix3 b s k) := by
  blk_simp
  refine congrArg X ?_
  blk_ext [at0]

theorem read1 (X : Buf (Elt Ideal) ((c : Tc).loc main_v2)) (t : Fin cfg0.N) (r : Fin 1024) (k : Fin 1536) (b : Fin 2) (s : Fin 4096) (hb : b.val = t.val / 4) (hs : s.val = t.val % 4 * 1024 + r.val) :
    ((cfg0.win 1).blk t).view.read (Elt Ideal) X (ix3 0 r k) = (X : FVec Ideal S2x4096x1536 .bf16) (ix3 b s k) := by
  blk_simp
  refine congrArg X ?_
  blk_ext [at1]

theorem read2 (X : Buf (Elt Ideal) ((c : Tc).loc main_v4)) (t : Fin cfg0.N) (r : Fin 1024) (k : Fin 384) (b : Fin 2) (s : Fin 4096) (hb : b.val = t.val / 4) (hs : s.val = t.val % 4 * 1024 + r.val) :
    ((cfg0.win 2).blk t).view.read (Elt Ideal) X (ix3 0 r k) = (X : FVec Ideal S2x4096x384 .bf16) (ix3 b s k) := by
  blk_simp
  refine congrArg X ?_
  blk_ext [at2]

theorem read3 (X : Buf (Elt Ideal) ((c : Tc).loc main_v5)) (t : Fin cfg0.N) (r : Fin 1024) (k : Fin 256) (b : Fin 2) (s : Fin 4096) (hb : b.val = t.val / 4) (hs : s.val = t.val % 4 * 1024 + r.val) :
    ((cfg0.win 3).blk t).view.read (Elt Ideal) X (ix3 0 r k) = (X : FVec Ideal S2x4096x256 .bf16) (ix3 b s k) := by
  blk_simp
  refine congrArg X ?_
  blk_ext [at3]

theorem read4 (X : Buf (Elt Ideal) ((c : Tc).loc main_v8)) (t : Fin cfg0.N) (r : Fin 1024) (k : Fin 128) (b : Fin 2) (s : Fin 4096) (hb : b.val = t.val / 4) (hs : s.val = t.val % 4 * 1024 + r.val) :
    ((cfg0.win 4).blk t).view.read (Elt Ideal) X (ix3 0 r k) = (X : FVec Ideal S2x4096x128 .bf16) (ix3 b s k) := by
  blk_simp
  refine congrArg X ?_
  blk_ext [at4]

theorem read5 (X : Buf (Elt Ideal) ((c : Tc).loc main_v9)) (t : Fin cfg0.N) (r : Fin 1024) (k : Fin 1024) (b : Fin 2) (s : Fin 4096) (hb : b.val = t.val / 4) (hs : s.val = t.val % 4 * 1024 + r.val) :
    ((cfg0.win 5).blk t).view.read (Elt Ideal) X (ix3 0 r k) = (X : FVec Ideal S2x4096x1024 .bf16) (ix3 b s k) := by
  blk_simp
  refine congrArg X ?_
  blk_ext [at5]

/-- The five blocks' joined row, read in the weight's order, is the gradient's row. -/
theorem joined_row (t : Fin cfg0.N) (r : Fin 1024) (n : Fin 3248) (b : Fin 2) (s : Fin 4096) (hb : b.val = t.val / 4) (hs : s.val = t.val % 4 * 1024 + r.val) :
    joined (iblk m c 0 t) (iblk m c 1 t) (iblk m c 2 t) (iblk m c 3 t) (iblk m c 4 t) r ⟨row n.val, row_lt _ n.isLt⟩ = arg_grad m c (ix3 b s n) := by
  have hn := n.isLt
  by_cases h0 : n.val < 1024
  · refine (congrArg (joined (iblk m c 0 t) (iblk m c 1 t) (iblk m c 2 t) (iblk m c 3 t) (iblk m c 4 t) r) (Fin.ext ?_)).trans ((joined_z _ _ _ _ _ r ⟨n.val, h0⟩).trans
      ((read0 c (V m c main_v1) t r _ b s hb hs).trans ((V_z m c b s _ (by dsimp only; omega)).trans (congrArg (fun k => arg_grad m c (ix3 b s k)) (Fin.ext ?_)))))
    · show row n.val = 0 + n.val
      unfold row
      split_ifs <;> omega
    · show 0 + n.val = n.val
      omega
  by_cases h1 : n.val < 2560
  · refine (congrArg (joined (iblk m c 0 t) (iblk m c 1 t) (iblk m c 2 t) (iblk m c 3 t) (iblk m c 4 t) r) (Fin.ext ?_)).trans ((joined_u _ _ _ _ _ r ⟨n.val - 1024, by omega⟩).trans
      ((read1 c (V m c main_v2) t r _ b s hb hs).trans ((V_u m c b s _ (by dsimp only; omega)).trans (congrArg (fun k => arg_grad m c (ix3 b s k)) (Fin.ext ?_)))))
    · show row n.val = 1024 + (n.val - 1024)
      unfold row
      split_ifs <;> omega
    · show 1024 + (n.val - 1024) = n.val
      omega
  by_cases h2 : n.val < 2576
  · refine (congrArg (joined (iblk m c 0 t) (iblk m c 1 t) (iblk m c 2 t) (iblk m c 3 t) (iblk m c 4 t) r) (Fin.ext ?_)).trans ((joined_narrow _ _ _ _ _ r ⟨n.val - 2560, by omega⟩).trans
      ((read4 c (V m c main_v8) t r _ b s hb hs).trans ((V_narrow m c b s _).trans ((if_pos (by dsimp only; omega)).trans (congrArg (fun k => arg_grad m c (ix3 b s k)) (Fin.ext ?_))))))
    · show row n.val = 3200 + (n.val - 2560)
      unfold row
      split_ifs <;> omega
    · show 2560 + (n.val - 2560) = n.val
      omega
  by_cases h3 : n.val < 2960
  · refine (congrArg (joined (iblk m c 0 t) (iblk m c 1 t) (iblk m c 2 t) (iblk m c 3 t) (iblk m c 4 t) r) (Fin.ext ?_)).trans ((joined_q _ _ _ _ _ r ⟨n.val - 2576, by omega⟩).trans
      ((read2 c (V m c main_v4) t r _ b s hb hs).trans ((V_q m c b s _ (by dsimp only; omega)).trans (congrArg (fun k => arg_grad m c (ix3 b s k)) (Fin.ext ?_)))))
    · show row n.val = 2560 + (n.val - 2576)
      unfold row
      split_ifs <;> omega
    · show 2576 + (n.val - 2576) = n.val
      omega
  by_cases h4 : n.val < 3216
  · refine (congrArg (joined (iblk m c 0 t) (iblk m c 1 t) (iblk m c 2 t) (iblk m c 3 t) (iblk m c 4 t) r) (Fin.ext ?_)).trans ((joined_k _ _ _ _ _ r ⟨n.val - 2960, by omega⟩).trans
      ((read3 c (V m c main_v5) t r _ b s hb hs).trans ((V_k m c b s _ (by dsimp only; omega)).trans (congrArg (fun k => arg_grad m c (ix3 b s k)) (Fin.ext ?_)))))
    · show row n.val = 2944 + (n.val - 2960)
      unfold row
      split_ifs <;> omega
    · show 2960 + (n.val - 2960) = n.val
      omega
  · refine (congrArg (joined (iblk m c 0 t) (iblk m c 1 t) (iblk m c 2 t) (iblk m c 3 t) (iblk m c 4 t) r) (Fin.ext ?_)).trans ((joined_narrow _ _ _ _ _ r ⟨n.val - 3200, by omega⟩).trans
      ((read4 c (V m c main_v8) t r _ b s hb hs).trans ((V_narrow m c b s _).trans ((if_neg (by dsimp only; omega)).trans ((if_pos (by dsimp only; omega)).trans (congrArg (fun k => arg_grad m c (ix3 b s k)) (Fin.ext ?_)))))))
    · show row n.val = 3200 + (n.val - 3200)
      unfold row
      split_ifs <;> omega
    · show 3200 + (n.val - 3200) % 48 = n.val
      omega

theorem place (t : Fin cfg0.N) (k : Fin 8) (r : Fin 406) (d : Fin 1024) : ((cfg0.win 6).blk t).view.emb (ix3 k r d) = ix3 k r d := by
  blk_ext [at6]

/-- The block written at the end. -/
theorem run_sum (t : Fin cfg0.N) (h : t.val % 8 = 7) (k : Fin 8) (r : Fin 406) (d : Fin 1024) :
    (outsAt0 m c t.val t.isLt).1 (ix3 k r d) = gradient (m ((c : Tc).loc main_arg0)) (m ((c : Tc).loc main_arg2)) (ix3 k r d) := by
  have ht := below t
  rw [written m c t h]
  unfold folded gradient
  refine (accumulated m c t h _ _).trans ?_
  unfold part
  refine Fin.sum_points_lanes_congr 4 fun s q hb hl => ?_
  have hs := s.isLt
  refine congrArg₂ (· * ·) (joined_row m c _ q ⟨k.val * 406 + r.val, by omega⟩ ⟨s.val / 4, hb⟩ ⟨s.val % 4 * 1024 + q.val, hl⟩ (by dsimp only; omega) (by dsimp only; omega)) ?_
  exact (read5 c (V m c main_v9) _ q d ⟨s.val / 4, hb⟩ ⟨s.val % 4 * 1024 + q.val, hl⟩ (by dsimp only; omega) (by dsimp only; omega)).trans (V_h m c _ _ d)

theorem array : (dats m 0 c).arrAt 6 cfg0.N = gradient (m ((c : Tc).loc main_arg0)) (m ((c : Tc).loc main_arg2)) := by
  refine (dats m 0 c).arrAt_eq_of_covers 6 _ (by decide +kernel) fun t hf y => ?_
  obtain ⟨k, r, d, rfl⟩ := Spots.cube 8 406 1024 y
  have hr := (flush0_6 t).mp hf
  have e : (dats m 0 c).after 6 t ((cfg0.win 6).xinj (cfg0.grid.coords t) (ix3 k r d)) = gradient (m ((c : Tc).loc main_arg0)) (m ((c : Tc).loc main_arg2)) (ix3 k r d) := by
    rw [after0_6]
    exact run_sum m c t hr k r d
  rw [e, place t k r d]
  exact cast_eq _ _

end kernel

section reference

open Cert.Reference9Ideal Cert.Reference9Ideal.Gen Cert.Reference9Ideal.Read
local notation "Tc" => Thread nD τ

theorem result (x : FVec Ideal S2x4096x1024 .f32) (o : FVec Ideal S2x4096x3248 .f32) : val_main_v5 (F := Ideal) x o = gradient x o := by
  funext i
  obtain ⟨k, r, d, rfl⟩ := Spots.cube 8 406 1024 i
  unfold gradient
  pointwise [val_main_v5, val_main_v4, val_main_v3, val_main_v2, val_main_v1]

variable (m : (ℓ : Loc nD τ sig) → Buf (Elt Ideal) ℓ) (ρ : Dev nD → PrngReg)

theorem reference_run : θ_run defs (onTc (τ := τ) (main (F := Ideal))) ⟨m, fun _ => 0, ρ⟩ (fun r => ∀ c : Dev nD,
      r.2.mem ((c : Tc).loc main_v5) = gradient (m ((c : Tc).loc main_arg0)) (m ((c : Tc).loc main_arg2))
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)) :=
  (θ_run defs _ _).mono (fun r h c => ⟨(h c).1.trans ((val_main_v5_eq _ _).trans (result _ _)), (h c).2⟩)
    (Cert.Reference9Ideal.Value.run (F := Ideal) m ρ)

end reference

theorem algebraic : Cert.algebraic_Kernel9Ideal_Reference9Ideal (hKernel9Ideal := Cert.Kernel9Ideal.Gen.facts)
    (hReference9Ideal := Cert.Reference9Ideal.Gen.facts) := by
  intro m g m' g' _ he
  refine ⟨_, ((θ_run _ _ _).mono (fun r h c => ⟨(h.1.out_eq c 6).trans (array m c), h.2 c⟩)
    (θ_run_and (Cert.Kernel9Ideal.Gen.run_main m g) (Cert.Kernel9Ideal.Gen.unchanged m g))), ?_⟩
  refine (θ_run _ _ _).mono (fun r h c => ?_) (reference_run m' g')
  obtain ⟨e0, _, e2⟩ := he c
  refine ⟨(h c).1.trans ?_, (h c).2⟩
  rw [e0, e2]
-- ==== Proof.OutTile.lean ====
/-
  The gradient of the output projection's weight: what one point of the grid adds to the accumulator.
-/
module

public import proofs.«01_k».proof.Proof.Spots
public import proofs.«01_k».proof.Proof.Gen.Kernel10Ideal.Frame
public import Idealize.ShloMosaic.Lib.Pipeline.ValueKit
public import Idealize.ShloMosaic.Lib.Pipeline.ReadBack

@[expose] public noncomputable section

set_option maxRecDepth 16384

namespace Cert.Proof.Out

open Cert.Kernel10Ideal Cert.Kernel10Ideal.Gen
open Idealize ShloMosaic ShloMosaic.TcCoe ShloMosaic.Pointwise

section tile

variable (x0 x1 x2 : FVec Ideal S1x2048x1024 .bf16)

/-- A row of the two blocks, side by side. -/
def joined (r : Fin 2048) (f : Fin 2048) : EReal :=
  if f.val < 1024 then x0 (ix3 0 r ⟨f.val % 1024, by omega⟩) else x1 (ix3 0 r ⟨f.val % 1024, by omega⟩)

/-- The product of a point's blocks over its positions. -/
def part (f : Fin 2048) (d : Fin 1024) : EReal := ∑ r : Fin 2048, joined x0 x1 r f * x2 (ix3 0 r d)

theorem upper_at (A : FVec Ideal S1024x1024 .f32) (f d : Fin 1024) :
    k0_pay3 (F := Ideal) x2 A x0 (ix2 f d) = A (ix2 f d) + part x0 x1 x2 ⟨f.val, by omega⟩ d := by
  unfold part joined
  simp only [f.isLt, if_true, Nat.mod_eq_of_lt f.isLt]
  pointwise [k0_pay3, k0_pay2]

theorem lower_at (A : FVec Ideal S1024x1024 .f32) (f d : Fin 1024) :
    k0_pay4 (F := Ideal) x2 A x1 (ix2 f d) = A (ix2 f d) + part x0 x1 x2 ⟨1024 + f.val, by omega⟩ d := by
  unfold part joined
  have h : ∀ n : Fin 1024, ¬1024 + n.val < 1024 := fun n => by omega
  simp only [h, if_false, Nat.add_mod_left, Nat.mod_eq_of_lt f.isLt]
  pointwise [k0_pay4, k0_pay2]

/-- What a point leaves, over what it found. -/
def next (A : FVec Ideal S2048x1024 .f32) : FVec Ideal S2048x1024 .f32 := fun i =>
  A i + part x0 x1 x2 ⟨(i 0).val, (i 0).isLt⟩ ⟨(i 1).val, (i 1).isLt⟩

theorem lower_piece (A : FVec Ideal S2048x1024 .f32) (x : S1024x1024.Idx) :
    k0_pay4 (F := Ideal) x2 (View.ld A (Rect.unit (s := S2048x1024) ![1024, 0] ![1024, 1024] inb_S2048x1024_S1024x1024_1024_0)) x1 x
      = next x0 x1 x2 A ((Rect.unit (s := S2048x1024) ![1024, 0] ![1024, 1024] inb_S2048x1024_S1024x1024_1024_0).emb x) := by
  obtain ⟨f, d, rfl⟩ := Spots.plane 1024 1024 x
  refine (lower_at x0 x1 x2 _ f d).trans ?_
  unfold next
  refine congrArg₂ (· + ·) rfl (congrArg₂ (part x0 x1 x2) (Fin.ext ?_) (Fin.ext ?_))
  · show 1024 + f.val = 1024 + 1 * f.val
    omega
  · show d.val = 0 + 1 * d.val
    omega

theorem upper_piece (A : FVec Ideal S2048x1024 .f32) (x : S1024x1024.Idx) :
    k0_pay3 (F := Ideal) x2 (View.ld A (Rect.unit (s := S2048x1024) ![0, 0] ![1024, 1024] inb_S2048x1024_S1024x1024_0_0)) x0 x
      = next x0 x1 x2 A ((Rect.unit (s := S2048x1024) ![0, 0] ![1024, 1024] inb_S2048x1024_S1024x1024_0_0).emb x) := by
  obtain ⟨f, d, rfl⟩ := Spots.plane 1024 1024 x
  refine (upper_at x0 x1 x2 _ f d).trans ?_
  unfold next
  refine congrArg₂ (· + ·) rfl (congrArg₂ (part x0 x1 x2) (Fin.ext ?_) (Fin.ext ?_))
  · show f.val = 0 + 1 * f.val
    omega
  · show d.val = 0 + 1 * d.val
    omega

end tile

variable (m : (ℓ : Loc nD τ sig) → Buf (Elt Ideal) ℓ) (c : Dev nD)

theorem sum_first (t : Fin cfg0.N) (h : t.val % 4 = 0) :
    (outsAt0 m c t.val t.isLt).2 = next (iblk m c 0 t) (iblk m c 1 t) (iblk m c 2 t) (fun _ => 0) := by
  have hN : t.val < 4 := lt_of_lt_of_eq t.isLt (show cfg0.N = 4 from N_0)
  rw [outsAt0_A m c t h (by omega)]
  frame_out
  have e : k0_pay1 (F := Ideal) = fun _ => 0 := by
    funext i
    obtain ⟨f, d, rfl⟩ := Spots.plane 2048 1024 i
    pointwise [k0_pay1]
  simp (disch := decide) only [View.readCov_skip, View.readCov_fill, e]
  funext y
  exact View.canon_append_of_piecesOf _ [_] [_, _] ⟨lower_piece _ _ _ _, upper_piece _ _ _ _, trivial⟩ y
    (View.cover_of_tiledBy _ ![1024, 1024] (by sl_kernel_rfl) y)

theorem sum_next (t : Fin cfg0.N) (h : ¬t.val % 4 = 0) :
    (outsAt0 m c t.val t.isLt).2 = next (iblk m c 0 t) (iblk m c 1 t) (iblk m c 2 t) (outsAt0 m c (t.val - 1) (Nat.lt_of_le_of_lt (Nat.sub_le _ _) t.isLt)).2 := by
  by_cases h3 : t.val % 4 = 3
  · rw [outsAt0_C m c t h h3]
    frame_out
    simp only [read_unread_whole]
    funext y
    exact View.canon_append_of_piecesOf _ [] [_, _] ⟨lower_piece _ _ _ _, upper_piece _ _ _ _, trivial⟩ y
      (View.cover_of_tiledBy _ ![1024, 1024] (by sl_kernel_rfl) y)
  · rw [outsAt0_B m c t h h3]
    frame_out
    simp only [read_unread_whole]
    funext y
    exact View.canon_append_of_piecesOf _ [] [_, _] ⟨lower_piece _ _ _ _, upper_piece _ _ _ _, trivial⟩ y
      (View.cover_of_tiledBy _ ![1024, 1024] (by sl_kernel_rfl) y)

/-- At the last point the block written is the accumulator. -/
theorem written (t : Fin cfg0.N) (h : t.val % 4 = 3) (f : Fin 2048) (d : Fin 1024) :
    (outsAt0 m c t.val t.isLt).1 (ix2 f d) = (outsAt0 m c t.val t.isLt).2 (ix2 f d) := by
  rw [outsAt0_C m c t (by omega) h]
  frame_out
  rw [View.readCov_eq_canon']
  generalize View.canon (Val := Elt Ideal) (s := S2048x1024) (e := .f32) _ = X
  unfold k0_pay5
  refine (show _ = X ((Rect.unit (s := S2048x1024) ![0, 0] ![2048, 1024] inb_S2048x1024_S2048x1024_0_0).emb (ix2 f d)) from rfl).trans (congrArg X ?_)
  funext a
  refine Fin.ext ?_
  show (![0, 0] : Fin 2 → ℕ) a + 1 * (ix2 f d a).val = (ix2 f d a).val
  fin_cases a <;> simp

/-- The block written is the sum of every point's products. -/
theorem accumulated (t : Fin cfg0.N) (h : t.val % 4 = 3) (f : Fin 2048) (d : Fin 1024) :
    (outsAt0 m c t.val t.isLt).1 (ix2 f d)
      = ∑ s : Fin 4, part (iblk m c 0 ⟨4 * (t.val / 4) + s.val, Pipeline.run_point_lt_of_flush t h s⟩) (iblk m c 1 ⟨4 * (t.val / 4) + s.val, Pipeline.run_point_lt_of_flush t h s⟩)
          (iblk m c 2 ⟨4 * (t.val / 4) + s.val, Pipeline.run_point_lt_of_flush t h s⟩) f d := by
  rw [written m c t h, Pipeline.eq_sum_fin_of_reset_step_of_flush (fun n hn => (outsAt0 m c n hn).2 (ix2 f d)) 4 0
    (fun t => part (iblk m c 0 t) (iblk m c 1 t) (iblk m c 2 t) f d) (fun t h => congrFun (sum_first m c t h) (ix2 f d))
    (fun t h => congrFun (sum_next m c t h) (ix2 f d)) t h, zero_add]
-- ==== Proof.Out.lean ====
/-
  The gradient of the output projection's weight is the reference's: the sum over every position of the joined outputs' lane times
  the gradient's lane.
-/
module

public import proofs.«01_k».proof.Defs
public import proofs.«01_k».proof.Proof.OutTile
public import proofs.«01_k».proof.Proof.Gen.Reference10Ideal.Read
public import Idealize.ShloMosaic.Lib.TwoAxisContraction
public import Idealize.ShloMosaic.Lib.StableHlo.RunRead

@[expose] public noncomputable section

set_option maxRecDepth 16384

namespace Cert.Proof.Out

open Idealize ShloMosaic ShloMosaic.TcCoe SL.Sem ShloMosaic.Pointwise

/-- A position's lanes of the two outputs, side by side. -/
def both (x y : FVec Ideal ⟨3, ![2, 4096, 1024]⟩ .f32) (b : Fin 2) (s : Fin 4096) (f : Fin 2048) : EReal :=
  if f.val < 1024 then x (ix3 b s ⟨f.val % 1024, by omega⟩) else y (ix3 b s ⟨f.val % 1024, by omega⟩)

/-- The gradient of the weight: the joined outputs' products with the gradients, summed over batch members and positions. -/
def gradient (x y o : FVec Ideal ⟨3, ![2, 4096, 1024]⟩ .f32) : FVec Ideal ⟨2, ![2048, 1024]⟩ .bf16 := fun i =>
  ∑ b : Fin 2, ∑ s : Fin 4096, both x y b s ⟨(i 0).val, (i 0).isLt⟩ * o (ix3 b s ⟨(i 1).val, (i 1).isLt⟩)

section kernel

open Cert.Kernel10Ideal Cert.Kernel10Ideal.Gen
local notation "Tc" => Thread nD τ

variable (m : (ℓ : Loc nD τ sig) → Buf (Elt Ideal) ℓ) (ρ : Dev nD → PrngReg) (c : Dev nD)

theorem at0 : ∀ t : Fin cfg0.N, win0_0.index t = ![t.val / 2, t.val % 2, 0] := by decide +kernel
theorem at1 : ∀ t : Fin cfg0.N, win0_1.index t = ![t.val / 2, t.val % 2, 0] := by decide +kernel
theorem at2 : ∀ t : Fin cfg0.N, win0_2.index t = ![t.val / 2, t.val % 2, 0] := by decide +kernel
theorem at3 : ∀ t : Fin cfg0.N, win0_3.index t = ![0, 0] := by decide +kernel

theorem below (t : Fin cfg0.N) : t.val < 4 := lt_of_lt_of_eq t.isLt (show cfg0.N = 4 from N_0)

theorem V_v0 : V m c main_v0 = (truncf .bf16 (m ((c : Tc).loc main_arg0) : FVec Ideal S2x4096x1024 .f32) bitsLt_bf16_f32 : FVec Ideal S2x4096x1024 .bf16) := by
  after_reads_simp

theorem read0 (X : Buf (Elt Ideal) ((c : Tc).loc main_v0)) (t : Fin cfg0.N) (r : Fin 2048) (d : Fin 1024) (b : Fin 2) (s : Fin 4096)
    (hb : b.val = t.val / 2) (hs : s.val = t.val % 2 * 2048 + r.val) :
    ((cfg0.win 0).blk t).view.read (Elt Ideal) X (ix3 0 r d) = (X : FVec Ideal S2x4096x1024 .bf16) (ix3 b s d) := by
  blk_simp
  refine congrArg X ?_
  blk_ext [at0]

theorem block0 (t : Fin cfg0.N) (r : Fin 2048) (d : Fin 1024) (b : Fin 2) (s : Fin 4096)
    (hb : b.val = t.val / 2) (hs : s.val = t.val % 2 * 2048 + r.val) :
    iblk m c 0 t (ix3 0 r d) = (m ((c : Tc).loc main_arg0) : FVec Ideal S2x4096x1024 .f32) (ix3 b s d) := by
  unfold iblk
  refine (read0 c (V m c main_v0) t r d b s hb hs).trans ?_
  rw [V_v0]
  generalize m ((c : Tc).loc main_arg0) = X
  pointwise []

theorem V_v1 : V m c main_v1 = (truncf .bf16 (m ((c : Tc).loc main_arg1) : FVec Ideal S2x4096x1024 .f32) bitsLt_bf16_f32 : FVec Ideal S2x4096x1024 .bf16) := by
  after_reads_simp

theorem read1 (X : Buf (Elt Ideal) ((c : Tc).loc main_v1)) (t : Fin cfg0.N) (r : Fin 2048) (d : Fin 1024) (b : Fin 2) (s : Fin 4096)
    (hb : b.val = t.val / 2) (hs : s.val = t.val % 2 * 2048 + r.val) :
    ((cfg0.win 1).blk t).view.read (Elt Ideal) X (ix3 0 r d) = (X : FVec Ideal S2x4096x1024 .bf16) (ix3 b s d) := by
  blk_simp
  refine congrArg X ?_
  blk_ext [at1]

theorem block1 (t : Fin cfg0.N) (r : Fin 2048) (d : Fin 1024) (b : Fin 2) (s : Fin 4096)
    (hb : b.val = t.val / 2) (hs : s.val = t.val % 2 * 2048 + r.val) :
    iblk m c 1 t (ix3 0 r d) = (m ((c : Tc).loc main_arg1) : FVec Ideal S2x4096x1024 .f32) (ix3 b s d) := by
  unfold iblk
  refine (read1 c (V m c main_v1) t r d b s hb hs).trans ?_
  rw [V_v1]
  generalize m ((c : Tc).loc main_arg1) = X
  pointwise []

theorem V_v2 : V m c main_v2 = (truncf .bf16 (m ((c : Tc).loc main_arg3) : FVec Ideal S2x4096x1024 .f32) bitsLt_bf16_f32 : FVec Ideal S2x4096x1024 .bf16) := by
  after_reads_simp

theorem read2 (X : Buf (Elt Ideal) ((c : Tc).loc main_v2)) (t : Fin cfg0.N) (r : Fin 2048) (d : Fin 1024) (b : Fin 2) (s : Fin 4096)
    (hb : b.val = t.val / 2) (hs : s.val = t.val % 2 * 2048 + r.val) :
    ((cfg0.win 2).blk t).view.read (Elt Ideal) X (ix3 0 r d) = (X : FVec Ideal S2x4096x1024 .bf16) (ix3 b s d) := by
  blk_simp
  refine congrArg X ?_
  blk_ext [at2]

theorem block2 (t : Fin cfg0.N) (r : Fin 2048) (d : Fin 1024) (b : Fin 2) (s : Fin 4096)
    (hb : b.val = t.val / 2) (hs : s.val = t.val % 2 * 2048 + r.val) :
    iblk m c 2 t (ix3 0 r d) = (m ((c : Tc).loc main_arg3) : FVec Ideal S2x4096x1024 .f32) (ix3 b s d) := by
  unfold iblk
  refine (read2 c (V m c main_v2) t r d b s hb hs).trans ?_
  rw [V_v2]
  generalize m ((c : Tc).loc main_arg3) = X
  pointwise []

theorem place (t : Fin cfg0.N) (f : Fin 2048) (d : Fin 1024) : ((cfg0.win 3).blk t).view.emb (ix2 f d) = ix2 f d := by
  blk_ext [at3]

/-- The block written at the end. -/
theorem run_sum (t : Fin cfg0.N) (h : t.val % 4 = 3) (f : Fin 2048) (d : Fin 1024) :
    (outsAt0 m c t.val t.isLt).1 (ix2 f d) = gradient (m ((c : Tc).loc main_arg0)) (m ((c : Tc).loc main_arg1)) (m ((c : Tc).loc main_arg3)) (ix2 f d) := by
  have ht := below t
  rw [accumulated m c t h]
  unfold part gradient joined both
  refine Fin.sum_points_lanes_congr 2 fun s r hb hl => ?_
  have hs := s.isLt
  rw [block0 m c _ r _ ⟨s.val / 2, hb⟩ ⟨s.val % 2 * 2048 + r.val, hl⟩ (by dsimp only; omega) (by dsimp only; omega),
    block1 m c _ r _ ⟨s.val / 2, hb⟩ ⟨s.val % 2 * 2048 + r.val, hl⟩ (by dsimp only; omega) (by dsimp only; omega),
    block2 m c _ r d ⟨s.val / 2, hb⟩ ⟨s.val % 2 * 2048 + r.val, hl⟩ (by dsimp only; omega) (by dsimp only; omega)]
  rfl

theorem array : (dats m 0 c).arrAt 3 cfg0.N = gradient (m ((c : Tc).loc main_arg0)) (m ((c : Tc).loc main_arg1)) (m ((c : Tc).loc main_arg3)) := by
  refine (dats m 0 c).arrAt_eq_of_covers 3 _ (by decide +kernel) fun t hf y => ?_
  obtain ⟨f, d, rfl⟩ := Spots.plane 2048 1024 y
  have hr := (flush0_3 t).mp hf
  have e : (dats m 0 c).after 3 t ((cfg0.win 3).xinj (cfg0.grid.coords t) (ix2 f d)) = gradient (m ((c : Tc).loc main_arg0)) (m ((c : Tc).loc main_arg1)) (m ((c : Tc).loc main_arg3)) (ix2 f d) := by
    rw [after0_3]
    exact run_sum m c t hr f d
  rw [e, place t f d]
  exact cast_eq _ _

end kernel

section reference

open Cert.Reference10Ideal Cert.Reference10Ideal.Gen Cert.Reference10Ideal.Read
local notation "Tc" => Thread nD τ

theorem result (x y : FVec Ideal S2x4096x1024 .f32) (o : FVec Ideal S2x4096x1024 .f32) : val_main_v4 (F := Ideal) x y o = gradient x y o := by
  funext i
  obtain ⟨f, d, rfl⟩ := Spots.plane 2048 1024 i
  unfold gradient both
  have e : ∀ b s, val_main_v0 (F := Ideal) x y (ix3 b s f) = if f.val < 1024 then x (ix3 b s ⟨f.val % 1024, by omega⟩) else y (ix3 b s ⟨f.val % 1024, by omega⟩) := by
    intro b s
    pointwise [val_main_v0]
    by_cases h : f.val < 1024
    · rw [dif_pos h, if_pos h]
      exact congrArg (fun k => x (ix3 b s k)) (Fin.ext (show f.val = f.val % 1024 by omega))
    · rw [dif_neg h, if_neg h]
      exact congrArg (fun k => y (ix3 b s k)) (Fin.ext (show f.val - 1024 = f.val % 1024 by omega))
  refine Eq.trans ?_ (Finset.sum_congr rfl fun b _ => Finset.sum_congr rfl fun s _ => congrArg (· * o (ix3 b s d)) (e b s))
  unfold val_main_v4 val_main_v3 val_main_v2
  generalize val_main_v0 (F := Ideal) x y = X
  pointwise []
  exact Finset.sum_congr rfl fun b _ => Finset.sum_congr rfl fun s _ => mul_comm _ _

variable (m : (ℓ : Loc nD τ sig) → Buf (Elt Ideal) ℓ) (ρ : Dev nD → PrngReg)

theorem reference_run : θ_run defs (onTc (τ := τ) (main (F := Ideal))) ⟨m, fun _ => 0, ρ⟩ (fun r => ∀ c : Dev nD,
      r.2.mem ((c : Tc).loc main_v4) = gradient (m ((c : Tc).loc main_arg0)) (m ((c : Tc).loc main_arg1)) (m ((c : Tc).loc main_arg3))
    ∧ r.2.mem ((c : Tc).loc main_arg0) = m ((c : Tc).loc main_arg0)
    ∧ r.2.mem ((c : Tc).loc main_arg1) = m ((c : Tc).loc main_arg1)
    ∧ r.2.mem ((c : Tc).loc main_arg2) = m ((c : Tc).loc main_arg2)
    ∧ r.2.mem ((c : Tc).loc main_arg3) = m ((c : Tc).loc main_arg3)) :=
  (θ_run defs _ _).mono (fun r h c => ⟨(h c).1.trans ((val_main_v4_eq _ _ _).trans (result _ _ _)), (h c).2⟩)
    (Cert.Reference10Ideal.Value.run (F := Ideal) m ρ)

end reference

theorem algebraic : Cert.algebraic_Kernel10Ideal_Reference10Ideal (hKernel10Ideal := Cert.Kernel10Ideal.Gen.facts)
    (hReference10Ideal := Cert.Reference10Ideal.Gen.facts) := by
  intro m g m' g' _ he
  refine ⟨_, ((θ_run _ _ _).mono (fun r h c => ⟨(h.1.out_eq c 3).trans (array m c), h.2 c⟩)
    (θ_run_and (Cert.Kernel10Ideal.Gen.run_main m g) (Cert.Kernel10Ideal.Gen.unchanged m g))), ?_⟩
  refine (θ_run _ _ _).mono (fun r h c => ?_) (reference_run m' g')
  obtain ⟨e0, e1, _, e3⟩ := he c
  refine ⟨(h c).1.trans ?_, (h c).2⟩
  rw [e0, e1, e3]
-- ==== Proof.Join.lean ====
/-
  The output projection, with the normalisation before it and the sum and the normalisation after it, is the reference's.
-/
module

public import proofs.«01_k».proof.Defs
public import proofs.«01_k».proof.Proof.DownArrays
public import proofs.«01_k».proof.Proof.Gen.Kernel11Ideal.Frame
public import proofs.«01_k».proof.Proof.Gen.Reference11Ideal.Read

@[expose] public noncomputable section

set_option maxRecDepth 16384

namespace Cert.Proof.Join

open Idealize ShloMosaic ShloMosaic.TcCoe SL.Sem ShloMosaic.Pointwise
open Cert.Proof.Norm (root square small)
open Cert.Proof.Down (modulated zeros2 zeros3)

/-- A row, normalised. -/
def normed (t n : Fin 1024 → EReal) (d : Fin 1024) : EReal := t d * root t * n d
/-- The product of two rows, side by side, with a column of the weight. -/
def joined (y z : Fin 1024 → EReal) (w : Fin 2048 → Fin 1024 → EReal) (d : Fin 1024) : EReal :=
  (∑ k : Fin 1024, y k * w ⟨k.val, by omega⟩ d) + ∑ k : Fin 1024, z k * w ⟨1024 + k.val, by omega⟩ d
/-- A row with the gated product added. -/
def added (x g o : Fin 1024 → EReal) (d : Fin 1024) : EReal := x d + g d * o d

/-! ## What the call leaves -/

section rows

variable (x0 x1 : FVec Ideal ⟨3, ![2, 4096, 1024]⟩ .f32) (x2 : FVec Ideal ⟨1, ![1024]⟩ .f32) (x3 : FVec Ideal ⟨2, ![2048, 1024]⟩ .f32)
  (x4 : FVec Ideal ⟨3, ![2, 4096, 1024]⟩ .f32) (x5 : FVec Ideal ⟨2, ![2, 1024]⟩ .f32) (x6 : FVec Ideal ⟨1, ![1024]⟩ .f32) (x7 x8 : FVec Ideal ⟨2, ![2, 1024]⟩ .f32)
  (b : Fin 2) (s : Fin 4096)

def normedRow : Fin 1024 → EReal := normed (fun k => x1 (ix3 b s k)) (fun k => x2 (ix1 k))
def productRow : Fin 1024 → EReal := joined (fun k => x0 (ix3 b s k)) (normedRow x1 x2 b s) (fun k d => x3 (ix2 k d))
def sumRow : Fin 1024 → EReal := added (fun k => x4 (ix3 b s k)) (fun k => x5 (ix2 b k)) (productRow x0 x1 x2 x3 b s)
def hiddenRow : Fin 1024 → EReal :=
  modulated (sumRow x0 x1 x2 x3 x4 x5 b s) (fun k => x6 (ix1 k)) (fun k => x8 (ix2 b k)) (fun k => x7 (ix2 b k))

/-- The array of these rows. -/
def rows (R : Fin 2 → Fin 4096 → Fin 1024 → EReal) (i : (⟨3, ![2, 4096, 1024]⟩ : Shape).Idx) : EReal := R ⟨(i 0).val, (i 0).isLt⟩ ⟨(i 1).val, (i 1).isLt⟩ ⟨(i 2).val, (i 2).isLt⟩

end rows

section kernel

open Cert.Kernel11Ideal Cert.Kernel11Ideal.Gen
local notation "Tc" => Thread nD τ

section tile

variable (y : FVec Ideal S1x512x1024 .bf16) (t : FVec Ideal S1x512x1024 .f32) (n1 : FVec Ideal S1x1024 .f32) (w : FVec Ideal S2048x1024 .bf16) (x : FVec Ideal S1x512x1024 .f32)
  (g : FVec Ideal S1x1x1024 .f32) (n : FVec Ideal S1x1024 .f32) (sc sh : FVec Ideal S1x1x1024 .f32) (r : Fin 512) (d : Fin 1024)

def normedTile : Fin 1024 → EReal := normed (fun k => t (ix3 0 r k)) (fun k => n1 (ix2 0 k))
def productTile : Fin 1024 → EReal := joined (fun k => y (ix3 0 r k)) (normedTile t n1 r) (fun k d => w (ix2 k d))
def sumTile : Fin 1024 → EReal := added (fun k => x (ix3 0 r k)) (fun k => g (ix3 0 0 k)) (productTile y t n1 w r)

theorem normed_at : k0_pay2 (F := Ideal) t n1 (ix2 r d) = normedTile t n1 r d := by
  unfold normedTile normed root square small Norm.count
  pointwise [k0_pay2]

theorem upper_at (k : Fin 1024) : (View.ld (Val := Elt Ideal) (S := S2048x1024) (e' := .bf16) w r0_2 : FVec Ideal S1024x1024 .bf16) (ix2 k d) = w (ix2 ⟨k.val, by omega⟩ d) := by
  refine (show _ = w (r0_2.emb (ix2 k d)) from rfl).trans (congrArg w (funext fun a => Fin.ext ?_))
  show (![0, 0] : Fin 2 → ℕ) a + 1 * (ix2 k d a).val = _
  fin_cases a <;> simp

theorem lower_at (k : Fin 1024) : (View.ld (Val := Elt Ideal) (S := S2048x1024) (e' := .bf16) w r0_3 : FVec Ideal S1024x1024 .bf16) (ix2 k d) = w (ix2 ⟨1024 + k.val, by omega⟩ d) := by
  refine (show _ = w (r0_3.emb (ix2 k d)) from rfl).trans (congrArg w (funext fun a => Fin.ext ?_))
  show (![1024, 0] : Fin 2 → ℕ) a + 1 * (ix2 k d a).val = _
  fin_cases a <;> simp

theorem product_at : k0_pay10 (F := Ideal) y t n1 w x g n sc sh (ix2 r d) = productTile y t n1 w r d := by
  unfold productTile joined k0_pay10
  simp only [← normed_at, ← upper_at, ← lower_at]
  rw [View.ld_unit_zero zeros3, View.ld_unit_zero zeros2, View.ld_unit_zero zeros3]
  unfold k0_pay4
  generalize k0_pay2 (F := Ideal) t n1 = p
  generalize View.ld (Val := Elt Ideal) (S := S2048x1024) (e' := .bf16) w r0_2 = u
  generalize View.ld (Val := Elt Ideal) (S := S2048x1024) (e' := .bf16) w r0_3 = v
  pointwise []

theorem sum_at : k0_pay6 (F := Ideal) (k0_pay10 (F := Ideal) y t n1 w x g n sc sh) (k0_pay11 (F := Ideal) y t n1 w x g n sc sh) g (ix2 r d) = sumTile y t n1 w x g r d := by
  unfold sumTile added k0_pay11
  rw [← product_at y t n1 w x g n sc sh, View.ld_unit_zero zeros3]
  unfold k0_pay6
  generalize k0_pay10 (F := Ideal) y t n1 w x g n sc sh = p
  pointwise [k0_pay5]

theorem sum_block_at : out0_9 (F := Ideal) y t n1 w x g n sc sh (ix3 0 r d) = sumTile y t n1 w x g r d := by
  rw [← sum_at y t n1 w x g n sc sh]
  unfold out0_9 k0_pay7
  rw [View.canon_unit_zero zeros3, View.ld_unit_zero zeros3]
  generalize k0_pay6 (F := Ideal) _ _ _ = p
  pointwise []

theorem product_block_at : out0_10 (F := Ideal) y t n1 w x g n sc sh (ix3 0 r d) = productTile y t n1 w r d := by
  rw [← product_at y t n1 w x g n sc sh]
  unfold out0_10 k0_pay8
  rw [View.canon_unit_zero zeros3]
  generalize k0_pay10 (F := Ideal) y t n1 w x g n sc sh = p
  pointwise []

theorem normed_block_at : out0_11 (F := Ideal) y t n1 w x g n sc sh (ix3 0 r d) = normedTile t n1 r d := by
  rw [← normed_at]
  unfold out0_11 k0_pay3
  rw [View.canon_unit_zero zeros3, View.ld_unit_zero zeros3, View.ld_unit_zero zeros2]
  generalize k0_pay2 (F := Ideal) t n1 = p
  pointwise []

theorem hidden_block_at : out0_12 (F := Ideal) y t n1 w x g n sc sh (ix3 0 r d)
    = modulated (sumTile y t n1 w x g r) (fun k => n (ix2 0 k)) (fun k => sc (ix3 0 0 k)) (fun k => sh (ix3 0 0 k)) d := by
  unfold modulated root square small Norm.count
  simp only [← sum_at y t n1 w x g n sc sh]
  unfold out0_12
  rw [View.canon_unit_zero zeros3, View.ld_unit_zero zeros3, View.ld_unit_zero zeros2, View.ld_unit_zero zeros3, View.ld_unit_zero zeros3]
  unfold k0_pay9
  generalize k0_pay6 (F := Ideal) _ _ _ = p
  pointwise [k0_pay1]

end tile

variable (m : (ℓ : Loc nD τ sig) → Buf (Elt Ideal) ℓ) (ρ : Dev nD → PrngReg) (c : Dev nD)

theorem inside (t : Fin cfg0.N) : t.val < 16 := lt_of_lt_of_eq t.isLt (show cfg0.N = 16 from N_0)

theorem at0 : ∀ t : Fin cfg0.N, win0_0.index t = ![t.val / 8, t.val % 8, 0] := by decide +kernel
theorem at1 : ∀ t : Fin cfg0.N, win0_1.index t = ![t.val / 8, t.val % 8, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val / 8, t.val % 8, 0] := by decide +kernel
theorem at5 : ∀ t : Fin cfg0.N, win0_5.index t = ![t.val / 8, 0, 0] := by decide +kernel
theorem at6 : ∀ t : Fin cfg0.N, win0_6.index t = ![0, 0] := by decide +kernel
theorem at7 : ∀ t : Fin cfg0.N, win0_7.index t = ![t.val / 8, 0, 0] := by decide +kernel
theorem at8 : ∀ t : Fin cfg0.N, win0_8.index t = ![t.val / 8, 0, 0] := by decide +kernel
theorem at9 : ∀ t : Fin cfg0.N, win0_9.index t = ![t.val / 8, t.val % 8, 0] := by decide +kernel
theorem at10 : ∀ t : Fin cfg0.N, win0_10.index t = ![t.val / 8, t.val % 8, 0] := by decide +kernel
theorem at11 : ∀ t : Fin cfg0.N, win0_11.index t = ![t.val / 8, t.val % 8, 0] := by decide +kernel
theorem at12 : ∀ t : Fin cfg0.N, win0_12.index t = ![t.val / 8, t.val % 8, 0] := by decide +kernel

abbrev arg0 : FVec Ideal S2x4096x1024 .f32 := m ((c : Tc).loc main_arg0)
abbrev arg1 : FVec Ideal S2x4096x1024 .f32 := m ((c : Tc).loc main_arg1)
abbrev arg2 : FVec Ideal S1024 .f32 := m ((c : Tc).loc main_arg2)
abbrev arg3 : FVec Ideal S2048x1024 .f32 := m ((c : Tc).loc main_arg3)
abbrev arg4 : FVec Ideal S2x4096x1024 .f32 := m ((c : Tc).loc main_arg4)
abbrev arg5 : FVec Ideal S2x1024 .f32 := m ((c : Tc).loc main_arg5)
abbrev arg6 : FVec Ideal S1024 .f32 := m ((c : Tc).loc main_arg6)
abbrev arg7 : FVec Ideal S2x1024 .f32 := m ((c : Tc).loc main_arg7)
abbrev arg8 : FVec Ideal S2x1024 .f32 := m ((c : Tc).loc main_arg8)

/-! ## The blocks -/

section blocks

variable (t : Fin cfg0.N) (r : Fin 512) (k : Fin 1024) (f : Fin 2048) (b : Fin 2) (s : Fin 4096) (hb : b.val = t.val / 8) (hs : s.val = t.val % 8 * 512 + r.val)

include hb hs in
theorem read0 (X : Buf (Elt Ideal) ((c : Tc).loc main_v3)) : ((cfg0.win 0).blk t).view.read (Elt Ideal) X (ix3 0 r k) = (X : FVec Ideal S2x4096x1024 .bf16) (ix3 b s k) := by
  blk_simp
  refine congrArg X ?_
  blk_ext [at0]

include hb hs in
theorem block0 : iblk m c 0 t (ix3 0 r k) = arg0 m c (ix3 b s k) := by
  refine (read0 c t r k b s hb hs (V m c main_v3)).trans ?_
  unfold arg0
  after_reads_simp
  generalize m ((c : Tc).loc main_arg0) = X
  pointwise []

include hb hs in
theorem read1 (X : Buf (Elt Ideal) ((c : Tc).loc main_arg1)) : ((cfg0.win 1).blk t).view.read (Elt Ideal) X (ix3 0 r k) = (X : FVec Ideal S2x4096x1024 .f32) (ix3 b s k) := by
  blk_simp
  refine congrArg X ?_
  blk_ext [at1]

include hb hs in
theorem block1 : iblk m c 1 t (ix3 0 r k) = arg1 m c (ix3 b s k) := by
  refine (read1 c t r k b s hb hs (V m c main_arg1)).trans ?_
  rw [V_main_arg1]

theorem read2 (X : Buf (Elt Ideal) ((c : Tc).loc main_v4)) : ((cfg0.win 2).blk t).view.read (Elt Ideal) X (ix2 0 k) = (X : FVec Ideal S1x1024 .f32) (ix2 0 k) := by
  blk_simp
  refine congrArg X ?_
  blk_ext [at2]

theorem block2 : iblk m c 2 t (ix2 0 k) = arg2 m c (ix1 k) := by
  refine (read2 c t k (V m c main_v4)).trans ?_
  unfold arg2
  after_reads_simp
  generalize m ((c : Tc).loc main_arg2) = X
  pointwise []

theorem read3 (X : Buf (Elt Ideal) ((c : Tc).loc main_v5)) : ((cfg0.win 3).blk t).view.read (Elt Ideal) X (ix2 f k) = (X : FVec Ideal S2048x1024 .bf16) (ix2 f k) := by
  blk_simp
  refine congrArg X ?_
  blk_ext [at3]

theorem block3 : iblk m c 3 t (ix2 f k) = arg3 m c (ix2 f k) := by
  refine (read3 c t k f (V m c main_v5)).trans ?_
  unfold arg3
  after_reads_simp
  generalize m ((c : Tc).loc main_arg3) = X
  pointwise []

include hb hs in
theorem read4 (X : Buf (Elt Ideal) ((c : Tc).loc main_arg4)) : ((cfg0.win 4).blk t).view.read (Elt Ideal) X (ix3 0 r k) = (X : FVec Ideal S2x4096x1024 .f32) (ix3 b s k) := by
  blk_simp
  refine congrArg X ?_
  blk_ext [at4]

include hb hs in
theorem block4 : iblk m c 4 t (ix3 0 r k) = arg4 m c (ix3 b s k) := by
  refine (read4 c t r k b s hb hs (V m c main_arg4)).trans ?_
  rw [V_main_arg4]

include hb in
theorem read5 (X : Buf (Elt Ideal) ((c : Tc).loc main_v6)) : ((cfg0.win 5).blk t).view.read (Elt Ideal) X (ix3 0 0 k) = (X : FVec Ideal S2x1x1024 .f32) (ix3 b 0 k) := by
  blk_simp
  refine congrArg X ?_
  blk_ext [at5]

include hb in
theorem block5 : iblk m c 5 t (ix3 0 0 k) = arg5 m c (ix2 b k) := by
  refine (read5 c t k b hb (V m c main_v6)).trans ?_
  unfold arg5
  after_reads_simp
  generalize m ((c : Tc).loc main_arg5) = X
  pointwise []

theorem read6 (X : Buf (Elt Ideal) ((c : Tc).loc main_v0)) : ((cfg0.win 6).blk t).view.read (Elt Ideal) X (ix2 0 k) = (X : FVec Ideal S1x1024 .f32) (ix2 0 k) := by
  blk_simp
  refine congrArg X ?_
  blk_ext [at6]

theorem block6 : iblk m c 6 t (ix2 0 k) = arg6 m c (ix1 k) := by
  refine (read6 c t k (V m c main_v0)).trans ?_
  unfold arg6
  after_reads_simp
  generalize m ((c : Tc).loc main_arg6) = X
  pointwise []

include hb in
theorem read7 (X : Buf (Elt Ideal) ((c : Tc).loc main_v1)) : ((cfg0.win 7).blk t).view.read (Elt Ideal) X (ix3 0 0 k) = (X : FVec Ideal S2x1x1024 .f32) (ix3 b 0 k) := by
  blk_simp
  refine congrArg X ?_
  blk_ext [at7]

include hb in
theorem block7 : iblk m c 7 t (ix3 0 0 k) = arg8 m c (ix2 b k) := by
  refine (read7 c t k b hb (V m c main_v1)).trans ?_
  unfold arg8
  after_reads_simp
  generalize m ((c : Tc).loc main_arg8) = X
  pointwise []

include hb in
theorem read8 (X : Buf (Elt Ideal) ((c : Tc).loc main_v2)) : ((cfg0.win 8).blk t).view.read (Elt Ideal) X (ix3 0 0 k) = (X : FVec Ideal S2x1x1024 .f32) (ix3 b 0 k) := by
  blk_simp
  refine congrArg X ?_
  blk_ext [at8]

include hb in
theorem block8 : iblk m c 8 t (ix3 0 0 k) = arg7 m c (ix2 b k) := by
  refine (read8 c t k b hb (V m c main_v2)).trans ?_
  unfold arg7
  after_reads_simp
  generalize m ((c : Tc).loc main_arg7) = X
  pointwise []

include hb hs

theorem normed_block : normedTile (iblk m c 1 t) (iblk m c 2 t) r = normedRow (arg1 m c) (arg2 m c) b s :=
  congrArg₂ normed (funext fun k => block1 m c t r k b s hb hs) (funext fun k => block2 m c t k)

theorem product_block : productTile (iblk m c 0 t) (iblk m c 1 t) (iblk m c 2 t) (iblk m c 3 t) r = productRow (arg0 m c) (arg1 m c) (arg2 m c) (arg3 m c) b s := by
  unfold productTile productRow
  rw [normed_block m c t r b s hb hs]
  exact congrArg₂ (fun y w => joined y _ w) (funext fun k => block0 m c t r k b s hb hs) (funext fun f => funext fun k => block3 m c t k f)

theorem sum_block : sumTile (iblk m c 0 t) (iblk m c 1 t) (iblk m c 2 t) (iblk m c 3 t) (iblk m c 4 t) (iblk m c 5 t) r = sumRow (arg0 m c) (arg1 m c) (arg2 m c) (arg3 m c) (arg4 m c) (arg5 m c) b s := by
  unfold sumTile sumRow
  rw [product_block m c t r b s hb hs]
  exact congrArg₂ (fun x g => added x g _) (funext fun k => block4 m c t r k b s hb hs) (funext fun k => block5 m c t k b hb)

theorem hidden_block : out0_12 (F := Ideal) (iblk m c 0 t) (iblk m c 1 t) (iblk m c 2 t) (iblk m c 3 t) (iblk m c 4 t) (iblk m c 5 t) (iblk m c 6 t) (iblk m c 7 t) (iblk m c 8 t) (ix3 0 r k) = hiddenRow (arg0 m c) (arg1 m c) (arg2 m c) (arg3 m c) (arg4 m c) (arg5 m c) (arg6 m c) (arg7 m c) (arg8 m c) b s k := by
  refine (hidden_block_at _ _ _ _ _ _ _ _ _ r k).trans ?_
  unfold hiddenRow
  rw [sum_block m c t r b s hb hs]
  exact congrFun (congr (congr (congrArg (modulated _) (funext fun k => block6 m c t k)) (funext fun k => block7 m c t k b hb)) (funext fun k => block8 m c t k b hb)) k

end blocks

/-! ## The arrays -/

def sums : FVec Ideal S2x4096x1024 .f32 := rows (sumRow (arg0 m c) (arg1 m c) (arg2 m c) (arg3 m c) (arg4 m c) (arg5 m c))

theorem place9 (t : Fin cfg0.N) (r : Fin 512) (f : Fin 1024) (b : Fin 2) (s : Fin 4096) (hb : b.val = t.val / 8) (hs : s.val = t.val % 8 * 512 + r.val) :
    ((cfg0.win 9).blk t).view.emb (ix3 0 r f) = ix3 b s f := by
  blk_ext [at9]

theorem array9 : (dats m 0 c).arrAt 9 cfg0.N = sums m c := by
  refine (dats m 0 c).arrAt_eq_of_covers 9 _ (by decide +kernel) fun t hf y => ?_
  obtain ⟨r, d, rfl⟩ := Spots.front 512 1024 y
  have ht := inside t
  obtain ⟨b, hb⟩ : ∃ b : Fin 2, b.val = t.val / 8 := ⟨⟨t.val / 8, by omega⟩, rfl⟩
  obtain ⟨s, hs⟩ : ∃ s : Fin 4096, s.val = t.val % 8 * 512 + r.val := ⟨⟨t.val % 8 * 512 + r.val, by omega⟩, rfl⟩
  have e : (dats m 0 c).after 9 t ((cfg0.win 9).xinj (cfg0.grid.coords t) (ix3 0 r d)) = sums m c (ix3 b s d) := by
    rw [after0_9]
    exact (sum_block_at _ _ _ _ _ _ _ _ _ r d).trans (congrFun (sum_block m c t r _ _ hb hs) d)
  rw [e, place9 t r d b s hb hs]
  exact cast_eq _ _

def products : FVec Ideal S2x4096x1024 .bf16 := rows (productRow (arg0 m c) (arg1 m c) (arg2 m c) (arg3 m c))

theorem place10 (t : Fin cfg0.N) (r : Fin 512) (f : Fin 1024) (b : Fin 2) (s : Fin 4096) (hb : b.val = t.val / 8) (hs : s.val = t.val % 8 * 512 + r.val) :
    ((cfg0.win 10).blk t).view.emb (ix3 0 r f) = ix3 b s f := by
  blk_ext [at10]

theorem array10 : (dats m 0 c).arrAt 10 cfg0.N = products m c := by
  refine (dats m 0 c).arrAt_eq_of_covers 10 _ (by decide +kernel) fun t hf y => ?_
  obtain ⟨r, d, rfl⟩ := Spots.front 512 1024 y
  have ht := inside t
  obtain ⟨b, hb⟩ : ∃ b : Fin 2, b.val = t.val / 8 := ⟨⟨t.val / 8, by omega⟩, rfl⟩
  obtain ⟨s, hs⟩ : ∃ s : Fin 4096, s.val = t.val % 8 * 512 + r.val := ⟨⟨t.val % 8 * 512 + r.val, by omega⟩, rfl⟩
  have e : (dats m 0 c).after 10 t ((cfg0.win 10).xinj (cfg0.grid.coords t) (ix3 0 r d)) = products m c (ix3 b s d) := by
    rw [after0_10]
    exact (product_block_at _ _ _ _ _ _ _ _ _ r d).trans (congrFun (product_block m c t r _ _ hb hs) d)
  rw [e, place10 t r d b s hb hs]
  exact cast_eq _ _

def norms : FVec Ideal S2x4096x1024 .bf16 := rows (normedRow (arg1 m c) (arg2 m c))

theorem place11 (t : Fin cfg0.N) (r : Fin 512) (f : Fin 1024) (b : Fin 2) (s : Fin 4096) (hb : b.val = t.val / 8) (hs : s.val = t.val % 8 * 512 + r.val) :
    ((cfg0.win 11).blk t).view.emb (ix3 0 r f) = ix3 b s f := by
  blk_ext [at11]

theorem array11 : (dats m 0 c).arrAt 11 cfg0.N = norms m c := by
  refine (dats m 0 c).arrAt_eq_of_covers 11 _ (by decide +kernel) fun t hf y => ?_
  obtain ⟨r, d, rfl⟩ := Spots.front 512 1024 y
  have ht := inside t
  obtain ⟨b, hb⟩ : ∃ b : Fin 2, b.val = t.val / 8 := ⟨⟨t.val / 8, by omega⟩, rfl⟩
  obtain ⟨s, hs⟩ : ∃ s : Fin 4096, s.val = t.val % 8 * 512 + r.val := ⟨⟨t.val % 8 * 512 + r.val, by omega⟩, rfl⟩
  have e : (dats m 0 c).after 11 t ((cfg0.win 11).xinj (cfg0.grid.coords t) (ix3 0 r d)) = norms m c (ix3 b s d) := by
    rw [after0_11]
    exact (normed_block_at _ _ _ _ _ _ _ _ _ r d).trans (congrFun (normed_block m c t r _ _ hb hs) d)
  rw [e, place11 t r d b s hb hs]
  exact cast_eq _ _

def hidden : FVec Ideal S2x4096x1024 .bf16 := rows (hiddenRow (arg0 m c) (arg1 m c) (arg2 m c) (arg3 m c) (arg4 m c) (arg5 m c) (arg6 m c) (arg7 m c) (arg8 m c))

theorem place12 (t : Fin cfg0.N) (r : Fin 512) (f : Fin 1024) (b : Fin 2) (s : Fin 4096) (hb : b.val = t.val / 8) (hs : s.val = t.val % 8 * 512 + r.val) :
    ((cfg0.win 12).blk t).view.emb (ix3 0 r f) = ix3 b s f := by
  blk_ext [at12]

theorem array12 : (dats m 0 c).arrAt 12 cfg0.N = hidden m c := by
  refine (dats m 0 c).arrAt_eq_of_covers 12 _ (by decide +kernel) fun t hf y => ?_
  obtain ⟨r, d, rfl⟩ := Spots.front 512 1024 y
  have ht := inside t
  obtain ⟨b, hb⟩ : ∃ b : Fin 2, b.val = t.val / 8 := ⟨⟨t.val / 8, by omega⟩, rfl⟩
  obtain ⟨s, hs⟩ : ∃ s : Fin 4096, s.val = t.val % 8 * 512 + r.val := ⟨⟨t.val % 8 * 512 + r.val, by omega⟩, rfl⟩
  have e : (dats m 0 c).after 12 t ((cfg0.win 12).xinj (cfg0.grid.coords t) (ix3 0 r d)) = hidden m c (ix3 b s d) := by
    rw [after0_12]
    exact hidden_block m c t r d _ _ hb hs
  rw [e, place12 t r d b s hb hs]
  exact cast_eq _ _

end kernel

/-! ## The reference, entry by entry -/

section reference

open Cert.Reference11Ideal Cert.Reference11Ideal.Gen Cert.Reference11Ideal.Read

variable (x0 x1 : FVec Ideal S2x4096x1024 .f32) (x2 : FVec Ideal S1024 .f32) (x3 : FVec Ideal S2048x1024 .f32) (x4 : FVec Ideal S2x4096x1024 .f32)
  (x5 : FVec Ideal S2x1024 .f32) (x6 : FVec Ideal S1024 .f32) (x7 x8 : FVec Ideal S2x1024 .f32) (b : Fin 2) (s : Fin 4096) (d : Fin 1024)

theorem reference_normed : val_main_v12 (F := Ideal) x1 x2 (ix3 b s d) = normedRow x1 x2 b s d := by
  unfold normedRow normed root square small Norm.count
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem reference_first (k : Fin 1024) : val_main_v13 (F := Ideal) x0 x1 x2 (ix3 b s ⟨k.val, by omega⟩) = x0 (ix3 b s k) := by
  unfold val_main_v13
  generalize val_main_v12 (F := Ideal) x1 x2 = p
  pointwise []

theorem reference_second (k : Fin 1024) : val_main_v13 (F := Ideal) x0 x1 x2 (ix3 b s ⟨1024 + k.val, by omega⟩) = normedRow x1 x2 b s k := by
  rw [← reference_normed]
  unfold val_main_v13
  generalize val_main_v12 (F := Ideal) x1 x2 = p
  pointwise []

theorem reference_product : val_main_v14 (F := Ideal) x0 x1 x2 x3 (ix3 b s d) = productRow x0 x1 x2 x3 b s d := by
  have e : val_main_v14 (F := Ideal) x0 x1 x2 x3 (ix3 b s d) = ∑ k : Fin 2048, val_main_v13 (F := Ideal) x0 x1 x2 (ix3 b s k) * x3 (ix2 k d) := by
    unfold val_main_v14
    generalize val_main_v13 (F := Ideal) x0 x1 x2 = p
    pointwise []
  unfold productRow joined
  simp only [← reference_first x0 x1 x2 b s, ← reference_second x0 x1 x2 b s]
  exact e.trans (Fin.sum_univ_add (a := 1024) (b := 1024) fun k : Fin 2048 => val_main_v13 (F := Ideal) x0 x1 x2 (ix3 b s k) * x3 (ix2 k d))

theorem reference_product_result : val_main_v19 (F := Ideal) x0 x1 x2 x3 (ix3 b s d) = productRow x0 x1 x2 x3 b s d := by
  rw [← reference_product]
  unfold val_main_v19
  generalize val_main_v14 (F := Ideal) x0 x1 x2 x3 = p
  pointwise []

theorem reference_normed_result : val_main_v20 (F := Ideal) x1 x2 (ix3 b s d) = normedRow x1 x2 b s d := by
  rw [← reference_normed]
  unfold val_main_v20
  generalize val_main_v12 (F := Ideal) x1 x2 = p
  pointwise []

theorem reference_sum : val_main_v18 (F := Ideal) x0 x1 x2 x3 x4 x5 (ix3 b s d) = sumRow x0 x1 x2 x3 x4 x5 b s d := by
  unfold sumRow added
  rw [← reference_product]
  unfold val_main_v18 val_main_v17 val_main_v16 val_main_v15
  generalize val_main_v14 (F := Ideal) x0 x1 x2 x3 = p
  pointwise []

theorem reference_root : val_main_v28 (F := Ideal) x0 x1 x2 x3 x4 x5 (ix3 b s 0) = root (sumRow x0 x1 x2 x3 x4 x5 b s) := by
  unfold root square small Norm.count
  simp only [← reference_sum]
  unfold val_main_v28 val_main_v27 val_main_v26 val_main_v25 val_main_v24 val_main_v23 val_main_v22 val_main_v21 val_main_cst_2 val_main_cst_3 val_main_cst_4
  generalize val_main_v18 (F := Ideal) x0 x1 x2 x3 x4 x5 = p
  pointwise []

theorem reference_hidden : val_main_v42 (F := Ideal) x0 x1 x2 x3 x4 x5 x6 x7 x8 (ix3 b s d) = hiddenRow x0 x1 x2 x3 x4 x5 x6 x7 x8 b s d := by
  unfold hiddenRow modulated
  rw [← reference_root, ← reference_sum]
  unfold val_main_v42 val_main_v41 val_main_v40 val_main_v39 val_main_v38 val_main_v37 val_main_v36 val_main_v35 val_main_v34 val_main_v33 val_main_v32 val_main_v31 val_main_v30 val_main_v29 val_main_cst_5
  generalize val_main_v28 (F := Ideal) x0 x1 x2 x3 x4 x5 = q
  generalize val_main_v18 (F := Ideal) x0 x1 x2 x3 x4 x5 = p
  pointwise []

end reference

theorem algebraic : Cert.algebraic_Kernel11Ideal_Reference11Ideal (hKernel11Ideal := Cert.Kernel11Ideal.Gen.facts)
    (hReference11Ideal := Cert.Reference11Ideal.Gen.facts) := by
  intro m g m' g' hf he
  refine ⟨sums m, products m, norms m, hidden m, (θ_run _ _ _).mono (fun r h c => ⟨(h.1.out_eq c 9).trans (array9 m c), (h.1.out_eq c 10).trans (array10 m c),
    (h.1.out_eq c 11).trans (array11 m c), (h.1.out_eq c 12).trans (array12 m c), h.2 c⟩)
    (θ_run_and (Cert.Kernel11Ideal.Gen.run_main m g) (Cert.Kernel11Ideal.Gen.unchanged m g)), ?_⟩
  refine (θ_run _ _ _).mono (fun r h c => ?_) (Cert.Reference11Ideal.Value.run (F := Ideal) m' g')
  obtain ⟨e0, e1, e2, e3, e4, e5, e6, e7, e8⟩ := he c
  have whole : ∀ i : Cert.Reference11Ideal.S2x4096x1024.Idx, ∃ (b : Fin 2) (s : Fin 4096) (d : Fin 1024), i = ix3 b s d := fun i =>
    ⟨i 0, i 1, i 2, by funext a; fin_cases a <;> rfl⟩
  refine ⟨(h c).1.trans ((Reference11Ideal.Read.val_main_v18_eq _ _ _ _ _ _).trans ?_), (h c).2.1.trans ((Reference11Ideal.Read.val_main_v19_eq _ _ _ _).trans ?_),
    (h c).2.2.1.trans ((Reference11Ideal.Read.val_main_v20_eq _ _).trans ?_), (h c).2.2.2.1.trans ((Reference11Ideal.Read.val_main_v42_eq m' c).trans ?_), (h c).2.2.2.2⟩
  · rw [e0, e1, e2, e3, e4, e5]
    funext i
    obtain ⟨b, s, d, rfl⟩ := whole i
    exact reference_sum _ _ _ _ _ _ b s d
  · rw [e0, e1, e2, e3]
    funext i
    obtain ⟨b, s, d, rfl⟩ := whole i
    exact reference_product_result _ _ _ _ b s d
  · rw [e1, e2]
    funext i
    obtain ⟨b, s, d, rfl⟩ := whole i
    exact reference_normed_result _ _ b s d
  · rw [e0, e1, e2, e3, e4, e5, e6, e7, e8]
    funext i
    obtain ⟨b, s, d, rfl⟩ := whole i
    exact reference_hidden _ _ _ _ _ _ _ _ _ b s d
-- ==== Proof.Back.lean ====
/-
  The gradient through the output projection and the normalisation before it is the reference's.
-/
module

public import proofs.«01_k».proof.Proof.Join
public import proofs.«01_k».proof.Proof.Norm
public import proofs.«01_k».proof.Proof.Gen.Kernel12Ideal.Frame
public import proofs.«01_k».proof.Proof.Gen.Reference12Ideal.Read
public import proofs.«01_k».proof.Proof.Gen.Pre_finite12

@[expose] public noncomputable section

set_option maxRecDepth 16384

namespace Cert.Proof.Back

open Idealize ShloMosaic ShloMosaic.TcCoe SL.Sem ShloMosaic.Pointwise
open Cert.Proof.Norm (root square small scaled pull share agree minusHalf)
open Cert.Proof.Down (zeros2 zeros3)

/-- The product of a row of the gradient with a half of the weight, from the given row of the weight on. -/
def dot (g : Fin 1024 → EReal) (w : Fin 2048 → Fin 1024 → EReal) (o : ℕ) (ho : o ≤ 1024) (d : Fin 1024) : EReal :=
  ∑ k : Fin 1024, g k * w ⟨o + d.val, by omega⟩ k
/-- The gradient of a row of the normalisation's input. -/
def slope (x g n : Fin 1024 → EReal) : Fin 1024 → EReal := pull x g (fun _ => 0) n
/-- The sum over a head's lanes. -/
def head (x g : Fin 1024 → EReal) (h : Fin 8) : EReal := ∑ k : Fin 128, g ⟨h.val * 128 + k.val, by omega⟩ * x ⟨h.val * 128 + k.val, by omega⟩

section rows

variable (x1 : FVec Ideal ⟨3, ![2, 4096, 1024]⟩ .f32) (x2 : FVec Ideal ⟨1, ![1024]⟩ .f32) (x3 : FVec Ideal ⟨2, ![2048, 1024]⟩ .f32)
  (x4 : FVec Ideal ⟨3, ![2, 4096, 1024]⟩ .f32) (b : Fin 2) (s : Fin 4096)

abbrev inputRow : Fin 1024 → EReal := fun k => x1 (ix3 b s k)
def firstRow : Fin 1024 → EReal := dot (fun k => x4 (ix3 b s k)) (fun k d => x3 (ix2 k d)) 0 (by decide)
def reachRow : Fin 1024 → EReal := dot (fun k => x4 (ix3 b s k)) (fun k d => x3 (ix2 k d)) 1024 le_rfl
def slopeRow : Fin 1024 → EReal := slope (inputRow x1 b s) (reachRow x3 x4 b s) (fun k => x2 (ix1 k))
def headRow (h : Fin 8) : EReal := head (inputRow x1 b s) (slopeRow x1 x2 x3 x4 b s) h
def weightSum (d : Fin 1024) : EReal := ∑ b : Fin 2, ∑ s : Fin 4096, reachRow x3 x4 b s d * (inputRow x1 b s d * root (inputRow x1 b s))

end rows

section kernel

open Cert.Kernel12Ideal Cert.Kernel12Ideal.Gen
local notation "Tc" => Thread nD τ

section tile

variable (g : FVec Ideal S1x512x1024 .bf16) (x : FVec Ideal S1x512x1024 .f32) (n A : FVec Ideal S1x1024 .f32) (u : FVec Ideal S1024x1024 .bf16)
  (w : FVec Ideal S2048x1024 .bf16) (r : Fin 512) (d : Fin 1024)

theorem upper_at (k : Fin 1024) : (View.ld (Val := Elt Ideal) (S := S2048x1024) (e' := .bf16) w (Rect.unit ![0, 0] ![1024, 1024] inb_S2048x1024_S1024x1024_0_0) : FVec Ideal S1024x1024 .bf16) (ix2 d k) = w (ix2 ⟨0 + d.val, by omega⟩ k) := by
  refine congrArg w (funext fun a => Fin.ext ?_)
  show (![0, 0] : Fin 2 → ℕ) a + 1 * (ix2 d k a).val = _
  fin_cases a <;> simp

theorem lower_at (k : Fin 1024) : (View.ld (Val := Elt Ideal) (S := S2048x1024) (e' := .bf16) w (Rect.unit ![1024, 0] ![1024, 1024] inb_S2048x1024_S1024x1024_1024_0) : FVec Ideal S1024x1024 .bf16) (ix2 d k) = w (ix2 ⟨1024 + d.val, by omega⟩ k) := by
  refine congrArg w (funext fun a => Fin.ext ?_)
  show (![1024, 0] : Fin 2 → ℕ) a + 1 * (ix2 d k a).val = _
  fin_cases a <;> simp

/-- A row of a block. -/
abbrev row (r : Fin 512) (k : Fin 1024) : EReal := x (ix3 0 r k)
/-- The entries of a vector. -/
abbrev vector (k : Fin 1024) : EReal := n (ix2 0 k)
/-- A row of the gradient that reaches the normalised rows. -/
def reach (r : Fin 512) (d : Fin 1024) : EReal := ∑ k : Fin 1024, g (ix3 0 r k) * u (ix2 d k)

theorem first_at : k0_pay4 (F := Ideal) g u (ix3 0 r d) = reach g u r d := by
  unfold reach
  pointwise [k0_pay4, k0_pay3]

theorem reach_at : k0_pay5 (F := Ideal) g u (ix2 r d) = reach g u r d := by
  unfold reach
  pointwise [k0_pay5, k0_pay3]

theorem input_at : k0_pay6 (F := Ideal) x (ix2 r d) = row x r d := by
  pointwise [k0_pay6]

theorem root_at : k0_pay7 (F := Ideal) x (ix2 r 0) = root (row x r) := by
  unfold k0_pay7 root square Norm.count small
  have e := input_at x
  generalize k0_pay6 (F := Ideal) x = y at e
  pointwise []
  simp only [e]

theorem normal_at : k0_pay8 (F := Ideal) x (ix2 r d) = row x r d * root (row x r) := by
  rw [← root_at, ← input_at]
  unfold k0_pay8
  generalize k0_pay7 (F := Ideal) x = p
  generalize k0_pay6 (F := Ideal) x = q
  pointwise []

/-- The gradient of a row. -/
abbrev slopeTile (r : Fin 512) : Fin 1024 → EReal := slope (row x r) (reach g u r) (vector n)

theorem slope_at : k0_pay12 (F := Ideal) (k0_pay5 g u) (k0_pay7 x) (k0_pay8 x) n (ix2 r d) = slopeTile g x n u r d := by
  unfold slopeTile slope pull
  simp only [Norm.scaled_plain, ← normal_at, ← reach_at]
  rw [← root_at]
  unfold k0_pay12 Norm.count
  generalize k0_pay5 (F := Ideal) g u = p
  generalize k0_pay8 (F := Ideal) x = n
  generalize k0_pay7 (F := Ideal) x = s
  pointwise []

theorem slope_block_at : k0_pay13 (F := Ideal) (k0_pay5 g u) (k0_pay7 x) (k0_pay8 x) n (ix3 0 r d) = slopeTile g x n u r d := by
  rw [← slope_at]
  unfold k0_pay13
  generalize k0_pay12 (F := Ideal) _ _ _ _ = p
  pointwise []

theorem product_at : k0_pay14 (F := Ideal) (k0_pay5 g u) (k0_pay6 x) (k0_pay7 x) (k0_pay8 x) n (ix2 r d) = slopeTile g x n u r d * row x r d := by
  rw [← slope_at, ← input_at]
  unfold k0_pay14
  generalize k0_pay12 (F := Ideal) _ _ _ _ = p
  generalize k0_pay6 (F := Ideal) x = q
  pointwise []

/-- What a point adds to the gradient of the weight. -/
def part (d : Fin 1024) : EReal := ∑ r : Fin 512, reach g u r d * (row x r d * root (row x r))

theorem weight_at : k0_pay11 (F := Ideal) (k0_pay9 A) (k0_pay10 g u x) (ix2 0 d) = vector A d + part g x u d := by
  unfold part
  simp only [← normal_at, ← reach_at]
  unfold k0_pay11 k0_pay10
  generalize k0_pay5 (F := Ideal) g u = p
  generalize k0_pay8 (F := Ideal) x = q
  pointwise [k0_pay9]

theorem zero_at : k0_pay2 (F := Ideal) (ix2 0 d) = 0 := by pointwise [k0_pay2]

theorem head_at (h : Fin 8) : k0_pay1 (F := Ideal) (iota Kind.tc S512x128 32 [1] iota_S512x128_d1_w32)
      (k0_pay14 (k0_pay5 g u) (k0_pay6 x) (k0_pay7 x) (k0_pay8 x) n)
      (k0_pay19 (iota Kind.tc S512x128 32 [1] iota_S512x128_d1_w32)
        (k0_pay14 (k0_pay5 g u) (k0_pay6 x) (k0_pay7 x) (k0_pay8 x) n)
        (k0_pay15 (iota Kind.tc S512x128 32 [1] iota_S512x128_d1_w32) (k0_pay5 g u) (k0_pay6 x) (k0_pay7 x) (k0_pay8 x) n)
        (k0_pay16 (iota Kind.tc S512x128 32 [1] iota_S512x128_d1_w32))
        (k0_pay17 (k0_pay5 g u) (k0_pay6 x) (k0_pay7 x) (k0_pay8 x) n) k0_pay18)
      (k0_pay20 (iota Kind.tc S512x128 32 [1] iota_S512x128_d1_w32))
      (k0_pay21 (k0_pay14 (k0_pay5 g u) (k0_pay6 x) (k0_pay7 x) (k0_pay8 x) n)) (ix3 0 h r)
    = head (row x r) (slopeTile g x n u r) h := by
  unfold head
  simp only [← product_at]
  unfold k0_pay1 k0_pay19 k0_pay15 k0_pay16 k0_pay17 k0_pay18 k0_pay20 k0_pay21
  generalize k0_pay14 (F := Ideal) _ _ _ _ _ = P
  pointwise []
  fin_cases h <;> simp [Scalar.select, IntOp.cmpi]

end tile

variable (m : (ℓ : Loc nD τ sig) → Buf (Elt Ideal) ℓ) (ρ : Dev nD → PrngReg) (c : Dev nD)

theorem inside (t : Fin cfg0.N) : t.val < 16 := lt_of_lt_of_eq t.isLt (show cfg0.N = 16 from N_0)

theorem at0 : ∀ t : Fin cfg0.N, win0_0.index t = ![t.val / 8, t.val % 8, 0] := by decide +kernel
theorem at1 : ∀ t : Fin cfg0.N, win0_1.index t = ![t.val / 8, t.val % 8, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val / 8, t.val % 8, 0] := by decide +kernel
theorem at5 : ∀ t : Fin cfg0.N, win0_5.index t = ![t.val / 8, t.val % 8, 0] := by decide +kernel
theorem at6 : ∀ t : Fin cfg0.N, win0_6.index t = ![t.val / 8, 0, t.val % 8] := by decide +kernel
theorem at7 : ∀ t : Fin cfg0.N, win0_7.index t = ![0, 0] := by decide +kernel

abbrev arg1 : FVec Ideal S2x4096x1024 .f32 := m ((c : Tc).loc main_arg1)
abbrev arg2 : FVec Ideal S1024 .f32 := m ((c : Tc).loc main_arg2)
abbrev arg3 : FVec Ideal S2048x1024 .f32 := m ((c : Tc).loc main_arg3)
abbrev arg4 : FVec Ideal S2x4096x1024 .f32 := m ((c : Tc).loc main_arg4)

/-! ## The blocks -/

section blocks

variable (t : Fin cfg0.N) (r : Fin 512) (k d : Fin 1024) (f : Fin 2048) (b : Fin 2) (s : Fin 4096) (hb : b.val = t.val / 8) (hs : s.val = t.val % 8 * 512 + r.val)

include hb hs in
theorem read0 (X : Buf (Elt Ideal) ((c : Tc).loc main_v0)) : ((cfg0.win 0).blk t).view.read (Elt Ideal) X (ix3 0 r k) = (X : FVec Ideal S2x4096x1024 .bf16) (ix3 b s k) := by
  blk_simp
  refine congrArg X ?_
  blk_ext [at0]

include hb hs in
theorem block0 : iblk m c 0 t (ix3 0 r k) = arg4 m c (ix3 b s k) := by
  refine (read0 c t r k b s hb hs (V m c main_v0)).trans ?_
  unfold arg4
  after_reads_simp
  generalize m ((c : Tc).loc main_arg4) = X
  pointwise []

include hb hs in
theorem read1 (X : Buf (Elt Ideal) ((c : Tc).loc main_arg1)) : ((cfg0.win 1).blk t).view.read (Elt Ideal) X (ix3 0 r k) = (X : FVec Ideal S2x4096x1024 .f32) (ix3 b s k) := by
  blk_simp
  refine congrArg X ?_
  blk_ext [at1]

include hb hs in
theorem block1 : row (iblk m c 1 t) r = inputRow (arg1 m c) b s := funext fun k => by
  refine (read1 c t r k b s hb hs (V m c main_arg1)).trans ?_
  rw [V_main_arg1]

theorem read2 (X : Buf (Elt Ideal) ((c : Tc).loc main_v1)) : ((cfg0.win 2).blk t).view.read (Elt Ideal) X (ix2 0 k) = (X : FVec Ideal S1x1024 .f32) (ix2 0 k) := by
  blk_simp
  refine congrArg X ?_
  blk_ext [at2]

theorem block2 : vector (iblk m c 2 t) = fun k => arg2 m c (ix1 k) := funext fun k => by
  refine (read2 c t k (V m c main_v1)).trans ?_
  unfold arg2
  after_reads_simp
  generalize m ((c : Tc).loc main_arg2) = X
  pointwise []

theorem read3 (X : Buf (Elt Ideal) ((c : Tc).loc main_v2)) : ((cfg0.win 3).blk t).view.read (Elt Ideal) X (ix2 f k) = (X : FVec Ideal S2048x1024 .bf16) (ix2 f k) := by
  blk_simp
  refine congrArg X ?_
  blk_ext [at3]

theorem block3 : iblk m c 3 t (ix2 f k) = arg3 m c (ix2 f k) := by
  refine (read3 c t k f (V m c main_v2)).trans ?_
  unfold arg3
  after_reads_simp
  generalize m ((c : Tc).loc main_arg3) = X
  pointwise []

include hb hs

theorem first_block : reach (iblk m c 0 t) (View.ld (iblk m c 3 t) (Rect.unit ![0, 0] ![1024, 1024] inb_S2048x1024_S1024x1024_0_0)) r = firstRow (arg3 m c) (arg4 m c) b s :=
  funext fun d => Finset.sum_congr rfl fun k _ => congrArg₂ (fun p q : EReal => p * q) (block0 m c t r k b s hb hs) ((upper_at (iblk m c 3 t) d k).trans (block3 m c t k _))

theorem reach_block : reach (iblk m c 0 t) (View.ld (iblk m c 3 t) (Rect.unit ![1024, 0] ![1024, 1024] inb_S2048x1024_S1024x1024_1024_0)) r = reachRow (arg3 m c) (arg4 m c) b s :=
  funext fun d => Finset.sum_congr rfl fun k _ => congrArg₂ (fun p q : EReal => p * q) (block0 m c t r k b s hb hs) ((lower_at (iblk m c 3 t) d k).trans (block3 m c t k _))

theorem slope_block : slopeTile (iblk m c 0 t) (iblk m c 1 t) (iblk m c 2 t) (View.ld (iblk m c 3 t) (Rect.unit ![1024, 0] ![1024, 1024] inb_S2048x1024_S1024x1024_1024_0)) r = slopeRow (arg1 m c) (arg2 m c) (arg3 m c) (arg4 m c) b s := by
  unfold slopeTile slopeRow
  rw [block1 m c t r b s hb hs, block2 m c t, reach_block m c t r b s hb hs]

theorem first_point : (outsAt0 m c t.val t.isLt).1 (ix3 0 r d) = firstRow (arg3 m c) (arg4 m c) b s d := by
  rw [← first_block m c t r b s hb hs]
  by_cases h : t.val % 16 = 0
  · rw [outsAt0_A m c t h]
    frame_out
    exact first_at ..
  · rw [outsAt0_B m c t h]
    frame_out
    exact first_at ..

theorem slope_point : (outsAt0 m c t.val t.isLt).2.1 (ix3 0 r d) = slopeRow (arg1 m c) (arg2 m c) (arg3 m c) (arg4 m c) b s d := by
  rw [← slope_block m c t r b s hb hs]
  by_cases h : t.val % 16 = 0
  · rw [outsAt0_A m c t h]
    frame_out
    exact slope_block_at ..
  · rw [outsAt0_B m c t h]
    frame_out
    exact slope_block_at ..

theorem head_point (h : Fin 8) : (outsAt0 m c t.val t.isLt).2.2.1 (ix3 0 h r) = headRow (arg1 m c) (arg2 m c) (arg3 m c) (arg4 m c) b s h := by
  unfold headRow
  rw [← slope_block m c t r b s hb hs, ← block1 m c t r b s hb hs]
  by_cases h0 : t.val % 16 = 0
  · rw [outsAt0_A m c t h0]
    frame_out
    exact head_at ..
  · rw [outsAt0_B m c t h0]
    frame_out
    exact head_at ..

omit hb hs

/-- What a point adds to the gradient of the weight. -/
abbrev addWeight : EReal := part (iblk m c 0 t) (iblk m c 1 t) (View.ld (iblk m c 3 t) (Rect.unit ![1024, 0] ![1024, 1024] inb_S2048x1024_S1024x1024_1024_0)) d

theorem weight_first (h : t.val % 16 = 0) : (outsAt0 m c t.val t.isLt).2.2.2 (ix2 0 d) = 0 + addWeight m c t d := by
  rw [outsAt0_A m c t h]
  frame_out
  exact (weight_at ..).trans (congrArg (· + _) (zero_at d))

theorem weight_next (h : ¬t.val % 16 = 0) : (outsAt0 m c t.val t.isLt).2.2.2 (ix2 0 d)
    = (outsAt0 m c (t.val - 1) (Nat.lt_of_le_of_lt (Nat.sub_le _ _) t.isLt)).2.2.2 (ix2 0 d) + addWeight m c t d := by
  rw [outsAt0_B m c t h]
  frame_out
  exact weight_at ..

theorem weight_run (h : t.val % 16 = 15) : (outsAt0 m c t.val t.isLt).2.2.2 (ix2 0 d) = weightSum (arg1 m c) (arg3 m c) (arg4 m c) d := by
  have ht := inside t
  rw [Pipeline.eq_sum_fin_of_reset_step_of_flush (fun n hn => (outsAt0 m c n hn).2.2.2 (ix2 0 d)) 16 0 (fun t => addWeight m c t d)
    (fun t h => weight_first m c t d h) (fun t h => weight_next m c t d h) t h, zero_add]
  unfold addWeight part weightSum
  refine Fin.sum_points_lanes_congr 8 fun s r hb hl => ?_
  have hs := s.isLt
  rw [reach_block m c ⟨16 * (t.val / 16) + s.val, Pipeline.run_point_lt_of_flush t h s⟩ r ⟨s.val / 8, hb⟩ ⟨s.val % 8 * 512 + r.val, hl⟩ (by dsimp only; omega) (by dsimp only; omega),
    block1 m c ⟨16 * (t.val / 16) + s.val, Pipeline.run_point_lt_of_flush t h s⟩ r ⟨s.val / 8, hb⟩ ⟨s.val % 8 * 512 + r.val, hl⟩ (by dsimp only; omega) (by dsimp only; omega)]

end blocks

/-! ## The arrays -/

def firsts : FVec Ideal S2x4096x1024 .f32 := Join.rows (firstRow (arg3 m c) (arg4 m c))
def slopes : FVec Ideal S2x4096x1024 .bf16 := Join.rows (slopeRow (arg1 m c) (arg2 m c) (arg3 m c) (arg4 m c))
def heads : FVec Ideal S2x8x4096 .f32 := fun i => headRow (arg1 m c) (arg2 m c) (arg3 m c) (arg4 m c) ⟨(i 0).val, (i 0).isLt⟩ ⟨(i 2).val, (i 2).isLt⟩ ⟨(i 1).val, (i 1).isLt⟩
def weights : FVec Ideal S1x1024 .f32 := fun i => weightSum (arg1 m c) (arg3 m c) (arg4 m c) ⟨(i 1).val, (i 1).isLt⟩

section places

variable (t : Fin cfg0.N) (r : Fin 512) (d : Fin 1024) (b : Fin 2) (s : Fin 4096) (hb : b.val = t.val / 8) (hs : s.val = t.val % 8 * 512 + r.val)

include hb hs

theorem place4 : ((cfg0.win 4).blk t).view.emb (ix3 0 r d) = ix3 b s d := by
  blk_ext [at4]
theorem place5 : ((cfg0.win 5).blk t).view.emb (ix3 0 r d) = ix3 b s d := by
  blk_ext [at5]
theorem place6 (h : Fin 8) : ((cfg0.win 6).blk t).view.emb (ix3 0 h r) = ix3 b h s := by
  blk_ext [at6]
omit hb hs in
theorem place7 : ((cfg0.win 7).blk t).view.emb (ix2 0 d) = ix2 0 d := by
  blk_ext [at7]

end places

theorem spot (t : Fin cfg0.N) (r : Fin 512) : ∃ (b : Fin 2) (s : Fin 4096), b.val = t.val / 8 ∧ s.val = t.val % 8 * 512 + r.val := by
  have ht := inside t
  exact ⟨⟨t.val / 8, by omega⟩, ⟨t.val % 8 * 512 + r.val, by omega⟩, rfl, rfl⟩

theorem array4 : (dats m 0 c).arrAt 4 cfg0.N = firsts m c := by
  refine (dats m 0 c).arrAt_eq_of_covers 4 _ (by decide +kernel) fun t hf y => ?_
  obtain ⟨r, d, rfl⟩ := Spots.front 512 1024 y
  obtain ⟨b, s, hb, hs⟩ := spot t r
  have e : (dats m 0 c).after 4 t ((cfg0.win 4).xinj (cfg0.grid.coords t) (ix3 0 r d)) = firsts m c (ix3 b s d) := by
    rw [after0_4]
    exact first_point m c t r d b s hb hs
  rw [e, place4 t r d b s hb hs]
  exact cast_eq _ _

theorem array5 : (dats m 0 c).arrAt 5 cfg0.N = slopes m c := by
  refine (dats m 0 c).arrAt_eq_of_covers 5 _ (by decide +kernel) fun t hf y => ?_
  obtain ⟨r, d, rfl⟩ := Spots.front 512 1024 y
  obtain ⟨b, s, hb, hs⟩ := spot t r
  have e : (dats m 0 c).after 5 t ((cfg0.win 5).xinj (cfg0.grid.coords t) (ix3 0 r d)) = slopes m c (ix3 b s d) := by
    rw [after0_5]
    exact slope_point m c t r d b s hb hs
  rw [e, place5 t r d b s hb hs]
  exact cast_eq _ _

theorem array6 : (dats m 0 c).arrAt 6 cfg0.N = heads m c := by
  refine (dats m 0 c).arrAt_eq_of_covers 6 _ (by decide +kernel) fun t hf y => ?_
  obtain ⟨h, r, rfl⟩ := Spots.front 8 512 y
  obtain ⟨b, s, hb, hs⟩ := spot t r
  have e : (dats m 0 c).after 6 t ((cfg0.win 6).xinj (cfg0.grid.coords t) (ix3 0 h r)) = heads m c (ix3 b h s) := by
    rw [after0_6]
    exact head_point m c t r b s hb hs h
  rw [e, place6 t r b s hb hs h]
  exact cast_eq _ _

theorem array7 : (dats m 0 c).arrAt 7 cfg0.N = weights m c := by
  refine (dats m 0 c).arrAt_eq_of_covers 7 _ (by decide +kernel) fun t hf y => ?_
  obtain ⟨d, rfl⟩ := Spots.line 1024 y
  have e : (dats m 0 c).after 7 t ((cfg0.win 7).xinj (cfg0.grid.coords t) (ix2 0 d)) = weights m c (ix2 0 d) := by
    rw [after0_7]
    exact weight_run m c t d ((flush0_7 t).mp hf)
  rw [e, place7 t d]
  exact cast_eq _ _

end kernel

/-! ## The reference, entry by entry -/

section reference

open Cert.Reference12Ideal Cert.Reference12Ideal.Gen Cert.Reference12Ideal.Read

variable (x1 : FVec Ideal S2x4096x1024 .f32) (x2 : FVec Ideal S1024 .f32) (x3 : FVec Ideal S2048x1024 .f32) (x4 : FVec Ideal S2x4096x1024 .f32)
  (b : Fin 2) (s : Fin 4096) (d : Fin 1024)

theorem reference_first : val_main_v19 (F := Ideal) x3 x4 (ix3 b s d) = firstRow x3 x4 b s d := by
  unfold firstRow dot
  simp only [Nat.zero_add]
  pointwise [val_main_v19, val_main_v18]

theorem reference_reach : val_main_v20 (F := Ideal) x3 x4 (ix3 b s d) = reachRow x3 x4 b s d := by
  unfold reachRow dot
  pointwise [val_main_v20, val_main_v18]

theorem reference_square : val_main_v6 (F := Ideal) x1 (ix3 b s 0) = square (inputRow x1 b s) := by
  unfold square Norm.count small
  pointwise [val_main_v6, val_main_v5, val_main_v4, val_main_v3, val_main_v2, val_main_v1, val_main_v0, val_main_cst, val_main_cst_0, val_main_cst_1]

theorem reference_root : val_main_v7 (F := Ideal) x1 (ix3 b s 0) = root (inputRow x1 b s) := by
  unfold root
  rw [← reference_square]
  unfold val_main_v7
  generalize val_main_v6 (F := Ideal) x1 = p
  pointwise []

theorem reference_normal : val_main_v12 (F := Ideal) x1 (ix3 b s d) = inputRow x1 b s d * root (inputRow x1 b s) := by
  rw [← reference_root]
  unfold val_main_v12 val_main_v11
  generalize val_main_v7 (F := Ideal) x1 = p
  pointwise []

theorem reference_scaled : val_main_v25 (F := Ideal) x2 x3 x4 (ix3 b s d) = scaled (reachRow x3 x4 b s) (fun _ => 0) (fun k => x2 (ix1 k)) d := by
  rw [Norm.scaled_plain, ← reference_reach]
  unfold val_main_v25 val_main_v24 val_main_v13
  generalize val_main_v20 (F := Ideal) x3 x4 = p
  pointwise []

theorem reference_share : val_main_v35 (F := Ideal) x1 x2 x3 x4 (ix2 b s) = share (inputRow x1 b s) (reachRow x3 x4 b s) (fun _ => 0) (fun k => x2 (ix1 k)) := by
  unfold share Norm.count minusHalf
  rw [← reference_root, ← reference_square]
  simp only [← reference_scaled]
  unfold val_main_v35 val_main_v34 val_main_v33 val_main_v32 val_main_v29 val_main_v28 val_main_v27 val_main_v10 val_main_v9 val_main_v8 val_main_cst_2 val_main_cst_5 val_main_cst_6 val_main_cst_7
  generalize val_main_v25 (F := Ideal) x2 x3 x4 = p
  generalize val_main_v7 (F := Ideal) x1 = q
  generalize val_main_v6 (F := Ideal) x1 = r
  pointwise []
  exact Fin.sum_univ_one _

section real

variable (h1 : Norm.Real x1) (h2 : Norm.Real x2) (h3 : Norm.Real x3) (h4 : Norm.Real x4)

include h1 h2 h3 h4

theorem reference_slope : val_main_v40 (F := Ideal) x1 x2 x3 x4 (ix3 b s d) = slopeRow x1 x2 x3 x4 b s d := by
  unfold slopeRow slope
  refine Eq.trans ?_ ((agree 0 (inputRow x1 b s) (reachRow x3 x4 b s) (fun _ => 0) (fun k => x2 (ix1 k)) ⟨0, rfl⟩ (fun _ => h1 _)
    (fun k => by unfold reachRow dot; exact Gate.real_sum _ _ (fun _ => h4 _) fun _ => h3 _) (fun _ => ⟨0, rfl⟩) (fun _ => h2 _) d).trans (zero_add _))
  rw [zero_add, ← reference_share, ← reference_scaled, ← reference_root]
  unfold val_main_v40 val_main_v39 val_main_v38 val_main_v37 val_main_v36 val_main_v31 val_main_v30
  generalize val_main_v35 (F := Ideal) x1 x2 x3 x4 = u
  generalize val_main_v25 (F := Ideal) x2 x3 x4 = p
  generalize val_main_v7 (F := Ideal) x1 = q
  pointwise []

theorem reference_slope_result : val_main_v44 (F := Ideal) x1 x2 x3 x4 (ix3 b s d) = slopeRow x1 x2 x3 x4 b s d := by
  rw [← reference_slope x1 x2 x3 x4 b s d h1 h2 h3 h4]
  unfold val_main_v44
  generalize val_main_v40 (F := Ideal) x1 x2 x3 x4 = p
  pointwise []

theorem reference_head (h : Fin 8) : val_main_v45 (F := Ideal) x1 x2 x3 x4 (ix3 b h s) = headRow x1 x2 x3 x4 b s h := by
  unfold headRow head
  simp only [← reference_slope x1 x2 x3 x4 b s _ h1 h2 h3 h4]
  unfold val_main_v45 val_main_v43 val_main_v42 val_main_v41 val_main_cst_8
  generalize val_main_v40 (F := Ideal) x1 x2 x3 x4 = p
  pointwise []

end real

theorem reference_weight : val_main_v46 (F := Ideal) x1 x3 x4 (ix2 0 d) = weightSum x1 x3 x4 d := by
  have e0 := fun b s => reference_normal x1 b s d
  have e1 := fun b s => reference_reach x3 x4 b s d
  unfold weightSum val_main_v46 val_main_v26 val_main_v23 val_main_v22 val_main_v21 val_main_cst_3 val_main_cst_4
  generalize val_main_v12 (F := Ideal) x1 = p at e0 ⊢
  generalize val_main_v20 (F := Ideal) x3 x4 = q at e1 ⊢
  pointwise [Norm.Reference.sum_front]
  simp only [Fin.sum_univ_one, ← e0, ← e1]
  exact Finset.sum_congr rfl fun b _ => Finset.sum_congr rfl fun s _ => mul_comm (p (ix3 b s d)) (q (ix3 b s d))

end reference

section finite

open Cert.Pre_finite12 Cert.Pre_finite12.Gen

theorem held (a0 a1 : FVec Ideal S2x4096x1024 .f32) (a2 : FVec Ideal S1024 .f32) (a3 : FVec Ideal S2048x1024 .f32) (a4 : FVec Ideal S2x4096x1024 .f32)
    (e : Cert.Pre_finite12.fn (F := Ideal) a0 a1 a2 a3 a4 = fun _ => 1#1) : Norm.Real a1 ∧ Norm.Real a2 ∧ Norm.Real a3 ∧ Norm.Real a4 := by
  unfold Cert.Pre_finite12.fn Cert.Pre_finite12.fn_part1 at e
  obtain ⟨e, e4⟩ := Finite.and_split _ _ e
  obtain ⟨e, e3⟩ := Finite.and_split _ _ e
  obtain ⟨e1, e2⟩ := Finite.and_split _ _ e
  exact ⟨fun i => ⟨_, Finite.all_real a1 _ _ e1 i⟩, fun i => ⟨_, Finite.all_real a2 _ _ e2 i⟩,
    fun i => ⟨_, Finite.all_real a3 _ _ e3 i⟩, fun i => ⟨_, Finite.all_real a4 _ _ e4 i⟩⟩

end finite

theorem algebraic : Cert.algebraic_Kernel12Ideal_Reference12Ideal_pre_finite12 (hKernel12Ideal := Cert.Kernel12Ideal.Gen.facts)
    (hReference12Ideal := Cert.Reference12Ideal.Gen.facts) (hPre_finite12 := Cert.Pre_finite12.Gen.facts) := by
  intro m g m' g' hf he
  refine ⟨firsts m, slopes m, heads m, weights m, (θ_run _ _ _).mono (fun r h c => ⟨(h.1.out_eq c 4).trans (array4 m c), (h.1.out_eq c 5).trans (array5 m c),
    (h.1.out_eq c 6).trans (array6 m c), (h.1.out_eq c 7).trans (array7 m c), h.2 c⟩)
    (θ_run_and (Cert.Kernel12Ideal.Gen.run_main m g) (Cert.Kernel12Ideal.Gen.unchanged m g)), ?_⟩
  refine (θ_run _ _ _).mono (fun r h c => ?_) (Cert.Reference12Ideal.Value.run (F := Ideal) m' g')
  obtain ⟨e0, e1, e2, e3, e4⟩ := he c
  obtain ⟨h1, h2, h3, h4⟩ := held _ _ _ _ _ (hf c)
  have whole : ∀ i : Cert.Reference12Ideal.S2x4096x1024.Idx, ∃ (b : Fin 2) (s : Fin 4096) (d : Fin 1024), i = ix3 b s d := fun i =>
    ⟨i 0, i 1, i 2, by funext a; fin_cases a <;> rfl⟩
  refine ⟨(h c).1.trans ((Reference12Ideal.Read.val_main_v19_eq _ _).trans ?_), (h c).2.1.trans ((Reference12Ideal.Read.val_main_v44_eq m' c).trans ?_),
    (h c).2.2.1.trans ((Reference12Ideal.Read.val_main_v45_eq m' c).trans ?_), (h c).2.2.2.1.trans ((Reference12Ideal.Read.val_main_v46_eq _ _ _).trans ?_), (h c).2.2.2.2⟩
  · rw [e3, e4]
    funext i
    obtain ⟨b, s, d, rfl⟩ := whole i
    exact reference_first _ _ b s d
  · rw [e1, e2, e3, e4]
    funext i
    obtain ⟨b, s, d, rfl⟩ := whole i
    exact reference_slope_result _ _ _ _ b s d h1 h2 h3 h4
  · rw [e1, e2, e3, e4]
    funext i
    obtain ⟨b, h, s, rfl⟩ := Spots.cube 2 8 4096 i
    exact reference_head _ _ _ _ b s h1 h2 h3 h4 h
  · rw [e1, e3, e4]
    funext i
    obtain ⟨d, rfl⟩ := Spots.line 1024 i
    exact reference_weight _ _ _ d
-- ==== Proof.Last.lean ====
/-
  The last down projection, with the loss after it and the gradients that start from the loss, is the reference's.
-/
module

public import proofs.«01_k».proof.Proof.Join
public import proofs.«01_k».proof.Proof.Norm
public import proofs.«01_k».proof.Proof.Gen.Kernel13Ideal.Frame
public import proofs.«01_k».proof.Proof.Gen.Reference13Ideal.Read
public import proofs.«01_k».proof.Proof.Gen.Pre_finite13

@[expose] public noncomputable section

set_option maxRecDepth 16384

namespace Cert.Proof.Last

open Idealize ShloMosaic ShloMosaic.TcCoe SL.Sem ShloMosaic.Pointwise
open Cert.Proof.Norm (root square small scaled pull share agree minusHalf)
open Cert.Proof.Down (half zeros2 zeros3)

/-- The words of one over a row's length, and of half of it. -/
def part : EReal := Ideal.ofBits .f32 0x3A800000#32
def halfPart : EReal := Ideal.ofBits .f32 0x3A000000#32

/-- A row's product with a column of the weight. -/
def dots (a : Fin 2816 → EReal) (w : Fin 2816 → Fin 1024 → EReal) (d : Fin 1024) : EReal := ∑ f, a f * w f d
/-- A row of the sum. -/
def total (x g o : Fin 1024 → EReal) (d : Fin 1024) : EReal := x d + half * g d * o d
/-- How far the normalised row is from its target. -/
def miss (x n t : Fin 1024 → EReal) (d : Fin 1024) : EReal := x d * root x * n d - t d
/-- The gradient of the loss with respect to the normalised row. -/
def slope (x n t : Fin 1024 → EReal) (d : Fin 1024) : EReal := miss x n t d * part
/-- The gradient of the loss with respect to the row. -/
def back (x n t : Fin 1024 → EReal) : Fin 1024 → EReal := pull x (slope x n t) (fun _ => 0) n

/-- The six arguments. -/
structure Args where
  a : FVec Ideal ⟨3, ![2, 4096, 2816]⟩ .f32
  w : FVec Ideal ⟨2, ![2816, 1024]⟩ .f32
  x : FVec Ideal ⟨3, ![2, 4096, 1024]⟩ .f32
  g : FVec Ideal ⟨2, ![2, 1024]⟩ .f32
  n : FVec Ideal ⟨1, ![1024]⟩ .f32
  t : FVec Ideal ⟨3, ![2, 4096, 1024]⟩ .f32

namespace Args

variable (A : Args) (b : Fin 2) (s : Fin 4096)

def product : Fin 1024 → EReal := dots (fun f => A.a (ix3 b s f)) (fun f d => A.w (ix2 f d))
def sum : Fin 1024 → EReal := total (fun d => A.x (ix3 b s d)) (fun d => A.g (ix2 b d)) (A.product b s)
def scale : Fin 1024 → EReal := fun d => A.n (ix1 d)
def target : Fin 1024 → EReal := fun d => A.t (ix3 b s d)
def off : Fin 1024 → EReal := miss (A.sum b s) A.scale (A.target b s)
def slope : Fin 1024 → EReal := Last.slope (A.sum b s) A.scale (A.target b s)
def back : Fin 1024 → EReal := Last.back (A.sum b s) A.scale (A.target b s)
def loss : EReal := ∑ b : Fin 2, ∑ s : Fin 4096, (∑ d, A.off b s d * A.off b s d) * halfPart
def weight (d : Fin 1024) : EReal := ∑ b : Fin 2, ∑ s : Fin 4096, A.slope b s d * (A.sum b s d * root (A.sum b s))
def gate (d : Fin 1024) : EReal := ∑ s : Fin 4096, half * A.back b s d * A.product b s d

end Args

/-! ## Constants -/

theorem half_real : half = ((1 / 2 : ℝ) : EReal) := by
  unfold half
  simp [Ideal.ofBits, Ideal.ieee]
  rw [← EReal.coe_mul]
  exact congrArg Real.toEReal (by norm_num)

theorem part_real : part = ((1 / 1024 : ℝ) : EReal) := by
  unfold part
  simp [Ideal.ofBits, Ideal.ieee]
  rw [← EReal.coe_mul]
  exact congrArg Real.toEReal (by norm_num)

theorem halfPart_real : halfPart = ((1 / 2048 : ℝ) : EReal) := by
  unfold halfPart
  simp [Ideal.ofBits, Ideal.ieee]
  rw [← EReal.coe_mul]
  exact congrArg Real.toEReal (by norm_num)

theorem two_real : Ideal.ofBits .f32 0x40000000#32 = ((2 : ℝ) : EReal) := by
  simp [Ideal.ofBits, Ideal.ieee]
  rw [← EReal.coe_mul]
  exact congrArg Real.toEReal (by norm_num)

theorem one_real : Ideal.ofBits .f32 0x3F800000#32 = ((1 : ℝ) : EReal) := by
  simp [Ideal.ofBits, Ideal.ieee]
  rw [← EReal.coe_mul]
  exact congrArg Real.toEReal (by norm_num)

/-- A positive factor moves into a sum. -/
theorem sum_times {n : ℕ} (f : Fin n → EReal) {c : ℝ} (h : 0 ≤ c) : (∑ k, f k) * (c : EReal) = ∑ k, f k * (c : EReal) := by
  induction (Finset.univ : Finset (Fin n)) using Finset.induction_on with
  | empty => simp
  | insert a s ha ih => rw [Finset.sum_insert ha, Finset.sum_insert ha, EReal.right_distrib_of_nonneg_of_ne_top (by exact_mod_cast h) (EReal.coe_ne_top c), ih]

section kernel

open Cert.Kernel13Ideal Cert.Kernel13Ideal.Gen
local notation "Tc" => Thread nD τ

section tile

variable (a : FVec Ideal S1x1024x2816 .bf16) (w : FVec Ideal S2816x1024 .bf16) (g : FVec Ideal S1x1x1024 .f32) (x : FVec Ideal S1x1024x1024 .f32)
  (n : FVec Ideal S1x1024 .f32) (t : FVec Ideal S1x1024x1024 .f32) (L : FVec Ideal S1x128 .f32) (W : FVec Ideal S1x1024 .f32) (G : FVec Ideal S1x1x1024 .f32)
  (r d : Fin 1024) (l : Fin 128)

def rowProduct : Fin 1024 → EReal := dots (fun f => a (ix3 0 r f)) (fun f d => w (ix2 f d))
def rowTotal : Fin 1024 → EReal := total (fun d => x (ix3 0 r d)) (fun d => g (ix3 0 0 d)) (rowProduct a w r)
abbrev vector : Fin 1024 → EReal := fun d => n (ix2 0 d)
abbrev row : Fin 1024 → EReal := fun d => t (ix3 0 r d)

theorem product_at : k0_pay7 (F := Ideal) a w (ix2 r d) = rowProduct a w r d := by
  unfold rowProduct dots
  pointwise [k0_pay7]

theorem gate_at : k0_pay8 (F := Ideal) g (ix2 0 d) = half * g (ix3 0 0 d) := by
  unfold half
  pointwise [k0_pay8]

theorem total_at : k0_pay9 (F := Ideal) a w g x (ix2 r d) = rowTotal a w g x r d := by
  unfold rowTotal total
  rw [← product_at, ← gate_at]
  unfold k0_pay9
  generalize k0_pay7 (F := Ideal) a w = p
  generalize k0_pay8 (F := Ideal) g = q
  pointwise []

theorem root_at : k0_pay10 (F := Ideal) a w g x (ix2 r 0) = root (rowTotal a w g x r) := by
  unfold root square small Norm.count
  simp only [← total_at]
  unfold k0_pay10
  generalize k0_pay9 (F := Ideal) a w g x = p
  pointwise []

theorem normal_at : k0_pay11 (F := Ideal) a w g x (ix2 r d) = rowTotal a w g x r d * root (rowTotal a w g x r) := by
  rw [← total_at, ← root_at]
  unfold k0_pay11
  generalize k0_pay9 (F := Ideal) a w g x = p
  generalize k0_pay10 (F := Ideal) a w g x = q
  pointwise []

theorem miss_at : k0_pay13 (F := Ideal) (k0_pay11 a w g x) n t (ix2 r d) = miss (rowTotal a w g x r) (vector n) (row t r) d := by
  unfold miss
  rw [← normal_at]
  unfold k0_pay13
  generalize k0_pay11 (F := Ideal) a w g x = p
  pointwise [k0_pay12]

theorem loss_at : k0_pay14 (F := Ideal) (k0_pay11 a w g x) n t L (ix2 0 l) = L (ix2 0 l)
    + (∑ r, ∑ d, miss (rowTotal a w g x r) (vector n) (row t r) d * miss (rowTotal a w g x r) (vector n) (row t r) d) * halfPart := by
  unfold halfPart
  simp only [← miss_at]
  unfold k0_pay14
  generalize k0_pay13 (F := Ideal) (k0_pay11 a w g x) n t = p
  pointwise []

theorem slope_at : k0_pay15 (F := Ideal) (k0_pay11 a w g x) n t (ix2 r d) = slope (rowTotal a w g x r) (vector n) (row t r) d := by
  unfold slope part
  rw [← miss_at]
  unfold k0_pay15
  generalize k0_pay13 (F := Ideal) (k0_pay11 a w g x) n t = p
  pointwise []

theorem weight_at : k0_pay16 (F := Ideal) (k0_pay11 a w g x) n t W (ix2 0 d) = W (ix2 0 d)
    + ∑ r, slope (rowTotal a w g x r) (vector n) (row t r) d * (rowTotal a w g x r d * root (rowTotal a w g x r)) := by
  simp only [← slope_at, ← normal_at]
  unfold k0_pay16
  generalize k0_pay15 (F := Ideal) (k0_pay11 a w g x) n t = p
  generalize k0_pay11 (F := Ideal) a w g x = q
  pointwise []

theorem back_at : k0_pay17 (F := Ideal) (k0_pay10 a w g x) (k0_pay11 a w g x) n t (ix2 r d) = back (rowTotal a w g x r) (vector n) (row t r) d := by
  unfold back pull
  simp only [Norm.scaled_plain, ← slope_at, ← normal_at]
  rw [← root_at]
  unfold k0_pay17 Norm.count
  generalize k0_pay15 (F := Ideal) (k0_pay11 a w g x) n t = p
  generalize k0_pay11 (F := Ideal) a w g x = q
  generalize k0_pay10 (F := Ideal) a w g x = s
  pointwise [k0_pay12]

theorem back_block_at : k0_pay1 (F := Ideal) (k0_pay17 (k0_pay10 a w g x) (k0_pay11 a w g x) n t) (ix3 0 r d) = back (rowTotal a w g x r) (vector n) (row t r) d := by
  rw [← back_at]
  generalize k0_pay17 (F := Ideal) _ _ n t = p
  pointwise [k0_pay1]

theorem pass_block_at : k0_pay2 (F := Ideal) (k0_pay8 g) (k0_pay17 (k0_pay10 a w g x) (k0_pay11 a w g x) n t) (ix3 0 r d)
    = half * g (ix3 0 0 d) * back (rowTotal a w g x r) (vector n) (row t r) d := by
  rw [← back_at, ← gate_at]
  generalize k0_pay17 (F := Ideal) _ _ n t = p
  generalize k0_pay8 (F := Ideal) g = q
  pointwise [k0_pay2]

theorem gates_at : k0_pay3 (F := Ideal) (k0_pay7 a w) (k0_pay17 (k0_pay10 a w g x) (k0_pay11 a w g x) n t) G (ix3 0 0 d)
    = G (ix3 0 0 d) + ∑ r, half * back (rowTotal a w g x r) (vector n) (row t r) d * rowProduct a w r d := by
  simp only [← back_at, ← product_at]
  generalize k0_pay17 (F := Ideal) _ _ n t = p
  generalize k0_pay7 (F := Ideal) a w = q
  unfold half
  pointwise [k0_pay3]

theorem zero4 : k0_pay4 (F := Ideal) (ix2 0 l) = 0 := by pointwise [k0_pay4]
theorem zero5 : k0_pay5 (F := Ideal) (ix2 0 d) = 0 := by pointwise [k0_pay5]
theorem zero6 : k0_pay6 (F := Ideal) (ix3 0 0 d) = 0 := by pointwise [k0_pay6]

end tile

variable (m : (ℓ : Loc nD τ sig) → Buf (Elt Ideal) ℓ) (ρ : Dev nD → PrngReg) (c : Dev nD)

theorem inside (t : Fin cfg0.N) : t.val < 8 := lt_of_lt_of_eq t.isLt (show cfg0.N = 8 from N_0)

theorem at0 : ∀ t : Fin cfg0.N, win0_0.index t = ![t.val / 4, t.val % 4, 0] := by decide +kernel
theorem at1 : ∀ t : Fin cfg0.N, win0_1.index t = ![0, 0] := by decide +kernel
theorem at2 : ∀ t : Fin cfg0.N, win0_2.index t = ![t.val / 4, t.val % 4, 0] := by decide +kernel
theorem at3 : ∀ t : Fin cfg0.N, win0_3.index t = ![t.val / 4, 0, 0] := by decide +kernel
theorem at4 : ∀ t : Fin cfg0.N, win0_4.index t = ![0, 0] := by decide +kernel
theorem at5 : ∀ t : Fin cfg0.N, win0_5.index t = ![t.val / 4, t.val % 4, 0] := by decide +kernel
theorem at6 : ∀ t : Fin cfg0.N, win0_6.index t = ![0, 0] := by decide +kernel
theorem at7 : ∀ t : Fin cfg0.N, win0_7.index t = ![t.val / 4, t.val % 4, 0] := by decide +kernel
theorem at8 : ∀ t : Fin cfg0.N, win0_8.index t = ![0, 0] := by decide +kernel
theorem at9 : ∀ t : Fin cfg0.N, win0_9.index t = ![t.val / 4, t.val % 4, 0] := by decide +kernel
theorem at10 : ∀ t : Fin cfg0.N, win0_10.index t = ![t.val / 4, 0, 0] := by decide +kernel

/-- The arguments as the memory holds them. -/
def given : Args := ⟨m ((c : Tc).loc main_arg0), m ((c : Tc).loc main_arg1), m ((c : Tc).loc main_arg2), m ((c : Tc).loc main_arg3), m ((c : Tc).loc main_arg4), m ((c : Tc).loc main_arg5)⟩

/-! ## The blocks -/

section blocks

variable (t : Fin cfg0.N) (r d : Fin 1024) (f : Fin 2816) (l : Fin 128) (b : Fin 2) (s : Fin 4096) (hb : b.val = t.val / 4) (hs : s.val = t.val % 4 * 1024 + r.val)

include hb hs in
theorem read0 (X : Buf (Elt Ideal) ((c : Tc).loc main_v0)) : ((cfg0.win 0).blk t).view.read (Elt Ideal) X (ix3 0 r f) = (X : FVec Ideal S2x4096x2816 .bf16) (ix3 b s f) := by
  blk_simp
  refine congrArg X ?_
  blk_ext [at0]

theorem read1 (X : Buf (Elt Ideal) ((c : Tc).loc main_v1)) : ((cfg0.win 1).blk t).view.read (Elt Ideal) X (ix2 f d) = (X : FVec Ideal S2816x1024 .bf16) (ix2 f d) := by
  blk_simp
  refine congrArg X ?_
  blk_ext [at1]

include hb hs in
theorem read2 (X : Buf (Elt Ideal) ((c : Tc).loc main_arg2)) : ((cfg0.win 2).blk t).view.read (Elt Ideal) X (ix3 0 r d) = (X : FVec Ideal S2x4096x1024 .f32) (ix3 b s d) := by
  blk_simp
  refine congrArg X ?_
  blk_ext [at2]

include hb in
theorem read3 (X : Buf (Elt Ideal) ((c : Tc).loc main_v2)) : ((cfg0.win 3).blk t).view.read (Elt Ideal) X (ix3 0 0 d) = (X : FVec Ideal S2x1x1024 .f32) (ix3 b 0 d) := by
  blk_simp
  refine congrArg X ?_
  blk_ext [at3]

theorem read4 (X : Buf (Elt Ideal) ((c : Tc).loc main_v3)) : ((cfg0.win 4).blk t).view.read (Elt Ideal) X (ix2 0 d) = (X : FVec Ideal S1x1024 .f32) (ix2 0 d) := by
  blk_simp
  refine congrArg X ?_
  blk_ext [at4]

include hb hs in
theorem read5 (X : Buf (Elt Ideal) ((c : Tc).loc main_arg5)) : ((cfg0.win 5).blk t).view.read (Elt Ideal) X (ix3 0 r d) = (X : FVec Ideal S2x4096x1024 .f32) (ix3 b s d) := by
  blk_simp
  refine congrArg X ?_
  blk_ext [at5]

include hb hs in
theorem block0 : iblk m c 0 t (ix3 0 r f) = (given m c).a (ix3 b s f) := by
  refine (read0 c t r f b s hb hs (V m c main_v0)).trans ?_
  unfold given
  after_reads_simp
  generalize m ((c : Tc).loc main_arg0) = X
  pointwise []

theorem block1 : iblk m c 1 t (ix2 f d) = (given m c).w (ix2 f d) := by
  refine (read1 c t d f (V m c main_v1)).trans ?_
  unfold given
  after_reads_simp
  generalize m ((c : Tc).loc main_arg1) = X
  pointwise []

include hb in
theorem block3 : iblk m c 3 t (ix3 0 0 d) = (given m c).g (ix2 b d) := by
  refine (read3 c t d b hb (V m c main_v2)).trans ?_
  unfold given
  after_reads_simp
  generalize m ((c : Tc).loc main_arg3) = X
  pointwise []

theorem block4 : vector (iblk m c 4 t) = (given m c).scale := funext fun d => by
  refine (read4 c t d (V m c main_v3)).trans ?_
  unfold given Args.scale
  after_reads_simp
  generalize m ((c : Tc).loc main_arg4) = X
  pointwise []

include hb hs

theorem block5 : row (iblk m c 5 t) r = (given m c).target b s := funext fun d => by
  refine (read5 c t r d b s hb hs (V m c main_arg5)).trans ?_
  rw [V_main_arg5]
  rfl

theorem block_product : rowProduct (iblk m c 0 t) (iblk m c 1 t) r = (given m c).product b s := by
  unfold rowProduct Args.product dots
  exact funext fun d => Finset.sum_congr rfl fun f _ => congrArg₂ (fun p q : EReal => p * q) (block0 m c t r f b s hb hs) (block1 m c t d f)

theorem block_total : rowTotal (iblk m c 0 t) (iblk m c 1 t) (iblk m c 3 t) (iblk m c 2 t) r = (given m c).sum b s := by
  unfold rowTotal Args.sum
  rw [block_product m c t r b s hb hs]
  refine congrArg₂ (fun p q => total p q _) (funext fun d => ?_) (funext fun d => block3 m c t d b hb)
  refine (read2 c t r d b s hb hs (V m c main_arg2)).trans ?_
  rw [V_main_arg2]
  rfl

theorem back_point : (outsAt0 m c t.val t.isLt).2.1 (ix3 0 r d) = (given m c).back b s d := by
  unfold Args.back
  rw [← block_total m c t r b s hb hs, ← block4 m c t, ← block5 m c t r b s hb hs]
  by_cases h : t.val % 8 = 0
  · rw [outsAt0_A m c t h (by omega)]
    frame_out
    exact back_block_at ..
  · by_cases h1 : t.val % 4 = 0
    · rw [outsAt0_C m c t h h1]
      frame_out
      exact back_block_at ..
    · rw [outsAt0_B m c t h h1]
      frame_out
      exact back_block_at ..

theorem pass_point : (outsAt0 m c t.val t.isLt).2.2.2.1 (ix3 0 r d) = half * (given m c).g (ix2 b d) * (given m c).back b s d := by
  unfold Args.back
  rw [← block_total m c t r b s hb hs, ← block4 m c t, ← block5 m c t r b s hb hs, ← block3 m c t d b hb]
  by_cases h : t.val % 8 = 0
  · rw [outsAt0_A m c t h (by omega)]
    frame_out
    exact pass_block_at ..
  · by_cases h1 : t.val % 4 = 0
    · rw [outsAt0_C m c t h h1]
      frame_out
      exact pass_block_at ..
    · rw [outsAt0_B m c t h h1]
      frame_out
      exact pass_block_at ..

omit hb hs

/-- The blocks' sums of a point's row. -/
abbrev sumAt (r : Fin 1024) : Fin 1024 → EReal := rowTotal (iblk m c 0 t) (iblk m c 1 t) (iblk m c 3 t) (iblk m c 2 t) r
abbrev offAt (r : Fin 1024) : Fin 1024 → EReal := miss (sumAt m c t r) (vector (iblk m c 4 t)) (row (iblk m c 5 t) r)

/-- What a point adds to the loss and to the gradients of the norm's weight and of the gate. -/
abbrev addLoss : EReal := (∑ r, ∑ d, offAt m c t r d * offAt m c t r d) * halfPart
abbrev addWeight : EReal := ∑ r, slope (sumAt m c t r) (vector (iblk m c 4 t)) (row (iblk m c 5 t) r) d * (sumAt m c t r d * root (sumAt m c t r))
abbrev addGate : EReal := ∑ r, half * back (sumAt m c t r) (vector (iblk m c 4 t)) (row (iblk m c 5 t) r) d * rowProduct (iblk m c 0 t) (iblk m c 1 t) r d

theorem loss_first (h : t.val % 8 = 0) : (outsAt0 m c t.val t.isLt).1 (ix2 0 l) = 0 + addLoss m c t := by
  rw [outsAt0_A m c t h (by omega)]
  frame_out
  exact (loss_at ..).trans (congrArg (· + _) (zero4 l))

theorem loss_next (h : ¬t.val % 8 = 0) : (outsAt0 m c t.val t.isLt).1 (ix2 0 l)
    = (outsAt0 m c (t.val - 1) (Nat.lt_of_le_of_lt (Nat.sub_le _ _) t.isLt)).1 (ix2 0 l) + addLoss m c t := by
  by_cases h1 : t.val % 4 = 0
  · rw [outsAt0_C m c t h h1]
    frame_out
    exact loss_at ..
  · rw [outsAt0_B m c t h h1]
    frame_out
    exact loss_at ..

theorem weight_first (h : t.val % 8 = 0) : (outsAt0 m c t.val t.isLt).2.2.1 (ix2 0 d) = 0 + addWeight m c t d := by
  rw [outsAt0_A m c t h (by omega)]
  frame_out
  exact (weight_at ..).trans (congrArg (· + _) (zero5 d))

theorem weight_next (h : ¬t.val % 8 = 0) : (outsAt0 m c t.val t.isLt).2.2.1 (ix2 0 d)
    = (outsAt0 m c (t.val - 1) (Nat.lt_of_le_of_lt (Nat.sub_le _ _) t.isLt)).2.2.1 (ix2 0 d) + addWeight m c t d := by
  by_cases h1 : t.val % 4 = 0
  · rw [outsAt0_C m c t h h1]
    frame_out
    exact weight_at ..
  · rw [outsAt0_B m c t h h1]
    frame_out
    exact weight_at ..

theorem gate_first (h : t.val % 4 = 0) : (outsAt0 m c t.val t.isLt).2.2.2.2 (ix3 0 0 d) = 0 + addGate m c t d := by
  by_cases h0 : t.val % 8 = 0
  · rw [outsAt0_A m c t h0 h]
    frame_out
    exact (gates_at ..).trans (congrArg (· + _) (zero6 d))
  · rw [outsAt0_C m c t h0 h]
    frame_out
    exact (gates_at ..).trans (congrArg (· + _) (zero6 d))

theorem gate_next (h : ¬t.val % 4 = 0) : (outsAt0 m c t.val t.isLt).2.2.2.2 (ix3 0 0 d)
    = (outsAt0 m c (t.val - 1) (Nat.lt_of_le_of_lt (Nat.sub_le _ _) t.isLt)).2.2.2.2 (ix3 0 0 d) + addGate m c t d := by
  rw [outsAt0_B m c t (by omega) h]
  frame_out
  exact gates_at ..

theorem loss_run (h : t.val % 8 = 7) : (outsAt0 m c t.val t.isLt).1 (ix2 0 l) = (given m c).loss := by
  have ht := inside t
  rw [Pipeline.eq_sum_fin_of_reset_step_of_flush (fun n hn => (outsAt0 m c n hn).1 (ix2 0 l)) 8 0 (fun t => addLoss m c t)
    (fun t h => loss_first m c t l h) (fun t h => loss_next m c t l h) t h, zero_add]
  unfold addLoss offAt sumAt Args.loss Args.off
  simp only [halfPart_real, sum_times _ (show (0 : ℝ) ≤ 1 / 2048 by norm_num)]
  refine Fin.sum_points_lanes_congr 4 fun s r hb hl => ?_
  have hs := s.isLt
  rw [block_total m c ⟨8 * (t.val / 8) + s.val, Pipeline.run_point_lt_of_flush t h s⟩ r ⟨s.val / 4, hb⟩ ⟨s.val % 4 * 1024 + r.val, hl⟩ (by dsimp only; omega) (by dsimp only; omega),
    block4, block5 m c ⟨8 * (t.val / 8) + s.val, Pipeline.run_point_lt_of_flush t h s⟩ r ⟨s.val / 4, hb⟩ ⟨s.val % 4 * 1024 + r.val, hl⟩ (by dsimp only; omega) (by dsimp only; omega)]

theorem weight_run (h : t.val % 8 = 7) : (outsAt0 m c t.val t.isLt).2.2.1 (ix2 0 d) = (given m c).weight d := by
  have ht := inside t
  rw [Pipeline.eq_sum_fin_of_reset_step_of_flush (fun n hn => (outsAt0 m c n hn).2.2.1 (ix2 0 d)) 8 0 (fun t => addWeight m c t d)
    (fun t h => weight_first m c t d h) (fun t h => weight_next m c t d h) t h, zero_add]
  unfold addWeight sumAt Args.weight Args.slope
  refine Fin.sum_points_lanes_congr 4 fun s r hb hl => ?_
  have hs := s.isLt
  rw [block_total m c ⟨8 * (t.val / 8) + s.val, Pipeline.run_point_lt_of_flush t h s⟩ r ⟨s.val / 4, hb⟩ ⟨s.val % 4 * 1024 + r.val, hl⟩ (by dsimp only; omega) (by dsimp only; omega),
    block4, block5 m c ⟨8 * (t.val / 8) + s.val, Pipeline.run_point_lt_of_flush t h s⟩ r ⟨s.val / 4, hb⟩ ⟨s.val % 4 * 1024 + r.val, hl⟩ (by dsimp only; omega) (by dsimp only; omega)]

include hb in
theorem gate_run (h : t.val % 4 = 3) : (outsAt0 m c t.val t.isLt).2.2.2.2 (ix3 0 0 d) = (given m c).gate b d := by
  have ht := inside t
  rw [Pipeline.eq_sum_fin_of_reset_step_of_flush (fun n hn => (outsAt0 m c n hn).2.2.2.2 (ix3 0 0 d)) 4 0 (fun t => addGate m c t d)
    (fun t h => gate_first m c t d h) (fun t h => gate_next m c t d h) t h, zero_add]
  unfold addGate sumAt Args.gate Args.back
  refine Fin.sum_mul_add_congr fun s r hl => ?_
  have hs := s.isLt
  rw [block_total m c ⟨4 * (t.val / 4) + s.val, Pipeline.run_point_lt_of_flush t h s⟩ r b ⟨s.val * 1024 + r.val, hl⟩ (by dsimp only; omega) (by dsimp only; omega),
    block_product m c ⟨4 * (t.val / 4) + s.val, Pipeline.run_point_lt_of_flush t h s⟩ r b ⟨s.val * 1024 + r.val, hl⟩ (by dsimp only; omega) (by dsimp only; omega),
    block4, block5 m c ⟨4 * (t.val / 4) + s.val, Pipeline.run_point_lt_of_flush t h s⟩ r b ⟨s.val * 1024 + r.val, hl⟩ (by dsimp only; omega) (by dsimp only; omega)]

end blocks

/-! ## The arrays -/

def losses : FVec Ideal S1x128 .f32 := fun _ => (given m c).loss
def backs : FVec Ideal S2x4096x1024 .f32 := Join.rows (given m c).back
def weights : FVec Ideal S1x1024 .f32 := fun i => (given m c).weight ⟨(i 1).val, (i 1).isLt⟩
def passes : FVec Ideal S2x4096x1024 .bf16 := Join.rows fun b s d => half * (given m c).g (ix2 b d) * (given m c).back b s d
def gates : FVec Ideal S2x1x1024 .f32 := fun i => (given m c).gate ⟨(i 0).val, (i 0).isLt⟩ ⟨(i 2).val, (i 2).isLt⟩

section places

variable (t : Fin cfg0.N) (r d : Fin 1024) (b : Fin 2) (s : Fin 4096) (hb : b.val = t.val / 4) (hs : s.val = t.val % 4 * 1024 + r.val)

theorem place6 (l : Fin 128) : ((cfg0.win 6).blk t).view.emb (ix2 0 l) = ix2 0 l := by
  blk_ext [at6]
theorem place8 : ((cfg0.win 8).blk t).view.emb (ix2 0 d) = ix2 0 d := by
  blk_ext [at8]
include hb in
theorem place10 : ((cfg0.win 10).blk t).view.emb (ix3 0 0 d) = ix3 b 0 d := by
  blk_ext [at10]
include hb hs
theorem place7 : ((cfg0.win 7).blk t).view.emb (ix3 0 r d) = ix3 b s d := by
  blk_ext [at7]
theorem place9 : ((cfg0.win 9).blk t).view.emb (ix3 0 r d) = ix3 b s d := by
  blk_ext [at9]

end places

theorem spot (t : Fin cfg0.N) (r : Fin 1024) : ∃ (b : Fin 2) (s : Fin 4096), b.val = t.val / 4 ∧ s.val = t.val % 4 * 1024 + r.val := by
  have ht := inside t
  exact ⟨⟨t.val / 4, by omega⟩, ⟨t.val % 4 * 1024 + r.val, by omega⟩, rfl, rfl⟩

theorem array6 : (dats m 0 c).arrAt 6 cfg0.N = losses m c := by
  refine (dats m 0 c).arrAt_eq_of_covers 6 _ (by decide +kernel) fun t hf y => ?_
  obtain ⟨l, rfl⟩ := Spots.line 128 y
  have e : (dats m 0 c).after 6 t ((cfg0.win 6).xinj (cfg0.grid.coords t) (ix2 0 l)) = losses m c (ix2 0 l) := by
    rw [after0_6]
    exact loss_run m c t l ((flush0_6 t).mp hf)
  rw [e, place6 t l]
  exact cast_eq _ _

theorem array7 : (dats m 0 c).arrAt 7 cfg0.N = backs m c := by
  refine (dats m 0 c).arrAt_eq_of_covers 7 _ (by decide +kernel) fun t hf y => ?_
  obtain ⟨r, d, rfl⟩ := Spots.front 1024 1024 y
  obtain ⟨b, s, hb, hs⟩ := spot t r
  have e : (dats m 0 c).after 7 t ((cfg0.win 7).xinj (cfg0.grid.coords t) (ix3 0 r d)) = backs m c (ix3 b s d) := by
    rw [after0_7]
    exact back_point m c t r d b s hb hs
  rw [e, place7 t r d b s hb hs]
  exact cast_eq _ _

theorem array8 : (dats m 0 c).arrAt 8 cfg0.N = weights m c := by
  refine (dats m 0 c).arrAt_eq_of_covers 8 _ (by decide +kernel) fun t hf y => ?_
  obtain ⟨d, rfl⟩ := Spots.line 1024 y
  have e : (dats m 0 c).after 8 t ((cfg0.win 8).xinj (cfg0.grid.coords t) (ix2 0 d)) = weights m c (ix2 0 d) := by
    rw [after0_8]
    exact weight_run m c t d ((flush0_8 t).mp hf)
  rw [e, place8 t d]
  exact cast_eq _ _

theorem array9 : (dats m 0 c).arrAt 9 cfg0.N = passes m c := by
  refine (dats m 0 c).arrAt_eq_of_covers 9 _ (by decide +kernel) fun t hf y => ?_
  obtain ⟨r, d, rfl⟩ := Spots.front 1024 1024 y
  obtain ⟨b, s, hb, hs⟩ := spot t r
  have e : (dats m 0 c).after 9 t ((cfg0.win 9).xinj (cfg0.grid.coords t) (ix3 0 r d)) = passes m c (ix3 b s d) := by
    rw [after0_9]
    exact pass_point m c t r d b s hb hs
  rw [e, place9 t r d b s hb hs]
  exact cast_eq _ _

theorem array10 : (dats m 0 c).arrAt 10 cfg0.N = gates m c := by
  refine (dats m 0 c).arrAt_eq_of_covers 10 _ (by decide +kernel) fun t hf y => ?_
  have ht := inside t
  obtain ⟨d, rfl⟩ := Spots.inner 1024 y
  have e : (dats m 0 c).after 10 t ((cfg0.win 10).xinj (cfg0.grid.coords t) (ix3 0 0 d)) = gates m c (ix3 ⟨t.val / 4, by omega⟩ 0 d) := by
    rw [after0_10]
    exact gate_run m c t d ⟨t.val / 4, by omega⟩ rfl ((flush0_10 t).mp hf)
  rw [e, place10 t d ⟨t.val / 4, by omega⟩ rfl]
  exact cast_eq _ _

end kernel

namespace Args

variable (A : Args)

/-- Every entry of every argument is real. -/
structure Finite : Prop where
  a : Norm.Real A.a
  w : Norm.Real A.w
  x : Norm.Real A.x
  g : Norm.Real A.g
  n : Norm.Real A.n
  t : Norm.Real A.t

end Args

theorem root_real {x : Fin 1024 → EReal} (h : ∀ k, ∃ r : ℝ, x k = r) : ∃ r : ℝ, root x = r := by
  choose X hX using h
  obtain ⟨e, he, hs⟩ := Norm.small_real
  obtain rfl : x = fun k => (X k : EReal) := funext hX
  have hp : 0 < (∑ k, X k * X k) / 1024 + e := add_pos_of_nonneg_of_pos (div_nonneg (Finset.sum_nonneg fun k _ => mul_self_nonneg _) (by norm_num)) he
  have hq : square (fun k => (X k : EReal)) = (((∑ k, X k * X k) / 1024 + e : ℝ) : EReal) := by
    unfold square
    rw [Norm.count_real, hs, EReal.coe_add, ← Attention.coe_div (by norm_num), ← Attention.coe_sum]
    simp only [EReal.coe_mul]
  unfold root
  rw [hq, Ideal.rsqrt_coe, if_neg (not_lt.mpr hp.le), if_neg hp.ne']
  exact ⟨_, rfl⟩

section reference

open Cert.Reference13Ideal Cert.Reference13Ideal.Gen Cert.Reference13Ideal.Read

variable (A : Args) (b : Fin 2) (s : Fin 4096) (d : Fin 1024)

theorem reference_product : val_main_v0 (F := Ideal) A.a A.w (ix3 b s d) = A.product b s d := by
  unfold Args.product dots
  pointwise [val_main_v0]

theorem reference_gate : val_main_v3 (F := Ideal) A.g (ix3 b 0 d) = half * A.g (ix2 b d) := by
  unfold half
  pointwise [val_main_v3, val_main_v2, val_main_v1, val_main_cst]

theorem reference_sum : val_main_v6 (F := Ideal) A.a A.w A.x A.g (ix3 b s d) = A.sum b s d := by
  unfold Args.sum total
  rw [← reference_product, ← reference_gate]
  unfold val_main_v6 val_main_v5 val_main_v4
  generalize val_main_v0 (F := Ideal) A.a A.w = p
  generalize val_main_v3 (F := Ideal) A.g = q
  pointwise []

theorem reference_square : val_main_v13 (F := Ideal) A.a A.w A.x A.g (ix3 b s 0) = square (A.sum b s) := by
  unfold square Norm.count small
  simp only [← reference_sum]
  unfold val_main_v13 val_main_v12 val_main_v11 val_main_v10 val_main_v9 val_main_v8 val_main_v7 val_main_cst_0 val_main_cst_1 val_main_cst_2
  generalize val_main_v6 (F := Ideal) A.a A.w A.x A.g = p
  pointwise []

theorem reference_root : val_main_v14 (F := Ideal) A.a A.w A.x A.g (ix3 b s 0) = root (A.sum b s) := by
  unfold root
  rw [← reference_square]
  unfold val_main_v14
  generalize val_main_v13 (F := Ideal) A.a A.w A.x A.g = p
  pointwise []

theorem reference_normal : val_main_v19 (F := Ideal) A.a A.w A.x A.g (ix3 b s d) = A.sum b s d * root (A.sum b s) := by
  rw [← reference_root, ← reference_sum]
  unfold val_main_v19 val_main_v18
  generalize val_main_v6 (F := Ideal) A.a A.w A.x A.g = p
  generalize val_main_v14 (F := Ideal) A.a A.w A.x A.g = q
  pointwise []

theorem reference_off : val_main_v23 (F := Ideal) A.a A.w A.x A.g A.n A.t (ix3 b s d) = A.off b s d := by
  unfold Args.off miss Args.scale Args.target
  rw [← reference_normal]
  unfold val_main_v23 val_main_v22 val_main_v21 val_main_v20
  generalize val_main_v19 (F := Ideal) A.a A.w A.x A.g = p
  pointwise []

/-- The reference's factors of the error's gradient, in one. -/
theorem factors (x : EReal) : Ideal.div (half * Ideal.ofBits .f32 0x3F800000#32) Norm.count * (Ideal.ofBits .f32 0x40000000#32 * x) = x * part := by
  rw [half_real, one_real, two_real, part_real, Norm.count_real, ← EReal.coe_mul, Attention.coe_div (by norm_num), ← mul_assoc, ← EReal.coe_mul, mul_comm x]
  exact congrArg (fun r : ℝ => (r : EReal) * x) (by norm_num)

theorem reference_slope : val_main_v37 (F := Ideal) A.a A.w A.x A.g A.n A.t (ix3 b s d) = A.slope b s d := by
  unfold Args.slope slope
  refine Eq.trans ?_ (factors (A.off b s d))
  rw [← reference_off]
  unfold half Norm.count
  unfold val_main_v37 val_main_v36 val_main_v35 val_main_v34 val_main_v33 val_main_v32 val_main_v26 val_main_v25 val_main_cst_4 val_main_cst_9 val_main_cst_10 val_main_cst_11
  generalize val_main_v23 (F := Ideal) A.a A.w A.x A.g A.n A.t = p
  pointwise []

theorem reference_scaled : val_main_v42 (F := Ideal) A.a A.w A.x A.g A.n A.t (ix3 b s d) = scaled (A.slope b s) (fun _ => 0) A.scale d := by
  rw [Norm.scaled_plain, ← reference_slope]
  unfold Args.scale
  unfold val_main_v42 val_main_v41 val_main_v20
  generalize val_main_v37 (F := Ideal) A.a A.w A.x A.g A.n A.t = p
  pointwise []

theorem reference_share : val_main_v52 (F := Ideal) A.a A.w A.x A.g A.n A.t (ix2 b s) = share (A.sum b s) (A.slope b s) (fun _ => 0) A.scale := by
  unfold share Norm.count minusHalf
  rw [← reference_root, ← reference_square]
  simp only [← reference_scaled, ← reference_sum]
  unfold val_main_v52 val_main_v51 val_main_v50 val_main_v49 val_main_v46 val_main_v45 val_main_v44 val_main_v17 val_main_v16 val_main_v15 val_main_cst_3 val_main_cst_14 val_main_cst_15 val_main_cst_16
  generalize val_main_v42 (F := Ideal) A.a A.w A.x A.g A.n A.t = p
  generalize val_main_v14 (F := Ideal) A.a A.w A.x A.g = q
  generalize val_main_v13 (F := Ideal) A.a A.w A.x A.g = r
  generalize val_main_v6 (F := Ideal) A.a A.w A.x A.g = u
  pointwise []
  exact Fin.sum_univ_one _

theorem reference_loss (l : Fin 128) : val_main_v66 (F := Ideal) A.a A.w A.x A.g A.n A.t (ix2 0 l) = A.loss := by
  have e : val_main_v66 (F := Ideal) A.a A.w A.x A.g A.n A.t (ix2 0 l) = half * ∑ b : Fin 2, ∑ s : Fin 4096, Ideal.div (∑ d, A.off b s d * A.off b s d) Norm.count := by
    unfold half Norm.count
    simp only [← reference_off]
    unfold val_main_v66 val_main_v31 val_main_v30 val_main_v29 val_main_v28 val_main_v27 val_main_v24 val_main_cst_5 val_main_cst_6 val_main_cst_7 val_main_cst_8
    generalize val_main_v23 (F := Ideal) A.a A.w A.x A.g A.n A.t = p
    pointwise []
  have f : ∀ x : EReal, half * Ideal.div x Norm.count = x * halfPart := fun x => by
    rw [half_real, Norm.count_real, halfPart_real, Ideal.div_coe (by norm_num), mul_comm, mul_assoc, ← EReal.coe_mul]
    exact congrArg (fun r : ℝ => x * (r : EReal)) (by norm_num)
  unfold Args.loss
  rw [e, mul_comm, half_real, sum_times _ (show (0 : ℝ) ≤ 1 / 2 by norm_num)]
  refine Finset.sum_congr rfl fun b _ => ?_
  rw [sum_times _ (show (0 : ℝ) ≤ 1 / 2 by norm_num), ← half_real]
  exact Finset.sum_congr rfl fun s _ => (mul_comm _ _).trans (f _)

theorem reference_weight : val_main_v67 (F := Ideal) A.a A.w A.x A.g A.n A.t (ix2 0 d) = A.weight d := by
  have e0 := fun b s => reference_normal A b s d
  have e1 := fun b s => reference_slope A b s d
  unfold Args.weight val_main_v67 val_main_v43 val_main_v40 val_main_v39 val_main_v38 val_main_cst_12 val_main_cst_13
  generalize val_main_v19 (F := Ideal) A.a A.w A.x A.g = p at e0 ⊢
  generalize val_main_v37 (F := Ideal) A.a A.w A.x A.g A.n A.t = q at e1 ⊢
  pointwise [Norm.Reference.sum_front]
  simp only [Fin.sum_univ_one, ← e0, ← e1]
  exact Finset.sum_congr rfl fun b _ => Finset.sum_congr rfl fun s _ => mul_comm (p (ix3 b s d)) (q (ix3 b s d))

section real

variable (hA : A.Finite)

include hA

theorem sum_real : ∃ r : ℝ, A.sum b s d = r := by
  unfold Args.sum total Args.product dots
  exact Norm.real_add (hA.x _) (Norm.real_mul (Norm.real_mul ⟨_, half_real⟩ (hA.g _)) (Gate.real_sum _ _ (fun _ => hA.a _) fun _ => hA.w _))

theorem slope_real : ∃ r : ℝ, A.slope b s d = r := by
  unfold Args.slope slope miss
  obtain ⟨u, hu⟩ := Norm.real_mul (Norm.real_mul (sum_real A b s d hA) (root_real fun d => sum_real A b s d hA)) (hA.n (ix1 d))
  obtain ⟨v, hv⟩ := hA.t (ix3 b s d)
  exact Norm.real_mul ⟨u - v, (congrArg₂ (fun p q : EReal => p - q) hu hv).trans (EReal.coe_sub u v).symm⟩ ⟨_, part_real⟩

theorem reference_back : val_main_v57 (F := Ideal) A.a A.w A.x A.g A.n A.t (ix3 b s d) = A.back b s d := by
  unfold Args.back back
  refine Eq.trans ?_ ((agree 0 (A.sum b s) (A.slope b s) (fun _ => 0) A.scale ⟨0, rfl⟩ (fun d => sum_real A b s d hA)
    (fun d => slope_real A b s d hA) (fun _ => ⟨0, rfl⟩) (fun _ => hA.n _) d).trans (zero_add _))
  rw [zero_add, ← reference_share, ← reference_scaled, ← reference_root, ← reference_sum]
  unfold val_main_v57 val_main_v56 val_main_v55 val_main_v54 val_main_v53 val_main_v48 val_main_v47
  generalize val_main_v52 (F := Ideal) A.a A.w A.x A.g A.n A.t = u
  generalize val_main_v42 (F := Ideal) A.a A.w A.x A.g A.n A.t = p
  generalize val_main_v14 (F := Ideal) A.a A.w A.x A.g = q
  generalize val_main_v6 (F := Ideal) A.a A.w A.x A.g = r
  pointwise []

theorem reference_pass : val_main_v68 (F := Ideal) A.a A.w A.x A.g A.n A.t (ix3 b s d) = half * A.g (ix2 b d) * A.back b s d := by
  rw [← reference_back A b s d hA, ← reference_gate]
  unfold val_main_v68 val_main_v59 val_main_v58
  generalize val_main_v57 (F := Ideal) A.a A.w A.x A.g A.n A.t = p
  generalize val_main_v3 (F := Ideal) A.g = q
  pointwise []

theorem reference_gates : val_main_v69 (F := Ideal) A.a A.w A.x A.g A.n A.t (ix3 b 0 d) = A.gate b d := by
  have e : val_main_v69 (F := Ideal) A.a A.w A.x A.g A.n A.t (ix3 b 0 d) = half * ∑ s : Fin 4096, A.back b s d * A.product b s d := by
    unfold half
    simp only [← reference_back A b _ d hA, ← reference_product]
    unfold val_main_v69 val_main_v65 val_main_v64 val_main_v63 val_main_v62 val_main_v61 val_main_v60 val_main_cst_17 val_main_cst_18 val_main_cst_19
    generalize val_main_v57 (F := Ideal) A.a A.w A.x A.g A.n A.t = p
    generalize val_main_v0 (F := Ideal) A.a A.w = q
    pointwise []
    exact Fin.sum_univ_one _
  rw [e]
  unfold Args.gate
  rw [mul_comm, half_real, sum_times _ (show (0 : ℝ) ≤ 1 / 2 by norm_num)]
  exact Finset.sum_congr rfl fun s _ => (mul_comm _ _).trans (mul_assoc _ _ _).symm

end real

end reference

section finite

open Cert.Pre_finite13 Cert.Pre_finite13.Gen

theorem held (A : Args) (e : Cert.Pre_finite13.fn (F := Ideal) A.a A.w A.x A.g A.n A.t = fun _ => 1#1) : A.Finite := by
  unfold Cert.Pre_finite13.fn Cert.Pre_finite13.fn_part1 at e
  obtain ⟨e, e5⟩ := Finite.and_split _ _ e
  obtain ⟨e, e4⟩ := Finite.and_split _ _ e
  obtain ⟨e, e3⟩ := Finite.and_split _ _ e
  obtain ⟨e, e2⟩ := Finite.and_split _ _ e
  obtain ⟨e0, e1⟩ := Finite.and_split _ _ e
  exact ⟨fun i => ⟨_, Finite.all_real _ _ _ e0 i⟩, fun i => ⟨_, Finite.all_real _ _ _ e1 i⟩, fun i => ⟨_, Finite.all_real _ _ _ e2 i⟩,
    fun i => ⟨_, Finite.all_real _ _ _ e3 i⟩, fun i => ⟨_, Finite.all_real _ _ _ e4 i⟩, fun i => ⟨_, Finite.all_real _ _ _ e5 i⟩⟩

end finite

theorem algebraic : Cert.algebraic_Kernel13Ideal_Reference13Ideal_pre_finite13 (hKernel13Ideal := Cert.Kernel13Ideal.Gen.facts)
    (hReference13Ideal := Cert.Reference13Ideal.Gen.facts) (hPre_finite13 := Cert.Pre_finite13.Gen.facts) := by
  intro m g m' g' hf he
  refine ⟨losses m, backs m, weights m, passes m, gates m, (θ_run _ _ _).mono (fun r h c => ⟨(h.1.out_eq c 6).trans (array6 m c), (h.1.out_eq c 7).trans (array7 m c),
    (h.1.out_eq c 8).trans (array8 m c), (h.1.out_eq c 9).trans (array9 m c), (h.1.out_eq c 10).trans (array10 m c), h.2 c⟩)
    (θ_run_and (Cert.Kernel13Ideal.Gen.run_main m g) (Cert.Kernel13Ideal.Gen.unchanged m g)), ?_⟩
  refine (θ_run _ _ _).mono (fun r h c => ?_) (Cert.Reference13Ideal.Value.run (F := Ideal) m' g')
  obtain ⟨e0, e1, e2, e3, e4, e5⟩ := he c
  have hA := held (given m c) (hf c)
  refine ⟨(h c).1.trans ((Reference13Ideal.Read.val_main_v66_eq m' c).trans ?_), (h c).2.1.trans ((Reference13Ideal.Read.val_main_v57_eq m' c).trans ?_),
    (h c).2.2.1.trans ((Reference13Ideal.Read.val_main_v67_eq m' c).trans ?_), (h c).2.2.2.1.trans ((Reference13Ideal.Read.val_main_v68_eq m' c).trans ?_),
    (h c).2.2.2.2.1.trans ((Reference13Ideal.Read.val_main_v69_eq m' c).trans ?_), (h c).2.2.2.2.2⟩ <;> rw [e0, e1, e2, e3, e4, e5] <;> funext i
  · obtain ⟨l, rfl⟩ := Spots.line 128 i
    exact reference_loss (given m c) l
  · obtain ⟨b, s, d, rfl⟩ := Spots.cube 2 4096 1024 i
    exact reference_back (given m c) b s d hA
  · obtain ⟨d, rfl⟩ := Spots.line 1024 i
    exact reference_weight (given m c) d
  · obtain ⟨b, s, d, rfl⟩ := Spots.cube 2 4096 1024 i
    exact reference_pass (given m c) b s d hA
  · obtain ⟨b, z, d, rfl⟩ := Spots.cube 2 1 1024 i
    obtain rfl : z = 0 := Subsingleton.elim _ _
    exact reference_gates (given m c) b d hA
-- ==== Proof.Tile.lean ====
/-
  One tile of the attention's gradient, over the extended reals: the probabilities of a tile of keys and queries, the
  gradients of its scores, and what the tile adds to the gradients of the values, of the keys and of the queries, each as
  a sum over the block's own entries.
-/
module

public import proofs.«01_k».proof.Proof.Gen.KernelIdeal.Skeleton
public import Idealize.ShloMosaic.Lib.Pointwise

@[expose] public noncomputable section

set_option maxRecDepth 16384

namespace Cert.Proof.Flash

open Cert.KernelIdeal Cert.KernelIdeal.Gen
open Idealize ShloMosaic ShloMosaic.TcCoe ShloMosaic.Pointwise

/-- The blocks of one batch member and one pair of heads. -/
structure Blocks where
  q : Vec Ideal S1x4096x256 .bf16
  k : Vec Ideal S1x4096x256 .bf16
  v : Vec Ideal S1x4096x256 .bf16
  o : Vec Ideal S1x4096x256 .bf16
  lse : Vec Ideal S1x2x8x1x512 .f32
  dlt : Vec Ideal S1x2x8x1x512 .f32

/-- Lane `d` of head `h`. -/
def lane (h : Fin 2) (d : Fin 128) : Fin 256 := ⟨128 * h.val + d.val, by omega⟩

/-- The head a lane belongs to. -/
def headOf (l : Fin 256) : Fin 2 := ⟨l.val / 128, by omega⟩

/-- The word of negative infinity. -/
abbrev ninf : EReal := Ideal.ofBits .f32 0xFF800000#32

/-- The scores' scale in powers of two. -/
abbrev scale2 : EReal := Named.named (F := Ideal) κ "att_scale_log2e" (φ := .f32) 0x3E16C740#32

/-- The logarithm's scale in powers of two. -/
abbrev log2e : EReal := Named.named (F := Ideal) κ "log2e" (φ := .f32) 0x3FB8AA3B#32

namespace Blocks

variable (B : Blocks)

/-- A query's entry of the rows' log-sums, or of the rows' corrections. -/
def row (x : Vec Ideal S1x2x8x1x512 .f32) (h : Fin 2) (q : Fin 4096) : EReal :=
  x (ix5 0 h ⟨q.val / 512, by omega⟩ 0 ⟨q.val % 512, by omega⟩)

/-- The unscaled score of a key and a query. -/
def score (h : Fin 2) (k q : Fin 4096) : EReal := ∑ d : Fin 128, B.k (ix3 0 k (lane h d)) * B.q (ix3 0 q (lane h d))

/-- The probability that a query gives a key. -/
def prob (h : Fin 2) (k q : Fin 4096) : EReal :=
  Ideal.exp2 ((if k.val ≤ q.val then B.score h k q else ninf) * scale2 - row B.lse h q * log2e)

/-- The probability's gradient. -/
def dprob (h : Fin 2) (k q : Fin 4096) : EReal := ∑ d : Fin 128, B.v (ix3 0 k (lane h d)) * B.o (ix3 0 q (lane h d))

/-- The score's gradient. -/
def dscore (h : Fin 2) (k q : Fin 4096) : EReal := B.prob h k q * (B.dprob h k q - row B.dlt h q)

end Blocks

variable {B : Blocks}

/-- Six windows of the blocks: keys and values from `k0` on, queries from tile `i`. -/
structure Windows (B : Blocks) (h : Fin 2) (k0 i : ℕ) (hk : k0 + 256 ≤ 4096) (hi : i < 8) (wk wv : Vec Ideal S1x256x128 .bf16)
    (wq wo : Vec Ideal S1x512x128 .bf16) (wl wd : Vec Ideal S1x1x1x1x512 .f32) : Prop where
  k : ∀ (a : Fin 256) (d : Fin 128), wk (ix3 0 a d) = B.k (ix3 0 ⟨k0 + a.val, by omega⟩ (lane h d))
  v : ∀ (a : Fin 256) (d : Fin 128), wv (ix3 0 a d) = B.v (ix3 0 ⟨k0 + a.val, by omega⟩ (lane h d))
  q : ∀ (b : Fin 512) (d : Fin 128), wq (ix3 0 b d) = B.q (ix3 0 ⟨512 * i + b.val, by omega⟩ (lane h d))
  o : ∀ (b : Fin 512) (d : Fin 128), wo (ix3 0 b d) = B.o (ix3 0 ⟨512 * i + b.val, by omega⟩ (lane h d))
  lse : ∀ b : Fin 512, wl (ix5 0 0 0 0 b) = Blocks.row B.lse h ⟨512 * i + b.val, by omega⟩
  dlt : ∀ b : Fin 512, wd (ix5 0 0 0 0 b) = Blocks.row B.dlt h ⟨512 * i + b.val, by omega⟩

section inner

variable {h : Fin 2} {k0 i : ℕ} {hk : k0 + 256 ≤ 4096} {hi : i < 8} {wk wv : Vec Ideal S1x256x128 .bf16}
  {wq wo : Vec Ideal S1x512x128 .bf16} {wl wd : Vec Ideal S1x1x1x1x512 .f32}

theorem prob_inner (W : Windows B h k0 i hk hi wk wv wq wo wl wd) (hki : k0 + 256 ≤ 512 * i) (a : Fin 256) (b : Fin 512) :
    k0_pay11 (F := Ideal) (k0_pay2 wk wq) wl (ix2 a b) = B.prob h ⟨k0 + a.val, by omega⟩ ⟨512 * i + b.val, by omega⟩ := by
  pointwise [k0_pay11, k0_pay2]
  unfold Blocks.prob
  rw [if_pos (show k0 + a.val ≤ 512 * i + b.val by omega)]
  simp only [W.k, W.q, W.lse]
  rfl

theorem dprob_inner (W : Windows B h k0 i hk hi wk wv wq wo wl wd) (a : Fin 256) (b : Fin 512) :
    k0_pay3 (F := Ideal) wv wo (ix2 a b) = B.dprob h ⟨k0 + a.val, by omega⟩ ⟨512 * i + b.val, by omega⟩ := by
  pointwise [k0_pay3]
  simp only [W.v, W.o]
  rfl

theorem dscore_inner (W : Windows B h k0 i hk hi wk wv wq wo wl wd) (hki : k0 + 256 ≤ 512 * i) (a : Fin 256) (b : Fin 512) :
    k0_pay13 (F := Ideal) (k0_pay2 wk wq) (k0_pay3 wv wo) wl wd (ix2 a b) = B.dscore h ⟨k0 + a.val, by omega⟩ ⟨512 * i + b.val, by omega⟩ := by
  unfold Blocks.dscore
  rw [← prob_inner W hki, ← dprob_inner W]
  pointwise [k0_pay13]
  simp only [W.dlt]

theorem dv_inner (W : Windows B h k0 i hk hi wk wv wq wo wl wd) (hki : k0 + 256 ≤ 512 * i) (A : Vec Ideal S256x128 .f32) (a : Fin 256) (d : Fin 128) :
    k0_pay24 (F := Ideal) (k0_pay12 (k0_pay2 wk wq) wl) A wo (ix2 a d)
      = A (ix2 a d) + ∑ b : Fin 512, B.prob h ⟨k0 + a.val, by omega⟩ ⟨512 * i + b.val, by omega⟩ * B.o (ix3 0 ⟨512 * i + b.val, by omega⟩ (lane h d)) := by
  simp only [← prob_inner W hki, ← W.o]
  pointwise [k0_pay24, k0_pay12]

theorem dk_inner (W : Windows B h k0 i hk hi wk wv wq wo wl wd) (hki : k0 + 256 ≤ 512 * i) (A : Vec Ideal S256x128 .f32) (a : Fin 256) (d : Fin 128) :
    k0_pay25 (F := Ideal) (k0_pay13 (k0_pay2 wk wq) (k0_pay3 wv wo) wl wd) A wq (ix2 a d)
      = A (ix2 a d) + ∑ b : Fin 512, B.dscore h ⟨k0 + a.val, by omega⟩ ⟨512 * i + b.val, by omega⟩ * B.q (ix3 0 ⟨512 * i + b.val, by omega⟩ (lane h d)) := by
  simp only [← dscore_inner W hki, ← W.q]
  pointwise [k0_pay25]

theorem dq_inner (W : Windows B h k0 i hk hi wk wv wq wo wl wd) (hki : k0 + 256 ≤ 512 * i) (A : Vec Ideal S512x128 .f32) (b : Fin 512) (d : Fin 128) :
    k0_pay26 (F := Ideal) (k0_pay13 (k0_pay2 wk wq) (k0_pay3 wv wo) wl wd) A wk (ix2 b d)
      = A (ix2 b d) + ∑ a : Fin 256, B.dscore h ⟨k0 + a.val, by omega⟩ ⟨512 * i + b.val, by omega⟩ * B.k (ix3 0 ⟨k0 + a.val, by omega⟩ (lane h d)) := by
  simp only [← dscore_inner W hki, ← W.k]
  pointwise [k0_pay26]

end inner

/-- The causal comparison of two small positions, taken in words. -/
theorem mask_apply (a b u v : ℕ) (ha : a < 512) (hb : b < 512) (hu : u < 512) (hv : v < 512) (x y : EReal) :
    Scalar.select (IntOp.cmpi CmpIPredicate.sle (IntOp.addi (BitVec.ofNat 32 a) (BitVec.ofNat 32 u)) (IntOp.addi (BitVec.ofNat 32 b) (BitVec.ofNat 32 v))) x y
      = if a + u ≤ b + v then x else y := by
  have h : IntOp.cmpi CmpIPredicate.sle (IntOp.addi (BitVec.ofNat 32 a) (BitVec.ofNat 32 u)) (IntOp.addi (BitVec.ofNat 32 b) (BitVec.ofNat 32 v))
      = BitVec.ofBool (decide (a + u ≤ b + v)) := by
    unfold IntOp.cmpi IntOp.addi
    congr 1
    simp only [BitVec.sle, ← BitVec.ofNat_add]
    rw [BitVec.toInt_eq_toNat_of_lt (by rw [BitVec.toNat_ofNat, Nat.mod_eq_of_lt (by omega)]; omega),
      BitVec.toInt_eq_toNat_of_lt (by rw [BitVec.toNat_ofNat, Nat.mod_eq_of_lt (by omega)]; omega),
      BitVec.toNat_ofNat, BitVec.toNat_ofNat, Nat.mod_eq_of_lt (by omega), Nat.mod_eq_of_lt (by omega)]
    simp
    omega
  rw [h]
  by_cases hab : a + u ≤ b + v <;> simp [hab, Scalar.select]

section diagonal

variable {h : Fin 2} {k0 i : ℕ} {hk : k0 + 256 ≤ 4096} {hi : i < 8} {wk wv : Vec Ideal S1x256x128 .bf16}
  {wq wo : Vec Ideal S1x512x128 .bf16} {wl wd : Vec Ideal S1x1x1x1x512 .f32}

theorem score_low (W : Windows B h k0 i hk hi wk wv wq wo wl wd) (hs : k0 = 512 * i) (a : Fin 256) (b : Fin 512) :
    k0_pay68 (F := Ideal) wk wq (ix2 a b) = if k0 + a.val ≤ 512 * i + b.val then B.score h ⟨k0 + a.val, by omega⟩ ⟨512 * i + b.val, by omega⟩ else ninf := by
  pointwise [k0_pay68]
  simp only [W.k, W.q]
  rw [mask_apply _ _ _ _ (by omega) (by omega) (by omega) (by omega)]
  simp only [show (a.val + 0 ≤ b.val + 0) = (k0 + a.val ≤ 512 * i + b.val) from by simp; omega]
  rfl

theorem prob_low (W : Windows B h k0 i hk hi wk wv wq wo wl wd) (hs : k0 = 512 * i) (a : Fin 256) (b : Fin 512) :
    k0_pay79 (F := Ideal) (k0_pay68 wk wq) wl (ix2 a b) = B.prob h ⟨k0 + a.val, by omega⟩ ⟨512 * i + b.val, by omega⟩ := by
  unfold Blocks.prob
  rw [← score_low W hs]
  pointwise [k0_pay79]
  simp only [W.lse]
  rfl

theorem dprob_low (W : Windows B h k0 i hk hi wk wv wq wo wl wd) (a : Fin 256) (b : Fin 512) :
    k0_pay69 (F := Ideal) wv wo (ix2 a b) = B.dprob h ⟨k0 + a.val, by omega⟩ ⟨512 * i + b.val, by omega⟩ := by
  pointwise [k0_pay69]
  simp only [W.v, W.o]
  rfl

theorem dscore_low (W : Windows B h k0 i hk hi wk wv wq wo wl wd) (hs : k0 = 512 * i) (a : Fin 256) (b : Fin 512) :
    k0_pay81 (F := Ideal) (k0_pay68 wk wq) (k0_pay69 wv wo) wl wd (ix2 a b) = B.dscore h ⟨k0 + a.val, by omega⟩ ⟨512 * i + b.val, by omega⟩ := by
  unfold Blocks.dscore
  rw [← prob_low W hs, ← dprob_low W]
  pointwise [k0_pay81]
  simp only [W.dlt]

theorem dv_low (W : Windows B h k0 i hk hi wk wv wq wo wl wd) (hs : k0 = 512 * i) (A : Vec Ideal S256x128 .f32) (a : Fin 256) (d : Fin 128) :
    k0_pay93 (F := Ideal) (k0_pay80 (k0_pay68 wk wq) wl) A wo (ix2 a d) = A (ix2 a d) + ∑ b : Fin 512, B.prob h ⟨k0 + a.val, by omega⟩ ⟨512 * i + b.val, by omega⟩ * B.o (ix3 0 ⟨512 * i + b.val, by omega⟩ (lane h d)) := by
  simp only [← prob_low W hs, ← W.o]
  pointwise [k0_pay80, k0_pay93, k0_pay94, k0_pay95, k0_pay96]

theorem dk_low (W : Windows B h k0 i hk hi wk wv wq wo wl wd) (hs : k0 = 512 * i) (A : Vec Ideal S256x128 .f32) (a : Fin 256) (d : Fin 128) :
    k0_pay94 (F := Ideal) (k0_pay81 (k0_pay68 wk wq) (k0_pay69 wv wo) wl wd) A wq (ix2 a d) = A (ix2 a d) + ∑ b : Fin 512, B.dscore h ⟨k0 + a.val, by omega⟩ ⟨512 * i + b.val, by omega⟩ * B.q (ix3 0 ⟨512 * i + b.val, by omega⟩ (lane h d)) := by
  simp only [← dscore_low W hs, ← W.q]
  pointwise [k0_pay80, k0_pay93, k0_pay94, k0_pay95, k0_pay96]

theorem dq_low (W : Windows B h k0 i hk hi wk wv wq wo wl wd) (hs : k0 = 512 * i) (A : Vec Ideal S512x128 .f32) (b : Fin 512) (d : Fin 128) :
    k0_pay96 (F := Ideal) (k0_pay95 (k0_pay81 (k0_pay68 wk wq) (k0_pay69 wv wo) wl wd) A wk) (ix2 b d) = A (ix2 b d) + ∑ a : Fin 256, B.dscore h ⟨k0 + a.val, by omega⟩ ⟨512 * i + b.val, by omega⟩ * B.k (ix3 0 ⟨k0 + a.val, by omega⟩ (lane h d)) := by
  simp only [← dscore_low W hs, ← W.k]
  pointwise [k0_pay80, k0_pay93, k0_pay94, k0_pay95, k0_pay96]

end diagonal

/-- Six windows of the blocks, the queries' being the upper half of tile `i`. -/
structure UpperWindows (B : Blocks) (h : Fin 2) (k0 i : ℕ) (hk : k0 + 256 ≤ 4096) (hi : i < 8) (wk wv wq wo : Vec Ideal S1x256x128 .bf16)
    (wl wd : Vec Ideal S1x1x1x1x512 .f32) : Prop where
  k : ∀ (a : Fin 256) (d : Fin 128), wk (ix3 0 a d) = B.k (ix3 0 ⟨k0 + a.val, by omega⟩ (lane h d))
  v : ∀ (a : Fin 256) (d : Fin 128), wv (ix3 0 a d) = B.v (ix3 0 ⟨k0 + a.val, by omega⟩ (lane h d))
  q : ∀ (b : Fin 256) (d : Fin 128), wq (ix3 0 b d) = B.q (ix3 0 ⟨512 * i + 256 + b.val, by omega⟩ (lane h d))
  o : ∀ (b : Fin 256) (d : Fin 128), wo (ix3 0 b d) = B.o (ix3 0 ⟨512 * i + 256 + b.val, by omega⟩ (lane h d))
  lse : ∀ (b : Fin 256) (hb : 256 + b.val < 512), wl (ix5 0 0 0 0 ⟨256 + b.val, hb⟩) = Blocks.row B.lse h ⟨512 * i + 256 + b.val, by omega⟩
  dlt : ∀ (b : Fin 256) (hb : 256 + b.val < 512), wd (ix5 0 0 0 0 ⟨256 + b.val, hb⟩) = Blocks.row B.dlt h ⟨512 * i + 256 + b.val, by omega⟩

section upper

variable {h : Fin 2} {k0 i : ℕ} {hk : k0 + 256 ≤ 4096} {hi : i < 8} {wk wv wq wo : Vec Ideal S1x256x128 .bf16}
  {wl wd : Vec Ideal S1x1x1x1x512 .f32}

theorem score_high (W : UpperWindows B h k0 i hk hi wk wv wq wo wl wd) (hs : k0 = 512 * i + 256) (a : Fin 256) (b : Fin 256) :
    k0_pay70 (F := Ideal) wk wq (ix2 a b) = if k0 + a.val ≤ 512 * i + 256 + b.val then B.score h ⟨k0 + a.val, by omega⟩ ⟨512 * i + 256 + b.val, by omega⟩ else ninf := by
  pointwise [k0_pay70]
  simp only [W.k, W.q]
  rw [mask_apply _ _ _ _ (by omega) (by omega) (by omega) (by omega)]
  simp only [show (a.val + 256 ≤ b.val + 256) = (k0 + a.val ≤ 512 * i + 256 + b.val) from by simp; omega]
  rfl

theorem prob_high (W : UpperWindows B h k0 i hk hi wk wv wq wo wl wd) (hs : k0 = 512 * i + 256) (a : Fin 256) (b : Fin 256) :
    k0_pay82 (F := Ideal) (k0_pay70 wk wq) wl (ix2 a b) = B.prob h ⟨k0 + a.val, by omega⟩ ⟨512 * i + 256 + b.val, by omega⟩ := by
  unfold Blocks.prob
  rw [← score_high W hs]
  pointwise [k0_pay82]
  simp only [W.lse]
  rfl

theorem dprob_high (W : UpperWindows B h k0 i hk hi wk wv wq wo wl wd) (a : Fin 256) (b : Fin 256) :
    k0_pay71 (F := Ideal) wv wo (ix2 a b) = B.dprob h ⟨k0 + a.val, by omega⟩ ⟨512 * i + 256 + b.val, by omega⟩ := by
  pointwise [k0_pay71]
  simp only [W.v, W.o]
  rfl

theorem dscore_high (W : UpperWindows B h k0 i hk hi wk wv wq wo wl wd) (hs : k0 = 512 * i + 256) (a : Fin 256) (b : Fin 256) :
    k0_pay85 (F := Ideal) (k0_pay71 wv wo) (k0_pay82 (k0_pay70 wk wq) wl) (k0_pay84 wd) (ix2 a b) = B.dscore h ⟨k0 + a.val, by omega⟩ ⟨512 * i + 256 + b.val, by omega⟩ := by
  unfold Blocks.dscore
  rw [← prob_high W hs, ← dprob_high W]
  pointwise [k0_pay84, k0_pay85]
  simp only [W.dlt]

theorem dv_high (W : UpperWindows B h k0 i hk hi wk wv wq wo wl wd) (hs : k0 = 512 * i + 256) (A : Vec Ideal S256x128 .f32) (a : Fin 256) (d : Fin 128) :
    k0_pay97 (F := Ideal) (k0_pay83 (k0_pay70 wk wq) wl) A wo (ix2 a d) = A (ix2 a d) + ∑ b : Fin 256, B.prob h ⟨k0 + a.val, by omega⟩ ⟨512 * i + 256 + b.val, by omega⟩ * B.o (ix3 0 ⟨512 * i + 256 + b.val, by omega⟩ (lane h d)) := by
  simp only [← prob_high W hs, ← W.o]
  pointwise [k0_pay83, k0_pay97, k0_pay98, k0_pay99, k0_pay100]

theorem dk_high (W : UpperWindows B h k0 i hk hi wk wv wq wo wl wd) (hs : k0 = 512 * i + 256) (A : Vec Ideal S256x128 .f32) (a : Fin 256) (d : Fin 128) :
    k0_pay98 (F := Ideal) (k0_pay85 (k0_pay71 wv wo) (k0_pay82 (k0_pay70 wk wq) wl) (k0_pay84 wd)) A wq (ix2 a d) = A (ix2 a d) + ∑ b : Fin 256, B.dscore h ⟨k0 + a.val, by omega⟩ ⟨512 * i + 256 + b.val, by omega⟩ * B.q (ix3 0 ⟨512 * i + 256 + b.val, by omega⟩ (lane h d)) := by
  simp only [← dscore_high W hs, ← W.q]
  pointwise [k0_pay83, k0_pay97, k0_pay98, k0_pay99, k0_pay100]

theorem dq_high (W : UpperWindows B h k0 i hk hi wk wv wq wo wl wd) (hs : k0 = 512 * i + 256) (A : Vec Ideal S256x128 .f32) (b : Fin 256) (d : Fin 128) :
    k0_pay100 (F := Ideal) (k0_pay99 (k0_pay85 (k0_pay71 wv wo) (k0_pay82 (k0_pay70 wk wq) wl) (k0_pay84 wd)) A wk) (ix2 b d) = A (ix2 b d) + ∑ a : Fin 256, B.dscore h ⟨k0 + a.val, by omega⟩ ⟨512 * i + 256 + b.val, by omega⟩ * B.k (ix3 0 ⟨k0 + a.val, by omega⟩ (lane h d)) := by
  simp only [← dscore_high W hs, ← W.k]
  pointwise [k0_pay83, k0_pay97, k0_pay98, k0_pay99, k0_pay100]

end upper
-- ==== Proof.Pieces.lean ====
/-
  Reading an accumulator of 4096 rows and 256 lanes after stores of rectangles, each of which leaves what was there plus
  an amount: what four such stores add, in the three arrangements in which the kernel makes them.
-/
module

public import proofs.«01_k».proof.Proof.Tile
public import Idealize.ShloMosaic.Lib.VecWindow
public import Idealize.ShloMosaic.Lib.FinSumWindow

@[expose] public noncomputable section

set_option maxRecDepth 16384

namespace Cert.Proof.Flash

open Cert.KernelIdeal Cert.KernelIdeal.Gen
open Idealize ShloMosaic ShloMosaic.TcCoe ShloMosaic.Pointwise

section reads

variable {sg : RefSig} {kd : Kind} {sp : Space}

/-- A load of a rectangle reads the buffer at the rectangle's offsets plus the index. -/
theorem readAt_at {s : Shape} {e : EltTy} (v : View sg kd sp s e) (f : v.ty.Contents (Elt Ideal)) {off off' size : Fin s.rank → ℕ}
    (inb : ∀ a, off a + size a ≤ s.size a) (h : off = off') (y : (Rect.unit off size inb).shape.Idx) (z : s.Idx)
    (hz : ∀ a, off' a + (y a).val = (z a).val) :
    v.readAt (Elt Ideal) (Rect.unit off size inb).toLoadRect f y = v.read (Elt Ideal) f z := by
  subst h
  refine congrArg (v.read (Elt Ideal) f) (funext fun a => Fin.ext ?_)
  show off a + 1 * (y a).val = (z a).val
  rw [one_mul]
  exact hz a

variable (v : View sg kd sp S4096x256 .f32) (f : v.ty.Contents (Elt Ideal))

theorem readAt_ix2 {off : Fin 2 → ℕ} {A C m0 m1 : ℕ} (inb : ∀ a, off a + (![m0, m1] : Fin 2 → ℕ) a ≤ S4096x256.size a)
    (h : off = ![A, C]) (a : Fin m0) (d : Fin m1) (r : Fin 4096) (l : Fin 256) (hr : A + a.val = r.val) (hl : C + d.val = l.val) :
    v.readAt (Elt Ideal) (Rect.unit (s := S4096x256) off ![m0, m1] inb).toLoadRect f (ix2 a d) = v.read (Elt Ideal) f (ix2 r l) :=
  readAt_at v f inb h _ _ fun x => by fin_cases x; exacts [hr, hl]

/-- After a store of a rectangle: its payload inside, the earlier contents outside. -/
theorem read_piece {off : Fin 2 → ℕ} {A C m0 m1 : ℕ} (inb : ∀ a, off a + (![m0, m1] : Fin 2 → ℕ) a ≤ S4096x256.size a)
    (h : off = ![A, C]) (w : (Rect.unit (s := S4096x256) off ![m0, m1] inb).shape.Idx → Elt Ideal .f32) (L : List (View.Piece (Elt Ideal) S4096x256 .f32))
    (r : Fin 4096) (l : Fin 256) :
    v.read (Elt Ideal) (v.writes (Elt Ideal) f (⟨Rect.unit off ![m0, m1] inb, w⟩ :: L)) (ix2 r l)
      = if h : (A ≤ r.val ∧ r.val < A + m0) ∧ C ≤ l.val ∧ l.val < C + m1 then
          w (ix2 ⟨r.val - A, by omega⟩ ⟨l.val - C, by omega⟩)
        else v.read (Elt Ideal) (v.writes (Elt Ideal) f L) (ix2 r l) := by
  rw [View.read_writes_cons_put v f inb w L h]
  unfold VecWindow.put
  by_cases hc : (A ≤ r.val ∧ r.val < A + m0) ∧ C ≤ l.val ∧ l.val < C + m1
  · rw [dif_pos hc, dif_pos (fun x => by fin_cases x; exacts [hc.1, hc.2])]
    exact congrArg w (funext fun x => Fin.ext (by fin_cases x <;> rfl))
  · rw [dif_neg hc, dif_neg (fun hx => hc ⟨hx 0, hx 1⟩)]

/-- A store of a rectangle that leaves what was there plus `g`. -/
theorem add_piece {off : Fin 2 → ℕ} {A C m0 m1 : ℕ} {inb : ∀ a, off a + (![m0, m1] : Fin 2 → ℕ) a ≤ S4096x256.size a}
    (h : off = ![A, C]) {w : (Rect.unit (s := S4096x256) off ![m0, m1] inb).shape.Idx → Elt Ideal .f32} {L : List (View.Piece (Elt Ideal) S4096x256 .f32)}
    (g : Fin 4096 → Fin 256 → EReal)
    (hw : ∀ (a : Fin m0) (d : Fin m1) (r : Fin 4096) (l : Fin 256), A + a.val = r.val → C + d.val = l.val →
      w (ix2 a d) = v.read (Elt Ideal) (v.writes (Elt Ideal) f L) (ix2 r l) + g r l)
    (r : Fin 4096) (l : Fin 256) :
    v.read (Elt Ideal) (v.writes (Elt Ideal) f (⟨Rect.unit off ![m0, m1] inb, w⟩ :: L)) (ix2 r l)
      = v.read (Elt Ideal) (v.writes (Elt Ideal) f L) (ix2 r l)
        + if (A ≤ r.val ∧ r.val < A + m0) ∧ C ≤ l.val ∧ l.val < C + m1 then g r l else 0 := by
  rw [read_piece v f inb h]
  by_cases hc : (A ≤ r.val ∧ r.val < A + m0) ∧ C ≤ l.val ∧ l.val < C + m1
  · rw [dif_pos hc, if_pos hc]
    exact hw _ _ r l (by show A + (r.val - A) = r.val; omega) (by show C + (l.val - C) = l.val; omega)
  · rw [dif_neg hc, if_neg hc, add_zero]

section four

variable {R : ℕ} {o1 o2 o3 o4 : Fin 2 → ℕ}
  {i1 : ∀ a, o1 a + (![256, 128] : Fin 2 → ℕ) a ≤ S4096x256.size a} {i2 : ∀ a, o2 a + (![256, 128] : Fin 2 → ℕ) a ≤ S4096x256.size a}
  {i3 : ∀ a, o3 a + (![256, 128] : Fin 2 → ℕ) a ≤ S4096x256.size a} {i4 : ∀ a, o4 a + (![256, 128] : Fin 2 → ℕ) a ≤ S4096x256.size a}
  {w1 : (Rect.unit (s := S4096x256) o1 ![256, 128] i1).shape.Idx → Elt Ideal .f32} {w2 : (Rect.unit (s := S4096x256) o2 ![256, 128] i2).shape.Idx → Elt Ideal .f32}
  {w3 : (Rect.unit (s := S4096x256) o3 ![256, 128] i3).shape.Idx → Elt Ideal .f32} {w4 : (Rect.unit (s := S4096x256) o4 ![256, 128] i4).shape.Idx → Elt Ideal .f32}

/-- Four stores that tile 512 rows, each over what was there at first: all 512 rows gain `g`. -/
theorem four_tiles (h1 : o1 = ![R, 0]) (h2 : o2 = ![R + 256, 0]) (h3 : o3 = ![R, 128]) (h4 : o4 = ![R + 256, 128])
    (g : Fin 4096 → Fin 256 → EReal)
    (e1 : ∀ (a : Fin 256) (d : Fin 128) (r : Fin 4096) (l : Fin 256), R + a.val = r.val → d.val = l.val → w1 (ix2 a d) = v.read (Elt Ideal) f (ix2 r l) + g r l)
    (e2 : ∀ (a : Fin 256) (d : Fin 128) (r : Fin 4096) (l : Fin 256), R + 256 + a.val = r.val → d.val = l.val → w2 (ix2 a d) = v.read (Elt Ideal) f (ix2 r l) + g r l)
    (e3 : ∀ (a : Fin 256) (d : Fin 128) (r : Fin 4096) (l : Fin 256), R + a.val = r.val → 128 + d.val = l.val → w3 (ix2 a d) = v.read (Elt Ideal) f (ix2 r l) + g r l)
    (e4 : ∀ (a : Fin 256) (d : Fin 128) (r : Fin 4096) (l : Fin 256), R + 256 + a.val = r.val → 128 + d.val = l.val → w4 (ix2 a d) = v.read (Elt Ideal) f (ix2 r l) + g r l)
    (r : Fin 4096) (l : Fin 256) :
    v.read (Elt Ideal) (v.writes (Elt Ideal) f [⟨Rect.unit o4 ![256, 128] i4, w4⟩, ⟨Rect.unit o3 ![256, 128] i3, w3⟩,
        ⟨Rect.unit o2 ![256, 128] i2, w2⟩, ⟨Rect.unit o1 ![256, 128] i1, w1⟩]) (ix2 r l)
      = v.read (Elt Ideal) f (ix2 r l) + if R ≤ r.val ∧ r.val < R + 512 then g r l else 0 := by
  rw [read_piece v f i4 h4, read_piece v f i3 h3, read_piece v f i2 h2, read_piece v f i1 h1, View.writes_nil]
  have hl := l.isLt
  split_ifs with c4 c3 c2 c1 hh <;> first
    | exact e4 _ _ r l (by show R + 256 + (r.val - (R + 256)) = r.val; omega) (by show 128 + (l.val - 128) = l.val; omega)
    | exact e3 _ _ r l (by show R + (r.val - R) = r.val; omega) (by show 128 + (l.val - 128) = l.val; omega)
    | exact e2 _ _ r l (by show R + 256 + (r.val - (R + 256)) = r.val; omega) (by show l.val - 0 = l.val; omega)
    | exact e1 _ _ r l (by show R + (r.val - R) = r.val; omega) (by show l.val - 0 = l.val; omega)
    | exact (add_zero _).symm
    | (exfalso; omega)

end four

section twice

variable {R : ℕ} {o1 o3 : Fin 2 → ℕ}
  {i1 : ∀ a, o1 a + (![512, 128] : Fin 2 → ℕ) a ≤ S4096x256.size a} {i3 : ∀ a, o3 a + (![512, 128] : Fin 2 → ℕ) a ≤ S4096x256.size a}
  {w1 w2 : (Rect.unit (s := S4096x256) o1 ![512, 128] i1).shape.Idx → Elt Ideal .f32}
  {w3 w4 : (Rect.unit (s := S4096x256) o3 ![512, 128] i3).shape.Idx → Elt Ideal .f32}

/-- Two stores over each half of the lanes, the second of each adding to the first: 512 rows gain both amounts. -/
theorem twice_tiles (h1 : o1 = ![R, 0]) (h3 : o3 = ![R, 128]) (g g' : Fin 4096 → Fin 256 → EReal)
    (e1 : ∀ (a : Fin 512) (d : Fin 128) (r : Fin 4096) (l : Fin 256), R + a.val = r.val → d.val = l.val → w1 (ix2 a d) = v.read (Elt Ideal) f (ix2 r l) + g r l)
    (e2 : ∀ (a : Fin 512) (d : Fin 128) (r : Fin 4096) (l : Fin 256), R + a.val = r.val → d.val = l.val → w2 (ix2 a d) = w1 (ix2 a d) + g' r l)
    (e3 : ∀ (a : Fin 512) (d : Fin 128) (r : Fin 4096) (l : Fin 256), R + a.val = r.val → 128 + d.val = l.val → w3 (ix2 a d) = v.read (Elt Ideal) f (ix2 r l) + g r l)
    (e4 : ∀ (a : Fin 512) (d : Fin 128) (r : Fin 4096) (l : Fin 256), R + a.val = r.val → 128 + d.val = l.val → w4 (ix2 a d) = w3 (ix2 a d) + g' r l)
    (r : Fin 4096) (l : Fin 256) :
    v.read (Elt Ideal) (v.writes (Elt Ideal) f [⟨Rect.unit o3 ![512, 128] i3, w4⟩, ⟨Rect.unit o3 ![512, 128] i3, w3⟩,
        ⟨Rect.unit o1 ![512, 128] i1, w2⟩, ⟨Rect.unit o1 ![512, 128] i1, w1⟩]) (ix2 r l)
      = v.read (Elt Ideal) f (ix2 r l) + if R ≤ r.val ∧ r.val < R + 512 then g r l + g' r l else 0 := by
  rw [read_piece v f i3 h3, read_piece v f i3 h3, read_piece v f i1 h1, read_piece v f i1 h1, View.writes_nil]
  have hl := l.isLt
  split_ifs with c4 c2 hh
  · rw [← add_assoc]
    exact (e4 _ _ r l (by show R + (r.val - R) = r.val; omega) (by show 128 + (l.val - 128) = l.val; omega)).trans
      (congrArg (· + g' r l) (e3 _ _ r l (by show R + (r.val - R) = r.val; omega) (by show 128 + (l.val - 128) = l.val; omega)))
  · exfalso; omega
  · rw [← add_assoc]
    exact (e2 _ _ r l (by show R + (r.val - R) = r.val; omega) (by show l.val - 0 = l.val; omega)).trans
      (congrArg (· + g' r l) (e1 _ _ r l (by show R + (r.val - R) = r.val; omega) (by show l.val - 0 = l.val; omega)))
  · exfalso; omega
  · exfalso; omega
  · exact (add_zero _).symm

end twice

section halves

variable {R : ℕ} {o1 o2 o3 o4 : Fin 2 → ℕ}
  {i1 : ∀ a, o1 a + (![512, 128] : Fin 2 → ℕ) a ≤ S4096x256.size a} {i2 : ∀ a, o2 a + (![256, 128] : Fin 2 → ℕ) a ≤ S4096x256.size a}
  {i3 : ∀ a, o3 a + (![512, 128] : Fin 2 → ℕ) a ≤ S4096x256.size a} {i4 : ∀ a, o4 a + (![256, 128] : Fin 2 → ℕ) a ≤ S4096x256.size a}
  {w1 : (Rect.unit (s := S4096x256) o1 ![512, 128] i1).shape.Idx → Elt Ideal .f32} {w2 : (Rect.unit (s := S4096x256) o2 ![256, 128] i2).shape.Idx → Elt Ideal .f32}
  {w3 : (Rect.unit (s := S4096x256) o3 ![512, 128] i3).shape.Idx → Elt Ideal .f32} {w4 : (Rect.unit (s := S4096x256) o4 ![256, 128] i4).shape.Idx → Elt Ideal .f32}

/-- Over each half of the lanes a store of 512 rows and then one of the upper 256 of them, which adds to the first. -/
theorem half_tiles (h1 : o1 = ![R, 0]) (h2 : o2 = ![R + 256, 0]) (h3 : o3 = ![R, 128]) (h4 : o4 = ![R + 256, 128]) (g g' : Fin 4096 → Fin 256 → EReal)
    (e1 : ∀ (a : Fin 512) (d : Fin 128) (r : Fin 4096) (l : Fin 256), R + a.val = r.val → d.val = l.val → w1 (ix2 a d) = v.read (Elt Ideal) f (ix2 r l) + g r l)
    (e2 : ∀ (a : Fin 256) (d : Fin 128) (r : Fin 4096) (l : Fin 256), R + 256 + a.val = r.val → d.val = l.val →
      w2 (ix2 a d) = v.readCov [⟨Rect.unit o1 ![512, 128] i1, w1⟩] (Rect.unit (s := S4096x256) o2 ![256, 128] i2).toLoadRect (ix2 a d) + g' r l)
    (e3 : ∀ (a : Fin 512) (d : Fin 128) (r : Fin 4096) (l : Fin 256), R + a.val = r.val → 128 + d.val = l.val → w3 (ix2 a d) = v.read (Elt Ideal) f (ix2 r l) + g r l)
    (e4 : ∀ (a : Fin 256) (d : Fin 128) (r : Fin 4096) (l : Fin 256), R + 256 + a.val = r.val → 128 + d.val = l.val →
      w4 (ix2 a d) = v.readCov [⟨Rect.unit o3 ![512, 128] i3, w3⟩, ⟨Rect.unit o2 ![256, 128] i2, w2⟩, ⟨Rect.unit o1 ![512, 128] i1, w1⟩]
        (Rect.unit (s := S4096x256) o4 ![256, 128] i4).toLoadRect (ix2 a d) + g' r l)
    (r : Fin 4096) (l : Fin 256) :
    v.read (Elt Ideal) (v.writes (Elt Ideal) f [⟨Rect.unit o4 ![256, 128] i4, w4⟩, ⟨Rect.unit o3 ![512, 128] i3, w3⟩,
        ⟨Rect.unit o2 ![256, 128] i2, w2⟩, ⟨Rect.unit o1 ![512, 128] i1, w1⟩]) (ix2 r l)
      = v.read (Elt Ideal) f (ix2 r l) + if R ≤ r.val ∧ r.val < R + 512 then g r l + (if R + 256 ≤ r.val then g' r l else 0) else 0 := by
  have hl := l.isLt
  rw [read_piece v f i4 h4, read_piece v f i3 h3, read_piece v f i2 h2, read_piece v f i1 h1, View.writes_nil]
  by_cases hr : R ≤ r.val ∧ r.val < R + 512
  · rw [if_pos hr, ← add_assoc]
    by_cases hl2 : 128 ≤ l.val
    · have w3e := e3 ⟨r.val - R, by omega⟩ ⟨l.val - 128, by omega⟩ r l (by show R + (r.val - R) = r.val; omega) (by show 128 + (l.val - 128) = l.val; omega)
      by_cases hu : R + 256 ≤ r.val
      · rw [dif_pos (by omega), if_pos hu]
        refine (e4 _ _ r l (by show R + 256 + (r.val - (R + 256)) = r.val; omega) (by show 128 + (l.val - 128) = l.val; omega)).trans ?_
        refine congrArg (· + g' r l) (Eq.trans ?_ w3e)
        refine (readAt_ix2 v _ i4 h4 _ _ r l (by show R + 256 + (r.val - (R + 256)) = r.val; omega) (by show 128 + (l.val - 128) = l.val; omega)).trans ?_
        rw [read_piece v _ i3 h3, dif_pos (by omega)]
      · rw [dif_neg (by omega), dif_pos (by omega), if_neg hu, add_zero]
        exact w3e
    · have w1e := e1 ⟨r.val - R, by omega⟩ ⟨l.val - 0, by omega⟩ r l (by show R + (r.val - R) = r.val; omega) (by show l.val - 0 = l.val; omega)
      by_cases hu : R + 256 ≤ r.val
      · rw [dif_neg (by omega), dif_neg (by omega), dif_pos (by omega), if_pos hu]
        refine (e2 _ _ r l (by show R + 256 + (r.val - (R + 256)) = r.val; omega) (by show l.val - 0 = l.val; omega)).trans ?_
        refine congrArg (· + g' r l) (Eq.trans ?_ w1e)
        refine (readAt_ix2 v _ i2 h2 _ _ r l (by show R + 256 + (r.val - (R + 256)) = r.val; omega) (by show 0 + (l.val - 0) = l.val; omega)).trans ?_
        rw [read_piece v _ i1 h1, dif_pos (by omega)]
      · rw [dif_neg (by omega), dif_neg (by omega), dif_neg (by omega), dif_pos (by omega), if_neg hu, add_zero]
        exact w1e
  · rw [dif_neg (by omega), dif_neg (by omega), dif_neg (by omega), dif_neg (by omega), if_neg hr, add_zero]

end halves

end reads

/-- A sum over a window of indices, as a sum over all of them. -/
theorem sum_lo (n lo : ℕ) (hlo : lo + n ≤ 4096) (f : Fin 4096 → EReal) :
    ∑ b : Fin n, f ⟨lo + b.val, by omega⟩ = ∑ q : Fin 4096, if lo ≤ q.val ∧ q.val < lo + n then f q else 0 := by
  rw [FinSumWindow.sum_window lo hlo (fun q : Fin 4096 => if lo ≤ q.val ∧ q.val < lo + n then f q else 0)]
  · refine Finset.sum_congr rfl fun b _ => ?_
    rw [if_pos]
    show lo ≤ lo + b.val ∧ lo + b.val < lo + n
    omega
  · intro P hP
    exact if_neg hP

/-- Two sums over disjoint windows of indices are one. -/
theorem sum_ite_add (p p' pp : Fin 4096 → Prop) [DecidablePred p] [DecidablePred p'] [DecidablePred pp] (f : Fin 4096 → EReal)
    (h : ∀ q, ¬(p q ∧ p' q)) (h' : ∀ q, pp q ↔ p q ∨ p' q) :
    (∑ q, if p q then f q else 0) + (∑ q, if p' q then f q else 0) = ∑ q, if pp q then f q else 0 := by
  rw [← Finset.sum_add_distrib]
  refine Finset.sum_congr rfl fun q _ => ?_
  have h1 := h q
  have h2 := h' q
  by_cases a : p q <;> by_cases b : p' q <;> simp_all
-- ==== Proof.Offsets.lean ====
/-
  Where the kernel's loads and stores lie: the number of trips of its loops, the offsets of each rectangle in closed form,
  and the windows that one tile loads.
-/
module

public import proofs.«01_k».proof.Proof.Pieces

@[expose] public noncomputable section

set_option maxRecDepth 16384

namespace Cert.Proof.Flash

open Cert.KernelIdeal Cert.KernelIdeal.Gen
open Idealize ShloMosaic ShloMosaic.TcCoe ShloMosaic.Pointwise

theorem trips1 : k0_t1_loop.trips = 8 := by decide +kernel
theorem trips2 : ∀ j : Fin k0_t1_loop.trips, (k0_t2_loop j).trips = 7 - j.val := by decide +kernel
theorem trips3 : ∀ j : Fin k0_t1_loop.trips, (k0_t3_loop j).trips = 0 := by decide +kernel

theorem off1_lo : ∀ j : Fin k0_t1_loop.trips, k0_off1 j 0#32 = ![0, 512 * j.val, 0] := by decide +kernel
theorem off1_hi : ∀ j : Fin k0_t1_loop.trips, k0_off1 j 256#32 = ![0, 512 * j.val + 256, 0] := by decide +kernel
theorem off2_eq : ∀ j : Fin k0_t1_loop.trips, k0_off2 j = ![0, 512 * j.val, 0] := by decide +kernel
theorem off3_lo : ∀ j : Fin k0_t1_loop.trips, k0_off3 j 0#32 = ![0, 512 * j.val, 128] := by decide +kernel
theorem off3_hi : ∀ j : Fin k0_t1_loop.trips, k0_off3 j 256#32 = ![0, 512 * j.val + 256, 128] := by decide +kernel
theorem off4_eq : ∀ j : Fin k0_t1_loop.trips, k0_off4 j = ![0, 512 * j.val, 128] := by decide +kernel
theorem off5_eq : ∀ j : Fin k0_t1_loop.trips, k0_off5 j = ![0, 0, j.val, 0, 0] := by decide +kernel
theorem off6_eq : ∀ j : Fin k0_t1_loop.trips, k0_off6 j = ![0, 1, j.val, 0, 0] := by decide +kernel
theorem off7_lo : ∀ j : Fin k0_t1_loop.trips, k0_off7 j 0#32 = ![512 * j.val, 0] := by decide +kernel
theorem off7_hi : ∀ j : Fin k0_t1_loop.trips, k0_off7 j 256#32 = ![512 * j.val + 256, 0] := by decide +kernel
theorem off8_eq : ∀ j : Fin k0_t1_loop.trips, k0_off8 j = ![512 * j.val, 0] := by decide +kernel
theorem off9_lo : ∀ j : Fin k0_t1_loop.trips, k0_off9 j 0#32 = ![512 * j.val, 128] := by decide +kernel
theorem off9_hi : ∀ j : Fin k0_t1_loop.trips, k0_off9 j 256#32 = ![512 * j.val + 256, 128] := by decide +kernel
theorem off10_eq : ∀ j : Fin k0_t1_loop.trips, k0_off10 j = ![512 * j.val, 128] := by decide +kernel
theorem off11_lo : ∀ j : Fin k0_t1_loop.trips, k0_off11 j 0#32 = ![0, 512 * j.val, 0] := by decide +kernel
theorem off11_hi : ∀ j : Fin k0_t1_loop.trips, k0_off11 j 256#32 = ![0, 512 * j.val + 256, 0] := by decide +kernel
theorem off12_eq : ∀ (j : Fin k0_t1_loop.trips) (n : Fin (k0_t2_loop j).trips), k0_off12 j n = ![0, 512 * (j.val + 1 + n.val), 0] := by decide +kernel
theorem off13_lo : ∀ j : Fin k0_t1_loop.trips, k0_off13 j 0#32 = ![0, 512 * j.val, 128] := by decide +kernel
theorem off13_hi : ∀ j : Fin k0_t1_loop.trips, k0_off13 j 256#32 = ![0, 512 * j.val + 256, 128] := by decide +kernel
theorem off14_eq : ∀ (j : Fin k0_t1_loop.trips) (n : Fin (k0_t2_loop j).trips), k0_off14 j n = ![0, 512 * (j.val + 1 + n.val), 128] := by decide +kernel
theorem off15_eq : ∀ (j : Fin k0_t1_loop.trips) (n : Fin (k0_t2_loop j).trips), k0_off15 j n = ![0, 0, j.val + 1 + n.val, 0, 0] := by decide +kernel
theorem off16_eq : ∀ (j : Fin k0_t1_loop.trips) (n : Fin (k0_t2_loop j).trips), k0_off16 j n = ![0, 1, j.val + 1 + n.val, 0, 0] := by decide +kernel
theorem off17_lo : ∀ j : Fin k0_t1_loop.trips, k0_off17 j 0#32 = ![512 * j.val, 0] := by decide +kernel
theorem off17_hi : ∀ j : Fin k0_t1_loop.trips, k0_off17 j 256#32 = ![512 * j.val + 256, 0] := by decide +kernel
theorem off18_eq : ∀ (j : Fin k0_t1_loop.trips) (n : Fin (k0_t2_loop j).trips), k0_off18 j n = ![512 * (j.val + 1 + n.val), 0] := by decide +kernel
theorem off19_lo : ∀ j : Fin k0_t1_loop.trips, k0_off19 j 0#32 = ![512 * j.val, 128] := by decide +kernel
theorem off19_hi : ∀ j : Fin k0_t1_loop.trips, k0_off19 j 256#32 = ![512 * j.val + 256, 128] := by decide +kernel
theorem off20_eq : ∀ (j : Fin k0_t1_loop.trips) (n : Fin (k0_t2_loop j).trips), k0_off20 j n = ![512 * (j.val + 1 + n.val), 128] := by decide +kernel

theorem lt8 (j : Fin k0_t1_loop.trips) : j.val < 8 := lt_of_lt_of_eq j.isLt trips1

theorem tile_lt (j : Fin k0_t1_loop.trips) (n : Fin (k0_t2_loop j).trips) : j.val + 1 + n.val < 8 := by
  have h1 := n.isLt
  have h2 := trips2 j
  have h3 := lt8 j
  omega

local notation "Blk" => Memref sig Kind.tc Space.vmem S1x4096x256 EltTy.bf16
/-- Six loaded blocks of the kernel, and the entries they hold. -/
structure Holds (B : Blocks) (a2 a3 a4 a5 : Blk) (a6 a7 : Memref sig .tc .vmem S1x2x8x1x512 .f32)
    (X2 : BufTy.Contents (Elt Ideal) a2.view.ty) (X3 : BufTy.Contents (Elt Ideal) a3.view.ty) (X4 : BufTy.Contents (Elt Ideal) a4.view.ty)
    (X5 : BufTy.Contents (Elt Ideal) a5.view.ty) (X6 : BufTy.Contents (Elt Ideal) a6.view.ty) (X7 : BufTy.Contents (Elt Ideal) a7.view.ty) : Prop where
  q : a2.view.read (Elt Ideal) X2 = B.q
  k : a3.view.read (Elt Ideal) X3 = B.k
  v : a4.view.read (Elt Ideal) X4 = B.v
  o : a5.view.read (Elt Ideal) X5 = B.o
  lse : a6.view.read (Elt Ideal) X6 = B.lse
  dlt : a7.view.read (Elt Ideal) X7 = B.dlt

section windows

variable {B : Blocks} {a2 a3 a4 a5 : Blk} {a6 a7 : Memref sig .tc .vmem S1x2x8x1x512 .f32}
  {X2 : BufTy.Contents (Elt Ideal) a2.view.ty} {X3 : BufTy.Contents (Elt Ideal) a3.view.ty} {X4 : BufTy.Contents (Elt Ideal) a4.view.ty}
  {X5 : BufTy.Contents (Elt Ideal) a5.view.ty} {X6 : BufTy.Contents (Elt Ideal) a6.view.ty} {X7 : BufTy.Contents (Elt Ideal) a7.view.ty}

/-- Rows from `A` on, lanes of head `h`, of a block of 4096 rows. -/
theorem load_rows {x : Blk} {X : BufTy.Contents (Elt Ideal) x.view.ty} {Y : Vec Ideal S1x4096x256 .bf16}
    (hX : x.view.read (Elt Ideal) X = Y) {off : Fin 3 → ℕ} {A m : ℕ} {h : Fin 2}
    (inb : ∀ a, off a + (![1, m, 128] : Fin 3 → ℕ) a ≤ S1x4096x256.size a) (ho : off = ![0, A, 128 * h.val]) (a : Fin m) (d : Fin 128) (r : Fin 4096)
    (hr : A + a.val = r.val) :
    x.view.readAt (Elt Ideal) (Rect.unit (s := S1x4096x256) off ![1, m, 128] inb).toLoadRect X (ix3 0 a d) = Y (ix3 0 r (lane h d)) := by
  rw [← hX]
  exact readAt_at x.view X inb ho _ _ fun y => by fin_cases y; exacts [rfl, hr, rfl]

/-- The rows of tile `i` of the log-sums or of the corrections. -/
theorem load_sums {x : Memref sig .tc .vmem S1x2x8x1x512 .f32} {X : BufTy.Contents (Elt Ideal) x.view.ty} {Y : Vec Ideal S1x2x8x1x512 .f32}
    (hX : x.view.read (Elt Ideal) X = Y) {off : Fin 5 → ℕ} {i : ℕ} {h : Fin 2}
    (inb : ∀ a, off a + (![1, 1, 1, 1, 512] : Fin 5 → ℕ) a ≤ S1x2x8x1x512.size a) (ho : off = ![0, h.val, i, 0, 0]) (b : Fin 512) (r : Fin 4096)
    (hr : 512 * i + b.val = r.val) :
    x.view.readAt (Elt Ideal) (Rect.unit (s := S1x2x8x1x512) off ![1, 1, 1, 1, 512] inb).toLoadRect X (ix5 0 0 0 0 b) = Blocks.row Y h r := by
  rw [← hX]
  exact readAt_at x.view X inb ho _ _ fun y => by
    fin_cases y
    exacts [rfl, by show h.val + 0 = h.val; omega, by show i + 0 = r.val / 512; omega, rfl, by show 0 + b.val = r.val % 512; omega]

/-- The windows of a tile whose queries are the whole of tile `i`. -/
theorem windows_of (H : Holds B a2 a3 a4 a5 a6 a7 X2 X3 X4 X5 X6 X7) {h : Fin 2} {k0 i : ℕ} (hk : k0 + 256 ≤ 4096) (hi : i < 8)
    {ok oq : Fin 3 → ℕ} {ol : Fin 5 → ℕ} (ik : ∀ a, ok a + (![1, 256, 128] : Fin 3 → ℕ) a ≤ S1x4096x256.size a)
    (iq : ∀ a, oq a + (![1, 512, 128] : Fin 3 → ℕ) a ≤ S1x4096x256.size a)
    (il : ∀ a, ol a + (![1, 1, 1, 1, 512] : Fin 5 → ℕ) a ≤ S1x2x8x1x512.size a)
    (hok : ok = ![0, k0, 128 * h.val]) (hoq : oq = ![0, 512 * i, 128 * h.val]) (hol : ol = ![0, h.val, i, 0, 0]) :
    Windows B h k0 i hk hi
      (a3.view.readAt (Elt Ideal) (Rect.unit (s := S1x4096x256) ok ![1, 256, 128] ik).toLoadRect X3)
      (a4.view.readAt (Elt Ideal) (Rect.unit (s := S1x4096x256) ok ![1, 256, 128] ik).toLoadRect X4)
      (a2.view.readAt (Elt Ideal) (Rect.unit (s := S1x4096x256) oq ![1, 512, 128] iq).toLoadRect X2)
      (a5.view.readAt (Elt Ideal) (Rect.unit (s := S1x4096x256) oq ![1, 512, 128] iq).toLoadRect X5)
      (a6.view.readAt (Elt Ideal) (Rect.unit (s := S1x2x8x1x512) ol ![1, 1, 1, 1, 512] il).toLoadRect X6)
      (a7.view.readAt (Elt Ideal) (Rect.unit (s := S1x2x8x1x512) ol ![1, 1, 1, 1, 512] il).toLoadRect X7) where
  k a d := load_rows H.k ik hok a d _ rfl
  v a d := load_rows H.v ik hok a d _ rfl
  q b d := load_rows H.q iq hoq b d _ rfl
  o b d := load_rows H.o iq hoq b d _ rfl
  lse b := load_sums H.lse il hol b _ rfl
  dlt b := load_sums H.dlt il hol b _ rfl

/-- The windows of a tile whose queries are the upper half of tile `i`. -/
theorem upper_of (H : Holds B a2 a3 a4 a5 a6 a7 X2 X3 X4 X5 X6 X7) {h : Fin 2} {k0 i : ℕ} (hk : k0 + 256 ≤ 4096) (hi : i < 8) (hs : k0 = 512 * i + 256)
    {ok : Fin 3 → ℕ} {ol : Fin 5 → ℕ} (ik : ∀ a, ok a + (![1, 256, 128] : Fin 3 → ℕ) a ≤ S1x4096x256.size a)
    (il : ∀ a, ol a + (![1, 1, 1, 1, 512] : Fin 5 → ℕ) a ≤ S1x2x8x1x512.size a)
    (hok : ok = ![0, k0, 128 * h.val]) (hol : ol = ![0, h.val, i, 0, 0]) :
    UpperWindows B h k0 i hk hi
      (a3.view.readAt (Elt Ideal) (Rect.unit (s := S1x4096x256) ok ![1, 256, 128] ik).toLoadRect X3)
      (a4.view.readAt (Elt Ideal) (Rect.unit (s := S1x4096x256) ok ![1, 256, 128] ik).toLoadRect X4)
      (a2.view.readAt (Elt Ideal) (Rect.unit (s := S1x4096x256) ok ![1, 256, 128] ik).toLoadRect X2)
      (a5.view.readAt (Elt Ideal) (Rect.unit (s := S1x4096x256) ok ![1, 256, 128] ik).toLoadRect X5)
      (a6.view.readAt (Elt Ideal) (Rect.unit (s := S1x2x8x1x512) ol ![1, 1, 1, 1, 512] il).toLoadRect X6)
      (a7.view.readAt (Elt Ideal) (Rect.unit (s := S1x2x8x1x512) ol ![1, 1, 1, 1, 512] il).toLoadRect X7) where
  k a d := load_rows H.k ik hok a d _ rfl
  v a d := load_rows H.v ik hok a d _ rfl
  q b d := load_rows H.q ik hok b d _ (by show k0 + b.val = 512 * i + 256 + b.val; omega)
  o b d := load_rows H.o ik hok b d _ (by show k0 + b.val = 512 * i + 256 + b.val; omega)
  lse b hb := load_sums H.lse il hol _ _ (by show 512 * i + (256 + b.val) = 512 * i + 256 + b.val; omega)
  dlt b hb := load_sums H.dlt il hol _ _ (by show 512 * i + (256 + b.val) = 512 * i + 256 + b.val; omega)

end windows

/-- The head of a lane of the first head. -/
theorem lane_zero (d : Fin 128) (l : Fin 256) (h : d.val = l.val) : lane 0 d = l ∧ headOf l = 0 := by
  have := d.isLt
  exact ⟨Fin.ext (by show 128 * 0 + d.val = l.val; omega), Fin.ext (by show l.val / 128 = 0; omega)⟩

/-- The head of a lane of the second head. -/
theorem lane_one (d : Fin 128) (l : Fin 256) (h : 128 + d.val = l.val) : lane 1 d = l ∧ headOf l = 1 := by
  have := d.isLt
  exact ⟨Fin.ext (by show 128 * 1 + d.val = l.val; omega), Fin.ext (by show l.val / 128 = 1; omega)⟩

namespace Blocks

variable (B : Blocks)

/-- What a key and a query add to the value's gradient at a lane. -/
def addV (k q : Fin 4096) (l : Fin 256) : EReal := B.prob (headOf l) k q * B.o (ix3 0 q l)

/-- What they add to the key's gradient. -/
def addK (k q : Fin 4096) (l : Fin 256) : EReal := B.dscore (headOf l) k q * B.q (ix3 0 q l)

/-- What they add to the query's gradient. -/
def addQ (k q : Fin 4096) (l : Fin 256) : EReal := B.dscore (headOf l) k q * B.k (ix3 0 k l)

end Blocks
-- ==== Proof.InnerKeys.lean ====
/-
  One tile of keys against one later tile of queries: what it adds to the gradients of the values and of the keys.
-/
module

public import proofs.«01_k».proof.Proof.Offsets
public import proofs.«01_k».proof.Proof.Gen.KernelIdeal.Loops
public import Idealize.ShloMosaic.Lib.Tactic.RunNames

@[expose] public noncomputable section

set_option maxRecDepth 16384

namespace Cert.Proof.Flash

open Cert.KernelIdeal Cert.KernelIdeal.Gen
open Idealize ShloMosaic ShloMosaic.TcCoe ShloMosaic.Tactic ShloMosaic.Pointwise

local notation "Acc" => Memref sig Kind.tc Space.vmem S4096x256 EltTy.f32
local notation "Blk" => Memref sig Kind.tc Space.vmem S1x4096x256 EltTy.bf16
variable {B : Blocks}
variable (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole) (k0_t1 : Fin k0_t1_loop.trips) (arg14 : BitVec 32) (v380 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin (k0_t2_loop k0_t1).trips) (f_arg11 : BufTy.Contents (Elt Ideal) arg11.view.ty) (f_arg12 : BufTy.Contents (Elt Ideal) arg12.view.ty) (f_arg13 : BufTy.Contents (Elt Ideal) arg13.view.ty)

set_option maxHeartbeats 4000000 in
/-- The gradient of the values after the tile. -/
theorem inner_arg13 (H : Holds B arg2 arg3 arg4 arg5 arg6 arg7 X_arg2 X_arg3 X_arg4 X_arg5 X_arg6 X_arg7) (r : Fin 4096) (l : Fin 256) :
    arg13.view.read (Elt Ideal) (arg13.view.writes (Elt Ideal) f_arg13 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 k).2.2.1 f_arg11 f_arg12 f_arg13)) (ix2 r l)
      = arg13.view.read (Elt Ideal) f_arg13 (ix2 r l)
        + if 512 * k0_t1.val ≤ r.val ∧ r.val < 512 * k0_t1.val + 512 then ∑ q : Fin 4096, if 512 * (k0_t1.val + 1 + k.val) ≤ q.val ∧ q.val < 512 * (k0_t1.val + 1 + k.val) + 512 then B.addV r q l else 0 else 0 := by
  unfold trip_k0_t2
  sl_unfold_run_names
  refine four_tiles _ _ (off17_lo k0_t1) (off17_hi k0_t1) (off19_lo k0_t1) (off19_hi k0_t1)
    (fun r l => ∑ q : Fin 4096, if 512 * (k0_t1.val + 1 + k.val) ≤ q.val ∧ q.val < 512 * (k0_t1.val + 1 + k.val) + 512 then B.addV r q l else 0) ?_ ?_ ?_ ?_ r l
  · intro a d r l hr hl
    have hj := lt8 k0_t1
    have hi := tile_lt k0_t1 k
    obtain ⟨hl1, hl2⟩ := lane_zero d l hl
    have W := windows_of H (h := 0) (k0 := 512 * k0_t1.val ) (i := k0_t1.val + 1 + k.val) (by omega) hi (k0_off11_inb k0_t1 0) (k0_off12_inb k0_t1 k) (k0_off15_inb k0_t1 k)
      (off11_lo k0_t1) (off12_eq k0_t1 k) (off15_eq k0_t1 k)
    refine Eq.trans ?_ ((dv_inner W (by omega) (arg13.view.readAt (Elt Ideal) (Rect.unit (s := S4096x256) (k0_off17 k0_t1 0#32) _ (k0_off17_inb k0_t1 0)).toLoadRect f_arg13) a d).trans ?_)
    · rfl
    · rw [readAt_ix2 _ _ _ (off17_lo k0_t1) a d r l hr (by omega)]
      rw [sum_lo 512 (512 * (k0_t1.val + 1 + k.val)) (by omega) (fun q => B.prob 0 ⟨512 * k0_t1.val + a.val, by omega⟩ q * B.o (ix3 0 q (lane 0 d)))]
      rw [hl1, show (⟨512 * k0_t1.val + a.val, by omega⟩ : Fin 4096) = r from Fin.ext hr]
      unfold Blocks.addV
      rw [hl2]
  · intro a d r l hr hl
    have hj := lt8 k0_t1
    have hi := tile_lt k0_t1 k
    obtain ⟨hl1, hl2⟩ := lane_zero d l hl
    have W := windows_of H (h := 0) (k0 := 512 * k0_t1.val + 256 ) (i := k0_t1.val + 1 + k.val) (by omega) hi (k0_off11_inb k0_t1 1) (k0_off12_inb k0_t1 k) (k0_off15_inb k0_t1 k)
      (off11_hi k0_t1) (off12_eq k0_t1 k) (off15_eq k0_t1 k)
    refine Eq.trans ?_ ((dv_inner W (by omega) (arg13.view.readAt (Elt Ideal) (Rect.unit (s := S4096x256) (k0_off17 k0_t1 256#32) _ (k0_off17_inb k0_t1 1)).toLoadRect f_arg13) a d).trans ?_)
    · rfl
    · rw [readAt_ix2 _ _ _ (off17_hi k0_t1) a d r l hr (by omega)]
      rw [sum_lo 512 (512 * (k0_t1.val + 1 + k.val)) (by omega) (fun q => B.prob 0 ⟨512 * k0_t1.val + 256 + a.val, by omega⟩ q * B.o (ix3 0 q (lane 0 d)))]
      rw [hl1, show (⟨512 * k0_t1.val + 256 + a.val, by omega⟩ : Fin 4096) = r from Fin.ext hr]
      unfold Blocks.addV
      rw [hl2]
  · intro a d r l hr hl
    have hj := lt8 k0_t1
    have hi := tile_lt k0_t1 k
    obtain ⟨hl1, hl2⟩ := lane_one d l hl
    have W := windows_of H (h := 1) (k0 := 512 * k0_t1.val ) (i := k0_t1.val + 1 + k.val) (by omega) hi (k0_off13_inb k0_t1 0) (k0_off14_inb k0_t1 k) (k0_off16_inb k0_t1 k)
      (off13_lo k0_t1) (off14_eq k0_t1 k) (off16_eq k0_t1 k)
    refine Eq.trans ?_ ((dv_inner W (by omega) (arg13.view.readAt (Elt Ideal) (Rect.unit (s := S4096x256) (k0_off19 k0_t1 0#32) _ (k0_off19_inb k0_t1 0)).toLoadRect f_arg13) a d).trans ?_)
    · rfl
    · rw [readAt_ix2 _ _ _ (off19_lo k0_t1) a d r l hr (by omega)]
      rw [sum_lo 512 (512 * (k0_t1.val + 1 + k.val)) (by omega) (fun q => B.prob 1 ⟨512 * k0_t1.val + a.val, by omega⟩ q * B.o (ix3 0 q (lane 1 d)))]
      rw [hl1, show (⟨512 * k0_t1.val + a.val, by omega⟩ : Fin 4096) = r from Fin.ext hr]
      unfold Blocks.addV
      rw [hl2]
  · intro a d r l hr hl
    have hj := lt8 k0_t1
    have hi := tile_lt k0_t1 k
    obtain ⟨hl1, hl2⟩ := lane_one d l hl
    have W := windows_of H (h := 1) (k0 := 512 * k0_t1.val + 256 ) (i := k0_t1.val + 1 + k.val) (by omega) hi (k0_off13_inb k0_t1 1) (k0_off14_inb k0_t1 k) (k0_off16_inb k0_t1 k)
      (off13_hi k0_t1) (off14_eq k0_t1 k) (off16_eq k0_t1 k)
    refine Eq.trans ?_ ((dv_inner W (by omega) (arg13.view.readAt (Elt Ideal) (Rect.unit (s := S4096x256) (k0_off19 k0_t1 256#32) _ (k0_off19_inb k0_t1 1)).toLoadRect f_arg13) a d).trans ?_)
    · rfl
    · rw [readAt_ix2 _ _ _ (off19_hi k0_t1) a d r l hr (by omega)]
      rw [sum_lo 512 (512 * (k0_t1.val + 1 + k.val)) (by omega) (fun q => B.prob 1 ⟨512 * k0_t1.val + 256 + a.val, by omega⟩ q * B.o (ix3 0 q (lane 1 d)))]
      rw [hl1, show (⟨512 * k0_t1.val + 256 + a.val, by omega⟩ : Fin 4096) = r from Fin.ext hr]
      unfold Blocks.addV
      rw [hl2]

set_option maxHeartbeats 4000000 in
/-- The gradient of the keys after the tile. -/
theorem inner_arg12 (H : Holds B arg2 arg3 arg4 arg5 arg6 arg7 X_arg2 X_arg3 X_arg4 X_arg5 X_arg6 X_arg7) (r : Fin 4096) (l : Fin 256) :
    arg12.view.read (Elt Ideal) (arg12.view.writes (Elt Ideal) f_arg12 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 k).2.1 f_arg11 f_arg12 f_arg13)) (ix2 r l)
      = arg12.view.read (Elt Ideal) f_arg12 (ix2 r l)
        + if 512 * k0_t1.val ≤ r.val ∧ r.val < 512 * k0_t1.val + 512 then ∑ q : Fin 4096, if 512 * (k0_t1.val + 1 + k.val) ≤ q.val ∧ q.val < 512 * (k0_t1.val + 1 + k.val) + 512 then B.addK r q l else 0 else 0 := by
  unfold trip_k0_t2
  sl_unfold_run_names
  refine four_tiles _ _ (off17_lo k0_t1) (off17_hi k0_t1) (off19_lo k0_t1) (off19_hi k0_t1)
    (fun r l => ∑ q : Fin 4096, if 512 * (k0_t1.val + 1 + k.val) ≤ q.val ∧ q.val < 512 * (k0_t1.val + 1 + k.val) + 512 then B.addK r q l else 0) ?_ ?_ ?_ ?_ r l
  · intro a d r l hr hl
    have hj := lt8 k0_t1
    have hi := tile_lt k0_t1 k
    obtain ⟨hl1, hl2⟩ := lane_zero d l hl
    have W := windows_of H (h := 0) (k0 := 512 * k0_t1.val ) (i := k0_t1.val + 1 + k.val) (by omega) hi (k0_off11_inb k0_t1 0) (k0_off12_inb k0_t1 k) (k0_off15_inb k0_t1 k)
      (off11_lo k0_t1) (off12_eq k0_t1 k) (off15_eq k0_t1 k)
    refine Eq.trans ?_ ((dk_inner W (by omega) (arg12.view.readAt (Elt Ideal) (Rect.unit (s := S4096x256) (k0_off17 k0_t1 0#32) _ (k0_off17_inb k0_t1 0)).toLoadRect f_arg12) a d).trans ?_)
    · rfl
    · rw [readAt_ix2 _ _ _ (off17_lo k0_t1) a d r l hr (by omega)]
      rw [sum_lo 512 (512 * (k0_t1.val + 1 + k.val)) (by omega) (fun q => B.dscore 0 ⟨512 * k0_t1.val + a.val, by omega⟩ q * B.q (ix3 0 q (lane 0 d)))]
      rw [hl1, show (⟨512 * k0_t1.val + a.val, by omega⟩ : Fin 4096) = r from Fin.ext hr]
      unfold Blocks.addK
      rw [hl2]
  · intro a d r l hr hl
    have hj := lt8 k0_t1
    have hi := tile_lt k0_t1 k
    obtain ⟨hl1, hl2⟩ := lane_zero d l hl
    have W := windows_of H (h := 0) (k0 := 512 * k0_t1.val + 256 ) (i := k0_t1.val + 1 + k.val) (by omega) hi (k0_off11_inb k0_t1 1) (k0_off12_inb k0_t1 k) (k0_off15_inb k0_t1 k)
      (off11_hi k0_t1) (off12_eq k0_t1 k) (off15_eq k0_t1 k)
    refine Eq.trans ?_ ((dk_inner W (by omega) (arg12.view.readAt (Elt Ideal) (Rect.unit (s := S4096x256) (k0_off17 k0_t1 256#32) _ (k0_off17_inb k0_t1 1)).toLoadRect f_arg12) a d).trans ?_)
    · rfl
    · rw [readAt_ix2 _ _ _ (off17_hi k0_t1) a d r l hr (by omega)]
      rw [sum_lo 512 (512 * (k0_t1.val + 1 + k.val)) (by omega) (fun q => B.dscore 0 ⟨512 * k0_t1.val + 256 + a.val, by omega⟩ q * B.q (ix3 0 q (lane 0 d)))]
      rw [hl1, show (⟨512 * k0_t1.val + 256 + a.val, by omega⟩ : Fin 4096) = r from Fin.ext hr]
      unfold Blocks.addK
      rw [hl2]
  · intro a d r l hr hl
    have hj := lt8 k0_t1
    have hi := tile_lt k0_t1 k
    obtain ⟨hl1, hl2⟩ := lane_one d l hl
    have W := windows_of H (h := 1) (k0 := 512 * k0_t1.val ) (i := k0_t1.val + 1 + k.val) (by omega) hi (k0_off13_inb k0_t1 0) (k0_off14_inb k0_t1 k) (k0_off16_inb k0_t1 k)
      (off13_lo k0_t1) (off14_eq k0_t1 k) (off16_eq k0_t1 k)
    refine Eq.trans ?_ ((dk_inner W (by omega) (arg12.view.readAt (Elt Ideal) (Rect.unit (s := S4096x256) (k0_off19 k0_t1 0#32) _ (k0_off19_inb k0_t1 0)).toLoadRect f_arg12) a d).trans ?_)
    · rfl
    · rw [readAt_ix2 _ _ _ (off19_lo k0_t1) a d r l hr (by omega)]
      rw [sum_lo 512 (512 * (k0_t1.val + 1 + k.val)) (by omega) (fun q => B.dscore 1 ⟨512 * k0_t1.val + a.val, by omega⟩ q * B.q (ix3 0 q (lane 1 d)))]
      rw [hl1, show (⟨512 * k0_t1.val + a.val, by omega⟩ : Fin 4096) = r from Fin.ext hr]
      unfold Blocks.addK
      rw [hl2]
  · intro a d r l hr hl
    have hj := lt8 k0_t1
    have hi := tile_lt k0_t1 k
    obtain ⟨hl1, hl2⟩ := lane_one d l hl
    have W := windows_of H (h := 1) (k0 := 512 * k0_t1.val + 256 ) (i := k0_t1.val + 1 + k.val) (by omega) hi (k0_off13_inb k0_t1 1) (k0_off14_inb k0_t1 k) (k0_off16_inb k0_t1 k)
      (off13_hi k0_t1) (off14_eq k0_t1 k) (off16_eq k0_t1 k)
    refine Eq.trans ?_ ((dk_inner W (by omega) (arg12.view.readAt (Elt Ideal) (Rect.unit (s := S4096x256) (k0_off19 k0_t1 256#32) _ (k0_off19_inb k0_t1 1)).toLoadRect f_arg12) a d).trans ?_)
    · rfl
    · rw [readAt_ix2 _ _ _ (off19_hi k0_t1) a d r l hr (by omega)]
      rw [sum_lo 512 (512 * (k0_t1.val + 1 + k.val)) (by omega) (fun q => B.dscore 1 ⟨512 * k0_t1.val + 256 + a.val, by omega⟩ q * B.q (ix3 0 q (lane 1 d)))]
      rw [hl1, show (⟨512 * k0_t1.val + 256 + a.val, by omega⟩ : Fin 4096) = r from Fin.ext hr]
      unfold Blocks.addK
      rw [hl2]
-- ==== Proof.InnerQueries.lean ====
/-
  One tile of keys against one later tile of queries: what it adds to the gradient of the queries.
-/
module

public import proofs.«01_k».proof.Proof.Offsets
public import proofs.«01_k».proof.Proof.Gen.KernelIdeal.Loops
public import Idealize.ShloMosaic.Lib.Tactic.RunNames

@[expose] public noncomputable section

set_option maxRecDepth 16384

namespace Cert.Proof.Flash

open Cert.KernelIdeal Cert.KernelIdeal.Gen
open Idealize ShloMosaic ShloMosaic.TcCoe ShloMosaic.Tactic ShloMosaic.Pointwise

local notation "Acc" => Memref sig Kind.tc Space.vmem S4096x256 EltTy.f32
local notation "Blk" => Memref sig Kind.tc Space.vmem S1x4096x256 EltTy.bf16
variable {B : Blocks}
variable (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole) (k0_t1 : Fin k0_t1_loop.trips) (arg14 : BitVec 32) (v380 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (k : Fin (k0_t2_loop k0_t1).trips) (f_arg11 : BufTy.Contents (Elt Ideal) arg11.view.ty) (f_arg12 : BufTy.Contents (Elt Ideal) arg12.view.ty) (f_arg13 : BufTy.Contents (Elt Ideal) arg13.view.ty)

/-- The first half of the keys, for the second head and for the first. -/
def upperHead : Vec Ideal S512x128 .f32 := k0_pay26 (F := Ideal) (k0_pay13 (k0_pay2 (arg3.view.readAt (Elt Ideal) (Rect.unit (s := S1x4096x256) (k0_off13 k0_t1 0#32) _ (k0_off13_inb k0_t1 0)).toLoadRect X_arg3) (arg2.view.readAt (Elt Ideal) (Rect.unit (s := S1x4096x256) (k0_off14 k0_t1 k) _ (k0_off14_inb k0_t1 k)).toLoadRect X_arg2)) (k0_pay3 (arg4.view.readAt (Elt Ideal) (Rect.unit (s := S1x4096x256) (k0_off13 k0_t1 0#32) _ (k0_off13_inb k0_t1 0)).toLoadRect X_arg4) (arg5.view.readAt (Elt Ideal) (Rect.unit (s := S1x4096x256) (k0_off14 k0_t1 k) _ (k0_off14_inb k0_t1 k)).toLoadRect X_arg5)) (arg6.view.readAt (Elt Ideal) (Rect.unit (s := S1x2x8x1x512) (k0_off16 k0_t1 k) _ (k0_off16_inb k0_t1 k)).toLoadRect X_arg6) (arg7.view.readAt (Elt Ideal) (Rect.unit (s := S1x2x8x1x512) (k0_off16 k0_t1 k) _ (k0_off16_inb k0_t1 k)).toLoadRect X_arg7)) (arg11.view.readAt (Elt Ideal) (Rect.unit (s := S4096x256) (k0_off20 k0_t1 k) _ (k0_off20_inb k0_t1 k)).toLoadRect f_arg11) (arg3.view.readAt (Elt Ideal) (Rect.unit (s := S1x4096x256) (k0_off13 k0_t1 0#32) _ (k0_off13_inb k0_t1 0)).toLoadRect X_arg3)
def lowerHead : Vec Ideal S512x128 .f32 := k0_pay26 (F := Ideal) (k0_pay13 (k0_pay2 (arg3.view.readAt (Elt Ideal) (Rect.unit (s := S1x4096x256) (k0_off11 k0_t1 0#32) _ (k0_off11_inb k0_t1 0)).toLoadRect X_arg3) (arg2.view.readAt (Elt Ideal) (Rect.unit (s := S1x4096x256) (k0_off12 k0_t1 k) _ (k0_off12_inb k0_t1 k)).toLoadRect X_arg2)) (k0_pay3 (arg4.view.readAt (Elt Ideal) (Rect.unit (s := S1x4096x256) (k0_off11 k0_t1 0#32) _ (k0_off11_inb k0_t1 0)).toLoadRect X_arg4) (arg5.view.readAt (Elt Ideal) (Rect.unit (s := S1x4096x256) (k0_off12 k0_t1 k) _ (k0_off12_inb k0_t1 k)).toLoadRect X_arg5)) (arg6.view.readAt (Elt Ideal) (Rect.unit (s := S1x2x8x1x512) (k0_off15 k0_t1 k) _ (k0_off15_inb k0_t1 k)).toLoadRect X_arg6) (arg7.view.readAt (Elt Ideal) (Rect.unit (s := S1x2x8x1x512) (k0_off15 k0_t1 k) _ (k0_off15_inb k0_t1 k)).toLoadRect X_arg7)) (arg11.view.readAt (Elt Ideal) (Rect.unit (s := S4096x256) (k0_off18 k0_t1 k) _ (k0_off18_inb k0_t1 k)).toLoadRect f_arg11) (arg3.view.readAt (Elt Ideal) (Rect.unit (s := S1x4096x256) (k0_off11 k0_t1 0#32) _ (k0_off11_inb k0_t1 0)).toLoadRect X_arg3)

set_option maxHeartbeats 4000000 in
/-- What the tile stores into the gradient of the queries. -/
theorem pieces_arg11 : (trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 k).1 f_arg11 f_arg12 f_arg13
      = [⟨Rect.unit (s := S4096x256) (k0_off20 k0_t1 k) _ (k0_off20_inb k0_t1 k), (k0_pay26 (F := Ideal) (k0_pay13 (k0_pay2 (arg3.view.readAt (Elt Ideal) (Rect.unit (s := S1x4096x256) (k0_off13 k0_t1 256#32) _ (k0_off13_inb k0_t1 1)).toLoadRect X_arg3) (arg2.view.readAt (Elt Ideal) (Rect.unit (s := S1x4096x256) (k0_off14 k0_t1 k) _ (k0_off14_inb k0_t1 k)).toLoadRect X_arg2)) (k0_pay3 (arg4.view.readAt (Elt Ideal) (Rect.unit (s := S1x4096x256) (k0_off13 k0_t1 256#32) _ (k0_off13_inb k0_t1 1)).toLoadRect X_arg4) (arg5.view.readAt (Elt Ideal) (Rect.unit (s := S1x4096x256) (k0_off14 k0_t1 k) _ (k0_off14_inb k0_t1 k)).toLoadRect X_arg5)) (arg6.view.readAt (Elt Ideal) (Rect.unit (s := S1x2x8x1x512) (k0_off16 k0_t1 k) _ (k0_off16_inb k0_t1 k)).toLoadRect X_arg6) (arg7.view.readAt (Elt Ideal) (Rect.unit (s := S1x2x8x1x512) (k0_off16 k0_t1 k) _ (k0_off16_inb k0_t1 k)).toLoadRect X_arg7)) (upperHead arg2 arg3 arg4 arg5 arg6 arg7 arg11 k0_t1 X_arg2 X_arg3 X_arg4 X_arg5 X_arg6 X_arg7 k f_arg11) (arg3.view.readAt (Elt Ideal) (Rect.unit (s := S1x4096x256) (k0_off13 k0_t1 256#32) _ (k0_off13_inb k0_t1 1)).toLoadRect X_arg3))⟩,
        ⟨Rect.unit (s := S4096x256) (k0_off20 k0_t1 k) _ (k0_off20_inb k0_t1 k), (upperHead arg2 arg3 arg4 arg5 arg6 arg7 arg11 k0_t1 X_arg2 X_arg3 X_arg4 X_arg5 X_arg6 X_arg7 k f_arg11)⟩,
        ⟨Rect.unit (s := S4096x256) (k0_off18 k0_t1 k) _ (k0_off18_inb k0_t1 k), (k0_pay26 (F := Ideal) (k0_pay13 (k0_pay2 (arg3.view.readAt (Elt Ideal) (Rect.unit (s := S1x4096x256) (k0_off11 k0_t1 256#32) _ (k0_off11_inb k0_t1 1)).toLoadRect X_arg3) (arg2.view.readAt (Elt Ideal) (Rect.unit (s := S1x4096x256) (k0_off12 k0_t1 k) _ (k0_off12_inb k0_t1 k)).toLoadRect X_arg2)) (k0_pay3 (arg4.view.readAt (Elt Ideal) (Rect.unit (s := S1x4096x256) (k0_off11 k0_t1 256#32) _ (k0_off11_inb k0_t1 1)).toLoadRect X_arg4) (arg5.view.readAt (Elt Ideal) (Rect.unit (s := S1x4096x256) (k0_off12 k0_t1 k) _ (k0_off12_inb k0_t1 k)).toLoadRect X_arg5)) (arg6.view.readAt (Elt Ideal) (Rect.unit (s := S1x2x8x1x512) (k0_off15 k0_t1 k) _ (k0_off15_inb k0_t1 k)).toLoadRect X_arg6) (arg7.view.readAt (Elt Ideal) (Rect.unit (s := S1x2x8x1x512) (k0_off15 k0_t1 k) _ (k0_off15_inb k0_t1 k)).toLoadRect X_arg7)) (lowerHead arg2 arg3 arg4 arg5 arg6 arg7 arg11 k0_t1 X_arg2 X_arg3 X_arg4 X_arg5 X_arg6 X_arg7 k f_arg11) (arg3.view.readAt (Elt Ideal) (Rect.unit (s := S1x4096x256) (k0_off11 k0_t1 256#32) _ (k0_off11_inb k0_t1 1)).toLoadRect X_arg3))⟩,
        ⟨Rect.unit (s := S4096x256) (k0_off18 k0_t1 k) _ (k0_off18_inb k0_t1 k), (lowerHead arg2 arg3 arg4 arg5 arg6 arg7 arg11 k0_t1 X_arg2 X_arg3 X_arg4 X_arg5 X_arg6 X_arg7 k f_arg11)⟩] := by
  unfold trip_k0_t2
  sl_unfold_run_names
  simp only [View.readCov_cons_toLoadRect]
  unfold upperHead lowerHead
  rfl

set_option maxHeartbeats 4000000 in
/-- The gradient of the queries after the tile. -/
theorem inner_arg11 (H : Holds B arg2 arg3 arg4 arg5 arg6 arg7 X_arg2 X_arg3 X_arg4 X_arg5 X_arg6 X_arg7) (r : Fin 4096) (l : Fin 256) :
    arg11.view.read (Elt Ideal) (arg11.view.writes (Elt Ideal) f_arg11 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 k).1 f_arg11 f_arg12 f_arg13)) (ix2 r l)
      = arg11.view.read (Elt Ideal) f_arg11 (ix2 r l)
        + if 512 * (k0_t1.val + 1 + k.val) ≤ r.val ∧ r.val < 512 * (k0_t1.val + 1 + k.val) + 512 then ∑ q : Fin 4096, if 512 * k0_t1.val ≤ q.val ∧ q.val < 512 * k0_t1.val + 512 then B.addQ q r l else 0 else 0 := by
  rw [pieces_arg11]
  refine (twice_tiles _ _ (off18_eq k0_t1 k) (off20_eq k0_t1 k)
    (fun r l => ∑ q : Fin 4096, if 512 * k0_t1.val ≤ q.val ∧ q.val < 512 * k0_t1.val + 256 then B.addQ q r l else 0)
    (fun r l => ∑ q : Fin 4096, if 512 * k0_t1.val + 256 ≤ q.val ∧ q.val < 512 * k0_t1.val + 256 + 256 then B.addQ q r l else 0) ?_ ?_ ?_ ?_ r l).trans ?_
  · intro a d r l hr hl
    have hj := lt8 k0_t1
    have hi := tile_lt k0_t1 k
    obtain ⟨hl1, hl2⟩ := lane_zero d l hl
    have W := windows_of H (h := 0) (k0 := 512 * k0_t1.val ) (i := k0_t1.val + 1 + k.val) (by omega) hi (k0_off11_inb k0_t1 0) (k0_off12_inb k0_t1 k) (k0_off15_inb k0_t1 k)
      (off11_lo k0_t1) (off12_eq k0_t1 k) (off15_eq k0_t1 k)
    refine (dq_inner W (by omega) _ a d).trans ?_
    rw [readAt_ix2 _ _ _ (off18_eq k0_t1 k) a d r l hr (by omega)]
    rw [sum_lo 256 (512 * k0_t1.val ) (by omega) (fun q => B.dscore 0 q ⟨512 * (k0_t1.val + 1 + k.val) + a.val, by omega⟩ * B.k (ix3 0 q (lane 0 d)))]
    rw [hl1, show (⟨512 * (k0_t1.val + 1 + k.val) + a.val, by omega⟩ : Fin 4096) = r from Fin.ext hr]
    unfold Blocks.addQ
    rw [hl2]
  · intro a d r l hr hl
    have hj := lt8 k0_t1
    have hi := tile_lt k0_t1 k
    obtain ⟨hl1, hl2⟩ := lane_zero d l hl
    have W := windows_of H (h := 0) (k0 := 512 * k0_t1.val + 256 ) (i := k0_t1.val + 1 + k.val) (by omega) hi (k0_off11_inb k0_t1 1) (k0_off12_inb k0_t1 k) (k0_off15_inb k0_t1 k)
      (off11_hi k0_t1) (off12_eq k0_t1 k) (off15_eq k0_t1 k)
    refine (dq_inner W (by omega) _ a d).trans ?_

    rw [sum_lo 256 (512 * k0_t1.val + 256 ) (by omega) (fun q => B.dscore 0 q ⟨512 * (k0_t1.val + 1 + k.val) + a.val, by omega⟩ * B.k (ix3 0 q (lane 0 d)))]
    rw [hl1, show (⟨512 * (k0_t1.val + 1 + k.val) + a.val, by omega⟩ : Fin 4096) = r from Fin.ext hr]
    unfold Blocks.addQ
    rw [hl2]
  · intro a d r l hr hl
    have hj := lt8 k0_t1
    have hi := tile_lt k0_t1 k
    obtain ⟨hl1, hl2⟩ := lane_one d l hl
    have W := windows_of H (h := 1) (k0 := 512 * k0_t1.val ) (i := k0_t1.val + 1 + k.val) (by omega) hi (k0_off13_inb k0_t1 0) (k0_off14_inb k0_t1 k) (k0_off16_inb k0_t1 k)
      (off13_lo k0_t1) (off14_eq k0_t1 k) (off16_eq k0_t1 k)
    refine (dq_inner W (by omega) _ a d).trans ?_
    rw [readAt_ix2 _ _ _ (off20_eq k0_t1 k) a d r l hr (by omega)]
    rw [sum_lo 256 (512 * k0_t1.val ) (by omega) (fun q => B.dscore 1 q ⟨512 * (k0_t1.val + 1 + k.val) + a.val, by omega⟩ * B.k (ix3 0 q (lane 1 d)))]
    rw [hl1, show (⟨512 * (k0_t1.val + 1 + k.val) + a.val, by omega⟩ : Fin 4096) = r from Fin.ext hr]
    unfold Blocks.addQ
    rw [hl2]
  · intro a d r l hr hl
    have hj := lt8 k0_t1
    have hi := tile_lt k0_t1 k
    obtain ⟨hl1, hl2⟩ := lane_one d l hl
    have W := windows_of H (h := 1) (k0 := 512 * k0_t1.val + 256 ) (i := k0_t1.val + 1 + k.val) (by omega) hi (k0_off13_inb k0_t1 1) (k0_off14_inb k0_t1 k) (k0_off16_inb k0_t1 k)
      (off13_hi k0_t1) (off14_eq k0_t1 k) (off16_eq k0_t1 k)
    refine (dq_inner W (by omega) _ a d).trans ?_

    rw [sum_lo 256 (512 * k0_t1.val + 256 ) (by omega) (fun q => B.dscore 1 q ⟨512 * (k0_t1.val + 1 + k.val) + a.val, by omega⟩ * B.k (ix3 0 q (lane 1 d)))]
    rw [hl1, show (⟨512 * (k0_t1.val + 1 + k.val) + a.val, by omega⟩ : Fin 4096) = r from Fin.ext hr]
    unfold Blocks.addQ
    rw [hl2]
  · rw [sum_ite_add _ _ (fun q : Fin 4096 => 512 * k0_t1.val ≤ q.val ∧ q.val < 512 * k0_t1.val + 512) (fun q => B.addQ q r l) (fun q => by omega) (fun q => by omega)]
-- ==== Proof.InnerLoop.lean ====
/-
  The tiles of queries after the diagonal one, in turn: what they add to the three gradients.
-/
module

public import proofs.«01_k».proof.Proof.InnerKeys
public import proofs.«01_k».proof.Proof.InnerQueries

@[expose] public noncomputable section

set_option maxRecDepth 16384

namespace Cert.Proof.Flash

open Cert.KernelIdeal Cert.KernelIdeal.Gen
open Idealize ShloMosaic ShloMosaic.TcCoe ShloMosaic.Tactic ShloMosaic.Pointwise

/-- Two amounts added under one condition. -/
theorem add_same (x s s' t : EReal) (p : Prop) [Decidable p] (h : s + s' = t) :
    (x + if p then s else 0) + (if p then s' else 0) = x + if p then t else 0 := by
  subst h
  by_cases hp : p <;> simp [hp, add_assoc]

/-- One amount added under two conditions that exclude each other. -/
theorem add_apart (x s : EReal) (p p' pp : Prop) [Decidable p] [Decidable p'] [Decidable pp] (h : ¬(p ∧ p')) (h' : pp ↔ p ∨ p') :
    (x + if p then s else 0) + (if p' then s else 0) = x + if pp then s else 0 := by
  by_cases hp : p <;> by_cases hp' : p' <;> simp_all

local notation "Acc" => Memref sig Kind.tc Space.vmem S4096x256 EltTy.f32
local notation "Blk" => Memref sig Kind.tc Space.vmem S1x4096x256 EltTy.bf16
variable {B : Blocks}
variable (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole) (k0_t1 : Fin k0_t1_loop.trips) (arg14 : BitVec 32) (v380 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (G_arg11 : BufTy.Contents (Elt Ideal) arg11.view.ty) (G_arg12 : BufTy.Contents (Elt Ideal) arg12.view.ty) (G_arg13 : BufTy.Contents (Elt Ideal) arg13.view.ty)

/-- The gradient of the values after `n` of them. -/
theorem loop_arg13 (H : Holds B arg2 arg3 arg4 arg5 arg6 arg7 X_arg2 X_arg3 X_arg4 X_arg5 X_arg6 X_arg7) (n : ℕ) (hn : n ≤ (k0_t2_loop k0_t1).trips) (r : Fin 4096) (l : Fin 256) :
    arg13.view.read (Elt Ideal) (arg13.view.writes (Elt Ideal) G_arg13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 G_arg11 G_arg12 G_arg13 n).2.2) (ix2 r l)
      = arg13.view.read (Elt Ideal) G_arg13 (ix2 r l)
        + if 512 * k0_t1.val ≤ r.val ∧ r.val < 512 * k0_t1.val + 512 then ∑ q : Fin 4096, if 512 * (k0_t1.val + 1) ≤ q.val ∧ q.val < 512 * (k0_t1.val + 1 + n) then B.addV r q l else 0 else 0 := by
  induction n with
  | zero =>
    show arg13.view.read (Elt Ideal) (arg13.view.writes (Elt Ideal) G_arg13 []) (ix2 r l) = _
    rw [View.writes_nil, Finset.sum_eq_zero (fun q _ => if_neg (by omega)), ite_self, add_zero]
  | succ m ih =>
    have hm : m < (k0_t2_loop k0_t1).trips := hn
    have e := congrArg (fun t => t.2.2) (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 G_arg11 G_arg12 G_arg13 ⟨m, hm⟩)
    refine (congrArg (fun P => arg13.view.read (Elt Ideal) (arg13.view.writes (Elt Ideal) G_arg13 P) (ix2 r l)) e).trans ?_
    refine (congrArg (fun P => arg13.view.read (Elt Ideal) P (ix2 r l)) (View.writes_append arg13.view G_arg13 _ _)).trans ?_
    refine (inner_arg13 (B := B) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 ⟨m, hm⟩ _ _ _ H r l).trans ?_
    refine (congrArg (· + _) (ih (le_of_lt hm))).trans ?_
    refine add_same _ _ _ _ _ ?_
    exact sum_ite_add _ _ _ (fun q => B.addV r q l) (fun q => by show ¬((_ ∧ _) ∧ (512 * (k0_t1.val + 1 + m) ≤ _ ∧ _)); omega) (fun q => by show _ ↔ _ ∨ (512 * (k0_t1.val + 1 + m) ≤ q.val ∧ q.val < 512 * (k0_t1.val + 1 + m) + 512); omega)

/-- The gradient of the keys after `n` of them. -/
theorem loop_arg12 (H : Holds B arg2 arg3 arg4 arg5 arg6 arg7 X_arg2 X_arg3 X_arg4 X_arg5 X_arg6 X_arg7) (n : ℕ) (hn : n ≤ (k0_t2_loop k0_t1).trips) (r : Fin 4096) (l : Fin 256) :
    arg12.view.read (Elt Ideal) (arg12.view.writes (Elt Ideal) G_arg12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 G_arg11 G_arg12 G_arg13 n).2.1) (ix2 r l)
      = arg12.view.read (Elt Ideal) G_arg12 (ix2 r l)
        + if 512 * k0_t1.val ≤ r.val ∧ r.val < 512 * k0_t1.val + 512 then ∑ q : Fin 4096, if 512 * (k0_t1.val + 1) ≤ q.val ∧ q.val < 512 * (k0_t1.val + 1 + n) then B.addK r q l else 0 else 0 := by
  induction n with
  | zero =>
    show arg12.view.read (Elt Ideal) (arg12.view.writes (Elt Ideal) G_arg12 []) (ix2 r l) = _
    rw [View.writes_nil, Finset.sum_eq_zero (fun q _ => if_neg (by omega)), ite_self, add_zero]
  | succ m ih =>
    have hm : m < (k0_t2_loop k0_t1).trips := hn
    have e := congrArg (fun t => t.2.1) (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 G_arg11 G_arg12 G_arg13 ⟨m, hm⟩)
    refine (congrArg (fun P => arg12.view.read (Elt Ideal) (arg12.view.writes (Elt Ideal) G_arg12 P) (ix2 r l)) e).trans ?_
    refine (congrArg (fun P => arg12.view.read (Elt Ideal) P (ix2 r l)) (View.writes_append arg12.view G_arg12 _ _)).trans ?_
    refine (inner_arg12 (B := B) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 ⟨m, hm⟩ _ _ _ H r l).trans ?_
    refine (congrArg (· + _) (ih (le_of_lt hm))).trans ?_
    refine add_same _ _ _ _ _ ?_
    exact sum_ite_add _ _ _ (fun q => B.addK r q l) (fun q => by show ¬((_ ∧ _) ∧ (512 * (k0_t1.val + 1 + m) ≤ _ ∧ _)); omega) (fun q => by show _ ↔ _ ∨ (512 * (k0_t1.val + 1 + m) ≤ q.val ∧ q.val < 512 * (k0_t1.val + 1 + m) + 512); omega)

/-- The gradient of the queries after `n` of them. -/
theorem loop_arg11 (H : Holds B arg2 arg3 arg4 arg5 arg6 arg7 X_arg2 X_arg3 X_arg4 X_arg5 X_arg6 X_arg7) (n : ℕ) (hn : n ≤ (k0_t2_loop k0_t1).trips) (r : Fin 4096) (l : Fin 256) :
    arg11.view.read (Elt Ideal) (arg11.view.writes (Elt Ideal) G_arg11 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 G_arg11 G_arg12 G_arg13 n).1) (ix2 r l)
      = arg11.view.read (Elt Ideal) G_arg11 (ix2 r l)
        + if 512 * (k0_t1.val + 1) ≤ r.val ∧ r.val < 512 * (k0_t1.val + 1 + n) then ∑ q : Fin 4096, if 512 * k0_t1.val ≤ q.val ∧ q.val < 512 * k0_t1.val + 512 then B.addQ q r l else 0 else 0 := by
  induction n with
  | zero =>
    show arg11.view.read (Elt Ideal) (arg11.view.writes (Elt Ideal) G_arg11 []) (ix2 r l) = _
    rw [View.writes_nil, if_neg (by omega), add_zero]
  | succ m ih =>
    have hm : m < (k0_t2_loop k0_t1).trips := hn
    have e := congrArg (fun t => t.1) (pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 G_arg11 G_arg12 G_arg13 ⟨m, hm⟩)
    refine (congrArg (fun P => arg11.view.read (Elt Ideal) (arg11.view.writes (Elt Ideal) G_arg11 P) (ix2 r l)) e).trans ?_
    refine (congrArg (fun P => arg11.view.read (Elt Ideal) P (ix2 r l)) (View.writes_append arg11.view G_arg11 _ _)).trans ?_
    refine (inner_arg11 (B := B) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 ⟨m, hm⟩ _ _ _ H r l).trans ?_
    refine (congrArg (· + _) (ih (le_of_lt hm))).trans ?_
    refine add_apart _ _ _ _ _ ?_ ?_
    · show ¬((_ ∧ _) ∧ (512 * (k0_t1.val + 1 + m) ≤ _ ∧ _)); omega
    · show _ ↔ _ ∨ (512 * (k0_t1.val + 1 + m) ≤ r.val ∧ r.val < 512 * (k0_t1.val + 1 + m) + 512); omega
-- ==== Proof.Outer.lean ====
/-
  One trip of the outer loop: the diagonal tile and the tiles of later queries together, and what the trip adds to the
  three gradients.
-/
module

public import proofs.«01_k».proof.Proof.InnerLoop
public import proofs.«01_k».proof.Proof.Loop

@[expose] public noncomputable section

set_option maxRecDepth 16384

namespace Cert.Proof.Flash

open Cert.Proof.KernelIdeal
open Cert.KernelIdeal Cert.KernelIdeal.Gen
open Idealize ShloMosaic ShloMosaic.TcCoe ShloMosaic.Tactic ShloMosaic.Pointwise

local notation "Acc" => Memref sig Kind.tc Space.vmem S4096x256 EltTy.f32
local notation "Blk" => Memref sig Kind.tc Space.vmem S1x4096x256 EltTy.bf16
/-- The second inner loop has no trip: it covers the queries after the last whole tile. -/
theorem last_loop  (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole) (k0_t1 : Fin k0_t1_loop.trips) (arg14 : BitVec 32) (v380 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (f_arg11 : BufTy.Contents (Elt Ideal) arg11.view.ty) (f_arg12 : BufTy.Contents (Elt Ideal) arg12.view.ty) (f_arg13 : BufTy.Contents (Elt Ideal) arg13.view.ty) :
    pb_k0_t3 (F := Ideal) 𝒱 c bd i arg2 harg2 arg3 harg3 arg4 harg4 arg5 harg5 arg6 harg6 arg7 harg7 arg8 harg8 arg9 harg9 arg10 harg10 arg11 harg11 arg12 harg12 arg13 harg13 k0_t1 arg14 v380 X_arg2 X_arg3 X_arg4 X_arg5 X_arg6 X_arg7 f_arg11 f_arg12 f_arg13 (Scf.trips (k0_t3_loop k0_t1).lb (k0_t3_loop k0_t1).ub (k0_t3_loop k0_t1).st) = ([], [], []) := by
  rw [show Scf.trips (k0_t3_loop k0_t1).lb (k0_t3_loop k0_t1).ub (k0_t3_loop k0_t1).st = 0 from trips3 k0_t1]
  rfl

/-- The first of the queries that the tile of a key meets: its half tile's own first row. -/
def base (κ : Fin 4096) : ℕ := κ.val / 256 * 256

variable {B : Blocks}
variable (c : Dev nD) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (k : Fin k0_t1_loop.trips)  (f_arg11 : BufTy.Contents (Elt Ideal) arg11.view.ty) (f_arg12 : BufTy.Contents (Elt Ideal) arg12.view.ty) (f_arg13 : BufTy.Contents (Elt Ideal) arg13.view.ty)

set_option maxHeartbeats 4000000 in
/-- The gradient of the values after the trip. -/
theorem outer_arg13 (H : Holds B arg2 arg3 arg4 arg5 arg6 arg7 X2 X3 X4 X5 X6 X7) (r : Fin 4096) (l : Fin 256) :
    arg13.view.read (Elt Ideal) ((trip (F := Ideal) c i arg2 harg2 arg3 harg3 arg4 harg4 arg5 harg5 arg6 harg6 arg7 harg7 arg8 harg8 arg9 harg9 arg10 harg10 arg11 harg11 arg12 harg12 arg13 harg13 X2 X3 X4 X5 X6 X7 k).2.2.1 f_arg11 f_arg12 f_arg13) (ix2 r l)
      = arg13.view.read (Elt Ideal) f_arg13 (ix2 r l) + if 512 * k.val ≤ r.val ∧ r.val < 512 * k.val + 512 then ∑ q : Fin 4096, if base r ≤ q.val then B.addV r q l else 0 else 0 := by
  have hj := lt8 k
  unfold trip
  dsimp only
  rw [last_loop]
  dsimp only
  rw [List.nil_append]
  refine (congrArg (fun P => arg13.view.read (Elt Ideal) P (ix2 r l)) (View.writes_append arg13.view f_arg13 _ _)).trans ?_
  refine (loop_arg13 (B := B) Variants.none c none i arg2 harg2 arg3 harg3 arg4 harg4 arg5 harg5 arg6 harg6 arg7 harg7 arg8 harg8 arg9 harg9 arg10 harg10 arg11 harg11 arg12 harg12 arg13 harg13 k _ _ X2 X3 X4 X5 X6 X7 _ _ _ H _ le_rfl r l).trans ?_
  refine (congrArg (· + _) (four_tiles _ _ (off7_lo k) (off7_hi k) (off9_lo k) (off9_hi k)
    (fun r l => ∑ q : Fin 4096, if base r ≤ q.val ∧ q.val < 512 * (k.val + 1) then B.addV r q l else 0) ?_ ?_ ?_ ?_ r l)).trans ?_
  · intro a d r l hr hl
    obtain ⟨hl1, hl2⟩ := lane_zero d l hl
    have W := windows_of H (h := 0) (k0 := 512 * k.val) (i := k.val) (by omega) hj (k0_off1_inb k 0) (k0_off2_inb k) (k0_off5_inb k)
      (off1_lo k) (off2_eq k) (off5_eq k)
    refine Eq.trans ?_ ((dv_low W rfl (arg13.view.readAt (Elt Ideal) (Rect.unit (s := S4096x256) (k0_off7 k 0#32) _ (k0_off7_inb k 0)).toLoadRect f_arg13) a d).trans ?_)
    · sl_unfold_run_names
      rfl
    · rw [readAt_ix2 _ _ _ (off7_lo k) a d r l hr (by omega)]
      rw [sum_lo 512 (512 * k.val ) (by omega) (fun q => B.prob 0 ⟨512 * k.val + a.val, by omega⟩ q * B.o (ix3 0 q (lane 0 d)))]
      rw [hl1, show (⟨512 * k.val + a.val, by omega⟩ : Fin 4096) = r from Fin.ext hr]
      unfold Blocks.addV
      rw [hl2]
      have hb : base r = 512 * k.val  := by unfold base; have := a.isLt; omega
      rw [hb]
      refine congrArg _ (Finset.sum_congr rfl fun q _ => if_congr (by omega) rfl rfl)
  · intro a d r l hr hl
    obtain ⟨hl1, hl2⟩ := lane_zero d l hl
    have W := upper_of H (h := 0) (k0 := 512 * k.val + 256) (i := k.val) (by omega) hj rfl (k0_off1_inb k 1) (k0_off5_inb k)
      (off1_hi k) (off5_eq k)
    refine Eq.trans ?_ ((dv_high W rfl (arg13.view.readAt (Elt Ideal) (Rect.unit (s := S4096x256) (k0_off7 k 256#32) _ (k0_off7_inb k 1)).toLoadRect f_arg13) a d).trans ?_)
    · sl_unfold_run_names
      rfl
    · rw [readAt_ix2 _ _ _ (off7_hi k) a d r l hr (by omega)]
      rw [sum_lo 256 (512 * k.val + 256 ) (by omega) (fun q => B.prob 0 ⟨512 * k.val + 256 + a.val, by omega⟩ q * B.o (ix3 0 q (lane 0 d)))]
      rw [hl1, show (⟨512 * k.val + 256 + a.val, by omega⟩ : Fin 4096) = r from Fin.ext hr]
      unfold Blocks.addV
      rw [hl2]
      have hb : base r = 512 * k.val + 256  := by unfold base; have := a.isLt; omega
      rw [hb]
      refine congrArg _ (Finset.sum_congr rfl fun q _ => if_congr (by omega) rfl rfl)
  · intro a d r l hr hl
    obtain ⟨hl1, hl2⟩ := lane_one d l hl
    have W := windows_of H (h := 1) (k0 := 512 * k.val) (i := k.val) (by omega) hj (k0_off3_inb k 0) (k0_off4_inb k) (k0_off6_inb k)
      (off3_lo k) (off4_eq k) (off6_eq k)
    refine Eq.trans ?_ ((dv_low W rfl (arg13.view.readAt (Elt Ideal) (Rect.unit (s := S4096x256) (k0_off9 k 0#32) _ (k0_off9_inb k 0)).toLoadRect f_arg13) a d).trans ?_)
    · sl_unfold_run_names
      rfl
    · rw [readAt_ix2 _ _ _ (off9_lo k) a d r l hr (by omega)]
      rw [sum_lo 512 (512 * k.val ) (by omega) (fun q => B.prob 1 ⟨512 * k.val + a.val, by omega⟩ q * B.o (ix3 0 q (lane 1 d)))]
      rw [hl1, show (⟨512 * k.val + a.val, by omega⟩ : Fin 4096) = r from Fin.ext hr]
      unfold Blocks.addV
      rw [hl2]
      have hb : base r = 512 * k.val  := by unfold base; have := a.isLt; omega
      rw [hb]
      refine congrArg _ (Finset.sum_congr rfl fun q _ => if_congr (by omega) rfl rfl)
  · intro a d r l hr hl
    obtain ⟨hl1, hl2⟩ := lane_one d l hl
    have W := upper_of H (h := 1) (k0 := 512 * k.val + 256) (i := k.val) (by omega) hj rfl (k0_off3_inb k 1) (k0_off6_inb k)
      (off3_hi k) (off6_eq k)
    refine Eq.trans ?_ ((dv_high W rfl (arg13.view.readAt (Elt Ideal) (Rect.unit (s := S4096x256) (k0_off9 k 256#32) _ (k0_off9_inb k 1)).toLoadRect f_arg13) a d).trans ?_)
    · sl_unfold_run_names
      rfl
    · rw [readAt_ix2 _ _ _ (off9_hi k) a d r l hr (by omega)]
      rw [sum_lo 256 (512 * k.val + 256 ) (by omega) (fun q => B.prob 1 ⟨512 * k.val + 256 + a.val, by omega⟩ q * B.o (ix3 0 q (lane 1 d)))]
      rw [hl1, show (⟨512 * k.val + 256 + a.val, by omega⟩ : Fin 4096) = r from Fin.ext hr]
      unfold Blocks.addV
      rw [hl2]
      have hb : base r = 512 * k.val + 256  := by unfold base; have := a.isLt; omega
      rw [hb]
      refine congrArg _ (Finset.sum_congr rfl fun q _ => if_congr (by omega) rfl rfl)
  · have h2 := trips2 k
    by_cases hr : 512 * k.val ≤ r.val ∧ r.val < 512 * k.val + 512
    · refine add_same _ _ _ _ _ ?_
      refine sum_ite_add _ _ _ (fun q => B.addV r q l) (fun q => by omega) (fun q => ?_)
      have hb : base r < 512 * (k.val + 1) := by unfold base; omega
      have := q.isLt
      show _ ↔ _ ∨ (_ ∧ q.val < 512 * (k.val + 1 + (k0_t2_loop k).trips))
      omega
    · simp only [if_neg hr, add_zero]

set_option maxHeartbeats 4000000 in
/-- The gradient of the keys after the trip. -/
theorem outer_arg12 (H : Holds B arg2 arg3 arg4 arg5 arg6 arg7 X2 X3 X4 X5 X6 X7) (r : Fin 4096) (l : Fin 256) :
    arg12.view.read (Elt Ideal) ((trip (F := Ideal) c i arg2 harg2 arg3 harg3 arg4 harg4 arg5 harg5 arg6 harg6 arg7 harg7 arg8 harg8 arg9 harg9 arg10 harg10 arg11 harg11 arg12 harg12 arg13 harg13 X2 X3 X4 X5 X6 X7 k).2.1 f_arg11 f_arg12 f_arg13) (ix2 r l)
      = arg12.view.read (Elt Ideal) f_arg12 (ix2 r l) + if 512 * k.val ≤ r.val ∧ r.val < 512 * k.val + 512 then ∑ q : Fin 4096, if base r ≤ q.val then B.addK r q l else 0 else 0 := by
  have hj := lt8 k
  unfold trip
  dsimp only
  rw [last_loop]
  dsimp only
  rw [List.nil_append]
  refine (congrArg (fun P => arg12.view.read (Elt Ideal) P (ix2 r l)) (View.writes_append arg12.view f_arg12 _ _)).trans ?_
  refine (loop_arg12 (B := B) Variants.none c none i arg2 harg2 arg3 harg3 arg4 harg4 arg5 harg5 arg6 harg6 arg7 harg7 arg8 harg8 arg9 harg9 arg10 harg10 arg11 harg11 arg12 harg12 arg13 harg13 k _ _ X2 X3 X4 X5 X6 X7 _ _ _ H _ le_rfl r l).trans ?_
  refine (congrArg (· + _) (four_tiles _ _ (off7_lo k) (off7_hi k) (off9_lo k) (off9_hi k)
    (fun r l => ∑ q : Fin 4096, if base r ≤ q.val ∧ q.val < 512 * (k.val + 1) then B.addK r q l else 0) ?_ ?_ ?_ ?_ r l)).trans ?_
  · intro a d r l hr hl
    obtain ⟨hl1, hl2⟩ := lane_zero d l hl
    have W := windows_of H (h := 0) (k0 := 512 * k.val) (i := k.val) (by omega) hj (k0_off1_inb k 0) (k0_off2_inb k) (k0_off5_inb k)
      (off1_lo k) (off2_eq k) (off5_eq k)
    refine Eq.trans ?_ ((dk_low W rfl (arg12.view.readAt (Elt Ideal) (Rect.unit (s := S4096x256) (k0_off7 k 0#32) _ (k0_off7_inb k 0)).toLoadRect f_arg12) a d).trans ?_)
    · sl_unfold_run_names
      rfl
    · rw [readAt_ix2 _ _ _ (off7_lo k) a d r l hr (by omega)]
      rw [sum_lo 512 (512 * k.val ) (by omega) (fun q => B.dscore 0 ⟨512 * k.val + a.val, by omega⟩ q * B.q (ix3 0 q (lane 0 d)))]
      rw [hl1, show (⟨512 * k.val + a.val, by omega⟩ : Fin 4096) = r from Fin.ext hr]
      unfold Blocks.addK
      rw [hl2]
      have hb : base r = 512 * k.val  := by unfold base; have := a.isLt; omega
      rw [hb]
      refine congrArg _ (Finset.sum_congr rfl fun q _ => if_congr (by omega) rfl rfl)
  · intro a d r l hr hl
    obtain ⟨hl1, hl2⟩ := lane_zero d l hl
    have W := upper_of H (h := 0) (k0 := 512 * k.val + 256) (i := k.val) (by omega) hj rfl (k0_off1_inb k 1) (k0_off5_inb k)
      (off1_hi k) (off5_eq k)
    refine Eq.trans ?_ ((dk_high W rfl (arg12.view.readAt (Elt Ideal) (Rect.unit (s := S4096x256) (k0_off7 k 256#32) _ (k0_off7_inb k 1)).toLoadRect f_arg12) a d).trans ?_)
    · sl_unfold_run_names
      rfl
    · rw [readAt_ix2 _ _ _ (off7_hi k) a d r l hr (by omega)]
      rw [sum_lo 256 (512 * k.val + 256 ) (by omega) (fun q => B.dscore 0 ⟨512 * k.val + 256 + a.val, by omega⟩ q * B.q (ix3 0 q (lane 0 d)))]
      rw [hl1, show (⟨512 * k.val + 256 + a.val, by omega⟩ : Fin 4096) = r from Fin.ext hr]
      unfold Blocks.addK
      rw [hl2]
      have hb : base r = 512 * k.val + 256  := by unfold base; have := a.isLt; omega
      rw [hb]
      refine congrArg _ (Finset.sum_congr rfl fun q _ => if_congr (by omega) rfl rfl)
  · intro a d r l hr hl
    obtain ⟨hl1, hl2⟩ := lane_one d l hl
    have W := windows_of H (h := 1) (k0 := 512 * k.val) (i := k.val) (by omega) hj (k0_off3_inb k 0) (k0_off4_inb k) (k0_off6_inb k)
      (off3_lo k) (off4_eq k) (off6_eq k)
    refine Eq.trans ?_ ((dk_low W rfl (arg12.view.readAt (Elt Ideal) (Rect.unit (s := S4096x256) (k0_off9 k 0#32) _ (k0_off9_inb k 0)).toLoadRect f_arg12) a d).trans ?_)
    · sl_unfold_run_names
      rfl
    · rw [readAt_ix2 _ _ _ (off9_lo k) a d r l hr (by omega)]
      rw [sum_lo 512 (512 * k.val ) (by omega) (fun q => B.dscore 1 ⟨512 * k.val + a.val, by omega⟩ q * B.q (ix3 0 q (lane 1 d)))]
      rw [hl1, show (⟨512 * k.val + a.val, by omega⟩ : Fin 4096) = r from Fin.ext hr]
      unfold Blocks.addK
      rw [hl2]
      have hb : base r = 512 * k.val  := by unfold base; have := a.isLt; omega
      rw [hb]
      refine congrArg _ (Finset.sum_congr rfl fun q _ => if_congr (by omega) rfl rfl)
  · intro a d r l hr hl
    obtain ⟨hl1, hl2⟩ := lane_one d l hl
    have W := upper_of H (h := 1) (k0 := 512 * k.val + 256) (i := k.val) (by omega) hj rfl (k0_off3_inb k 1) (k0_off6_inb k)
      (off3_hi k) (off6_eq k)
    refine Eq.trans ?_ ((dk_high W rfl (arg12.view.readAt (Elt Ideal) (Rect.unit (s := S4096x256) (k0_off9 k 256#32) _ (k0_off9_inb k 1)).toLoadRect f_arg12) a d).trans ?_)
    · sl_unfold_run_names
      rfl
    · rw [readAt_ix2 _ _ _ (off9_hi k) a d r l hr (by omega)]
      rw [sum_lo 256 (512 * k.val + 256 ) (by omega) (fun q => B.dscore 1 ⟨512 * k.val + 256 + a.val, by omega⟩ q * B.q (ix3 0 q (lane 1 d)))]
      rw [hl1, show (⟨512 * k.val + 256 + a.val, by omega⟩ : Fin 4096) = r from Fin.ext hr]
      unfold Blocks.addK
      rw [hl2]
      have hb : base r = 512 * k.val + 256  := by unfold base; have := a.isLt; omega
      rw [hb]
      refine congrArg _ (Finset.sum_congr rfl fun q _ => if_congr (by omega) rfl rfl)
  · have h2 := trips2 k
    by_cases hr : 512 * k.val ≤ r.val ∧ r.val < 512 * k.val + 512
    · refine add_same _ _ _ _ _ ?_
      refine sum_ite_add _ _ _ (fun q => B.addK r q l) (fun q => by omega) (fun q => ?_)
      have hb : base r < 512 * (k.val + 1) := by unfold base; omega
      have := q.isLt
      show _ ↔ _ ∨ (_ ∧ q.val < 512 * (k.val + 1 + (k0_t2_loop k).trips))
      omega
    · simp only [if_neg hr, add_zero]

/-- The first head's store of a whole tile of the queries' gradient. -/
def low0 : Vec Ideal S512x128 .f32 := (k0_pay96 (F := Ideal) (k0_pay95 (k0_pay81 (k0_pay68 (arg3.view.readAt (Elt Ideal) (Rect.unit (s := S1x4096x256) (k0_off1 k 0#32) _ (k0_off1_inb k 0)).toLoadRect X3) (arg2.view.readAt (Elt Ideal) (Rect.unit (s := S1x4096x256) (k0_off2 k) _ (k0_off2_inb k )).toLoadRect X2)) (k0_pay69 (arg4.view.readAt (Elt Ideal) (Rect.unit (s := S1x4096x256) (k0_off1 k 0#32) _ (k0_off1_inb k 0)).toLoadRect X4) (arg5.view.readAt (Elt Ideal) (Rect.unit (s := S1x4096x256) (k0_off2 k) _ (k0_off2_inb k )).toLoadRect X5)) (arg6.view.readAt (Elt Ideal) (Rect.unit (s := S1x2x8x1x512) (k0_off5 k) _ (k0_off5_inb k)).toLoadRect X6) (arg7.view.readAt (Elt Ideal) (Rect.unit (s := S1x2x8x1x512) (k0_off5 k) _ (k0_off5_inb k)).toLoadRect X7)) (arg11.view.readAt (Elt Ideal) (Rect.unit (s := S4096x256) (k0_off8 k) _ (k0_off8_inb k)).toLoadRect f_arg11) (arg3.view.readAt (Elt Ideal) (Rect.unit (s := S1x4096x256) (k0_off1 k 0#32) _ (k0_off1_inb k 0)).toLoadRect X3)))

/-- Its store of the upper half. -/
def high0 : Vec Ideal S256x128 .f32 := (k0_pay100 (F := Ideal) (k0_pay99 (k0_pay85 (k0_pay71 (arg4.view.readAt (Elt Ideal) (Rect.unit (s := S1x4096x256) (k0_off1 k 256#32) _ (k0_off1_inb k 1)).toLoadRect X4) (arg5.view.readAt (Elt Ideal) (Rect.unit (s := S1x4096x256) (k0_off1 k 256#32) _ (k0_off1_inb k 1)).toLoadRect X5)) (k0_pay82 (k0_pay70 (arg3.view.readAt (Elt Ideal) (Rect.unit (s := S1x4096x256) (k0_off1 k 256#32) _ (k0_off1_inb k 1)).toLoadRect X3) (arg2.view.readAt (Elt Ideal) (Rect.unit (s := S1x4096x256) (k0_off1 k 256#32) _ (k0_off1_inb k 1)).toLoadRect X2)) (arg6.view.readAt (Elt Ideal) (Rect.unit (s := S1x2x8x1x512) (k0_off5 k) _ (k0_off5_inb k)).toLoadRect X6)) (k0_pay84 (arg7.view.readAt (Elt Ideal) (Rect.unit (s := S1x2x8x1x512) (k0_off5 k) _ (k0_off5_inb k)).toLoadRect X7))) (arg11.view.readCov [⟨Rect.unit (s := S4096x256) (k0_off8 k) _ (k0_off8_inb k), low0 arg2 arg3 arg4 arg5 arg6 arg7 arg11 X2 X3 X4 X5 X6 X7 k f_arg11⟩] (Rect.unit (s := S4096x256) (k0_off7 k 256#32) _ (k0_off7_inb k 1)).toLoadRect) (arg3.view.readAt (Elt Ideal) (Rect.unit (s := S1x4096x256) (k0_off1 k 256#32) _ (k0_off1_inb k 1)).toLoadRect X3)))

/-- The second head's store of a whole tile. -/
def low1 : Vec Ideal S512x128 .f32 := (k0_pay96 (F := Ideal) (k0_pay95 (k0_pay81 (k0_pay68 (arg3.view.readAt (Elt Ideal) (Rect.unit (s := S1x4096x256) (k0_off3 k 0#32) _ (k0_off3_inb k 0)).toLoadRect X3) (arg2.view.readAt (Elt Ideal) (Rect.unit (s := S1x4096x256) (k0_off4 k) _ (k0_off4_inb k )).toLoadRect X2)) (k0_pay69 (arg4.view.readAt (Elt Ideal) (Rect.unit (s := S1x4096x256) (k0_off3 k 0#32) _ (k0_off3_inb k 0)).toLoadRect X4) (arg5.view.readAt (Elt Ideal) (Rect.unit (s := S1x4096x256) (k0_off4 k) _ (k0_off4_inb k )).toLoadRect X5)) (arg6.view.readAt (Elt Ideal) (Rect.unit (s := S1x2x8x1x512) (k0_off6 k) _ (k0_off6_inb k)).toLoadRect X6) (arg7.view.readAt (Elt Ideal) (Rect.unit (s := S1x2x8x1x512) (k0_off6 k) _ (k0_off6_inb k)).toLoadRect X7)) (arg11.view.readAt (Elt Ideal) (Rect.unit (s := S4096x256) (k0_off10 k) _ (k0_off10_inb k)).toLoadRect f_arg11) (arg3.view.readAt (Elt Ideal) (Rect.unit (s := S1x4096x256) (k0_off3 k 0#32) _ (k0_off3_inb k 0)).toLoadRect X3)))

/-- Its store of the upper half. -/
def high1 : Vec Ideal S256x128 .f32 := (k0_pay100 (F := Ideal) (k0_pay99 (k0_pay85 (k0_pay71 (arg4.view.readAt (Elt Ideal) (Rect.unit (s := S1x4096x256) (k0_off3 k 256#32) _ (k0_off3_inb k 1)).toLoadRect X4) (arg5.view.readAt (Elt Ideal) (Rect.unit (s := S1x4096x256) (k0_off3 k 256#32) _ (k0_off3_inb k 1)).toLoadRect X5)) (k0_pay82 (k0_pay70 (arg3.view.readAt (Elt Ideal) (Rect.unit (s := S1x4096x256) (k0_off3 k 256#32) _ (k0_off3_inb k 1)).toLoadRect X3) (arg2.view.readAt (Elt Ideal) (Rect.unit (s := S1x4096x256) (k0_off3 k 256#32) _ (k0_off3_inb k 1)).toLoadRect X2)) (arg6.view.readAt (Elt Ideal) (Rect.unit (s := S1x2x8x1x512) (k0_off6 k) _ (k0_off6_inb k)).toLoadRect X6)) (k0_pay84 (arg7.view.readAt (Elt Ideal) (Rect.unit (s := S1x2x8x1x512) (k0_off6 k) _ (k0_off6_inb k)).toLoadRect X7))) (arg11.view.readCov [⟨Rect.unit (s := S4096x256) (k0_off10 k) _ (k0_off10_inb k), low1 arg2 arg3 arg4 arg5 arg6 arg7 arg11 X2 X3 X4 X5 X6 X7 k f_arg11⟩, ⟨Rect.unit (s := S4096x256) (k0_off7 k 256#32) _ (k0_off7_inb k 1), high0 arg2 arg3 arg4 arg5 arg6 arg7 arg11 X2 X3 X4 X5 X6 X7 k f_arg11⟩, ⟨Rect.unit (s := S4096x256) (k0_off8 k) _ (k0_off8_inb k), low0 arg2 arg3 arg4 arg5 arg6 arg7 arg11 X2 X3 X4 X5 X6 X7 k f_arg11⟩] (Rect.unit (s := S4096x256) (k0_off9 k 256#32) _ (k0_off9_inb k 1)).toLoadRect) (arg3.view.readAt (Elt Ideal) (Rect.unit (s := S1x4096x256) (k0_off3 k 256#32) _ (k0_off3_inb k 1)).toLoadRect X3)))

set_option maxHeartbeats 4000000 in
/-- The gradient of the queries after the trip. -/
theorem outer_arg11 (H : Holds B arg2 arg3 arg4 arg5 arg6 arg7 X2 X3 X4 X5 X6 X7) (r : Fin 4096) (l : Fin 256) :
    arg11.view.read (Elt Ideal) ((trip (F := Ideal) c i arg2 harg2 arg3 harg3 arg4 harg4 arg5 harg5 arg6 harg6 arg7 harg7 arg8 harg8 arg9 harg9 arg10 harg10 arg11 harg11 arg12 harg12 arg13 harg13 X2 X3 X4 X5 X6 X7 k).1 f_arg11 f_arg12 f_arg13) (ix2 r l)
      = arg11.view.read (Elt Ideal) f_arg11 (ix2 r l) + ∑ q : Fin 4096, if (512 * k.val ≤ q.val ∧ q.val < 512 * k.val + 512) ∧ base q ≤ r.val then B.addQ q r l else 0 := by
  have hj := lt8 k
  unfold trip
  dsimp only
  rw [last_loop]
  dsimp only
  rw [List.nil_append]
  refine (congrArg (fun P => arg11.view.read (Elt Ideal) P (ix2 r l)) (View.writes_append arg11.view f_arg11 _ _)).trans ?_
  refine (loop_arg11 (B := B) Variants.none c none i arg2 harg2 arg3 harg3 arg4 harg4 arg5 harg5 arg6 harg6 arg7 harg7 arg8 harg8 arg9 harg9 arg10 harg10 arg11 harg11 arg12 harg12 arg13 harg13 k _ _ X2 X3 X4 X5 X6 X7 _ _ _ H _ le_rfl r l).trans ?_
  refine (congrArg (fun L => arg11.view.read (Elt Ideal) (arg11.view.writes (Elt Ideal) f_arg11 L) (ix2 r l) + _) (show _ = [⟨Rect.unit (s := S4096x256) (k0_off9 k 256#32) _ (k0_off9_inb k 1), high1 arg2 arg3 arg4 arg5 arg6 arg7 arg11 X2 X3 X4 X5 X6 X7 k f_arg11⟩, ⟨Rect.unit (s := S4096x256) (k0_off10 k) _ (k0_off10_inb k), low1 arg2 arg3 arg4 arg5 arg6 arg7 arg11 X2 X3 X4 X5 X6 X7 k f_arg11⟩, ⟨Rect.unit (s := S4096x256) (k0_off7 k 256#32) _ (k0_off7_inb k 1), high0 arg2 arg3 arg4 arg5 arg6 arg7 arg11 X2 X3 X4 X5 X6 X7 k f_arg11⟩, ⟨Rect.unit (s := S4096x256) (k0_off8 k) _ (k0_off8_inb k), low0 arg2 arg3 arg4 arg5 arg6 arg7 arg11 X2 X3 X4 X5 X6 X7 k f_arg11⟩] from ?_)).trans ?_
  · sl_unfold_run_names
    unfold high1 low1 high0 low0
    rfl
  refine (congrArg (· + _) (half_tiles _ _ (off8_eq k) (off7_hi k) (off10_eq k) (off9_hi k)
    (fun r l => ∑ q : Fin 4096, if 512 * k.val ≤ q.val ∧ q.val < 512 * k.val + 256 then B.addQ q r l else 0)
    (fun r l => ∑ q : Fin 4096, if 512 * k.val + 256 ≤ q.val ∧ q.val < 512 * k.val + 256 + 256 then B.addQ q r l else 0) ?_ ?_ ?_ ?_ r l)).trans ?_
  · intro a d r l hr hl
    obtain ⟨hl1, hl2⟩ := lane_zero d l hl
    have W := windows_of H (h := 0) (k0 := 512 * k.val) (i := k.val) (by omega) hj (k0_off1_inb k 0) (k0_off2_inb k) (k0_off5_inb k)
      (off1_lo k) (off2_eq k) (off5_eq k)
    refine (dq_low W rfl _ a d).trans ?_
    rw [readAt_ix2 _ _ _ (off8_eq k) a d r l hr (by omega)]
    rw [sum_lo 256 (512 * k.val ) (by omega) (fun q => B.dscore 0 q ⟨512 * k.val + a.val, by omega⟩ * B.k (ix3 0 q (lane 0 d)))]
    rw [hl1, show (⟨512 * k.val + a.val, by omega⟩ : Fin 4096) = r from Fin.ext hr]
    unfold Blocks.addQ
    rw [hl2]
  · intro a d r l hr hl
    obtain ⟨hl1, hl2⟩ := lane_zero d l hl
    have W := upper_of H (h := 0) (k0 := 512 * k.val + 256) (i := k.val) (by omega) hj rfl (k0_off1_inb k 1) (k0_off5_inb k)
      (off1_hi k) (off5_eq k)
    refine (dq_high W rfl _ a d).trans ?_

    rw [sum_lo 256 (512 * k.val + 256 ) (by omega) (fun q => B.dscore 0 q ⟨512 * k.val + 256 + a.val, by omega⟩ * B.k (ix3 0 q (lane 0 d)))]
    rw [hl1, show (⟨512 * k.val + 256 + a.val, by omega⟩ : Fin 4096) = r from Fin.ext hr]
    unfold Blocks.addQ
    rw [hl2]
  · intro a d r l hr hl
    obtain ⟨hl1, hl2⟩ := lane_one d l hl
    have W := windows_of H (h := 1) (k0 := 512 * k.val) (i := k.val) (by omega) hj (k0_off3_inb k 0) (k0_off4_inb k) (k0_off6_inb k)
      (off3_lo k) (off4_eq k) (off6_eq k)
    refine (dq_low W rfl _ a d).trans ?_
    rw [readAt_ix2 _ _ _ (off10_eq k) a d r l hr (by omega)]
    rw [sum_lo 256 (512 * k.val ) (by omega) (fun q => B.dscore 1 q ⟨512 * k.val + a.val, by omega⟩ * B.k (ix3 0 q (lane 1 d)))]
    rw [hl1, show (⟨512 * k.val + a.val, by omega⟩ : Fin 4096) = r from Fin.ext hr]
    unfold Blocks.addQ
    rw [hl2]
  · intro a d r l hr hl
    obtain ⟨hl1, hl2⟩ := lane_one d l hl
    have W := upper_of H (h := 1) (k0 := 512 * k.val + 256) (i := k.val) (by omega) hj rfl (k0_off3_inb k 1) (k0_off6_inb k)
      (off3_hi k) (off6_eq k)
    refine (dq_high W rfl _ a d).trans ?_

    rw [sum_lo 256 (512 * k.val + 256 ) (by omega) (fun q => B.dscore 1 q ⟨512 * k.val + 256 + a.val, by omega⟩ * B.k (ix3 0 q (lane 1 d)))]
    rw [hl1, show (⟨512 * k.val + 256 + a.val, by omega⟩ : Fin 4096) = r from Fin.ext hr]
    unfold Blocks.addQ
    rw [hl2]
  · have h2 := trips2 k
    have hr := r.isLt
    have hb : ∀ q : Fin 4096, base q = q.val / 256 * 256 := fun q => rfl
    rw [add_assoc]
    refine congrArg _ ?_
    by_cases c1 : 512 * (k.val + 1) ≤ r.val
    · rw [if_neg (by omega), if_pos (show _ ∧ r.val < 512 * (k.val + 1 + (k0_t2_loop k).trips) from ⟨c1, by omega⟩), zero_add]
      exact Finset.sum_congr rfl fun q _ => if_congr (by rw [hb]; omega) rfl rfl
    · rw [if_neg (show ¬(512 * (k.val + 1) ≤ r.val ∧ _) from fun x => c1 x.1), add_zero]
      by_cases c2 : 512 * k.val ≤ r.val
      · rw [if_pos (by omega)]
        by_cases c3 : 512 * k.val + 256 ≤ r.val
        · rw [if_pos c3]
          exact sum_ite_add _ _ _ (fun q => B.addQ q r l) (fun q => by omega) (fun q => by rw [hb]; omega)
        · rw [if_neg c3, add_zero]
          exact Finset.sum_congr rfl fun q _ => if_congr (by rw [hb]; omega) rfl rfl
      · rw [if_neg (by omega)]
        exact (Finset.sum_eq_zero fun q _ => if_neg (by rw [hb]; omega)).symm
-- ==== Proof.Block.lean ====
/-
  The whole outer loop, and the three blocks that one grid cell writes, as sums over the keys or over the queries.
-/
module

public import proofs.«01_k».proof.Proof.Outer
public import proofs.«01_k».proof.Proof.Run

@[expose] public noncomputable section

set_option maxRecDepth 16384

namespace Cert.Proof.Flash

open Cert.Proof.KernelIdeal
open Cert.KernelIdeal Cert.KernelIdeal.Gen
open Idealize ShloMosaic ShloMosaic.TcCoe ShloMosaic.Tactic ShloMosaic.Pointwise

namespace Blocks

variable (B : Blocks)

/-- The gradient of the queries, before its scale: the keys up to the query's own half tile. -/
def sumQ (r : Fin 4096) (l : Fin 256) : EReal := ∑ κ : Fin 4096, if base κ ≤ r.val then B.addQ κ r l else 0

/-- The gradient of the keys, before its scale: the queries from the key's own half tile on. -/
def sumK (r : Fin 4096) (l : Fin 256) : EReal := ∑ q : Fin 4096, if base r ≤ q.val then B.addK r q l else 0

/-- The gradient of the values. -/
def sumV (r : Fin 4096) (l : Fin 256) : EReal := ∑ q : Fin 4096, if base r ≤ q.val then B.addV r q l else 0

end Blocks

variable {B : Blocks}

local notation "Acc" => Memref sig Kind.tc Space.vmem S4096x256 EltTy.f32
local notation "Blk" => Memref sig Kind.tc Space.vmem S1x4096x256 EltTy.bf16
section loop

variable (c : Dev nD) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)  (s : BufTy.Contents (Elt Ideal) arg11.view.ty × BufTy.Contents (Elt Ideal) arg12.view.ty × BufTy.Contents (Elt Ideal) arg13.view.ty)

/-- The gradient of the values before trip `n`. -/
theorem state_arg13 (H : Holds B arg2 arg3 arg4 arg5 arg6 arg7 X2 X3 X4 X5 X6 X7) (n : ℕ) (hn : n ≤ k0_t1_loop.trips) (r : Fin 4096) (l : Fin 256) :
    arg13.view.read (Elt Ideal) (stAt (F := Ideal) c i arg2 harg2 arg3 harg3 arg4 harg4 arg5 harg5 arg6 harg6 arg7 harg7 arg8 harg8 arg9 harg9 arg10 harg10 arg11 harg11 arg12 harg12 arg13 harg13 X2 X3 X4 X5 X6 X7 s n).2.2 (ix2 r l) = arg13.view.read (Elt Ideal) s.2.2 (ix2 r l) + if r.val < 512 * n then ∑ q : Fin 4096, if base r ≤ q.val then B.addV r q l else 0 else 0 := by
  induction n with
  | zero =>
    rw [if_neg (by omega), add_zero]
    rfl
  | succ m ih =>
    have hm : m < k0_t1_loop.trips := hn
    have e := congrArg (fun t => t.2.2) (stAt_succ (F := Ideal) c i arg2 harg2 arg3 harg3 arg4 harg4 arg5 harg5 arg6 harg6 arg7 harg7 arg8 harg8 arg9 harg9 arg10 harg10 arg11 harg11 arg12 harg12 arg13 harg13 X2 X3 X4 X5 X6 X7 s ⟨m, hm⟩)
    refine (congrArg (fun P => arg13.view.read (Elt Ideal) P (ix2 r l)) e).trans ?_
    refine (outer_arg13 (B := B) c i arg2 harg2 arg3 harg3 arg4 harg4 arg5 harg5 arg6 harg6 arg7 harg7 arg8 harg8 arg9 harg9 arg10 harg10 arg11 harg11 arg12 harg12 arg13 harg13 X2 X3 X4 X5 X6 X7 ⟨m, hm⟩ _ _ _ H r l).trans ?_
    refine (congrArg (· + _) (ih (le_of_lt hm))).trans ?_
    refine add_apart _ _ _ _ _ (by show ¬(_ ∧ (512 * m ≤ _ ∧ _)); omega) (by show _ ↔ _ ∨ (512 * m ≤ r.val ∧ r.val < 512 * m + 512); omega)

/-- The gradient of the keys before trip `n`. -/
theorem state_arg12 (H : Holds B arg2 arg3 arg4 arg5 arg6 arg7 X2 X3 X4 X5 X6 X7) (n : ℕ) (hn : n ≤ k0_t1_loop.trips) (r : Fin 4096) (l : Fin 256) :
    arg12.view.read (Elt Ideal) (stAt (F := Ideal) c i arg2 harg2 arg3 harg3 arg4 harg4 arg5 harg5 arg6 harg6 arg7 harg7 arg8 harg8 arg9 harg9 arg10 harg10 arg11 harg11 arg12 harg12 arg13 harg13 X2 X3 X4 X5 X6 X7 s n).2.1 (ix2 r l) = arg12.view.read (Elt Ideal) s.2.1 (ix2 r l) + if r.val < 512 * n then ∑ q : Fin 4096, if base r ≤ q.val then B.addK r q l else 0 else 0 := by
  induction n with
  | zero =>
    rw [if_neg (by omega), add_zero]
    rfl
  | succ m ih =>
    have hm : m < k0_t1_loop.trips := hn
    have e := congrArg (fun t => t.2.1) (stAt_succ (F := Ideal) c i arg2 harg2 arg3 harg3 arg4 harg4 arg5 harg5 arg6 harg6 arg7 harg7 arg8 harg8 arg9 harg9 arg10 harg10 arg11 harg11 arg12 harg12 arg13 harg13 X2 X3 X4 X5 X6 X7 s ⟨m, hm⟩)
    refine (congrArg (fun P => arg12.view.read (Elt Ideal) P (ix2 r l)) e).trans ?_
    refine (outer_arg12 (B := B) c i arg2 harg2 arg3 harg3 arg4 harg4 arg5 harg5 arg6 harg6 arg7 harg7 arg8 harg8 arg9 harg9 arg10 harg10 arg11 harg11 arg12 harg12 arg13 harg13 X2 X3 X4 X5 X6 X7 ⟨m, hm⟩ _ _ _ H r l).trans ?_
    refine (congrArg (· + _) (ih (le_of_lt hm))).trans ?_
    refine add_apart _ _ _ _ _ (by show ¬(_ ∧ (512 * m ≤ _ ∧ _)); omega) (by show _ ↔ _ ∨ (512 * m ≤ r.val ∧ r.val < 512 * m + 512); omega)

/-- The gradient of the queries before trip `n`. -/
theorem state_arg11 (H : Holds B arg2 arg3 arg4 arg5 arg6 arg7 X2 X3 X4 X5 X6 X7) (n : ℕ) (hn : n ≤ k0_t1_loop.trips) (r : Fin 4096) (l : Fin 256) :
    arg11.view.read (Elt Ideal) (stAt (F := Ideal) c i arg2 harg2 arg3 harg3 arg4 harg4 arg5 harg5 arg6 harg6 arg7 harg7 arg8 harg8 arg9 harg9 arg10 harg10 arg11 harg11 arg12 harg12 arg13 harg13 X2 X3 X4 X5 X6 X7 s n).1 (ix2 r l) = arg11.view.read (Elt Ideal) s.1 (ix2 r l) + ∑ q : Fin 4096, if q.val < 512 * n ∧ base q ≤ r.val then B.addQ q r l else 0 := by
  induction n with
  | zero =>
    rw [Finset.sum_eq_zero (fun q _ => if_neg (by omega)), add_zero]
    rfl
  | succ m ih =>
    have hm : m < k0_t1_loop.trips := hn
    have e := congrArg (fun t => t.1) (stAt_succ (F := Ideal) c i arg2 harg2 arg3 harg3 arg4 harg4 arg5 harg5 arg6 harg6 arg7 harg7 arg8 harg8 arg9 harg9 arg10 harg10 arg11 harg11 arg12 harg12 arg13 harg13 X2 X3 X4 X5 X6 X7 s ⟨m, hm⟩)
    refine (congrArg (fun P => arg11.view.read (Elt Ideal) P (ix2 r l)) e).trans ?_
    refine (outer_arg11 (B := B) c i arg2 harg2 arg3 harg3 arg4 harg4 arg5 harg5 arg6 harg6 arg7 harg7 arg8 harg8 arg9 harg9 arg10 harg10 arg11 harg11 arg12 harg12 arg13 harg13 X2 X3 X4 X5 X6 X7 ⟨m, hm⟩ _ _ _ H r l).trans ?_
    refine (congrArg (· + _) (ih (le_of_lt hm))).trans ?_
    rw [add_assoc]
    refine congrArg _ ?_
    exact sum_ite_add _ _ _ (fun q => B.addQ q r l) (fun q => by show ¬(_ ∧ ((512 * m ≤ _ ∧ _) ∧ _)); omega)
      (fun q => by show _ ↔ _ ∨ ((512 * m ≤ q.val ∧ q.val < 512 * m + 512) ∧ _); omega)

end loop

section block

variable (c : Dev nD) (i : grid0.Coords) (arg2 : Blk) (harg2 : arg2.IsWhole) (arg3 : Blk) (harg3 : arg3.IsWhole) (arg4 : Blk) (harg4 : arg4.IsWhole) (arg5 : Blk) (harg5 : arg5.IsWhole) (arg6 : Memref sig .tc .vmem S1x2x8x1x512 .f32) (harg6 : arg6.IsWhole) (arg7 : Memref sig .tc .vmem S1x2x8x1x512 .f32) (harg7 : arg7.IsWhole) (arg8 : Blk) (harg8 : arg8.IsWhole) (arg9 : Blk) (harg9 : arg9.IsWhole) (arg10 : Blk) (harg10 : arg10.IsWhole) (arg11 : Acc) (harg11 : arg11.IsWhole) (arg12 : Acc) (harg12 : arg12.IsWhole) (arg13 : Acc) (harg13 : arg13.IsWhole)
  (x0 x1 x2 x3 : Vec Ideal S1x4096x256 .bf16) (x4 x5 : Vec Ideal S1x2x8x1x512 .f32)

/-- The loaded blocks hold what they were given. -/
theorem holds_unread : Holds ⟨x0, x1, x2, x3, x4, x5⟩ arg2 arg3 arg4 arg5 arg6 arg7 (harg2.unread x0) (harg3.unread x1) (harg4.unread x2) (harg5.unread x3) (harg6.unread x4) (harg7.unread x5) where
  q := harg2.read_unread x0
  k := harg3.read_unread x1
  v := harg4.read_unread x2
  o := harg5.read_unread x3
  lse := harg6.read_unread x4
  dlt := harg7.read_unread x5

/-- The accumulated gradient of the values. -/
theorem fin_arg13 (r : Fin 4096) (l : Fin 256) : arg13.view.read (Elt Ideal) (fin (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2 (ix2 r l) = (Blocks.mk x0 x1 x2 x3 x4 x5).sumV r l := by
  refine (state_arg13 (B := (Blocks.mk x0 x1 x2 x3 x4 x5)) c i arg2 harg2 arg3 harg3 arg4 harg4 arg5 harg5 arg6 harg6 arg7 harg7 arg8 harg8 arg9 harg9 arg10 harg10 arg11 harg11 arg12 harg12 arg13 harg13 _ _ _ _ _ _ _ (holds_unread arg2 harg2 arg3 harg3 arg4 harg4 arg5 harg5 arg6 harg6 arg7 harg7 x0 x1 x2 x3 x4 x5) _ le_rfl r l).trans ?_
  rw [show arg13.view.read (Elt Ideal) (harg13.unread (k0_pay110 (F := Ideal))) (ix2 r l) = 0 from by rw [harg13.read_unread]; pointwise [k0_pay110], zero_add]
  have hr := r.isLt
  rw [if_pos (by rw [trips1]; omega)]
  rfl

/-- The block of the gradient of the values that a grid cell writes. -/
theorem block_arg13 (r : Fin 4096) (l : Fin 256) : k0_pay1 (F := Ideal) (arg13.view.read (Elt Ideal) (fin (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2) (ix3 0 r l) = (Blocks.mk x0 x1 x2 x3 x4 x5).sumV r l := by
  rw [← fin_arg13 c i arg2 harg2 arg3 harg3 arg4 harg4 arg5 harg5 arg6 harg6 arg7 harg7 arg8 harg8 arg9 harg9 arg10 harg10 arg11 harg11 arg12 harg12 arg13 harg13 x0 x1 x2 x3 x4 x5]
  pointwise [k0_pay1]

/-- The accumulated gradient of the keys. -/
theorem fin_arg12 (r : Fin 4096) (l : Fin 256) : arg12.view.read (Elt Ideal) (fin (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1 (ix2 r l) = (Blocks.mk x0 x1 x2 x3 x4 x5).sumK r l := by
  refine (state_arg12 (B := (Blocks.mk x0 x1 x2 x3 x4 x5)) c i arg2 harg2 arg3 harg3 arg4 harg4 arg5 harg5 arg6 harg6 arg7 harg7 arg8 harg8 arg9 harg9 arg10 harg10 arg11 harg11 arg12 harg12 arg13 harg13 _ _ _ _ _ _ _ (holds_unread arg2 harg2 arg3 harg3 arg4 harg4 arg5 harg5 arg6 harg6 arg7 harg7 x0 x1 x2 x3 x4 x5) _ le_rfl r l).trans ?_
  rw [show arg12.view.read (Elt Ideal) (harg12.unread (k0_pay109 (F := Ideal))) (ix2 r l) = 0 from by rw [harg12.read_unread]; pointwise [k0_pay109], zero_add]
  have hr := r.isLt
  rw [if_pos (by rw [trips1]; omega)]
  rfl

/-- The block of the gradient of the keys that a grid cell writes. -/
theorem block_arg12 (r : Fin 4096) (l : Fin 256) : k0_pay115 (F := Ideal) (arg12.view.read (Elt Ideal) (fin (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1) (ix3 0 r l) = (Blocks.mk x0 x1 x2 x3 x4 x5).sumK r l * Ideal.ofBits .f32 0x3DD105EC#32 := by
  rw [← fin_arg12 c i arg2 harg2 arg3 harg3 arg4 harg4 arg5 harg5 arg6 harg6 arg7 harg7 arg8 harg8 arg9 harg9 arg10 harg10 arg11 harg11 arg12 harg12 arg13 harg13 x0 x1 x2 x3 x4 x5]
  pointwise [k0_pay115]

/-- The accumulated gradient of the queries. -/
theorem fin_arg11 (r : Fin 4096) (l : Fin 256) : arg11.view.read (Elt Ideal) (fin (F := Ideal) c i arg2 harg2 arg3 harg3 arg4 harg4 arg5 harg5 arg6 harg6 arg7 harg7 arg8 harg8 arg9 harg9 arg10 harg10 arg11 harg11 arg12 harg12 arg13 harg13 x0 x1 x2 x3 x4 x5).1 (ix2 r l) = (Blocks.mk x0 x1 x2 x3 x4 x5).sumQ r l := by
  refine (state_arg11 (B := (Blocks.mk x0 x1 x2 x3 x4 x5)) c i arg2 harg2 arg3 harg3 arg4 harg4 arg5 harg5 arg6 harg6 arg7 harg7 arg8 harg8 arg9 harg9 arg10 harg10 arg11 harg11 arg12 harg12 arg13 harg13 _ _ _ _ _ _ _ (holds_unread arg2 harg2 arg3 harg3 arg4 harg4 arg5 harg5 arg6 harg6 arg7 harg7 x0 x1 x2 x3 x4 x5) _ le_rfl r l).trans ?_
  rw [show arg11.view.read (Elt Ideal) (harg11.unread (k0_pay108 (F := Ideal))) (ix2 r l) = 0 from by rw [harg11.read_unread]; pointwise [k0_pay108], zero_add]
  have hr := r.isLt
  exact Finset.sum_congr rfl fun q _ => if_congr (by rw [trips1]; omega) rfl rfl

/-- The block of the gradient of the queries that a grid cell writes. -/
theorem block_arg11 (r : Fin 4096) (l : Fin 256) : k0_pay114 (F := Ideal) (arg11.view.read (Elt Ideal) (fin (F := Ideal) c i arg2 harg2 arg3 harg3 arg4 harg4 arg5 harg5 arg6 harg6 arg7 harg7 arg8 harg8 arg9 harg9 arg10 harg10 arg11 harg11 arg12 harg12 arg13 harg13 x0 x1 x2 x3 x4 x5).1) (ix3 0 r l) = (Blocks.mk x0 x1 x2 x3 x4 x5).sumQ r l * Ideal.ofBits .f32 0x3DD105EC#32 := by
  rw [← fin_arg11 c i arg2 harg2 arg3 harg3 arg4 harg4 arg5 harg5 arg6 harg6 arg7 harg7 arg8 harg8 arg9 harg9 arg10 harg10 arg11 harg11 arg12 harg12 arg13 harg13 x0 x1 x2 x3 x4 x5]
  pointwise [k0_pay114]

end block
-- ==== Proof.BlockValue.lean ====
/-
  The blocks that a grid cell writes, when its input blocks hold one batch member's lanes of two heads, are the attention's
  gradients.
-/
module

public import proofs.«01_k».proof.Proof.Block
public import proofs.«01_k».proof.Proof.HostAt

@[expose] public noncomputable section

set_option maxRecDepth 16384

namespace Cert.Proof.Flash

open Cert.KernelIdeal Cert.KernelIdeal.Gen
open Idealize ShloMosaic ShloMosaic.TcCoe ShloMosaic.Pointwise
open Cert.Proof.Attention

theorem scale2_eq : scale2 = ((scale * (Real.log 2)⁻¹ : ℝ) : EReal) :=
  IdealRules.named_const.ideal_named_scalar _ _ _ _ rfl

theorem log2e_eq : log2e = (((Real.log 2)⁻¹ : ℝ) : EReal) :=
  IdealRules.named_const.ideal_named_scalar _ _ _ _ rfl

/-- Head `h` of a pair of heads. -/
def headAt (p : Fin 4) (h : Fin 2) : Fin 8 := ⟨2 * p.val + h.val, by omega⟩

/-- The lane within its head. -/
def laneAt (l : Fin 256) : Fin 128 := ⟨l.val % 128, by omega⟩

theorem lane_of (l : Fin 256) : lane (headOf l) (laneAt l) = l := by
  ext; show 128 * (l.val / 128) + l.val % 128 = l.val; omega

/-- The blocks hold batch member `b`'s lanes of the pair of heads `p`. -/
structure Filled (A : Args) (b : Fin 2) (p : Fin 4) (B : Blocks) : Prop where
  q : ∀ h r d, B.q (ix3 0 r (lane h d)) = ((A.query b (headAt p h) r d : ℝ) : EReal)
  k : ∀ h r d, B.k (ix3 0 r (lane h d)) = ((A.key b (headAt p h) r d : ℝ) : EReal)
  v : ∀ h r d, B.v (ix3 0 r (lane h d)) = ((A.v b r (headAt p h) d : ℝ) : EReal)
  o : ∀ h r d, B.o (ix3 0 r (lane h d)) = ((A.o b r (headAt p h) d : ℝ) : EReal)
  lse : ∀ h r, ∃ M : ℝ, Blocks.row B.lse h r = ((M + Real.log (∑ k, A.shifted b (headAt p h) M r k) : ℝ) : EReal)
  dlt : ∀ h r, Blocks.row B.dlt h r = ((A.mean b (headAt p h) r : ℝ) : EReal)

section

variable {A : Args} {b : Fin 2} {p : Fin 4} {B : Blocks} (H : Filled A b p B)

include H

theorem score_real (h : Fin 2) (k q : Fin 4096) :
    B.score h k q = ((∑ d, A.key b (headAt p h) k d * A.query b (headAt p h) q d : ℝ) : EReal) := by
  unfold Blocks.score
  rw [← coe_sum]
  exact Finset.sum_congr rfl fun d _ => by rw [H.k, H.q, EReal.coe_mul]

theorem prob_real (h : Fin 2) (k q : Fin 4096) : B.prob h k q = ((A.prob b (headAt p h) q k : ℝ) : EReal) := by
  obtain ⟨M, hM⟩ := H.lse h q
  unfold Blocks.prob
  rw [hM, score_real H, scale2_eq, log2e_eq]
  by_cases hk : k.val ≤ q.val
  · rw [if_pos hk, ← EReal.coe_mul, ← EReal.coe_mul, ← EReal.coe_sub, ← mul_assoc, Args.score_lanes, ← sub_mul, exp2_div, Args.exp_log M q k hk]
  · rw [if_neg hk, Args.prob_masked q k hk, show ninf = ⊥ from word_ninf]
    have hs : 0 < scale * (Real.log 2)⁻¹ := mul_pos (by unfold scale; norm_num) (inv_pos.2 (Real.log_pos (by norm_num)))
    rw [EReal.bot_mul_coe_of_pos hs, EReal.bot_sub]
    rfl

theorem dprob_real (h : Fin 2) (k q : Fin 4096) : B.dprob h k q = ((A.dprob b (headAt p h) q k : ℝ) : EReal) := by
  unfold Blocks.dprob Args.dprob
  rw [← coe_sum]
  exact Finset.sum_congr rfl fun d _ => by rw [H.v, H.o, ← EReal.coe_mul, mul_comm]

theorem dscore_real (h : Fin 2) (k q : Fin 4096) : B.dscore h k q = ((A.dscore b (headAt p h) q k : ℝ) : EReal) := by
  unfold Blocks.dscore Args.dscore
  rw [prob_real H, dprob_real H, H.dlt, ← EReal.coe_sub, ← EReal.coe_mul]

theorem base_gt {κ r : Fin 4096} (h : ¬ base κ ≤ r.val) : ¬ κ.val ≤ r.val := by
  unfold base at h; omega

theorem sumQ_real (r : Fin 4096) (l : Fin 256) :
    B.sumQ r l * Ideal.ofBits .f32 0x3DD105EC#32 = ((A.dq b (headAt p (headOf l)) r (laneAt l) : ℝ) : EReal) := by
  have e : B.sumQ r l = ((∑ k, A.dscore b (headAt p (headOf l)) r k * A.key b (headAt p (headOf l)) k (laneAt l) : ℝ) : EReal) := by
    unfold Blocks.sumQ
    rw [← coe_sum]
    refine Finset.sum_congr rfl fun κ _ => ?_
    unfold Blocks.addQ
    have hk := H.k (headOf l) κ (laneAt l)
    rw [lane_of] at hk
    rw [hk, dscore_real H]
    split_ifs with hb
    · rw [EReal.coe_mul]
    · rw [Args.dscore_masked r κ (base_gt H hb), zero_mul, EReal.coe_zero]
  rw [e, word_scale, ← EReal.coe_mul, Finset.sum_mul]
  unfold Args.dq
  congr 1
  exact Finset.sum_congr rfl fun k _ => by ring

theorem sumK_real (r : Fin 4096) (l : Fin 256) :
    B.sumK r l * Ideal.ofBits .f32 0x3DD105EC#32 = ((A.dk b (headAt p (headOf l)) r (laneAt l) : ℝ) : EReal) := by
  have e : B.sumK r l = ((∑ q, A.dscore b (headAt p (headOf l)) q r * A.query b (headAt p (headOf l)) q (laneAt l) : ℝ) : EReal) := by
    unfold Blocks.sumK
    rw [← coe_sum]
    refine Finset.sum_congr rfl fun q _ => ?_
    unfold Blocks.addK
    have hk := H.q (headOf l) q (laneAt l)
    rw [lane_of] at hk
    rw [hk, dscore_real H]
    split_ifs with hb
    · rw [EReal.coe_mul]
    · rw [Args.dscore_masked q r (base_gt H hb), zero_mul, EReal.coe_zero]
  rw [e, word_scale, ← EReal.coe_mul, Finset.sum_mul]
  unfold Args.dk
  congr 1
  exact Finset.sum_congr rfl fun k _ => by ring

theorem sumV_real (r : Fin 4096) (l : Fin 256) :
    B.sumV r l = ((A.dv b (headAt p (headOf l)) r (laneAt l) : ℝ) : EReal) := by
  unfold Blocks.sumV Args.dv
  rw [← coe_sum]
  refine Finset.sum_congr rfl fun q _ => ?_
  unfold Blocks.addV
  have hk := H.o (headOf l) q (laneAt l)
  rw [lane_of] at hk
  rw [hk, prob_real H]
  split_ifs with hb
  · rw [EReal.coe_mul]
  · rw [Args.prob_masked q r (base_gt H hb), zero_mul, EReal.coe_zero]

end
-- ==== Proof.Arrays.lean ====
/-
  The three arrays that the launch leaves, when the arguments are real: the attention's gradients, every head's lanes side by side.
-/
module

public import proofs.«01_k».proof.Proof.BlockValue
public import Idealize.ShloMosaic.Lib.Pipeline.ValueKit

@[expose] public noncomputable section

set_option maxRecDepth 16384

namespace Cert.Proof.Flash

open Cert.KernelIdeal Cert.KernelIdeal.Gen Cert.Proof.KernelIdeal
open Idealize ShloMosaic ShloMosaic.TcCoe ShloMosaic.Pointwise
open Cert.Proof.Attention
local notation "Tc" => Thread nD τ

/-- An array whose lane `l` is lane `l % 128` of head `l / 128`. -/
def spread (f : Fin 2 → Fin 8 → Fin 4096 → Fin 128 → ℝ) : FVec Ideal S2x4096x1024 .bf16 := fun i =>
  ((f ⟨(i 0).val, (i 0).isLt⟩ ⟨(i 2).val / 128, by have : (i 2).val < 1024 := (i 2).isLt; omega⟩ ⟨(i 1).val, (i 1).isLt⟩
    ⟨(i 2).val % 128, by omega⟩ : ℝ) : EReal)

variable (m : (ℓ : Loc nD τ sig) → Buf (Elt Ideal) ℓ)

/-- The batch member of a grid point. -/
def memberAt (t : Fin cfg0.N) : Fin 2 := ⟨(grid0.coords t 0).val, (grid0.coords t 0).isLt⟩
/-- The pair of heads of a grid point. -/
def pairAt (t : Fin cfg0.N) : Fin 4 := ⟨(grid0.coords t 1).val, (grid0.coords t 1).isLt⟩

theorem at0 : ∀ t : Fin cfg0.N, win0_0.index t = ![(grid0.coords t 0).val, 0, (grid0.coords t 1).val] := by decide +kernel
theorem at1 : ∀ t : Fin cfg0.N, win0_1.index t = ![(grid0.coords t 0).val, 0, (grid0.coords t 1).val] := by decide +kernel
theorem at2 : ∀ t : Fin cfg0.N, win0_2.index t = ![(grid0.coords t 0).val, 0, (grid0.coords t 1).val] := by decide +kernel
theorem at3 : ∀ t : Fin cfg0.N, win0_3.index t = ![(grid0.coords t 0).val, 0, (grid0.coords t 1).val] := by decide +kernel
theorem at4 : ∀ t : Fin cfg0.N, win0_4.index t = ![(grid0.coords t 0).val, (grid0.coords t 1).val, 0, 0, 0] := by decide +kernel
theorem at5 : ∀ t : Fin cfg0.N, win0_5.index t = ![(grid0.coords t 0).val, (grid0.coords t 1).val, 0, 0, 0] := by decide +kernel
theorem at6 : ∀ t : Fin cfg0.N, win0_6.index t = ![(grid0.coords t 0).val, 0, (grid0.coords t 1).val] := by decide +kernel
theorem at7 : ∀ t : Fin cfg0.N, win0_7.index t = ![(grid0.coords t 0).val, 0, (grid0.coords t 1).val] := by decide +kernel
theorem at8 : ∀ t : Fin cfg0.N, win0_8.index t = ![(grid0.coords t 0).val, 0, (grid0.coords t 1).val] := by decide +kernel

/-- The array's lane of a block's lane. -/
def wideLane (p : Fin 4) (l : Fin 256) : Fin 1024 := ⟨256 * p.val + l.val, by omega⟩

variable (c : Dev nD)

theorem read0 (X : Buf (Elt Ideal) ((c : Tc).loc main_v36)) (t : Fin cfg0.N) (r : Fin 4096) (l : Fin 256) :
    ((cfg0.win 0).blk t).view.read (Elt Ideal) X (ix3 0 r l) = (X : FVec Ideal S2x4096x1024 .bf16) (ix3 (memberAt t) r (wideLane (pairAt t) l)) := by
  blk_simp
  refine congrArg X ?_
  unfold memberAt pairAt wideLane
  blk_ext [at0]

theorem emb0 (t : Fin cfg0.N) (r : Fin 4096) (l : Fin 256) :
    iblk m c 0 t (ix3 0 r l) = (V m c main_v36 : FVec Ideal S2x4096x1024 .bf16) (ix3 (memberAt t) r (wideLane (pairAt t) l)) := by
  unfold iblk
  exact read0 c (V m c main_v36) t r l

theorem read1 (X : Buf (Elt Ideal) ((c : Tc).loc main_v39)) (t : Fin cfg0.N) (r : Fin 4096) (l : Fin 256) :
    ((cfg0.win 1).blk t).view.read (Elt Ideal) X (ix3 0 r l) = (X : FVec Ideal S2x4096x1024 .bf16) (ix3 (memberAt t) r (wideLane (pairAt t) l)) := by
  blk_simp
  refine congrArg X ?_
  unfold memberAt pairAt wideLane
  blk_ext [at1]

theorem emb1 (t : Fin cfg0.N) (r : Fin 4096) (l : Fin 256) :
    iblk m c 1 t (ix3 0 r l) = (V m c main_v39 : FVec Ideal S2x4096x1024 .bf16) (ix3 (memberAt t) r (wideLane (pairAt t) l)) := by
  unfold iblk
  exact read1 c (V m c main_v39) t r l

theorem read2 (X : Buf (Elt Ideal) ((c : Tc).loc main_v41)) (t : Fin cfg0.N) (r : Fin 4096) (l : Fin 256) :
    ((cfg0.win 2).blk t).view.read (Elt Ideal) X (ix3 0 r l) = (X : FVec Ideal S2x4096x1024 .bf16) (ix3 (memberAt t) r (wideLane (pairAt t) l)) := by
  blk_simp
  refine congrArg X ?_
  unfold memberAt pairAt wideLane
  blk_ext [at2]

theorem emb2 (t : Fin cfg0.N) (r : Fin 4096) (l : Fin 256) :
    iblk m c 2 t (ix3 0 r l) = (V m c main_v41 : FVec Ideal S2x4096x1024 .bf16) (ix3 (memberAt t) r (wideLane (pairAt t) l)) := by
  unfold iblk
  exact read2 c (V m c main_v41) t r l

theorem read3 (X : Buf (Elt Ideal) ((c : Tc).loc main_v43)) (t : Fin cfg0.N) (r : Fin 4096) (l : Fin 256) :
    ((cfg0.win 3).blk t).view.read (Elt Ideal) X (ix3 0 r l) = (X : FVec Ideal S2x4096x1024 .bf16) (ix3 (memberAt t) r (wideLane (pairAt t) l)) := by
  blk_simp
  refine congrArg X ?_
  unfold memberAt pairAt wideLane
  blk_ext [at3]

theorem emb3 (t : Fin cfg0.N) (r : Fin 4096) (l : Fin 256) :
    iblk m c 3 t (ix3 0 r l) = (V m c main_v43 : FVec Ideal S2x4096x1024 .bf16) (ix3 (memberAt t) r (wideLane (pairAt t) l)) := by
  unfold iblk
  exact read3 c (V m c main_v43) t r l

theorem read4 (X : Buf (Elt Ideal) ((c : Tc).loc main_v23)) (t : Fin cfg0.N) (h : Fin 2) (i : Fin 8) (j : Fin 512) :
    ((cfg0.win 4).blk t).view.read (Elt Ideal) X (ix5 0 h i 0 j) = (X : FVec Ideal S2x8x8x1x512 .f32) (ix5 (memberAt t) (headAt (pairAt t) h) i 0 j) := by
  blk_simp
  refine congrArg X ?_
  unfold memberAt pairAt headAt
  blk_ext [at4]

theorem emb4 (t : Fin cfg0.N) (h : Fin 2) (i : Fin 8) (j : Fin 512) :
    iblk m c 4 t (ix5 0 h i 0 j) = (V m c main_v23 : FVec Ideal S2x8x8x1x512 .f32) (ix5 (memberAt t) (headAt (pairAt t) h) i 0 j) := by
  unfold iblk
  exact read4 c (V m c main_v23) t h i j

theorem read5 (X : Buf (Elt Ideal) ((c : Tc).loc main_v44)) (t : Fin cfg0.N) (h : Fin 2) (i : Fin 8) (j : Fin 512) :
    ((cfg0.win 5).blk t).view.read (Elt Ideal) X (ix5 0 h i 0 j) = (X : FVec Ideal S2x8x8x1x512 .f32) (ix5 (memberAt t) (headAt (pairAt t) h) i 0 j) := by
  blk_simp
  refine congrArg X ?_
  unfold memberAt pairAt headAt
  blk_ext [at5]

theorem emb5 (t : Fin cfg0.N) (h : Fin 2) (i : Fin 8) (j : Fin 512) :
    iblk m c 5 t (ix5 0 h i 0 j) = (V m c main_v44 : FVec Ideal S2x8x8x1x512 .f32) (ix5 (memberAt t) (headAt (pairAt t) h) i 0 j) := by
  unfold iblk
  exact read5 c (V m c main_v44) t h i j

/-- The input blocks of a grid point. -/
def blocksAt (t : Fin cfg0.N) : Blocks :=
  ⟨iblk m c 0 t, iblk m c 1 t, iblk m c 2 t, iblk m c 3 t, iblk m c 4 t, iblk m c 5 t⟩

theorem wide_head (p : Fin 4) (h : Fin 2) (d : Fin 128) : (wideLane p (lane h d)).val / 128 = (headAt p h).val := by
  unfold wideLane lane headAt; dsimp only; omega
theorem wide_lane (p : Fin 4) (h : Fin 2) (d : Fin 128) : (wideLane p (lane h d)).val % 128 = d.val := by
  unfold wideLane lane; dsimp only; omega

theorem flat_wide (x : FVec Ideal S2x4096x8x128 .f32) (b : Fin 2) (q : Fin 4096) (p : Fin 4) (h : Fin 2) (d : Fin 128) :
    flat x (ix3 b q (wideLane p (lane h d))) = x (ix4 b q (headAt p h) d) := by
  rw [flat_at]
  exact congrArg x (congrArg₂ (ix4 b q) (Fin.ext (wide_head p h d)) (Fin.ext (wide_lane p h d)))

theorem lanes_wide (x : FVec Ideal S2x4096x8x64 .f32) (y : FVec Ideal S2x4096x8x32 .f32) (b : Fin 2) (q : Fin 4096) (p : Fin 4) (h : Fin 2) (d : Fin 128) :
    lanes x y (ix3 b q (wideLane p (lane h d))) = parts x y (ix4 b q (headAt p h) d) := by
  unfold lanes
  exact flat_wide _ b q p h d

/-- A position is its tile and its place in the tile. -/
theorem tile_pos (r : Fin 4096) : (⟨(⟨r.val / 512, by omega⟩ : Fin 8).val * 512 + (⟨r.val % 512, by omega⟩ : Fin 512).val, by dsimp only; omega⟩ : Fin 4096) = r :=
  Fin.ext (by dsimp only; omega)

section

variable {A : Args} {x0 : FVec Ideal S2x4096x8x64 .f32} {x1 : FVec Ideal S2x4096x8x32 .f32} {x2 : FVec Ideal S2x4096x8x64 .f32}
  {x3 : FVec Ideal S2x4096x32 .f32} {x4 x5 : FVec Ideal S2x4096x8x128 .f32} (H : Hold A x0 x1 x2 x3 x4 x5)

include H in
/-- Blocks cut out of the host's arrays. -/
theorem filled_of (B : Blocks) (b : Fin 2) (p : Fin 4)
    (e0 : ∀ r l, B.q (ix3 0 r l) = lanes x0 x1 (ix3 b r (wideLane p l)))
    (e1 : ∀ r l, B.k (ix3 0 r l) = lanes x2 (copies x3) (ix3 b r (wideLane p l)))
    (e2 : ∀ r l, B.v (ix3 0 r l) = flat x4 (ix3 b r (wideLane p l)))
    (e3 : ∀ r l, B.o (ix3 0 r l) = flat x5 (ix3 b r (wideLane p l)))
    (e4 : ∀ h i j, B.lse (ix5 0 h i 0 j) = logs (scores x0 x1 x2 x3) (ix5 b (headAt p h) i 0 j))
    (e5 : ∀ h i j, B.dlt (ix5 0 h i 0 j) = corrs (scores x0 x1 x2 x3) x4 x5 (ix5 b (headAt p h) i 0 j)) : Filled A b p B where
  q h r d := by rw [e0, lanes_wide, queries_at H]
  k h r d := by rw [e1, lanes_wide, keys_at H]
  v h r d := by rw [e2, flat_wide, H.v]
  o h r d := by rw [e3, flat_wide, H.o]
  lse h r := by
    obtain ⟨M, hM⟩ := rowLogs_at (scores_scored H) b (headAt p h) r
    refine ⟨M, ?_⟩
    unfold Blocks.row
    rw [e4, logs, tiled_at, ← hM, tile_pos]
  dlt h r := by
    unfold Blocks.row
    rw [e5, corrs_at H (scores_scored H), tile_pos]

end

theorem cell0 (t : Fin cfg0.N) (r : Fin 4096) (l : Fin 256) :
    (blocksAt m c t).q (ix3 0 r l) = lanes (a0 m c) (a1 m c) (ix3 (memberAt t) r (wideLane (pairAt t) l)) := by
  unfold blocksAt
  dsimp only
  rw [emb0, V_v36]

theorem cell1 (t : Fin cfg0.N) (r : Fin 4096) (l : Fin 256) :
    (blocksAt m c t).k (ix3 0 r l) = lanes (a2 m c) (copies (a3 m c)) (ix3 (memberAt t) r (wideLane (pairAt t) l)) := by
  unfold blocksAt
  dsimp only
  rw [emb1, V_v39]

theorem cell2 (t : Fin cfg0.N) (r : Fin 4096) (l : Fin 256) :
    (blocksAt m c t).v (ix3 0 r l) = flat (a4 m c) (ix3 (memberAt t) r (wideLane (pairAt t) l)) := by
  unfold blocksAt
  dsimp only
  rw [emb2, V_v41]

theorem cell3 (t : Fin cfg0.N) (r : Fin 4096) (l : Fin 256) :
    (blocksAt m c t).o (ix3 0 r l) = flat (a5 m c) (ix3 (memberAt t) r (wideLane (pairAt t) l)) := by
  unfold blocksAt
  dsimp only
  rw [emb3, V_v43]

theorem cell4 (t : Fin cfg0.N) (h : Fin 2) (i : Fin 8) (j : Fin 512) :
    (blocksAt m c t).lse (ix5 0 h i 0 j) = logs (scores (a0 m c) (a1 m c) (a2 m c) (a3 m c)) (ix5 (memberAt t) (headAt (pairAt t) h) i 0 j) := by
  unfold blocksAt
  dsimp only
  rw [emb4, V_v23]

theorem cell5 (t : Fin cfg0.N) (h : Fin 2) (i : Fin 8) (j : Fin 512) :
    (blocksAt m c t).dlt (ix5 0 h i 0 j) = corrs (scores (a0 m c) (a1 m c) (a2 m c) (a3 m c)) (a4 m c) (a5 m c) (ix5 (memberAt t) (headAt (pairAt t) h) i 0 j) := by
  unfold blocksAt
  dsimp only
  rw [emb5, V_v44]

variable {A : Args} (H : Hold A (a0 m c) (a1 m c) (a2 m c) (a3 m c) (a4 m c) (a5 m c))

include H in
theorem filled (t : Fin cfg0.N) : Filled A (memberAt t) (pairAt t) (blocksAt m c t) :=
  filled_of H (blocksAt m c t) (memberAt t) (pairAt t) (cell0 m c t) (cell1 m c t) (cell2 m c t) (cell3 m c t) (cell4 m c t) (cell5 m c t)
-- ==== Proof.Outputs.lean ====
/-
  The three arrays that the launch leaves, when the arguments are real: the attention's gradients, every head's lanes side by side.
-/
module

public import proofs.«01_k».proof.Proof.Arrays

@[expose] public noncomputable section

set_option maxRecDepth 16384

namespace Cert.Proof.Flash

open Cert.KernelIdeal Cert.KernelIdeal.Gen Cert.Proof.KernelIdeal
open Idealize ShloMosaic ShloMosaic.TcCoe ShloMosaic.Pointwise
open Cert.Proof.Attention

theorem spread_wide (f : Fin 2 → Fin 8 → Fin 4096 → Fin 128 → ℝ) (b : Fin 2) (p : Fin 4) (r : Fin 4096) (l : Fin 256) :
    spread f (ix3 b r (wideLane p l)) = ((f b (headAt p (headOf l)) r (laneAt l) : ℝ) : EReal) := by
  have hp := p.isLt
  have hl := l.isLt
  have e1 : (256 * p.val + l.val) / 128 = 2 * p.val + l.val / 128 := by omega
  have e2 : (256 * p.val + l.val) % 128 = l.val % 128 := by omega
  refine congrArg (fun x : ℝ => (x : EReal)) ?_
  exact congrArg₂ (fun x y => f b x r y) (Fin.ext e1) (Fin.ext e2)

variable (m : (ℓ : Loc nD τ sig) → Buf (Elt Ideal) ℓ) (c : Dev nD) {A : Args} (H : Hold A (a0 m c) (a1 m c) (a2 m c) (a3 m c) (a4 m c) (a5 m c))

include H in
theorem written6 (t : Fin cfg0.N) (r : Fin 4096) (l : Fin 256) :
    k0_pay114 (F := Ideal) (sc0.view.read (Elt Ideal) (finAt m c t).1) (ix3 0 r l) = ((A.dq (memberAt t) (headAt (pairAt t) (headOf l)) r (laneAt l) : ℝ) : EReal) := by
  rw [← sumQ_real (filled m c H t)]
  unfold finAt
  exact block_arg11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) r l

theorem place6 (t : Fin cfg0.N) (r : Fin 4096) (l : Fin 256) :
    ((cfg0.win 6).blk t).view.emb (ix3 0 r l) = ix3 (memberAt t) r (wideLane (pairAt t) l) := by
  unfold memberAt pairAt wideLane
  blk_ext [at6]

include H in
theorem array6 : (dats m 0 c).arrAt 6 cfg0.N = spread A.dq := by
  refine (dats m 0 c).arrAt_eq_of_covers 6 (spread A.dq) (by decide +kernel) fun t hf y => ?_
  obtain ⟨y0, r, l, rfl⟩ : ∃ (y0 : Fin 1) (r : Fin 4096) (l : Fin 256), y = ix3 y0 r l := ⟨y 0, y 1, y 2, by funext a; fin_cases a <;> rfl⟩
  obtain rfl : y0 = 0 := Subsingleton.elim _ _
  have e : (dats m 0 c).after 6 t ((cfg0.win 6).xinj (cfg0.grid.coords t) (ix3 0 r l)) = ((A.dq (memberAt t) (headAt (pairAt t) (headOf l)) r (laneAt l) : ℝ) : EReal) := by
    rw [after6]
    exact written6 m c H t r l
  rw [e, place6, spread_wide]
  exact cast_eq _ _

include H in
theorem written7 (t : Fin cfg0.N) (r : Fin 4096) (l : Fin 256) :
    k0_pay115 (F := Ideal) (sc1.view.read (Elt Ideal) (finAt m c t).2.1) (ix3 0 r l) = ((A.dk (memberAt t) (headAt (pairAt t) (headOf l)) r (laneAt l) : ℝ) : EReal) := by
  rw [← sumK_real (filled m c H t)]
  unfold finAt
  exact block_arg12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) r l

theorem place7 (t : Fin cfg0.N) (r : Fin 4096) (l : Fin 256) :
    ((cfg0.win 7).blk t).view.emb (ix3 0 r l) = ix3 (memberAt t) r (wideLane (pairAt t) l) := by
  unfold memberAt pairAt wideLane
  blk_ext [at7]

include H in
theorem array7 : (dats m 0 c).arrAt 7 cfg0.N = spread A.dk := by
  refine (dats m 0 c).arrAt_eq_of_covers 7 (spread A.dk) (by decide +kernel) fun t hf y => ?_
  obtain ⟨y0, r, l, rfl⟩ : ∃ (y0 : Fin 1) (r : Fin 4096) (l : Fin 256), y = ix3 y0 r l := ⟨y 0, y 1, y 2, by funext a; fin_cases a <;> rfl⟩
  obtain rfl : y0 = 0 := Subsingleton.elim _ _
  have e : (dats m 0 c).after 7 t ((cfg0.win 7).xinj (cfg0.grid.coords t) (ix3 0 r l)) = ((A.dk (memberAt t) (headAt (pairAt t) (headOf l)) r (laneAt l) : ℝ) : EReal) := by
    rw [after7]
    exact written7 m c H t r l
  rw [e, place7, spread_wide]
  exact cast_eq _ _

include H in
theorem written8 (t : Fin cfg0.N) (r : Fin 4096) (l : Fin 256) :
    k0_pay1 (F := Ideal) (sc2.view.read (Elt Ideal) (finAt m c t).2.2) (ix3 0 r l) = ((A.dv (memberAt t) (headAt (pairAt t) (headOf l)) r (laneAt l) : ℝ) : EReal) := by
  rw [← sumV_real (filled m c H t)]
  unfold finAt
  exact block_arg13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) (iblk m c 0 t) (iblk m c 1 t) (iblk m c 2 t) (iblk m c 3 t) (iblk m c 4 t) (iblk m c 5 t) r l

theorem place8 (t : Fin cfg0.N) (r : Fin 4096) (l : Fin 256) :
    ((cfg0.win 8).blk t).view.emb (ix3 0 r l) = ix3 (memberAt t) r (wideLane (pairAt t) l) := by
  unfold memberAt pairAt wideLane
  blk_ext [at8]

include H in
theorem array8 : (dats m 0 c).arrAt 8 cfg0.N = spread A.dv := by
  refine (dats m 0 c).arrAt_eq_of_covers 8 (spread A.dv) (by decide +kernel) fun t hf y => ?_
  obtain ⟨y0, r, l, rfl⟩ : ∃ (y0 : Fin 1) (r : Fin 4096) (l : Fin 256), y = ix3 y0 r l := ⟨y 0, y 1, y 2, by funext a; fin_cases a <;> rfl⟩
  obtain rfl : y0 = 0 := Subsingleton.elim _ _
  have e : (dats m 0 c).after 8 t ((cfg0.win 8).xinj (cfg0.grid.coords t) (ix3 0 r l)) = ((A.dv (memberAt t) (headAt (pairAt t) (headOf l)) r (laneAt l) : ℝ) : EReal) := by
    rw [after8]
    exact written8 m c H t r l
  rw [e, place8, spread_wide]
  exact cast_eq _ _
-- ==== Proof.RefStages.lean ====
/-
  The reference, one stage at a time at an index, for arguments that are real numbers: the masked scores and their softmax, the
  gradients of the probabilities and of the scores.
-/
module

public import proofs.«01_k».proof.Proof.HostAt
public import proofs.«01_k».proof.Proof.Gen.ReferenceIdeal.Read

@[expose] public noncomputable section

set_option maxRecDepth 16384

namespace Cert.Proof.Reference

open Cert.ReferenceIdeal Cert.ReferenceIdeal.Gen Cert.ReferenceIdeal.Read
open Idealize ShloMosaic ShloMosaic.StableHlo ShloMosaic.Pointwise
open Cert.Proof.Attention Cert.Proof.Flash

theorem fold_of (s : FVec Ideal S2x8x4096x4096 .f32) (b : Fin 2) (h : Fin 8) (q : Fin 4096) :
    Host.reduce (FloatOps.maximumf (F := Ideal) (φ := .f32)) s (val_main_cst_1 (F := Ideal)) reducesTo_S2x8x4096x4096_S2x8x4096_d3 h_S_ (ix3 b h q)
      = Finset.univ.fold max ⊥ (fun k => s (ix4 b h q k)) := by
  pointwise [val_main_cst_1]
  rw [word_ninf]

theorem floor_of (b : Fin 2) (h : Fin 8) (q : Fin 4096) : val_main_v21 (F := Ideal) (ix3 b h q) = ⊥ := by
  pointwise [val_main_v21, val_main_cst_3]
  exact word_ninf

theorem max_of (x y : FVec Ideal S2x8x4096 .f32) (b : Fin 2) (h : Fin 8) (q : Fin 4096) :
    maximumf x y (ix3 b h q) = max (x (ix3 b h q)) (y (ix3 b h q)) := rfl

/-- The maximum of a row, taken from negative infinity. -/
theorem top_of (s : FVec Ideal S2x8x4096x4096 .f32) (b : Fin 2) (h : Fin 8) (q : Fin 4096) :
    maximumf (val_main_v21 (F := Ideal)) (Host.reduce (FloatOps.maximumf (F := Ideal) (φ := .f32)) s (val_main_cst_1 (F := Ideal)) reducesTo_S2x8x4096x4096_S2x8x4096_d3 h_S_) (ix3 b h q)
      = Finset.univ.fold max ⊥ (fun k => s (ix4 b h q k)) := by
  rw [max_of, floor_of, fold_of, max_eq_right bot_le]

section

variable {A : Args} {x0 : FVec Ideal S2x4096x8x64 .f32} {x1 : FVec Ideal S2x4096x8x32 .f32} {x2 : FVec Ideal S2x4096x8x64 .f32}
  {x3 : FVec Ideal S2x4096x32 .f32} {x4 x5 : FVec Ideal S2x4096x8x128 .f32} (H : Hold A x0 x1 x2 x3 x4 x5)

include H

/-- The masked scores. -/
theorem scored : Scored A (val_main_v14_0 (F := Ideal) x0 x1 x2 x3) := by
  intro b h q k
  pointwise [val_main_v14_0, val_main_v14_1, val_main_v13, val_main_v12, val_main_v11, val_main_v10, val_main_v9, val_main_v8, val_main_v7,
    val_main_v6, val_main_v5, val_main_cst, val_main_v4, val_main_v3, val_main_v2, val_main_v1, val_main_v0, val_main_call0_v2,
    val_main_call0_v0, val_main_cst_0]
  rw [select_le, word_scale, show id (constant (F := Ideal) S_ FTy.f32 4286578688#32) ix0 = (⊥ : EReal) from word_ninf]
  refine if_congr Iff.rfl ?_ rfl
  simp only [H.qn, H.qr, H.kn, H.kr, ← EReal.coe_mul, coe_sum, ← EReal.coe_add]
  rfl

/-- The largest score of a query. -/
theorem top (b : Fin 2) (h : Fin 8) (q : Fin 4096) :
    val_main_v22 (F := Ideal) x0 x1 x2 x3 (ix3 b h q) = Finset.univ.fold max ⊥ (fun k => val_main_v14_0 (F := Ideal) x0 x1 x2 x3 (ix4 b h q k)) := by
  unfold val_main_v22 val_main_v15
  exact top_of _ b h q

/-- Every stage of one query's row at once: its largest score `M`, and the exponentials and their sum about it. -/
structure Row (A : Args) (x0 : FVec Ideal S2x4096x8x64 .f32) (x1 : FVec Ideal S2x4096x8x32 .f32) (x2 : FVec Ideal S2x4096x8x64 .f32)
    (x3 : FVec Ideal S2x4096x32 .f32) (b : Fin 2) (h : Fin 8) (q : Fin 4096) (M : ℝ) : Prop where
  exps : ∀ k, val_main_v35 (F := Ideal) x0 x1 x2 x3 (ix4 b h q k) = ((A.shifted b h M q k : ℝ) : EReal)
  sum : val_main_v37 (F := Ideal) x0 x1 x2 x3 (ix4 b h q 0) = ((∑ k, A.shifted b h M q k : ℝ) : EReal)

theorem row (b : Fin 2) (h : Fin 8) (q : Fin 4096) : ∃ M : ℝ, Row A x0 x1 x2 x3 b h q M := by
  obtain ⟨M, hM⟩ := fold_scored (scored H) b h q
  have hM' := (top H b h q).trans hM
  have he : ∀ k, val_main_v35 (F := Ideal) x0 x1 x2 x3 (ix4 b h q k) = ((A.shifted b h M q k : ℝ) : EReal) := by
    intro k
    rw [← exp_scored (scored H), ← hM']
    unfold val_main_v35 val_main_v34 val_main_v33 val_main_v32
    generalize val_main_v14_0 (F := Ideal) x0 x1 x2 x3 = s
    generalize val_main_v22 (F := Ideal) x0 x1 x2 x3 = t
    pointwise
  refine ⟨M, he, ?_⟩
  rw [← coe_sum]
  simp only [← he]
  unfold val_main_v37 val_main_v36
  generalize val_main_v35 (F := Ideal) x0 x1 x2 x3 = e
  pointwise [val_main_cst_9]

/-- The probabilities. -/
theorem probs (b : Fin 2) (h : Fin 8) (q k : Fin 4096) :
    val_main_v39 (F := Ideal) x0 x1 x2 x3 (ix4 b h q k) = ((A.prob b h q k : ℝ) : EReal) := by
  obtain ⟨M, R⟩ := row H b h q
  rw [← Args.shifted_div M, ← coe_div (Args.sum_shifted_pos M q).ne', ← R.exps, ← R.sum]
  unfold val_main_v39 val_main_v38
  generalize val_main_v35 (F := Ideal) x0 x1 x2 x3 = e
  generalize val_main_v37 (F := Ideal) x0 x1 x2 x3 = l
  pointwise

/-- The gradients of the probabilities. -/
theorem dprobs (b : Fin 2) (h : Fin 8) (q k : Fin 4096) :
    val_main_v46 (F := Ideal) x4 x5 (ix4 b h q k) = ((A.dprob b h q k : ℝ) : EReal) := by
  pointwise [val_main_v46, val_main_v45]
  unfold Args.dprob
  simp only [H.v, H.o, ← EReal.coe_mul, coe_sum]

/-- One over the square of the sum. -/
theorem inverse (b : Fin 2) (h : Fin 8) (q : Fin 4096) (M : ℝ) (R : Row A x0 x1 x2 x3 b h q M) :
    val_main_v42 (F := Ideal) x0 x1 x2 x3 (ix4 b h q 0) = ((1 / ((∑ k, A.shifted b h M q k) * ∑ k, A.shifted b h M q k) : ℝ) : EReal) := by
  have hp := Args.sum_shifted_pos (A := A) (b := b) (h := h) M q
  rw [← coe_div (mul_pos hp hp).ne', EReal.coe_mul, ← R.sum]
  unfold val_main_v42 val_main_v40
  generalize val_main_v37 (F := Ideal) x0 x1 x2 x3 = l
  pointwise [val_main_v41, val_main_cst_10]
  simp [Ideal.ofBits, Ideal.ieee, -EReal.coe_mul]; try norm_num

/-- The sum that the sum's gradient is. -/
theorem corr (b : Fin 2) (h : Fin 8) (q : Fin 4096) (M : ℝ) (R : Row A x0 x1 x2 x3 b h q M) :
    val_main_v57 (F := Ideal) x0 x1 x2 x3 x4 x5 (ix3 b h q)
      = ((-(∑ k', A.dprob b h q k' * (1 / ((∑ k, A.shifted b h M q k) * ∑ k, A.shifted b h M q k)) * A.shifted b h M q k') : ℝ) : EReal) := by
  rw [EReal.coe_neg, ← coe_sum]
  simp only [EReal.coe_mul, ← inverse H b h q M R, ← dprobs H, ← R.exps]
  unfold val_main_v57 val_main_v54 val_main_v53 val_main_v52 val_main_v51 val_main_v50 val_main_v49
  generalize val_main_v35 (F := Ideal) x0 x1 x2 x3 = e
  generalize val_main_v42 (F := Ideal) x0 x1 x2 x3 = w
  generalize val_main_v46 (F := Ideal) x4 x5 = d
  pointwise [val_main_cst_11, val_main_cst_12]
  rw [Fin.sum_univ_one]

/-- The gradients of the scores. -/
theorem dscores (b : Fin 2) (h : Fin 8) (q k : Fin 4096) :
    val_main_v63 (F := Ideal) x0 x1 x2 x3 x4 x5 (ix4 b h q k) = ((A.dscore b h q k * scale : ℝ) : EReal) := by
  obtain ⟨M, R⟩ := row H b h q
  have hp := (Args.sum_shifted_pos (A := A) (b := b) (h := h) M q).ne'
  have e : val_main_v60 (F := Ideal) x0 x1 x2 x3 x4 x5 (ix4 b h q k) = ((A.dscore b h q k : ℝ) : EReal) := by
    rw [← Args.dscore_eq M, EReal.coe_mul, EReal.coe_add, ← coe_div hp, ← corr H b h q M R, ← dprobs H, ← R.exps, ← R.sum]
    unfold val_main_v60 val_main_v59 val_main_v58 val_main_v56 val_main_v55
    generalize val_main_v35 (F := Ideal) x0 x1 x2 x3 = e
    generalize val_main_v37 (F := Ideal) x0 x1 x2 x3 = l
    generalize val_main_v46 (F := Ideal) x4 x5 = d
    generalize val_main_v57 (F := Ideal) x0 x1 x2 x3 x4 x5 = w
    pointwise
  have e1 : val_main_v63 (F := Ideal) x0 x1 x2 x3 x4 x5 (ix4 b h q k)
      = (if k.val ≤ q.val then val_main_v60 (F := Ideal) x0 x1 x2 x3 x4 x5 (ix4 b h q k) else 0) * (scale : EReal) := by
    unfold val_main_v63 val_main_v61
    generalize val_main_v60 (F := Ideal) x0 x1 x2 x3 x4 x5 = w
    pointwise [val_main_v14_1, val_main_v13, val_main_v12, val_main_v11, val_main_v10, val_main_v9, val_main_v8, val_main_v7,
      val_main_v62, val_main_cst_13, val_main_call1_v0, val_main_call1_cst]
    rw [select_le, word_scale, ite_mul, zero_mul]
  rw [e1, e, EReal.coe_mul]
  by_cases hk : k.val ≤ q.val
  · rw [if_pos hk]
  · rw [if_neg hk, Args.dscore_masked q k hk, EReal.coe_zero]

end
-- ==== Proof.RefResults.lean ====
/-
  The reference's results, for arguments that are real numbers: the attention's gradients, every head's lanes side by side.
-/
module

public import proofs.«01_k».proof.Proof.Spots
public import proofs.«01_k».proof.Proof.RefStages
public import proofs.«01_k».proof.Proof.Arrays

@[expose] public noncomputable section

set_option maxRecDepth 16384

namespace Cert.Proof.Reference

open Cert.ReferenceIdeal Cert.ReferenceIdeal.Gen Cert.ReferenceIdeal.Read
open Idealize ShloMosaic ShloMosaic.StableHlo ShloMosaic.Pointwise
open Cert.Proof.Attention Cert.Proof.Flash

/-- The two parts of every head and zeros, side by side. -/
def joined (x : FVec Ideal S2x4096x8x64 .f32) (y : FVec Ideal S2x4096x8x32 .f32) : FVec Ideal S2x4096x8x128 .f32 :=
  concatenate S2x4096x8x128 3 [⟨S2x4096x8x64, x⟩, ⟨S2x4096x8x32, y⟩, ⟨S2x4096x8x32, val_main_v72 (F := Ideal)⟩] concatenates_S2x4096x8x64_S2x4096x8x32_S2x4096x8x32_S2x4096x8x128_d3

theorem joined_at (x : FVec Ideal S2x4096x8x64 .f32) (y : FVec Ideal S2x4096x8x32 .f32) (b : Fin 2) (q : Fin 4096) (h : Fin 8) (d : Fin 128) :
    joined x y (ix4 b q h d) = if h1 : d.val < 64 then x (ix4 b q h ⟨d.val, h1⟩) else if h2 : d.val - 64 < 32 then y (ix4 b q h ⟨d.val - 64, h2⟩) else 0 := by
  pointwise [joined, val_main_v72, val_main_cst_14]

/-- An array whose heads are laid side by side. -/
def wide (x : FVec Ideal S2x4096x8x128 .f32) : FVec Ideal S2x4096x1024 .bf16 :=
  truncf .bf16 (shapeCast S2x4096x1024 x shapeCasts_S2x4096x8x128_S2x4096x1024) bitsLt_bf16_f32

theorem wide_at (x : FVec Ideal S2x4096x8x128 .f32) (b : Fin 2) (q : Fin 4096) (l : Fin 1024) :
    wide x (ix3 b q l) = x (ix4 b q ⟨l.val / 128, by omega⟩ ⟨l.val % 128, by omega⟩) := by
  pointwise [wide]

theorem wide_spread (x : FVec Ideal S2x4096x8x128 .f32) (f : Fin 2 → Fin 8 → Fin 4096 → Fin 128 → ℝ)
    (e : ∀ b q h d, x (ix4 b q h d) = ((f b h q d : ℝ) : EReal)) : wide x = spread f := by
  funext i
  obtain ⟨b, q, l, rfl⟩ := Spots.cube 2 4096 1024 i
  rw [wide_at, e]
  rfl

section

variable {A : Args} {x0 : FVec Ideal S2x4096x8x64 .f32} {x1 : FVec Ideal S2x4096x8x32 .f32} {x2 : FVec Ideal S2x4096x8x64 .f32}
  {x3 : FVec Ideal S2x4096x32 .f32} {x4 x5 : FVec Ideal S2x4096x8x128 .f32} (H : Hold A x0 x1 x2 x3 x4 x5)

include H

/-- The gradient of the plain part of the queries. -/
theorem queryPlain (b : Fin 2) (q : Fin 4096) (h : Fin 8) (d : Fin 64) :
    val_main_v71 (F := Ideal) x0 x1 x2 x3 x4 x5 (ix4 b q h d) = ((∑ k, A.dscore b h q k * scale * A.kn b k h d : ℝ) : EReal) := by
  rw [← coe_sum]
  simp only [EReal.coe_mul, ← H.qn, ← H.qr, ← H.kn, ← H.kr]
  simp only [← EReal.coe_mul, ← dscores H]
  unfold val_main_v71 val_main_v70
  generalize val_main_v63 (F := Ideal) x0 x1 x2 x3 x4 x5 = w
  pointwise

/-- The gradient of the rotated part of the queries. -/
theorem queryRotated (b : Fin 2) (q : Fin 4096) (h : Fin 8) (d : Fin 32) :
    val_main_v67 (F := Ideal) x0 x1 x2 x3 x4 x5 (ix4 b q h d) = ((∑ k, A.dscore b h q k * scale * A.kr b k d : ℝ) : EReal) := by
  rw [← coe_sum]
  simp only [EReal.coe_mul, ← H.qn, ← H.qr, ← H.kn, ← H.kr]
  simp only [← EReal.coe_mul, ← dscores H]
  unfold val_main_v67 val_main_v66
  generalize val_main_v63 (F := Ideal) x0 x1 x2 x3 x4 x5 = w
  pointwise [val_main_v1, val_main_v0]

/-- The gradient of the plain part of the keys. -/
theorem keyPlain (b : Fin 2) (q : Fin 4096) (h : Fin 8) (d : Fin 64) :
    val_main_v69 (F := Ideal) x0 x1 x2 x3 x4 x5 (ix4 b q h d) = ((∑ k, A.dscore b h k q * scale * A.qn b k h d : ℝ) : EReal) := by
  rw [← coe_sum]
  simp only [EReal.coe_mul, ← H.qn, ← H.qr, ← H.kn, ← H.kr]
  simp only [← EReal.coe_mul, ← dscores H]
  unfold val_main_v69 val_main_v68
  generalize val_main_v63 (F := Ideal) x0 x1 x2 x3 x4 x5 = w
  pointwise

/-- The gradient of the rotated part of the keys. -/
theorem keyRotated (b : Fin 2) (q : Fin 4096) (h : Fin 8) (d : Fin 32) :
    val_main_v65 (F := Ideal) x0 x1 x2 x3 x4 x5 (ix4 b q h d) = ((∑ k, A.dscore b h k q * scale * A.qr b k h d : ℝ) : EReal) := by
  rw [← coe_sum]
  simp only [EReal.coe_mul, ← H.qn, ← H.qr, ← H.kn, ← H.kr]
  simp only [← EReal.coe_mul, ← dscores H]
  unfold val_main_v65 val_main_v64
  generalize val_main_v63 (F := Ideal) x0 x1 x2 x3 x4 x5 = w
  pointwise

/-- The gradient of the queries. -/
theorem queries (b : Fin 2) (q : Fin 4096) (h : Fin 8) (d : Fin 128) :
    joined (val_main_v71 (F := Ideal) x0 x1 x2 x3 x4 x5) (val_main_v67 (F := Ideal) x0 x1 x2 x3 x4 x5) (ix4 b q h d) = ((A.dq b h q d : ℝ) : EReal) := by
  rw [joined_at]
  unfold Args.dq Args.key
  by_cases h1 : d.val < 64
  · simp only [dif_pos h1]
    exact queryPlain H b q h _
  · simp only [dif_neg h1]
    by_cases h2 : d.val < 96
    · have h3 : d.val - 64 < 32 := by omega
      simp only [dif_pos h2, dif_pos h3]
      exact queryRotated H b q h _
    · have h3 : ¬ d.val - 64 < 32 := by omega
      simp only [dif_neg h2, dif_neg h3, mul_zero, Finset.sum_const_zero, EReal.coe_zero]

/-- The gradient of the keys. -/
theorem keys (b : Fin 2) (q : Fin 4096) (h : Fin 8) (d : Fin 128) :
    joined (val_main_v69 (F := Ideal) x0 x1 x2 x3 x4 x5) (val_main_v65 (F := Ideal) x0 x1 x2 x3 x4 x5) (ix4 b q h d) = ((A.dk b h q d : ℝ) : EReal) := by
  rw [joined_at]
  unfold Args.dk Args.query
  by_cases h1 : d.val < 64
  · simp only [dif_pos h1]
    exact keyPlain H b q h _
  · simp only [dif_neg h1]
    by_cases h2 : d.val < 96
    · have h3 : d.val - 64 < 32 := by omega
      simp only [dif_pos h2, dif_pos h3]
      exact keyRotated H b q h _
    · have h3 : ¬ d.val - 64 < 32 := by omega
      simp only [dif_neg h2, dif_neg h3, mul_zero, Finset.sum_const_zero, EReal.coe_zero]

/-- The gradient of the values. -/
theorem values (b : Fin 2) (q : Fin 4096) (h : Fin 8) (d : Fin 128) :
    val_main_v48 (F := Ideal) x0 x1 x2 x3 x5 (ix4 b q h d) = ((A.dv b h q d : ℝ) : EReal) := by
  unfold Args.dv
  rw [← coe_sum]
  simp only [mul_comm (A.prob _ _ _ _), EReal.coe_mul, ← H.o]
  simp only [← probs H]
  unfold val_main_v48 val_main_v47 val_main_v45
  generalize val_main_v39 (F := Ideal) x0 x1 x2 x3 = w
  pointwise

theorem result0 : val_main_v78 (F := Ideal) x0 x1 x2 x3 x4 x5 = spread A.dq := wide_spread _ _ (queries H)
theorem result1 : val_main_v79 (F := Ideal) x0 x1 x2 x3 x4 x5 = spread A.dk := wide_spread _ _ (keys H)
theorem result2 : val_main_v80 (F := Ideal) x0 x1 x2 x3 x5 = spread A.dv := wide_spread _ _ (values H)

end
-- ==== Proof.Value.lean ====
/-
  The kernel's three result arrays and the reference's are the same, for arguments that are real numbers.
-/
module

public import proofs.«01_k».proof.Defs
public import proofs.«01_k».proof.Proof.Outputs
public import proofs.«01_k».proof.Proof.RefResults
public import proofs.«01_k».proof.Proof.Finite

@[expose] public noncomputable section

set_option maxRecDepth 16384

namespace Cert.Proof.Value

open Idealize ShloMosaic ShloMosaic.TcCoe SL.Sem
open Cert.Proof.Attention Cert.Proof.Flash

section kernel

open Cert.KernelIdeal Cert.KernelIdeal.Gen Cert.Proof.KernelIdeal
local notation "Tc" => Thread nD τ

variable (m : (ℓ : Loc nD τ sig) → Buf (Elt Ideal) ℓ) (ρ : Dev nD → PrngReg)

/-- The kernel's run: each result array is what the launch leaves of it. -/
theorem arrays_run : θ_run defs (onTc (τ := τ) (main (F := Ideal))) ⟨m, fun _ => 0, ρ⟩ (fun r => ∀ c : Dev nD,
        r.2.mem ((c : Tc).loc main_v45_0) = (dats m 0 c).arrAt 6 cfg0.N
      ∧ r.2.mem ((c : Tc).loc main_v45_1) = (dats m 0 c).arrAt 7 cfg0.N
      ∧ r.2.mem ((c : Tc).loc main_v45_2) = (dats m 0 c).arrAt 8 cfg0.N) :=
  (θ_run defs _ _).mono (fun r h c => ⟨h.out_eq c 6, h.out_eq c 7, h.out_eq c 8⟩) (run_main m ρ)

/-- The kernel's run, its results named. -/
theorem kernel_run (A : Dev nD → Args) (H : ∀ c, Hold (A c) (a0 m c) (a1 m c) (a2 m c) (a3 m c) (a4 m c) (a5 m c)) :
    θ_run defs (onTc (τ := τ) (main (F := Ideal))) ⟨m, fun _ => 0, ρ⟩ (fun r => ∀ c : Dev nD,
        r.2.mem ((c : Tc).loc main_v45_0) = spread (A c).dq
      ∧ r.2.mem ((c : Tc).loc main_v45_1) = spread (A c).dk
      ∧ r.2.mem ((c : Tc).loc main_v45_2) = spread (A c).dv
      ∧ r.2.mem ((c : Tc).loc main_arg0) = m ((c : Tc).loc main_arg0)
      ∧ r.2.mem ((c : Tc).loc main_arg1) = m ((c : Tc).loc main_arg1)
      ∧ r.2.mem ((c : Tc).loc main_arg2) = m ((c : Tc).loc main_arg2)
      ∧ r.2.mem ((c : Tc).loc main_arg3) = m ((c : Tc).loc main_arg3)
      ∧ r.2.mem ((c : Tc).loc main_arg4) = m ((c : Tc).loc main_arg4)
      ∧ r.2.mem ((c : Tc).loc main_arg5) = m ((c : Tc).loc main_arg5)) :=
  (θ_run defs _ _).mono (fun r h c => ⟨(h.1 c).1.trans (array6 m c (H c)), (h.1 c).2.1.trans (array7 m c (H c)), (h.1 c).2.2.trans (array8 m c (H c)), (h.2 c)⟩)
    (θ_run_and (arrays_run m ρ) (frame_of m ρ (dats m) (A_eq m) (run_main m ρ)))

end kernel

section reference

open Cert.ReferenceIdeal Cert.ReferenceIdeal.Gen Cert.ReferenceIdeal.Read Cert.Proof.Reference
local notation "Tc" => Thread nD τ

variable (m : (ℓ : Loc nD τ sig) → Buf (Elt Ideal) ℓ) (ρ : Dev nD → PrngReg)

/-- The reference's run, its results named. -/
theorem reference_run (A : Dev nD → Args)
    (H : ∀ c : Dev nD, Hold (A c) (m ((c : Tc).loc main_arg0)) (m ((c : Tc).loc main_arg1)) (m ((c : Tc).loc main_arg2))
      (m ((c : Tc).loc main_arg3)) (m ((c : Tc).loc main_arg4)) (m ((c : Tc).loc main_arg5))) :
    θ_run defs (onTc (τ := τ) (main (F := Ideal))) ⟨m, fun _ => 0, ρ⟩ (fun r => ∀ c : Dev nD,
        r.2.mem ((c : Tc).loc main_v78) = spread (A c).dq
      ∧ r.2.mem ((c : Tc).loc main_v79) = spread (A c).dk
      ∧ r.2.mem ((c : Tc).loc main_v80) = spread (A c).dv
      ∧ r.2.mem ((c : Tc).loc main_arg0) = m ((c : Tc).loc main_arg0)
      ∧ r.2.mem ((c : Tc).loc main_arg1) = m ((c : Tc).loc main_arg1)
      ∧ r.2.mem ((c : Tc).loc main_arg2) = m ((c : Tc).loc main_arg2)
      ∧ r.2.mem ((c : Tc).loc main_arg3) = m ((c : Tc).loc main_arg3)
      ∧ r.2.mem ((c : Tc).loc main_arg4) = m ((c : Tc).loc main_arg4)
      ∧ r.2.mem ((c : Tc).loc main_arg5) = m ((c : Tc).loc main_arg5)) :=
  (θ_run defs _ _).mono (fun r h c => ⟨(h c).1.trans ((val_main_v78_eq m c).trans (result0 (H c))),
      (h c).2.1.trans ((val_main_v79_eq m c).trans (result1 (H c))),
      (h c).2.2.1.trans ((val_main_v80_eq m c).trans (result2 (H c))), (h c).2.2.2⟩)
    (Cert.ReferenceIdeal.Value.run (F := Ideal) m ρ)

end reference

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp he
  choose A H using fun c => Cert.Proof.Finite.held _ _ _ _ _ _ (hp c)
  refine ⟨fun c => spread (A c).dq, fun c => spread (A c).dk, fun c => spread (A c).dv, kernel_run m g A H, ?_⟩
  refine reference_run m' g' A fun c => ?_
  obtain ⟨e0, e1, e2, e3, e4, e5⟩ := he c
  rw [e0, e1, e2, e3, e4, e5]
  exact H c
-- ==== Proof.lean ====
/-
  The calls of the training step, each with its own statement: its program runs to its end leaving its arguments alone, in
  the machine's arithmetic and in exact arithmetic, and in exact arithmetic its results are the reference's.
-/
module

public import proofs.«01_k».proof.Proof.Gen.Kernel2.Frame
public import proofs.«01_k».proof.Proof.Weight
public import proofs.«01_k».proof.Proof.Gen.Kernel3.Frame
public import proofs.«01_k».proof.Proof.Gen.Kernel4.Frame
public import proofs.«01_k».proof.Proof.Gen.Kernel5.Frame
public import proofs.«01_k».proof.Proof.First
public import proofs.«01_k».proof.Proof.Gen.Kernel6.Frame
public import proofs.«01_k».proof.Proof.Mix
public import proofs.«01_k».proof.Proof.Gen.Kernel7.Frame
public import proofs.«01_k».proof.Proof.Down
public import proofs.«01_k».proof.Proof.Gen.Kernel8.Frame
public import proofs.«01_k».proof.Proof.Proj
public import proofs.«01_k».proof.Proof.Gen.Kernel9.Frame
public import proofs.«01_k».proof.Proof.In
public import proofs.«01_k».proof.Proof.Gen.Kernel10.Frame
public import proofs.«01_k».proof.Proof.Out
public import proofs.«01_k».proof.Proof.Gen.Kernel11.Frame
public import proofs.«01_k».proof.Proof.Gen.Kernel12.Frame
public import proofs.«01_k».proof.Proof.Back
public import proofs.«01_k».proof.Proof.Gen.Kernel13.Frame
public import proofs.«01_k».proof.Proof.Last
public import proofs.«01_k».proof.Proof.WordLaunch
public import proofs.«01_k».proof.Proof.Value

@[expose] public section

noncomputable section

namespace Cert.Proof

open Idealize.ShloMosaic Idealize.SL.Sem

theorem frame_kernel : Cert.quiescent_Kernel (hKernel := Cert.Kernel.Gen.facts) := fun m ρ _ =>
  Cert.Proof.Kernel.frame_run m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem frame_reference4 : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

theorem frame_reference5 : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

theorem frame_reference6 : Cert.quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

theorem frame_reference7 : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_reference8 : Cert.quiescent_Reference8Ideal (hReference8Ideal := Cert.Reference8Ideal.Gen.facts) := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_reference11 : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem frame_reference12 : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem frame_reference13 : Cert.quiescent_Reference13Ideal (hReference13Ideal := Cert.Reference13Ideal.Gen.facts) := fun m ρ _ =>
  (θ_run Cert.Reference13Ideal.defs _ _).mono (fun r h => ⟨fun c => (h c).2.2.2.2.2, sem_eq_zero_of_no_sems (by decide) r.2⟩)
    (Cert.Reference13Ideal.Value.run (F := Ideal) m ρ)

theorem preserves : Cert.preserves_Kernel_KernelIdeal :=
  ⟨IdealRules.named_const.statement Cert.KernelIdeal.κ "att_scale_log2e" .f32 0x3E16C740#32 (((3424635 / 33554432) * (Real.log 2)⁻¹ : ℝ) : EReal) rfl,
    IdealRules.named_const.statement Cert.KernelIdeal.κ "log2e" .f32 0x3FB8AA3B#32 (((Real.log 2)⁻¹ : ℝ) : EReal) rfl⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite3.Gen.facts, Cert.Pre_finite4.Gen.facts, Cert.Pre_finite5.Gen.facts, Cert.Pre_finite6.Gen.facts, Cert.Pre_finite12.Gen.facts, Cert.Pre_finite13.Gen.facts,
  frame_kernel, fun m ρ _ => Cert.Proof.KernelIdeal.frame_run m ρ, fun m ρ _ => Cert.Proof.KernelIdeal.frame_run m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ, frame_reference4, fun m ρ _ => frame_reference4 m ρ trivial,
  fun m ρ _ => Cert.Kernel5.Gen.frame m ρ, fun m ρ _ => Cert.Kernel5Ideal.Gen.frame m ρ, fun m ρ _ => Cert.Kernel5Ideal.Gen.frame m ρ, frame_reference5, fun m ρ _ => frame_reference5 m ρ trivial,
  fun m ρ _ => Cert.Kernel6.Gen.frame m ρ, fun m ρ _ => Cert.Kernel6Ideal.Gen.frame m ρ, fun m ρ _ => Cert.Kernel6Ideal.Gen.frame m ρ, frame_reference6, fun m ρ _ => frame_reference6 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, fun m ρ _ => Cert.Kernel12Ideal.Gen.frame m ρ, frame_reference12, fun m ρ _ => frame_reference12 m ρ trivial,
  fun m ρ _ => Cert.Kernel13.Gen.frame m ρ, fun m ρ _ => Cert.Kernel13Ideal.Gen.frame m ρ, fun m ρ _ => Cert.Kernel13Ideal.Gen.frame m ρ, frame_reference13, fun m ρ _ => frame_reference13 m ρ trivial,
  preserves, Cert.Proof.Value.algebraic,
  trivial, Cert.Proof.Weight.algebraic,
  trivial, Cert.Proof.Gate.algebraic,
  trivial, Cert.Proof.Norm.algebraic,
  trivial, Cert.Proof.First.algebraic,
  trivial, Cert.Proof.Mix.algebraic,
  trivial, Cert.Proof.Down.algebraic,
  trivial, Cert.Proof.Proj.algebraic,
  trivial, Cert.Proof.In.algebraic,
  trivial, Cert.Proof.Out.algebraic,
  trivial, Cert.Proof.Join.algebraic,
  trivial, Cert.Proof.Back.algebraic,
  trivial, Cert.Proof.Last.algebraic⟩

end Cert.Proof

end
